-- ==== Defs.lean ====
def Pre_Sb (m : (ℓ : Loc Cert.Sb.nD Cert.Sb.τ Cert.Sb.sig) → Buf (Elt Bits) ℓ) : Prop :=
  True

def Pre_SbIdeal (m : (ℓ : Loc Cert.SbIdeal.nD Cert.SbIdeal.τ Cert.SbIdeal.sig) → Buf (Elt Ideal) ℓ) : Prop :=
  True

def Pre_SbIdeal_sb_finite [hPre_sb_finite : Cert.Pre_sb_finite.Facts] (m : (ℓ : Loc Cert.SbIdeal.nD Cert.SbIdeal.τ Cert.SbIdeal.sig) → Buf (Elt Ideal) ℓ) : Prop :=
  ∀ c : Dev Cert.SbIdeal.nD,
    (Cert.Pre_sb_finite.fn (F := Ideal) (m ((c.tc : Thread Cert.SbIdeal.nD Cert.SbIdeal.τ).loc Cert.SbIdeal.main_arg0)) (m ((c.tc : Thread Cert.SbIdeal.nD Cert.SbIdeal.τ).loc Cert.SbIdeal.main_arg1)) (m ((c.tc : Thread Cert.SbIdeal.nD Cert.SbIdeal.τ).loc Cert.SbIdeal.main_arg2)) (m ((c.tc : Thread Cert.SbIdeal.nD Cert.SbIdeal.τ).loc Cert.SbIdeal.main_arg3)) (m ((c.tc : Thread Cert.SbIdeal.nD Cert.SbIdeal.τ).loc Cert.SbIdeal.main_arg4))) = (fun _ => 1#1)

def Pre_SbRefIdeal (m : (ℓ : Loc Cert.SbRefIdeal.nD Cert.SbRefIdeal.τ Cert.SbRefIdeal.sig) → Buf (Elt Ideal) ℓ) : Prop :=
  True

def Pre_SbRefIdeal_sb_finite [hPre_sb_finite : Cert.Pre_sb_finite.Facts] (m : (ℓ : Loc Cert.SbRefIdeal.nD Cert.SbRefIdeal.τ Cert.SbRefIdeal.sig) → Buf (Elt Ideal) ℓ) : Prop :=
  ∀ c : Dev Cert.SbRefIdeal.nD,
    (Cert.Pre_sb_finite.fn (F := Ideal) (m ((c.tc : Thread Cert.SbRefIdeal.nD Cert.SbRefIdeal.τ).loc Cert.SbRefIdeal.main_arg0)) (m ((c.tc : Thread Cert.SbRefIdeal.nD Cert.SbRefIdeal.τ).loc Cert.SbRefIdeal.main_arg1)) (m ((c.tc : Thread Cert.SbRefIdeal.nD Cert.SbRefIdeal.τ).loc Cert.SbRefIdeal.main_arg2)) (m ((c.tc : Thread Cert.SbRefIdeal.nD Cert.SbRefIdeal.τ).loc Cert.SbRefIdeal.main_arg3)) (m ((c.tc : Thread Cert.SbRefIdeal.nD Cert.SbRefIdeal.τ).loc Cert.SbRefIdeal.main_arg4))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_loss_finite [hPre_loss_finite : Cert.Pre_loss_finite.Facts] (m : (ℓ : Loc Cert.LossIdeal.nD Cert.LossIdeal.τ Cert.LossIdeal.sig) → Buf (Elt Ideal) ℓ) : Prop :=
  ∀ c : Dev Cert.LossIdeal.nD,
    (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_finite [hPre_loss_finite : Cert.Pre_loss_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))) = (fun _ => 1#1)

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInIdeal_mixin_finite [hPre_mixin_finite : Cert.Pre_mixin_finite.Facts] (m : (ℓ : Loc Cert.MixInIdeal.nD Cert.MixInIdeal.τ Cert.MixInIdeal.sig) → Buf (Elt Ideal) ℓ) : Prop :=
  ∀ c : Dev Cert.MixInIdeal.nD,
    (Cert.Pre_mixin_finite.fn (F := Ideal) (m ((c.tc : Thread Cert.MixInIdeal.nD Cert.MixInIdeal.τ).loc Cert.MixInIdeal.main_arg0)) (m ((c.tc : Thread Cert.MixInIdeal.nD Cert.MixInIdeal.τ).loc Cert.MixInIdeal.main_arg1)) (m ((c.tc : Thread Cert.MixInIdeal.nD Cert.MixInIdeal.τ).loc Cert.MixInIdeal.main_arg2)) (m ((c.tc : Thread Cert.MixInIdeal.nD Cert.MixInIdeal.τ).loc Cert.MixInIdeal.main_arg3)) (m ((c.tc : Thread Cert.MixInIdeal.nD Cert.MixInIdeal.τ).loc Cert.MixInIdeal.main_arg4)) (m ((c.tc : Thread Cert.MixInIdeal.nD Cert.MixInIdeal.τ).loc Cert.MixInIdeal.main_arg5)) (m ((c.tc : Thread Cert.MixInIdeal.nD Cert.MixInIdeal.τ).loc Cert.MixInIdeal.main_arg6)) (m ((c.tc : Thread Cert.MixInIdeal.nD Cert.MixInIdeal.τ).loc Cert.MixInIdeal.main_arg7)) (m ((c.tc : Thread Cert.MixInIdeal.nD Cert.MixInIdeal.τ).loc Cert.MixInIdeal.main_arg8)) (m ((c.tc : Thread Cert.MixInIdeal.nD Cert.MixInIdeal.τ).loc Cert.MixInIdeal.main_arg9)) (m ((c.tc : Thread Cert.MixInIdeal.nD Cert.MixInIdeal.τ).loc Cert.MixInIdeal.main_arg10)) (m ((c.tc : Thread Cert.MixInIdeal.nD Cert.MixInIdeal.τ).loc Cert.MixInIdeal.main_arg11))) = (fun _ => 1#1)

def Pre_MixInRefIdeal (m : (ℓ : Loc Cert.MixInRefIdeal.nD Cert.MixInRefIdeal.τ Cert.MixInRefIdeal.sig) → Buf (Elt Ideal) ℓ) : Prop :=
  True

def Pre_MixInRefIdeal_mixin_finite [hPre_mixin_finite : Cert.Pre_mixin_finite.Facts] (m : (ℓ : Loc Cert.MixInRefIdeal.nD Cert.MixInRefIdeal.τ Cert.MixInRefIdeal.sig) → Buf (Elt Ideal) ℓ) : Prop :=
  ∀ c : Dev Cert.MixInRefIdeal.nD,
    (Cert.Pre_mixin_finite.fn (F := Ideal) (m ((c.tc : Thread Cert.MixInRefIdeal.nD Cert.MixInRefIdeal.τ).loc Cert.MixInRefIdeal.main_arg0)) (m ((c.tc : Thread Cert.MixInRefIdeal.nD Cert.MixInRefIdeal.τ).loc Cert.MixInRefIdeal.main_arg1)) (m ((c.tc : Thread Cert.MixInRefIdeal.nD Cert.MixInRefIdeal.τ).loc Cert.MixInRefIdeal.main_arg2)) (m ((c.tc : Thread Cert.MixInRefIdeal.nD Cert.MixInRefIdeal.τ).loc Cert.MixInRefIdeal.main_arg3)) (m ((c.tc : Thread Cert.MixInRefIdeal.nD Cert.MixInRefIdeal.τ).loc Cert.MixInRefIdeal.main_arg4)) (m ((c.tc : Thread Cert.MixInRefIdeal.nD Cert.MixInRefIdeal.τ).loc Cert.MixInRefIdeal.main_arg5)) (m ((c.tc : Thread Cert.MixInRefIdeal.nD Cert.MixInRefIdeal.τ).loc Cert.MixInRefIdeal.main_arg6)) (m ((c.tc : Thread Cert.MixInRefIdeal.nD Cert.MixInRefIdeal.τ).loc Cert.MixInRefIdeal.main_arg7)) (m ((c.tc : Thread Cert.MixInRefIdeal.nD Cert.MixInRefIdeal.τ).loc Cert.MixInRefIdeal.main_arg8)) (m ((c.tc : Thread Cert.MixInRefIdeal.nD Cert.MixInRefIdeal.τ).loc Cert.MixInRefIdeal.main_arg9)) (m ((c.tc : Thread Cert.MixInRefIdeal.nD Cert.MixInRefIdeal.τ).loc Cert.MixInRefIdeal.main_arg10)) (m ((c.tc : Thread Cert.MixInRefIdeal.nD Cert.MixInRefIdeal.τ).loc Cert.MixInRefIdeal.main_arg11))) = (fun _ => 1#1)

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_SbFwd (m : (ℓ : Loc Cert.SbFwd.nD Cert.SbFwd.τ Cert.SbFwd.sig) → Buf (Elt Bits) ℓ) : Prop :=
  True

def Pre_SbFwdIdeal (m : (ℓ : Loc Cert.SbFwdIdeal.nD Cert.SbFwdIdeal.τ Cert.SbFwdIdeal.sig) → Buf (Elt Ideal) ℓ) : Prop :=
  True

def Pre_SbFwdIdeal_sbf_finite [hPre_sbf_finite : Cert.Pre_sbf_finite.Facts] (m : (ℓ : Loc Cert.SbFwdIdeal.nD Cert.SbFwdIdeal.τ Cert.SbFwdIdeal.sig) → Buf (Elt Ideal) ℓ) : Prop :=
  ∀ c : Dev Cert.SbFwdIdeal.nD,
    (Cert.Pre_sbf_finite.fn (F := Ideal) (m ((c.tc : Thread Cert.SbFwdIdeal.nD Cert.SbFwdIdeal.τ).loc Cert.SbFwdIdeal.main_arg0)) (m ((c.tc : Thread Cert.SbFwdIdeal.nD Cert.SbFwdIdeal.τ).loc Cert.SbFwdIdeal.main_arg1)) (m ((c.tc : Thread Cert.SbFwdIdeal.nD Cert.SbFwdIdeal.τ).loc Cert.SbFwdIdeal.main_arg2)) (m ((c.tc : Thread Cert.SbFwdIdeal.nD Cert.SbFwdIdeal.τ).loc Cert.SbFwdIdeal.main_arg3))) = (fun _ => 1#1)

def Pre_SbFwdRefIdeal (m : (ℓ : Loc Cert.SbFwdRefIdeal.nD Cert.SbFwdRefIdeal.τ Cert.SbFwdRefIdeal.sig) → Buf (Elt Ideal) ℓ) : Prop :=
  True

def Pre_SbFwdRefIdeal_sbf_finite [hPre_sbf_finite : Cert.Pre_sbf_finite.Facts] (m : (ℓ : Loc Cert.SbFwdRefIdeal.nD Cert.SbFwdRefIdeal.τ Cert.SbFwdRefIdeal.sig) → Buf (Elt Ideal) ℓ) : Prop :=
  ∀ c : Dev Cert.SbFwdRefIdeal.nD,
    (Cert.Pre_sbf_finite.fn (F := Ideal) (m ((c.tc : Thread Cert.SbFwdRefIdeal.nD Cert.SbFwdRefIdeal.τ).loc Cert.SbFwdRefIdeal.main_arg0)) (m ((c.tc : Thread Cert.SbFwdRefIdeal.nD Cert.SbFwdRefIdeal.τ).loc Cert.SbFwdRefIdeal.main_arg1)) (m ((c.tc : Thread Cert.SbFwdRefIdeal.nD Cert.SbFwdRefIdeal.τ).loc Cert.SbFwdRefIdeal.main_arg2)) (m ((c.tc : Thread Cert.SbFwdRefIdeal.nD Cert.SbFwdRefIdeal.τ).loc Cert.SbFwdRefIdeal.main_arg3))) = (fun _ => 1#1)

def Pre_Pre (m : (ℓ : Loc Cert.Pre.nD Cert.Pre.τ Cert.Pre.sig) → Buf (Elt Bits) ℓ) : Prop :=
  True

def Pre_PreIdeal (m : (ℓ : Loc Cert.PreIdeal.nD Cert.PreIdeal.τ Cert.PreIdeal.sig) → Buf (Elt Ideal) ℓ) : Prop :=
  True

def Pre_PreIdeal_pre_finite [hPre_pre_finite : Cert.Pre_pre_finite.Facts] (m : (ℓ : Loc Cert.PreIdeal.nD Cert.PreIdeal.τ Cert.PreIdeal.sig) → Buf (Elt Ideal) ℓ) : Prop :=
  ∀ c : Dev Cert.PreIdeal.nD,
    (Cert.Pre_pre_finite.fn (F := Ideal) (m ((c.tc : Thread Cert.PreIdeal.nD Cert.PreIdeal.τ).loc Cert.PreIdeal.main_arg0)) (m ((c.tc : Thread Cert.PreIdeal.nD Cert.PreIdeal.τ).loc Cert.PreIdeal.main_arg1)) (m ((c.tc : Thread Cert.PreIdeal.nD Cert.PreIdeal.τ).loc Cert.PreIdeal.main_arg2)) (m ((c.tc : Thread Cert.PreIdeal.nD Cert.PreIdeal.τ).loc Cert.PreIdeal.main_arg3)) (m ((c.tc : Thread Cert.PreIdeal.nD Cert.PreIdeal.τ).loc Cert.PreIdeal.main_arg4)) (m ((c.tc : Thread Cert.PreIdeal.nD Cert.PreIdeal.τ).loc Cert.PreIdeal.main_arg5)) (m ((c.tc : Thread Cert.PreIdeal.nD Cert.PreIdeal.τ).loc Cert.PreIdeal.main_arg6)) (m ((c.tc : Thread Cert.PreIdeal.nD Cert.PreIdeal.τ).loc Cert.PreIdeal.main_arg7)) (m ((c.tc : Thread Cert.PreIdeal.nD Cert.PreIdeal.τ).loc Cert.PreIdeal.main_arg8)) (m ((c.tc : Thread Cert.PreIdeal.nD Cert.PreIdeal.τ).loc Cert.PreIdeal.main_arg9)) (m ((c.tc : Thread Cert.PreIdeal.nD Cert.PreIdeal.τ).loc Cert.PreIdeal.main_arg10))) = (fun _ => 1#1)

def Pre_PreRefIdeal (m : (ℓ : Loc Cert.PreRefIdeal.nD Cert.PreRefIdeal.τ Cert.PreRefIdeal.sig) → Buf (Elt Ideal) ℓ) : Prop :=
  True

def Pre_PreRefIdeal_pre_finite [hPre_pre_finite : Cert.Pre_pre_finite.Facts] (m : (ℓ : Loc Cert.PreRefIdeal.nD Cert.PreRefIdeal.τ Cert.PreRefIdeal.sig) → Buf (Elt Ideal) ℓ) : Prop :=
  ∀ c : Dev Cert.PreRefIdeal.nD,
    (Cert.Pre_pre_finite.fn (F := Ideal) (m ((c.tc : Thread Cert.PreRefIdeal.nD Cert.PreRefIdeal.τ).loc Cert.PreRefIdeal.main_arg0)) (m ((c.tc : Thread Cert.PreRefIdeal.nD Cert.PreRefIdeal.τ).loc Cert.PreRefIdeal.main_arg1)) (m ((c.tc : Thread Cert.PreRefIdeal.nD Cert.PreRefIdeal.τ).loc Cert.PreRefIdeal.main_arg2)) (m ((c.tc : Thread Cert.PreRefIdeal.nD Cert.PreRefIdeal.τ).loc Cert.PreRefIdeal.main_arg3)) (m ((c.tc : Thread Cert.PreRefIdeal.nD Cert.PreRefIdeal.τ).loc Cert.PreRefIdeal.main_arg4)) (m ((c.tc : Thread Cert.PreRefIdeal.nD Cert.PreRefIdeal.τ).loc Cert.PreRefIdeal.main_arg5)) (m ((c.tc : Thread Cert.PreRefIdeal.nD Cert.PreRefIdeal.τ).loc Cert.PreRefIdeal.main_arg6)) (m ((c.tc : Thread Cert.PreRefIdeal.nD Cert.PreRefIdeal.τ).loc Cert.PreRefIdeal.main_arg7)) (m ((c.tc : Thread Cert.PreRefIdeal.nD Cert.PreRefIdeal.τ).loc Cert.PreRefIdeal.main_arg8)) (m ((c.tc : Thread Cert.PreRefIdeal.nD Cert.PreRefIdeal.τ).loc Cert.PreRefIdeal.main_arg9)) (m ((c.tc : Thread Cert.PreRefIdeal.nD Cert.PreRefIdeal.τ).loc Cert.PreRefIdeal.main_arg10))) = (fun _ => 1#1)

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixFwdRefIdeal (m : (ℓ : Loc Cert.MixFwdRefIdeal.nD Cert.MixFwdRefIdeal.τ Cert.MixFwdRefIdeal.sig) → Buf (Elt Ideal) ℓ) : Prop :=
  True

def Pre_MixOutBwd (m : (ℓ : Loc Cert.MixOutBwd.nD Cert.MixOutBwd.τ Cert.MixOutBwd.sig) → Buf (Elt Bits) ℓ) : Prop :=
  True

def Pre_MixOutBwdIdeal (m : (ℓ : Loc Cert.MixOutBwdIdeal.nD Cert.MixOutBwdIdeal.τ Cert.MixOutBwdIdeal.sig) → Buf (Elt Ideal) ℓ) : Prop :=
  True

def Pre_MixOutBwdRefIdeal (m : (ℓ : Loc Cert.MixOutBwdRefIdeal.nD Cert.MixOutBwdRefIdeal.τ Cert.MixOutBwdRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def quiescent_Sb [hSb : Cert.Sb.Facts] : Prop :=
  ∀ (m : (ℓ : Loc Cert.Sb.nD Cert.Sb.τ Cert.Sb.sig) → Buf (Elt Bits) ℓ) (g : Dev Cert.Sb.nD → PrngReg), Pre_Sb m →
    θ_run (Cert.Sb.defs (F := Bits)) (onTc (τ := Cert.Sb.τ) (Cert.Sb.main (F := Bits))) ⟨m, fun _ => 0, g⟩ (fun r => (∀ c : Dev Cert.Sb.nD,
      r.2.mem ((c.tc : Thread Cert.Sb.nD Cert.Sb.τ).loc Cert.Sb.main_arg0) = m ((c.tc : Thread Cert.Sb.nD Cert.Sb.τ).loc Cert.Sb.main_arg0)
      ∧ r.2.mem ((c.tc : Thread Cert.Sb.nD Cert.Sb.τ).loc Cert.Sb.main_arg1) = m ((c.tc : Thread Cert.Sb.nD Cert.Sb.τ).loc Cert.Sb.main_arg1)
      ∧ r.2.mem ((c.tc : Thread Cert.Sb.nD Cert.Sb.τ).loc Cert.Sb.main_arg2) = m ((c.tc : Thread Cert.Sb.nD Cert.Sb.τ).loc Cert.Sb.main_arg2)
      ∧ r.2.mem ((c.tc : Thread Cert.Sb.nD Cert.Sb.τ).loc Cert.Sb.main_arg3) = m ((c.tc : Thread Cert.Sb.nD Cert.Sb.τ).loc Cert.Sb.main_arg3)
      ∧ r.2.mem ((c.tc : Thread Cert.Sb.nD Cert.Sb.τ).loc Cert.Sb.main_arg4) = m ((c.tc : Thread Cert.Sb.nD Cert.Sb.τ).loc Cert.Sb.main_arg4))
      ∧ r.2.sem = fun _ => 0)

def quiescent_SbIdeal [hSbIdeal : Cert.SbIdeal.Facts] : Prop :=
  ∀ (m : (ℓ : Loc Cert.SbIdeal.nD Cert.SbIdeal.τ Cert.SbIdeal.sig) → Buf (Elt Ideal) ℓ) (g : Dev Cert.SbIdeal.nD → PrngReg), Pre_SbIdeal m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0)
      ∧ r.2.mem ((c.tc : Thread Cert.SbIdeal.nD Cert.SbIdeal.τ).loc Cert.SbIdeal.main_arg1) = m ((c.tc : Thread Cert.SbIdeal.nD Cert.SbIdeal.τ).loc Cert.SbIdeal.main_arg1)
      ∧ r.2.mem ((c.tc : Thread Cert.SbIdeal.nD Cert.SbIdeal.τ).loc Cert.SbIdeal.main_arg2) = m ((c.tc : Thread Cert.SbIdeal.nD Cert.SbIdeal.τ).loc Cert.SbIdeal.main_arg2)
      ∧ r.2.mem ((c.tc : Thread Cert.SbIdeal.nD Cert.SbIdeal.τ).loc Cert.SbIdeal.main_arg3) = m ((c.tc : Thread Cert.SbIdeal.nD Cert.SbIdeal.τ).loc Cert.SbIdeal.main_arg3)
      ∧ r.2.mem ((c.tc : Thread Cert.SbIdeal.nD Cert.SbIdeal.τ).loc Cert.SbIdeal.main_arg4) = m ((c.tc : Thread Cert.SbIdeal.nD Cert.SbIdeal.τ).loc Cert.SbIdeal.main_arg4))
      ∧ r.2.sem = fun _ => 0)

def quiescent_SbIdeal_pre_sb_finite [hSbIdeal : Cert.SbIdeal.Facts] [hPre_sb_finite : Cert.Pre_sb_finite.Facts] : Prop :=
  ∀ (m : (ℓ : Loc Cert.SbIdeal.nD Cert.SbIdeal.τ Cert.SbIdeal.sig) → Buf (Elt Ideal) ℓ) (g : Dev Cert.SbIdeal.nD → PrngReg), Pre_SbIdeal_sb_finite m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0)
      ∧ r.2.mem ((c.tc : Thread Cert.SbIdeal.nD Cert.SbIdeal.τ).loc Cert.SbIdeal.main_arg1) = m ((c.tc : Thread Cert.SbIdeal.nD Cert.SbIdeal.τ).loc Cert.SbIdeal.main_arg1)
      ∧ r.2.mem ((c.tc : Thread Cert.SbIdeal.nD Cert.SbIdeal.τ).loc Cert.SbIdeal.main_arg2) = m ((c.tc : Thread Cert.SbIdeal.nD Cert.SbIdeal.τ).loc Cert.SbIdeal.main_arg2)
      ∧ r.2.mem ((c.tc : Thread Cert.SbIdeal.nD Cert.SbIdeal.τ).loc Cert.SbIdeal.main_arg3) = m ((c.tc : Thread Cert.SbIdeal.nD Cert.SbIdeal.τ).loc Cert.SbIdeal.main_arg3)
      ∧ r.2.mem ((c.tc : Thread Cert.SbIdeal.nD Cert.SbIdeal.τ).loc Cert.SbIdeal.main_arg4) = m ((c.tc : Thread Cert.SbIdeal.nD Cert.SbIdeal.τ).loc Cert.SbIdeal.main_arg4))
      ∧ r.2.sem = fun _ => 0)

def quiescent_SbRefIdeal [hSbRefIdeal : Cert.SbRefIdeal.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0)
      ∧ r.2.mem ((c.tc : Thread Cert.SbRefIdeal.nD Cert.SbRefIdeal.τ).loc Cert.SbRefIdeal.main_arg1) = m ((c.tc : Thread Cert.SbRefIdeal.nD Cert.SbRefIdeal.τ).loc Cert.SbRefIdeal.main_arg1)
      ∧ r.2.mem ((c.tc : Thread Cert.SbRefIdeal.nD Cert.SbRefIdeal.τ).loc Cert.SbRefIdeal.main_arg2) = m ((c.tc : Thread Cert.SbRefIdeal.nD Cert.SbRefIdeal.τ).loc Cert.SbRefIdeal.main_arg2)
      ∧ r.2.mem ((c.tc : Thread Cert.SbRefIdeal.nD Cert.SbRefIdeal.τ).loc Cert.SbRefIdeal.main_arg3) = m ((c.tc : Thread Cert.SbRefIdeal.nD Cert.SbRefIdeal.τ).loc Cert.SbRefIdeal.main_arg3)
      ∧ r.2.mem ((c.tc : Thread Cert.SbRefIdeal.nD Cert.SbRefIdeal.τ).loc Cert.SbRefIdeal.main_arg4) = m ((c.tc : Thread Cert.SbRefIdeal.nD Cert.SbRefIdeal.τ).loc Cert.SbRefIdeal.main_arg4))
      ∧ r.2.sem = fun _ => 0)

def quiescent_SbRefIdeal_pre_sb_finite [hSbRefIdeal : Cert.SbRefIdeal.Facts] [hPre_sb_finite : Cert.Pre_sb_finite.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal_sb_finite m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0)
      ∧ r.2.mem ((c.tc : Thread Cert.SbRefIdeal.nD Cert.SbRefIdeal.τ).loc Cert.SbRefIdeal.main_arg1) = m ((c.tc : Thread Cert.SbRefIdeal.nD Cert.SbRefIdeal.τ).loc Cert.SbRefIdeal.main_arg1)
      ∧ r.2.mem ((c.tc : Thread Cert.SbRefIdeal.nD Cert.SbRefIdeal.τ).loc Cert.SbRefIdeal.main_arg2) = m ((c.tc : Thread Cert.SbRefIdeal.nD Cert.SbRefIdeal.τ).loc Cert.SbRefIdeal.main_arg2)
      ∧ r.2.mem ((c.tc : Thread Cert.SbRefIdeal.nD Cert.SbRefIdeal.τ).loc Cert.SbRefIdeal.main_arg3) = m ((c.tc : Thread Cert.SbRefIdeal.nD Cert.SbRefIdeal.τ).loc Cert.SbRefIdeal.main_arg3)
      ∧ r.2.mem ((c.tc : Thread Cert.SbRefIdeal.nD Cert.SbRefIdeal.τ).loc Cert.SbRefIdeal.main_arg4) = m ((c.tc : Thread Cert.SbRefIdeal.nD Cert.SbRefIdeal.τ).loc Cert.SbRefIdeal.main_arg4))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossIdeal_pre_loss_finite [hLossIdeal : Cert.LossIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg), Pre_LossIdeal_loss_finite m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_LossRefIdeal_pre_loss_finite [hLossRefIdeal : Cert.LossRefIdeal.Facts] [hPre_loss_finite : Cert.Pre_loss_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1)
      ∧ r.2.mem ((c.tc : Thread Cert.MixIn.nD Cert.MixIn.τ).loc Cert.MixIn.main_arg2) = m ((c.tc : Thread Cert.MixIn.nD Cert.MixIn.τ).loc Cert.MixIn.main_arg2)
      ∧ r.2.mem ((c.tc : Thread Cert.MixIn.nD Cert.MixIn.τ).loc Cert.MixIn.main_arg3) = m ((c.tc : Thread Cert.MixIn.nD Cert.MixIn.τ).loc Cert.MixIn.main_arg3)
      ∧ r.2.mem ((c.tc : Thread Cert.MixIn.nD Cert.MixIn.τ).loc Cert.MixIn.main_arg4) = m ((c.tc : Thread Cert.MixIn.nD Cert.MixIn.τ).loc Cert.MixIn.main_arg4)
      ∧ r.2.mem ((c.tc : Thread Cert.MixIn.nD Cert.MixIn.τ).loc Cert.MixIn.main_arg5) = m ((c.tc : Thread Cert.MixIn.nD Cert.MixIn.τ).loc Cert.MixIn.main_arg5)
      ∧ r.2.mem ((c.tc : Thread Cert.MixIn.nD Cert.MixIn.τ).loc Cert.MixIn.main_arg6) = m ((c.tc : Thread Cert.MixIn.nD Cert.MixIn.τ).loc Cert.MixIn.main_arg6)
      ∧ r.2.mem ((c.tc : Thread Cert.MixIn.nD Cert.MixIn.τ).loc Cert.MixIn.main_arg7) = m ((c.tc : Thread Cert.MixIn.nD Cert.MixIn.τ).loc Cert.MixIn.main_arg7)
      ∧ r.2.mem ((c.tc : Thread Cert.MixIn.nD Cert.MixIn.τ).loc Cert.MixIn.main_arg8) = m ((c.tc : Thread Cert.MixIn.nD Cert.MixIn.τ).loc Cert.MixIn.main_arg8)
      ∧ r.2.mem ((c.tc : Thread Cert.MixIn.nD Cert.MixIn.τ).loc Cert.MixIn.main_arg9) = m ((c.tc : Thread Cert.MixIn.nD Cert.MixIn.τ).loc Cert.MixIn.main_arg9)
      ∧ r.2.mem ((c.tc : Thread Cert.MixIn.nD Cert.MixIn.τ).loc Cert.MixIn.main_arg10) = m ((c.tc : Thread Cert.MixIn.nD Cert.MixIn.τ).loc Cert.MixIn.main_arg10)
      ∧ r.2.mem ((c.tc : Thread Cert.MixIn.nD Cert.MixIn.τ).loc Cert.MixIn.main_arg11) = m ((c.tc : Thread Cert.MixIn.nD Cert.MixIn.τ).loc Cert.MixIn.main_arg11))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
      ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
      ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4)
      ∧ r.2.mem ((c.tc : Thread Cert.MixInIdeal.nD Cert.MixInIdeal.τ).loc Cert.MixInIdeal.main_arg5) = m ((c.tc : Thread Cert.MixInIdeal.nD Cert.MixInIdeal.τ).loc Cert.MixInIdeal.main_arg5)
      ∧ r.2.mem ((c.tc : Thread Cert.MixInIdeal.nD Cert.MixInIdeal.τ).loc Cert.MixInIdeal.main_arg6) = m ((c.tc : Thread Cert.MixInIdeal.nD Cert.MixInIdeal.τ).loc Cert.MixInIdeal.main_arg6)
      ∧ r.2.mem ((c.tc : Thread Cert.MixInIdeal.nD Cert.MixInIdeal.τ).loc Cert.MixInIdeal.main_arg7) = m ((c.tc : Thread Cert.MixInIdeal.nD Cert.MixInIdeal.τ).loc Cert.MixInIdeal.main_arg7)
      ∧ r.2.mem ((c.tc : Thread Cert.MixInIdeal.nD Cert.MixInIdeal.τ).loc Cert.MixInIdeal.main_arg8) = m ((c.tc : Thread Cert.MixInIdeal.nD Cert.MixInIdeal.τ).loc Cert.MixInIdeal.main_arg8)
      ∧ r.2.mem ((c.tc : Thread Cert.MixInIdeal.nD Cert.MixInIdeal.τ).loc Cert.MixInIdeal.main_arg9) = m ((c.tc : Thread Cert.MixInIdeal.nD Cert.MixInIdeal.τ).loc Cert.MixInIdeal.main_arg9)
      ∧ r.2.mem ((c.tc : Thread Cert.MixInIdeal.nD Cert.MixInIdeal.τ).loc Cert.MixInIdeal.main_arg10) = m ((c.tc : Thread Cert.MixInIdeal.nD Cert.MixInIdeal.τ).loc Cert.MixInIdeal.main_arg10)
      ∧ r.2.mem ((c.tc : Thread Cert.MixInIdeal.nD Cert.MixInIdeal.τ).loc Cert.MixInIdeal.main_arg11) = m ((c.tc : Thread Cert.MixInIdeal.nD Cert.MixInIdeal.τ).loc Cert.MixInIdeal.main_arg11))
      ∧ r.2.sem = fun _ => 0)

def quiescent_MixInIdeal_pre_mixin_finite [hMixInIdeal : Cert.MixInIdeal.Facts] [hPre_mixin_finite : Cert.Pre_mixin_finite.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal_mixin_finite m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
      ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
      ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4)
      ∧ r.2.mem ((c.tc : Thread Cert.MixInIdeal.nD Cert.MixInIdeal.τ).loc Cert.MixInIdeal.main_arg5) = m ((c.tc : Thread Cert.MixInIdeal.nD Cert.MixInIdeal.τ).loc Cert.MixInIdeal.main_arg5)
      ∧ r.2.mem ((c.tc : Thread Cert.MixInIdeal.nD Cert.MixInIdeal.τ).loc Cert.MixInIdeal.main_arg6) = m ((c.tc : Thread Cert.MixInIdeal.nD Cert.MixInIdeal.τ).loc Cert.MixInIdeal.main_arg6)
      ∧ r.2.mem ((c.tc : Thread Cert.MixInIdeal.nD Cert.MixInIdeal.τ).loc Cert.MixInIdeal.main_arg7) = m ((c.tc : Thread Cert.MixInIdeal.nD Cert.MixInIdeal.τ).loc Cert.MixInIdeal.main_arg7)
      ∧ r.2.mem ((c.tc : Thread Cert.MixInIdeal.nD Cert.MixInIdeal.τ).loc Cert.MixInIdeal.main_arg8) = m ((c.tc : Thread Cert.MixInIdeal.nD Cert.MixInIdeal.τ).loc Cert.MixInIdeal.main_arg8)
      ∧ r.2.mem ((c.tc : Thread Cert.MixInIdeal.nD Cert.MixInIdeal.τ).loc Cert.MixInIdeal.main_arg9) = m ((c.tc : Thread Cert.MixInIdeal.nD Cert.MixInIdeal.τ).loc Cert.MixInIdeal.main_arg9)
      ∧ r.2.mem ((c.tc : Thread Cert.MixInIdeal.nD Cert.MixInIdeal.τ).loc Cert.MixInIdeal.main_arg10) = m ((c.tc : Thread Cert.MixInIdeal.nD Cert.MixInIdeal.τ).loc Cert.MixInIdeal.main_arg10)
      ∧ r.2.mem ((c.tc : Thread Cert.MixInIdeal.nD Cert.MixInIdeal.τ).loc Cert.MixInIdeal.main_arg11) = m ((c.tc : Thread Cert.MixInIdeal.nD Cert.MixInIdeal.τ).loc Cert.MixInIdeal.main_arg11))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1)
      ∧ r.2.mem ((c.tc : Thread Cert.MixInRefIdeal.nD Cert.MixInRefIdeal.τ).loc Cert.MixInRefIdeal.main_arg2) = m ((c.tc : Thread Cert.MixInRefIdeal.nD Cert.MixInRefIdeal.τ).loc Cert.MixInRefIdeal.main_arg2)
      ∧ r.2.mem ((c.tc : Thread Cert.MixInRefIdeal.nD Cert.MixInRefIdeal.τ).loc Cert.MixInRefIdeal.main_arg3) = m ((c.tc : Thread Cert.MixInRefIdeal.nD Cert.MixInRefIdeal.τ).loc Cert.MixInRefIdeal.main_arg3)
      ∧ r.2.mem ((c.tc : Thread Cert.MixInRefIdeal.nD Cert.MixInRefIdeal.τ).loc Cert.MixInRefIdeal.main_arg4) = m ((c.tc : Thread Cert.MixInRefIdeal.nD Cert.MixInRefIdeal.τ).loc Cert.MixInRefIdeal.main_arg4)
      ∧ r.2.mem ((c.tc : Thread Cert.MixInRefIdeal.nD Cert.MixInRefIdeal.τ).loc Cert.MixInRefIdeal.main_arg5) = m ((c.tc : Thread Cert.MixInRefIdeal.nD Cert.MixInRefIdeal.τ).loc Cert.MixInRefIdeal.main_arg5)
      ∧ r.2.mem ((c.tc : Thread Cert.MixInRefIdeal.nD Cert.MixInRefIdeal.τ).loc Cert.MixInRefIdeal.main_arg6) = m ((c.tc : Thread Cert.MixInRefIdeal.nD Cert.MixInRefIdeal.τ).loc Cert.MixInRefIdeal.main_arg6)
      ∧ r.2.mem ((c.tc : Thread Cert.MixInRefIdeal.nD Cert.MixInRefIdeal.τ).loc Cert.MixInRefIdeal.main_arg7) = m ((c.tc : Thread Cert.MixInRefIdeal.nD Cert.MixInRefIdeal.τ).loc Cert.MixInRefIdeal.main_arg7)
      ∧ r.2.mem ((c.tc : Thread Cert.MixInRefIdeal.nD Cert.MixInRefIdeal.τ).loc Cert.MixInRefIdeal.main_arg8) = m ((c.tc : Thread Cert.MixInRefIdeal.nD Cert.MixInRefIdeal.τ).loc Cert.MixInRefIdeal.main_arg8)
      ∧ r.2.mem ((c.tc : Thread Cert.MixInRefIdeal.nD Cert.MixInRefIdeal.τ).loc Cert.MixInRefIdeal.main_arg9) = m ((c.tc : Thread Cert.MixInRefIdeal.nD Cert.MixInRefIdeal.τ).loc Cert.MixInRefIdeal.main_arg9)
      ∧ r.2.mem ((c.tc : Thread Cert.MixInRefIdeal.nD Cert.MixInRefIdeal.τ).loc Cert.MixInRefIdeal.main_arg10) = m ((c.tc : Thread Cert.MixInRefIdeal.nD Cert.MixInRefIdeal.τ).loc Cert.MixInRefIdeal.main_arg10)
      ∧ r.2.mem ((c.tc : Thread Cert.MixInRefIdeal.nD Cert.MixInRefIdeal.τ).loc Cert.MixInRefIdeal.main_arg11) = m ((c.tc : Thread Cert.MixInRefIdeal.nD Cert.MixInRefIdeal.τ).loc Cert.MixInRefIdeal.main_arg11))
      ∧ r.2.sem = fun _ => 0)

def quiescent_MixInRefIdeal_pre_mixin_finite [hMixInRefIdeal : Cert.MixInRefIdeal.Facts] [hPre_mixin_finite : Cert.Pre_mixin_finite.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal_mixin_finite m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1)
      ∧ r.2.mem ((c.tc : Thread Cert.MixInRefIdeal.nD Cert.MixInRefIdeal.τ).loc Cert.MixInRefIdeal.main_arg2) = m ((c.tc : Thread Cert.MixInRefIdeal.nD Cert.MixInRefIdeal.τ).loc Cert.MixInRefIdeal.main_arg2)
      ∧ r.2.mem ((c.tc : Thread Cert.MixInRefIdeal.nD Cert.MixInRefIdeal.τ).loc Cert.MixInRefIdeal.main_arg3) = m ((c.tc : Thread Cert.MixInRefIdeal.nD Cert.MixInRefIdeal.τ).loc Cert.MixInRefIdeal.main_arg3)
      ∧ r.2.mem ((c.tc : Thread Cert.MixInRefIdeal.nD Cert.MixInRefIdeal.τ).loc Cert.MixInRefIdeal.main_arg4) = m ((c.tc : Thread Cert.MixInRefIdeal.nD Cert.MixInRefIdeal.τ).loc Cert.MixInRefIdeal.main_arg4)
      ∧ r.2.mem ((c.tc : Thread Cert.MixInRefIdeal.nD Cert.MixInRefIdeal.τ).loc Cert.MixInRefIdeal.main_arg5) = m ((c.tc : Thread Cert.MixInRefIdeal.nD Cert.MixInRefIdeal.τ).loc Cert.MixInRefIdeal.main_arg5)
      ∧ r.2.mem ((c.tc : Thread Cert.MixInRefIdeal.nD Cert.MixInRefIdeal.τ).loc Cert.MixInRefIdeal.main_arg6) = m ((c.tc : Thread Cert.MixInRefIdeal.nD Cert.MixInRefIdeal.τ).loc Cert.MixInRefIdeal.main_arg6)
      ∧ r.2.mem ((c.tc : Thread Cert.MixInRefIdeal.nD Cert.MixInRefIdeal.τ).loc Cert.MixInRefIdeal.main_arg7) = m ((c.tc : Thread Cert.MixInRefIdeal.nD Cert.MixInRefIdeal.τ).loc Cert.MixInRefIdeal.main_arg7)
      ∧ r.2.mem ((c.tc : Thread Cert.MixInRefIdeal.nD Cert.MixInRefIdeal.τ).loc Cert.MixInRefIdeal.main_arg8) = m ((c.tc : Thread Cert.MixInRefIdeal.nD Cert.MixInRefIdeal.τ).loc Cert.MixInRefIdeal.main_arg8)
      ∧ r.2.mem ((c.tc : Thread Cert.MixInRefIdeal.nD Cert.MixInRefIdeal.τ).loc Cert.MixInRefIdeal.main_arg9) = m ((c.tc : Thread Cert.MixInRefIdeal.nD Cert.MixInRefIdeal.τ).loc Cert.MixInRefIdeal.main_arg9)
      ∧ r.2.mem ((c.tc : Thread Cert.MixInRefIdeal.nD Cert.MixInRefIdeal.τ).loc Cert.MixInRefIdeal.main_arg10) = m ((c.tc : Thread Cert.MixInRefIdeal.nD Cert.MixInRefIdeal.τ).loc Cert.MixInRefIdeal.main_arg10)
      ∧ r.2.mem ((c.tc : Thread Cert.MixInRefIdeal.nD Cert.MixInRefIdeal.τ).loc Cert.MixInRefIdeal.main_arg11) = m ((c.tc : Thread Cert.MixInRefIdeal.nD Cert.MixInRefIdeal.τ).loc Cert.MixInRefIdeal.main_arg11))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_SbFwd [hSbFwd : Cert.SbFwd.Facts] : Prop :=
  ∀ (m : (ℓ : Loc Cert.SbFwd.nD Cert.SbFwd.τ Cert.SbFwd.sig) → Buf (Elt Bits) ℓ) (g : Dev Cert.SbFwd.nD → PrngReg), Pre_SbFwd m →
    θ_run (Cert.SbFwd.defs (F := Bits)) (onTc (τ := Cert.SbFwd.τ) (Cert.SbFwd.main (F := Bits))) ⟨m, fun _ => 0, g⟩ (fun r => (∀ c : Dev Cert.SbFwd.nD,
      r.2.mem ((c.tc : Thread Cert.SbFwd.nD Cert.SbFwd.τ).loc Cert.SbFwd.main_arg0) = m ((c.tc : Thread Cert.SbFwd.nD Cert.SbFwd.τ).loc Cert.SbFwd.main_arg0)
      ∧ r.2.mem ((c.tc : Thread Cert.SbFwd.nD Cert.SbFwd.τ).loc Cert.SbFwd.main_arg1) = m ((c.tc : Thread Cert.SbFwd.nD Cert.SbFwd.τ).loc Cert.SbFwd.main_arg1)
      ∧ r.2.mem ((c.tc : Thread Cert.SbFwd.nD Cert.SbFwd.τ).loc Cert.SbFwd.main_arg2) = m ((c.tc : Thread Cert.SbFwd.nD Cert.SbFwd.τ).loc Cert.SbFwd.main_arg2)
      ∧ r.2.mem ((c.tc : Thread Cert.SbFwd.nD Cert.SbFwd.τ).loc Cert.SbFwd.main_arg3) = m ((c.tc : Thread Cert.SbFwd.nD Cert.SbFwd.τ).loc Cert.SbFwd.main_arg3))
      ∧ r.2.sem = fun _ => 0)

def quiescent_SbFwdIdeal [hSbFwdIdeal : Cert.SbFwdIdeal.Facts] : Prop :=
  ∀ (m : (ℓ : Loc Cert.SbFwdIdeal.nD Cert.SbFwdIdeal.τ Cert.SbFwdIdeal.sig) → Buf (Elt Ideal) ℓ) (g : Dev Cert.SbFwdIdeal.nD → PrngReg), Pre_SbFwdIdeal m →
    θ_run (Cert.SbFwdIdeal.defs (F := Ideal)) (onTc (τ := Cert.SbFwdIdeal.τ) (Cert.SbFwdIdeal.main (F := Ideal))) ⟨m, fun _ => 0, g⟩ (fun r => (∀ c : Dev Cert.SbFwdIdeal.nD,
      r.2.mem ((c.tc : Thread Cert.SbFwdIdeal.nD Cert.SbFwdIdeal.τ).loc Cert.SbFwdIdeal.main_arg0) = m ((c.tc : Thread Cert.SbFwdIdeal.nD Cert.SbFwdIdeal.τ).loc Cert.SbFwdIdeal.main_arg0)
      ∧ r.2.mem ((c.tc : Thread Cert.SbFwdIdeal.nD Cert.SbFwdIdeal.τ).loc Cert.SbFwdIdeal.main_arg1) = m ((c.tc : Thread Cert.SbFwdIdeal.nD Cert.SbFwdIdeal.τ).loc Cert.SbFwdIdeal.main_arg1)
      ∧ r.2.mem ((c.tc : Thread Cert.SbFwdIdeal.nD Cert.SbFwdIdeal.τ).loc Cert.SbFwdIdeal.main_arg2) = m ((c.tc : Thread Cert.SbFwdIdeal.nD Cert.SbFwdIdeal.τ).loc Cert.SbFwdIdeal.main_arg2)
      ∧ r.2.mem ((c.tc : Thread Cert.SbFwdIdeal.nD Cert.SbFwdIdeal.τ).loc Cert.SbFwdIdeal.main_arg3) = m ((c.tc : Thread Cert.SbFwdIdeal.nD Cert.SbFwdIdeal.τ).loc Cert.SbFwdIdeal.main_arg3))
      ∧ r.2.sem = fun _ => 0)

def quiescent_SbFwdIdeal_pre_sbf_finite [hSbFwdIdeal : Cert.SbFwdIdeal.Facts] [hPre_sbf_finite : Cert.Pre_sbf_finite.Facts] : Prop :=
  ∀ (m : (ℓ : Loc Cert.SbFwdIdeal.nD Cert.SbFwdIdeal.τ Cert.SbFwdIdeal.sig) → Buf (Elt Ideal) ℓ) (g : Dev Cert.SbFwdIdeal.nD → PrngReg), Pre_SbFwdIdeal_sbf_finite m →
    θ_run (Cert.SbFwdIdeal.defs (F := Ideal)) (onTc (τ := Cert.SbFwdIdeal.τ) (Cert.SbFwdIdeal.main (F := Ideal))) ⟨m, fun _ => 0, g⟩ (fun r => (∀ c : Dev Cert.SbFwdIdeal.nD,
      r.2.mem ((c.tc : Thread Cert.SbFwdIdeal.nD Cert.SbFwdIdeal.τ).loc Cert.SbFwdIdeal.main_arg0) = m ((c.tc : Thread Cert.SbFwdIdeal.nD Cert.SbFwdIdeal.τ).loc Cert.SbFwdIdeal.main_arg0)
      ∧ r.2.mem ((c.tc : Thread Cert.SbFwdIdeal.nD Cert.SbFwdIdeal.τ).loc Cert.SbFwdIdeal.main_arg1) = m ((c.tc : Thread Cert.SbFwdIdeal.nD Cert.SbFwdIdeal.τ).loc Cert.SbFwdIdeal.main_arg1)
      ∧ r.2.mem ((c.tc : Thread Cert.SbFwdIdeal.nD Cert.SbFwdIdeal.τ).loc Cert.SbFwdIdeal.main_arg2) = m ((c.tc : Thread Cert.SbFwdIdeal.nD Cert.SbFwdIdeal.τ).loc Cert.SbFwdIdeal.main_arg2)
      ∧ r.2.mem ((c.tc : Thread Cert.SbFwdIdeal.nD Cert.SbFwdIdeal.τ).loc Cert.SbFwdIdeal.main_arg3) = m ((c.tc : Thread Cert.SbFwdIdeal.nD Cert.SbFwdIdeal.τ).loc Cert.SbFwdIdeal.main_arg3))
      ∧ r.2.sem = fun _ => 0)

def quiescent_SbFwdRefIdeal [hSbFwdRefIdeal : Cert.SbFwdRefIdeal.Facts] : Prop :=
  ∀ (m : (ℓ : Loc Cert.SbFwdRefIdeal.nD Cert.SbFwdRefIdeal.τ Cert.SbFwdRefIdeal.sig) → Buf (Elt Ideal) ℓ) (g : Dev Cert.SbFwdRefIdeal.nD → PrngReg), Pre_SbFwdRefIdeal m →
    θ_run (Cert.SbFwdRefIdeal.defs (F := Ideal)) (onTc (τ := Cert.SbFwdRefIdeal.τ) (Cert.SbFwdRefIdeal.main (F := Ideal))) ⟨m, fun _ => 0, g⟩ (fun r => (∀ c : Dev Cert.SbFwdRefIdeal.nD,
      r.2.mem ((c.tc : Thread Cert.SbFwdRefIdeal.nD Cert.SbFwdRefIdeal.τ).loc Cert.SbFwdRefIdeal.main_arg0) = m ((c.tc : Thread Cert.SbFwdRefIdeal.nD Cert.SbFwdRefIdeal.τ).loc Cert.SbFwdRefIdeal.main_arg0)
      ∧ r.2.mem ((c.tc : Thread Cert.SbFwdRefIdeal.nD Cert.SbFwdRefIdeal.τ).loc Cert.SbFwdRefIdeal.main_arg1) = m ((c.tc : Thread Cert.SbFwdRefIdeal.nD Cert.SbFwdRefIdeal.τ).loc Cert.SbFwdRefIdeal.main_arg1)
      ∧ r.2.mem ((c.tc : Thread Cert.SbFwdRefIdeal.nD Cert.SbFwdRefIdeal.τ).loc Cert.SbFwdRefIdeal.main_arg2) = m ((c.tc : Thread Cert.SbFwdRefIdeal.nD Cert.SbFwdRefIdeal.τ).loc Cert.SbFwdRefIdeal.main_arg2)
      ∧ r.2.mem ((c.tc : Thread Cert.SbFwdRefIdeal.nD Cert.SbFwdRefIdeal.τ).loc Cert.SbFwdRefIdeal.main_arg3) = m ((c.tc : Thread Cert.SbFwdRefIdeal.nD Cert.SbFwdRefIdeal.τ).loc Cert.SbFwdRefIdeal.main_arg3))
      ∧ r.2.sem = fun _ => 0)

def quiescent_SbFwdRefIdeal_pre_sbf_finite [hSbFwdRefIdeal : Cert.SbFwdRefIdeal.Facts] [hPre_sbf_finite : Cert.Pre_sbf_finite.Facts] : Prop :=
  ∀ (m : (ℓ : Loc Cert.SbFwdRefIdeal.nD Cert.SbFwdRefIdeal.τ Cert.SbFwdRefIdeal.sig) → Buf (Elt Ideal) ℓ) (g : Dev Cert.SbFwdRefIdeal.nD → PrngReg), Pre_SbFwdRefIdeal_sbf_finite m →
    θ_run (Cert.SbFwdRefIdeal.defs (F := Ideal)) (onTc (τ := Cert.SbFwdRefIdeal.τ) (Cert.SbFwdRefIdeal.main (F := Ideal))) ⟨m, fun _ => 0, g⟩ (fun r => (∀ c : Dev Cert.SbFwdRefIdeal.nD,
      r.2.mem ((c.tc : Thread Cert.SbFwdRefIdeal.nD Cert.SbFwdRefIdeal.τ).loc Cert.SbFwdRefIdeal.main_arg0) = m ((c.tc : Thread Cert.SbFwdRefIdeal.nD Cert.SbFwdRefIdeal.τ).loc Cert.SbFwdRefIdeal.main_arg0)
      ∧ r.2.mem ((c.tc : Thread Cert.SbFwdRefIdeal.nD Cert.SbFwdRefIdeal.τ).loc Cert.SbFwdRefIdeal.main_arg1) = m ((c.tc : Thread Cert.SbFwdRefIdeal.nD Cert.SbFwdRefIdeal.τ).loc Cert.SbFwdRefIdeal.main_arg1)
      ∧ r.2.mem ((c.tc : Thread Cert.SbFwdRefIdeal.nD Cert.SbFwdRefIdeal.τ).loc Cert.SbFwdRefIdeal.main_arg2) = m ((c.tc : Thread Cert.SbFwdRefIdeal.nD Cert.SbFwdRefIdeal.τ).loc Cert.SbFwdRefIdeal.main_arg2)
      ∧ r.2.mem ((c.tc : Thread Cert.SbFwdRefIdeal.nD Cert.SbFwdRefIdeal.τ).loc Cert.SbFwdRefIdeal.main_arg3) = m ((c.tc : Thread Cert.SbFwdRefIdeal.nD Cert.SbFwdRefIdeal.τ).loc Cert.SbFwdRefIdeal.main_arg3))
      ∧ r.2.sem = fun _ => 0)

def quiescent_Pre [hPre : Cert.Pre.Facts] : Prop :=
  ∀ (m : (ℓ : Loc Cert.Pre.nD Cert.Pre.τ Cert.Pre.sig) → Buf (Elt Bits) ℓ) (g : Dev Cert.Pre.nD → PrngReg), Pre_Pre m →
    θ_run (Cert.Pre.defs (F := Bits)) (onTc (τ := Cert.Pre.τ) (Cert.Pre.main (F := Bits))) ⟨m, fun _ => 0, g⟩ (fun r => (∀ c : Dev Cert.Pre.nD,
      r.2.mem ((c.tc : Thread Cert.Pre.nD Cert.Pre.τ).loc Cert.Pre.main_arg0) = m ((c.tc : Thread Cert.Pre.nD Cert.Pre.τ).loc Cert.Pre.main_arg0)
      ∧ r.2.mem ((c.tc : Thread Cert.Pre.nD Cert.Pre.τ).loc Cert.Pre.main_arg1) = m ((c.tc : Thread Cert.Pre.nD Cert.Pre.τ).loc Cert.Pre.main_arg1)
      ∧ r.2.mem ((c.tc : Thread Cert.Pre.nD Cert.Pre.τ).loc Cert.Pre.main_arg2) = m ((c.tc : Thread Cert.Pre.nD Cert.Pre.τ).loc Cert.Pre.main_arg2)
      ∧ r.2.mem ((c.tc : Thread Cert.Pre.nD Cert.Pre.τ).loc Cert.Pre.main_arg3) = m ((c.tc : Thread Cert.Pre.nD Cert.Pre.τ).loc Cert.Pre.main_arg3)
      ∧ r.2.mem ((c.tc : Thread Cert.Pre.nD Cert.Pre.τ).loc Cert.Pre.main_arg4) = m ((c.tc : Thread Cert.Pre.nD Cert.Pre.τ).loc Cert.Pre.main_arg4)
      ∧ r.2.mem ((c.tc : Thread Cert.Pre.nD Cert.Pre.τ).loc Cert.Pre.main_arg5) = m ((c.tc : Thread Cert.Pre.nD Cert.Pre.τ).loc Cert.Pre.main_arg5)
      ∧ r.2.mem ((c.tc : Thread Cert.Pre.nD Cert.Pre.τ).loc Cert.Pre.main_arg6) = m ((c.tc : Thread Cert.Pre.nD Cert.Pre.τ).loc Cert.Pre.main_arg6)
      ∧ r.2.mem ((c.tc : Thread Cert.Pre.nD Cert.Pre.τ).loc Cert.Pre.main_arg7) = m ((c.tc : Thread Cert.Pre.nD Cert.Pre.τ).loc Cert.Pre.main_arg7)
      ∧ r.2.mem ((c.tc : Thread Cert.Pre.nD Cert.Pre.τ).loc Cert.Pre.main_arg8) = m ((c.tc : Thread Cert.Pre.nD Cert.Pre.τ).loc Cert.Pre.main_arg8)
      ∧ r.2.mem ((c.tc : Thread Cert.Pre.nD Cert.Pre.τ).loc Cert.Pre.main_arg9) = m ((c.tc : Thread Cert.Pre.nD Cert.Pre.τ).loc Cert.Pre.main_arg9)
      ∧ r.2.mem ((c.tc : Thread Cert.Pre.nD Cert.Pre.τ).loc Cert.Pre.main_arg10) = m ((c.tc : Thread Cert.Pre.nD Cert.Pre.τ).loc Cert.Pre.main_arg10))
      ∧ r.2.sem = fun _ => 0)

def quiescent_PreIdeal [hPreIdeal : Cert.PreIdeal.Facts] : Prop :=
  ∀ (m : (ℓ : Loc Cert.PreIdeal.nD Cert.PreIdeal.τ Cert.PreIdeal.sig) → Buf (Elt Ideal) ℓ) (g : Dev Cert.PreIdeal.nD → PrngReg), Pre_PreIdeal m →
    θ_run (Cert.PreIdeal.defs (F := Ideal)) (onTc (τ := Cert.PreIdeal.τ) (Cert.PreIdeal.main (F := Ideal))) ⟨m, fun _ => 0, g⟩ (fun r => (∀ c : Dev Cert.PreIdeal.nD,
      r.2.mem ((c.tc : Thread Cert.PreIdeal.nD Cert.PreIdeal.τ).loc Cert.PreIdeal.main_arg0) = m ((c.tc : Thread Cert.PreIdeal.nD Cert.PreIdeal.τ).loc Cert.PreIdeal.main_arg0)
      ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
      ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
      ∧ r.2.mem ((c.tc : Thread Cert.PreIdeal.nD Cert.PreIdeal.τ).loc Cert.PreIdeal.main_arg3) = m ((c.tc : Thread Cert.PreIdeal.nD Cert.PreIdeal.τ).loc Cert.PreIdeal.main_arg3)
      ∧ r.2.mem ((c.tc : Thread Cert.PreIdeal.nD Cert.PreIdeal.τ).loc Cert.PreIdeal.main_arg4) = m ((c.tc : Thread Cert.PreIdeal.nD Cert.PreIdeal.τ).loc Cert.PreIdeal.main_arg4)
      ∧ r.2.mem ((c.tc : Thread Cert.PreIdeal.nD Cert.PreIdeal.τ).loc Cert.PreIdeal.main_arg5) = m ((c.tc : Thread Cert.PreIdeal.nD Cert.PreIdeal.τ).loc Cert.PreIdeal.main_arg5)
      ∧ r.2.mem ((c.tc : Thread Cert.PreIdeal.nD Cert.PreIdeal.τ).loc Cert.PreIdeal.main_arg6) = m ((c.tc : Thread Cert.PreIdeal.nD Cert.PreIdeal.τ).loc Cert.PreIdeal.main_arg6)
      ∧ r.2.mem ((c.tc : Thread Cert.PreIdeal.nD Cert.PreIdeal.τ).loc Cert.PreIdeal.main_arg7) = m ((c.tc : Thread Cert.PreIdeal.nD Cert.PreIdeal.τ).loc Cert.PreIdeal.main_arg7)
      ∧ r.2.mem ((c.tc : Thread Cert.PreIdeal.nD Cert.PreIdeal.τ).loc Cert.PreIdeal.main_arg8) = m ((c.tc : Thread Cert.PreIdeal.nD Cert.PreIdeal.τ).loc Cert.PreIdeal.main_arg8)
      ∧ r.2.mem ((c.tc : Thread Cert.PreIdeal.nD Cert.PreIdeal.τ).loc Cert.PreIdeal.main_arg9) = m ((c.tc : Thread Cert.PreIdeal.nD Cert.PreIdeal.τ).loc Cert.PreIdeal.main_arg9)
      ∧ r.2.mem ((c.tc : Thread Cert.PreIdeal.nD Cert.PreIdeal.τ).loc Cert.PreIdeal.main_arg10) = m ((c.tc : Thread Cert.PreIdeal.nD Cert.PreIdeal.τ).loc Cert.PreIdeal.main_arg10))
      ∧ r.2.sem = fun _ => 0)

def quiescent_PreIdeal_pre_pre_finite [hPreIdeal : Cert.PreIdeal.Facts] [hPre_pre_finite : Cert.Pre_pre_finite.Facts] : Prop :=
  ∀ (m : (ℓ : Loc Cert.PreIdeal.nD Cert.PreIdeal.τ Cert.PreIdeal.sig) → Buf (Elt Ideal) ℓ) (g : Dev Cert.PreIdeal.nD → PrngReg), Pre_PreIdeal_pre_finite m →
    θ_run (Cert.PreIdeal.defs (F := Ideal)) (onTc (τ := Cert.PreIdeal.τ) (Cert.PreIdeal.main (F := Ideal))) ⟨m, fun _ => 0, g⟩ (fun r => (∀ c : Dev Cert.PreIdeal.nD,
      r.2.mem ((c.tc : Thread Cert.PreIdeal.nD Cert.PreIdeal.τ).loc Cert.PreIdeal.main_arg0) = m ((c.tc : Thread Cert.PreIdeal.nD Cert.PreIdeal.τ).loc Cert.PreIdeal.main_arg0)
      ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
      ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
      ∧ r.2.mem ((c.tc : Thread Cert.PreIdeal.nD Cert.PreIdeal.τ).loc Cert.PreIdeal.main_arg3) = m ((c.tc : Thread Cert.PreIdeal.nD Cert.PreIdeal.τ).loc Cert.PreIdeal.main_arg3)
      ∧ r.2.mem ((c.tc : Thread Cert.PreIdeal.nD Cert.PreIdeal.τ).loc Cert.PreIdeal.main_arg4) = m ((c.tc : Thread Cert.PreIdeal.nD Cert.PreIdeal.τ).loc Cert.PreIdeal.main_arg4)
      ∧ r.2.mem ((c.tc : Thread Cert.PreIdeal.nD Cert.PreIdeal.τ).loc Cert.PreIdeal.main_arg5) = m ((c.tc : Thread Cert.PreIdeal.nD Cert.PreIdeal.τ).loc Cert.PreIdeal.main_arg5)
      ∧ r.2.mem ((c.tc : Thread Cert.PreIdeal.nD Cert.PreIdeal.τ).loc Cert.PreIdeal.main_arg6) = m ((c.tc : Thread Cert.PreIdeal.nD Cert.PreIdeal.τ).loc Cert.PreIdeal.main_arg6)
      ∧ r.2.mem ((c.tc : Thread Cert.PreIdeal.nD Cert.PreIdeal.τ).loc Cert.PreIdeal.main_arg7) = m ((c.tc : Thread Cert.PreIdeal.nD Cert.PreIdeal.τ).loc Cert.PreIdeal.main_arg7)
      ∧ r.2.mem ((c.tc : Thread Cert.PreIdeal.nD Cert.PreIdeal.τ).loc Cert.PreIdeal.main_arg8) = m ((c.tc : Thread Cert.PreIdeal.nD Cert.PreIdeal.τ).loc Cert.PreIdeal.main_arg8)
      ∧ r.2.mem ((c.tc : Thread Cert.PreIdeal.nD Cert.PreIdeal.τ).loc Cert.PreIdeal.main_arg9) = m ((c.tc : Thread Cert.PreIdeal.nD Cert.PreIdeal.τ).loc Cert.PreIdeal.main_arg9)
      ∧ r.2.mem ((c.tc : Thread Cert.PreIdeal.nD Cert.PreIdeal.τ).loc Cert.PreIdeal.main_arg10) = m ((c.tc : Thread Cert.PreIdeal.nD Cert.PreIdeal.τ).loc Cert.PreIdeal.main_arg10))
      ∧ r.2.sem = fun _ => 0)

def quiescent_PreRefIdeal [hPreRefIdeal : Cert.PreRefIdeal.Facts] : Prop :=
  ∀ (m : (ℓ : Loc Cert.PreRefIdeal.nD Cert.PreRefIdeal.τ Cert.PreRefIdeal.sig) → Buf (Elt Ideal) ℓ) (g : Dev Cert.PreRefIdeal.nD → PrngReg), Pre_PreRefIdeal m →
    θ_run (Cert.PreRefIdeal.defs (F := Ideal)) (onTc (τ := Cert.PreRefIdeal.τ) (Cert.PreRefIdeal.main (F := Ideal))) ⟨m, fun _ => 0, g⟩ (fun r => (∀ c : Dev Cert.PreRefIdeal.nD,
      r.2.mem ((c.tc : Thread Cert.PreRefIdeal.nD Cert.PreRefIdeal.τ).loc Cert.PreRefIdeal.main_arg0) = m ((c.tc : Thread Cert.PreRefIdeal.nD Cert.PreRefIdeal.τ).loc Cert.PreRefIdeal.main_arg0)
      ∧ r.2.mem ((c.tc : Thread Cert.PreRefIdeal.nD Cert.PreRefIdeal.τ).loc Cert.PreRefIdeal.main_arg1) = m ((c.tc : Thread Cert.PreRefIdeal.nD Cert.PreRefIdeal.τ).loc Cert.PreRefIdeal.main_arg1)
      ∧ r.2.mem ((c.tc : Thread Cert.PreRefIdeal.nD Cert.PreRefIdeal.τ).loc Cert.PreRefIdeal.main_arg2) = m ((c.tc : Thread Cert.PreRefIdeal.nD Cert.PreRefIdeal.τ).loc Cert.PreRefIdeal.main_arg2)
      ∧ r.2.mem ((c.tc : Thread Cert.PreRefIdeal.nD Cert.PreRefIdeal.τ).loc Cert.PreRefIdeal.main_arg3) = m ((c.tc : Thread Cert.PreRefIdeal.nD Cert.PreRefIdeal.τ).loc Cert.PreRefIdeal.main_arg3)
      ∧ r.2.mem ((c.tc : Thread Cert.PreRefIdeal.nD Cert.PreRefIdeal.τ).loc Cert.PreRefIdeal.main_arg4) = m ((c.tc : Thread Cert.PreRefIdeal.nD Cert.PreRefIdeal.τ).loc Cert.PreRefIdeal.main_arg4)
      ∧ r.2.mem ((c.tc : Thread Cert.PreRefIdeal.nD Cert.PreRefIdeal.τ).loc Cert.PreRefIdeal.main_arg5) = m ((c.tc : Thread Cert.PreRefIdeal.nD Cert.PreRefIdeal.τ).loc Cert.PreRefIdeal.main_arg5)
      ∧ r.2.mem ((c.tc : Thread Cert.PreRefIdeal.nD Cert.PreRefIdeal.τ).loc Cert.PreRefIdeal.main_arg6) = m ((c.tc : Thread Cert.PreRefIdeal.nD Cert.PreRefIdeal.τ).loc Cert.PreRefIdeal.main_arg6)
      ∧ r.2.mem ((c.tc : Thread Cert.PreRefIdeal.nD Cert.PreRefIdeal.τ).loc Cert.PreRefIdeal.main_arg7) = m ((c.tc : Thread Cert.PreRefIdeal.nD Cert.PreRefIdeal.τ).loc Cert.PreRefIdeal.main_arg7)
      ∧ r.2.mem ((c.tc : Thread Cert.PreRefIdeal.nD Cert.PreRefIdeal.τ).loc Cert.PreRefIdeal.main_arg8) = m ((c.tc : Thread Cert.PreRefIdeal.nD Cert.PreRefIdeal.τ).loc Cert.PreRefIdeal.main_arg8)
      ∧ r.2.mem ((c.tc : Thread Cert.PreRefIdeal.nD Cert.PreRefIdeal.τ).loc Cert.PreRefIdeal.main_arg9) = m ((c.tc : Thread Cert.PreRefIdeal.nD Cert.PreRefIdeal.τ).loc Cert.PreRefIdeal.main_arg9)
      ∧ r.2.mem ((c.tc : Thread Cert.PreRefIdeal.nD Cert.PreRefIdeal.τ).loc Cert.PreRefIdeal.main_arg10) = m ((c.tc : Thread Cert.PreRefIdeal.nD Cert.PreRefIdeal.τ).loc Cert.PreRefIdeal.main_arg10))
      ∧ r.2.sem = fun _ => 0)

def quiescent_PreRefIdeal_pre_pre_finite [hPreRefIdeal : Cert.PreRefIdeal.Facts] [hPre_pre_finite : Cert.Pre_pre_finite.Facts] : Prop :=
  ∀ (m : (ℓ : Loc Cert.PreRefIdeal.nD Cert.PreRefIdeal.τ Cert.PreRefIdeal.sig) → Buf (Elt Ideal) ℓ) (g : Dev Cert.PreRefIdeal.nD → PrngReg), Pre_PreRefIdeal_pre_finite m →
    θ_run (Cert.PreRefIdeal.defs (F := Ideal)) (onTc (τ := Cert.PreRefIdeal.τ) (Cert.PreRefIdeal.main (F := Ideal))) ⟨m, fun _ => 0, g⟩ (fun r => (∀ c : Dev Cert.PreRefIdeal.nD,
      r.2.mem ((c.tc : Thread Cert.PreRefIdeal.nD Cert.PreRefIdeal.τ).loc Cert.PreRefIdeal.main_arg0) = m ((c.tc : Thread Cert.PreRefIdeal.nD Cert.PreRefIdeal.τ).loc Cert.PreRefIdeal.main_arg0)
      ∧ r.2.mem ((c.tc : Thread Cert.PreRefIdeal.nD Cert.PreRefIdeal.τ).loc Cert.PreRefIdeal.main_arg1) = m ((c.tc : Thread Cert.PreRefIdeal.nD Cert.PreRefIdeal.τ).loc Cert.PreRefIdeal.main_arg1)
      ∧ r.2.mem ((c.tc : Thread Cert.PreRefIdeal.nD Cert.PreRefIdeal.τ).loc Cert.PreRefIdeal.main_arg2) = m ((c.tc : Thread Cert.PreRefIdeal.nD Cert.PreRefIdeal.τ).loc Cert.PreRefIdeal.main_arg2)
      ∧ r.2.mem ((c.tc : Thread Cert.PreRefIdeal.nD Cert.PreRefIdeal.τ).loc Cert.PreRefIdeal.main_arg3) = m ((c.tc : Thread Cert.PreRefIdeal.nD Cert.PreRefIdeal.τ).loc Cert.PreRefIdeal.main_arg3)
      ∧ r.2.mem ((c.tc : Thread Cert.PreRefIdeal.nD Cert.PreRefIdeal.τ).loc Cert.PreRefIdeal.main_arg4) = m ((c.tc : Thread Cert.PreRefIdeal.nD Cert.PreRefIdeal.τ).loc Cert.PreRefIdeal.main_arg4)
      ∧ r.2.mem ((c.tc : Thread Cert.PreRefIdeal.nD Cert.PreRefIdeal.τ).loc Cert.PreRefIdeal.main_arg5) = m ((c.tc : Thread Cert.PreRefIdeal.nD Cert.PreRefIdeal.τ).loc Cert.PreRefIdeal.main_arg5)
      ∧ r.2.mem ((c.tc : Thread Cert.PreRefIdeal.nD Cert.PreRefIdeal.τ).loc Cert.PreRefIdeal.main_arg6) = m ((c.tc : Thread Cert.PreRefIdeal.nD Cert.PreRefIdeal.τ).loc Cert.PreRefIdeal.main_arg6)
      ∧ r.2.mem ((c.tc : Thread Cert.PreRefIdeal.nD Cert.PreRefIdeal.τ).loc Cert.PreRefIdeal.main_arg7) = m ((c.tc : Thread Cert.PreRefIdeal.nD Cert.PreRefIdeal.τ).loc Cert.PreRefIdeal.main_arg7)
      ∧ r.2.mem ((c.tc : Thread Cert.PreRefIdeal.nD Cert.PreRefIdeal.τ).loc Cert.PreRefIdeal.main_arg8) = m ((c.tc : Thread Cert.PreRefIdeal.nD Cert.PreRefIdeal.τ).loc Cert.PreRefIdeal.main_arg8)
      ∧ r.2.mem ((c.tc : Thread Cert.PreRefIdeal.nD Cert.PreRefIdeal.τ).loc Cert.PreRefIdeal.main_arg9) = m ((c.tc : Thread Cert.PreRefIdeal.nD Cert.PreRefIdeal.τ).loc Cert.PreRefIdeal.main_arg9)
      ∧ r.2.mem ((c.tc : Thread Cert.PreRefIdeal.nD Cert.PreRefIdeal.τ).loc Cert.PreRefIdeal.main_arg10) = m ((c.tc : Thread Cert.PreRefIdeal.nD Cert.PreRefIdeal.τ).loc Cert.PreRefIdeal.main_arg10))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2))
      ∧ r.2.sem = fun _ => 0)

def quiescent_MixFwdRefIdeal [hMixFwdRefIdeal : Cert.MixFwdRefIdeal.Facts] : Prop :=
  ∀ (m : (ℓ : Loc Cert.MixFwdRefIdeal.nD Cert.MixFwdRefIdeal.τ Cert.MixFwdRefIdeal.sig) → Buf (Elt Ideal) ℓ) (g : Dev Cert.MixFwdRefIdeal.nD → PrngReg), Pre_MixFwdRefIdeal m →
    θ_run (Cert.MixFwdRefIdeal.defs (F := Ideal)) (onTc (τ := Cert.MixFwdRefIdeal.τ) (Cert.MixFwdRefIdeal.main (F := Ideal))) ⟨m, fun _ => 0, g⟩ (fun r => (∀ c : Dev Cert.MixFwdRefIdeal.nD,
      r.2.mem ((c.tc : Thread Cert.MixFwdRefIdeal.nD Cert.MixFwdRefIdeal.τ).loc Cert.MixFwdRefIdeal.main_arg0) = m ((c.tc : Thread Cert.MixFwdRefIdeal.nD Cert.MixFwdRefIdeal.τ).loc Cert.MixFwdRefIdeal.main_arg0)
      ∧ r.2.mem ((c.tc : Thread Cert.MixFwdRefIdeal.nD Cert.MixFwdRefIdeal.τ).loc Cert.MixFwdRefIdeal.main_arg1) = m ((c.tc : Thread Cert.MixFwdRefIdeal.nD Cert.MixFwdRefIdeal.τ).loc Cert.MixFwdRefIdeal.main_arg1)
      ∧ r.2.mem ((c.tc : Thread Cert.MixFwdRefIdeal.nD Cert.MixFwdRefIdeal.τ).loc Cert.MixFwdRefIdeal.main_arg2) = m ((c.tc : Thread Cert.MixFwdRefIdeal.nD Cert.MixFwdRefIdeal.τ).loc Cert.MixFwdRefIdeal.main_arg2))
      ∧ r.2.sem = fun _ => 0)

def quiescent_MixOutBwd [hMixOutBwd : Cert.MixOutBwd.Facts] : Prop :=
  ∀ (m : (ℓ : Loc Cert.MixOutBwd.nD Cert.MixOutBwd.τ Cert.MixOutBwd.sig) → Buf (Elt Bits) ℓ) (g : Dev Cert.MixOutBwd.nD → PrngReg), Pre_MixOutBwd m →
    θ_run (Cert.MixOutBwd.defs (F := Bits)) (onTc (τ := Cert.MixOutBwd.τ) (Cert.MixOutBwd.main (F := Bits))) ⟨m, fun _ => 0, g⟩ (fun r => (∀ c : Dev Cert.MixOutBwd.nD,
      r.2.mem ((c.tc : Thread Cert.MixOutBwd.nD Cert.MixOutBwd.τ).loc Cert.MixOutBwd.main_arg0) = m ((c.tc : Thread Cert.MixOutBwd.nD Cert.MixOutBwd.τ).loc Cert.MixOutBwd.main_arg0)
      ∧ r.2.mem ((c.tc : Thread Cert.MixOutBwd.nD Cert.MixOutBwd.τ).loc Cert.MixOutBwd.main_arg1) = m ((c.tc : Thread Cert.MixOutBwd.nD Cert.MixOutBwd.τ).loc Cert.MixOutBwd.main_arg1)
      ∧ r.2.mem ((c.tc : Thread Cert.MixOutBwd.nD Cert.MixOutBwd.τ).loc Cert.MixOutBwd.main_arg2) = m ((c.tc : Thread Cert.MixOutBwd.nD Cert.MixOutBwd.τ).loc Cert.MixOutBwd.main_arg2)
      ∧ r.2.mem ((c.tc : Thread Cert.MixOutBwd.nD Cert.MixOutBwd.τ).loc Cert.MixOutBwd.main_arg3) = m ((c.tc : Thread Cert.MixOutBwd.nD Cert.MixOutBwd.τ).loc Cert.MixOutBwd.main_arg3)
      ∧ r.2.mem ((c.tc : Thread Cert.MixOutBwd.nD Cert.MixOutBwd.τ).loc Cert.MixOutBwd.main_arg4) = m ((c.tc : Thread Cert.MixOutBwd.nD Cert.MixOutBwd.τ).loc Cert.MixOutBwd.main_arg4))
      ∧ r.2.sem = fun _ => 0)

def quiescent_MixOutBwdIdeal [hMixOutBwdIdeal : Cert.MixOutBwdIdeal.Facts] : Prop :=
  ∀ (m : (ℓ : Loc Cert.MixOutBwdIdeal.nD Cert.MixOutBwdIdeal.τ Cert.MixOutBwdIdeal.sig) → Buf (Elt Ideal) ℓ) (g : Dev Cert.MixOutBwdIdeal.nD → PrngReg), Pre_MixOutBwdIdeal m →
    θ_run (Cert.MixOutBwdIdeal.defs (F := Ideal)) (onTc (τ := Cert.MixOutBwdIdeal.τ) (Cert.MixOutBwdIdeal.main (F := Ideal))) ⟨m, fun _ => 0, g⟩ (fun r => (∀ c : Dev Cert.MixOutBwdIdeal.nD,
      r.2.mem ((c.tc : Thread Cert.MixOutBwdIdeal.nD Cert.MixOutBwdIdeal.τ).loc Cert.MixOutBwdIdeal.main_arg0) = m ((c.tc : Thread Cert.MixOutBwdIdeal.nD Cert.MixOutBwdIdeal.τ).loc Cert.MixOutBwdIdeal.main_arg0)
      ∧ r.2.mem ((c.tc : Thread Cert.MixOutBwdIdeal.nD Cert.MixOutBwdIdeal.τ).loc Cert.MixOutBwdIdeal.main_arg1) = m ((c.tc : Thread Cert.MixOutBwdIdeal.nD Cert.MixOutBwdIdeal.τ).loc Cert.MixOutBwdIdeal.main_arg1)
      ∧ r.2.mem ((c.tc : Thread Cert.MixOutBwdIdeal.nD Cert.MixOutBwdIdeal.τ).loc Cert.MixOutBwdIdeal.main_arg2) = m ((c.tc : Thread Cert.MixOutBwdIdeal.nD Cert.MixOutBwdIdeal.τ).loc Cert.MixOutBwdIdeal.main_arg2)
      ∧ r.2.mem ((c.tc : Thread Cert.MixOutBwdIdeal.nD Cert.MixOutBwdIdeal.τ).loc Cert.MixOutBwdIdeal.main_arg3) = m ((c.tc : Thread Cert.MixOutBwdIdeal.nD Cert.MixOutBwdIdeal.τ).loc Cert.MixOutBwdIdeal.main_arg3)
      ∧ r.2.mem ((c.tc : Thread Cert.MixOutBwdIdeal.nD Cert.MixOutBwdIdeal.τ).loc Cert.MixOutBwdIdeal.main_arg4) = m ((c.tc : Thread Cert.MixOutBwdIdeal.nD Cert.MixOutBwdIdeal.τ).loc Cert.MixOutBwdIdeal.main_arg4))
      ∧ r.2.sem = fun _ => 0)

def quiescent_MixOutBwdRefIdeal [hMixOutBwdRefIdeal : Cert.MixOutBwdRefIdeal.Facts] : Prop :=
  ∀ (m : (ℓ : Loc Cert.MixOutBwdRefIdeal.nD Cert.MixOutBwdRefIdeal.τ Cert.MixOutBwdRefIdeal.sig) → Buf (Elt Ideal) ℓ) (g : Dev Cert.MixOutBwdRefIdeal.nD → PrngReg), Pre_MixOutBwdRefIdeal m →
    θ_run (Cert.MixOutBwdRefIdeal.defs (F := Ideal)) (onTc (τ := Cert.MixOutBwdRefIdeal.τ) (Cert.MixOutBwdRefIdeal.main (F := Ideal))) ⟨m, fun _ => 0, g⟩ (fun r => (∀ c : Dev Cert.MixOutBwdRefIdeal.nD,
      r.2.mem ((c.tc : Thread Cert.MixOutBwdRefIdeal.nD Cert.MixOutBwdRefIdeal.τ).loc Cert.MixOutBwdRefIdeal.main_arg0) = m ((c.tc : Thread Cert.MixOutBwdRefIdeal.nD Cert.MixOutBwdRefIdeal.τ).loc Cert.MixOutBwdRefIdeal.main_arg0)
      ∧ r.2.mem ((c.tc : Thread Cert.MixOutBwdRefIdeal.nD Cert.MixOutBwdRefIdeal.τ).loc Cert.MixOutBwdRefIdeal.main_arg1) = m ((c.tc : Thread Cert.MixOutBwdRefIdeal.nD Cert.MixOutBwdRefIdeal.τ).loc Cert.MixOutBwdRefIdeal.main_arg1)
      ∧ r.2.mem ((c.tc : Thread Cert.MixOutBwdRefIdeal.nD Cert.MixOutBwdRefIdeal.τ).loc Cert.MixOutBwdRefIdeal.main_arg2) = m ((c.tc : Thread Cert.MixOutBwdRefIdeal.nD Cert.MixOutBwdRefIdeal.τ).loc Cert.MixOutBwdRefIdeal.main_arg2)
      ∧ r.2.mem ((c.tc : Thread Cert.MixOutBwdRefIdeal.nD Cert.MixOutBwdRefIdeal.τ).loc Cert.MixOutBwdRefIdeal.main_arg3) = m ((c.tc : Thread Cert.MixOutBwdRefIdeal.nD Cert.MixOutBwdRefIdeal.τ).loc Cert.MixOutBwdRefIdeal.main_arg3)
      ∧ r.2.mem ((c.tc : Thread Cert.MixOutBwdRefIdeal.nD Cert.MixOutBwdRefIdeal.τ).loc Cert.MixOutBwdRefIdeal.main_arg4) = m ((c.tc : Thread Cert.MixOutBwdRefIdeal.nD Cert.MixOutBwdRefIdeal.τ).loc Cert.MixOutBwdRefIdeal.main_arg4))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def preserves_Sb_SbIdeal : Prop :=
  True

def algebraic_SbIdeal_SbRefIdeal_pre_sb_finite [hSbIdeal : Cert.SbIdeal.Facts] [hSbRefIdeal : Cert.SbRefIdeal.Facts] [hPre_sb_finite : Cert.Pre_sb_finite.Facts] : Prop :=
  ∀ (m : (ℓ : Loc Cert.SbIdeal.nD Cert.SbIdeal.τ Cert.SbIdeal.sig) → Buf (Elt Ideal) ℓ) (g : Dev Cert.SbIdeal.nD → PrngReg)
    (m' : (ℓ : Loc Cert.SbRefIdeal.nD Cert.SbRefIdeal.τ Cert.SbRefIdeal.sig) → Buf (Elt Ideal) ℓ) (g' : Dev Cert.SbRefIdeal.nD → PrngReg), Pre_SbIdeal_sb_finite m →
    (∀ c : Dev Cert.SbIdeal.nD,
      m' ((c.tc : Thread Cert.SbRefIdeal.nD Cert.SbRefIdeal.τ).loc Cert.SbRefIdeal.main_arg0) = m ((c.tc : Thread Cert.SbIdeal.nD Cert.SbIdeal.τ).loc Cert.SbIdeal.main_arg0)
      ∧ m' ((c.tc : Thread Cert.SbRefIdeal.nD Cert.SbRefIdeal.τ).loc Cert.SbRefIdeal.main_arg1) = m ((c.tc : Thread Cert.SbIdeal.nD Cert.SbIdeal.τ).loc Cert.SbIdeal.main_arg1)
      ∧ m' ((c.tc : Thread Cert.SbRefIdeal.nD Cert.SbRefIdeal.τ).loc Cert.SbRefIdeal.main_arg2) = m ((c.tc : Thread Cert.SbIdeal.nD Cert.SbIdeal.τ).loc Cert.SbIdeal.main_arg2)
      ∧ m' ((c.tc : Thread Cert.SbRefIdeal.nD Cert.SbRefIdeal.τ).loc Cert.SbRefIdeal.main_arg3) = m ((c.tc : Thread Cert.SbIdeal.nD Cert.SbIdeal.τ).loc Cert.SbIdeal.main_arg3)
      ∧ m' ((c.tc : Thread Cert.SbRefIdeal.nD Cert.SbRefIdeal.τ).loc Cert.SbRefIdeal.main_arg4) = m ((c.tc : Thread Cert.SbIdeal.nD Cert.SbIdeal.τ).loc Cert.SbIdeal.main_arg4)) →
    ∃ (v0 : (c : Dev Cert.SbIdeal.nD) → Buf (Elt Ideal) ((c.tc : Thread Cert.SbIdeal.nD Cert.SbIdeal.τ).loc Cert.SbIdeal.main_v50_0)) (v1 : (c : Dev Cert.SbIdeal.nD) → Buf (Elt Ideal) ((c.tc : Thread Cert.SbIdeal.nD Cert.SbIdeal.τ).loc Cert.SbIdeal.main_v50_1)) (v2 : (c : Dev Cert.SbIdeal.nD) → Buf (Elt Ideal) ((c.tc : Thread Cert.SbIdeal.nD Cert.SbIdeal.τ).loc Cert.SbIdeal.main_v50_2)) (v3 : (c : Dev Cert.SbIdeal.nD) → Buf (Elt Ideal) ((c.tc : Thread Cert.SbIdeal.nD Cert.SbIdeal.τ).loc Cert.SbIdeal.main_v55)),
      θ_run (Cert.SbIdeal.defs (F := Ideal)) (onTc (τ := Cert.SbIdeal.τ) (Cert.SbIdeal.main (F := Ideal))) ⟨m, fun _ => 0, g⟩ (fun r => ∀ c : Dev Cert.SbIdeal.nD,
          r.2.mem ((c.tc : Thread Cert.SbIdeal.nD Cert.SbIdeal.τ).loc Cert.SbIdeal.main_v50_0) = v0 c
          ∧ r.2.mem ((c.tc : Thread Cert.SbIdeal.nD Cert.SbIdeal.τ).loc Cert.SbIdeal.main_v50_1) = v1 c
          ∧ r.2.mem ((c.tc : Thread Cert.SbIdeal.nD Cert.SbIdeal.τ).loc Cert.SbIdeal.main_v50_2) = v2 c
          ∧ r.2.mem ((c.tc : Thread Cert.SbIdeal.nD Cert.SbIdeal.τ).loc Cert.SbIdeal.main_v55) = v3 c
          ∧ r.2.mem ((c.tc : Thread Cert.SbIdeal.nD Cert.SbIdeal.τ).loc Cert.SbIdeal.main_arg0) = m ((c.tc : Thread Cert.SbIdeal.nD Cert.SbIdeal.τ).loc Cert.SbIdeal.main_arg0)
          ∧ r.2.mem ((c.tc : Thread Cert.SbIdeal.nD Cert.SbIdeal.τ).loc Cert.SbIdeal.main_arg1) = m ((c.tc : Thread Cert.SbIdeal.nD Cert.SbIdeal.τ).loc Cert.SbIdeal.main_arg1)
          ∧ r.2.mem ((c.tc : Thread Cert.SbIdeal.nD Cert.SbIdeal.τ).loc Cert.SbIdeal.main_arg2) = m ((c.tc : Thread Cert.SbIdeal.nD Cert.SbIdeal.τ).loc Cert.SbIdeal.main_arg2)
          ∧ r.2.mem ((c.tc : Thread Cert.SbIdeal.nD Cert.SbIdeal.τ).loc Cert.SbIdeal.main_arg3) = m ((c.tc : Thread Cert.SbIdeal.nD Cert.SbIdeal.τ).loc Cert.SbIdeal.main_arg3)
          ∧ r.2.mem ((c.tc : Thread Cert.SbIdeal.nD Cert.SbIdeal.τ).loc Cert.SbIdeal.main_arg4) = m ((c.tc : Thread Cert.SbIdeal.nD Cert.SbIdeal.τ).loc Cert.SbIdeal.main_arg4))
      ∧ θ_run (Cert.SbRefIdeal.defs (F := Ideal)) (onTc (τ := Cert.SbRefIdeal.τ) (Cert.SbRefIdeal.main (F := Ideal))) ⟨m', fun _ => 0, g'⟩ (fun r => ∀ c : Dev Cert.SbRefIdeal.nD,
          r.2.mem ((c.tc : Thread Cert.SbRefIdeal.nD Cert.SbRefIdeal.τ).loc Cert.SbRefIdeal.main_v88) = v0 c
          ∧ r.2.mem ((c.tc : Thread Cert.SbRefIdeal.nD Cert.SbRefIdeal.τ).loc Cert.SbRefIdeal.main_v89) = v1 c
          ∧ r.2.mem ((c.tc : Thread Cert.SbRefIdeal.nD Cert.SbRefIdeal.τ).loc Cert.SbRefIdeal.main_v90) = v2 c
          ∧ r.2.mem ((c.tc : Thread Cert.SbRefIdeal.nD Cert.SbRefIdeal.τ).loc Cert.SbRefIdeal.main_v49) = v3 c
          ∧ r.2.mem ((c.tc : Thread Cert.SbRefIdeal.nD Cert.SbRefIdeal.τ).loc Cert.SbRefIdeal.main_arg0) = m' ((c.tc : Thread Cert.SbRefIdeal.nD Cert.SbRefIdeal.τ).loc Cert.SbRefIdeal.main_arg0)
          ∧ r.2.mem ((c.tc : Thread Cert.SbRefIdeal.nD Cert.SbRefIdeal.τ).loc Cert.SbRefIdeal.main_arg1) = m' ((c.tc : Thread Cert.SbRefIdeal.nD Cert.SbRefIdeal.τ).loc Cert.SbRefIdeal.main_arg1)
          ∧ r.2.mem ((c.tc : Thread Cert.SbRefIdeal.nD Cert.SbRefIdeal.τ).loc Cert.SbRefIdeal.main_arg2) = m' ((c.tc : Thread Cert.SbRefIdeal.nD Cert.SbRefIdeal.τ).loc Cert.SbRefIdeal.main_arg2)
          ∧ r.2.mem ((c.tc : Thread Cert.SbRefIdeal.nD Cert.SbRefIdeal.τ).loc Cert.SbRefIdeal.main_arg3) = m' ((c.tc : Thread Cert.SbRefIdeal.nD Cert.SbRefIdeal.τ).loc Cert.SbRefIdeal.main_arg3)
          ∧ r.2.mem ((c.tc : Thread Cert.SbRefIdeal.nD Cert.SbRefIdeal.τ).loc Cert.SbRefIdeal.main_arg4) = m' ((c.tc : Thread Cert.SbRefIdeal.nD Cert.SbRefIdeal.τ).loc Cert.SbRefIdeal.main_arg4))

def preserves_Loss_LossIdeal : Prop :=
  True

def algebraic_LossIdeal_LossRefIdeal_pre_loss_finite [hLossIdeal : Cert.LossIdeal.Facts] [hLossRefIdeal : Cert.LossRefIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_loss_finite m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v2_0)) (v1 : (c : Dev Cert.LossIdeal.nD) → Buf (Elt Ideal) ((c.tc : Thread Cert.LossIdeal.nD Cert.LossIdeal.τ).loc Cert.LossIdeal.main_v2_1)) (v2 : (c : Dev Cert.LossIdeal.nD) → Buf (Elt Ideal) ((c.tc : Thread Cert.LossIdeal.nD Cert.LossIdeal.τ).loc Cert.LossIdeal.main_v2_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v2_0) = v0 c
          ∧ r.2.mem ((c.tc : Thread Cert.LossIdeal.nD Cert.LossIdeal.τ).loc Cert.LossIdeal.main_v2_1) = v1 c
          ∧ r.2.mem ((c.tc : Thread Cert.LossIdeal.nD Cert.LossIdeal.τ).loc Cert.LossIdeal.main_v2_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v53) = v0 c
          ∧ r.2.mem ((c.tc : Thread Cert.LossRefIdeal.nD Cert.LossRefIdeal.τ).loc Cert.LossRefIdeal.main_v54) = v1 c
          ∧ r.2.mem ((c.tc : Thread Cert.LossRefIdeal.nD Cert.LossRefIdeal.τ).loc Cert.LossRefIdeal.main_v55) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_Ffn_FfnIdeal : Prop :=
  True

def algebraic_FfnIdeal_FfnRefIdeal_pre_ffn_finite [hFfnIdeal : Cert.FfnIdeal.Facts] [hFfnRefIdeal : Cert.FfnRefIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_ffn_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v26_0)) (v1 : (c : Dev Cert.FfnIdeal.nD) → Buf (Elt Ideal) ((c.tc : Thread Cert.FfnIdeal.nD Cert.FfnIdeal.τ).loc Cert.FfnIdeal.main_v26_1)) (v2 : (c : Dev Cert.FfnIdeal.nD) → Buf (Elt Ideal) ((c.tc : Thread Cert.FfnIdeal.nD Cert.FfnIdeal.τ).loc Cert.FfnIdeal.main_v26_2)) (v3 : (c : Dev Cert.FfnIdeal.nD) → Buf (Elt Ideal) ((c.tc : Thread Cert.FfnIdeal.nD Cert.FfnIdeal.τ).loc Cert.FfnIdeal.main_v26_3)) (v4 : (c : Dev Cert.FfnIdeal.nD) → Buf (Elt Ideal) ((c.tc : Thread Cert.FfnIdeal.nD Cert.FfnIdeal.τ).loc Cert.FfnIdeal.main_v26_4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v26_0) = v0 c
          ∧ r.2.mem ((c.tc : Thread Cert.FfnIdeal.nD Cert.FfnIdeal.τ).loc Cert.FfnIdeal.main_v26_1) = v1 c
          ∧ r.2.mem ((c.tc : Thread Cert.FfnIdeal.nD Cert.FfnIdeal.τ).loc Cert.FfnIdeal.main_v26_2) = v2 c
          ∧ r.2.mem ((c.tc : Thread Cert.FfnIdeal.nD Cert.FfnIdeal.τ).loc Cert.FfnIdeal.main_v26_3) = v3 c
          ∧ r.2.mem ((c.tc : Thread Cert.FfnIdeal.nD Cert.FfnIdeal.τ).loc Cert.FfnIdeal.main_v26_4) = v4 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v58) = v0 c
          ∧ r.2.mem ((c.tc : Thread Cert.FfnRefIdeal.nD Cert.FfnRefIdeal.τ).loc Cert.FfnRefIdeal.main_v60) = v1 c
          ∧ r.2.mem ((c.tc : Thread Cert.FfnRefIdeal.nD Cert.FfnRefIdeal.τ).loc Cert.FfnRefIdeal.main_v62) = v2 c
          ∧ r.2.mem ((c.tc : Thread Cert.FfnRefIdeal.nD Cert.FfnRefIdeal.τ).loc Cert.FfnRefIdeal.main_v64) = v3 c
          ∧ r.2.mem ((c.tc : Thread Cert.FfnRefIdeal.nD Cert.FfnRefIdeal.τ).loc Cert.FfnRefIdeal.main_v65) = v4 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_MixIn_MixInIdeal : Prop :=
  True

def algebraic_MixInIdeal_MixInRefIdeal_pre_mixin_finite [hMixInIdeal : Cert.MixInIdeal.Facts] [hMixInRefIdeal : Cert.MixInRefIdeal.Facts] [hPre_mixin_finite : Cert.Pre_mixin_finite.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal_mixin_finite m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)
      ∧ m' ((c.tc : Thread Cert.MixInRefIdeal.nD Cert.MixInRefIdeal.τ).loc Cert.MixInRefIdeal.main_arg2) = m ((c.tc : Thread Cert.MixInIdeal.nD Cert.MixInIdeal.τ).loc Cert.MixInIdeal.main_arg2)
      ∧ m' ((c.tc : Thread Cert.MixInRefIdeal.nD Cert.MixInRefIdeal.τ).loc Cert.MixInRefIdeal.main_arg3) = m ((c.tc : Thread Cert.MixInIdeal.nD Cert.MixInIdeal.τ).loc Cert.MixInIdeal.main_arg3)
      ∧ m' ((c.tc : Thread Cert.MixInRefIdeal.nD Cert.MixInRefIdeal.τ).loc Cert.MixInRefIdeal.main_arg4) = m ((c.tc : Thread Cert.MixInIdeal.nD Cert.MixInIdeal.τ).loc Cert.MixInIdeal.main_arg4)
      ∧ m' ((c.tc : Thread Cert.MixInRefIdeal.nD Cert.MixInRefIdeal.τ).loc Cert.MixInRefIdeal.main_arg5) = m ((c.tc : Thread Cert.MixInIdeal.nD Cert.MixInIdeal.τ).loc Cert.MixInIdeal.main_arg5)
      ∧ m' ((c.tc : Thread Cert.MixInRefIdeal.nD Cert.MixInRefIdeal.τ).loc Cert.MixInRefIdeal.main_arg6) = m ((c.tc : Thread Cert.MixInIdeal.nD Cert.MixInIdeal.τ).loc Cert.MixInIdeal.main_arg6)
      ∧ m' ((c.tc : Thread Cert.MixInRefIdeal.nD Cert.MixInRefIdeal.τ).loc Cert.MixInRefIdeal.main_arg7) = m ((c.tc : Thread Cert.MixInIdeal.nD Cert.MixInIdeal.τ).loc Cert.MixInIdeal.main_arg7)
      ∧ m' ((c.tc : Thread Cert.MixInRefIdeal.nD Cert.MixInRefIdeal.τ).loc Cert.MixInRefIdeal.main_arg8) = m ((c.tc : Thread Cert.MixInIdeal.nD Cert.MixInIdeal.τ).loc Cert.MixInIdeal.main_arg8)
      ∧ m' ((c.tc : Thread Cert.MixInRefIdeal.nD Cert.MixInRefIdeal.τ).loc Cert.MixInRefIdeal.main_arg9) = m ((c.tc : Thread Cert.MixInIdeal.nD Cert.MixInIdeal.τ).loc Cert.MixInIdeal.main_arg9)
      ∧ m' ((c.tc : Thread Cert.MixInRefIdeal.nD Cert.MixInRefIdeal.τ).loc Cert.MixInRefIdeal.main_arg10) = m ((c.tc : Thread Cert.MixInIdeal.nD Cert.MixInIdeal.τ).loc Cert.MixInIdeal.main_arg10)
      ∧ m' ((c.tc : Thread Cert.MixInRefIdeal.nD Cert.MixInRefIdeal.τ).loc Cert.MixInRefIdeal.main_arg11) = m ((c.tc : Thread Cert.MixInIdeal.nD Cert.MixInIdeal.τ).loc Cert.MixInIdeal.main_arg11)) →
    ∃ (v0 : (c : Dev Cert.MixInIdeal.nD) → Buf (Elt Ideal) ((c.tc : Thread Cert.MixInIdeal.nD Cert.MixInIdeal.τ).loc Cert.MixInIdeal.main_v19_0)) (v1 : (c : Dev Cert.MixInIdeal.nD) → Buf (Elt Ideal) ((c.tc : Thread Cert.MixInIdeal.nD Cert.MixInIdeal.τ).loc Cert.MixInIdeal.main_v19_1)) (v2 : (c : Dev Cert.MixInIdeal.nD) → Buf (Elt Ideal) ((c.tc : Thread Cert.MixInIdeal.nD Cert.MixInIdeal.τ).loc Cert.MixInIdeal.main_v19_2)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v19_0) = v0 c
          ∧ r.2.mem ((c.tc : Thread Cert.MixInIdeal.nD Cert.MixInIdeal.τ).loc Cert.MixInIdeal.main_v19_1) = v1 c
          ∧ r.2.mem ((c.tc : Thread Cert.MixInIdeal.nD Cert.MixInIdeal.τ).loc Cert.MixInIdeal.main_v19_2) = v2 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
          ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
          ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
          ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4)
          ∧ r.2.mem ((c.tc : Thread Cert.MixInIdeal.nD Cert.MixInIdeal.τ).loc Cert.MixInIdeal.main_arg5) = m ((c.tc : Thread Cert.MixInIdeal.nD Cert.MixInIdeal.τ).loc Cert.MixInIdeal.main_arg5)
          ∧ r.2.mem ((c.tc : Thread Cert.MixInIdeal.nD Cert.MixInIdeal.τ).loc Cert.MixInIdeal.main_arg6) = m ((c.tc : Thread Cert.MixInIdeal.nD Cert.MixInIdeal.τ).loc Cert.MixInIdeal.main_arg6)
          ∧ r.2.mem ((c.tc : Thread Cert.MixInIdeal.nD Cert.MixInIdeal.τ).loc Cert.MixInIdeal.main_arg7) = m ((c.tc : Thread Cert.MixInIdeal.nD Cert.MixInIdeal.τ).loc Cert.MixInIdeal.main_arg7)
          ∧ r.2.mem ((c.tc : Thread Cert.MixInIdeal.nD Cert.MixInIdeal.τ).loc Cert.MixInIdeal.main_arg8) = m ((c.tc : Thread Cert.MixInIdeal.nD Cert.MixInIdeal.τ).loc Cert.MixInIdeal.main_arg8)
          ∧ r.2.mem ((c.tc : Thread Cert.MixInIdeal.nD Cert.MixInIdeal.τ).loc Cert.MixInIdeal.main_arg9) = m ((c.tc : Thread Cert.MixInIdeal.nD Cert.MixInIdeal.τ).loc Cert.MixInIdeal.main_arg9)
          ∧ r.2.mem ((c.tc : Thread Cert.MixInIdeal.nD Cert.MixInIdeal.τ).loc Cert.MixInIdeal.main_arg10) = m ((c.tc : Thread Cert.MixInIdeal.nD Cert.MixInIdeal.τ).loc Cert.MixInIdeal.main_arg10)
          ∧ r.2.mem ((c.tc : Thread Cert.MixInIdeal.nD Cert.MixInIdeal.τ).loc Cert.MixInIdeal.main_arg11) = m ((c.tc : Thread Cert.MixInIdeal.nD Cert.MixInIdeal.τ).loc Cert.MixInIdeal.main_arg11))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v55) = v0 c
          ∧ r.2.mem ((c.tc : Thread Cert.MixInRefIdeal.nD Cert.MixInRefIdeal.τ).loc Cert.MixInRefIdeal.main_v57) = v1 c
          ∧ r.2.mem ((c.tc : Thread Cert.MixInRefIdeal.nD Cert.MixInRefIdeal.τ).loc Cert.MixInRefIdeal.main_v58) = v2 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1)
          ∧ r.2.mem ((c.tc : Thread Cert.MixInRefIdeal.nD Cert.MixInRefIdeal.τ).loc Cert.MixInRefIdeal.main_arg2) = m' ((c.tc : Thread Cert.MixInRefIdeal.nD Cert.MixInRefIdeal.τ).loc Cert.MixInRefIdeal.main_arg2)
          ∧ r.2.mem ((c.tc : Thread Cert.MixInRefIdeal.nD Cert.MixInRefIdeal.τ).loc Cert.MixInRefIdeal.main_arg3) = m' ((c.tc : Thread Cert.MixInRefIdeal.nD Cert.MixInRefIdeal.τ).loc Cert.MixInRefIdeal.main_arg3)
          ∧ r.2.mem ((c.tc : Thread Cert.MixInRefIdeal.nD Cert.MixInRefIdeal.τ).loc Cert.MixInRefIdeal.main_arg4) = m' ((c.tc : Thread Cert.MixInRefIdeal.nD Cert.MixInRefIdeal.τ).loc Cert.MixInRefIdeal.main_arg4)
          ∧ r.2.mem ((c.tc : Thread Cert.MixInRefIdeal.nD Cert.MixInRefIdeal.τ).loc Cert.MixInRefIdeal.main_arg5) = m' ((c.tc : Thread Cert.MixInRefIdeal.nD Cert.MixInRefIdeal.τ).loc Cert.MixInRefIdeal.main_arg5)
          ∧ r.2.mem ((c.tc : Thread Cert.MixInRefIdeal.nD Cert.MixInRefIdeal.τ).loc Cert.MixInRefIdeal.main_arg6) = m' ((c.tc : Thread Cert.MixInRefIdeal.nD Cert.MixInRefIdeal.τ).loc Cert.MixInRefIdeal.main_arg6)
          ∧ r.2.mem ((c.tc : Thread Cert.MixInRefIdeal.nD Cert.MixInRefIdeal.τ).loc Cert.MixInRefIdeal.main_arg7) = m' ((c.tc : Thread Cert.MixInRefIdeal.nD Cert.MixInRefIdeal.τ).loc Cert.MixInRefIdeal.main_arg7)
          ∧ r.2.mem ((c.tc : Thread Cert.MixInRefIdeal.nD Cert.MixInRefIdeal.τ).loc Cert.MixInRefIdeal.main_arg8) = m' ((c.tc : Thread Cert.MixInRefIdeal.nD Cert.MixInRefIdeal.τ).loc Cert.MixInRefIdeal.main_arg8)
          ∧ r.2.mem ((c.tc : Thread Cert.MixInRefIdeal.nD Cert.MixInRefIdeal.τ).loc Cert.MixInRefIdeal.main_arg9) = m' ((c.tc : Thread Cert.MixInRefIdeal.nD Cert.MixInRefIdeal.τ).loc Cert.MixInRefIdeal.main_arg9)
          ∧ r.2.mem ((c.tc : Thread Cert.MixInRefIdeal.nD Cert.MixInRefIdeal.τ).loc Cert.MixInRefIdeal.main_arg10) = m' ((c.tc : Thread Cert.MixInRefIdeal.nD Cert.MixInRefIdeal.τ).loc Cert.MixInRefIdeal.main_arg10)
          ∧ r.2.mem ((c.tc : Thread Cert.MixInRefIdeal.nD Cert.MixInRefIdeal.τ).loc Cert.MixInRefIdeal.main_arg11) = m' ((c.tc : Thread Cert.MixInRefIdeal.nD Cert.MixInRefIdeal.τ).loc Cert.MixInRefIdeal.main_arg11))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v3_0)) (v1 : (c : Dev Cert.ConvIdeal.nD) → Buf (Elt Ideal) ((c.tc : Thread Cert.ConvIdeal.nD Cert.ConvIdeal.τ).loc Cert.ConvIdeal.main_v3_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v3_0) = v0 c
          ∧ r.2.mem ((c.tc : Thread Cert.ConvIdeal.nD Cert.ConvIdeal.τ).loc Cert.ConvIdeal.main_v3_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v78) = v0 c
          ∧ r.2.mem ((c.tc : Thread Cert.ConvRefIdeal.nD Cert.ConvRefIdeal.τ).loc Cert.ConvRefIdeal.main_v79) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_SbFwd_SbFwdIdeal : Prop :=
  True

def algebraic_SbFwdIdeal_SbFwdRefIdeal_pre_sbf_finite [hSbFwdIdeal : Cert.SbFwdIdeal.Facts] [hSbFwdRefIdeal : Cert.SbFwdRefIdeal.Facts] [hPre_sbf_finite : Cert.Pre_sbf_finite.Facts] : Prop :=
  ∀ (m : (ℓ : Loc Cert.SbFwdIdeal.nD Cert.SbFwdIdeal.τ Cert.SbFwdIdeal.sig) → Buf (Elt Ideal) ℓ) (g : Dev Cert.SbFwdIdeal.nD → PrngReg)
    (m' : (ℓ : Loc Cert.SbFwdRefIdeal.nD Cert.SbFwdRefIdeal.τ Cert.SbFwdRefIdeal.sig) → Buf (Elt Ideal) ℓ) (g' : Dev Cert.SbFwdRefIdeal.nD → PrngReg), Pre_SbFwdIdeal_sbf_finite m →
    (∀ c : Dev Cert.SbFwdIdeal.nD,
      m' ((c.tc : Thread Cert.SbFwdRefIdeal.nD Cert.SbFwdRefIdeal.τ).loc Cert.SbFwdRefIdeal.main_arg0) = m ((c.tc : Thread Cert.SbFwdIdeal.nD Cert.SbFwdIdeal.τ).loc Cert.SbFwdIdeal.main_arg0)
      ∧ m' ((c.tc : Thread Cert.SbFwdRefIdeal.nD Cert.SbFwdRefIdeal.τ).loc Cert.SbFwdRefIdeal.main_arg1) = m ((c.tc : Thread Cert.SbFwdIdeal.nD Cert.SbFwdIdeal.τ).loc Cert.SbFwdIdeal.main_arg1)
      ∧ m' ((c.tc : Thread Cert.SbFwdRefIdeal.nD Cert.SbFwdRefIdeal.τ).loc Cert.SbFwdRefIdeal.main_arg2) = m ((c.tc : Thread Cert.SbFwdIdeal.nD Cert.SbFwdIdeal.τ).loc Cert.SbFwdIdeal.main_arg2)
      ∧ m' ((c.tc : Thread Cert.SbFwdRefIdeal.nD Cert.SbFwdRefIdeal.τ).loc Cert.SbFwdRefIdeal.main_arg3) = m ((c.tc : Thread Cert.SbFwdIdeal.nD Cert.SbFwdIdeal.τ).loc Cert.SbFwdIdeal.main_arg3)) →
    ∃ (v0 : (c : Dev Cert.SbFwdIdeal.nD) → Buf (Elt Ideal) ((c.tc : Thread Cert.SbFwdIdeal.nD Cert.SbFwdIdeal.τ).loc Cert.SbFwdIdeal.main_v7_0)) (v1 : (c : Dev Cert.SbFwdIdeal.nD) → Buf (Elt Ideal) ((c.tc : Thread Cert.SbFwdIdeal.nD Cert.SbFwdIdeal.τ).loc Cert.SbFwdIdeal.main_v7_1)) (v2 : (c : Dev Cert.SbFwdIdeal.nD) → Buf (Elt Ideal) ((c.tc : Thread Cert.SbFwdIdeal.nD Cert.SbFwdIdeal.τ).loc Cert.SbFwdIdeal.main_v7_2)),
      θ_run (Cert.SbFwdIdeal.defs (F := Ideal)) (onTc (τ := Cert.SbFwdIdeal.τ) (Cert.SbFwdIdeal.main (F := Ideal))) ⟨m, fun _ => 0, g⟩ (fun r => ∀ c : Dev Cert.SbFwdIdeal.nD,
          r.2.mem ((c.tc : Thread Cert.SbFwdIdeal.nD Cert.SbFwdIdeal.τ).loc Cert.SbFwdIdeal.main_v7_0) = v0 c
          ∧ r.2.mem ((c.tc : Thread Cert.SbFwdIdeal.nD Cert.SbFwdIdeal.τ).loc Cert.SbFwdIdeal.main_v7_1) = v1 c
          ∧ r.2.mem ((c.tc : Thread Cert.SbFwdIdeal.nD Cert.SbFwdIdeal.τ).loc Cert.SbFwdIdeal.main_v7_2) = v2 c
          ∧ r.2.mem ((c.tc : Thread Cert.SbFwdIdeal.nD Cert.SbFwdIdeal.τ).loc Cert.SbFwdIdeal.main_arg0) = m ((c.tc : Thread Cert.SbFwdIdeal.nD Cert.SbFwdIdeal.τ).loc Cert.SbFwdIdeal.main_arg0)
          ∧ r.2.mem ((c.tc : Thread Cert.SbFwdIdeal.nD Cert.SbFwdIdeal.τ).loc Cert.SbFwdIdeal.main_arg1) = m ((c.tc : Thread Cert.SbFwdIdeal.nD Cert.SbFwdIdeal.τ).loc Cert.SbFwdIdeal.main_arg1)
          ∧ r.2.mem ((c.tc : Thread Cert.SbFwdIdeal.nD Cert.SbFwdIdeal.τ).loc Cert.SbFwdIdeal.main_arg2) = m ((c.tc : Thread Cert.SbFwdIdeal.nD Cert.SbFwdIdeal.τ).loc Cert.SbFwdIdeal.main_arg2)
          ∧ r.2.mem ((c.tc : Thread Cert.SbFwdIdeal.nD Cert.SbFwdIdeal.τ).loc Cert.SbFwdIdeal.main_arg3) = m ((c.tc : Thread Cert.SbFwdIdeal.nD Cert.SbFwdIdeal.τ).loc Cert.SbFwdIdeal.main_arg3))
      ∧ θ_run (Cert.SbFwdRefIdeal.defs (F := Ideal)) (onTc (τ := Cert.SbFwdRefIdeal.τ) (Cert.SbFwdRefIdeal.main (F := Ideal))) ⟨m', fun _ => 0, g'⟩ (fun r => ∀ c : Dev Cert.SbFwdRefIdeal.nD,
          r.2.mem ((c.tc : Thread Cert.SbFwdRefIdeal.nD Cert.SbFwdRefIdeal.τ).loc Cert.SbFwdRefIdeal.main_v48) = v0 c
          ∧ r.2.mem ((c.tc : Thread Cert.SbFwdRefIdeal.nD Cert.SbFwdRefIdeal.τ).loc Cert.SbFwdRefIdeal.main_v63) = v1 c
          ∧ r.2.mem ((c.tc : Thread Cert.SbFwdRefIdeal.nD Cert.SbFwdRefIdeal.τ).loc Cert.SbFwdRefIdeal.main_v65) = v2 c
          ∧ r.2.mem ((c.tc : Thread Cert.SbFwdRefIdeal.nD Cert.SbFwdRefIdeal.τ).loc Cert.SbFwdRefIdeal.main_arg0) = m' ((c.tc : Thread Cert.SbFwdRefIdeal.nD Cert.SbFwdRefIdeal.τ).loc Cert.SbFwdRefIdeal.main_arg0)
          ∧ r.2.mem ((c.tc : Thread Cert.SbFwdRefIdeal.nD Cert.SbFwdRefIdeal.τ).loc Cert.SbFwdRefIdeal.main_arg1) = m' ((c.tc : Thread Cert.SbFwdRefIdeal.nD Cert.SbFwdRefIdeal.τ).loc Cert.SbFwdRefIdeal.main_arg1)
          ∧ r.2.mem ((c.tc : Thread Cert.SbFwdRefIdeal.nD Cert.SbFwdRefIdeal.τ).loc Cert.SbFwdRefIdeal.main_arg2) = m' ((c.tc : Thread Cert.SbFwdRefIdeal.nD Cert.SbFwdRefIdeal.τ).loc Cert.SbFwdRefIdeal.main_arg2)
          ∧ r.2.mem ((c.tc : Thread Cert.SbFwdRefIdeal.nD Cert.SbFwdRefIdeal.τ).loc Cert.SbFwdRefIdeal.main_arg3) = m' ((c.tc : Thread Cert.SbFwdRefIdeal.nD Cert.SbFwdRefIdeal.τ).loc Cert.SbFwdRefIdeal.main_arg3))

def preserves_Pre_PreIdeal : Prop :=
  True

def algebraic_PreIdeal_PreRefIdeal_pre_pre_finite [hPreIdeal : Cert.PreIdeal.Facts] [hPreRefIdeal : Cert.PreRefIdeal.Facts] [hPre_pre_finite : Cert.Pre_pre_finite.Facts] : Prop :=
  ∀ (m : (ℓ : Loc Cert.PreIdeal.nD Cert.PreIdeal.τ Cert.PreIdeal.sig) → Buf (Elt Ideal) ℓ) (g : Dev Cert.PreIdeal.nD → PrngReg)
    (m' : (ℓ : Loc Cert.PreRefIdeal.nD Cert.PreRefIdeal.τ Cert.PreRefIdeal.sig) → Buf (Elt Ideal) ℓ) (g' : Dev Cert.PreRefIdeal.nD → PrngReg), Pre_PreIdeal_pre_finite m →
    (∀ c : Dev Cert.PreIdeal.nD,
      m' ((c.tc : Thread Cert.PreRefIdeal.nD Cert.PreRefIdeal.τ).loc Cert.PreRefIdeal.main_arg0) = m ((c.tc : Thread Cert.PreIdeal.nD Cert.PreIdeal.τ).loc Cert.PreIdeal.main_arg0)
      ∧ m' ((c.tc : Thread Cert.PreRefIdeal.nD Cert.PreRefIdeal.τ).loc Cert.PreRefIdeal.main_arg1) = m ((c.tc : Thread Cert.PreIdeal.nD Cert.PreIdeal.τ).loc Cert.PreIdeal.main_arg1)
      ∧ m' ((c.tc : Thread Cert.PreRefIdeal.nD Cert.PreRefIdeal.τ).loc Cert.PreRefIdeal.main_arg2) = m ((c.tc : Thread Cert.PreIdeal.nD Cert.PreIdeal.τ).loc Cert.PreIdeal.main_arg2)
      ∧ m' ((c.tc : Thread Cert.PreRefIdeal.nD Cert.PreRefIdeal.τ).loc Cert.PreRefIdeal.main_arg3) = m ((c.tc : Thread Cert.PreIdeal.nD Cert.PreIdeal.τ).loc Cert.PreIdeal.main_arg3)
      ∧ m' ((c.tc : Thread Cert.PreRefIdeal.nD Cert.PreRefIdeal.τ).loc Cert.PreRefIdeal.main_arg4) = m ((c.tc : Thread Cert.PreIdeal.nD Cert.PreIdeal.τ).loc Cert.PreIdeal.main_arg4)
      ∧ m' ((c.tc : Thread Cert.PreRefIdeal.nD Cert.PreRefIdeal.τ).loc Cert.PreRefIdeal.main_arg5) = m ((c.tc : Thread Cert.PreIdeal.nD Cert.PreIdeal.τ).loc Cert.PreIdeal.main_arg5)
      ∧ m' ((c.tc : Thread Cert.PreRefIdeal.nD Cert.PreRefIdeal.τ).loc Cert.PreRefIdeal.main_arg6) = m ((c.tc : Thread Cert.PreIdeal.nD Cert.PreIdeal.τ).loc Cert.PreIdeal.main_arg6)
      ∧ m' ((c.tc : Thread Cert.PreRefIdeal.nD Cert.PreRefIdeal.τ).loc Cert.PreRefIdeal.main_arg7) = m ((c.tc : Thread Cert.PreIdeal.nD Cert.PreIdeal.τ).loc Cert.PreIdeal.main_arg7)
      ∧ m' ((c.tc : Thread Cert.PreRefIdeal.nD Cert.PreRefIdeal.τ).loc Cert.PreRefIdeal.main_arg8) = m ((c.tc : Thread Cert.PreIdeal.nD Cert.PreIdeal.τ).loc Cert.PreIdeal.main_arg8)
      ∧ m' ((c.tc : Thread Cert.PreRefIdeal.nD Cert.PreRefIdeal.τ).loc Cert.PreRefIdeal.main_arg9) = m ((c.tc : Thread Cert.PreIdeal.nD Cert.PreIdeal.τ).loc Cert.PreIdeal.main_arg9)
      ∧ m' ((c.tc : Thread Cert.PreRefIdeal.nD Cert.PreRefIdeal.τ).loc Cert.PreRefIdeal.main_arg10) = m ((c.tc : Thread Cert.PreIdeal.nD Cert.PreIdeal.τ).loc Cert.PreIdeal.main_arg10)) →
    ∃ (v0 : (c : Dev Cert.PreIdeal.nD) → Buf (Elt Ideal) ((c.tc : Thread Cert.PreIdeal.nD Cert.PreIdeal.τ).loc Cert.PreIdeal.main_v20_0)) (v1 : (c : Dev Cert.PreIdeal.nD) → Buf (Elt Ideal) ((c.tc : Thread Cert.PreIdeal.nD Cert.PreIdeal.τ).loc Cert.PreIdeal.main_v20_1)) (v2 : (c : Dev Cert.PreIdeal.nD) → Buf (Elt Ideal) ((c.tc : Thread Cert.PreIdeal.nD Cert.PreIdeal.τ).loc Cert.PreIdeal.main_v20_2)),
      θ_run (Cert.PreIdeal.defs (F := Ideal)) (onTc (τ := Cert.PreIdeal.τ) (Cert.PreIdeal.main (F := Ideal))) ⟨m, fun _ => 0, g⟩ (fun r => ∀ c : Dev Cert.PreIdeal.nD,
          r.2.mem ((c.tc : Thread Cert.PreIdeal.nD Cert.PreIdeal.τ).loc Cert.PreIdeal.main_v20_0) = v0 c
          ∧ r.2.mem ((c.tc : Thread Cert.PreIdeal.nD Cert.PreIdeal.τ).loc Cert.PreIdeal.main_v20_1) = v1 c
          ∧ r.2.mem ((c.tc : Thread Cert.PreIdeal.nD Cert.PreIdeal.τ).loc Cert.PreIdeal.main_v20_2) = v2 c
          ∧ r.2.mem ((c.tc : Thread Cert.PreIdeal.nD Cert.PreIdeal.τ).loc Cert.PreIdeal.main_arg0) = m ((c.tc : Thread Cert.PreIdeal.nD Cert.PreIdeal.τ).loc Cert.PreIdeal.main_arg0)
          ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
          ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
          ∧ r.2.mem ((c.tc : Thread Cert.PreIdeal.nD Cert.PreIdeal.τ).loc Cert.PreIdeal.main_arg3) = m ((c.tc : Thread Cert.PreIdeal.nD Cert.PreIdeal.τ).loc Cert.PreIdeal.main_arg3)
          ∧ r.2.mem ((c.tc : Thread Cert.PreIdeal.nD Cert.PreIdeal.τ).loc Cert.PreIdeal.main_arg4) = m ((c.tc : Thread Cert.PreIdeal.nD Cert.PreIdeal.τ).loc Cert.PreIdeal.main_arg4)
          ∧ r.2.mem ((c.tc : Thread Cert.PreIdeal.nD Cert.PreIdeal.τ).loc Cert.PreIdeal.main_arg5) = m ((c.tc : Thread Cert.PreIdeal.nD Cert.PreIdeal.τ).loc Cert.PreIdeal.main_arg5)
          ∧ r.2.mem ((c.tc : Thread Cert.PreIdeal.nD Cert.PreIdeal.τ).loc Cert.PreIdeal.main_arg6) = m ((c.tc : Thread Cert.PreIdeal.nD Cert.PreIdeal.τ).loc Cert.PreIdeal.main_arg6)
          ∧ r.2.mem ((c.tc : Thread Cert.PreIdeal.nD Cert.PreIdeal.τ).loc Cert.PreIdeal.main_arg7) = m ((c.tc : Thread Cert.PreIdeal.nD Cert.PreIdeal.τ).loc Cert.PreIdeal.main_arg7)
          ∧ r.2.mem ((c.tc : Thread Cert.PreIdeal.nD Cert.PreIdeal.τ).loc Cert.PreIdeal.main_arg8) = m ((c.tc : Thread Cert.PreIdeal.nD Cert.PreIdeal.τ).loc Cert.PreIdeal.main_arg8)
          ∧ r.2.mem ((c.tc : Thread Cert.PreIdeal.nD Cert.PreIdeal.τ).loc Cert.PreIdeal.main_arg9) = m ((c.tc : Thread Cert.PreIdeal.nD Cert.PreIdeal.τ).loc Cert.PreIdeal.main_arg9)
          ∧ r.2.mem ((c.tc : Thread Cert.PreIdeal.nD Cert.PreIdeal.τ).loc Cert.PreIdeal.main_arg10) = m ((c.tc : Thread Cert.PreIdeal.nD Cert.PreIdeal.τ).loc Cert.PreIdeal.main_arg10))
      ∧ θ_run (Cert.PreRefIdeal.defs (F := Ideal)) (onTc (τ := Cert.PreRefIdeal.τ) (Cert.PreRefIdeal.main (F := Ideal))) ⟨m', fun _ => 0, g'⟩ (fun r => ∀ c : Dev Cert.PreRefIdeal.nD,
          r.2.mem ((c.tc : Thread Cert.PreRefIdeal.nD Cert.PreRefIdeal.τ).loc Cert.PreRefIdeal.main_v134) = v0 c
          ∧ r.2.mem ((c.tc : Thread Cert.PreRefIdeal.nD Cert.PreRefIdeal.τ).loc Cert.PreRefIdeal.main_v129) = v1 c
          ∧ r.2.mem ((c.tc : Thread Cert.PreRefIdeal.nD Cert.PreRefIdeal.τ).loc Cert.PreRefIdeal.main_v133) = v2 c
          ∧ r.2.mem ((c.tc : Thread Cert.PreRefIdeal.nD Cert.PreRefIdeal.τ).loc Cert.PreRefIdeal.main_arg0) = m' ((c.tc : Thread Cert.PreRefIdeal.nD Cert.PreRefIdeal.τ).loc Cert.PreRefIdeal.main_arg0)
          ∧ r.2.mem ((c.tc : Thread Cert.PreRefIdeal.nD Cert.PreRefIdeal.τ).loc Cert.PreRefIdeal.main_arg1) = m' ((c.tc : Thread Cert.PreRefIdeal.nD Cert.PreRefIdeal.τ).loc Cert.PreRefIdeal.main_arg1)
          ∧ r.2.mem ((c.tc : Thread Cert.PreRefIdeal.nD Cert.PreRefIdeal.τ).loc Cert.PreRefIdeal.main_arg2) = m' ((c.tc : Thread Cert.PreRefIdeal.nD Cert.PreRefIdeal.τ).loc Cert.PreRefIdeal.main_arg2)
          ∧ r.2.mem ((c.tc : Thread Cert.PreRefIdeal.nD Cert.PreRefIdeal.τ).loc Cert.PreRefIdeal.main_arg3) = m' ((c.tc : Thread Cert.PreRefIdeal.nD Cert.PreRefIdeal.τ).loc Cert.PreRefIdeal.main_arg3)
          ∧ r.2.mem ((c.tc : Thread Cert.PreRefIdeal.nD Cert.PreRefIdeal.τ).loc Cert.PreRefIdeal.main_arg4) = m' ((c.tc : Thread Cert.PreRefIdeal.nD Cert.PreRefIdeal.τ).loc Cert.PreRefIdeal.main_arg4)
          ∧ r.2.mem ((c.tc : Thread Cert.PreRefIdeal.nD Cert.PreRefIdeal.τ).loc Cert.PreRefIdeal.main_arg5) = m' ((c.tc : Thread Cert.PreRefIdeal.nD Cert.PreRefIdeal.τ).loc Cert.PreRefIdeal.main_arg5)
          ∧ r.2.mem ((c.tc : Thread Cert.PreRefIdeal.nD Cert.PreRefIdeal.τ).loc Cert.PreRefIdeal.main_arg6) = m' ((c.tc : Thread Cert.PreRefIdeal.nD Cert.PreRefIdeal.τ).loc Cert.PreRefIdeal.main_arg6)
          ∧ r.2.mem ((c.tc : Thread Cert.PreRefIdeal.nD Cert.PreRefIdeal.τ).loc Cert.PreRefIdeal.main_arg7) = m' ((c.tc : Thread Cert.PreRefIdeal.nD Cert.PreRefIdeal.τ).loc Cert.PreRefIdeal.main_arg7)
          ∧ r.2.mem ((c.tc : Thread Cert.PreRefIdeal.nD Cert.PreRefIdeal.τ).loc Cert.PreRefIdeal.main_arg8) = m' ((c.tc : Thread Cert.PreRefIdeal.nD Cert.PreRefIdeal.τ).loc Cert.PreRefIdeal.main_arg8)
          ∧ r.2.mem ((c.tc : Thread Cert.PreRefIdeal.nD Cert.PreRefIdeal.τ).loc Cert.PreRefIdeal.main_arg9) = m' ((c.tc : Thread Cert.PreRefIdeal.nD Cert.PreRefIdeal.τ).loc Cert.PreRefIdeal.main_arg9)
          ∧ r.2.mem ((c.tc : Thread Cert.PreRefIdeal.nD Cert.PreRefIdeal.τ).loc Cert.PreRefIdeal.main_arg10) = m' ((c.tc : Thread Cert.PreRefIdeal.nD Cert.PreRefIdeal.τ).loc Cert.PreRefIdeal.main_arg10))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)
      ∧ m' ((c.tc : Thread Cert.FfnFwdRefIdeal.nD Cert.FfnFwdRefIdeal.τ).loc Cert.FfnFwdRefIdeal.main_arg4) = m ((c.tc : Thread Cert.FfnFwdIdeal.nD Cert.FfnFwdIdeal.τ).loc Cert.FfnFwdIdeal.main_arg4)) →
    ∃ (v0 : (c : Dev Cert.FfnFwdIdeal.nD) → Buf (Elt Ideal) ((c.tc : Thread Cert.FfnFwdIdeal.nD Cert.FfnFwdIdeal.τ).loc Cert.FfnFwdIdeal.main_v5_0)) (v1 : (c : Dev Cert.FfnFwdIdeal.nD) → Buf (Elt Ideal) ((c.tc : Thread Cert.FfnFwdIdeal.nD Cert.FfnFwdIdeal.τ).loc Cert.FfnFwdIdeal.main_v5_1)) (v2 : (c : Dev Cert.FfnFwdIdeal.nD) → Buf (Elt Ideal) ((c.tc : Thread Cert.FfnFwdIdeal.nD Cert.FfnFwdIdeal.τ).loc Cert.FfnFwdIdeal.main_v5_2)) (v3 : (c : Dev Cert.FfnFwdIdeal.nD) → Buf (Elt Ideal) ((c.tc : Thread Cert.FfnFwdIdeal.nD Cert.FfnFwdIdeal.τ).loc Cert.FfnFwdIdeal.main_v5_3)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v5_0) = v0 c
          ∧ r.2.mem ((c.tc : Thread Cert.FfnFwdIdeal.nD Cert.FfnFwdIdeal.τ).loc Cert.FfnFwdIdeal.main_v5_1) = v1 c
          ∧ r.2.mem ((c.tc : Thread Cert.FfnFwdIdeal.nD Cert.FfnFwdIdeal.τ).loc Cert.FfnFwdIdeal.main_v5_2) = v2 c
          ∧ r.2.mem ((c.tc : Thread Cert.FfnFwdIdeal.nD Cert.FfnFwdIdeal.τ).loc Cert.FfnFwdIdeal.main_v5_3) = v3 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v21) = v0 c
          ∧ r.2.mem ((c.tc : Thread Cert.FfnFwdRefIdeal.nD Cert.FfnFwdRefIdeal.τ).loc Cert.FfnFwdRefIdeal.main_v23) = v1 c
          ∧ r.2.mem ((c.tc : Thread Cert.FfnFwdRefIdeal.nD Cert.FfnFwdRefIdeal.τ).loc Cert.FfnFwdRefIdeal.main_v25) = v2 c
          ∧ r.2.mem ((c.tc : Thread Cert.FfnFwdRefIdeal.nD Cert.FfnFwdRefIdeal.τ).loc Cert.FfnFwdRefIdeal.main_v27) = v3 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3)
          ∧ r.2.mem ((c.tc : Thread Cert.FfnFwdRefIdeal.nD Cert.FfnFwdRefIdeal.τ).loc Cert.FfnFwdRefIdeal.main_arg4) = m' ((c.tc : Thread Cert.FfnFwdRefIdeal.nD Cert.FfnFwdRefIdeal.τ).loc Cert.FfnFwdRefIdeal.main_arg4))

def preserves_MixFwd_MixFwdIdeal : Prop :=
  True

def algebraic_MixFwdIdeal_MixFwdRefIdeal [hMixFwdIdeal : Cert.MixFwdIdeal.Facts] [hMixFwdRefIdeal : Cert.MixFwdRefIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.MixFwdRefIdeal.nD Cert.MixFwdRefIdeal.τ Cert.MixFwdRefIdeal.sig) → Buf (Elt Ideal) ℓ) (g' : Dev Cert.MixFwdRefIdeal.nD → PrngReg), Pre_MixFwdIdeal m →
    (∀ c : Dev Cert.MixFwdIdeal.nD,
      m' ((c.tc : Thread Cert.MixFwdRefIdeal.nD Cert.MixFwdRefIdeal.τ).loc Cert.MixFwdRefIdeal.main_arg0) = m ((c.tc : Thread Cert.MixFwdIdeal.nD Cert.MixFwdIdeal.τ).loc Cert.MixFwdIdeal.main_arg0)
      ∧ m' ((c.tc : Thread Cert.MixFwdRefIdeal.nD Cert.MixFwdRefIdeal.τ).loc Cert.MixFwdRefIdeal.main_arg1) = m ((c.tc : Thread Cert.MixFwdIdeal.nD Cert.MixFwdIdeal.τ).loc Cert.MixFwdIdeal.main_arg1)
      ∧ m' ((c.tc : Thread Cert.MixFwdRefIdeal.nD Cert.MixFwdRefIdeal.τ).loc Cert.MixFwdRefIdeal.main_arg2) = m ((c.tc : Thread Cert.MixFwdIdeal.nD Cert.MixFwdIdeal.τ).loc Cert.MixFwdIdeal.main_arg2)) →
    ∃ (v0 : (c : Dev Cert.MixFwdIdeal.nD) → Buf (Elt Ideal) ((c.tc : Thread Cert.MixFwdIdeal.nD Cert.MixFwdIdeal.τ).loc Cert.MixFwdIdeal.main_v8_0)) (v1 : (c : Dev Cert.MixFwdIdeal.nD) → Buf (Elt Ideal) ((c.tc : Thread Cert.MixFwdIdeal.nD Cert.MixFwdIdeal.τ).loc Cert.MixFwdIdeal.main_v8_1)) (v2 : (c : Dev Cert.MixFwdIdeal.nD) → Buf (Elt Ideal) ((c.tc : Thread Cert.MixFwdIdeal.nD Cert.MixFwdIdeal.τ).loc Cert.MixFwdIdeal.main_v8_2)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v8_0) = v0 c
          ∧ r.2.mem ((c.tc : Thread Cert.MixFwdIdeal.nD Cert.MixFwdIdeal.τ).loc Cert.MixFwdIdeal.main_v8_1) = v1 c
          ∧ r.2.mem ((c.tc : Thread Cert.MixFwdIdeal.nD Cert.MixFwdIdeal.τ).loc Cert.MixFwdIdeal.main_v8_2) = v2 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
          ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2))
      ∧ θ_run (Cert.MixFwdRefIdeal.defs (F := Ideal)) (onTc (τ := Cert.MixFwdRefIdeal.τ) (Cert.MixFwdRefIdeal.main (F := Ideal))) ⟨m', fun _ => 0, g'⟩ (fun r => ∀ c : Dev Cert.MixFwdRefIdeal.nD,
          r.2.mem ((c.tc : Thread Cert.MixFwdRefIdeal.nD Cert.MixFwdRefIdeal.τ).loc Cert.MixFwdRefIdeal.main_v20) = v0 c
          ∧ r.2.mem ((c.tc : Thread Cert.MixFwdRefIdeal.nD Cert.MixFwdRefIdeal.τ).loc Cert.MixFwdRefIdeal.main_v23) = v1 c
          ∧ r.2.mem ((c.tc : Thread Cert.MixFwdRefIdeal.nD Cert.MixFwdRefIdeal.τ).loc Cert.MixFwdRefIdeal.main_v24) = v2 c
          ∧ r.2.mem ((c.tc : Thread Cert.MixFwdRefIdeal.nD Cert.MixFwdRefIdeal.τ).loc Cert.MixFwdRefIdeal.main_arg0) = m' ((c.tc : Thread Cert.MixFwdRefIdeal.nD Cert.MixFwdRefIdeal.τ).loc Cert.MixFwdRefIdeal.main_arg0)
          ∧ r.2.mem ((c.tc : Thread Cert.MixFwdRefIdeal.nD Cert.MixFwdRefIdeal.τ).loc Cert.MixFwdRefIdeal.main_arg1) = m' ((c.tc : Thread Cert.MixFwdRefIdeal.nD Cert.MixFwdRefIdeal.τ).loc Cert.MixFwdRefIdeal.main_arg1)
          ∧ r.2.mem ((c.tc : Thread Cert.MixFwdRefIdeal.nD Cert.MixFwdRefIdeal.τ).loc Cert.MixFwdRefIdeal.main_arg2) = m' ((c.tc : Thread Cert.MixFwdRefIdeal.nD Cert.MixFwdRefIdeal.τ).loc Cert.MixFwdRefIdeal.main_arg2))

def preserves_MixOutBwd_MixOutBwdIdeal : Prop :=
  True

def algebraic_MixOutBwdIdeal_MixOutBwdRefIdeal [hMixOutBwdIdeal : Cert.MixOutBwdIdeal.Facts] [hMixOutBwdRefIdeal : Cert.MixOutBwdRefIdeal.Facts] : Prop :=
  ∀ (m : (ℓ : Loc Cert.MixOutBwdIdeal.nD Cert.MixOutBwdIdeal.τ Cert.MixOutBwdIdeal.sig) → Buf (Elt Ideal) ℓ) (g : Dev Cert.MixOutBwdIdeal.nD → PrngReg)
    (m' : (ℓ : Loc Cert.MixOutBwdRefIdeal.nD Cert.MixOutBwdRefIdeal.τ Cert.MixOutBwdRefIdeal.sig) → Buf (Elt Ideal) ℓ) (g' : Dev Cert.MixOutBwdRefIdeal.nD → PrngReg), Pre_MixOutBwdIdeal m →
    (∀ c : Dev Cert.MixOutBwdIdeal.nD,
      m' ((c.tc : Thread Cert.MixOutBwdRefIdeal.nD Cert.MixOutBwdRefIdeal.τ).loc Cert.MixOutBwdRefIdeal.main_arg0) = m ((c.tc : Thread Cert.MixOutBwdIdeal.nD Cert.MixOutBwdIdeal.τ).loc Cert.MixOutBwdIdeal.main_arg0)
      ∧ m' ((c.tc : Thread Cert.MixOutBwdRefIdeal.nD Cert.MixOutBwdRefIdeal.τ).loc Cert.MixOutBwdRefIdeal.main_arg1) = m ((c.tc : Thread Cert.MixOutBwdIdeal.nD Cert.MixOutBwdIdeal.τ).loc Cert.MixOutBwdIdeal.main_arg1)
      ∧ m' ((c.tc : Thread Cert.MixOutBwdRefIdeal.nD Cert.MixOutBwdRefIdeal.τ).loc Cert.MixOutBwdRefIdeal.main_arg2) = m ((c.tc : Thread Cert.MixOutBwdIdeal.nD Cert.MixOutBwdIdeal.τ).loc Cert.MixOutBwdIdeal.main_arg2)
      ∧ m' ((c.tc : Thread Cert.MixOutBwdRefIdeal.nD Cert.MixOutBwdRefIdeal.τ).loc Cert.MixOutBwdRefIdeal.main_arg3) = m ((c.tc : Thread Cert.MixOutBwdIdeal.nD Cert.MixOutBwdIdeal.τ).loc Cert.MixOutBwdIdeal.main_arg3)
      ∧ m' ((c.tc : Thread Cert.MixOutBwdRefIdeal.nD Cert.MixOutBwdRefIdeal.τ).loc Cert.MixOutBwdRefIdeal.main_arg4) = m ((c.tc : Thread Cert.MixOutBwdIdeal.nD Cert.MixOutBwdIdeal.τ).loc Cert.MixOutBwdIdeal.main_arg4)) →
    ∃ (v0 : (c : Dev Cert.MixOutBwdIdeal.nD) → Buf (Elt Ideal) ((c.tc : Thread Cert.MixOutBwdIdeal.nD Cert.MixOutBwdIdeal.τ).loc Cert.MixOutBwdIdeal.main_v3_0)) (v1 : (c : Dev Cert.MixOutBwdIdeal.nD) → Buf (Elt Ideal) ((c.tc : Thread Cert.MixOutBwdIdeal.nD Cert.MixOutBwdIdeal.τ).loc Cert.MixOutBwdIdeal.main_v3_1)) (v2 : (c : Dev Cert.MixOutBwdIdeal.nD) → Buf (Elt Ideal) ((c.tc : Thread Cert.MixOutBwdIdeal.nD Cert.MixOutBwdIdeal.τ).loc Cert.MixOutBwdIdeal.main_v3_2)),
      θ_run (Cert.MixOutBwdIdeal.defs (F := Ideal)) (onTc (τ := Cert.MixOutBwdIdeal.τ) (Cert.MixOutBwdIdeal.main (F := Ideal))) ⟨m, fun _ => 0, g⟩ (fun r => ∀ c : Dev Cert.MixOutBwdIdeal.nD,
          r.2.mem ((c.tc : Thread Cert.MixOutBwdIdeal.nD Cert.MixOutBwdIdeal.τ).loc Cert.MixOutBwdIdeal.main_v3_0) = v0 c
          ∧ r.2.mem ((c.tc : Thread Cert.MixOutBwdIdeal.nD Cert.MixOutBwdIdeal.τ).loc Cert.MixOutBwdIdeal.main_v3_1) = v1 c
          ∧ r.2.mem ((c.tc : Thread Cert.MixOutBwdIdeal.nD Cert.MixOutBwdIdeal.τ).loc Cert.MixOutBwdIdeal.main_v3_2) = v2 c
          ∧ r.2.mem ((c.tc : Thread Cert.MixOutBwdIdeal.nD Cert.MixOutBwdIdeal.τ).loc Cert.MixOutBwdIdeal.main_arg0) = m ((c.tc : Thread Cert.MixOutBwdIdeal.nD Cert.MixOutBwdIdeal.τ).loc Cert.MixOutBwdIdeal.main_arg0)
          ∧ r.2.mem ((c.tc : Thread Cert.MixOutBwdIdeal.nD Cert.MixOutBwdIdeal.τ).loc Cert.MixOutBwdIdeal.main_arg1) = m ((c.tc : Thread Cert.MixOutBwdIdeal.nD Cert.MixOutBwdIdeal.τ).loc Cert.MixOutBwdIdeal.main_arg1)
          ∧ r.2.mem ((c.tc : Thread Cert.MixOutBwdIdeal.nD Cert.MixOutBwdIdeal.τ).loc Cert.MixOutBwdIdeal.main_arg2) = m ((c.tc : Thread Cert.MixOutBwdIdeal.nD Cert.MixOutBwdIdeal.τ).loc Cert.MixOutBwdIdeal.main_arg2)
          ∧ r.2.mem ((c.tc : Thread Cert.MixOutBwdIdeal.nD Cert.MixOutBwdIdeal.τ).loc Cert.MixOutBwdIdeal.main_arg3) = m ((c.tc : Thread Cert.MixOutBwdIdeal.nD Cert.MixOutBwdIdeal.τ).loc Cert.MixOutBwdIdeal.main_arg3)
          ∧ r.2.mem ((c.tc : Thread Cert.MixOutBwdIdeal.nD Cert.MixOutBwdIdeal.τ).loc Cert.MixOutBwdIdeal.main_arg4) = m ((c.tc : Thread Cert.MixOutBwdIdeal.nD Cert.MixOutBwdIdeal.τ).loc Cert.MixOutBwdIdeal.main_arg4))
      ∧ θ_run (Cert.MixOutBwdRefIdeal.defs (F := Ideal)) (onTc (τ := Cert.MixOutBwdRefIdeal.τ) (Cert.MixOutBwdRefIdeal.main (F := Ideal))) ⟨m', fun _ => 0, g'⟩ (fun r => ∀ c : Dev Cert.MixOutBwdRefIdeal.nD,
          r.2.mem ((c.tc : Thread Cert.MixOutBwdRefIdeal.nD Cert.MixOutBwdRefIdeal.τ).loc Cert.MixOutBwdRefIdeal.main_v6) = v0 c
          ∧ r.2.mem ((c.tc : Thread Cert.MixOutBwdRefIdeal.nD Cert.MixOutBwdRefIdeal.τ).loc Cert.MixOutBwdRefIdeal.main_v7) = v1 c
          ∧ r.2.mem ((c.tc : Thread Cert.MixOutBwdRefIdeal.nD Cert.MixOutBwdRefIdeal.τ).loc Cert.MixOutBwdRefIdeal.main_v8) = v2 c
          ∧ r.2.mem ((c.tc : Thread Cert.MixOutBwdRefIdeal.nD Cert.MixOutBwdRefIdeal.τ).loc Cert.MixOutBwdRefIdeal.main_arg0) = m' ((c.tc : Thread Cert.MixOutBwdRefIdeal.nD Cert.MixOutBwdRefIdeal.τ).loc Cert.MixOutBwdRefIdeal.main_arg0)
          ∧ r.2.mem ((c.tc : Thread Cert.MixOutBwdRefIdeal.nD Cert.MixOutBwdRefIdeal.τ).loc Cert.MixOutBwdRefIdeal.main_arg1) = m' ((c.tc : Thread Cert.MixOutBwdRefIdeal.nD Cert.MixOutBwdRefIdeal.τ).loc Cert.MixOutBwdRefIdeal.main_arg1)
          ∧ r.2.mem ((c.tc : Thread Cert.MixOutBwdRefIdeal.nD Cert.MixOutBwdRefIdeal.τ).loc Cert.MixOutBwdRefIdeal.main_arg2) = m' ((c.tc : Thread Cert.MixOutBwdRefIdeal.nD Cert.MixOutBwdRefIdeal.τ).loc Cert.MixOutBwdRefIdeal.main_arg2)
          ∧ r.2.mem ((c.tc : Thread Cert.MixOutBwdRefIdeal.nD Cert.MixOutBwdRefIdeal.τ).loc Cert.MixOutBwdRefIdeal.main_arg3) = m' ((c.tc : Thread Cert.MixOutBwdRefIdeal.nD Cert.MixOutBwdRefIdeal.τ).loc Cert.MixOutBwdRefIdeal.main_arg3)
          ∧ r.2.mem ((c.tc : Thread Cert.MixOutBwdRefIdeal.nD Cert.MixOutBwdRefIdeal.τ).loc Cert.MixOutBwdRefIdeal.main_arg4) = m' ((c.tc : Thread Cert.MixOutBwdRefIdeal.nD Cert.MixOutBwdRefIdeal.τ).loc Cert.MixOutBwdRefIdeal.main_arg4))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v1_0)) (v1 : (c : Dev Cert.AdamIdeal.nD) → Buf (Elt Ideal) ((c.tc : Thread Cert.AdamIdeal.nD Cert.AdamIdeal.τ).loc Cert.AdamIdeal.main_v1_1)) (v2 : (c : Dev Cert.AdamIdeal.nD) → Buf (Elt Ideal) ((c.tc : Thread Cert.AdamIdeal.nD Cert.AdamIdeal.τ).loc Cert.AdamIdeal.main_v1_2)) (v3 : (c : Dev Cert.AdamIdeal.nD) → Buf (Elt Ideal) ((c.tc : Thread Cert.AdamIdeal.nD Cert.AdamIdeal.τ).loc Cert.AdamIdeal.main_v1_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v1_0) = v0 c
          ∧ r.2.mem ((c.tc : Thread Cert.AdamIdeal.nD Cert.AdamIdeal.τ).loc Cert.AdamIdeal.main_v1_1) = v1 c
          ∧ r.2.mem ((c.tc : Thread Cert.AdamIdeal.nD Cert.AdamIdeal.τ).loc Cert.AdamIdeal.main_v1_2) = v2 c
          ∧ r.2.mem ((c.tc : Thread Cert.AdamIdeal.nD Cert.AdamIdeal.τ).loc Cert.AdamIdeal.main_v1_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_arg1) = v0 c
          ∧ r.2.mem ((c.tc : Thread Cert.AdamRefIdeal.nD Cert.AdamRefIdeal.τ).loc Cert.AdamRefIdeal.main_v23) = v1 c
          ∧ r.2.mem ((c.tc : Thread Cert.AdamRefIdeal.nD Cert.AdamRefIdeal.τ).loc Cert.AdamRefIdeal.main_v4) = v2 c
          ∧ r.2.mem ((c.tc : Thread Cert.AdamRefIdeal.nD Cert.AdamRefIdeal.τ).loc Cert.AdamRefIdeal.main_v10) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def Claim : Prop :=
  ∃ (hSb : Cert.Sb.Facts) (hSbIdeal : Cert.SbIdeal.Facts) (hSbRefIdeal : Cert.SbRefIdeal.Facts) (hLoss : Cert.Loss.Facts) (hLossIdeal : Cert.LossIdeal.Facts) (hLossRefIdeal : Cert.LossRefIdeal.Facts) (hFfn : Cert.Ffn.Facts) (hFfnIdeal : Cert.FfnIdeal.Facts) (hFfnRefIdeal : Cert.FfnRefIdeal.Facts) (hMixIn : Cert.MixIn.Facts) (hMixInIdeal : Cert.MixInIdeal.Facts) (hMixInRefIdeal : Cert.MixInRefIdeal.Facts) (hConv : Cert.Conv.Facts) (hConvIdeal : Cert.ConvIdeal.Facts) (hConvRefIdeal : Cert.ConvRefIdeal.Facts) (hSbFwd : Cert.SbFwd.Facts) (hSbFwdIdeal : Cert.SbFwdIdeal.Facts) (hSbFwdRefIdeal : Cert.SbFwdRefIdeal.Facts) (hPre : Cert.Pre.Facts) (hPreIdeal : Cert.PreIdeal.Facts) (hPreRefIdeal : Cert.PreRefIdeal.Facts) (hFfnFwd : Cert.FfnFwd.Facts) (hFfnFwdIdeal : Cert.FfnFwdIdeal.Facts) (hFfnFwdRefIdeal : Cert.FfnFwdRefIdeal.Facts) (hMixFwd : Cert.MixFwd.Facts) (hMixFwdIdeal : Cert.MixFwdIdeal.Facts) (hMixFwdRefIdeal : Cert.MixFwdRefIdeal.Facts) (hMixOutBwd : Cert.MixOutBwd.Facts) (hMixOutBwdIdeal : Cert.MixOutBwdIdeal.Facts) (hMixOutBwdRefIdeal : Cert.MixOutBwdRefIdeal.Facts) (hAdam : Cert.Adam.Facts) (hAdamIdeal : Cert.AdamIdeal.Facts) (hAdamRefIdeal : Cert.AdamRefIdeal.Facts) (hPre_sb_finite : Cert.Pre_sb_finite.Facts) (hPre_loss_finite : Cert.Pre_loss_finite.Facts) (hPre_ffn_finite : Cert.Pre_ffn_finite.Facts) (hPre_mixin_finite : Cert.Pre_mixin_finite.Facts) (hPre_sbf_finite : Cert.Pre_sbf_finite.Facts) (hPre_pre_finite : Cert.Pre_pre_finite.Facts),
    quiescent_Sb (hSb := hSb)
    ∧ quiescent_SbIdeal (hSbIdeal := hSbIdeal)
    ∧ quiescent_SbIdeal_pre_sb_finite (hSbIdeal := hSbIdeal) (hPre_sb_finite := hPre_sb_finite)
    ∧ quiescent_SbRefIdeal (hSbRefIdeal := hSbRefIdeal)
    ∧ quiescent_SbRefIdeal_pre_sb_finite (hSbRefIdeal := hSbRefIdeal) (hPre_sb_finite := hPre_sb_finite)
    ∧ quiescent_Loss (hLoss := hLoss)
    ∧ quiescent_LossIdeal (hLossIdeal := hLossIdeal)
    ∧ quiescent_LossIdeal_pre_loss_finite (hLossIdeal := hLossIdeal) (hPre_loss_finite := hPre_loss_finite)
    ∧ quiescent_LossRefIdeal (hLossRefIdeal := hLossRefIdeal)
    ∧ quiescent_LossRefIdeal_pre_loss_finite (hLossRefIdeal := hLossRefIdeal) (hPre_loss_finite := hPre_loss_finite)
    ∧ quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_MixIn (hMixIn := hMixIn)
    ∧ quiescent_MixInIdeal (hMixInIdeal := hMixInIdeal)
    ∧ quiescent_MixInIdeal_pre_mixin_finite (hMixInIdeal := hMixInIdeal) (hPre_mixin_finite := hPre_mixin_finite)
    ∧ quiescent_MixInRefIdeal (hMixInRefIdeal := hMixInRefIdeal)
    ∧ quiescent_MixInRefIdeal_pre_mixin_finite (hMixInRefIdeal := hMixInRefIdeal) (hPre_mixin_finite := hPre_mixin_finite)
    ∧ quiescent_Conv (hConv := hConv)
    ∧ quiescent_ConvIdeal (hConvIdeal := hConvIdeal)
    ∧ quiescent_ConvRefIdeal (hConvRefIdeal := hConvRefIdeal)
    ∧ quiescent_SbFwd (hSbFwd := hSbFwd)
    ∧ quiescent_SbFwdIdeal (hSbFwdIdeal := hSbFwdIdeal)
    ∧ quiescent_SbFwdIdeal_pre_sbf_finite (hSbFwdIdeal := hSbFwdIdeal) (hPre_sbf_finite := hPre_sbf_finite)
    ∧ quiescent_SbFwdRefIdeal (hSbFwdRefIdeal := hSbFwdRefIdeal)
    ∧ quiescent_SbFwdRefIdeal_pre_sbf_finite (hSbFwdRefIdeal := hSbFwdRefIdeal) (hPre_sbf_finite := hPre_sbf_finite)
    ∧ quiescent_Pre (hPre := hPre)
    ∧ quiescent_PreIdeal (hPreIdeal := hPreIdeal)
    ∧ quiescent_PreIdeal_pre_pre_finite (hPreIdeal := hPreIdeal) (hPre_pre_finite := hPre_pre_finite)
    ∧ quiescent_PreRefIdeal (hPreRefIdeal := hPreRefIdeal)
    ∧ quiescent_PreRefIdeal_pre_pre_finite (hPreRefIdeal := hPreRefIdeal) (hPre_pre_finite := hPre_pre_finite)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_MixFwd (hMixFwd := hMixFwd)
    ∧ quiescent_MixFwdIdeal (hMixFwdIdeal := hMixFwdIdeal)
    ∧ quiescent_MixFwdRefIdeal (hMixFwdRefIdeal := hMixFwdRefIdeal)
    ∧ quiescent_MixOutBwd (hMixOutBwd := hMixOutBwd)
    ∧ quiescent_MixOutBwdIdeal (hMixOutBwdIdeal := hMixOutBwdIdeal)
    ∧ quiescent_MixOutBwdRefIdeal (hMixOutBwdRefIdeal := hMixOutBwdRefIdeal)
    ∧ quiescent_Adam (hAdam := hAdam)
    ∧ quiescent_AdamIdeal (hAdamIdeal := hAdamIdeal)
    ∧ quiescent_AdamRefIdeal (hAdamRefIdeal := hAdamRefIdeal)
    ∧ preserves_Sb_SbIdeal
    ∧ algebraic_SbIdeal_SbRefIdeal_pre_sb_finite (hSbIdeal := hSbIdeal) (hSbRefIdeal := hSbRefIdeal) (hPre_sb_finite := hPre_sb_finite)
    ∧ preserves_Loss_LossIdeal
    ∧ algebraic_LossIdeal_LossRefIdeal_pre_loss_finite (hLossIdeal := hLossIdeal) (hLossRefIdeal := hLossRefIdeal) (hPre_loss_finite := hPre_loss_finite)
    ∧ preserves_Ffn_FfnIdeal
    ∧ algebraic_FfnIdeal_FfnRefIdeal_pre_ffn_finite (hFfnIdeal := hFfnIdeal) (hFfnRefIdeal := hFfnRefIdeal) (hPre_ffn_finite := hPre_ffn_finite)
    ∧ preserves_MixIn_MixInIdeal
    ∧ algebraic_MixInIdeal_MixInRefIdeal_pre_mixin_finite (hMixInIdeal := hMixInIdeal) (hMixInRefIdeal := hMixInRefIdeal) (hPre_mixin_finite := hPre_mixin_finite)
    ∧ preserves_Conv_ConvIdeal
    ∧ algebraic_ConvIdeal_ConvRefIdeal (hConvIdeal := hConvIdeal) (hConvRefIdeal := hConvRefIdeal)
    ∧ preserves_SbFwd_SbFwdIdeal
    ∧ algebraic_SbFwdIdeal_SbFwdRefIdeal_pre_sbf_finite (hSbFwdIdeal := hSbFwdIdeal) (hSbFwdRefIdeal := hSbFwdRefIdeal) (hPre_sbf_finite := hPre_sbf_finite)
    ∧ preserves_Pre_PreIdeal
    ∧ algebraic_PreIdeal_PreRefIdeal_pre_pre_finite (hPreIdeal := hPreIdeal) (hPreRefIdeal := hPreRefIdeal) (hPre_pre_finite := hPre_pre_finite)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_MixFwd_MixFwdIdeal
    ∧ algebraic_MixFwdIdeal_MixFwdRefIdeal (hMixFwdIdeal := hMixFwdIdeal) (hMixFwdRefIdeal := hMixFwdRefIdeal)
    ∧ preserves_MixOutBwd_MixOutBwdIdeal
    ∧ algebraic_MixOutBwdIdeal_MixOutBwdRefIdeal (hMixOutBwdIdeal := hMixOutBwdIdeal) (hMixOutBwdRefIdeal := hMixOutBwdRefIdeal)
    ∧ preserves_Adam_AdamIdeal
    ∧ algebraic_AdamIdeal_AdamRefIdeal (hAdamIdeal := hAdamIdeal) (hAdamRefIdeal := hAdamRefIdeal)
-- ==== Pre_ffn_finite.lean ====
abbrev S16400x1024 : Shape := ⟨2, ![16400, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S16400x1024 : S_.BroadcastsInDim S16400x1024 (![] : Fin 0 → Fin S16400x1024.rank)
  reducesTo_S16400x1024_S_d0_1 : S16400x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_arg5 : FVec F S16400x1024 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S2816x1024 .f32 := Host.absf main_arg4
  let main_cst_6 : FVec F S_ .f32 := constant S_ .f32 0x7F800000#32
  let main_v20 : FVec F S2816x1024 .f32 := broadcastInDim S2816x1024 ![] bcast_S_S2816x1024 main_cst_6
  let main_v21 : IVec S2816x1024 1 := cmpf .olt main_v19 main_v20
  let main_c_7 : IVec S_ 1 := constantI S_ 1 1#1
  let main_v22 : IVec S_ 1 := (fun x v => Host.reduce IntOp.andi x v reducesTo_S2816x1024_S_d0_1 h_S_) main_v21 main_c_7
  let main_v23 : IVec S_ 1 := andi main_v18 main_v22
  let main_v24 : FVec F S16400x1024 .f32 := Host.absf main_arg5
  let main_cst_8 : FVec F S_ .f32 := constant S_ .f32 0x7F800000#32
  let main_v25 : FVec F S16400x1024 .f32 := broadcastInDim S16400x1024 ![] bcast_S_S16400x1024 main_cst_8
  let main_v26 : IVec S16400x1024 1 := cmpf .olt main_v24 main_v25
  let main_c_9 : IVec S_ 1 := constantI S_ 1 1#1
  let main_v27 : IVec S_ 1 := (fun x v => Host.reduce IntOp.andi x v reducesTo_S16400x1024_S_d0_1 h_S_) main_v26 main_c_9
  let main_v28 : IVec S_ 1 := andi main_v23 main_v27
  main_v28

def fn {F : FTy → Type} [FloatOps F] (main_arg0 : FVec F S16400x1024 .f32) (main_arg1 : FVec F S1024 .f32) (main_arg2 : FVec F S1024x2816 .f32) (main_arg3 : FVec F S1024x2816 .f32) (main_arg4 : FVec F S2816x1024 .f32) (main_arg5 : FVec F S16400x1024 .f32) : IVec S_ 1 :=
  let main_v0 : FVec F S16400x1024 .f32 := Host.absf main_arg0
  let main_cst : FVec F S_ .f32 := constant S_ .f32 0x7F800000#32
  let main_v1 : FVec F S16400x1024 .f32 := broadcastInDim S16400x1024 ![] bcast_S_S16400x1024 main_cst
  let main_v2 : IVec S16400x1024 1 := cmpf .olt main_v0 main_v1
  let main_c : IVec S_ 1 := constantI S_ 1 1#1
  let main_v3 : IVec S_ 1 := (fun x v => Host.reduce IntOp.andi x v reducesTo_S16400x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S1024x2816 .f32 := Host.absf main_arg3
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg4 main_arg5 main_v13 main_v16
-- ==== Pre_loss_finite.lean ====
abbrev S16400x1024 : Shape := ⟨2, ![16400, 1024]⟩
abbrev S1024 : Shape := ⟨1, ![1024]⟩
abbrev S16384x1024 : Shape := ⟨2, ![16384, 1024]⟩
abbrev S_ : Shape := ⟨0, ![]⟩

class Facts : Prop where
  bcast_S_S16400x1024 : S_.BroadcastsInDim S16400x1024 (![] : Fin 0 → Fin S16400x1024.rank)
  reducesTo_S16400x1024_S_d0_1 : S16400x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S16384x1024 : S_.BroadcastsInDim S16384x1024 (![] : Fin 0 → Fin S16384x1024.rank)
  reducesTo_S16384x1024_S_d0_1 : S16384x1024.ReducesTo [0, 1] S_

variable [Facts]

def fn {F : FTy → Type} [FloatOps F] (main_arg0 : FVec F S16400x1024 .f32) (main_arg1 : FVec F S1024 .f32) (main_arg2 : FVec F S16384x1024 .f32) : IVec S_ 1 :=
  let main_v0 : FVec F S16400x1024 .f32 := Host.absf main_arg0
  let main_cst : FVec F S_ .f32 := constant S_ .f32 0x7F800000#32
  let main_v1 : FVec F S16400x1024 .f32 := broadcastInDim S16400x1024 ![] bcast_S_S16400x1024 main_cst
  let main_v2 : IVec S16400x1024 1 := cmpf .olt main_v0 main_v1
  let main_c : IVec S_ 1 := constantI S_ 1 1#1
  let main_v3 : IVec S_ 1 := (fun x v => Host.reduce IntOp.andi x v reducesTo_S16400x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  main_v13
-- ==== Pre_mixin_finite.lean ====
abbrev S16400x1024 : Shape := ⟨2, ![16400, 1024]⟩
abbrev S1024 : Shape := ⟨1, ![1024]⟩
abbrev S1024x2312 : Shape := ⟨2, ![1024, 2312]⟩
abbrev S16400x256 : Shape := ⟨2, ![16400, 256]⟩
abbrev S16400x768 : Shape := ⟨2, ![16400, 768]⟩
abbrev S16400x4 : Shape := ⟨2, ![16400, 4]⟩
abbrev S16400x512 : Shape := ⟨2, ![16400, 512]⟩
abbrev S_ : Shape := ⟨0, ![]⟩

class Facts : Prop where
  bcast_S_S16400x1024 : S_.BroadcastsInDim S16400x1024 (![] : Fin 0 → Fin S16400x1024.rank)
  reducesTo_S16400x1024_S_d0_1 : S16400x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2312 : S_.BroadcastsInDim S1024x2312 (![] : Fin 0 → Fin S1024x2312.rank)
  reducesTo_S1024x2312_S_d0_1 : S1024x2312.ReducesTo [0, 1] S_
  bcast_S_S16400x256 : S_.BroadcastsInDim S16400x256 (![] : Fin 0 → Fin S16400x256.rank)
  reducesTo_S16400x256_S_d0_1 : S16400x256.ReducesTo [0, 1] S_
  bcast_S_S16400x768 : S_.BroadcastsInDim S16400x768 (![] : Fin 0 → Fin S16400x768.rank)
  reducesTo_S16400x768_S_d0_1 : S16400x768.ReducesTo [0, 1] S_
  bcast_S_S16400x4 : S_.BroadcastsInDim S16400x4 (![] : Fin 0 → Fin S16400x4.rank)
  reducesTo_S16400x4_S_d0_1 : S16400x4.ReducesTo [0, 1] S_
  bcast_S_S16400x512 : S_.BroadcastsInDim S16400x512 (![] : Fin 0 → Fin S16400x512.rank)
  reducesTo_S16400x512_S_d0_1 : S16400x512.ReducesTo [0, 1] S_

variable [Facts]

def fn_part3 {F : FTy → Type} [FloatOps F] (main_arg11 : FVec F S16400x512 .f32) (main_v48 : IVec S_ 1) (main_v49 : FVec F S16400x4 .f32) (main_v50 : FVec F S16400x4 .f32) : IVec S_ 1 :=
  let main_v51 : IVec S16400x4 1 := cmpf .olt main_v49 main_v50
  let main_c_19 : IVec S_ 1 := constantI S_ 1 1#1
  let main_v52 : IVec S_ 1 := (fun x v => Host.reduce IntOp.andi x v reducesTo_S16400x4_S_d0_1 h_S_) main_v51 main_c_19
  let main_v53 : IVec S_ 1 := andi main_v48 main_v52
  let main_v54 : FVec F S16400x512 .f32 := Host.absf main_arg11
  let main_cst_20 : FVec F S_ .f32 := constant S_ .f32 0x7F800000#32
  let main_v55 : FVec F S16400x512 .f32 := broadcastInDim S16400x512 ![] bcast_S_S16400x512 main_cst_20
  let main_v56 : IVec S16400x512 1 := cmpf .olt main_v54 main_v55
  let main_c_21 : IVec S_ 1 := constantI S_ 1 1#1
  let main_v57 : IVec S_ 1 := (fun x v => Host.reduce IntOp.andi x v reducesTo_S16400x512_S_d0_1 h_S_) main_v56 main_c_21
  let main_v58 : IVec S_ 1 := andi main_v53 main_v57
  main_v58

def fn_part2 {F : FTy → Type} [FloatOps F] (main_arg7 : FVec F S16400x768 .f32) (main_arg8 : FVec F S16400x256 .f32) (main_arg9 : FVec F S16400x4 .f32) (main_arg10 : FVec F S16400x4 .f32) (main_arg11 : FVec F S16400x512 .f32) (main_v33 : IVec S_ 1) : IVec S_ 1 :=
  let main_v34 : FVec F S16400x768 .f32 := Host.absf main_arg7
  let main_cst_12 : FVec F S_ .f32 := constant S_ .f32 0x7F800000#32
  let main_v35 : FVec F S16400x768 .f32 := broadcastInDim S16400x768 ![] bcast_S_S16400x768 main_cst_12
  let main_v36 : IVec S16400x768 1 := cmpf .olt main_v34 main_v35
  let main_c_13 : IVec S_ 1 := constantI S_ 1 1#1
  let main_v37 : IVec S_ 1 := (fun x v => Host.reduce IntOp.andi x v reducesTo_S16400x768_S_d0_1 h_S_) main_v36 main_c_13
  let main_v38 : IVec S_ 1 := andi main_v33 main_v37
  let main_v39 : FVec F S16400x256 .f32 := Host.absf main_arg8
  let main_cst_14 : FVec F S_ .f32 := constant S_ .f32 0x7F800000#32
  let main_v40 : FVec F S16400x256 .f32 := broadcastInDim S16400x256 ![] bcast_S_S16400x256 main_cst_14
  let main_v41 : IVec S16400x256 1 := cmpf .olt main_v39 main_v40
  let main_c_15 : IVec S_ 1 := constantI S_ 1 1#1
  let main_v42 : IVec S_ 1 := (fun x v => Host.reduce IntOp.andi x v reducesTo_S16400x256_S_d0_1 h_S_) main_v41 main_c_15
  let main_v43 : IVec S_ 1 := andi main_v38 main_v42
  let main_v44 : FVec F S16400x4 .f32 := Host.absf main_arg9
  let main_cst_16 : FVec F S_ .f32 := constant S_ .f32 0x7F800000#32
  let main_v45 : FVec F S16400x4 .f32 := broadcastInDim S16400x4 ![] bcast_S_S16400x4 main_cst_16
  let main_v46 : IVec S16400x4 1 := cmpf .olt main_v44 main_v45
  let main_c_17 : IVec S_ 1 := constantI S_ 1 1#1
  let main_v47 : IVec S_ 1 := (fun x v => Host.reduce IntOp.andi x v reducesTo_S16400x4_S_d0_1 h_S_) main_v46 main_c_17
  let main_v48 : IVec S_ 1 := andi main_v43 main_v47
  let main_v49 : FVec F S16400x4 .f32 := Host.absf main_arg10
  let main_cst_18 : FVec F S_ .f32 := constant S_ .f32 0x7F800000#32
  let main_v50 : FVec F S16400x4 .f32 := broadcastInDim S16400x4 ![] bcast_S_S16400x4 main_cst_18
  fn_part3 (F := F) main_arg11 main_v48 main_v49 main_v50

def fn_part1 {F : FTy → Type} [FloatOps F] (main_arg4 : FVec F S16400x256 .f32) (main_arg5 : FVec F S16400x256 .f32) (main_arg6 : FVec F S16400x256 .f32) (main_arg7 : FVec F S16400x768 .f32) (main_arg8 : FVec F S16400x256 .f32) (main_arg9 : FVec F S16400x4 .f32) (main_arg10 : FVec F S16400x4 .f32) (main_arg11 : FVec F S16400x512 .f32) (main_v13 : IVec S_ 1) (main_v16 : IVec S16400x1024 1) : IVec S_ 1 :=
  let main_c_5 : IVec S_ 1 := constantI S_ 1 1#1
  let main_v17 : IVec S_ 1 := (fun x v => Host.reduce IntOp.andi x v reducesTo_S16400x1024_S_d0_1 h_S_) main_v16 main_c_5
  let main_v18 : IVec S_ 1 := andi main_v13 main_v17
  let main_v19 : FVec F S16400x256 .f32 := Host.absf main_arg4
  let main_cst_6 : FVec F S_ .f32 := constant S_ .f32 0x7F800000#32
  let main_v20 : FVec F S16400x256 .f32 := broadcastInDim S16400x256 ![] bcast_S_S16400x256 main_cst_6
  let main_v21 : IVec S16400x256 1 := cmpf .olt main_v19 main_v20
  let main_c_7 : IVec S_ 1 := constantI S_ 1 1#1
  let main_v22 : IVec S_ 1 := (fun x v => Host.reduce IntOp.andi x v reducesTo_S16400x256_S_d0_1 h_S_) main_v21 main_c_7
  let main_v23 : IVec S_ 1 := andi main_v18 main_v22
  let main_v24 : FVec F S16400x256 .f32 := Host.absf main_arg5
  let main_cst_8 : FVec F S_ .f32 := constant S_ .f32 0x7F800000#32
  let main_v25 : FVec F S16400x256 .f32 := broadcastInDim S16400x256 ![] bcast_S_S16400x256 main_cst_8
  let main_v26 : IVec S16400x256 1 := cmpf .olt main_v24 main_v25
  let main_c_9 : IVec S_ 1 := constantI S_ 1 1#1
  let main_v27 : IVec S_ 1 := (fun x v => Host.reduce IntOp.andi x v reducesTo_S16400x256_S_d0_1 h_S_) main_v26 main_c_9
  let main_v28 : IVec S_ 1 := andi main_v23 main_v27
  let main_v29 : FVec F S16400x256 .f32 := Host.absf main_arg6
  let main_cst_10 : FVec F S_ .f32 := constant S_ .f32 0x7F800000#32
  let main_v30 : FVec F S16400x256 .f32 := broadcastInDim S16400x256 ![] bcast_S_S16400x256 main_cst_10
  let main_v31 : IVec S16400x256 1 := cmpf .olt main_v29 main_v30
  let main_c_11 : IVec S_ 1 := constantI S_ 1 1#1
  let main_v32 : IVec S_ 1 := (fun x v => Host.reduce IntOp.andi x v reducesTo_S16400x256_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S16400x1024 .f32) (main_arg1 : FVec F S1024 .f32) (main_arg2 : FVec F S1024x2312 .f32) (main_arg3 : FVec F S16400x1024 .f32) (main_arg4 : FVec F S16400x256 .f32) (main_arg5 : FVec F S16400x256 .f32) (main_arg6 : FVec F S16400x256 .f32) (main_arg7 : FVec F S16400x768 .f32) (main_arg8 : FVec F S16400x256 .f32) (main_arg9 : FVec F S16400x4 .f32) (main_arg10 : FVec F S16400x4 .f32) (main_arg11 : FVec F S16400x512 .f32) : IVec S_ 1 :=
  let main_v0 : FVec F S16400x1024 .f32 := Host.absf main_arg0
  let main_cst : FVec F S_ .f32 := constant S_ .f32 0x7F800000#32
  let main_v1 : FVec F S16400x1024 .f32 := broadcastInDim S16400x1024 ![] bcast_S_S16400x1024 main_cst
  let main_v2 : IVec S16400x1024 1 := cmpf .olt main_v0 main_v1
  let main_c : IVec S_ 1 := constantI S_ 1 1#1
  let main_v3 : IVec S_ 1 := (fun x v => Host.reduce IntOp.andi x v reducesTo_S16400x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x2312 .f32 := Host.absf main_arg2
  let main_cst_2 : FVec F S_ .f32 := constant S_ .f32 0x7F800000#32
  let main_v10 : FVec F S1024x2312 .f32 := broadcastInDim S1024x2312 ![] bcast_S_S1024x2312 main_cst_2
  let main_v11 : IVec S1024x2312 1 := cmpf .olt main_v9 main_v10
  let main_c_3 : IVec S_ 1 := constantI S_ 1 1#1
  let main_v12 : IVec S_ 1 := (fun x v => Host.reduce IntOp.andi x v reducesTo_S1024x2312_S_d0_1 h_S_) main_v11 main_c_3
  let main_v13 : IVec S_ 1 := andi main_v8 main_v12
  let main_v14 : FVec F S16400x1024 .f32 := Host.absf main_arg3
  let main_cst_4 : FVec F S_ .f32 := constant S_ .f32 0x7F800000#32
  let main_v15 : FVec F S16400x1024 .f32 := broadcastInDim S16400x1024 ![] bcast_S_S16400x1024 main_cst_4
  let main_v16 : IVec S16400x1024 1 := cmpf .olt main_v14 main_v15
  fn_part1 (F := F) main_arg4 main_arg5 main_arg6 main_arg7 main_arg8 main_arg9 main_arg10 main_arg11 main_v13 main_v16
-- ==== Pre_pre_finite.lean ====
abbrev S16400x768 : Shape := ⟨2, ![16400, 768]⟩
abbrev S16400x4 : Shape := ⟨2, ![16400, 4]⟩
abbrev S4x768 : Shape := ⟨2, ![4, 768]⟩
abbrev S4 : Shape := ⟨1, ![4]⟩
abbrev S16400x256 : Shape := ⟨2, ![16400, 256]⟩
abbrev S_ : Shape := ⟨0, ![]⟩

class Facts : Prop where
  bcast_S_S16400x768 : S_.BroadcastsInDim S16400x768 (![] : Fin 0 → Fin S16400x768.rank)
  reducesTo_S16400x768_S_d0_1 : S16400x768.ReducesTo [0, 1] S_
  h_S_ : 0 < S_.numel
  bcast_S_S16400x4 : S_.BroadcastsInDim S16400x4 (![] : Fin 0 → Fin S16400x4.rank)
  reducesTo_S16400x4_S_d0_1 : S16400x4.ReducesTo [0, 1] S_
  bcast_S_S4x768 : S_.BroadcastsInDim S4x768 (![] : Fin 0 → Fin S4x768.rank)
  reducesTo_S4x768_S_d0_1 : S4x768.ReducesTo [0, 1] S_
  bcast_S_S4 : S_.BroadcastsInDim S4 (![] : Fin 0 → Fin S4.rank)
  reducesTo_S4_S_d0 : S4.ReducesTo [0] S_
  bcast_S_S16400x256 : S_.BroadcastsInDim S16400x256 (![] : Fin 0 → Fin S16400x256.rank)
  reducesTo_S16400x256_S_d0_1 : S16400x256.ReducesTo [0, 1] S_

variable [Facts]

def fn_part3 {F : FTy → Type} [FloatOps F] (main_v48 : IVec S_ 1) (main_v49 : FVec F S16400x4 .f32) (main_v50 : FVec F S16400x4 .f32) : IVec S_ 1 :=
  let main_v51 : IVec S16400x4 1 := cmpf .olt main_v49 main_v50
  let main_c_19 : IVec S_ 1 := constantI S_ 1 1#1
  let main_v52 : IVec S_ 1 := (fun x v => Host.reduce IntOp.andi x v reducesTo_S16400x4_S_d0_1 h_S_) main_v51 main_c_19
  let main_v53 : IVec S_ 1 := andi main_v48 main_v52
  main_v53

def fn_part2 {F : FTy → Type} [FloatOps F] (main_arg7 : FVec F S16400x256 .f32) (main_arg8 : FVec F S16400x256 .f32) (main_arg9 : FVec F S16400x4 .f32) (main_arg10 : FVec F S16400x4 .f32) (main_v33 : IVec S_ 1) : IVec S_ 1 :=
  let main_v34 : FVec F S16400x256 .f32 := Host.absf main_arg7
  let main_cst_12 : FVec F S_ .f32 := constant S_ .f32 0x7F800000#32
  let main_v35 : FVec F S16400x256 .f32 := broadcastInDim S16400x256 ![] bcast_S_S16400x256 main_cst_12
  let main_v36 : IVec S16400x256 1 := cmpf .olt main_v34 main_v35
  let main_c_13 : IVec S_ 1 := constantI S_ 1 1#1
  let main_v37 : IVec S_ 1 := (fun x v => Host.reduce IntOp.andi x v reducesTo_S16400x256_S_d0_1 h_S_) main_v36 main_c_13
  let main_v38 : IVec S_ 1 := andi main_v33 main_v37
  let main_v39 : FVec F S16400x256 .f32 := Host.absf main_arg8
  let main_cst_14 : FVec F S_ .f32 := constant S_ .f32 0x7F800000#32
  let main_v40 : FVec F S16400x256 .f32 := broadcastInDim S16400x256 ![] bcast_S_S16400x256 main_cst_14
  let main_v41 : IVec S16400x256 1 := cmpf .olt main_v39 main_v40
  let main_c_15 : IVec S_ 1 := constantI S_ 1 1#1
  let main_v42 : IVec S_ 1 := (fun x v => Host.reduce IntOp.andi x v reducesTo_S16400x256_S_d0_1 h_S_) main_v41 main_c_15
  let main_v43 : IVec S_ 1 := andi main_v38 main_v42
  let main_v44 : FVec F S16400x4 .f32 := Host.absf main_arg9
  let main_cst_16 : FVec F S_ .f32 := constant S_ .f32 0x7F800000#32
  let main_v45 : FVec F S16400x4 .f32 := broadcastInDim S16400x4 ![] bcast_S_S16400x4 main_cst_16
  let main_v46 : IVec S16400x4 1 := cmpf .olt main_v44 main_v45
  let main_c_17 : IVec S_ 1 := constantI S_ 1 1#1
  let main_v47 : IVec S_ 1 := (fun x v => Host.reduce IntOp.andi x v reducesTo_S16400x4_S_d0_1 h_S_) main_v46 main_c_17
  let main_v48 : IVec S_ 1 := andi main_v43 main_v47
  let main_v49 : FVec F S16400x4 .f32 := Host.absf main_arg10
  let main_cst_18 : FVec F S_ .f32 := constant S_ .f32 0x7F800000#32
  let main_v50 : FVec F S16400x4 .f32 := broadcastInDim S16400x4 ![] bcast_S_S16400x4 main_cst_18
  fn_part3 (F := F) main_v48 main_v49 main_v50

def fn_part1 {F : FTy → Type} [FloatOps F] (main_arg4 : FVec F S4 .f32) (main_arg5 : FVec F S4 .f32) (main_arg6 : FVec F S16400x256 .f32) (main_arg7 : FVec F S16400x256 .f32) (main_arg8 : FVec F S16400x256 .f32) (main_arg9 : FVec F S16400x4 .f32) (main_arg10 : FVec F S16400x4 .f32) (main_v13 : IVec S_ 1) (main_v16 : IVec S4x768 1) : IVec S_ 1 :=
  let main_c_5 : IVec S_ 1 := constantI S_ 1 1#1
  let main_v17 : IVec S_ 1 := (fun x v => Host.reduce IntOp.andi x v reducesTo_S4x768_S_d0_1 h_S_) main_v16 main_c_5
  let main_v18 : IVec S_ 1 := andi main_v13 main_v17
  let main_v19 : FVec F S4 .f32 := Host.absf main_arg4
  let main_cst_6 : FVec F S_ .f32 := constant S_ .f32 0x7F800000#32
  let main_v20 : FVec F S4 .f32 := broadcastInDim S4 ![] bcast_S_S4 main_cst_6
  let main_v21 : IVec S4 1 := cmpf .olt main_v19 main_v20
  let main_c_7 : IVec S_ 1 := constantI S_ 1 1#1
  let main_v22 : IVec S_ 1 := (fun x v => Host.reduce IntOp.andi x v reducesTo_S4_S_d0 h_S_) main_v21 main_c_7
  let main_v23 : IVec S_ 1 := andi main_v18 main_v22
  let main_v24 : FVec F S4 .f32 := Host.absf main_arg5
  let main_cst_8 : FVec F S_ .f32 := constant S_ .f32 0x7F800000#32
  let main_v25 : FVec F S4 .f32 := broadcastInDim S4 ![] bcast_S_S4 main_cst_8
  let main_v26 : IVec S4 1 := cmpf .olt main_v24 main_v25
  let main_c_9 : IVec S_ 1 := constantI S_ 1 1#1
  let main_v27 : IVec S_ 1 := (fun x v => Host.reduce IntOp.andi x v reducesTo_S4_S_d0 h_S_) main_v26 main_c_9
  let main_v28 : IVec S_ 1 := andi main_v23 main_v27
  let main_v29 : FVec F S16400x256 .f32 := Host.absf main_arg6
  let main_cst_10 : FVec F S_ .f32 := constant S_ .f32 0x7F800000#32
  let main_v30 : FVec F S16400x256 .f32 := broadcastInDim S16400x256 ![] bcast_S_S16400x256 main_cst_10
  let main_v31 : IVec S16400x256 1 := cmpf .olt main_v29 main_v30
  let main_c_11 : IVec S_ 1 := constantI S_ 1 1#1
  let main_v32 : IVec S_ 1 := (fun x v => Host.reduce IntOp.andi x v reducesTo_S16400x256_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S16400x768 .f32) (main_arg1 : FVec F S16400x4 .f32) (main_arg2 : FVec F S16400x4 .f32) (main_arg3 : FVec F S4x768 .f32) (main_arg4 : FVec F S4 .f32) (main_arg5 : FVec F S4 .f32) (main_arg6 : FVec F S16400x256 .f32) (main_arg7 : FVec F S16400x256 .f32) (main_arg8 : FVec F S16400x256 .f32) (main_arg9 : FVec F S16400x4 .f32) (main_arg10 : FVec F S16400x4 .f32) : IVec S_ 1 :=
  let main_v0 : FVec F S16400x768 .f32 := Host.absf main_arg0
  let main_cst : FVec F S_ .f32 := constant S_ .f32 0x7F800000#32
  let main_v1 : FVec F S16400x768 .f32 := broadcastInDim S16400x768 ![] bcast_S_S16400x768 main_cst
  let main_v2 : IVec S16400x768 1 := cmpf .olt main_v0 main_v1
  let main_c : IVec S_ 1 := constantI S_ 1 1#1
  let main_v3 : IVec S_ 1 := (fun x v => Host.reduce IntOp.andi x v reducesTo_S16400x768_S_d0_1 h_S_) main_v2 main_c
  let main_v4 : FVec F S16400x4 .f32 := Host.absf main_arg1
  let main_cst_0 : FVec F S_ .f32 := constant S_ .f32 0x7F800000#32
  let main_v5 : FVec F S16400x4 .f32 := broadcastInDim S16400x4 ![] bcast_S_S16400x4 main_cst_0
  let main_v6 : IVec S16400x4 1 := cmpf .olt main_v4 main_v5
  let main_c_1 : IVec S_ 1 := constantI S_ 1 1#1
  let main_v7 : IVec S_ 1 := (fun x v => Host.reduce IntOp.andi x v reducesTo_S16400x4_S_d0_1 h_S_) main_v6 main_c_1
  let main_v8 : IVec S_ 1 := andi main_v3 main_v7
  let main_v9 : FVec F S16400x4 .f32 := Host.absf main_arg2
  let main_cst_2 : FVec F S_ .f32 := constant S_ .f32 0x7F800000#32
  let main_v10 : FVec F S16400x4 .f32 := broadcastInDim S16400x4 ![] bcast_S_S16400x4 main_cst_2
  let main_v11 : IVec S16400x4 1 := cmpf .olt main_v9 main_v10
  let main_c_3 : IVec S_ 1 := constantI S_ 1 1#1
  let main_v12 : IVec S_ 1 := (fun x v => Host.reduce IntOp.andi x v reducesTo_S16400x4_S_d0_1 h_S_) main_v11 main_c_3
  let main_v13 : IVec S_ 1 := andi main_v8 main_v12
  let main_v14 : FVec F S4x768 .f32 := Host.absf main_arg3
  let main_cst_4 : FVec F S_ .f32 := constant S_ .f32 0x7F800000#32
  let main_v15 : FVec F S4x768 .f32 := broadcastInDim S4x768 ![] bcast_S_S4x768 main_cst_4
  let main_v16 : IVec S4x768 1 := cmpf .olt main_v14 main_v15
  fn_part1 (F := F) main_arg4 main_arg5 main_arg6 main_arg7 main_arg8 main_arg9 main_arg10 main_v13 main_v16
-- ==== Pre_sb_finite.lean ====
abbrev S16400x256 : Shape := ⟨2, ![16400, 256]⟩
abbrev S64 : Shape := ⟨1, ![64]⟩
abbrev S_ : Shape := ⟨0, ![]⟩

class Facts : Prop where
  bcast_S_S16400x256 : S_.BroadcastsInDim S16400x256 (![] : Fin 0 → Fin S16400x256.rank)
  reducesTo_S16400x256_S_d0_1 : S16400x256.ReducesTo [0, 1] S_
  h_S_ : 0 < S_.numel
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S16400x256 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S16400x256 .f32 := Host.absf main_arg4
  let main_cst_6 : FVec F S_ .f32 := constant S_ .f32 0x7F800000#32
  let main_v20 : FVec F S16400x256 .f32 := broadcastInDim S16400x256 ![] bcast_S_S16400x256 main_cst_6
  let main_v21 : IVec S16400x256 1 := cmpf .olt main_v19 main_v20
  let main_c_7 : IVec S_ 1 := constantI S_ 1 1#1
  let main_v22 : IVec S_ 1 := (fun x v => Host.reduce IntOp.andi x v reducesTo_S16400x256_S_d0_1 h_S_) main_v21 main_c_7
  let main_v23 : IVec S_ 1 := andi main_v18 main_v22
  main_v23

def fn {F : FTy → Type} [FloatOps F] (main_arg0 : FVec F S16400x256 .f32) (main_arg1 : FVec F S16400x256 .f32) (main_arg2 : FVec F S16400x256 .f32) (main_arg3 : FVec F S64 .f32) (main_arg4 : FVec F S16400x256 .f32) : IVec S_ 1 :=
  let main_v0 : FVec F S16400x256 .f32 := Host.absf main_arg0
  let main_cst : FVec F S_ .f32 := constant S_ .f32 0x7F800000#32
  let main_v1 : FVec F S16400x256 .f32 := broadcastInDim S16400x256 ![] bcast_S_S16400x256 main_cst
  let main_v2 : IVec S16400x256 1 := cmpf .olt main_v0 main_v1
  let main_c : IVec S_ 1 := constantI S_ 1 1#1
  let main_v3 : IVec S_ 1 := (fun x v => Host.reduce IntOp.andi x v reducesTo_S16400x256_S_d0_1 h_S_) main_v2 main_c
  let main_v4 : FVec F S16400x256 .f32 := Host.absf main_arg1
  let main_cst_0 : FVec F S_ .f32 := constant S_ .f32 0x7F800000#32
  let main_v5 : FVec F S16400x256 .f32 := broadcastInDim S16400x256 ![] bcast_S_S16400x256 main_cst_0
  let main_v6 : IVec S16400x256 1 := cmpf .olt main_v4 main_v5
  let main_c_1 : IVec S_ 1 := constantI S_ 1 1#1
  let main_v7 : IVec S_ 1 := (fun x v => Host.reduce IntOp.andi x v reducesTo_S16400x256_S_d0_1 h_S_) main_v6 main_c_1
  let main_v8 : IVec S_ 1 := andi main_v3 main_v7
  let main_v9 : FVec F S16400x256 .f32 := Host.absf main_arg2
  let main_cst_2 : FVec F S_ .f32 := constant S_ .f32 0x7F800000#32
  let main_v10 : FVec F S16400x256 .f32 := broadcastInDim S16400x256 ![] bcast_S_S16400x256 main_cst_2
  let main_v11 : IVec S16400x256 1 := cmpf .olt main_v9 main_v10
  let main_c_3 : IVec S_ 1 := constantI S_ 1 1#1
  let main_v12 : IVec S_ 1 := (fun x v => Host.reduce IntOp.andi x v reducesTo_S16400x256_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_v13 main_v16
-- ==== Pre_sbf_finite.lean ====
abbrev S16400x256 : Shape := ⟨2, ![16400, 256]⟩
abbrev S64 : Shape := ⟨1, ![64]⟩
abbrev S_ : Shape := ⟨0, ![]⟩

class Facts : Prop where
  bcast_S_S16400x256 : S_.BroadcastsInDim S16400x256 (![] : Fin 0 → Fin S16400x256.rank)
  reducesTo_S16400x256_S_d0_1 : S16400x256.ReducesTo [0, 1] S_
  h_S_ : 0 < S_.numel
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S16400x256 .f32) (main_arg1 : FVec F S16400x256 .f32) (main_arg2 : FVec F S16400x256 .f32) (main_arg3 : FVec F S64 .f32) : IVec S_ 1 :=
  let main_v0 : FVec F S16400x256 .f32 := Host.absf main_arg0
  let main_cst : FVec F S_ .f32 := constant S_ .f32 0x7F800000#32
  let main_v1 : FVec F S16400x256 .f32 := broadcastInDim S16400x256 ![] bcast_S_S16400x256 main_cst
  let main_v2 : IVec S16400x256 1 := cmpf .olt main_v0 main_v1
  let main_c : IVec S_ 1 := constantI S_ 1 1#1
  let main_v3 : IVec S_ 1 := (fun x v => Host.reduce IntOp.andi x v reducesTo_S16400x256_S_d0_1 h_S_) main_v2 main_c
  let main_v4 : FVec F S16400x256 .f32 := Host.absf main_arg1
  let main_cst_0 : FVec F S_ .f32 := constant S_ .f32 0x7F800000#32
  let main_v5 : FVec F S16400x256 .f32 := broadcastInDim S16400x256 ![] bcast_S_S16400x256 main_cst_0
  let main_v6 : IVec S16400x256 1 := cmpf .olt main_v4 main_v5
  let main_c_1 : IVec S_ 1 := constantI S_ 1 1#1
  let main_v7 : IVec S_ 1 := (fun x v => Host.reduce IntOp.andi x v reducesTo_S16400x256_S_d0_1 h_S_) main_v6 main_c_1
  let main_v8 : IVec S_ 1 := andi main_v3 main_v7
  let main_v9 : FVec F S16400x256 .f32 := Host.absf main_arg2
  let main_cst_2 : FVec F S_ .f32 := constant S_ .f32 0x7F800000#32
  let main_v10 : FVec F S16400x256 .f32 := broadcastInDim S16400x256 ![] bcast_S_S16400x256 main_cst_2
  let main_v11 : IVec S16400x256 1 := cmpf .olt main_v9 main_v10
  let main_c_3 : IVec S_ 1 := constantI S_ 1 1#1
  let main_v12 : IVec S_ 1 := (fun x v => Host.reduce IntOp.andi x v reducesTo_S16400x256_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Sb.lean ====
abbrev S16400x256 : Shape := ⟨2, ![16400, 256]⟩
abbrev S64 : Shape := ⟨1, ![64]⟩
abbrev S16400x768 : Shape := ⟨2, ![16400, 768]⟩
abbrev S_ : Shape := ⟨0, ![]⟩
abbrev S16640x768 : Shape := ⟨2, ![16640, 768]⟩
abbrev S16640x256 : Shape := ⟨2, ![16640, 256]⟩
abbrev S16640x4x64 : Shape := ⟨3, ![16640, 4, 64]⟩
abbrev S4x16640x16640 : Shape := ⟨3, ![4, 16640, 16640]⟩
abbrev S16640 : Shape := ⟨1, ![16640]⟩
abbrev S1x16640 : Shape := ⟨2, ![1, 16640]⟩
abbrev S16640x1 : Shape := ⟨2, ![16640, 1]⟩
abbrev S16640x16640 : Shape := ⟨2, ![16640, 16640]⟩
abbrev S4x64x16640 : Shape := ⟨3, ![4, 64, 16640]⟩
abbrev S4x16640 : Shape := ⟨2, ![4, 16640]⟩
abbrev S16640x4 : Shape := ⟨2, ![16640, 4]⟩
abbrev S16640x4x1 : Shape := ⟨3, ![16640, 4, 1]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S256x128 : Shape := ⟨2, ![256, 128]⟩
abbrev S16640x128 : Shape := ⟨2, ![16640, 128]⟩
abbrev S256x256 : Shape := ⟨2, ![256, 256]⟩
abbrev S256 : Shape := ⟨1, ![256]⟩
abbrev S256x1 : Shape := ⟨2, ![256, 1]⟩
abbrev S512x128 : Shape := ⟨2, ![512, 128]⟩
abbrev S512x1 : Shape := ⟨2, ![512, 1]⟩
abbrev S512x256 : Shape := ⟨2, ![512, 256]⟩
abbrev S512 : Shape := ⟨1, ![512]⟩

abbrev nBuf : Space → Nat
  | .hbm => 83
  | .vmem => 18
  | .smem => 0
  | _ => 0

abbrev bufTy : (tb : Table) → Fin (tcTables nBuf tb) → BufTy
  | .hbm, ⟨0, _⟩ => ⟨S16400x256, .f32⟩
  | .hbm, ⟨1, _⟩ => ⟨S16400x256, .f32⟩
  | .hbm, ⟨2, _⟩ => ⟨S16400x256, .f32⟩
  | .hbm, ⟨3, _⟩ => ⟨S64, .f32⟩
  | .hbm, ⟨4, _⟩ => ⟨S16400x256, .f32⟩
  | .hbm, ⟨5, _⟩ => ⟨S16400x768, .f32⟩
  | .hbm, ⟨6, _⟩ => ⟨S_, .i32⟩
  | .hbm, ⟨7, _⟩ => ⟨S_, .f32⟩
  | .hbm, ⟨8, _⟩ => ⟨S16640x768, .f32⟩
  | .hbm, ⟨9, _⟩ => ⟨S16640x256, .f32⟩
  | .hbm, ⟨10, _⟩ => ⟨S16640x4x64, .f32⟩
  | .hbm, ⟨11, _⟩ => ⟨S16640x256, .f32⟩
  | .hbm, ⟨12, _⟩ => ⟨S16640x4x64, .f32⟩
  | .hbm, ⟨13, _⟩ => ⟨S16640x256, .f32⟩
  | .hbm, ⟨14, _⟩ => ⟨S16640x4x64, .f32⟩
  | .hbm, ⟨15, _⟩ => ⟨S_, .f32⟩
  | .hbm, ⟨16, _⟩ => ⟨S16640x4x64, .f32⟩
  | .hbm, ⟨17, _⟩ => ⟨S16640x4x64, .f32⟩
  | .hbm, ⟨18, _⟩ => ⟨S4x16640x16640, .f32⟩
  | .hbm, ⟨19, _⟩ => ⟨S16640, .i32⟩
  | .hbm, ⟨20, _⟩ => ⟨S1x16640, .i32⟩
  | .hbm, ⟨21, _⟩ => ⟨S16640x1, .i32⟩
  | .hbm, ⟨22, _⟩ => ⟨S16640x16640, .i32⟩
  | .hbm, ⟨23, _⟩ => ⟨S16640x16640, .i32⟩
  | .hbm, ⟨24, _⟩ => ⟨S16640x16640, .i1⟩
  | .hbm, ⟨25, _⟩ => ⟨S1x16640, .i32⟩
  | .hbm, ⟨26, _⟩ => ⟨S_, .i32⟩
  | .hbm, ⟨27, _⟩ => ⟨S1x16640, .i32⟩
  | .hbm, ⟨28, _⟩ => ⟨S1x16640, .i1⟩
  | .hbm, ⟨29, _⟩ => ⟨S16640x16640, .i1⟩
  | .hbm, ⟨30, _⟩ => ⟨S16640x16640, .i1⟩
  | .hbm, ⟨31, _⟩ => ⟨S_, .f32⟩
  | .hbm, ⟨32, _⟩ => ⟨S4x16640x16640, .f32⟩
  | .hbm, ⟨33, _⟩ => ⟨S4x16640x16640, .f32⟩
  | .hbm, ⟨34, _⟩ => ⟨S4x16640x16640, .f32⟩
  | .hbm, ⟨35, _⟩ => ⟨S4x16640x16640, .f32⟩
  | .hbm, ⟨36, _⟩ => ⟨S4x16640x16640, .f32⟩
  | .hbm, ⟨37, _⟩ => ⟨S_, .f32⟩
  | .hbm, ⟨38, _⟩ => ⟨S4x16640x16640, .f32⟩
  | .hbm, ⟨39, _⟩ => ⟨S4x16640x16640, .f32⟩
  | .hbm, ⟨40, _⟩ => ⟨S4x16640x16640, .f32⟩
  | .hbm, ⟨41, _⟩ => ⟨S4x16640x16640, .f32⟩
  | .hbm, ⟨42, _⟩ => ⟨S_, .f32⟩
  | .hbm, ⟨43, _⟩ => ⟨S_, .f32⟩
  | .hbm, ⟨44, _⟩ => ⟨S4x16640x16640, .i1⟩
  | .hbm, ⟨45, _⟩ => ⟨S4x16640x16640, .f32⟩
  | .hbm, ⟨46, _⟩ => ⟨S4x16640x16640, .f32⟩
  | .hbm, ⟨47, _⟩ => ⟨S_, .f32⟩
  | .hbm, ⟨48, _⟩ => ⟨S_, .f32⟩
  | .hbm, ⟨49, _⟩ => ⟨S4x16640x16640, .f32⟩
  | .hbm, ⟨50, _⟩ => ⟨S4x16640x16640, .f32⟩
  | .hbm, ⟨51, _⟩ => ⟨S4x16640x16640, .f32⟩
  | .hbm, ⟨52, _⟩ => ⟨S_, .f32⟩
  | .hbm, ⟨53, _⟩ => ⟨S_, .f32⟩
  | .hbm, ⟨54, _⟩ => ⟨S4x16640x16640, .i1⟩
  | .hbm, ⟨55, _⟩ => ⟨S4x16640x16640, .f32⟩
  | .hbm, ⟨56, _⟩ => ⟨S4x16640x16640, .f32⟩
  | .hbm, ⟨57, _⟩ => ⟨S4x64x16640, .f32⟩
  | .hbm, ⟨58, _⟩ => ⟨S16640x4x64, .f32⟩
  | .hbm, ⟨59, _⟩ => ⟨S16640x256, .f32⟩
  | .hbm, ⟨60, _⟩ => ⟨S_, .f32⟩
  | .hbm, ⟨61, _⟩ => ⟨S4x16640, .f32⟩
  | .hbm, ⟨62, _⟩ => ⟨S16640x4, .f32⟩
  | .hbm, ⟨63, _⟩ => ⟨S16640x4x1, .f32⟩
  | .hbm, ⟨64, _⟩ => ⟨S16640x4x64, .f32⟩
  | .hbm, ⟨65, _⟩ => ⟨S16640x256, .f32⟩
  | .hbm, ⟨66, _⟩ => ⟨S16640x768, .bf16⟩
  | .hbm, ⟨67, _⟩ => ⟨S_, .i32⟩
  | .hbm, ⟨68, _⟩ => ⟨S_, .f32⟩
  | .hbm, ⟨69, _⟩ => ⟨S16640x256, .f32⟩
  | .hbm, ⟨70, _⟩ => ⟨S1x64, .f32⟩
  | .hbm, ⟨71, _⟩ => ⟨S2x64, .f32⟩
  | .hbm, ⟨72, _⟩ => ⟨S128, .f32⟩
  | .hbm, ⟨73, _⟩ => ⟨S1x128, .f32⟩
  | .hbm, ⟨74, _⟩ => ⟨S16640x256, .f32⟩
  | .hbm, ⟨75, _⟩ => ⟨S16640x256, .f32⟩
  | .hbm, ⟨76, _⟩ => ⟨S16640x256, .f32⟩
  | .hbm, ⟨77, _⟩ => ⟨S1x128, .f32⟩
  | .hbm, ⟨78, _⟩ => ⟨S1x64, .f32⟩
  | .hbm, ⟨79, _⟩ => ⟨S64, .f32⟩
  | .hbm, ⟨80, _⟩ => ⟨S1x64, .f32⟩
  | .hbm, ⟨81, _⟩ => ⟨S64, .f32⟩
  | .hbm, ⟨82, _⟩ => ⟨S64, .f32⟩
  | .local _ .vmem, ⟨0, _⟩ => ⟨S256x128, .bf16⟩
  | .local _ .vmem, ⟨1, _⟩ => ⟨S256x128, .bf16⟩
  | .local _ .vmem, ⟨2, _⟩ => ⟨S16640x128, .bf16⟩
  | .local _ .vmem, ⟨3, _⟩ => ⟨S16640x128, .bf16⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S1x128, .f32⟩
  | .local _ .vmem, ⟨11, _⟩ => ⟨S256x128, .f32⟩
  | .local _ .vmem, ⟨12, _⟩ => ⟨S256x128, .f32⟩
  | .local _ .vmem, ⟨13, _⟩ => ⟨S16640x128, .f32⟩
  | .local _ .vmem, ⟨14, _⟩ => ⟨S16640x128, .f32⟩
  | .local _ .vmem, ⟨15, _⟩ => ⟨S16640x128, .f32⟩
  | .local _ .vmem, ⟨16, _⟩ => ⟨S16640x128, .f32⟩
  | .local _ .vmem, ⟨17, _⟩ => ⟨S1x128, .f32⟩
  | _, _ => ⟨S16400x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v31 : Ref sig .tc := ⟨.hbm, 46, rfl⟩
abbrev main_call2_cst : Ref sig .tc := ⟨.hbm, 47, rfl⟩
abbrev main_call2_v0 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_4 : Ref sig .tc := ⟨.hbm, 52, rfl⟩
abbrev main_call3_v0 : Ref sig .tc := ⟨.hbm, 53, rfl⟩
abbrev main_call3_v1 : Ref sig .tc := ⟨.hbm, 54, rfl⟩
abbrev main_call3_v2 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_5 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_c_6 : Ref sig .tc := ⟨.hbm, 67, rfl⟩
abbrev main_call4_v0 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50_0 : Ref sig .tc := ⟨.hbm, 74, rfl⟩
abbrev main_v50_1 : Ref sig .tc := ⟨.hbm, 75, rfl⟩
abbrev main_v50_2 : Ref sig .tc := ⟨.hbm, 76, rfl⟩
abbrev main_v50_3 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨2, ![2, 65], ![false, false]⟩

@[reducible] def k0_t1_loop (i : grid0.Coords) : Scf.Loop 32 :=
  let c0_i32_37 : BitVec 32 := 0#32
  let arg1 : BitVec 32 := BitVec.ofNat 32 (i 1).val
  let c1_i32_36 : BitVec 32 := 1#32
  let v105 : BitVec 32 := Scalar.minsi arg1 c1_i32_36
  let v106 : BitVec 32 := Scalar.subi v105 c0_i32_37
  let c1_i32_38 : BitVec 32 := 1#32
  let v108 : BitVec 32 := Scalar.divsi v106 c1_i32_38
  let v109 : BitVec 32 := Scalar.muli v108 c1_i32_38
  let v110 : BitVec 32 := Scalar.addi c0_i32_37 v109
  let c1_i32_39 : BitVec 32 := 1#32
  ⟨c0_i32_37, v110, c1_i32_39⟩
def k0_mult1 : BitVec 32 :=
  let c0_i32_92 : BitVec 32 := 0#32
  c0_i32_92
@[reducible] def k0_t2_loop (i : grid0.Coords) : Scf.Loop 32 :=
  let c0_i32_37 : BitVec 32 := 0#32
  let arg1 : BitVec 32 := BitVec.ofNat 32 (i 1).val
  let c1_i32_36 : BitVec 32 := 1#32
  let v105 : BitVec 32 := Scalar.minsi arg1 c1_i32_36
  let v106 : BitVec 32 := Scalar.subi v105 c0_i32_37
  let c1_i32_38 : BitVec 32 := 1#32
  let v108 : BitVec 32 := Scalar.divsi v106 c1_i32_38
  let v109 : BitVec 32 := Scalar.muli v108 c1_i32_38
  let v110 : BitVec 32 := Scalar.addi c0_i32_37 v109
  let v107 : BitVec 32 := Scalar.addi c0_i32_37 v106
  let c1_i32_40 : BitVec 32 := 1#32
  ⟨v110, v107, c1_i32_40⟩
def k0_mult2 : BitVec 32 :=
  let c0_i32_92 : BitVec 32 := 0#32
  c0_i32_92
@[reducible] def k0_t3_loop (i : grid0.Coords) : Scf.Loop 32 :=
  let c0_i32_47 : BitVec 32 := 0#32
  let arg1 : BitVec 32 := BitVec.ofNat 32 (i 1).val
  let c1_i32 : BitVec 32 := 1#32
  let v103 : BitVec 32 := Scalar.subi arg1 c1_i32
  let c0_i32_35 : BitVec 32 := 0#32
  let v104 : BitVec 32 := Scalar.maxsi v103 c0_i32_35
  let c0_i32_41 : BitVec 32 := 0#32
  let v114 : BitVec 1 := Scalar.cmpi .sgt v104 c0_i32_41
  let v115 : BitVec 32 := Scalar.extui v114
  let c0_i32_42 : BitVec 32 := 0#32
  let v116 : BitVec 1 := Scalar.cmpi .slt v104 c0_i32_42
  let v117 : BitVec 32 := Scalar.extui v116
  let v118 : BitVec 32 := Scalar.subi v115 v117
  let c2_i32 : BitVec 32 := 2#32
  let c0_i32_43 : BitVec 32 := 0#32
  let v119 : BitVec 1 := Scalar.cmpi .sgt c2_i32 c0_i32_43
  let v120 : BitVec 32 := Scalar.extui v119
  let c0_i32_44 : BitVec 32 := 0#32
  let v121 : BitVec 1 := Scalar.cmpi .slt c2_i32 c0_i32_44
  let v122 : BitVec 32 := Scalar.extui v121
  let v123 : BitVec 32 := Scalar.subi v120 v122
  let v124 : BitVec 1 := Scalar.cmpi .ne v118 v123
  let v125 : BitVec 32 := Scalar.remsi v104 c2_i32
  let c0_i32_45 : BitVec 32 := 0#32
  let v126 : BitVec 1 := Scalar.cmpi .ne v125 c0_i32_45
  let v127 : BitVec 1 := Scalar.andi v124 v126
  let v113 : BitVec 32 := Scalar.divsi v104 c2_i32
  let c1_i32_46 : BitVec 32 := 1#32
  let v128 : BitVec 32 := Scalar.subi v113 c1_i32_46
  let v129 : BitVec 32 := Scalar.select v127 v128 v113
  let v130 : BitVec 32 := Scalar.subi v129 c0_i32_47
  let c1_i32_48 : BitVec 32 := 1#32
  let v132 : BitVec 32 := Scalar.divsi v130 c1_i32_48
  let v133 : BitVec 32 := Scalar.muli v132 c1_i32_48
  let v134 : BitVec 32 := Scalar.addi c0_i32_47 v133
  let c1_i32_49 : BitVec 32 := 1#32
  ⟨c0_i32_47, v134, c1_i32_49⟩
def k0_mult3 (i : grid0.Coords) (k0_t3 : Fin (k0_t3_loop i).trips) : BitVec 32 :=
  let c1_i32_93 : BitVec 32 := 1#32
  let c2_i32_92 : BitVec 32 := 2#32
  let c0_i32_47 : BitVec 32 := 0#32
  let c1_i32_49 : BitVec 32 := 1#32
  let arg13 : BitVec 32 := Scf.iv c0_i32_47 c1_i32_49 k0_t3
  let v245 : BitVec 32 := Scalar.muli c2_i32_92 arg13
  let v246 : BitVec 32 := Scalar.addi c1_i32_93 v245
  let c256_i32_94 : BitVec 32 := 256#32
  let v247 : BitVec 32 := Scalar.muli v246 c256_i32_94
  v247
def k0_off1 (i : grid0.Coords) (k0_t3 : Fin (k0_t3_loop i).trips) : Fin 2 → Nat :=
  let c1_i32_93 : BitVec 32 := 1#32
  let c2_i32_92 : BitVec 32 := 2#32
  let c0_i32_47 : BitVec 32 := 0#32
  let c1_i32_49 : BitVec 32 := 1#32
  let arg13 : BitVec 32 := Scf.iv c0_i32_47 c1_i32_49 k0_t3
  let v245 : BitVec 32 := Scalar.muli c2_i32_92 arg13
  let v246 : BitVec 32 := Scalar.addi c1_i32_93 v245
  let c256_i32_94 : BitVec 32 := 256#32
  let v247 : BitVec 32 := Scalar.muli v246 c256_i32_94
  let v248 : BitVec 32 := v247
  let v249 : Index := Scalar.indexCast v248
  let c0_95 : Index := 0#32
  ![v249.toNat, 0]
def k0_mult4 (i : grid0.Coords) (k0_t3 : Fin (k0_t3_loop i).trips) : BitVec 32 :=
  let c1_i32_93 : BitVec 32 := 1#32
  let c2_i32_92 : BitVec 32 := 2#32
  let c0_i32_47 : BitVec 32 := 0#32
  let c1_i32_49 : BitVec 32 := 1#32
  let arg13 : BitVec 32 := Scf.iv c0_i32_47 c1_i32_49 k0_t3
  let v245 : BitVec 32 := Scalar.muli c2_i32_92 arg13
  let v246 : BitVec 32 := Scalar.addi c1_i32_93 v245
  let c1_i32_116 : BitVec 32 := 1#32
  let v314 : BitVec 32 := Scalar.addi v246 c1_i32_116
  let c256_i32_117 : BitVec 32 := 256#32
  let v315 : BitVec 32 := Scalar.muli v314 c256_i32_117
  v315
def k0_off2 (i : grid0.Coords) (k0_t3 : Fin (k0_t3_loop i).trips) : Fin 2 → Nat :=
  let c1_i32_93 : BitVec 32 := 1#32
  let c2_i32_92 : BitVec 32 := 2#32
  let c0_i32_47 : BitVec 32 := 0#32
  let c1_i32_49 : BitVec 32 := 1#32
  let arg13 : BitVec 32 := Scf.iv c0_i32_47 c1_i32_49 k0_t3
  let v245 : BitVec 32 := Scalar.muli c2_i32_92 arg13
  let v246 : BitVec 32 := Scalar.addi c1_i32_93 v245
  let c1_i32_116 : BitVec 32 := 1#32
  let v314 : BitVec 32 := Scalar.addi v246 c1_i32_116
  let c256_i32_117 : BitVec 32 := 256#32
  let v315 : BitVec 32 := Scalar.muli v314 c256_i32_117
  let v316 : BitVec 32 := v315
  let v317 : Index := Scalar.indexCast v316
  let c0_118 : Index := 0#32
  ![v317.toNat, 0]
@[reducible] def k0_t4_loop (i : grid0.Coords) : Scf.Loop 32 :=
  let c0_i32_47 : BitVec 32 := 0#32
  let arg1 : BitVec 32 := BitVec.ofNat 32 (i 1).val
  let c1_i32 : BitVec 32 := 1#32
  let v103 : BitVec 32 := Scalar.subi arg1 c1_i32
  let c0_i32_35 : BitVec 32 := 0#32
  let v104 : BitVec 32 := Scalar.maxsi v103 c0_i32_35
  let c0_i32_41 : BitVec 32 := 0#32
  let v114 : BitVec 1 := Scalar.cmpi .sgt v104 c0_i32_41
  let v115 : BitVec 32 := Scalar.extui v114
  let c0_i32_42 : BitVec 32 := 0#32
  let v116 : BitVec 1 := Scalar.cmpi .slt v104 c0_i32_42
  let v117 : BitVec 32 := Scalar.extui v116
  let v118 : BitVec 32 := Scalar.subi v115 v117
  let c2_i32 : BitVec 32 := 2#32
  let c0_i32_43 : BitVec 32 := 0#32
  let v119 : BitVec 1 := Scalar.cmpi .sgt c2_i32 c0_i32_43
  let v120 : BitVec 32 := Scalar.extui v119
  let c0_i32_44 : BitVec 32 := 0#32
  let v121 : BitVec 1 := Scalar.cmpi .slt c2_i32 c0_i32_44
  let v122 : BitVec 32 := Scalar.extui v121
  let v123 : BitVec 32 := Scalar.subi v120 v122
  let v124 : BitVec 1 := Scalar.cmpi .ne v118 v123
  let v125 : BitVec 32 := Scalar.remsi v104 c2_i32
  let c0_i32_45 : BitVec 32 := 0#32
  let v126 : BitVec 1 := Scalar.cmpi .ne v125 c0_i32_45
  let v127 : BitVec 1 := Scalar.andi v124 v126
  let v113 : BitVec 32 := Scalar.divsi v104 c2_i32
  let c1_i32_46 : BitVec 32 := 1#32
  let v128 : BitVec 32 := Scalar.subi v113 c1_i32_46
  let v129 : BitVec 32 := Scalar.select v127 v128 v113
  let v130 : BitVec 32 := Scalar.subi v129 c0_i32_47
  let c1_i32_48 : BitVec 32 := 1#32
  let v132 : BitVec 32 := Scalar.divsi v130 c1_i32_48
  let v133 : BitVec 32 := Scalar.muli v132 c1_i32_48
  let v134 : BitVec 32 := Scalar.addi c0_i32_47 v133
  let v131 : BitVec 32 := Scalar.addi c0_i32_47 v130
  let c1_i32_50 : BitVec 32 := 1#32
  ⟨v134, v131, c1_i32_50⟩
def k0_mult5 (i : grid0.Coords) (k0_t4 : Fin (k0_t4_loop i).trips) : BitVec 32 :=
  let c1_i32_93 : BitVec 32 := 1#32
  let c2_i32_92 : BitVec 32 := 2#32
  let c0_i32_47 : BitVec 32 := 0#32
  let arg1 : BitVec 32 := BitVec.ofNat 32 (i 1).val
  let c1_i32 : BitVec 32 := 1#32
  let v103 : BitVec 32 := Scalar.subi arg1 c1_i32
  let c0_i32_35 : BitVec 32 := 0#32
  let v104 : BitVec 32 := Scalar.maxsi v103 c0_i32_35
  let c0_i32_41 : BitVec 32 := 0#32
  let v114 : BitVec 1 := Scalar.cmpi .sgt v104 c0_i32_41
  let v115 : BitVec 32 := Scalar.extui v114
  let c0_i32_42 : BitVec 32 := 0#32
  let v116 : BitVec 1 := Scalar.cmpi .slt v104 c0_i32_42
  let v117 : BitVec 32 := Scalar.extui v116
  let v118 : BitVec 32 := Scalar.subi v115 v117
  let c2_i32 : BitVec 32 := 2#32
  let c0_i32_43 : BitVec 32 := 0#32
  let v119 : BitVec 1 := Scalar.cmpi .sgt c2_i32 c0_i32_43
  let v120 : BitVec 32 := Scalar.extui v119
  let c0_i32_44 : BitVec 32 := 0#32
  let v121 : BitVec 1 := Scalar.cmpi .slt c2_i32 c0_i32_44
  let v122 : BitVec 32 := Scalar.extui v121
  let v123 : BitVec 32 := Scalar.subi v120 v122
  let v124 : BitVec 1 := Scalar.cmpi .ne v118 v123
  let v125 : BitVec 32 := Scalar.remsi v104 c2_i32
  let c0_i32_45 : BitVec 32 := 0#32
  let v126 : BitVec 1 := Scalar.cmpi .ne v125 c0_i32_45
  let v127 : BitVec 1 := Scalar.andi v124 v126
  let v113 : BitVec 32 := Scalar.divsi v104 c2_i32
  let c1_i32_46 : BitVec 32 := 1#32
  let v128 : BitVec 32 := Scalar.subi v113 c1_i32_46
  let v129 : BitVec 32 := Scalar.select v127 v128 v113
  let v130 : BitVec 32 := Scalar.subi v129 c0_i32_47
  let c1_i32_48 : BitVec 32 := 1#32
  let v132 : BitVec 32 := Scalar.divsi v130 c1_i32_48
  let v133 : BitVec 32 := Scalar.muli v132 c1_i32_48
  let v134 : BitVec 32 := Scalar.addi c0_i32_47 v133
  let c1_i32_50 : BitVec 32 := 1#32
  let arg13 : BitVec 32 := Scf.iv v134 c1_i32_50 k0_t4
  let v245 : BitVec 32 := Scalar.muli c2_i32_92 arg13
  let v246 : BitVec 32 := Scalar.addi c1_i32_93 v245
  let c256_i32_94 : BitVec 32 := 256#32
  let v247 : BitVec 32 := Scalar.muli v246 c256_i32_94
  v247
def k0_off3 (i : grid0.Coords) (k0_t4 : Fin (k0_t4_loop i).trips) : Fin 2 → Nat :=
  let c1_i32_93 : BitVec 32 := 1#32
  let c2_i32_92 : BitVec 32 := 2#32
  let c0_i32_47 : BitVec 32 := 0#32
  let arg1 : BitVec 32 := BitVec.ofNat 32 (i 1).val
  let c1_i32 : BitVec 32 := 1#32
  let v103 : BitVec 32 := Scalar.subi arg1 c1_i32
  let c0_i32_35 : BitVec 32 := 0#32
  let v104 : BitVec 32 := Scalar.maxsi v103 c0_i32_35
  let c0_i32_41 : BitVec 32 := 0#32
  let v114 : BitVec 1 := Scalar.cmpi .sgt v104 c0_i32_41
  let v115 : BitVec 32 := Scalar.extui v114
  let c0_i32_42 : BitVec 32 := 0#32
  let v116 : BitVec 1 := Scalar.cmpi .slt v104 c0_i32_42
  let v117 : BitVec 32 := Scalar.extui v116
  let v118 : BitVec 32 := Scalar.subi v115 v117
  let c2_i32 : BitVec 32 := 2#32
  let c0_i32_43 : BitVec 32 := 0#32
  let v119 : BitVec 1 := Scalar.cmpi .sgt c2_i32 c0_i32_43
  let v120 : BitVec 32 := Scalar.extui v119
  let c0_i32_44 : BitVec 32 := 0#32
  let v121 : BitVec 1 := Scalar.cmpi .slt c2_i32 c0_i32_44
  let v122 : BitVec 32 := Scalar.extui v121
  let v123 : BitVec 32 := Scalar.subi v120 v122
  let v124 : BitVec 1 := Scalar.cmpi .ne v118 v123
  let v125 : BitVec 32 := Scalar.remsi v104 c2_i32
  let c0_i32_45 : BitVec 32 := 0#32
  let v126 : BitVec 1 := Scalar.cmpi .ne v125 c0_i32_45
  let v127 : BitVec 1 := Scalar.andi v124 v126
  let v113 : BitVec 32 := Scalar.divsi v104 c2_i32
  let c1_i32_46 : BitVec 32 := 1#32
  let v128 : BitVec 32 := Scalar.subi v113 c1_i32_46
  let v129 : BitVec 32 := Scalar.select v127 v128 v113
  let v130 : BitVec 32 := Scalar.subi v129 c0_i32_47
  let c1_i32_48 : BitVec 32 := 1#32
  let v132 : BitVec 32 := Scalar.divsi v130 c1_i32_48
  let v133 : BitVec 32 := Scalar.muli v132 c1_i32_48
  let v134 : BitVec 32 := Scalar.addi c0_i32_47 v133
  let c1_i32_50 : BitVec 32 := 1#32
  let arg13 : BitVec 32 := Scf.iv v134 c1_i32_50 k0_t4
  let v245 : BitVec 32 := Scalar.muli c2_i32_92 arg13
  let v246 : BitVec 32 := Scalar.addi c1_i32_93 v245
  let c256_i32_94 : BitVec 32 := 256#32
  let v247 : BitVec 32 := Scalar.muli v246 c256_i32_94
  let v248 : BitVec 32 := v247
  let v249 : Index := Scalar.indexCast v248
  let c0_95 : Index := 0#32
  ![v249.toNat, 0]
def k0_mult6 (i : grid0.Coords) (k0_t4 : Fin (k0_t4_loop i).trips) : BitVec 32 :=
  let c1_i32_93 : BitVec 32 := 1#32
  let c2_i32_92 : BitVec 32 := 2#32
  let c0_i32_47 : BitVec 32 := 0#32
  let arg1 : BitVec 32 := BitVec.ofNat 32 (i 1).val
  let c1_i32 : BitVec 32 := 1#32
  let v103 : BitVec 32 := Scalar.subi arg1 c1_i32
  let c0_i32_35 : BitVec 32 := 0#32
  let v104 : BitVec 32 := Scalar.maxsi v103 c0_i32_35
  let c0_i32_41 : BitVec 32 := 0#32
  let v114 : BitVec 1 := Scalar.cmpi .sgt v104 c0_i32_41
  let v115 : BitVec 32 := Scalar.extui v114
  let c0_i32_42 : BitVec 32 := 0#32
  let v116 : BitVec 1 := Scalar.cmpi .slt v104 c0_i32_42
  let v117 : BitVec 32 := Scalar.extui v116
  let v118 : BitVec 32 := Scalar.subi v115 v117
  let c2_i32 : BitVec 32 := 2#32
  let c0_i32_43 : BitVec 32 := 0#32
  let v119 : BitVec 1 := Scalar.cmpi .sgt c2_i32 c0_i32_43
  let v120 : BitVec 32 := Scalar.extui v119
  let c0_i32_44 : BitVec 32 := 0#32
  let v121 : BitVec 1 := Scalar.cmpi .slt c2_i32 c0_i32_44
  let v122 : BitVec 32 := Scalar.extui v121
  let v123 : BitVec 32 := Scalar.subi v120 v122
  let v124 : BitVec 1 := Scalar.cmpi .ne v118 v123
  let v125 : BitVec 32 := Scalar.remsi v104 c2_i32
  let c0_i32_45 : BitVec 32 := 0#32
  let v126 : BitVec 1 := Scalar.cmpi .ne v125 c0_i32_45
  let v127 : BitVec 1 := Scalar.andi v124 v126
  let v113 : BitVec 32 := Scalar.divsi v104 c2_i32
  let c1_i32_46 : BitVec 32 := 1#32
  let v128 : BitVec 32 := Scalar.subi v113 c1_i32_46
  let v129 : BitVec 32 := Scalar.select v127 v128 v113
  let v130 : BitVec 32 := Scalar.subi v129 c0_i32_47
  let c1_i32_48 : BitVec 32 := 1#32
  let v132 : BitVec 32 := Scalar.divsi v130 c1_i32_48
  let v133 : BitVec 32 := Scalar.muli v132 c1_i32_48
  let v134 : BitVec 32 := Scalar.addi c0_i32_47 v133
  let c1_i32_50 : BitVec 32 := 1#32
  let arg13 : BitVec 32 := Scf.iv v134 c1_i32_50 k0_t4
  let v245 : BitVec 32 := Scalar.muli c2_i32_92 arg13
  let v246 : BitVec 32 := Scalar.addi c1_i32_93 v245
  let c1_i32_116 : BitVec 32 := 1#32
  let v314 : BitVec 32 := Scalar.addi v246 c1_i32_116
  let c256_i32_117 : BitVec 32 := 256#32
  let v315 : BitVec 32 := Scalar.muli v314 c256_i32_117
  v315
def k0_off4 (i : grid0.Coords) (k0_t4 : Fin (k0_t4_loop i).trips) : Fin 2 → Nat :=
  let c1_i32_93 : BitVec 32 := 1#32
  let c2_i32_92 : BitVec 32 := 2#32
  let c0_i32_47 : BitVec 32 := 0#32
  let arg1 : BitVec 32 := BitVec.ofNat 32 (i 1).val
  let c1_i32 : BitVec 32 := 1#32
  let v103 : BitVec 32 := Scalar.subi arg1 c1_i32
  let c0_i32_35 : BitVec 32 := 0#32
  let v104 : BitVec 32 := Scalar.maxsi v103 c0_i32_35
  let c0_i32_41 : BitVec 32 := 0#32
  let v114 : BitVec 1 := Scalar.cmpi .sgt v104 c0_i32_41
  let v115 : BitVec 32 := Scalar.extui v114
  let c0_i32_42 : BitVec 32 := 0#32
  let v116 : BitVec 1 := Scalar.cmpi .slt v104 c0_i32_42
  let v117 : BitVec 32 := Scalar.extui v116
  let v118 : BitVec 32 := Scalar.subi v115 v117
  let c2_i32 : BitVec 32 := 2#32
  let c0_i32_43 : BitVec 32 := 0#32
  let v119 : BitVec 1 := Scalar.cmpi .sgt c2_i32 c0_i32_43
  let v120 : BitVec 32 := Scalar.extui v119
  let c0_i32_44 : BitVec 32 := 0#32
  let v121 : BitVec 1 := Scalar.cmpi .slt c2_i32 c0_i32_44
  let v122 : BitVec 32 := Scalar.extui v121
  let v123 : BitVec 32 := Scalar.subi v120 v122
  let v124 : BitVec 1 := Scalar.cmpi .ne v118 v123
  let v125 : BitVec 32 := Scalar.remsi v104 c2_i32
  let c0_i32_45 : BitVec 32 := 0#32
  let v126 : BitVec 1 := Scalar.cmpi .ne v125 c0_i32_45
  let v127 : BitVec 1 := Scalar.andi v124 v126
  let v113 : BitVec 32 := Scalar.divsi v104 c2_i32
  let c1_i32_46 : BitVec 32 := 1#32
  let v128 : BitVec 32 := Scalar.subi v113 c1_i32_46
  let v129 : BitVec 32 := Scalar.select v127 v128 v113
  let v130 : BitVec 32 := Scalar.subi v129 c0_i32_47
  let c1_i32_48 : BitVec 32 := 1#32
  let v132 : BitVec 32 := Scalar.divsi v130 c1_i32_48
  let v133 : BitVec 32 := Scalar.muli v132 c1_i32_48
  let v134 : BitVec 32 := Scalar.addi c0_i32_47 v133
  let c1_i32_50 : BitVec 32 := 1#32
  let arg13 : BitVec 32 := Scf.iv v134 c1_i32_50 k0_t4
  let v245 : BitVec 32 := Scalar.muli c2_i32_92 arg13
  let v246 : BitVec 32 := Scalar.addi c1_i32_93 v245
  let c1_i32_116 : BitVec 32 := 1#32
  let v314 : BitVec 32 := Scalar.addi v246 c1_i32_116
  let c256_i32_117 : BitVec 32 := 256#32
  let v315 : BitVec 32 := Scalar.muli v314 c256_i32_117
  let v316 : BitVec 32 := v315
  let v317 : Index := Scalar.indexCast v316
  let c0_118 : Index := 0#32
  ![v317.toNat, 0]
@[reducible] def k0_t5_loop (i : grid0.Coords) : Scf.Loop 32 :=
  let c0_i32_58 : BitVec 32 := 0#32
  let arg1 : BitVec 32 := BitVec.ofNat 32 (i 1).val
  let c1_i32 : BitVec 32 := 1#32
  let v103 : BitVec 32 := Scalar.subi arg1 c1_i32
  let c0_i32_35 : BitVec 32 := 0#32
  let v104 : BitVec 32 := Scalar.maxsi v103 c0_i32_35
  let c2_i32_52 : BitVec 32 := 2#32
  let c0_i32_53 : BitVec 32 := 0#32
  let v138 : BitVec 1 := Scalar.cmpi .eq c2_i32_52 c0_i32_53
  let c1_i32_54 : BitVec 32 := 1#32
  let v139 : BitVec 32 := Scalar.select v138 c1_i32_54 c2_i32_52
  let v140 : BitVec 32 := Scalar.remsi v104 v139
  let c0_i32_56 : BitVec 32 := 0#32
  let v142 : BitVec 1 := Scalar.cmpi .slt v140 c0_i32_56
  let c0_i32_57 : BitVec 32 := 0#32
  let v143 : BitVec 1 := Scalar.cmpi .slt v139 c0_i32_57
  let v144 : BitVec 1 := Scalar.xori v142 v143
  let c0_i32_55 : BitVec 32 := 0#32
  let v141 : BitVec 1 := Scalar.cmpi .ne v140 c0_i32_55
  let v145 : BitVec 1 := Scalar.andi v144 v141
  let v146 : BitVec 32 := Scalar.addi v140 v139
  let v147 : BitVec 32 := Scalar.select v145 v146 v140
  let v148 : BitVec 32 := Scalar.subi v147 c0_i32_58
  let c1_i32_59 : BitVec 32 := 1#32
  let v150 : BitVec 32 := Scalar.divsi v148 c1_i32_59
  let v151 : BitVec 32 := Scalar.muli v150 c1_i32_59
  let v152 : BitVec 32 := Scalar.addi c0_i32_58 v151
  let c1_i32_60 : BitVec 32 := 1#32
  ⟨c0_i32_58, v152, c1_i32_60⟩
def k0_mult7 (i : grid0.Coords) : BitVec 32 :=
  let arg1 : BitVec 32 := BitVec.ofNat 32 (i 1).val
  let c1_i32_51 : BitVec 32 := 1#32
  let v137 : BitVec 32 := Scalar.subi arg1 c1_i32_51
  let c256_i32_92 : BitVec 32 := 256#32
  let v245 : BitVec 32 := Scalar.muli v137 c256_i32_92
  v245
def k0_off5 (i : grid0.Coords) : Fin 2 → Nat :=
  let arg1 : BitVec 32 := BitVec.ofNat 32 (i 1).val
  let c1_i32_51 : BitVec 32 := 1#32
  let v137 : BitVec 32 := Scalar.subi arg1 c1_i32_51
  let c256_i32_92 : BitVec 32 := 256#32
  let v245 : BitVec 32 := Scalar.muli v137 c256_i32_92
  let v246 : BitVec 32 := v245
  let v247 : Index := Scalar.indexCast v246
  let c0_93 : Index := 0#32
  ![v247.toNat, 0]
@[reducible] def k0_t6_loop (i : grid0.Coords) : Scf.Loop 32 :=
  let c0_i32_58 : BitVec 32 := 0#32
  let arg1 : BitVec 32 := BitVec.ofNat 32 (i 1).val
  let c1_i32 : BitVec 32 := 1#32
  let v103 : BitVec 32 := Scalar.subi arg1 c1_i32
  let c0_i32_35 : BitVec 32 := 0#32
  let v104 : BitVec 32 := Scalar.maxsi v103 c0_i32_35
  let c2_i32_52 : BitVec 32 := 2#32
  let c0_i32_53 : BitVec 32 := 0#32
  let v138 : BitVec 1 := Scalar.cmpi .eq c2_i32_52 c0_i32_53
  let c1_i32_54 : BitVec 32 := 1#32
  let v139 : BitVec 32 := Scalar.select v138 c1_i32_54 c2_i32_52
  let v140 : BitVec 32 := Scalar.remsi v104 v139
  let c0_i32_56 : BitVec 32 := 0#32
  let v142 : BitVec 1 := Scalar.cmpi .slt v140 c0_i32_56
  let c0_i32_57 : BitVec 32 := 0#32
  let v143 : BitVec 1 := Scalar.cmpi .slt v139 c0_i32_57
  let v144 : BitVec 1 := Scalar.xori v142 v143
  let c0_i32_55 : BitVec 32 := 0#32
  let v141 : BitVec 1 := Scalar.cmpi .ne v140 c0_i32_55
  let v145 : BitVec 1 := Scalar.andi v144 v141
  let v146 : BitVec 32 := Scalar.addi v140 v139
  let v147 : BitVec 32 := Scalar.select v145 v146 v140
  let v148 : BitVec 32 := Scalar.subi v147 c0_i32_58
  let c1_i32_59 : BitVec 32 := 1#32
  let v150 : BitVec 32 := Scalar.divsi v148 c1_i32_59
  let v151 : BitVec 32 := Scalar.muli v150 c1_i32_59
  let v152 : BitVec 32 := Scalar.addi c0_i32_58 v151
  let v149 : BitVec 32 := Scalar.addi c0_i32_58 v148
  let c1_i32_61 : BitVec 32 := 1#32
  ⟨v152, v149, c1_i32_61⟩
def k0_mult8 (i : grid0.Coords) : BitVec 32 :=
  let arg1 : BitVec 32 := BitVec.ofNat 32 (i 1).val
  let c1_i32_51 : BitVec 32 := 1#32
  let v137 : BitVec 32 := Scalar.subi arg1 c1_i32_51
  let c256_i32_92 : BitVec 32 := 256#32
  let v245 : BitVec 32 := Scalar.muli v137 c256_i32_92
  v245
def k0_off6 (i : grid0.Coords) : Fin 2 → Nat :=
  let arg1 : BitVec 32 := BitVec.ofNat 32 (i 1).val
  let c1_i32_51 : BitVec 32 := 1#32
  let v137 : BitVec 32 := Scalar.subi arg1 c1_i32_51
  let c256_i32_92 : BitVec 32 := 256#32
  let v245 : BitVec 32 := Scalar.muli v137 c256_i32_92
  let v246 : BitVec 32 := v245
  let v247 : Index := Scalar.indexCast v246
  let c0_93 : Index := 0#32
  ![v247.toNat, 0]
def k0_mult9 (i : grid0.Coords) : BitVec 32 :=
  let arg1 : BitVec 32 := BitVec.ofNat 32 (i 1).val
  let c256_i32 : BitVec 32 := 256#32
  let v155 : BitVec 32 := Scalar.muli arg1 c256_i32
  v155
def k0_off7 (i : grid0.Coords) : Fin 2 → Nat :=
  let arg1 : BitVec 32 := BitVec.ofNat 32 (i 1).val
  let c256_i32 : BitVec 32 := 256#32
  let v155 : BitVec 32 := Scalar.muli arg1 c256_i32
  let v156 : BitVec 32 := v155
  let v157 : Index := Scalar.indexCast v156
  let c0_62 : Index := 0#32
  ![v157.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16640x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S16640x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S16640x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S16640x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== SbRefIdeal.lean ====
abbrev S16400x256 : Shape := ⟨2, ![16400, 256]⟩
abbrev S64 : Shape := ⟨1, ![64]⟩
abbrev S16400x4x64 : Shape := ⟨3, ![16400, 4, 64]⟩
abbrev S4x16400x64 : Shape := ⟨3, ![4, 16400, 64]⟩
abbrev S16400 : Shape := ⟨1, ![16400]⟩
abbrev S4x16400x16400 : Shape := ⟨3, ![4, 16400, 16400]⟩
abbrev S_ : Shape := ⟨0, ![]⟩
abbrev S1x16400 : Shape := ⟨2, ![1, 16400]⟩
abbrev S16400x1 : Shape := ⟨2, ![16400, 1]⟩
abbrev S16400x16400 : Shape := ⟨2, ![16400, 16400]⟩
abbrev S16400x4 : Shape := ⟨2, ![16400, 4]⟩
abbrev S16400x4x1 : Shape := ⟨3, ![16400, 4, 1]⟩
abbrev S1x1x64 : Shape := ⟨3, ![1, 1, 64]⟩
abbrev S4x64x16400 : Shape := ⟨3, ![4, 64, 16400]⟩
abbrev S16640x256 : Shape := ⟨2, ![16640, 256]⟩

abbrev nBuf : Space → Nat
  | .hbm => 231
  | .vmem => 0
  | .smem => 0
  | _ => 0

abbrev hbmTy0_0 (i : Nat) : BufTy := match i % 128 with
  | 0 => ⟨S16400x256, .f32⟩
  | 1 => ⟨S16400x256, .f32⟩
  | 2 => ⟨S16400x256, .f32⟩
  | 3 => ⟨S64, .f32⟩
  | 4 => ⟨S16400x256, .f32⟩
  | 5 => ⟨S16400x4x64, .f32⟩
  | 6 => ⟨S16400x4x64, .f32⟩
  | 7 => ⟨S16400x4x64, .f32⟩
  | 8 => ⟨S4x16400x64, .f32⟩
  | 9 => ⟨S4x16400x64, .f32⟩
  | 10 => ⟨S4x16400x64, .f32⟩
  | 11 => ⟨S16400, .i32⟩
  | 12 => ⟨S4x16400x16400, .f32⟩
  | 13 => ⟨S_, .f32⟩
  | 14 => ⟨S4x16400x16400, .f32⟩
  | 15 => ⟨S4x16400x16400, .f32⟩
  | 16 => ⟨S1x16400, .i32⟩
  | 17 => ⟨S16400x1, .i32⟩
  | 18 => ⟨S16400x16400, .i32⟩
  | 19 => ⟨S16400x16400, .i32⟩
  | 20 => ⟨S16400x16400, .i1⟩
  | 21 => ⟨S4x16400x16400, .f32⟩
  | 22 => ⟨S4x16400x16400, .f32⟩
  | 23 => ⟨S_, .f32⟩
  | 24 => ⟨S4x16400x16400, .f32⟩
  | 25 => ⟨S4x16400x16400, .f32⟩
  | 26 => ⟨S4x16400x16400, .f32⟩
  | 27 => ⟨S4x16400x16400, .f32⟩
  | 28 => ⟨S4x16400x16400, .i1⟩
  | 29 => ⟨S4x16400x16400, .f32⟩
  | 30 => ⟨S4x16400x16400, .f32⟩
  | 31 => ⟨S4x16400x16400, .f32⟩
  | 32 => ⟨S4x16400x16400, .f32⟩
  | 33 => ⟨S4x16400x16400, .f32⟩
  | 34 => ⟨S4x16400x16400, .f32⟩
  | 35 => ⟨S4x16400x16400, .f32⟩
  | 36 => ⟨S4x16400x16400, .f32⟩
  | 37 => ⟨S_, .f32⟩
  | 38 => ⟨S4x16400x16400, .f32⟩
  | 39 => ⟨S4x16400x16400, .i1⟩
  | 40 => ⟨S_, .f32⟩
  | 41 => ⟨S4x16400x16400, .f32⟩
  | 42 => ⟨S4x16400x16400, .f32⟩
  | 43 => ⟨S_, .f32⟩
  | 44 => ⟨S4x16400x16400, .f32⟩
  | 45 => ⟨S4x16400x16400, .i1⟩
  | 46 => ⟨S_, .f32⟩
  | 47 => ⟨S4x16400x16400, .f32⟩
  | 48 => ⟨S4x16400x16400, .f32⟩
  | 49 => ⟨S4x16400x16400, .f32⟩
  | 50 => ⟨S4x16400x16400, .f32⟩
  | 51 => ⟨S_, .f32⟩
  | 52 => ⟨S_, .f32⟩
  | 53 => ⟨S_, .i1⟩
  | 54 => ⟨S_, .f32⟩
  | 55 => ⟨S_, .f32⟩
  | 56 => ⟨S_, .f32⟩
  | 57 => ⟨S_, .f32⟩
  | 58 => ⟨S4x16400x16400, .f32⟩
  | 59 => ⟨S4x16400x16400, .i1⟩
  | 60 => ⟨S_, .f32⟩
  | 61 => ⟨S4x16400x16400, .f32⟩
  | 62 => ⟨S4x16400x16400, .f32⟩
  | 63 => ⟨S4x16400x16400, .f32⟩
  | 64 => ⟨S4x16400x16400, .f32⟩
  | 65 => ⟨S4x16400x16400, .f32⟩
  | 66 => ⟨S_, .f32⟩
  | 67 => ⟨S4x16400x16400, .f32⟩
  | 68 => ⟨S4x16400x16400, .f32⟩
  | 69 => ⟨S4x16400x16400, .f32⟩
  | 70 => ⟨S_, .f32⟩
  | 71 => ⟨S_, .f32⟩
  | 72 => ⟨S4x16400x16400, .i1⟩
  | 73 => ⟨S4x16400x16400, .f32⟩
  | 74 => ⟨S4x16400x16400, .f32⟩
  | 75 => ⟨S_, .f32⟩
  | 76 => ⟨S4x16400x16400, .f32⟩
  | 77 => ⟨S_, .f32⟩
  | 78 => ⟨S_, .f32⟩
  | 79 => ⟨S4x16400x16400, .f32⟩
  | 80 => ⟨S4x16400x16400, .f32⟩
  | 81 => ⟨S4x16400x16400, .f32⟩
  | 82 => ⟨S_, .f32⟩
  | 83 => ⟨S4x16400x16400, .f32⟩
  | 84 => ⟨S4x16400x16400, .f32⟩
  | 85 => ⟨S4x16400x16400, .f32⟩
  | 86 => ⟨S4x16400x16400, .f32⟩
  | 87 => ⟨S4x16400x16400, .i1⟩
  | 88 => ⟨S4x16400x16400, .f32⟩
  | 89 => ⟨S4x16400x16400, .f32⟩
  | 90 => ⟨S4x16400x16400, .f32⟩
  | 91 => ⟨S4x16400x16400, .f32⟩
  | 92 => ⟨S4x16400x16400, .f32⟩
  | 93 => ⟨S4x16400x16400, .f32⟩
  | 94 => ⟨S4x16400x16400, .f32⟩
  | 95 => ⟨S4x16400x16400, .f32⟩
  | 96 => ⟨S_, .f32⟩
  | 97 => ⟨S4x16400x16400, .f32⟩
  | 98 => ⟨S4x16400x16400, .i1⟩
  | 99 => ⟨S_, .f32⟩
  | 100 => ⟨S4x16400x16400, .f32⟩
  | 101 => ⟨S4x16400x16400, .f32⟩
  | 102 => ⟨S_, .f32⟩
  | 103 => ⟨S4x16400x16400, .f32⟩
  | 104 => ⟨S4x16400x16400, .i1⟩
  | 105 => ⟨S_, .f32⟩
  | 106 => ⟨S4x16400x16400, .f32⟩
  | 107 => ⟨S4x16400x16400, .f32⟩
  | 108 => ⟨S4x16400x16400, .f32⟩
  | 109 => ⟨S4x16400x16400, .f32⟩
  | 110 => ⟨S_, .f32⟩
  | 111 => ⟨S_, .f32⟩
  | 112 => ⟨S_, .i1⟩
  | 113 => ⟨S_, .f32⟩
  | 114 => ⟨S_, .f32⟩
  | 115 => ⟨S_, .f32⟩
  | 116 => ⟨S_, .f32⟩
  | 117 => ⟨S4x16400x16400, .f32⟩
  | 118 => ⟨S4x16400x16400, .i1⟩
  | 119 => ⟨S_, .f32⟩
  | 120 => ⟨S4x16400x16400, .f32⟩
  | 121 => ⟨S4x16400x16400, .f32⟩
  | 122 => ⟨S4x16400x16400, .f32⟩
  | 123 => ⟨S4x16400x16400, .f32⟩
  | 124 => ⟨S4x16400x16400, .f32⟩
  | 125 => ⟨S_, .f32⟩
  | 126 => ⟨S4x16400x16400, .f32⟩
  | 127 => ⟨S4x16400x16400, .f32⟩
  | _ => ⟨S16400x256, .f32⟩

abbrev hbmTy0_1 (i : Nat) : BufTy := match i % 128 with
  | 0 => ⟨S4x16400x16400, .f32⟩
  | 1 => ⟨S4x16400x16400, .f32⟩
  | 2 => ⟨S4x16400x16400, .f32⟩
  | 3 => ⟨S_, .f32⟩
  | 4 => ⟨S_, .f32⟩
  | 5 => ⟨S4x16400x16400, .i1⟩
  | 6 => ⟨S4x16400x16400, .f32⟩
  | 7 => ⟨S4x16400x16400, .f32⟩
  | 8 => ⟨S_, .f32⟩
  | 9 => ⟨S4x16400x16400, .f32⟩
  | 10 => ⟨S4x16400x64, .f32⟩
  | 11 => ⟨S16400x4x64, .f32⟩
  | 12 => ⟨S16400x4x64, .f32⟩
  | 13 => ⟨S_, .f32⟩
  | 14 => ⟨S16400x4, .f32⟩
  | 15 => ⟨S16400x4x1, .f32⟩
  | 16 => ⟨S_, .f32⟩
  | 17 => ⟨S16400x4x1, .f32⟩
  | 18 => ⟨S16400x4x1, .f32⟩
  | 19 => ⟨S_, .f32⟩
  | 20 => ⟨S16400x4x1, .f32⟩
  | 21 => ⟨S16400x4x1, .f32⟩
  | 22 => ⟨S16400x4x1, .f32⟩
  | 23 => ⟨S16400x4x1, .f32⟩
  | 24 => ⟨S_, .f32⟩
  | 25 => ⟨S16400x4x1, .f32⟩
  | 26 => ⟨S16400x4x1, .f32⟩
  | 27 => ⟨S16400x4x64, .f32⟩
  | 28 => ⟨S16400x4x64, .f32⟩
  | 29 => ⟨S1x1x64, .f32⟩
  | 30 => ⟨S16400x4x64, .f32⟩
  | 31 => ⟨S16400x4x64, .f32⟩
  | 32 => ⟨S16400x256, .f32⟩
  | 33 => ⟨S16400x4x64, .f32⟩
  | 34 => ⟨S16400x4x64, .f32⟩
  | 35 => ⟨S_, .f32⟩
  | 36 => ⟨S64, .f32⟩
  | 37 => ⟨S1x1x64, .f32⟩
  | 38 => ⟨S16400x4x64, .f32⟩
  | 39 => ⟨S16400x4x64, .f32⟩
  | 40 => ⟨S_, .f32⟩
  | 41 => ⟨S64, .f32⟩
  | 42 => ⟨S16400x4x64, .f32⟩
  | 43 => ⟨S_, .f32⟩
  | 44 => ⟨S16400x4, .f32⟩
  | 45 => ⟨S16400x4x1, .f32⟩
  | 46 => ⟨S16400x4x64, .f32⟩
  | 47 => ⟨S16400x4x64, .f32⟩
  | 48 => ⟨S16400x4x1, .f32⟩
  | 49 => ⟨S_, .f32⟩
  | 50 => ⟨S16400x4x1, .f32⟩
  | 51 => ⟨S16400x4x1, .f32⟩
  | 52 => ⟨S_, .f32⟩
  | 53 => ⟨S16400x4, .f32⟩
  | 54 => ⟨S16400x4x64, .f32⟩
  | 55 => ⟨S16400x4x64, .f32⟩
  | 56 => ⟨S16400x4x64, .f32⟩
  | 57 => ⟨S16400x4x64, .f32⟩
  | 58 => ⟨S16400x4x64, .f32⟩
  | 59 => ⟨S4x16400x64, .f32⟩
  | 60 => ⟨S4x64x16400, .f32⟩
  | 61 => ⟨S4x16400x64, .f32⟩
  | 62 => ⟨S4x16400x16400, .f32⟩
  | 63 => ⟨S_, .f32⟩
  | 64 => ⟨S4x16400x16400, .f32⟩
  | 65 => ⟨S4x16400x16400, .f32⟩
  | 66 => ⟨S4x16400x16400, .f32⟩
  | 67 => ⟨S4x16400x16400, .f32⟩
  | 68 => ⟨S4x16400x16400, .f32⟩
  | 69 => ⟨S4x16400x16400, .f32⟩
  | 70 => ⟨S4x16400x16400, .f32⟩
  | 71 => ⟨S_, .f32⟩
  | 72 => ⟨S_, .f32⟩
  | 73 => ⟨S4x16400x16400, .f32⟩
  | 74 => ⟨S4x16400x16400, .f32⟩
  | 75 => ⟨S_, .f32⟩
  | 76 => ⟨S4x16400x16400, .f32⟩
  | 77 => ⟨S4x16400x16400, .f32⟩
  | 78 => ⟨S4x16400x16400, .f32⟩
  | 79 => ⟨S4x16400x16400, .f32⟩
  | 80 => ⟨S4x16400x16400, .f32⟩
  | 81 => ⟨S4x16400x16400, .f32⟩
  | 82 => ⟨S4x16400x16400, .f32⟩
  | 83 => ⟨S_, .f32⟩
  | 84 => ⟨S4x16400x16400, .f32⟩
  | 85 => ⟨S4x16400x16400, .f32⟩
  | 86 => ⟨S4x16400x64, .f32⟩
  | 87 => ⟨S4x16400x64, .f32⟩
  | 88 => ⟨S16400x4x64, .f32⟩
  | 89 => ⟨S16400x4x64, .f32⟩
  | 90 => ⟨S16400x4x64, .f32⟩
  | 91 => ⟨S16400x256, .f32⟩
  | 92 => ⟨S16400x256, .f32⟩
  | 93 => ⟨S16400x256, .f32⟩
  | 94 => ⟨S_, .i32⟩
  | 95 => ⟨S_, .f32⟩
  | 96 => ⟨S16640x256, .f32⟩
  | 97 => ⟨S_, .i32⟩
  | 98 => ⟨S_, .f32⟩
  | 99 => ⟨S16640x256, .f32⟩
  | 100 => ⟨S_, .i32⟩
  | 101 => ⟨S_, .f32⟩
  | 102 => ⟨S16640x256, .f32⟩
  | _ => ⟨S16400x256, .f32⟩

abbrev hbmTy (i : Nat) : BufTy := match i / 128 with
  | 0 => hbmTy0_0 i
  | 1 => hbmTy0_1 i
  | _ => ⟨S16400x256, .f32⟩

abbrev bufTy : (tb : Table) → Fin (tcTables nBuf tb) → BufTy
  | .hbm, ⟨i, _⟩ => hbmTy i
  | _, _ => ⟨S16400x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1_0 : Ref sig .tc := ⟨.hbm, 36, rfl⟩
abbrev main_call0_call0_cst_0 : Ref sig .tc := ⟨.hbm, 37, rfl⟩
abbrev main_call0_call0_v13 : Ref sig .tc := ⟨.hbm, 38, rfl⟩
abbrev main_call0_call0_v14 : Ref sig .tc := ⟨.hbm, 39, rfl⟩
abbrev main_call0_call0_cst_1 : Ref sig .tc := ⟨.hbm, 40, rfl⟩
abbrev main_call0_call0_v15 : Ref sig .tc := ⟨.hbm, 41, rfl⟩
abbrev main_call0_call0_v16 : Ref sig .tc := ⟨.hbm, 42, rfl⟩
abbrev main_call0_call0_cst_2 : Ref sig .tc := ⟨.hbm, 43, rfl⟩
abbrev main_call0_call0_v17 : Ref sig .tc := ⟨.hbm, 44, rfl⟩
abbrev main_call0_call0_v18 : Ref sig .tc := ⟨.hbm, 45, rfl⟩
abbrev main_call0_call0_cst_3 : Ref sig .tc := ⟨.hbm, 46, rfl⟩
abbrev main_call0_call0_v19 : Ref sig .tc := ⟨.hbm, 47, rfl⟩
abbrev main_call0_call0_v20 : Ref sig .tc := ⟨.hbm, 48, rfl⟩
abbrev main_call0_call0_v21 : Ref sig .tc := ⟨.hbm, 49, rfl⟩
abbrev main_v16_1 : Ref sig .tc := ⟨.hbm, 50, rfl⟩
abbrev main_call0_call0_cst_4 : Ref sig .tc := ⟨.hbm, 51, rfl⟩
abbrev main_call0_call0_cst_5 : Ref sig .tc := ⟨.hbm, 52, rfl⟩
abbrev main_call0_call0_v23 : Ref sig .tc := ⟨.hbm, 53, rfl⟩
abbrev main_call0_call0_cst_6 : Ref sig .tc := ⟨.hbm, 54, rfl⟩
abbrev main_call0_call0_cst_7 : Ref sig .tc := ⟨.hbm, 55, rfl⟩
abbrev main_call0_call0_v24 : Ref sig .tc := ⟨.hbm, 56, rfl⟩
abbrev main_call0_call0_cst_8 : Ref sig .tc := ⟨.hbm, 57, rfl⟩
abbrev main_call0_call0_v25 : Ref sig .tc := ⟨.hbm, 58, rfl⟩
abbrev main_call0_call0_v26 : Ref sig .tc := ⟨.hbm, 59, rfl⟩
abbrev main_call0_call0_cst_9 : Ref sig .tc := ⟨.hbm, 60, rfl⟩
abbrev main_call0_call0_v27 : Ref sig .tc := ⟨.hbm, 61, rfl⟩
abbrev main_call0_call0_v28 : Ref sig .tc := ⟨.hbm, 62, rfl⟩
abbrev main_call0_call0_v29 : Ref sig .tc := ⟨.hbm, 63, rfl⟩
abbrev main_call0_call0_v30 : Ref sig .tc := ⟨.hbm, 64, rfl⟩
abbrev main_call0_call0_v31 : Ref sig .tc := ⟨.hbm, 65, rfl⟩
abbrev main_call0_call0_cst_10 : Ref sig .tc := ⟨.hbm, 66, rfl⟩
abbrev main_call0_call0_v32 : Ref sig .tc := ⟨.hbm, 67, rfl⟩
abbrev main_v16_2 : Ref sig .tc := ⟨.hbm, 68, rfl⟩
abbrev main_v16_0 : Ref sig .tc := ⟨.hbm, 69, rfl⟩
abbrev main_cst_0 : Ref sig .tc := ⟨.hbm, 70, rfl⟩
abbrev main_call1_v0 : Ref sig .tc := ⟨.hbm, 71, rfl⟩
abbrev main_v17_1 : Ref sig .tc := ⟨.hbm, 72, rfl⟩
abbrev main_call1_v2 : Ref sig .tc := ⟨.hbm, 73, rfl⟩
abbrev main_v17_0 : Ref sig .tc := ⟨.hbm, 74, rfl⟩
abbrev main_call1_cst : Ref sig .tc := ⟨.hbm, 75, rfl⟩
abbrev main_v17_2 : Ref sig .tc := ⟨.hbm, 76, rfl⟩
abbrev main_call2_cst : Ref sig .tc := ⟨.hbm, 77, rfl⟩
abbrev main_call2_v0 : Ref sig .tc := ⟨.hbm, 78, rfl⟩
abbrev main_v18 : Ref sig .tc := ⟨.hbm, 79, rfl⟩
abbrev main_v19 : Ref sig .tc := ⟨.hbm, 80, rfl⟩
abbrev main_call3_v0 : Ref sig .tc := ⟨.hbm, 81, rfl⟩
abbrev main_call3_call0_cst : Ref sig .tc := ⟨.hbm, 82, rfl⟩
abbrev main_call3_call0_v0 : Ref sig .tc := ⟨.hbm, 83, rfl⟩
abbrev main_call3_call0_v1 : Ref sig .tc := ⟨.hbm, 84, rfl⟩
abbrev main_call3_call0_v2 : Ref sig .tc := ⟨.hbm, 85, rfl⟩
abbrev main_call3_call0_v3 : Ref sig .tc := ⟨.hbm, 86, rfl⟩
abbrev main_call3_call0_v4 : Ref sig .tc := ⟨.hbm, 87, rfl⟩
abbrev main_call3_call0_v5 : Ref sig .tc := ⟨.hbm, 88, rfl⟩
abbrev main_call3_call0_v6 : Ref sig .tc := ⟨.hbm, 89, rfl⟩
abbrev main_call3_call0_v7 : Ref sig .tc := ⟨.hbm, 90, rfl⟩
abbrev main_call3_call0_v8 : Ref sig .tc := ⟨.hbm, 91, rfl⟩
abbrev main_call3_call0_v9 : Ref sig .tc := ⟨.hbm, 92, rfl⟩
abbrev main_call3_call0_v10 : Ref sig .tc := ⟨.hbm, 93, rfl⟩
abbrev main_call3_call0_v11 : Ref sig .tc := ⟨.hbm, 94, rfl⟩
abbrev main_call3_v1_0 : Ref sig .tc := ⟨.hbm, 95, rfl⟩
abbrev main_call3_call0_cst_0 : Ref sig .tc := ⟨.hbm, 96, rfl⟩
abbrev main_call3_call0_v13 : Ref sig .tc := ⟨.hbm, 97, rfl⟩
abbrev main_call3_call0_v14 : Ref sig .tc := ⟨.hbm, 98, rfl⟩
abbrev main_call3_call0_cst_1 : Ref sig .tc := ⟨.hbm, 99, rfl⟩
abbrev main_call3_call0_v15 : Ref sig .tc := ⟨.hbm, 100, rfl⟩
abbrev main_call3_call0_v16 : Ref sig .tc := ⟨.hbm, 101, rfl⟩
abbrev main_call3_call0_cst_2 : Ref sig .tc := ⟨.hbm, 102, rfl⟩
abbrev main_call3_call0_v17 : Ref sig .tc := ⟨.hbm, 103, rfl⟩
abbrev main_call3_call0_v18 : Ref sig .tc := ⟨.hbm, 104, rfl⟩
abbrev main_call3_call0_cst_3 : Ref sig .tc := ⟨.hbm, 105, rfl⟩
abbrev main_call3_call0_v19 : Ref sig .tc := ⟨.hbm, 106, rfl⟩
abbrev main_call3_call0_v20 : Ref sig .tc := ⟨.hbm, 107, rfl⟩
abbrev main_call3_call0_v21 : Ref sig .tc := ⟨.hbm, 108, rfl⟩
abbrev main_v20_1 : Ref sig .tc := ⟨.hbm, 109, rfl⟩
abbrev main_call3_call0_cst_4 : Ref sig .tc := ⟨.hbm, 110, rfl⟩
abbrev main_call3_call0_cst_5 : Ref sig .tc := ⟨.hbm, 111, rfl⟩
abbrev main_call3_call0_v23 : Ref sig .tc := ⟨.hbm, 112, rfl⟩
abbrev main_call3_call0_cst_6 : Ref sig .tc := ⟨.hbm, 113, rfl⟩
abbrev main_call3_call0_cst_7 : Ref sig .tc := ⟨.hbm, 114, rfl⟩
abbrev main_call3_call0_v24 : Ref sig .tc := ⟨.hbm, 115, rfl⟩
abbrev main_call3_call0_cst_8 : Ref sig .tc := ⟨.hbm, 116, rfl⟩
abbrev main_call3_call0_v25 : Ref sig .tc := ⟨.hbm, 117, rfl⟩
abbrev main_call3_call0_v26 : Ref sig .tc := ⟨.hbm, 118, rfl⟩
abbrev main_call3_call0_cst_9 : Ref sig .tc := ⟨.hbm, 119, rfl⟩
abbrev main_call3_call0_v27 : Ref sig .tc := ⟨.hbm, 120, rfl⟩
abbrev main_call3_call0_v28 : Ref sig .tc := ⟨.hbm, 121, rfl⟩
abbrev main_call3_call0_v29 : Ref sig .tc := ⟨.hbm, 122, rfl⟩
abbrev main_call3_call0_v30 : Ref sig .tc := ⟨.hbm, 123, rfl⟩
abbrev main_call3_call0_v31 : Ref sig .tc := ⟨.hbm, 124, rfl⟩
abbrev main_call3_call0_cst_10 : Ref sig .tc := ⟨.hbm, 125, rfl⟩
abbrev main_call3_call0_v32 : Ref sig .tc := ⟨.hbm, 126, rfl⟩
abbrev main_v20_2 : Ref sig .tc := ⟨.hbm, 127, rfl⟩
abbrev main_v20_0 : Ref sig .tc := ⟨.hbm, 128, rfl⟩
abbrev main_v21 : Ref sig .tc := ⟨.hbm, 129, rfl⟩
abbrev main_v22 : Ref sig .tc := ⟨.hbm, 130, rfl⟩
abbrev main_cst_1 : Ref sig .tc := ⟨.hbm, 131, rfl⟩
abbrev main_call4_v0 : Ref sig .tc := ⟨.hbm, 132, rfl⟩
abbrev main_v23_1 : Ref sig .tc := ⟨.hbm, 133, rfl⟩
abbrev main_call4_v2 : Ref sig .tc := ⟨.hbm, 134, rfl⟩
abbrev main_v23_0 : Ref sig .tc := ⟨.hbm, 135, rfl⟩
abbrev main_call4_cst : Ref sig .tc := ⟨.hbm, 136, rfl⟩
abbrev main_v23_2 : Ref sig .tc := ⟨.hbm, 137, rfl⟩
abbrev main_v24 : Ref sig .tc := ⟨.hbm, 138, rfl⟩
abbrev main_v25 : Ref sig .tc := ⟨.hbm, 139, rfl⟩
abbrev main_v26 : Ref sig .tc := ⟨.hbm, 140, rfl⟩
abbrev main_cst_2 : Ref sig .tc := ⟨.hbm, 141, rfl⟩
abbrev main_v27 : Ref sig .tc := ⟨.hbm, 142, rfl⟩
abbrev main_v28 : Ref sig .tc := ⟨.hbm, 143, rfl⟩
abbrev main_cst_3 : Ref sig .tc := ⟨.hbm, 144, rfl⟩
abbrev main_v29 : Ref sig .tc := ⟨.hbm, 145, rfl⟩
abbrev main_v30 : Ref sig .tc := ⟨.hbm, 146, rfl⟩
abbrev main_cst_4 : Ref sig .tc := ⟨.hbm, 147, rfl⟩
abbrev main_v31 : Ref sig .tc := ⟨.hbm, 148, rfl⟩
abbrev main_v32 : Ref sig .tc := ⟨.hbm, 149, rfl⟩
abbrev main_v33 : Ref sig .tc := ⟨.hbm, 150, rfl⟩
abbrev main_v34 : Ref sig .tc := ⟨.hbm, 151, rfl⟩
abbrev main_cst_5 : Ref sig .tc := ⟨.hbm, 152, rfl⟩
abbrev main_v35 : Ref sig .tc := ⟨.hbm, 153, rfl⟩
abbrev main_v36 : Ref sig .tc := ⟨.hbm, 154, rfl⟩
abbrev main_v37 : Ref sig .tc := ⟨.hbm, 155, rfl⟩
abbrev main_v38 : Ref sig .tc := ⟨.hbm, 156, rfl⟩
abbrev main_v39 : Ref sig .tc := ⟨.hbm, 157, rfl⟩
abbrev main_v40 : Ref sig .tc := ⟨.hbm, 158, rfl⟩
abbrev main_v41 : Ref sig .tc := ⟨.hbm, 159, rfl⟩
abbrev main_v42 : Ref sig .tc := ⟨.hbm, 160, rfl⟩
abbrev main_v43 : Ref sig .tc := ⟨.hbm, 161, rfl⟩
abbrev main_v44 : Ref sig .tc := ⟨.hbm, 162, rfl⟩
abbrev main_cst_6 : Ref sig .tc := ⟨.hbm, 163, rfl⟩
abbrev main_v45 : Ref sig .tc := ⟨.hbm, 164, rfl⟩
abbrev main_v46 : Ref sig .tc := ⟨.hbm, 165, rfl⟩
abbrev main_v47 : Ref sig .tc := ⟨.hbm, 166, rfl⟩
abbrev main_v48 : Ref sig .tc := ⟨.hbm, 167, rfl⟩
abbrev main_cst_7 : Ref sig .tc := ⟨.hbm, 168, rfl⟩
abbrev main_v49 : Ref sig .tc := ⟨.hbm, 169, rfl⟩
abbrev main_v50 : Ref sig .tc := ⟨.hbm, 170, rfl⟩
abbrev main_cst_8 : Ref sig .tc := ⟨.hbm, 171, rfl⟩
abbrev main_v51 : Ref sig .tc := ⟨.hbm, 172, rfl⟩
abbrev main_v52 : Ref sig .tc := ⟨.hbm, 173, rfl⟩
abbrev main_v53 : Ref sig .tc := ⟨.hbm, 174, rfl⟩
abbrev main_v54 : Ref sig .tc := ⟨.hbm, 175, rfl⟩
abbrev main_v55 : Ref sig .tc := ⟨.hbm, 176, rfl⟩
abbrev main_cst_9 : Ref sig .tc := ⟨.hbm, 177, rfl⟩
abbrev main_v56 : Ref sig .tc := ⟨.hbm, 178, rfl⟩
abbrev main_v57 : Ref sig .tc := ⟨.hbm, 179, rfl⟩
abbrev main_cst_10 : Ref sig .tc := ⟨.hbm, 180, rfl⟩
abbrev main_v58 : Ref sig .tc := ⟨.hbm, 181, rfl⟩
abbrev main_v59 : Ref sig .tc := ⟨.hbm, 182, rfl⟩
abbrev main_v60 : Ref sig .tc := ⟨.hbm, 183, rfl⟩
abbrev main_v61 : Ref sig .tc := ⟨.hbm, 184, rfl⟩
abbrev main_v62 : Ref sig .tc := ⟨.hbm, 185, rfl⟩
abbrev main_v63 : Ref sig .tc := ⟨.hbm, 186, rfl⟩
abbrev main_v64 : Ref sig .tc := ⟨.hbm, 187, rfl⟩
abbrev main_v65 : Ref sig .tc := ⟨.hbm, 188, rfl⟩
abbrev main_v66 : Ref sig .tc := ⟨.hbm, 189, rfl⟩
abbrev main_v67 : Ref sig .tc := ⟨.hbm, 190, rfl⟩
abbrev main_call5_cst : Ref sig .tc := ⟨.hbm, 191, rfl⟩
abbrev main_call5_v0 : Ref sig .tc := ⟨.hbm, 192, rfl⟩
abbrev main_v68 : Ref sig .tc := ⟨.hbm, 193, rfl⟩
abbrev main_v69 : Ref sig .tc := ⟨.hbm, 194, rfl⟩
abbrev main_call6_v0 : Ref sig .tc := ⟨.hbm, 195, rfl⟩
abbrev main_call6_v1 : Ref sig .tc := ⟨.hbm, 196, rfl⟩
abbrev main_v70 : Ref sig .tc := ⟨.hbm, 197, rfl⟩
abbrev main_v71 : Ref sig .tc := ⟨.hbm, 198, rfl⟩
abbrev main_call7_cst : Ref sig .tc := ⟨.hbm, 199, rfl⟩
abbrev main_call7_v0 : Ref sig .tc := ⟨.hbm, 200, rfl⟩
abbrev main_v72 : Ref sig .tc := ⟨.hbm, 201, rfl⟩
abbrev main_v73 : Ref sig .tc := ⟨.hbm, 202, rfl⟩
abbrev main_call8_cst : Ref sig .tc := ⟨.hbm, 203, rfl⟩
abbrev main_call8_v0 : Ref sig .tc := ⟨.hbm, 204, rfl⟩
abbrev main_v74 : Ref sig .tc := ⟨.hbm, 205, rfl⟩
abbrev main_call9_v0 : Ref sig .tc := ⟨.hbm, 206, rfl⟩
abbrev main_call9_v1 : Ref sig .tc := ⟨.hbm, 207, rfl⟩
abbrev main_v75 : Ref sig .tc := ⟨.hbm, 208, rfl⟩
abbrev main_v76 : Ref sig .tc := ⟨.hbm, 209, rfl⟩
abbrev main_v77 : Ref sig .tc := ⟨.hbm, 210, rfl⟩
abbrev main_cst_11 : Ref sig .tc := ⟨.hbm, 211, rfl⟩
abbrev main_v78 : Ref sig .tc := ⟨.hbm, 212, rfl⟩
abbrev main_v79 : Ref sig .tc := ⟨.hbm, 213, rfl⟩
abbrev main_v80 : Ref sig .tc := ⟨.hbm, 214, rfl⟩
abbrev main_v81 : Ref sig .tc := ⟨.hbm, 215, rfl⟩
abbrev main_v82 : Ref sig .tc := ⟨.hbm, 216, rfl⟩
abbrev main_v83 : Ref sig .tc := ⟨.hbm, 217, rfl⟩
abbrev main_v84 : Ref sig .tc := ⟨.hbm, 218, rfl⟩
abbrev main_v85 : Ref sig .tc := ⟨.hbm, 219, rfl⟩
abbrev main_v86 : Ref sig .tc := ⟨.hbm, 220, rfl⟩
abbrev main_v87 : Ref sig .tc := ⟨.hbm, 221, rfl⟩
abbrev main_c : Ref sig .tc := ⟨.hbm, 222, rfl⟩
abbrev main_call10_v0 : Ref sig .tc := ⟨.hbm, 223, rfl⟩
abbrev main_v88 : Ref sig .tc := ⟨.hbm, 224, rfl⟩
abbrev main_c_12 : Ref sig .tc := ⟨.hbm, 225, rfl⟩
abbrev main_call11_v0 : Ref sig .tc := ⟨.hbm, 226, rfl⟩
abbrev main_v89 : Ref sig .tc := ⟨.hbm, 227, rfl⟩
abbrev main_c_13 : Ref sig .tc := ⟨.hbm, 228, rfl⟩
abbrev main_call12_v0 : Ref sig .tc := ⟨.hbm, 229, rfl⟩
abbrev main_v90 : Ref sig .tc := ⟨.hbm, 230, rfl⟩

abbrev nD : Nat := 1
abbrev τ : Topo := Topo.v7x

variable {F : FTy → Type} [FloatOps F]
-- ==== Loss.lean ====
abbrev S16400x1024 : Shape := ⟨2, ![16400, 1024]⟩
abbrev S1024 : Shape := ⟨1, ![1024]⟩
abbrev S16384x1024 : Shape := ⟨2, ![16384, 1024]⟩
abbrev S_ : Shape := ⟨0, ![]⟩
abbrev S16640x1024 : Shape := ⟨2, ![16640, 1024]⟩
abbrev S1x1024 : Shape := ⟨2, ![1, 1024]⟩
abbrev S8x128 : Shape := ⟨2, ![8, 128]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 10
  | .vmem => 10
  | .smem => 0
  | _ => 0

abbrev bufTy : (tb : Table) → Fin (tcTables nBuf tb) → BufTy
  | .hbm, ⟨0, _⟩ => ⟨S16400x1024, .f32⟩
  | .hbm, ⟨1, _⟩ => ⟨S1024, .f32⟩
  | .hbm, ⟨2, _⟩ => ⟨S16384x1024, .f32⟩
  | .hbm, ⟨3, _⟩ => ⟨S_, .i32⟩
  | .hbm, ⟨4, _⟩ => ⟨S_, .f32⟩
  | .hbm, ⟨5, _⟩ => ⟨S16640x1024, .f32⟩
  | .hbm, ⟨6, _⟩ => ⟨S1x1024, .f32⟩
  | .hbm, ⟨7, _⟩ => ⟨S8x128, .f32⟩
  | .hbm, ⟨8, _⟩ => ⟨S16640x1024, .f32⟩
  | .hbm, ⟨9, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S8x128, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | _, _ => ⟨S16400x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![65], ![false]⟩

def k0_cond2 (i : grid0.Coords) : BitVec 1 :=
  let arg0 : BitVec 32 := BitVec.ofNat 32 (i 0).val
  let c64_i32 : BitVec 32 := 64#32
  let v54 : BitVec 1 := Scalar.cmpi .eq arg0 c64_i32
  let v55 : BitVec 32 := Scalar.extui v54
  let c0_i32_24 : BitVec 32 := 0#32
  let v56 : BitVec 1 := Scalar.cmpi .ne v55 c0_i32_24
  v56

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRefIdeal.lean ====
abbrev S16400x1024 : Shape := ⟨2, ![16400, 1024]⟩
abbrev S1024 : Shape := ⟨1, ![1024]⟩
abbrev S16384x1024 : Shape := ⟨2, ![16384, 1024]⟩
abbrev S_ : Shape := ⟨0, ![]⟩
abbrev S16400 : Shape := ⟨1, ![16400]⟩
abbrev S16400x1 : Shape := ⟨2, ![16400, 1]⟩
abbrev S1x1024 : Shape := ⟨2, ![1, 1024]⟩
abbrev S16384 : Shape := ⟨1, ![16384]⟩
abbrev S8x128 : Shape := ⟨2, ![8, 128]⟩
abbrev S16640x1024 : Shape := ⟨2, ![16640, 1024]⟩

abbrev nBuf : Space → Nat
  | .hbm => 79
  | .vmem => 0
  | .smem => 0
  | _ => 0

abbrev bufTy : (tb : Table) → Fin (tcTables nBuf tb) → BufTy
  | .hbm, ⟨0, _⟩ => ⟨S16400x1024, .f32⟩
  | .hbm, ⟨1, _⟩ => ⟨S1024, .f32⟩
  | .hbm, ⟨2, _⟩ => ⟨S16384x1024, .f32⟩
  | .hbm, ⟨3, _⟩ => ⟨S16400x1024, .f32⟩
  | .hbm, ⟨4, _⟩ => ⟨S_, .f32⟩
  | .hbm, ⟨5, _⟩ => ⟨S16400, .f32⟩
  | .hbm, ⟨6, _⟩ => ⟨S16400x1, .f32⟩
  | .hbm, ⟨7, _⟩ => ⟨S_, .f32⟩
  | .hbm, ⟨8, _⟩ => ⟨S16400x1, .f32⟩
  | .hbm, ⟨9, _⟩ => ⟨S16400x1, .f32⟩
  | .hbm, ⟨10, _⟩ => ⟨S_, .f32⟩
  | .hbm, ⟨11, _⟩ => ⟨S16400x1, .f32⟩
  | .hbm, ⟨12, _⟩ => ⟨S16400x1, .f32⟩
  | .hbm, ⟨13, _⟩ => ⟨S16400x1, .f32⟩
  | .hbm, ⟨14, _⟩ => ⟨S16400x1, .f32⟩
  | .hbm, ⟨15, _⟩ => ⟨S_, .f32⟩
  | .hbm, ⟨16, _⟩ => ⟨S16400x1, .f32⟩
  | .hbm, ⟨17, _⟩ => ⟨S16400x1, .f32⟩
  | .hbm, ⟨18, _⟩ => ⟨S16400x1024, .f32⟩
  | .hbm, ⟨19, _⟩ => ⟨S16400x1024, .f32⟩
  | .hbm, ⟨20, _⟩ => ⟨S1x1024, .f32⟩
  | .hbm, ⟨21, _⟩ => ⟨S16400x1024, .f32⟩
  | .hbm, ⟨22, _⟩ => ⟨S16400x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384, .f32⟩
  | .hbm, ⟨31, _⟩ => ⟨S_, .f32⟩
  | .hbm, ⟨32, _⟩ => ⟨S16384, .f32⟩
  | .hbm, ⟨33, _⟩ => ⟨S16384, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S16384, .f32⟩
  | .hbm, ⟨42, _⟩ => ⟨S_, .f32⟩
  | .hbm, ⟨43, _⟩ => ⟨S16384, .f32⟩
  | .hbm, ⟨44, _⟩ => ⟨S16384, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S16400x1024, .f32⟩
  | .hbm, ⟨49, _⟩ => ⟨S16400x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S16400x1024, .f32⟩
  | .hbm, ⟨54, _⟩ => ⟨S16400x1024, .f32⟩
  | .hbm, ⟨55, _⟩ => ⟨S_, .f32⟩
  | .hbm, ⟨56, _⟩ => ⟨S1024, .f32⟩
  | .hbm, ⟨57, _⟩ => ⟨S16400x1024, .f32⟩
  | .hbm, ⟨58, _⟩ => ⟨S_, .f32⟩
  | .hbm, ⟨59, _⟩ => ⟨S16400, .f32⟩
  | .hbm, ⟨60, _⟩ => ⟨S16400x1, .f32⟩
  | .hbm, ⟨61, _⟩ => ⟨S16400x1024, .f32⟩
  | .hbm, ⟨62, _⟩ => ⟨S16400x1024, .f32⟩
  | .hbm, ⟨63, _⟩ => ⟨S16400x1, .f32⟩
  | .hbm, ⟨64, _⟩ => ⟨S_, .f32⟩
  | .hbm, ⟨65, _⟩ => ⟨S16400x1, .f32⟩
  | .hbm, ⟨66, _⟩ => ⟨S16400x1, .f32⟩
  | .hbm, ⟨67, _⟩ => ⟨S_, .f32⟩
  | .hbm, ⟨68, _⟩ => ⟨S16400, .f32⟩
  | .hbm, ⟨69, _⟩ => ⟨S16400x1024, .f32⟩
  | .hbm, ⟨70, _⟩ => ⟨S16400x1024, .f32⟩
  | .hbm, ⟨71, _⟩ => ⟨S16400x1024, .f32⟩
  | .hbm, ⟨72, _⟩ => ⟨S16400x1024, .f32⟩
  | .hbm, ⟨73, _⟩ => ⟨S16400x1024, .f32⟩
  | .hbm, ⟨74, _⟩ => ⟨S8x128, .f32⟩
  | .hbm, ⟨75, _⟩ => ⟨S_, .i32⟩
  | .hbm, ⟨76, _⟩ => ⟨S_, .f32⟩
  | .hbm, ⟨77, _⟩ => ⟨S16640x1024, .f32⟩
  | .hbm, ⟨78, _⟩ => ⟨S1x1024, .f32⟩
  | _, _ => ⟨S16400x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_cst_12 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_cst_14 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_cst_16 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c : Ref sig .tc := ⟨.hbm, 75, rfl⟩
abbrev main_call0_v0 : Ref sig .tc := ⟨.hbm, 76, rfl⟩
abbrev main_v54 : Ref sig .tc := ⟨.hbm, 77, rfl⟩
abbrev main_v55 : Ref sig .tc := ⟨.hbm, 78, rfl⟩

abbrev nD : Nat := 1
abbrev τ : Topo := Topo.v7x

variable {F : FTy → Type} [FloatOps F]
-- ==== Ffn.lean ====
abbrev S16400x1024 : Shape := ⟨2, ![16400, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16640x1024 : Shape := ⟨2, ![16640, 1024]⟩
abbrev S1x1024 : Shape := ⟨2, ![1, 1024]⟩
abbrev S16640 : Shape := ⟨1, ![16640]⟩
abbrev S16640x1 : Shape := ⟨2, ![16640, 1]⟩
abbrev S16640x2816 : Shape := ⟨2, ![16640, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩

abbrev nBuf : Space → Nat
  | .hbm => 44
  | .vmem => 21
  | .smem => 0
  | _ => 0

abbrev bufTy : (tb : Table) → Fin (tcTables nBuf tb) → BufTy
  | .hbm, ⟨0, _⟩ => ⟨S16400x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16400x1024, .f32⟩
  | .hbm, ⟨6, _⟩ => ⟨S_, .i32⟩
  | .hbm, ⟨7, _⟩ => ⟨S_, .f32⟩
  | .hbm, ⟨8, _⟩ => ⟨S16640x1024, .f32⟩
  | .hbm, ⟨9, _⟩ => ⟨S1x1024, .f32⟩
  | .hbm, ⟨10, _⟩ => ⟨S_, .i32⟩
  | .hbm, ⟨11, _⟩ => ⟨S_, .f32⟩
  | .hbm, ⟨12, _⟩ => ⟨S16640x1024, .f32⟩
  | .hbm, ⟨13, _⟩ => ⟨S1024x2816, .bf16⟩
  | .hbm, ⟨14, _⟩ => ⟨S1024x2816, .bf16⟩
  | .hbm, ⟨15, _⟩ => ⟨S2816x1024, .bf16⟩
  | .hbm, ⟨16, _⟩ => ⟨S16640x1024, .f32⟩
  | .hbm, ⟨17, _⟩ => ⟨S_, .f32⟩
  | .hbm, ⟨18, _⟩ => ⟨S16640, .f32⟩
  | .hbm, ⟨19, _⟩ => ⟨S16640x1, .f32⟩
  | .hbm, ⟨20, _⟩ => ⟨S_, .f32⟩
  | .hbm, ⟨21, _⟩ => ⟨S16640x1, .f32⟩
  | .hbm, ⟨22, _⟩ => ⟨S16640x1, .f32⟩
  | .hbm, ⟨23, _⟩ => ⟨S_, .f32⟩
  | .hbm, ⟨24, _⟩ => ⟨S16640x1, .f32⟩
  | .hbm, ⟨25, _⟩ => ⟨S16640x1, .f32⟩
  | .hbm, ⟨26, _⟩ => ⟨S16640x1, .f32⟩
  | .hbm, ⟨27, _⟩ => ⟨S16640x1024, .f32⟩
  | .hbm, ⟨28, _⟩ => ⟨S16640x1024, .f32⟩
  | .hbm, ⟨29, _⟩ => ⟨S16640x1024, .f32⟩
  | .hbm, ⟨30, _⟩ => ⟨S16640x1024, .f32⟩
  | .hbm, ⟨31, _⟩ => ⟨S16640x1024, .bf16⟩
  | .hbm, ⟨32, _⟩ => ⟨S16640x2816, .f32⟩
  | .hbm, ⟨33, _⟩ => ⟨S16640x2816, .bf16⟩
  | .hbm, ⟨34, _⟩ => ⟨S16640x2816, .f32⟩
  | .hbm, ⟨35, _⟩ => ⟨S16640x2816, .bf16⟩
  | .hbm, ⟨36, _⟩ => ⟨S1024x2816, .bf16⟩
  | .hbm, ⟨37, _⟩ => ⟨S2816x1024, .bf16⟩
  | .hbm, ⟨38, _⟩ => ⟨S2816x1024, .bf16⟩
  | .hbm, ⟨39, _⟩ => ⟨S16640x1024, .f32⟩
  | .hbm, ⟨40, _⟩ => ⟨S16640x2816, .bf16⟩
  | .hbm, ⟨41, _⟩ => ⟨S16640x2816, .bf16⟩
  | .hbm, ⟨42, _⟩ => ⟨S16640x2816, .bf16⟩
  | .hbm, ⟨43, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S1024x2816, .bf16⟩
  | .local _ .vmem, ⟨10, _⟩ => ⟨S2816x1024, .bf16⟩
  | .local _ .vmem, ⟨11, _⟩ => ⟨S2816x1024, .bf16⟩
  | .local _ .vmem, ⟨12, _⟩ => ⟨S256x1024, .f32⟩
  | .local _ .vmem, ⟨13, _⟩ => ⟨S256x1024, .f32⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | .local _ .vmem, ⟨17, _⟩ => ⟨S256x2816, .bf16⟩
  | .local _ .vmem, ⟨18, _⟩ => ⟨S256x2816, .bf16⟩
  | .local _ .vmem, ⟨19, _⟩ => ⟨S256x2816, .bf16⟩
  | .local _ .vmem, ⟨20, _⟩ => ⟨S1x1024, .f32⟩
  | _, _ => ⟨S16400x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_call1_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26_0 : Ref sig .tc := ⟨.hbm, 39, rfl⟩
abbrev main_v26_1 : Ref sig .tc := ⟨.hbm, 40, rfl⟩
abbrev main_v26_2 : Ref sig .tc := ⟨.hbm, 41, rfl⟩
abbrev main_v26_3 : Ref sig .tc := ⟨.hbm, 42, rfl⟩
abbrev main_v26_4 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== FfnRefIdeal.lean ====
abbrev S16400x1024 : Shape := ⟨2, ![16400, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16400x2816 : Shape := ⟨2, ![16400, 2816]⟩
abbrev S16400 : Shape := ⟨1, ![16400]⟩
abbrev S16400x1 : Shape := ⟨2, ![16400, 1]⟩
abbrev S1x1024 : Shape := ⟨2, ![1, 1024]⟩
abbrev S16640x1024 : Shape := ⟨2, ![16640, 1024]⟩
abbrev S16640x2816 : Shape := ⟨2, ![16640, 2816]⟩

abbrev nBuf : Space → Nat
  | .hbm => 107
  | .vmem => 0
  | .smem => 0
  | _ => 0

abbrev bufTy : (tb : Table) → Fin (tcTables nBuf tb) → BufTy
  | .hbm, ⟨0, _⟩ => ⟨S16400x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16400x1024, .f32⟩
  | .hbm, ⟨6, _⟩ => ⟨S_, .f32⟩
  | .hbm, ⟨7, _⟩ => ⟨S16400x2816, .f32⟩
  | .hbm, ⟨8, _⟩ => ⟨S16400x1024, .f32⟩
  | .hbm, ⟨9, _⟩ => ⟨S_, .f32⟩
  | .hbm, ⟨10, _⟩ => ⟨S16400, .f32⟩
  | .hbm, ⟨11, _⟩ => ⟨S16400x1, .f32⟩
  | .hbm, ⟨12, _⟩ => ⟨S_, .f32⟩
  | .hbm, ⟨13, _⟩ => ⟨S16400x1, .f32⟩
  | .hbm, ⟨14, _⟩ => ⟨S16400x1, .f32⟩
  | .hbm, ⟨15, _⟩ => ⟨S_, .f32⟩
  | .hbm, ⟨16, _⟩ => ⟨S16400x1, .f32⟩
  | .hbm, ⟨17, _⟩ => ⟨S16400x1, .f32⟩
  | .hbm, ⟨18, _⟩ => ⟨S16400x1, .f32⟩
  | .hbm, ⟨19, _⟩ => ⟨S16400x1, .f32⟩
  | .hbm, ⟨20, _⟩ => ⟨S_, .f32⟩
  | .hbm, ⟨21, _⟩ => ⟨S16400x1, .f32⟩
  | .hbm, ⟨22, _⟩ => ⟨S16400x1, .f32⟩
  | .hbm, ⟨23, _⟩ => ⟨S16400x1024, .f32⟩
  | .hbm, ⟨24, _⟩ => ⟨S16400x1024, .f32⟩
  | .hbm, ⟨25, _⟩ => ⟨S1x1024, .f32⟩
  | .hbm, ⟨26, _⟩ => ⟨S16400x1024, .f32⟩
  | .hbm, ⟨27, _⟩ => ⟨S16400x1024, .f32⟩
  | .hbm, ⟨28, _⟩ => ⟨S16400x2816, .f32⟩
  | .hbm, ⟨29, _⟩ => ⟨S16400x2816, .f32⟩
  | .hbm, ⟨30, _⟩ => ⟨S16400x2816, .f32⟩
  | .hbm, ⟨31, _⟩ => ⟨S16400x2816, .f32⟩
  | .hbm, ⟨32, _⟩ => ⟨S_, .f32⟩
  | .hbm, ⟨33, _⟩ => ⟨S16400x2816, .f32⟩
  | .hbm, ⟨34, _⟩ => ⟨S16400x2816, .f32⟩
  | .hbm, ⟨35, _⟩ => ⟨S_, .f32⟩
  | .hbm, ⟨36, _⟩ => ⟨S16400x2816, .f32⟩
  | .hbm, ⟨37, _⟩ => ⟨S16400x2816, .f32⟩
  | .hbm, ⟨38, _⟩ => ⟨S_, .f32⟩
  | .hbm, ⟨39, _⟩ => ⟨S16400x2816, .f32⟩
  | .hbm, ⟨40, _⟩ => ⟨S16400x2816, .f32⟩
  | .hbm, ⟨41, _⟩ => ⟨S16400x2816, .f32⟩
  | .hbm, ⟨42, _⟩ => ⟨S16400x2816, .f32⟩
  | .hbm, ⟨43, _⟩ => ⟨S16400x2816, .f32⟩
  | .hbm, ⟨44, _⟩ => ⟨S16400x2816, .f32⟩
  | .hbm, ⟨45, _⟩ => ⟨S16400x2816, .f32⟩
  | .hbm, ⟨46, _⟩ => ⟨S16400x1024, .f32⟩
  | .hbm, ⟨47, _⟩ => ⟨S_, .f32⟩
  | .hbm, ⟨48, _⟩ => ⟨S16400x1024, .f32⟩
  | .hbm, ⟨49, _⟩ => ⟨S16400x1024, .f32⟩
  | .hbm, ⟨50, _⟩ => ⟨S16400x1024, .f32⟩
  | .hbm, ⟨51, _⟩ => ⟨S16400x1024, .f32⟩
  | .hbm, ⟨52, _⟩ => ⟨S_, .f32⟩
  | .hbm, ⟨53, _⟩ => ⟨S16400x1024, .f32⟩
  | .hbm, ⟨54, _⟩ => ⟨S16400x1024, .f32⟩
  | .hbm, ⟨55, _⟩ => ⟨S16400x2816, .f32⟩
  | .hbm, ⟨56, _⟩ => ⟨S16400x2816, .f32⟩
  | .hbm, ⟨57, _⟩ => ⟨S16400x2816, .f32⟩
  | .hbm, ⟨58, _⟩ => ⟨S16400x1024, .f32⟩
  | .hbm, ⟨59, _⟩ => ⟨S16400x2816, .f32⟩
  | .hbm, ⟨60, _⟩ => ⟨S16400x2816, .f32⟩
  | .hbm, ⟨61, _⟩ => ⟨S16400x2816, .f32⟩
  | .hbm, ⟨62, _⟩ => ⟨S16400x2816, .f32⟩
  | .hbm, ⟨63, _⟩ => ⟨S16400x1024, .f32⟩
  | .hbm, ⟨64, _⟩ => ⟨S16400x1024, .f32⟩
  | .hbm, ⟨65, _⟩ => ⟨S16400x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S16400x1024, .f32⟩
  | .hbm, ⟨70, _⟩ => ⟨S16400x1024, .f32⟩
  | .hbm, ⟨71, _⟩ => ⟨S_, .f32⟩
  | .hbm, ⟨72, _⟩ => ⟨S1024, .f32⟩
  | .hbm, ⟨73, _⟩ => ⟨S16400x1024, .f32⟩
  | .hbm, ⟨74, _⟩ => ⟨S_, .f32⟩
  | .hbm, ⟨75, _⟩ => ⟨S16400, .f32⟩
  | .hbm, ⟨76, _⟩ => ⟨S16400x1, .f32⟩
  | .hbm, ⟨77, _⟩ => ⟨S16400x1024, .f32⟩
  | .hbm, ⟨78, _⟩ => ⟨S16400x1024, .f32⟩
  | .hbm, ⟨79, _⟩ => ⟨S16400x1024, .f32⟩
  | .hbm, ⟨80, _⟩ => ⟨S16400x1, .f32⟩
  | .hbm, ⟨81, _⟩ => ⟨S_, .f32⟩
  | .hbm, ⟨82, _⟩ => ⟨S16400x1, .f32⟩
  | .hbm, ⟨83, _⟩ => ⟨S16400x1, .f32⟩
  | .hbm, ⟨84, _⟩ => ⟨S_, .f32⟩
  | .hbm, ⟨85, _⟩ => ⟨S16400, .f32⟩
  | .hbm, ⟨86, _⟩ => ⟨S16400x1024, .f32⟩
  | .hbm, ⟨87, _⟩ => ⟨S16400x1024, .f32⟩
  | .hbm, ⟨88, _⟩ => ⟨S16400x1024, .f32⟩
  | .hbm, ⟨89, _⟩ => ⟨S16400x1024, .f32⟩
  | .hbm, ⟨90, _⟩ => ⟨S16400x1024, .f32⟩
  | .hbm, ⟨91, _⟩ => ⟨S_, .i32⟩
  | .hbm, ⟨92, _⟩ => ⟨S_, .f32⟩
  | .hbm, ⟨93, _⟩ => ⟨S16640x1024, .f32⟩
  | .hbm, ⟨94, _⟩ => ⟨S_, .i32⟩
  | .hbm, ⟨95, _⟩ => ⟨S_, .f32⟩
  | .hbm, ⟨96, _⟩ => ⟨S16640x2816, .f32⟩
  | .hbm, ⟨97, _⟩ => ⟨S16640x2816, .bf16⟩
  | .hbm, ⟨98, _⟩ => ⟨S_, .i32⟩
  | .hbm, ⟨99, _⟩ => ⟨S_, .f32⟩
  | .hbm, ⟨100, _⟩ => ⟨S16640x2816, .f32⟩
  | .hbm, ⟨101, _⟩ => ⟨S16640x2816, .bf16⟩
  | .hbm, ⟨102, _⟩ => ⟨S_, .i32⟩
  | .hbm, ⟨103, _⟩ => ⟨S_, .f32⟩
  | .hbm, ⟨104, _⟩ => ⟨S16640x2816, .f32⟩
  | .hbm, ⟨105, _⟩ => ⟨S16640x2816, .bf16⟩
  | .hbm, ⟨106, _⟩ => ⟨S1x1024, .f32⟩
  | _, _ => ⟨S16400x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_v19_2 : Ref sig .tc := ⟨.hbm, 37, rfl⟩
abbrev main_call0_cst_1 : Ref sig .tc := ⟨.hbm, 38, rfl⟩
abbrev main_call0_v6 : Ref sig .tc := ⟨.hbm, 39, rfl⟩
abbrev main_call0_v7 : Ref sig .tc := ⟨.hbm, 40, rfl⟩
abbrev main_v19_1 : Ref sig .tc := ⟨.hbm, 41, rfl⟩
abbrev main_v19_0 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_4 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_5 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_6 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_7 : Ref sig .tc := ⟨.hbm, 71, rfl⟩
abbrev main_v42 : Ref sig .tc := ⟨.hbm, 72, rfl⟩
abbrev main_v43 : Ref sig .tc := ⟨.hbm, 73, rfl⟩
abbrev main_cst_8 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_9 : Ref sig .tc := ⟨.hbm, 81, rfl⟩
abbrev main_v50 : Ref sig .tc := ⟨.hbm, 82, rfl⟩
abbrev main_v51 : Ref sig .tc := ⟨.hbm, 83, rfl⟩
abbrev main_cst_10 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_c : Ref sig .tc := ⟨.hbm, 91, rfl⟩
abbrev main_call2_v0 : Ref sig .tc := ⟨.hbm, 92, rfl⟩
abbrev main_v58 : Ref sig .tc := ⟨.hbm, 93, rfl⟩
abbrev main_c_11 : Ref sig .tc := ⟨.hbm, 94, rfl⟩
abbrev main_call3_v0 : Ref sig .tc := ⟨.hbm, 95, rfl⟩
abbrev main_v59 : Ref sig .tc := ⟨.hbm, 96, rfl⟩
abbrev main_v60 : Ref sig .tc := ⟨.hbm, 97, rfl⟩
abbrev main_c_12 : Ref sig .tc := ⟨.hbm, 98, rfl⟩
abbrev main_call4_v0 : Ref sig .tc := ⟨.hbm, 99, rfl⟩
abbrev main_v61 : Ref sig .tc := ⟨.hbm, 100, rfl⟩
abbrev main_v62 : Ref sig .tc := ⟨.hbm, 101, rfl⟩
abbrev main_c_13 : Ref sig .tc := ⟨.hbm, 102, rfl⟩
abbrev main_call5_v0 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩

abbrev nD : Nat := 1
abbrev τ : Topo := Topo.v7x

variable {F : FTy → Type} [FloatOps F]
-- ==== MixIn.lean ====
abbrev S16400x1024 : Shape := ⟨2, ![16400, 1024]⟩
abbrev S1024 : Shape := ⟨1, ![1024]⟩
abbrev S1024x2312 : Shape := ⟨2, ![1024, 2312]⟩
abbrev S16400x256 : Shape := ⟨2, ![16400, 256]⟩
abbrev S16400x768 : Shape := ⟨2, ![16400, 768]⟩
abbrev S16400x4 : Shape := ⟨2, ![16400, 4]⟩
abbrev S16400x512 : Shape := ⟨2, ![16400, 512]⟩
abbrev S16400x8 : Shape := ⟨2, ![16400, 8]⟩
abbrev S_ : Shape := ⟨0, ![]⟩
abbrev S16400x128 : Shape := ⟨2, ![16400, 128]⟩
abbrev S16640x256 : Shape := ⟨2, ![16640, 256]⟩
abbrev S16640x768 : Shape := ⟨2, ![16640, 768]⟩
abbrev S16640x512 : Shape := ⟨2, ![16640, 512]⟩
abbrev S16640x128 : Shape := ⟨2, ![16640, 128]⟩
abbrev S16640x1024 : Shape := ⟨2, ![16640, 1024]⟩
abbrev S1x1024 : Shape := ⟨2, ![1, 1024]⟩
abbrev S1024x1792 : Shape := ⟨2, ![1024, 1792]⟩
abbrev S1024x512 : Shape := ⟨2, ![1024, 512]⟩
abbrev S1024x8 : Shape := ⟨2, ![1024, 8]⟩
abbrev S1024x120 : Shape := ⟨2, ![1024, 120]⟩
abbrev S1024x2432 : Shape := ⟨2, ![1024, 2432]⟩
abbrev S2432x1024 : Shape := ⟨2, ![2432, 1024]⟩
abbrev S16640x2432 : Shape := ⟨2, ![16640, 2432]⟩
abbrev S256x1024 : Shape := ⟨2, ![256, 1024]⟩
abbrev S256x256 : Shape := ⟨2, ![256, 256]⟩
abbrev S256x768 : Shape := ⟨2, ![256, 768]⟩
abbrev S256x512 : Shape := ⟨2, ![256, 512]⟩
abbrev S256x128 : Shape := ⟨2, ![256, 128]⟩
abbrev S256x2432 : Shape := ⟨2, ![256, 2432]⟩
abbrev S768x1024 : Shape := ⟨2, ![768, 1024]⟩
abbrev S512x1024 : Shape := ⟨2, ![512, 1024]⟩
abbrev S128x1024 : Shape := ⟨2, ![128, 1024]⟩
abbrev S256 : Shape := ⟨1, ![256]⟩
abbrev S256x1 : Shape := ⟨2, ![256, 1]⟩

abbrev nBuf : Space → Nat
  | .hbm => 55
  | .vmem => 25
  | .smem => 0
  | _ => 0

abbrev bufTy : (tb : Table) → Fin (tcTables nBuf tb) → BufTy
  | .hbm, ⟨0, _⟩ => ⟨S16400x1024, .f32⟩
  | .hbm, ⟨1, _⟩ => ⟨S1024, .f32⟩
  | .hbm, ⟨2, _⟩ => ⟨S1024x2312, .f32⟩
  | .hbm, ⟨3, _⟩ => ⟨S16400x1024, .f32⟩
  | .hbm, ⟨4, _⟩ => ⟨S16400x256, .f32⟩
  | .hbm, ⟨5, _⟩ => ⟨S16400x256, .f32⟩
  | .hbm, ⟨6, _⟩ => ⟨S16400x256, .f32⟩
  | .hbm, ⟨7, _⟩ => ⟨S16400x768, .f32⟩
  | .hbm, ⟨8, _⟩ => ⟨S16400x256, .f32⟩
  | .hbm, ⟨9, _⟩ => ⟨S16400x4, .f32⟩
  | .hbm, ⟨10, _⟩ => ⟨S16400x4, .f32⟩
  | .hbm, ⟨11, _⟩ => ⟨S16400x512, .f32⟩
  | .hbm, ⟨12, _⟩ => ⟨S16400x8, .f32⟩
  | .hbm, ⟨13, _⟩ => ⟨S_, .i32⟩
  | .hbm, ⟨14, _⟩ => ⟨S_, .f32⟩
  | .hbm, ⟨15, _⟩ => ⟨S16400x128, .f32⟩
  | .hbm, ⟨16, _⟩ => ⟨S_, .i32⟩
  | .hbm, ⟨17, _⟩ => ⟨S_, .f32⟩
  | .hbm, ⟨18, _⟩ => ⟨S16640x256, .f32⟩
  | .hbm, ⟨19, _⟩ => ⟨S_, .i32⟩
  | .hbm, ⟨20, _⟩ => ⟨S_, .f32⟩
  | .hbm, ⟨21, _⟩ => ⟨S16640x256, .f32⟩
  | .hbm, ⟨22, _⟩ => ⟨S_, .i32⟩
  | .hbm, ⟨23, _⟩ => ⟨S_, .f32⟩
  | .hbm, ⟨24, _⟩ => ⟨S16640x256, .f32⟩
  | .hbm, ⟨25, _⟩ => ⟨S_, .i32⟩
  | .hbm, ⟨26, _⟩ => ⟨S_, .f32⟩
  | .hbm, ⟨27, _⟩ => ⟨S16640x768, .f32⟩
  | .hbm, ⟨28, _⟩ => ⟨S_, .i32⟩
  | .hbm, ⟨29, _⟩ => ⟨S_, .f32⟩
  | .hbm, ⟨30, _⟩ => ⟨S16640x256, .f32⟩
  | .hbm, ⟨31, _⟩ => ⟨S_, .i32⟩
  | .hbm, ⟨32, _⟩ => ⟨S_, .f32⟩
  | .hbm, ⟨33, _⟩ => ⟨S16640x512, .f32⟩
  | .hbm, ⟨34, _⟩ => ⟨S_, .i32⟩
  | .hbm, ⟨35, _⟩ => ⟨S_, .f32⟩
  | .hbm, ⟨36, _⟩ => ⟨S16640x128, .f32⟩
  | .hbm, ⟨37, _⟩ => ⟨S_, .i32⟩
  | .hbm, ⟨38, _⟩ => ⟨S_, .f32⟩
  | .hbm, ⟨39, _⟩ => ⟨S16640x1024, .f32⟩
  | .hbm, ⟨40, _⟩ => ⟨S_, .i32⟩
  | .hbm, ⟨41, _⟩ => ⟨S_, .f32⟩
  | .hbm, ⟨42, _⟩ => ⟨S16640x1024, .f32⟩
  | .hbm, ⟨43, _⟩ => ⟨S1x1024, .f32⟩
  | .hbm, ⟨44, _⟩ => ⟨S1024x1792, .f32⟩
  | .hbm, ⟨45, _⟩ => ⟨S1024x512, .f32⟩
  | .hbm, ⟨46, _⟩ => ⟨S1024x8, .f32⟩
  | .hbm, ⟨47, _⟩ => ⟨S_, .f32⟩
  | .hbm, ⟨48, _⟩ => ⟨S1024x120, .f32⟩
  | .hbm, ⟨49, _⟩ => ⟨S1024x2432, .f32⟩
  | .hbm, ⟨50, _⟩ => ⟨S1024x2432, .bf16⟩
  | .hbm, ⟨51, _⟩ => ⟨S2432x1024, .bf16⟩
  | .hbm, ⟨52, _⟩ => ⟨S16640x1024, .f32⟩
  | .hbm, ⟨53, _⟩ => ⟨S16640x2432, .bf16⟩
  | .hbm, ⟨54, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x768, .f32⟩
  | .local _ .vmem, ⟨12, _⟩ => ⟨S256x768, .f32⟩
  | .local _ .vmem, ⟨13, _⟩ => ⟨S256x256, .f32⟩
  | .local _ .vmem, ⟨14, _⟩ => ⟨S256x256, .f32⟩
  | .local _ .vmem, ⟨15, _⟩ => ⟨S256x512, .f32⟩
  | .local _ .vmem, ⟨16, _⟩ => ⟨S256x512, .f32⟩
  | .local _ .vmem, ⟨17, _⟩ => ⟨S256x128, .f32⟩
  | .local _ .vmem, ⟨18, _⟩ => ⟨S256x128, .f32⟩
  | .local _ .vmem, ⟨19, _⟩ => ⟨S2432x1024, .bf16⟩
  | .local _ .vmem, ⟨20, _⟩ => ⟨S256x1024, .f32⟩
  | .local _ .vmem, ⟨21, _⟩ => ⟨S256x1024, .f32⟩
  | .local _ .vmem, ⟨22, _⟩ => ⟨S256x2432, .bf16⟩
  | .local _ .vmem, ⟨23, _⟩ => ⟨S256x2432, .bf16⟩
  | .local _ .vmem, ⟨24, _⟩ => ⟨S1x1024, .f32⟩
  | _, _ => ⟨S16400x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_call0_v0 : Ref sig .tc := ⟨.hbm, 14, rfl⟩
abbrev main_v1 : Ref sig .tc := ⟨.hbm, 15, rfl⟩
abbrev main_c_0 : Ref sig .tc := ⟨.hbm, 16, rfl⟩
abbrev main_call1_v0 : Ref sig .tc := ⟨.hbm, 17, rfl⟩
abbrev main_v2 : Ref sig .tc := ⟨.hbm, 18, rfl⟩
abbrev main_c_1 : Ref sig .tc := ⟨.hbm, 19, rfl⟩
abbrev main_call2_v0 : Ref sig .tc := ⟨.hbm, 20, rfl⟩
abbrev main_v3 : Ref sig .tc := ⟨.hbm, 21, rfl⟩
abbrev main_c_2 : Ref sig .tc := ⟨.hbm, 22, rfl⟩
abbrev main_call3_v0 : Ref sig .tc := ⟨.hbm, 23, rfl⟩
abbrev main_v4 : Ref sig .tc := ⟨.hbm, 24, rfl⟩
abbrev main_c_3 : Ref sig .tc := ⟨.hbm, 25, rfl⟩
abbrev main_call4_v0 : Ref sig .tc := ⟨.hbm, 26, rfl⟩
abbrev main_v5 : Ref sig .tc := ⟨.hbm, 27, rfl⟩
abbrev main_c_4 : Ref sig .tc := ⟨.hbm, 28, rfl⟩
abbrev main_call5_v0 : Ref sig .tc := ⟨.hbm, 29, rfl⟩
abbrev main_v6 : Ref sig .tc := ⟨.hbm, 30, rfl⟩
abbrev main_c_5 : Ref sig .tc := ⟨.hbm, 31, rfl⟩
abbrev main_call6_v0 : Ref sig .tc := ⟨.hbm, 32, rfl⟩
abbrev main_v7 : Ref sig .tc := ⟨.hbm, 33, rfl⟩
abbrev main_c_6 : Ref sig .tc := ⟨.hbm, 34, rfl⟩
abbrev main_call7_v0 : Ref sig .tc := ⟨.hbm, 35, rfl⟩
abbrev main_v8 : Ref sig .tc := ⟨.hbm, 36, rfl⟩
abbrev main_c_7 : Ref sig .tc := ⟨.hbm, 37, rfl⟩
abbrev main_call8_v0 : Ref sig .tc := ⟨.hbm, 38, rfl⟩
abbrev main_v9 : Ref sig .tc := ⟨.hbm, 39, rfl⟩
abbrev main_c_8 : Ref sig .tc := ⟨.hbm, 40, rfl⟩
abbrev main_call9_v0 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_cst : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19_0 : Ref sig .tc := ⟨.hbm, 52, rfl⟩
abbrev main_v19_1 : Ref sig .tc := ⟨.hbm, 53, rfl⟩
abbrev main_v19_2 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S2432x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2432 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== MixInRefIdeal.lean ====
abbrev S16400x1024 : Shape := ⟨2, ![16400, 1024]⟩
abbrev S1024 : Shape := ⟨1, ![1024]⟩
abbrev S1024x2312 : Shape := ⟨2, ![1024, 2312]⟩
abbrev S16400x256 : Shape := ⟨2, ![16400, 256]⟩
abbrev S16400x768 : Shape := ⟨2, ![16400, 768]⟩
abbrev S16400x4 : Shape := ⟨2, ![16400, 4]⟩
abbrev S16400x512 : Shape := ⟨2, ![16400, 512]⟩
abbrev S_ : Shape := ⟨0, ![]⟩
abbrev S16400x2312 : Shape := ⟨2, ![16400, 2312]⟩
abbrev S16400 : Shape := ⟨1, ![16400]⟩
abbrev S16400x1 : Shape := ⟨2, ![16400, 1]⟩
abbrev S1x1024 : Shape := ⟨2, ![1, 1024]⟩
abbrev S16400x1792 : Shape := ⟨2, ![16400, 1792]⟩
abbrev S16400x8 : Shape := ⟨2, ![16400, 8]⟩
abbrev S16400x120 : Shape := ⟨2, ![16400, 120]⟩
abbrev S16400x2432 : Shape := ⟨2, ![16400, 2432]⟩
abbrev S16640x1024 : Shape := ⟨2, ![16640, 1024]⟩
abbrev S16640x2432 : Shape := ⟨2, ![16640, 2432]⟩

abbrev nBuf : Space → Nat
  | .hbm => 86
  | .vmem => 0
  | .smem => 0
  | _ => 0

abbrev bufTy : (tb : Table) → Fin (tcTables nBuf tb) → BufTy
  | .hbm, ⟨0, _⟩ => ⟨S16400x1024, .f32⟩
  | .hbm, ⟨1, _⟩ => ⟨S1024, .f32⟩
  | .hbm, ⟨2, _⟩ => ⟨S1024x2312, .f32⟩
  | .hbm, ⟨3, _⟩ => ⟨S16400x1024, .f32⟩
  | .hbm, ⟨4, _⟩ => ⟨S16400x256, .f32⟩
  | .hbm, ⟨5, _⟩ => ⟨S16400x256, .f32⟩
  | .hbm, ⟨6, _⟩ => ⟨S16400x256, .f32⟩
  | .hbm, ⟨7, _⟩ => ⟨S16400x768, .f32⟩
  | .hbm, ⟨8, _⟩ => ⟨S16400x256, .f32⟩
  | .hbm, ⟨9, _⟩ => ⟨S16400x4, .f32⟩
  | .hbm, ⟨10, _⟩ => ⟨S16400x4, .f32⟩
  | .hbm, ⟨11, _⟩ => ⟨S16400x512, .f32⟩
  | .hbm, ⟨12, _⟩ => ⟨S_, .f32⟩
  | .hbm, ⟨13, _⟩ => ⟨S16400x2312, .f32⟩
  | .hbm, ⟨14, _⟩ => ⟨S16400x1024, .f32⟩
  | .hbm, ⟨15, _⟩ => ⟨S_, .f32⟩
  | .hbm, ⟨16, _⟩ => ⟨S16400, .f32⟩
  | .hbm, ⟨17, _⟩ => ⟨S16400x1, .f32⟩
  | .hbm, ⟨18, _⟩ => ⟨S_, .f32⟩
  | .hbm, ⟨19, _⟩ => ⟨S16400x1, .f32⟩
  | .hbm, ⟨20, _⟩ => ⟨S16400x1, .f32⟩
  | .hbm, ⟨21, _⟩ => ⟨S_, .f32⟩
  | .hbm, ⟨22, _⟩ => ⟨S16400x1, .f32⟩
  | .hbm, ⟨23, _⟩ => ⟨S16400x1, .f32⟩
  | .hbm, ⟨24, _⟩ => ⟨S16400x1, .f32⟩
  | .hbm, ⟨25, _⟩ => ⟨S16400x1, .f32⟩
  | .hbm, ⟨26, _⟩ => ⟨S_, .f32⟩
  | .hbm, ⟨27, _⟩ => ⟨S16400x1, .f32⟩
  | .hbm, ⟨28, _⟩ => ⟨S16400x1, .f32⟩
  | .hbm, ⟨29, _⟩ => ⟨S16400x1024, .f32⟩
  | .hbm, ⟨30, _⟩ => ⟨S16400x1024, .f32⟩
  | .hbm, ⟨31, _⟩ => ⟨S1x1024, .f32⟩
  | .hbm, ⟨32, _⟩ => ⟨S16400x1024, .f32⟩
  | .hbm, ⟨33, _⟩ => ⟨S16400x1024, .f32⟩
  | .hbm, ⟨34, _⟩ => ⟨S16400x2312, .f32⟩
  | .hbm, ⟨35, _⟩ => ⟨S16400x2312, .f32⟩
  | .hbm, ⟨36, _⟩ => ⟨S16400x256, .f32⟩
  | .hbm, ⟨37, _⟩ => ⟨S16400x256, .f32⟩
  | .hbm, ⟨38, _⟩ => ⟨S16400x256, .f32⟩
  | .hbm, ⟨39, _⟩ => ⟨S16400x768, .f32⟩
  | .hbm, ⟨40, _⟩ => ⟨S16400x256, .f32⟩
  | .hbm, ⟨41, _⟩ => ⟨S16400x4, .f32⟩
  | .hbm, ⟨42, _⟩ => ⟨S16400x4, .f32⟩
  | .hbm, ⟨43, _⟩ => ⟨S16400x512, .f32⟩
  | .hbm, ⟨44, _⟩ => ⟨S16400x2312, .f32⟩
  | .hbm, ⟨45, _⟩ => ⟨S16400x1024, .f32⟩
  | .hbm, ⟨46, _⟩ => ⟨S16400x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S16400x1024, .f32⟩
  | .hbm, ⟨51, _⟩ => ⟨S16400x1024, .f32⟩
  | .hbm, ⟨52, _⟩ => ⟨S_, .f32⟩
  | .hbm, ⟨53, _⟩ => ⟨S1024, .f32⟩
  | .hbm, ⟨54, _⟩ => ⟨S16400x1024, .f32⟩
  | .hbm, ⟨55, _⟩ => ⟨S_, .f32⟩
  | .hbm, ⟨56, _⟩ => ⟨S16400, .f32⟩
  | .hbm, ⟨57, _⟩ => ⟨S16400x1, .f32⟩
  | .hbm, ⟨58, _⟩ => ⟨S16400x1024, .f32⟩
  | .hbm, ⟨59, _⟩ => ⟨S16400x1024, .f32⟩
  | .hbm, ⟨60, _⟩ => ⟨S16400x1024, .f32⟩
  | .hbm, ⟨61, _⟩ => ⟨S16400x1, .f32⟩
  | .hbm, ⟨62, _⟩ => ⟨S_, .f32⟩
  | .hbm, ⟨63, _⟩ => ⟨S16400x1, .f32⟩
  | .hbm, ⟨64, _⟩ => ⟨S16400x1, .f32⟩
  | .hbm, ⟨65, _⟩ => ⟨S_, .f32⟩
  | .hbm, ⟨66, _⟩ => ⟨S16400, .f32⟩
  | .hbm, ⟨67, _⟩ => ⟨S16400x1024, .f32⟩
  | .hbm, ⟨68, _⟩ => ⟨S16400x1024, .f32⟩
  | .hbm, ⟨69, _⟩ => ⟨S16400x1024, .f32⟩
  | .hbm, ⟨70, _⟩ => ⟨S16400x1024, .f32⟩
  | .hbm, ⟨71, _⟩ => ⟨S16400x1024, .f32⟩
  | .hbm, ⟨72, _⟩ => ⟨S16400x1792, .f32⟩
  | .hbm, ⟨73, _⟩ => ⟨S16400x512, .f32⟩
  | .hbm, ⟨74, _⟩ => ⟨S16400x8, .f32⟩
  | .hbm, ⟨75, _⟩ => ⟨S_, .f32⟩
  | .hbm, ⟨76, _⟩ => ⟨S16400x120, .f32⟩
  | .hbm, ⟨77, _⟩ => ⟨S16400x2432, .f32⟩
  | .hbm, ⟨78, _⟩ => ⟨S_, .i32⟩
  | .hbm, ⟨79, _⟩ => ⟨S_, .f32⟩
  | .hbm, ⟨80, _⟩ => ⟨S16640x1024, .f32⟩
  | .hbm, ⟨81, _⟩ => ⟨S_, .i32⟩
  | .hbm, ⟨82, _⟩ => ⟨S_, .f32⟩
  | .hbm, ⟨83, _⟩ => ⟨S16640x2432, .f32⟩
  | .hbm, ⟨84, _⟩ => ⟨S16640x2432, .bf16⟩
  | .hbm, ⟨85, _⟩ => ⟨S1x1024, .f32⟩
  | _, _ => ⟨S16400x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_3 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_4 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_5 : Ref sig .tc := ⟨.hbm, 52, rfl⟩
abbrev main_v34 : Ref sig .tc := ⟨.hbm, 53, rfl⟩
abbrev main_v35 : Ref sig .tc := ⟨.hbm, 54, rfl⟩
abbrev main_cst_6 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_7 : Ref sig .tc := ⟨.hbm, 62, rfl⟩
abbrev main_v42 : Ref sig .tc := ⟨.hbm, 63, rfl⟩
abbrev main_v43 : Ref sig .tc := ⟨.hbm, 64, rfl⟩
abbrev main_cst_8 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_9 : Ref sig .tc := ⟨.hbm, 75, rfl⟩
abbrev main_v53 : Ref sig .tc := ⟨.hbm, 76, rfl⟩
abbrev main_v54 : Ref sig .tc := ⟨.hbm, 77, rfl⟩
abbrev main_c : Ref sig .tc := ⟨.hbm, 78, rfl⟩
abbrev main_call0_v0 : Ref sig .tc := ⟨.hbm, 79, rfl⟩
abbrev main_v55 : Ref sig .tc := ⟨.hbm, 80, rfl⟩
abbrev main_c_10 : Ref sig .tc := ⟨.hbm, 81, rfl⟩
abbrev main_call1_v0 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩

abbrev nD : Nat := 1
abbrev τ : Topo := Topo.v7x

variable {F : FTy → Type} [FloatOps F]
-- ==== Conv.lean ====
abbrev S16400x768 : Shape := ⟨2, ![16400, 768]⟩
abbrev S4x768 : Shape := ⟨2, ![4, 768]⟩
abbrev S_ : Shape := ⟨0, ![]⟩
abbrev S16640x1664 : Shape := ⟨2, ![16640, 1664]⟩
abbrev S16640x768 : Shape := ⟨2, ![16640, 768]⟩
abbrev S8x768 : Shape := ⟨2, ![8, 768]⟩
abbrev S256x768 : Shape := ⟨2, ![256, 768]⟩
abbrev S1x768 : Shape := ⟨2, ![1, 768]⟩
abbrev S768 : Shape := ⟨1, ![768]⟩
abbrev S248x768 : Shape := ⟨2, ![248, 768]⟩

abbrev nBuf : Space → Nat
  | .hbm => 14
  | .vmem => 12
  | .smem => 0
  | _ => 0

abbrev bufTy : (tb : Table) → Fin (tcTables nBuf tb) → BufTy
  | .hbm, ⟨0, _⟩ => ⟨S16400x768, .f32⟩
  | .hbm, ⟨1, _⟩ => ⟨S4x768, .f32⟩
  | .hbm, ⟨2, _⟩ => ⟨S16400x768, .f32⟩
  | .hbm, ⟨3, _⟩ => ⟨S_, .i32⟩
  | .hbm, ⟨4, _⟩ => ⟨S_, .f32⟩
  | .hbm, ⟨5, _⟩ => ⟨S16640x1664, .f32⟩
  | .hbm, ⟨6, _⟩ => ⟨S_, .i32⟩
  | .hbm, ⟨7, _⟩ => ⟨S_, .f32⟩
  | .hbm, ⟨8, _⟩ => ⟨S16640x768, .f32⟩
  | .hbm, ⟨9, _⟩ => ⟨S_, .i32⟩
  | .hbm, ⟨10, _⟩ => ⟨S_, .f32⟩
  | .hbm, ⟨11, _⟩ => ⟨S8x768, .f32⟩
  | .hbm, ⟨12, _⟩ => ⟨S16640x768, .f32⟩
  | .hbm, ⟨13, _⟩ => ⟨S8x768, .f32⟩
  | .local _ .vmem, ⟨0, _⟩ => ⟨S256x768, .f32⟩
  | .local _ .vmem, ⟨1, _⟩ => ⟨S256x768, .f32⟩
  | .local _ .vmem, ⟨2, _⟩ => ⟨S8x768, .f32⟩
  | .local _ .vmem, ⟨3, _⟩ => ⟨S8x768, .f32⟩
  | .local _ .vmem, ⟨4, _⟩ => ⟨S256x768, .f32⟩
  | .local _ .vmem, ⟨5, _⟩ => ⟨S256x768, .f32⟩
  | .local _ .vmem, ⟨6, _⟩ => ⟨S8x768, .f32⟩
  | .local _ .vmem, ⟨7, _⟩ => ⟨S8x768, .f32⟩
  | .local _ .vmem, ⟨8, _⟩ => ⟨S8x768, .f32⟩
  | .local _ .vmem, ⟨9, _⟩ => ⟨S256x768, .f32⟩
  | .local _ .vmem, ⟨10, _⟩ => ⟨S256x768, .f32⟩
  | .local _ .vmem, ⟨11, _⟩ => ⟨S8x768, .f32⟩
  | _, _ => ⟨S16400x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_c_0 : Ref sig .tc := ⟨.hbm, 6, rfl⟩
abbrev main_call1_v0 : Ref sig .tc := ⟨.hbm, 7, rfl⟩
abbrev main_v1 : Ref sig .tc := ⟨.hbm, 8, rfl⟩
abbrev main_c_1 : Ref sig .tc := ⟨.hbm, 9, rfl⟩
abbrev main_call2_v0 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c2079_i32 : BitVec 32 := 2079#32
  let v2 : BitVec 32 := Scalar.minsi v1 c2079_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ConvRefIdeal.lean ====
abbrev S16400x768 : Shape := ⟨2, ![16400, 768]⟩
abbrev S4x768 : Shape := ⟨2, ![4, 768]⟩
abbrev S_ : Shape := ⟨0, ![]⟩
abbrev S16640x768 : Shape := ⟨2, ![16640, 768]⟩
abbrev S3x768 : Shape := ⟨2, ![3, 768]⟩
abbrev S16643x768 : Shape := ⟨2, ![16643, 768]⟩
abbrev S1x768 : Shape := ⟨2, ![1, 768]⟩
abbrev S768 : Shape := ⟨1, ![768]⟩
abbrev S8x768 : Shape := ⟨2, ![8, 768]⟩

abbrev nBuf : Space → Nat
  | .hbm => 107
  | .vmem => 0
  | .smem => 0
  | _ => 0

abbrev bufTy : (tb : Table) → Fin (tcTables nBuf tb) → BufTy
  | .hbm, ⟨0, _⟩ => ⟨S16400x768, .f32⟩
  | .hbm, ⟨1, _⟩ => ⟨S4x768, .f32⟩
  | .hbm, ⟨2, _⟩ => ⟨S16400x768, .f32⟩
  | .hbm, ⟨3, _⟩ => ⟨S_, .i32⟩
  | .hbm, ⟨4, _⟩ => ⟨S_, .f32⟩
  | .hbm, ⟨5, _⟩ => ⟨S16640x768, .f32⟩
  | .hbm, ⟨6, _⟩ => ⟨S_, .f32⟩
  | .hbm, ⟨7, _⟩ => ⟨S3x768, .f32⟩
  | .hbm, ⟨8, _⟩ => ⟨S16643x768, .f32⟩
  | .hbm, ⟨9, _⟩ => ⟨S_, .f32⟩
  | .hbm, ⟨10, _⟩ => ⟨S3x768, .f32⟩
  | .hbm, ⟨11, _⟩ => ⟨S1x768, .f32⟩
  | .hbm, ⟨12, _⟩ => ⟨S768, .f32⟩
  | .hbm, ⟨13, _⟩ => ⟨S16640x768, .f32⟩
  | .hbm, ⟨14, _⟩ => ⟨S1x768, .f32⟩
  | .hbm, ⟨15, _⟩ => ⟨S16640x768, .f32⟩
  | .hbm, ⟨16, _⟩ => ⟨S16640x768, .f32⟩
  | .hbm, ⟨17, _⟩ => ⟨S_, .f32⟩
  | .hbm, ⟨18, _⟩ => ⟨S16640x768, .f32⟩
  | .hbm, ⟨19, _⟩ => ⟨S16640x768, .f32⟩
  | .hbm, ⟨20, _⟩ => ⟨S1x768, .f32⟩
  | .hbm, ⟨21, _⟩ => ⟨S768, .f32⟩
  | .hbm, ⟨22, _⟩ => ⟨S16640x768, .f32⟩
  | .hbm, ⟨23, _⟩ => ⟨S1x768, .f32⟩
  | .hbm, ⟨24, _⟩ => ⟨S16640x768, .f32⟩
  | .hbm, ⟨25, _⟩ => ⟨S16640x768, .f32⟩
  | .hbm, ⟨26, _⟩ => ⟨S16640x768, .f32⟩
  | .hbm, ⟨27, _⟩ => ⟨S1x768, .f32⟩
  | .hbm, ⟨28, _⟩ => ⟨S768, .f32⟩
  | .hbm, ⟨29, _⟩ => ⟨S16640x768, .f32⟩
  | .hbm, ⟨30, _⟩ => ⟨S1x768, .f32⟩
  | .hbm, ⟨31, _⟩ => ⟨S16640x768, .f32⟩
  | .hbm, ⟨32, _⟩ => ⟨S16640x768, .f32⟩
  | .hbm, ⟨33, _⟩ => ⟨S16640x768, .f32⟩
  | .hbm, ⟨34, _⟩ => ⟨S1x768, .f32⟩
  | .hbm, ⟨35, _⟩ => ⟨S768, .f32⟩
  | .hbm, ⟨36, _⟩ => ⟨S16640x768, .f32⟩
  | .hbm, ⟨37, _⟩ => ⟨S1x768, .f32⟩
  | .hbm, ⟨38, _⟩ => ⟨S16640x768, .f32⟩
  | .hbm, ⟨39, _⟩ => ⟨S16640x768, .f32⟩
  | .hbm, ⟨40, _⟩ => ⟨S16640x768, .f32⟩
  | .hbm, ⟨41, _⟩ => ⟨S16400x768, .f32⟩
  | .hbm, ⟨42, _⟩ => ⟨S_, .f32⟩
  | .hbm, ⟨43, _⟩ => ⟨S16640x768, .f32⟩
  | .hbm, ⟨44, _⟩ => ⟨S16640x768, .f32⟩
  | .hbm, ⟨45, _⟩ => ⟨S16640x768, .f32⟩
  | .hbm, ⟨46, _⟩ => ⟨S16640x768, .f32⟩
  | .hbm, ⟨47, _⟩ => ⟨S_, .f32⟩
  | .hbm, ⟨48, _⟩ => ⟨S768, .f32⟩
  | .hbm, ⟨49, _⟩ => ⟨S1x768, .f32⟩
  | .hbm, ⟨50, _⟩ => ⟨S_, .f32⟩
  | .hbm, ⟨51, _⟩ => ⟨S768, .f32⟩
  | .hbm, ⟨52, _⟩ => ⟨S_, .f32⟩
  | .hbm, ⟨53, _⟩ => ⟨S16643x768, .f32⟩
  | .hbm, ⟨54, _⟩ => ⟨S1x768, .f32⟩
  | .hbm, ⟨55, _⟩ => ⟨S_, .f32⟩
  | .hbm, ⟨56, _⟩ => ⟨S4x768, .f32⟩
  | .hbm, ⟨57, _⟩ => ⟨S16640x768, .f32⟩
  | .hbm, ⟨58, _⟩ => ⟨S16640x768, .f32⟩
  | .hbm, ⟨59, _⟩ => ⟨S16640x768, .f32⟩
  | .hbm, ⟨60, _⟩ => ⟨S_, .f32⟩
  | .hbm, ⟨61, _⟩ => ⟨S768, .f32⟩
  | .hbm, ⟨62, _⟩ => ⟨S1x768, .f32⟩
  | .hbm, ⟨63, _⟩ => ⟨S_, .f32⟩
  | .hbm, ⟨64, _⟩ => ⟨S768, .f32⟩
  | .hbm, ⟨65, _⟩ => ⟨S_, .f32⟩
  | .hbm, ⟨66, _⟩ => ⟨S16643x768, .f32⟩
  | .hbm, ⟨67, _⟩ => ⟨S16643x768, .f32⟩
  | .hbm, ⟨68, _⟩ => ⟨S1x768, .f32⟩
  | .hbm, ⟨69, _⟩ => ⟨S_, .f32⟩
  | .hbm, ⟨70, _⟩ => ⟨S4x768, .f32⟩
  | .hbm, ⟨71, _⟩ => ⟨S4x768, .f32⟩
  | .hbm, ⟨72, _⟩ => ⟨S16640x768, .f32⟩
  | .hbm, ⟨73, _⟩ => ⟨S16640x768, .f32⟩
  | .hbm, ⟨74, _⟩ => ⟨S16640x768, .f32⟩
  | .hbm, ⟨75, _⟩ => ⟨S_, .f32⟩
  | .hbm, ⟨76, _⟩ => ⟨S768, .f32⟩
  | .hbm, ⟨77, _⟩ => ⟨S1x768, .f32⟩
  | .hbm, ⟨78, _⟩ => ⟨S_, .f32⟩
  | .hbm, ⟨79, _⟩ => ⟨S768, .f32⟩
  | .hbm, ⟨80, _⟩ => ⟨S_, .f32⟩
  | .hbm, ⟨81, _⟩ => ⟨S16643x768, .f32⟩
  | .hbm, ⟨82, _⟩ => ⟨S16643x768, .f32⟩
  | .hbm, ⟨83, _⟩ => ⟨S1x768, .f32⟩
  | .hbm, ⟨84, _⟩ => ⟨S_, .f32⟩
  | .hbm, ⟨85, _⟩ => ⟨S4x768, .f32⟩
  | .hbm, ⟨86, _⟩ => ⟨S4x768, .f32⟩
  | .hbm, ⟨87, _⟩ => ⟨S16640x768, .f32⟩
  | .hbm, ⟨88, _⟩ => ⟨S16640x768, .f32⟩
  | .hbm, ⟨89, _⟩ => ⟨S16640x768, .f32⟩
  | .hbm, ⟨90, _⟩ => ⟨S_, .f32⟩
  | .hbm, ⟨91, _⟩ => ⟨S768, .f32⟩
  | .hbm, ⟨92, _⟩ => ⟨S1x768, .f32⟩
  | .hbm, ⟨93, _⟩ => ⟨S_, .f32⟩
  | .hbm, ⟨94, _⟩ => ⟨S768, .f32⟩
  | .hbm, ⟨95, _⟩ => ⟨S_, .f32⟩
  | .hbm, ⟨96, _⟩ => ⟨S16643x768, .f32⟩
  | .hbm, ⟨97, _⟩ => ⟨S16643x768, .f32⟩
  | .hbm, ⟨98, _⟩ => ⟨S1x768, .f32⟩
  | .hbm, ⟨99, _⟩ => ⟨S_, .f32⟩
  | .hbm, ⟨100, _⟩ => ⟨S4x768, .f32⟩
  | .hbm, ⟨101, _⟩ => ⟨S4x768, .f32⟩
  | .hbm, ⟨102, _⟩ => ⟨S3x768, .f32⟩
  | .hbm, ⟨103, _⟩ => ⟨S16640x768, .f32⟩
  | .hbm, ⟨104, _⟩ => ⟨S_, .i32⟩
  | .hbm, ⟨105, _⟩ => ⟨S_, .f32⟩
  | .hbm, ⟨106, _⟩ => ⟨S8x768, .f32⟩
  | _, _ => ⟨S16400x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_2 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_3 : Ref sig .tc := ⟨.hbm, 47, rfl⟩
abbrev main_v38 : Ref sig .tc := ⟨.hbm, 48, rfl⟩
abbrev main_v39 : Ref sig .tc := ⟨.hbm, 49, rfl⟩
abbrev main_cst_4 : Ref sig .tc := ⟨.hbm, 50, rfl⟩
abbrev main_v40 : Ref sig .tc := ⟨.hbm, 51, rfl⟩
abbrev main_cst_5 : Ref sig .tc := ⟨.hbm, 52, rfl⟩
abbrev main_v41 : Ref sig .tc := ⟨.hbm, 53, rfl⟩
abbrev main_v42 : Ref sig .tc := ⟨.hbm, 54, rfl⟩
abbrev main_cst_6 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_7 : Ref sig .tc := ⟨.hbm, 60, rfl⟩
abbrev main_v47 : Ref sig .tc := ⟨.hbm, 61, rfl⟩
abbrev main_v48 : Ref sig .tc := ⟨.hbm, 62, rfl⟩
abbrev main_cst_8 : Ref sig .tc := ⟨.hbm, 63, rfl⟩
abbrev main_v49 : Ref sig .tc := ⟨.hbm, 64, rfl⟩
abbrev main_cst_9 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_10 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_11 : Ref sig .tc := ⟨.hbm, 75, rfl⟩
abbrev main_v58 : Ref sig .tc := ⟨.hbm, 76, rfl⟩
abbrev main_v59 : Ref sig .tc := ⟨.hbm, 77, rfl⟩
abbrev main_cst_12 : Ref sig .tc := ⟨.hbm, 78, rfl⟩
abbrev main_v60 : Ref sig .tc := ⟨.hbm, 79, rfl⟩
abbrev main_cst_13 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_14 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_15 : Ref sig .tc := ⟨.hbm, 90, rfl⟩
abbrev main_v69 : Ref sig .tc := ⟨.hbm, 91, rfl⟩
abbrev main_v70 : Ref sig .tc := ⟨.hbm, 92, rfl⟩
abbrev main_cst_16 : Ref sig .tc := ⟨.hbm, 93, rfl⟩
abbrev main_v71 : Ref sig .tc := ⟨.hbm, 94, rfl⟩
abbrev main_cst_17 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_18 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_c_19 : Ref sig .tc := ⟨.hbm, 104, rfl⟩
abbrev main_call1_v0 : Ref sig .tc := ⟨.hbm, 105, rfl⟩
abbrev main_v79 : Ref sig .tc := ⟨.hbm, 106, rfl⟩

abbrev nD : Nat := 1
abbrev τ : Topo := Topo.v7x

variable {F : FTy → Type} [FloatOps F]
-- ==== SbFwd.lean ====
abbrev S16400x256 : Shape := ⟨2, ![16400, 256]⟩
abbrev S64 : Shape := ⟨1, ![64]⟩
abbrev S16400x768 : Shape := ⟨2, ![16400, 768]⟩
abbrev S_ : Shape := ⟨0, ![]⟩
abbrev S16640x768 : Shape := ⟨2, ![16640, 768]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S16640x256 : Shape := ⟨2, ![16640, 256]⟩
abbrev S256x128 : Shape := ⟨2, ![256, 128]⟩
abbrev S16640x128 : Shape := ⟨2, ![16640, 128]⟩
abbrev S256x256 : Shape := ⟨2, ![256, 256]⟩
abbrev S512x128 : Shape := ⟨2, ![512, 128]⟩
abbrev S512x1 : Shape := ⟨2, ![512, 1]⟩
abbrev S512x256 : Shape := ⟨2, ![512, 256]⟩
abbrev S512 : Shape := ⟨1, ![512]⟩
abbrev S256x1 : Shape := ⟨2, ![256, 1]⟩
abbrev S256 : Shape := ⟨1, ![256]⟩

abbrev nBuf : Space → Nat
  | .hbm => 16
  | .vmem => 11
  | .smem => 0
  | _ => 0

abbrev bufTy : (tb : Table) → Fin (tcTables nBuf tb) → BufTy
  | .hbm, ⟨0, _⟩ => ⟨S16400x256, .f32⟩
  | .hbm, ⟨1, _⟩ => ⟨S16400x256, .f32⟩
  | .hbm, ⟨2, _⟩ => ⟨S16400x256, .f32⟩
  | .hbm, ⟨3, _⟩ => ⟨S64, .f32⟩
  | .hbm, ⟨4, _⟩ => ⟨S16400x768, .f32⟩
  | .hbm, ⟨5, _⟩ => ⟨S_, .i32⟩
  | .hbm, ⟨6, _⟩ => ⟨S_, .f32⟩
  | .hbm, ⟨7, _⟩ => ⟨S16640x768, .f32⟩
  | .hbm, ⟨8, _⟩ => ⟨S16640x768, .bf16⟩
  | .hbm, ⟨9, _⟩ => ⟨S1x64, .f32⟩
  | .hbm, ⟨10, _⟩ => ⟨S2x64, .f32⟩
  | .hbm, ⟨11, _⟩ => ⟨S128, .f32⟩
  | .hbm, ⟨12, _⟩ => ⟨S1x128, .f32⟩
  | .hbm, ⟨13, _⟩ => ⟨S16640x256, .f32⟩
  | .hbm, ⟨14, _⟩ => ⟨S16640x256, .f32⟩
  | .hbm, ⟨15, _⟩ => ⟨S16640x256, .f32⟩
  | .local _ .vmem, ⟨0, _⟩ => ⟨S256x128, .bf16⟩
  | .local _ .vmem, ⟨1, _⟩ => ⟨S256x128, .bf16⟩
  | .local _ .vmem, ⟨2, _⟩ => ⟨S16640x128, .bf16⟩
  | .local _ .vmem, ⟨3, _⟩ => ⟨S16640x128, .bf16⟩
  | .local _ .vmem, ⟨4, _⟩ => ⟨S1x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | _, _ => ⟨S16400x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![2, 65], ![false, false]⟩

def k0_mult1 (i : grid0.Coords) : BitVec 32 :=
  let arg1 : BitVec 32 := BitVec.ofNat 32 (i 1).val
  let c256_i32 : BitVec 32 := 256#32
  let v24 : BitVec 32 := Scalar.muli arg1 c256_i32
  v24
def k0_off1 (i : grid0.Coords) : Fin 2 → Nat :=
  let arg1 : BitVec 32 := BitVec.ofNat 32 (i 1).val
  let c256_i32 : BitVec 32 := 256#32
  let v24 : BitVec 32 := Scalar.muli arg1 c256_i32
  let v25 : BitVec 32 := v24
  let v26 : Index := Scalar.indexCast v25
  let c0_5 : Index := 0#32
  ![v26.toNat, 0]
@[reducible] def k0_t1_loop (i : grid0.Coords) : Scf.Loop 32 :=
  let c0_i32_26 : BitVec 32 := 0#32
  let arg1 : BitVec 32 := BitVec.ofNat 32 (i 1).val
  let c1_i32 : BitVec 32 := 1#32
  let v22 : BitVec 32 := Scalar.subi arg1 c1_i32
  let c0_i32_4 : BitVec 32 := 0#32
  let v23 : BitVec 32 := Scalar.maxsi v22 c0_i32_4
  let c0_i32_20 : BitVec 32 := 0#32
  let v80 : BitVec 1 := Scalar.cmpi .sgt v23 c0_i32_20
  let v81 : BitVec 32 := Scalar.extui v80
  let c0_i32_21 : BitVec 32 := 0#32
  let v82 : BitVec 1 := Scalar.cmpi .slt v23 c0_i32_21
  let v83 : BitVec 32 := Scalar.extui v82
  let v84 : BitVec 32 := Scalar.subi v81 v83
  let c2_i32 : BitVec 32 := 2#32
  let c0_i32_22 : BitVec 32 := 0#32
  let v85 : BitVec 1 := Scalar.cmpi .sgt c2_i32 c0_i32_22
  let v86 : BitVec 32 := Scalar.extui v85
  let c0_i32_23 : BitVec 32 := 0#32
  let v87 : BitVec 1 := Scalar.cmpi .slt c2_i32 c0_i32_23
  let v88 : BitVec 32 := Scalar.extui v87
  let v89 : BitVec 32 := Scalar.subi v86 v88
  let v90 : BitVec 1 := Scalar.cmpi .ne v84 v89
  let v91 : BitVec 32 := Scalar.remsi v23 c2_i32
  let c0_i32_24 : BitVec 32 := 0#32
  let v92 : BitVec 1 := Scalar.cmpi .ne v91 c0_i32_24
  let v93 : BitVec 1 := Scalar.andi v90 v92
  let v79 : BitVec 32 := Scalar.divsi v23 c2_i32
  let c1_i32_25 : BitVec 32 := 1#32
  let v94 : BitVec 32 := Scalar.subi v79 c1_i32_25
  let v95 : BitVec 32 := Scalar.select v93 v94 v79
  let v96 : BitVec 32 := Scalar.subi v95 c0_i32_26
  let c1_i32_27 : BitVec 32 := 1#32
  let v98 : BitVec 32 := Scalar.divsi v96 c1_i32_27
  let v99 : BitVec 32 := Scalar.muli v98 c1_i32_27
  let v100 : BitVec 32 := Scalar.addi c0_i32_26 v99
  let c1_i32_28 : BitVec 32 := 1#32
  ⟨c0_i32_26, v100, c1_i32_28⟩
def k0_mult2 (i : grid0.Coords) (k0_t1 : Fin (k0_t1_loop i).trips) : BitVec 32 :=
  let arg1 : BitVec 32 := BitVec.ofNat 32 (i 1).val
  let c1_i32_59 : BitVec 32 := 1#32
  let v162 : BitVec 32 := Scalar.subi arg1 c1_i32_59
  let c2_i32_60 : BitVec 32 := 2#32
  let c0_i32_26 : BitVec 32 := 0#32
  let c1_i32_28 : BitVec 32 := 1#32
  let arg9 : BitVec 32 := Scf.iv c0_i32_26 c1_i32_28 k0_t1
  let v163 : BitVec 32 := Scalar.muli c2_i32_60 arg9
  let v164 : BitVec 32 := Scalar.subi v162 v163
  let c256_i32_61 : BitVec 32 := 256#32
  let v165 : BitVec 32 := Scalar.muli v164 c256_i32_61
  v165
def k0_off2 (i : grid0.Coords) (k0_t1 : Fin (k0_t1_loop i).trips) : Fin 2 → Nat :=
  let arg1 : BitVec 32 := BitVec.ofNat 32 (i 1).val
  let c1_i32_59 : BitVec 32 := 1#32
  let v162 : BitVec 32 := Scalar.subi arg1 c1_i32_59
  let c2_i32_60 : BitVec 32 := 2#32
  let c0_i32_26 : BitVec 32 := 0#32
  let c1_i32_28 : BitVec 32 := 1#32
  let arg9 : BitVec 32 := Scf.iv c0_i32_26 c1_i32_28 k0_t1
  let v163 : BitVec 32 := Scalar.muli c2_i32_60 arg9
  let v164 : BitVec 32 := Scalar.subi v162 v163
  let c256_i32_61 : BitVec 32 := 256#32
  let v165 : BitVec 32 := Scalar.muli v164 c256_i32_61
  let v166 : BitVec 32 := v165
  let v167 : Index := Scalar.indexCast v166
  let c0_62 : Index := 0#32
  ![v167.toNat, 0]
def k0_mult3 (i : grid0.Coords) (k0_t1 : Fin (k0_t1_loop i).trips) : BitVec 32 :=
  let arg1 : BitVec 32 := BitVec.ofNat 32 (i 1).val
  let c1_i32_59 : BitVec 32 := 1#32
  let v162 : BitVec 32 := Scalar.subi arg1 c1_i32_59
  let c2_i32_60 : BitVec 32 := 2#32
  let c0_i32_26 : BitVec 32 := 0#32
  let c1_i32_28 : BitVec 32 := 1#32
  let arg9 : BitVec 32 := Scf.iv c0_i32_26 c1_i32_28 k0_t1
  let v163 : BitVec 32 := Scalar.muli c2_i32_60 arg9
  let v164 : BitVec 32 := Scalar.subi v162 v163
  let c1_i32_71 : BitVec 32 := 1#32
  let v199 : BitVec 32 := Scalar.subi v164 c1_i32_71
  let c256_i32_72 : BitVec 32 := 256#32
  let v200 : BitVec 32 := Scalar.muli v199 c256_i32_72
  v200
def k0_off3 (i : grid0.Coords) (k0_t1 : Fin (k0_t1_loop i).trips) : Fin 2 → Nat :=
  let arg1 : BitVec 32 := BitVec.ofNat 32 (i 1).val
  let c1_i32_59 : BitVec 32 := 1#32
  let v162 : BitVec 32 := Scalar.subi arg1 c1_i32_59
  let c2_i32_60 : BitVec 32 := 2#32
  let c0_i32_26 : BitVec 32 := 0#32
  let c1_i32_28 : BitVec 32 := 1#32
  let arg9 : BitVec 32 := Scf.iv c0_i32_26 c1_i32_28 k0_t1
  let v163 : BitVec 32 := Scalar.muli c2_i32_60 arg9
  let v164 : BitVec 32 := Scalar.subi v162 v163
  let c1_i32_71 : BitVec 32 := 1#32
  let v199 : BitVec 32 := Scalar.subi v164 c1_i32_71
  let c256_i32_72 : BitVec 32 := 256#32
  let v200 : BitVec 32 := Scalar.muli v199 c256_i32_72
  let v201 : BitVec 32 := v200
  let v202 : Index := Scalar.indexCast v201
  let c0_73 : Index := 0#32
  ![v202.toNat, 0]
@[reducible] def k0_t2_loop (i : grid0.Coords) : Scf.Loop 32 :=
  let c0_i32_26 : BitVec 32 := 0#32
  let arg1 : BitVec 32 := BitVec.ofNat 32 (i 1).val
  let c1_i32 : BitVec 32 := 1#32
  let v22 : BitVec 32 := Scalar.subi arg1 c1_i32
  let c0_i32_4 : BitVec 32 := 0#32
  let v23 : BitVec 32 := Scalar.maxsi v22 c0_i32_4
  let c0_i32_20 : BitVec 32 := 0#32
  let v80 : BitVec 1 := Scalar.cmpi .sgt v23 c0_i32_20
  let v81 : BitVec 32 := Scalar.extui v80
  let c0_i32_21 : BitVec 32 := 0#32
  let v82 : BitVec 1 := Scalar.cmpi .slt v23 c0_i32_21
  let v83 : BitVec 32 := Scalar.extui v82
  let v84 : BitVec 32 := Scalar.subi v81 v83
  let c2_i32 : BitVec 32 := 2#32
  let c0_i32_22 : BitVec 32 := 0#32
  let v85 : BitVec 1 := Scalar.cmpi .sgt c2_i32 c0_i32_22
  let v86 : BitVec 32 := Scalar.extui v85
  let c0_i32_23 : BitVec 32 := 0#32
  let v87 : BitVec 1 := Scalar.cmpi .slt c2_i32 c0_i32_23
  let v88 : BitVec 32 := Scalar.extui v87
  let v89 : BitVec 32 := Scalar.subi v86 v88
  let v90 : BitVec 1 := Scalar.cmpi .ne v84 v89
  let v91 : BitVec 32 := Scalar.remsi v23 c2_i32
  let c0_i32_24 : BitVec 32 := 0#32
  let v92 : BitVec 1 := Scalar.cmpi .ne v91 c0_i32_24
  let v93 : BitVec 1 := Scalar.andi v90 v92
  let v79 : BitVec 32 := Scalar.divsi v23 c2_i32
  let c1_i32_25 : BitVec 32 := 1#32
  let v94 : BitVec 32 := Scalar.subi v79 c1_i32_25
  let v95 : BitVec 32 := Scalar.select v93 v94 v79
  let v96 : BitVec 32 := Scalar.subi v95 c0_i32_26
  let c1_i32_27 : BitVec 32 := 1#32
  let v98 : BitVec 32 := Scalar.divsi v96 c1_i32_27
  let v99 : BitVec 32 := Scalar.muli v98 c1_i32_27
  let v100 : BitVec 32 := Scalar.addi c0_i32_26 v99
  let v97 : BitVec 32 := Scalar.addi c0_i32_26 v96
  let c1_i32_29 : BitVec 32 := 1#32
  ⟨v100, v97, c1_i32_29⟩
def k0_mult4 (i : grid0.Coords) (k0_t2 : Fin (k0_t2_loop i).trips) : BitVec 32 :=
  let arg1 : BitVec 32 := BitVec.ofNat 32 (i 1).val
  let c1_i32_59 : BitVec 32 := 1#32
  let v162 : BitVec 32 := Scalar.subi arg1 c1_i32_59
  let c2_i32_60 : BitVec 32 := 2#32
  let c0_i32_26 : BitVec 32 := 0#32
  let c1_i32 : BitVec 32 := 1#32
  let v22 : BitVec 32 := Scalar.subi arg1 c1_i32
  let c0_i32_4 : BitVec 32 := 0#32
  let v23 : BitVec 32 := Scalar.maxsi v22 c0_i32_4
  let c0_i32_20 : BitVec 32 := 0#32
  let v80 : BitVec 1 := Scalar.cmpi .sgt v23 c0_i32_20
  let v81 : BitVec 32 := Scalar.extui v80
  let c0_i32_21 : BitVec 32 := 0#32
  let v82 : BitVec 1 := Scalar.cmpi .slt v23 c0_i32_21
  let v83 : BitVec 32 := Scalar.extui v82
  let v84 : BitVec 32 := Scalar.subi v81 v83
  let c2_i32 : BitVec 32 := 2#32
  let c0_i32_22 : BitVec 32 := 0#32
  let v85 : BitVec 1 := Scalar.cmpi .sgt c2_i32 c0_i32_22
  let v86 : BitVec 32 := Scalar.extui v85
  let c0_i32_23 : BitVec 32 := 0#32
  let v87 : BitVec 1 := Scalar.cmpi .slt c2_i32 c0_i32_23
  let v88 : BitVec 32 := Scalar.extui v87
  let v89 : BitVec 32 := Scalar.subi v86 v88
  let v90 : BitVec 1 := Scalar.cmpi .ne v84 v89
  let v91 : BitVec 32 := Scalar.remsi v23 c2_i32
  let c0_i32_24 : BitVec 32 := 0#32
  let v92 : BitVec 1 := Scalar.cmpi .ne v91 c0_i32_24
  let v93 : BitVec 1 := Scalar.andi v90 v92
  let v79 : BitVec 32 := Scalar.divsi v23 c2_i32
  let c1_i32_25 : BitVec 32 := 1#32
  let v94 : BitVec 32 := Scalar.subi v79 c1_i32_25
  let v95 : BitVec 32 := Scalar.select v93 v94 v79
  let v96 : BitVec 32 := Scalar.subi v95 c0_i32_26
  let c1_i32_27 : BitVec 32 := 1#32
  let v98 : BitVec 32 := Scalar.divsi v96 c1_i32_27
  let v99 : BitVec 32 := Scalar.muli v98 c1_i32_27
  let v100 : BitVec 32 := Scalar.addi c0_i32_26 v99
  let c1_i32_29 : BitVec 32 := 1#32
  let arg9 : BitVec 32 := Scf.iv v100 c1_i32_29 k0_t2
  let v163 : BitVec 32 := Scalar.muli c2_i32_60 arg9
  let v164 : BitVec 32 := Scalar.subi v162 v163
  let c256_i32_61 : BitVec 32 := 256#32
  let v165 : BitVec 32 := Scalar.muli v164 c256_i32_61
  v165
def k0_off4 (i : grid0.Coords) (k0_t2 : Fin (k0_t2_loop i).trips) : Fin 2 → Nat :=
  let arg1 : BitVec 32 := BitVec.ofNat 32 (i 1).val
  let c1_i32_59 : BitVec 32 := 1#32
  let v162 : BitVec 32 := Scalar.subi arg1 c1_i32_59
  let c2_i32_60 : BitVec 32 := 2#32
  let c0_i32_26 : BitVec 32 := 0#32
  let c1_i32 : BitVec 32 := 1#32
  let v22 : BitVec 32 := Scalar.subi arg1 c1_i32
  let c0_i32_4 : BitVec 32 := 0#32
  let v23 : BitVec 32 := Scalar.maxsi v22 c0_i32_4
  let c0_i32_20 : BitVec 32 := 0#32
  let v80 : BitVec 1 := Scalar.cmpi .sgt v23 c0_i32_20
  let v81 : BitVec 32 := Scalar.extui v80
  let c0_i32_21 : BitVec 32 := 0#32
  let v82 : BitVec 1 := Scalar.cmpi .slt v23 c0_i32_21
  let v83 : BitVec 32 := Scalar.extui v82
  let v84 : BitVec 32 := Scalar.subi v81 v83
  let c2_i32 : BitVec 32 := 2#32
  let c0_i32_22 : BitVec 32 := 0#32
  let v85 : BitVec 1 := Scalar.cmpi .sgt c2_i32 c0_i32_22
  let v86 : BitVec 32 := Scalar.extui v85
  let c0_i32_23 : BitVec 32 := 0#32
  let v87 : BitVec 1 := Scalar.cmpi .slt c2_i32 c0_i32_23
  let v88 : BitVec 32 := Scalar.extui v87
  let v89 : BitVec 32 := Scalar.subi v86 v88
  let v90 : BitVec 1 := Scalar.cmpi .ne v84 v89
  let v91 : BitVec 32 := Scalar.remsi v23 c2_i32
  let c0_i32_24 : BitVec 32 := 0#32
  let v92 : BitVec 1 := Scalar.cmpi .ne v91 c0_i32_24
  let v93 : BitVec 1 := Scalar.andi v90 v92
  let v79 : BitVec 32 := Scalar.divsi v23 c2_i32
  let c1_i32_25 : BitVec 32 := 1#32
  let v94 : BitVec 32 := Scalar.subi v79 c1_i32_25
  let v95 : BitVec 32 := Scalar.select v93 v94 v79
  let v96 : BitVec 32 := Scalar.subi v95 c0_i32_26
  let c1_i32_27 : BitVec 32 := 1#32
  let v98 : BitVec 32 := Scalar.divsi v96 c1_i32_27
  let v99 : BitVec 32 := Scalar.muli v98 c1_i32_27
  let v100 : BitVec 32 := Scalar.addi c0_i32_26 v99
  let c1_i32_29 : BitVec 32 := 1#32
  let arg9 : BitVec 32 := Scf.iv v100 c1_i32_29 k0_t2
  let v163 : BitVec 32 := Scalar.muli c2_i32_60 arg9
  let v164 : BitVec 32 := Scalar.subi v162 v163
  let c256_i32_61 : BitVec 32 := 256#32
  let v165 : BitVec 32 := Scalar.muli v164 c256_i32_61
  let v166 : BitVec 32 := v165
  let v167 : Index := Scalar.indexCast v166
  let c0_62 : Index := 0#32
  ![v167.toNat, 0]
def k0_mult5 (i : grid0.Coords) (k0_t2 : Fin (k0_t2_loop i).trips) : BitVec 32 :=
  let arg1 : BitVec 32 := BitVec.ofNat 32 (i 1).val
  let c1_i32_59 : BitVec 32 := 1#32
  let v162 : BitVec 32 := Scalar.subi arg1 c1_i32_59
  let c2_i32_60 : BitVec 32 := 2#32
  let c0_i32_26 : BitVec 32 := 0#32
  let c1_i32 : BitVec 32 := 1#32
  let v22 : BitVec 32 := Scalar.subi arg1 c1_i32
  let c0_i32_4 : BitVec 32 := 0#32
  let v23 : BitVec 32 := Scalar.maxsi v22 c0_i32_4
  let c0_i32_20 : BitVec 32 := 0#32
  let v80 : BitVec 1 := Scalar.cmpi .sgt v23 c0_i32_20
  let v81 : BitVec 32 := Scalar.extui v80
  let c0_i32_21 : BitVec 32 := 0#32
  let v82 : BitVec 1 := Scalar.cmpi .slt v23 c0_i32_21
  let v83 : BitVec 32 := Scalar.extui v82
  let v84 : BitVec 32 := Scalar.subi v81 v83
  let c2_i32 : BitVec 32 := 2#32
  let c0_i32_22 : BitVec 32 := 0#32
  let v85 : BitVec 1 := Scalar.cmpi .sgt c2_i32 c0_i32_22
  let v86 : BitVec 32 := Scalar.extui v85
  let c0_i32_23 : BitVec 32 := 0#32
  let v87 : BitVec 1 := Scalar.cmpi .slt c2_i32 c0_i32_23
  let v88 : BitVec 32 := Scalar.extui v87
  let v89 : BitVec 32 := Scalar.subi v86 v88
  let v90 : BitVec 1 := Scalar.cmpi .ne v84 v89
  let v91 : BitVec 32 := Scalar.remsi v23 c2_i32
  let c0_i32_24 : BitVec 32 := 0#32
  let v92 : BitVec 1 := Scalar.cmpi .ne v91 c0_i32_24
  let v93 : BitVec 1 := Scalar.andi v90 v92
  let v79 : BitVec 32 := Scalar.divsi v23 c2_i32
  let c1_i32_25 : BitVec 32 := 1#32
  let v94 : BitVec 32 := Scalar.subi v79 c1_i32_25
  let v95 : BitVec 32 := Scalar.select v93 v94 v79
  let v96 : BitVec 32 := Scalar.subi v95 c0_i32_26
  let c1_i32_27 : BitVec 32 := 1#32
  let v98 : BitVec 32 := Scalar.divsi v96 c1_i32_27
  let v99 : BitVec 32 := Scalar.muli v98 c1_i32_27
  let v100 : BitVec 32 := Scalar.addi c0_i32_26 v99
  let c1_i32_29 : BitVec 32 := 1#32
  let arg9 : BitVec 32 := Scf.iv v100 c1_i32_29 k0_t2
  let v163 : BitVec 32 := Scalar.muli c2_i32_60 arg9
  let v164 : BitVec 32 := Scalar.subi v162 v163
  let c1_i32_71 : BitVec 32 := 1#32
  let v199 : BitVec 32 := Scalar.subi v164 c1_i32_71
  let c256_i32_72 : BitVec 32 := 256#32
  let v200 : BitVec 32 := Scalar.muli v199 c256_i32_72
  v200
def k0_off5 (i : grid0.Coords) (k0_t2 : Fin (k0_t2_loop i).trips) : Fin 2 → Nat :=
  let arg1 : BitVec 32 := BitVec.ofNat 32 (i 1).val
  let c1_i32_59 : BitVec 32 := 1#32
  let v162 : BitVec 32 := Scalar.subi arg1 c1_i32_59
  let c2_i32_60 : BitVec 32 := 2#32
  let c0_i32_26 : BitVec 32 := 0#32
  let c1_i32 : BitVec 32 := 1#32
  let v22 : BitVec 32 := Scalar.subi arg1 c1_i32
  let c0_i32_4 : BitVec 32 := 0#32
  let v23 : BitVec 32 := Scalar.maxsi v22 c0_i32_4
  let c0_i32_20 : BitVec 32 := 0#32
  let v80 : BitVec 1 := Scalar.cmpi .sgt v23 c0_i32_20
  let v81 : BitVec 32 := Scalar.extui v80
  let c0_i32_21 : BitVec 32 := 0#32
  let v82 : BitVec 1 := Scalar.cmpi .slt v23 c0_i32_21
  let v83 : BitVec 32 := Scalar.extui v82
  let v84 : BitVec 32 := Scalar.subi v81 v83
  let c2_i32 : BitVec 32 := 2#32
  let c0_i32_22 : BitVec 32 := 0#32
  let v85 : BitVec 1 := Scalar.cmpi .sgt c2_i32 c0_i32_22
  let v86 : BitVec 32 := Scalar.extui v85
  let c0_i32_23 : BitVec 32 := 0#32
  let v87 : BitVec 1 := Scalar.cmpi .slt c2_i32 c0_i32_23
  let v88 : BitVec 32 := Scalar.extui v87
  let v89 : BitVec 32 := Scalar.subi v86 v88
  let v90 : BitVec 1 := Scalar.cmpi .ne v84 v89
  let v91 : BitVec 32 := Scalar.remsi v23 c2_i32
  let c0_i32_24 : BitVec 32 := 0#32
  let v92 : BitVec 1 := Scalar.cmpi .ne v91 c0_i32_24
  let v93 : BitVec 1 := Scalar.andi v90 v92
  let v79 : BitVec 32 := Scalar.divsi v23 c2_i32
  let c1_i32_25 : BitVec 32 := 1#32
  let v94 : BitVec 32 := Scalar.subi v79 c1_i32_25
  let v95 : BitVec 32 := Scalar.select v93 v94 v79
  let v96 : BitVec 32 := Scalar.subi v95 c0_i32_26
  let c1_i32_27 : BitVec 32 := 1#32
  let v98 : BitVec 32 := Scalar.divsi v96 c1_i32_27
  let v99 : BitVec 32 := Scalar.muli v98 c1_i32_27
  let v100 : BitVec 32 := Scalar.addi c0_i32_26 v99
  let c1_i32_29 : BitVec 32 := 1#32
  let arg9 : BitVec 32 := Scf.iv v100 c1_i32_29 k0_t2
  let v163 : BitVec 32 := Scalar.muli c2_i32_60 arg9
  let v164 : BitVec 32 := Scalar.subi v162 v163
  let c1_i32_71 : BitVec 32 := 1#32
  let v199 : BitVec 32 := Scalar.subi v164 c1_i32_71
  let c256_i32_72 : BitVec 32 := 256#32
  let v200 : BitVec 32 := Scalar.muli v199 c256_i32_72
  let v201 : BitVec 32 := v200
  let v202 : Index := Scalar.indexCast v201
  let c0_73 : Index := 0#32
  ![v202.toNat, 0]
@[reducible] def k0_t3_loop (i : grid0.Coords) : Scf.Loop 32 :=
  let c0_i32_36 : BitVec 32 := 0#32
  let arg1 : BitVec 32 := BitVec.ofNat 32 (i 1).val
  let c1_i32 : BitVec 32 := 1#32
  let v22 : BitVec 32 := Scalar.subi arg1 c1_i32
  let c0_i32_4 : BitVec 32 := 0#32
  let v23 : BitVec 32 := Scalar.maxsi v22 c0_i32_4
  let c2_i32_30 : BitVec 32 := 2#32
  let c0_i32_31 : BitVec 32 := 0#32
  let v103 : BitVec 1 := Scalar.cmpi .eq c2_i32_30 c0_i32_31
  let c1_i32_32 : BitVec 32 := 1#32
  let v104 : BitVec 32 := Scalar.select v103 c1_i32_32 c2_i32_30
  let v105 : BitVec 32 := Scalar.remsi v23 v104
  let c0_i32_34 : BitVec 32 := 0#32
  let v107 : BitVec 1 := Scalar.cmpi .slt v105 c0_i32_34
  let c0_i32_35 : BitVec 32 := 0#32
  let v108 : BitVec 1 := Scalar.cmpi .slt v104 c0_i32_35
  let v109 : BitVec 1 := Scalar.xori v107 v108
  let c0_i32_33 : BitVec 32 := 0#32
  let v106 : BitVec 1 := Scalar.cmpi .ne v105 c0_i32_33
  let v110 : BitVec 1 := Scalar.andi v109 v106
  let v111 : BitVec 32 := Scalar.addi v105 v104
  let v112 : BitVec 32 := Scalar.select v110 v111 v105
  let v113 : BitVec 32 := Scalar.subi v112 c0_i32_36
  let c1_i32_37 : BitVec 32 := 1#32
  let v115 : BitVec 32 := Scalar.divsi v113 c1_i32_37
  let v116 : BitVec 32 := Scalar.muli v115 c1_i32_37
  let v117 : BitVec 32 := Scalar.addi c0_i32_36 v116
  let c1_i32_38 : BitVec 32 := 1#32
  ⟨c0_i32_36, v117, c1_i32_38⟩
def k0_mult6 : BitVec 32 :=
  let c256_i32_59 : BitVec 32 := 256#32
  c256_i32_59
@[reducible] def k0_t4_loop (i : grid0.Coords) : Scf.Loop 32 :=
  let c0_i32_36 : BitVec 32 := 0#32
  let arg1 : BitVec 32 := BitVec.ofNat 32 (i 1).val
  let c1_i32 : BitVec 32 := 1#32
  let v22 : BitVec 32 := Scalar.subi arg1 c1_i32
  let c0_i32_4 : BitVec 32 := 0#32
  let v23 : BitVec 32 := Scalar.maxsi v22 c0_i32_4
  let c2_i32_30 : BitVec 32 := 2#32
  let c0_i32_31 : BitVec 32 := 0#32
  let v103 : BitVec 1 := Scalar.cmpi .eq c2_i32_30 c0_i32_31
  let c1_i32_32 : BitVec 32 := 1#32
  let v104 : BitVec 32 := Scalar.select v103 c1_i32_32 c2_i32_30
  let v105 : BitVec 32 := Scalar.remsi v23 v104
  let c0_i32_34 : BitVec 32 := 0#32
  let v107 : BitVec 1 := Scalar.cmpi .slt v105 c0_i32_34
  let c0_i32_35 : BitVec 32 := 0#32
  let v108 : BitVec 1 := Scalar.cmpi .slt v104 c0_i32_35
  let v109 : BitVec 1 := Scalar.xori v107 v108
  let c0_i32_33 : BitVec 32 := 0#32
  let v106 : BitVec 1 := Scalar.cmpi .ne v105 c0_i32_33
  let v110 : BitVec 1 := Scalar.andi v109 v106
  let v111 : BitVec 32 := Scalar.addi v105 v104
  let v112 : BitVec 32 := Scalar.select v110 v111 v105
  let v113 : BitVec 32 := Scalar.subi v112 c0_i32_36
  let c1_i32_37 : BitVec 32 := 1#32
  let v115 : BitVec 32 := Scalar.divsi v113 c1_i32_37
  let v116 : BitVec 32 := Scalar.muli v115 c1_i32_37
  let v117 : BitVec 32 := Scalar.addi c0_i32_36 v116
  let v114 : BitVec 32 := Scalar.addi c0_i32_36 v113
  let c1_i32_39 : BitVec 32 := 1#32
  ⟨v117, v114, c1_i32_39⟩
def k0_mult7 : BitVec 32 :=
  let c256_i32_59 : BitVec 32 := 256#32
  c256_i32_59
@[reducible] def k0_t5_loop (i : grid0.Coords) : Scf.Loop 32 :=
  let c0_i32_41 : BitVec 32 := 0#32
  let arg1 : BitVec 32 := BitVec.ofNat 32 (i 1).val
  let c1_i32_40 : BitVec 32 := 1#32
  let v120 : BitVec 32 := Scalar.minsi arg1 c1_i32_40
  let v121 : BitVec 32 := Scalar.subi v120 c0_i32_41
  let c1_i32_42 : BitVec 32 := 1#32
  let v123 : BitVec 32 := Scalar.divsi v121 c1_i32_42
  let v124 : BitVec 32 := Scalar.muli v123 c1_i32_42
  let v125 : BitVec 32 := Scalar.addi c0_i32_41 v124
  let c1_i32_43 : BitVec 32 := 1#32
  ⟨c0_i32_41, v125, c1_i32_43⟩
def k0_mult8 : BitVec 32 :=
  let c0_i32_59 : BitVec 32 := 0#32
  c0_i32_59
@[reducible] def k0_t6_loop (i : grid0.Coords) : Scf.Loop 32 :=
  let c0_i32_41 : BitVec 32 := 0#32
  let arg1 : BitVec 32 := BitVec.ofNat 32 (i 1).val
  let c1_i32_40 : BitVec 32 := 1#32
  let v120 : BitVec 32 := Scalar.minsi arg1 c1_i32_40
  let v121 : BitVec 32 := Scalar.subi v120 c0_i32_41
  let c1_i32_42 : BitVec 32 := 1#32
  let v123 : BitVec 32 := Scalar.divsi v121 c1_i32_42
  let v124 : BitVec 32 := Scalar.muli v123 c1_i32_42
  let v125 : BitVec 32 := Scalar.addi c0_i32_41 v124
  let v122 : BitVec 32 := Scalar.addi c0_i32_41 v121
  let c1_i32_44 : BitVec 32 := 1#32
  ⟨v125, v122, c1_i32_44⟩
def k0_mult9 : BitVec 32 :=
  let c0_i32_59 : BitVec 32 := 0#32
  c0_i32_59
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16640x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S16640x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== SbFwdRefIdeal.lean ====
abbrev S16400x256 : Shape := ⟨2, ![16400, 256]⟩
abbrev S64 : Shape := ⟨1, ![64]⟩
abbrev S16400x4x64 : Shape := ⟨3, ![16400, 4, 64]⟩
abbrev S4x16400x64 : Shape := ⟨3, ![4, 16400, 64]⟩
abbrev S16400 : Shape := ⟨1, ![16400]⟩
abbrev S4x16400x16400 : Shape := ⟨3, ![4, 16400, 16400]⟩
abbrev S_ : Shape := ⟨0, ![]⟩
abbrev S1x16400 : Shape := ⟨2, ![1, 16400]⟩
abbrev S16400x1 : Shape := ⟨2, ![16400, 1]⟩
abbrev S16400x16400 : Shape := ⟨2, ![16400, 16400]⟩
abbrev S4x16400 : Shape := ⟨2, ![4, 16400]⟩
abbrev S16400x4 : Shape := ⟨2, ![16400, 4]⟩
abbrev S16400x4x1 : Shape := ⟨3, ![16400, 4, 1]⟩
abbrev S16640x256 : Shape := ⟨2, ![16640, 256]⟩
abbrev S1x1x64 : Shape := ⟨3, ![1, 1, 64]⟩

abbrev nBuf : Space → Nat
  | .hbm => 141
  | .vmem => 0
  | .smem => 0
  | _ => 0

abbrev hbmTy0_0 (i : Nat) : BufTy := match i % 128 with
  | 0 => ⟨S16400x256, .f32⟩
  | 1 => ⟨S16400x256, .f32⟩
  | 2 => ⟨S16400x256, .f32⟩
  | 3 => ⟨S64, .f32⟩
  | 4 => ⟨S16400x4x64, .f32⟩
  | 5 => ⟨S16400x4x64, .f32⟩
  | 6 => ⟨S16400x4x64, .f32⟩
  | 7 => ⟨S4x16400x64, .f32⟩
  | 8 => ⟨S4x16400x64, .f32⟩
  | 9 => ⟨S4x16400x64, .f32⟩
  | 10 => ⟨S16400, .i32⟩
  | 11 => ⟨S4x16400x16400, .f32⟩
  | 12 => ⟨S_, .f32⟩
  | 13 => ⟨S4x16400x16400, .f32⟩
  | 14 => ⟨S4x16400x16400, .f32⟩
  | 15 => ⟨S1x16400, .i32⟩
  | 16 => ⟨S16400x1, .i32⟩
  | 17 => ⟨S16400x16400, .i32⟩
  | 18 => ⟨S16400x16400, .i32⟩
  | 19 => ⟨S16400x16400, .i1⟩
  | 20 => ⟨S4x16400x16400, .f32⟩
  | 21 => ⟨S4x16400x16400, .f32⟩
  | 22 => ⟨S_, .f32⟩
  | 23 => ⟨S4x16400x16400, .f32⟩
  | 24 => ⟨S4x16400x16400, .f32⟩
  | 25 => ⟨S4x16400x16400, .f32⟩
  | 26 => ⟨S4x16400x16400, .f32⟩
  | 27 => ⟨S4x16400x16400, .i1⟩
  | 28 => ⟨S4x16400x16400, .f32⟩
  | 29 => ⟨S4x16400x16400, .f32⟩
  | 30 => ⟨S4x16400x16400, .f32⟩
  | 31 => ⟨S4x16400x16400, .f32⟩
  | 32 => ⟨S4x16400x16400, .f32⟩
  | 33 => ⟨S4x16400x16400, .f32⟩
  | 34 => ⟨S4x16400x16400, .f32⟩
  | 35 => ⟨S4x16400x16400, .f32⟩
  | 36 => ⟨S4x16400x16400, .f32⟩
  | 37 => ⟨S_, .f32⟩
  | 38 => ⟨S_, .f32⟩
  | 39 => ⟨S4x16400x16400, .i1⟩
  | 40 => ⟨S4x16400x16400, .f32⟩
  | 41 => ⟨S4x16400x16400, .f32⟩
  | 42 => ⟨S_, .f32⟩
  | 43 => ⟨S_, .f32⟩
  | 44 => ⟨S4x16400x16400, .f32⟩
  | 45 => ⟨S4x16400x16400, .f32⟩
  | 46 => ⟨S4x16400x16400, .f32⟩
  | 47 => ⟨S_, .f32⟩
  | 48 => ⟨S4x16400x16400, .f32⟩
  | 49 => ⟨S4x16400x16400, .f32⟩
  | 50 => ⟨S4x16400x16400, .f32⟩
  | 51 => ⟨S4x16400x16400, .f32⟩
  | 52 => ⟨S4x16400x16400, .i1⟩
  | 53 => ⟨S4x16400x16400, .f32⟩
  | 54 => ⟨S4x16400x16400, .f32⟩
  | 55 => ⟨S4x16400x16400, .f32⟩
  | 56 => ⟨S4x16400x16400, .f32⟩
  | 57 => ⟨S4x16400x16400, .f32⟩
  | 58 => ⟨S4x16400x16400, .f32⟩
  | 59 => ⟨S4x16400x16400, .f32⟩
  | 60 => ⟨S4x16400x16400, .f32⟩
  | 61 => ⟨S4x16400x16400, .f32⟩
  | 62 => ⟨S4x16400x16400, .f32⟩
  | 63 => ⟨S4x16400x16400, .f32⟩
  | 64 => ⟨S_, .f32⟩
  | 65 => ⟨S_, .f32⟩
  | 66 => ⟨S4x16400x16400, .i1⟩
  | 67 => ⟨S4x16400x16400, .f32⟩
  | 68 => ⟨S4x16400x16400, .f32⟩
  | 69 => ⟨S4x16400x64, .f32⟩
  | 70 => ⟨S16400x4x64, .f32⟩
  | 71 => ⟨S16400x4x64, .f32⟩
  | 72 => ⟨S16400x4x64, .f32⟩
  | 73 => ⟨S4x16400x64, .f32⟩
  | 74 => ⟨S4x16400x64, .f32⟩
  | 75 => ⟨S16400, .i32⟩
  | 76 => ⟨S4x16400x16400, .f32⟩
  | 77 => ⟨S_, .f32⟩
  | 78 => ⟨S4x16400x16400, .f32⟩
  | 79 => ⟨S4x16400x16400, .f32⟩
  | 80 => ⟨S1x16400, .i32⟩
  | 81 => ⟨S16400x1, .i32⟩
  | 82 => ⟨S16400x16400, .i32⟩
  | 83 => ⟨S16400x16400, .i32⟩
  | 84 => ⟨S16400x16400, .i1⟩
  | 85 => ⟨S4x16400x16400, .f32⟩
  | 86 => ⟨S4x16400x16400, .f32⟩
  | 87 => ⟨S_, .f32⟩
  | 88 => ⟨S4x16400x16400, .f32⟩
  | 89 => ⟨S4x16400x16400, .f32⟩
  | 90 => ⟨S4x16400x16400, .f32⟩
  | 91 => ⟨S4x16400x16400, .f32⟩
  | 92 => ⟨S4x16400x16400, .i1⟩
  | 93 => ⟨S4x16400x16400, .f32⟩
  | 94 => ⟨S4x16400x16400, .f32⟩
  | 95 => ⟨S4x16400x16400, .f32⟩
  | 96 => ⟨S4x16400x16400, .f32⟩
  | 97 => ⟨S4x16400x16400, .f32⟩
  | 98 => ⟨S4x16400x16400, .f32⟩
  | 99 => ⟨S4x16400x16400, .f32⟩
  | 100 => ⟨S4x16400x16400, .f32⟩
  | 101 => ⟨S4x16400x16400, .f32⟩
  | 102 => ⟨S4x16400x16400, .f32⟩
  | 103 => ⟨S_, .f32⟩
  | 104 => ⟨S_, .f32⟩
  | 105 => ⟨S4x16400x16400, .i1⟩
  | 106 => ⟨S4x16400x16400, .f32⟩
  | 107 => ⟨S4x16400x16400, .f32⟩
  | 108 => ⟨S_, .f32⟩
  | 109 => ⟨S4x16400, .f32⟩
  | 110 => ⟨S16400x4, .f32⟩
  | 111 => ⟨S16400x4x1, .f32⟩
  | 112 => ⟨S16400x4x64, .f32⟩
  | 113 => ⟨S16400x256, .f32⟩
  | 114 => ⟨S_, .i32⟩
  | 115 => ⟨S_, .f32⟩
  | 116 => ⟨S16640x256, .f32⟩
  | 117 => ⟨S16400x4x64, .f32⟩
  | 118 => ⟨S_, .f32⟩
  | 119 => ⟨S16400x4, .f32⟩
  | 120 => ⟨S16400x4x1, .f32⟩
  | 121 => ⟨S_, .f32⟩
  | 122 => ⟨S16400x4x1, .f32⟩
  | 123 => ⟨S16400x4x1, .f32⟩
  | 124 => ⟨S_, .f32⟩
  | 125 => ⟨S16400x4x1, .f32⟩
  | 126 => ⟨S16400x4x1, .f32⟩
  | 127 => ⟨S16400x4x1, .f32⟩
  | _ => ⟨S16400x256, .f32⟩

abbrev hbmTy0_1 (i : Nat) : BufTy := match i % 128 with
  | 0 => ⟨S16400x4x64, .f32⟩
  | 1 => ⟨S16400x4x64, .f32⟩
  | 2 => ⟨S1x1x64, .f32⟩
  | 3 => ⟨S16400x4x64, .f32⟩
  | 4 => ⟨S16400x4x64, .f32⟩
  | 5 => ⟨S16400x256, .f32⟩
  | 6 => ⟨S_, .i32⟩
  | 7 => ⟨S_, .f32⟩
  | 8 => ⟨S16640x256, .f32⟩
  | 9 => ⟨S16400x256, .f32⟩
  | 10 => ⟨S_, .i32⟩
  | 11 => ⟨S_, .f32⟩
  | 12 => ⟨S16640x256, .f32⟩
  | _ => ⟨S16400x256, .f32⟩

abbrev hbmTy (i : Nat) : BufTy := match i / 128 with
  | 0 => hbmTy0_0 i
  | 1 => hbmTy0_1 i
  | _ => ⟨S16400x256, .f32⟩

abbrev bufTy : (tb : Table) → Fin (tcTables nBuf tb) → BufTy
  | .hbm, ⟨i, _⟩ => hbmTy i
  | _, _ => ⟨S16400x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v16 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v17 : Ref sig .tc := ⟨.hbm, 41, rfl⟩
abbrev main_call2_cst : Ref sig .tc := ⟨.hbm, 42, rfl⟩
abbrev main_call2_v0 : Ref sig .tc := ⟨.hbm, 43, rfl⟩
abbrev main_v18 : Ref sig .tc := ⟨.hbm, 44, rfl⟩
abbrev main_v19 : Ref sig .tc := ⟨.hbm, 45, rfl⟩
abbrev main_call3_v0 : Ref sig .tc := ⟨.hbm, 46, rfl⟩
abbrev main_call3_call0_cst : Ref sig .tc := ⟨.hbm, 47, rfl⟩
abbrev main_call3_call0_v0 : Ref sig .tc := ⟨.hbm, 48, rfl⟩
abbrev main_call3_call0_v1 : Ref sig .tc := ⟨.hbm, 49, rfl⟩
abbrev main_call3_call0_v2 : Ref sig .tc := ⟨.hbm, 50, rfl⟩
abbrev main_call3_call0_v3 : Ref sig .tc := ⟨.hbm, 51, rfl⟩
abbrev main_call3_call0_v4 : Ref sig .tc := ⟨.hbm, 52, rfl⟩
abbrev main_call3_call0_v5 : Ref sig .tc := ⟨.hbm, 53, rfl⟩
abbrev main_call3_call0_v6 : Ref sig .tc := ⟨.hbm, 54, rfl⟩
abbrev main_call3_call0_v7 : Ref sig .tc := ⟨.hbm, 55, rfl⟩
abbrev main_call3_call0_v8 : Ref sig .tc := ⟨.hbm, 56, rfl⟩
abbrev main_call3_call0_v9 : Ref sig .tc := ⟨.hbm, 57, rfl⟩
abbrev main_call3_call0_v10 : Ref sig .tc := ⟨.hbm, 58, rfl⟩
abbrev main_call3_call0_v11 : Ref sig .tc := ⟨.hbm, 59, rfl⟩
abbrev main_call3_v1 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_cst_1 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_cst_2 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_call5_v0 : Ref sig .tc := ⟨.hbm, 86, rfl⟩
abbrev main_call5_call0_cst : Ref sig .tc := ⟨.hbm, 87, rfl⟩
abbrev main_call5_call0_v0 : Ref sig .tc := ⟨.hbm, 88, rfl⟩
abbrev main_call5_call0_v1 : Ref sig .tc := ⟨.hbm, 89, rfl⟩
abbrev main_call5_call0_v2 : Ref sig .tc := ⟨.hbm, 90, rfl⟩
abbrev main_call5_call0_v3 : Ref sig .tc := ⟨.hbm, 91, rfl⟩
abbrev main_call5_call0_v4 : Ref sig .tc := ⟨.hbm, 92, rfl⟩
abbrev main_call5_call0_v5 : Ref sig .tc := ⟨.hbm, 93, rfl⟩
abbrev main_call5_call0_v6 : Ref sig .tc := ⟨.hbm, 94, rfl⟩
abbrev main_call5_call0_v7 : Ref sig .tc := ⟨.hbm, 95, rfl⟩
abbrev main_call5_call0_v8 : Ref sig .tc := ⟨.hbm, 96, rfl⟩
abbrev main_call5_call0_v9 : Ref sig .tc := ⟨.hbm, 97, rfl⟩
abbrev main_call5_call0_v10 : Ref sig .tc := ⟨.hbm, 98, rfl⟩
abbrev main_call5_call0_v11 : Ref sig .tc := ⟨.hbm, 99, rfl⟩
abbrev main_call5_v1 : Ref sig .tc := ⟨.hbm, 100, rfl⟩
abbrev main_v40 : Ref sig .tc := ⟨.hbm, 101, rfl⟩
abbrev main_v41 : Ref sig .tc := ⟨.hbm, 102, rfl⟩
abbrev main_cst_3 : Ref sig .tc := ⟨.hbm, 103, rfl⟩
abbrev main_call6_v0 : Ref sig .tc := ⟨.hbm, 104, rfl⟩
abbrev main_call6_v1 : Ref sig .tc := ⟨.hbm, 105, rfl⟩
abbrev main_call6_v2 : Ref sig .tc := ⟨.hbm, 106, rfl⟩
abbrev main_v42 : Ref sig .tc := ⟨.hbm, 107, rfl⟩
abbrev main_cst_4 : Ref sig .tc := ⟨.hbm, 108, rfl⟩
abbrev main_v43 : Ref sig .tc := ⟨.hbm, 109, rfl⟩
abbrev main_v44 : Ref sig .tc := ⟨.hbm, 110, rfl⟩
abbrev main_v45 : Ref sig .tc := ⟨.hbm, 111, rfl⟩
abbrev main_v46 : Ref sig .tc := ⟨.hbm, 112, rfl⟩
abbrev main_v47 : Ref sig .tc := ⟨.hbm, 113, rfl⟩
abbrev main_c : Ref sig .tc := ⟨.hbm, 114, rfl⟩
abbrev main_call7_v0 : Ref sig .tc := ⟨.hbm, 115, rfl⟩
abbrev main_v48 : Ref sig .tc := ⟨.hbm, 116, rfl⟩
abbrev main_v49 : Ref sig .tc := ⟨.hbm, 117, rfl⟩
abbrev main_cst_5 : Ref sig .tc := ⟨.hbm, 118, rfl⟩
abbrev main_v50 : Ref sig .tc := ⟨.hbm, 119, rfl⟩
abbrev main_v51 : Ref sig .tc := ⟨.hbm, 120, rfl⟩
abbrev main_cst_6 : Ref sig .tc := ⟨.hbm, 121, rfl⟩
abbrev main_v52 : Ref sig .tc := ⟨.hbm, 122, rfl⟩
abbrev main_v53 : Ref sig .tc := ⟨.hbm, 123, rfl⟩
abbrev main_cst_7 : Ref sig .tc := ⟨.hbm, 124, rfl⟩
abbrev main_v54 : Ref sig .tc := ⟨.hbm, 125, rfl⟩
abbrev main_v55 : Ref sig .tc := ⟨.hbm, 126, rfl⟩
abbrev main_v56 : Ref sig .tc := ⟨.hbm, 127, rfl⟩
abbrev main_v57 : Ref sig .tc := ⟨.hbm, 128, rfl⟩
abbrev main_v58 : Ref sig .tc := ⟨.hbm, 129, rfl⟩
abbrev main_v59 : Ref sig .tc := ⟨.hbm, 130, rfl⟩
abbrev main_v60 : Ref sig .tc := ⟨.hbm, 131, rfl⟩
abbrev main_v61 : Ref sig .tc := ⟨.hbm, 132, rfl⟩
abbrev main_v62 : Ref sig .tc := ⟨.hbm, 133, rfl⟩
abbrev main_c_8 : Ref sig .tc := ⟨.hbm, 134, rfl⟩
abbrev main_call8_v0 : Ref sig .tc := ⟨.hbm, 135, rfl⟩
abbrev main_v63 : Ref sig .tc := ⟨.hbm, 136, rfl⟩
abbrev main_v64 : Ref sig .tc := ⟨.hbm, 137, rfl⟩
abbrev main_c_9 : Ref sig .tc := ⟨.hbm, 138, rfl⟩
abbrev main_call9_v0 : Ref sig .tc := ⟨.hbm, 139, rfl⟩
abbrev main_v65 : Ref sig .tc := ⟨.hbm, 140, rfl⟩

abbrev nD : Nat := 1
abbrev τ : Topo := Topo.v7x

variable {F : FTy → Type} [FloatOps F]
-- ==== Pre.lean ====
abbrev S16400x768 : Shape := ⟨2, ![16400, 768]⟩
abbrev S16400x4 : Shape := ⟨2, ![16400, 4]⟩
abbrev S4x768 : Shape := ⟨2, ![4, 768]⟩
abbrev S4 : Shape := ⟨1, ![4]⟩
abbrev S16400x256 : Shape := ⟨2, ![16400, 256]⟩
abbrev S_ : Shape := ⟨0, ![]⟩
abbrev S16400x120 : Shape := ⟨2, ![16400, 120]⟩
abbrev S16400x1664 : Shape := ⟨2, ![16400, 1664]⟩
abbrev S16640x256 : Shape := ⟨2, ![16640, 256]⟩
abbrev S16640x4 : Shape := ⟨2, ![16640, 4]⟩
abbrev S4x16640 : Shape := ⟨2, ![4, 16640]⟩
abbrev S4x16640x1 : Shape := ⟨3, ![4, 16640, 1]⟩
abbrev S4x16640x64 : Shape := ⟨3, ![4, 16640, 64]⟩
abbrev S16640x1664 : Shape := ⟨2, ![16640, 1664]⟩
abbrev S8x768 : Shape := ⟨2, ![8, 768]⟩
abbrev S128 : Shape := ⟨1, ![128]⟩
abbrev S1x128 : Shape := ⟨2, ![1, 128]⟩
abbrev S16640x768 : Shape := ⟨2, ![16640, 768]⟩
abbrev S16640x128 : Shape := ⟨2, ![16640, 128]⟩
abbrev S8x128 : Shape := ⟨2, ![8, 128]⟩
abbrev S256x256 : Shape := ⟨2, ![256, 256]⟩
abbrev S4x256x64 : Shape := ⟨3, ![4, 256, 64]⟩
abbrev S256x768 : Shape := ⟨2, ![256, 768]⟩
abbrev S256x128 : Shape := ⟨2, ![256, 128]⟩
abbrev S1x768 : Shape := ⟨2, ![1, 768]⟩
abbrev S248x768 : Shape := ⟨2, ![248, 768]⟩
abbrev S256 : Shape := ⟨1, ![256]⟩
abbrev S256x1 : Shape := ⟨2, ![256, 1]⟩
abbrev S1x256x64 : Shape := ⟨3, ![1, 256, 64]⟩
abbrev S256x64 : Shape := ⟨2, ![256, 64]⟩

abbrev nBuf : Space → Nat
  | .hbm => 54
  | .vmem => 24
  | .smem => 0
  | _ => 0

abbrev bufTy : (tb : Table) → Fin (tcTables nBuf tb) → BufTy
  | .hbm, ⟨0, _⟩ => ⟨S16400x768, .f32⟩
  | .hbm, ⟨1, _⟩ => ⟨S16400x4, .f32⟩
  | .hbm, ⟨2, _⟩ => ⟨S16400x4, .f32⟩
  | .hbm, ⟨3, _⟩ => ⟨S4x768, .f32⟩
  | .hbm, ⟨4, _⟩ => ⟨S4, .f32⟩
  | .hbm, ⟨5, _⟩ => ⟨S4, .f32⟩
  | .hbm, ⟨6, _⟩ => ⟨S16400x256, .f32⟩
  | .hbm, ⟨7, _⟩ => ⟨S16400x256, .f32⟩
  | .hbm, ⟨8, _⟩ => ⟨S16400x256, .f32⟩
  | .hbm, ⟨9, _⟩ => ⟨S16400x4, .f32⟩
  | .hbm, ⟨10, _⟩ => ⟨S16400x4, .f32⟩
  | .hbm, ⟨11, _⟩ => ⟨S_, .f32⟩
  | .hbm, ⟨12, _⟩ => ⟨S16400x768, .f32⟩
  | .hbm, ⟨13, _⟩ => ⟨S_, .f32⟩
  | .hbm, ⟨14, _⟩ => ⟨S16400x120, .f32⟩
  | .hbm, ⟨15, _⟩ => ⟨S16400x1664, .f32⟩
  | .hbm, ⟨16, _⟩ => ⟨S_, .i32⟩
  | .hbm, ⟨17, _⟩ => ⟨S_, .f32⟩
  | .hbm, ⟨18, _⟩ => ⟨S16640x256, .f32⟩
  | .hbm, ⟨19, _⟩ => ⟨S_, .i32⟩
  | .hbm, ⟨20, _⟩ => ⟨S_, .f32⟩
  | .hbm, ⟨21, _⟩ => ⟨S16640x256, .f32⟩
  | .hbm, ⟨22, _⟩ => ⟨S_, .i32⟩
  | .hbm, ⟨23, _⟩ => ⟨S_, .f32⟩
  | .hbm, ⟨24, _⟩ => ⟨S16640x256, .f32⟩
  | .hbm, ⟨25, _⟩ => ⟨S_, .i32⟩
  | .hbm, ⟨26, _⟩ => ⟨S_, .f32⟩
  | .hbm, ⟨27, _⟩ => ⟨S16640x4, .f32⟩
  | .hbm, ⟨28, _⟩ => ⟨S4x16640, .f32⟩
  | .hbm, ⟨29, _⟩ => ⟨S4x16640x1, .f32⟩
  | .hbm, ⟨30, _⟩ => ⟨S4x16640x64, .f32⟩
  | .hbm, ⟨31, _⟩ => ⟨S_, .i32⟩
  | .hbm, ⟨32, _⟩ => ⟨S_, .f32⟩
  | .hbm, ⟨33, _⟩ => ⟨S16640x4, .f32⟩
  | .hbm, ⟨34, _⟩ => ⟨S4x16640, .f32⟩
  | .hbm, ⟨35, _⟩ => ⟨S4x16640x1, .f32⟩
  | .hbm, ⟨36, _⟩ => ⟨S4x16640x64, .f32⟩
  | .hbm, ⟨37, _⟩ => ⟨S_, .i32⟩
  | .hbm, ⟨38, _⟩ => ⟨S_, .f32⟩
  | .hbm, ⟨39, _⟩ => ⟨S16640x1664, .f32⟩
  | .hbm, ⟨40, _⟩ => ⟨S_, .i32⟩
  | .hbm, ⟨41, _⟩ => ⟨S_, .f32⟩
  | .hbm, ⟨42, _⟩ => ⟨S8x768, .f32⟩
  | .hbm, ⟨43, _⟩ => ⟨S_, .i32⟩
  | .hbm, ⟨44, _⟩ => ⟨S_, .f32⟩
  | .hbm, ⟨45, _⟩ => ⟨S128, .f32⟩
  | .hbm, ⟨46, _⟩ => ⟨S1x128, .f32⟩
  | .hbm, ⟨47, _⟩ => ⟨S_, .i32⟩
  | .hbm, ⟨48, _⟩ => ⟨S_, .f32⟩
  | .hbm, ⟨49, _⟩ => ⟨S128, .f32⟩
  | .hbm, ⟨50, _⟩ => ⟨S1x128, .f32⟩
  | .hbm, ⟨51, _⟩ => ⟨S16640x768, .f32⟩
  | .hbm, ⟨52, _⟩ => ⟨S16640x128, .f32⟩
  | .hbm, ⟨53, _⟩ => ⟨S8x128, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S4x256x64, .f32⟩
  | .local _ .vmem, ⟨7, _⟩ => ⟨S4x256x64, .f32⟩
  | .local _ .vmem, ⟨8, _⟩ => ⟨S4x256x64, .f32⟩
  | .local _ .vmem, ⟨9, _⟩ => ⟨S4x256x64, .f32⟩
  | .local _ .vmem, ⟨10, _⟩ => ⟨S256x768, .f32⟩
  | .local _ .vmem, ⟨11, _⟩ => ⟨S256x768, .f32⟩
  | .local _ .vmem, ⟨12, _⟩ => ⟨S8x768, .f32⟩
  | .local _ .vmem, ⟨13, _⟩ => ⟨S8x768, .f32⟩
  | .local _ .vmem, ⟨14, _⟩ => ⟨S256x128, .f32⟩
  | .local _ .vmem, ⟨15, _⟩ => ⟨S256x128, .f32⟩
  | .local _ .vmem, ⟨16, _⟩ => ⟨S8x768, .f32⟩
  | .local _ .vmem, ⟨17, _⟩ => ⟨S1x128, .f32⟩
  | .local _ .vmem, ⟨18, _⟩ => ⟨S1x128, .f32⟩
  | .local _ .vmem, ⟨19, _⟩ => ⟨S256x768, .f32⟩
  | .local _ .vmem, ⟨20, _⟩ => ⟨S256x768, .f32⟩
  | .local _ .vmem, ⟨21, _⟩ => ⟨S256x128, .f32⟩
  | .local _ .vmem, ⟨22, _⟩ => ⟨S256x128, .f32⟩
  | .local _ .vmem, ⟨23, _⟩ => ⟨S8x128, .f32⟩
  | _, _ => ⟨S16400x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_c : Ref sig .tc := ⟨.hbm, 16, rfl⟩
abbrev main_call0_v0 : Ref sig .tc := ⟨.hbm, 17, rfl⟩
abbrev main_v3 : Ref sig .tc := ⟨.hbm, 18, rfl⟩
abbrev main_c_1 : Ref sig .tc := ⟨.hbm, 19, rfl⟩
abbrev main_call1_v0 : Ref sig .tc := ⟨.hbm, 20, rfl⟩
abbrev main_v4 : Ref sig .tc := ⟨.hbm, 21, rfl⟩
abbrev main_c_2 : Ref sig .tc := ⟨.hbm, 22, rfl⟩
abbrev main_call2_v0 : Ref sig .tc := ⟨.hbm, 23, rfl⟩
abbrev main_v5 : Ref sig .tc := ⟨.hbm, 24, rfl⟩
abbrev main_c_3 : Ref sig .tc := ⟨.hbm, 25, rfl⟩
abbrev main_call3_v0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_c_4 : Ref sig .tc := ⟨.hbm, 31, rfl⟩
abbrev main_call4_v0 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_c_5 : Ref sig .tc := ⟨.hbm, 37, rfl⟩
abbrev main_call5_v0 : Ref sig .tc := ⟨.hbm, 38, rfl⟩
abbrev main_v14 : Ref sig .tc := ⟨.hbm, 39, rfl⟩
abbrev main_c_6 : Ref sig .tc := ⟨.hbm, 40, rfl⟩
abbrev main_call6_v0 : Ref sig .tc := ⟨.hbm, 41, rfl⟩
abbrev main_v15 : Ref sig .tc := ⟨.hbm, 42, rfl⟩
abbrev main_c_7 : Ref sig .tc := ⟨.hbm, 43, rfl⟩
abbrev main_call7_v0 : Ref sig .tc := ⟨.hbm, 44, rfl⟩
abbrev main_v16 : Ref sig .tc := ⟨.hbm, 45, rfl⟩
abbrev main_v17 : Ref sig .tc := ⟨.hbm, 46, rfl⟩
abbrev main_c_8 : Ref sig .tc := ⟨.hbm, 47, rfl⟩
abbrev main_call8_v0 : Ref sig .tc := ⟨.hbm, 48, rfl⟩
abbrev main_v18 : Ref sig .tc := ⟨.hbm, 49, rfl⟩
abbrev main_v19 : Ref sig .tc := ⟨.hbm, 50, rfl⟩
abbrev main_v20_0 : Ref sig .tc := ⟨.hbm, 51, rfl⟩
abbrev main_v20_1 : Ref sig .tc := ⟨.hbm, 52, rfl⟩
abbrev main_v20_2 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_7 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== PreRefIdeal.lean ====
abbrev S16400x768 : Shape := ⟨2, ![16400, 768]⟩
abbrev S16400x4 : Shape := ⟨2, ![16400, 4]⟩
abbrev S4x768 : Shape := ⟨2, ![4, 768]⟩
abbrev S4 : Shape := ⟨1, ![4]⟩
abbrev S16400x256 : Shape := ⟨2, ![16400, 256]⟩
abbrev S_ : Shape := ⟨0, ![]⟩
abbrev S3x768 : Shape := ⟨2, ![3, 768]⟩
abbrev S16403x768 : Shape := ⟨2, ![16403, 768]⟩
abbrev S1x768 : Shape := ⟨2, ![1, 768]⟩
abbrev S768 : Shape := ⟨1, ![768]⟩
abbrev S16400x4x64 : Shape := ⟨3, ![16400, 4, 64]⟩
abbrev S16400x4x1 : Shape := ⟨3, ![16400, 4, 1]⟩
abbrev S1x4 : Shape := ⟨2, ![1, 4]⟩
abbrev S16400x8 : Shape := ⟨2, ![16400, 8]⟩
abbrev S16640x128 : Shape := ⟨2, ![16640, 128]⟩
abbrev S2x4 : Shape := ⟨2, ![2, 4]⟩
abbrev S8x128 : Shape := ⟨2, ![8, 128]⟩
abbrev S16640x768 : Shape := ⟨2, ![16640, 768]⟩

abbrev nBuf : Space → Nat
  | .hbm => 232
  | .vmem => 0
  | .smem => 0
  | _ => 0

abbrev hbmTy0_0 (i : Nat) : BufTy := match i % 128 with
  | 0 => ⟨S16400x768, .f32⟩
  | 1 => ⟨S16400x4, .f32⟩
  | 2 => ⟨S16400x4, .f32⟩
  | 3 => ⟨S4x768, .f32⟩
  | 4 => ⟨S4, .f32⟩
  | 5 => ⟨S4, .f32⟩
  | 6 => ⟨S16400x256, .f32⟩
  | 7 => ⟨S16400x256, .f32⟩
  | 8 => ⟨S16400x256, .f32⟩
  | 9 => ⟨S16400x4, .f32⟩
  | 10 => ⟨S16400x4, .f32⟩
  | 11 => ⟨S_, .f32⟩
  | 12 => ⟨S16400x768, .f32⟩
  | 13 => ⟨S_, .f32⟩
  | 14 => ⟨S3x768, .f32⟩
  | 15 => ⟨S16403x768, .f32⟩
  | 16 => ⟨S1x768, .f32⟩
  | 17 => ⟨S768, .f32⟩
  | 18 => ⟨S16400x768, .f32⟩
  | 19 => ⟨S1x768, .f32⟩
  | 20 => ⟨S16400x768, .f32⟩
  | 21 => ⟨S16400x768, .f32⟩
  | 22 => ⟨S_, .f32⟩
  | 23 => ⟨S16400x768, .f32⟩
  | 24 => ⟨S16400x768, .f32⟩
  | 25 => ⟨S1x768, .f32⟩
  | 26 => ⟨S768, .f32⟩
  | 27 => ⟨S16400x768, .f32⟩
  | 28 => ⟨S1x768, .f32⟩
  | 29 => ⟨S16400x768, .f32⟩
  | 30 => ⟨S16400x768, .f32⟩
  | 31 => ⟨S16400x768, .f32⟩
  | 32 => ⟨S1x768, .f32⟩
  | 33 => ⟨S768, .f32⟩
  | 34 => ⟨S16400x768, .f32⟩
  | 35 => ⟨S1x768, .f32⟩
  | 36 => ⟨S16400x768, .f32⟩
  | 37 => ⟨S16400x768, .f32⟩
  | 38 => ⟨S16400x768, .f32⟩
  | 39 => ⟨S1x768, .f32⟩
  | 40 => ⟨S768, .f32⟩
  | 41 => ⟨S16400x768, .f32⟩
  | 42 => ⟨S1x768, .f32⟩
  | 43 => ⟨S16400x768, .f32⟩
  | 44 => ⟨S16400x768, .f32⟩
  | 45 => ⟨S16400x768, .f32⟩
  | 46 => ⟨S16400x768, .f32⟩
  | 47 => ⟨S16400x768, .f32⟩
  | 48 => ⟨S16400x768, .f32⟩
  | 49 => ⟨S_, .f32⟩
  | 50 => ⟨S16400x768, .f32⟩
  | 51 => ⟨S16400x768, .f32⟩
  | 52 => ⟨S_, .f32⟩
  | 53 => ⟨S16400x768, .f32⟩
  | 54 => ⟨S16400x768, .f32⟩
  | 55 => ⟨S_, .f32⟩
  | 56 => ⟨S16400x768, .f32⟩
  | 57 => ⟨S16400x768, .f32⟩
  | 58 => ⟨S16400x768, .f32⟩
  | 59 => ⟨S16400x768, .f32⟩
  | 60 => ⟨S16400x256, .f32⟩
  | 61 => ⟨S16400x256, .f32⟩
  | 62 => ⟨S16400x256, .f32⟩
  | 63 => ⟨S16400x4x64, .f32⟩
  | 64 => ⟨S16400x4x64, .f32⟩
  | 65 => ⟨S16400x4x64, .f32⟩
  | 66 => ⟨S16400x4x64, .f32⟩
  | 67 => ⟨S_, .f32⟩
  | 68 => ⟨S16400x4, .f32⟩
  | 69 => ⟨S16400x4x1, .f32⟩
  | 70 => ⟨S_, .f32⟩
  | 71 => ⟨S16400x4x1, .f32⟩
  | 72 => ⟨S16400x4x1, .f32⟩
  | 73 => ⟨S16400x4x1, .f32⟩
  | 74 => ⟨S16400x4x1, .f32⟩
  | 75 => ⟨S_, .f32⟩
  | 76 => ⟨S16400x4x1, .f32⟩
  | 77 => ⟨S16400x4x1, .f32⟩
  | 78 => ⟨S16400x4x64, .f32⟩
  | 79 => ⟨S16400x4x64, .f32⟩
  | 80 => ⟨S16400x4x64, .f32⟩
  | 81 => ⟨S_, .f32⟩
  | 82 => ⟨S16400x4, .f32⟩
  | 83 => ⟨S16400x4x1, .f32⟩
  | 84 => ⟨S_, .f32⟩
  | 85 => ⟨S16400x4x1, .f32⟩
  | 86 => ⟨S16400x4x1, .f32⟩
  | 87 => ⟨S16400x4x1, .f32⟩
  | 88 => ⟨S16400x4x1, .f32⟩
  | 89 => ⟨S_, .f32⟩
  | 90 => ⟨S16400x4x1, .f32⟩
  | 91 => ⟨S16400x4x1, .f32⟩
  | 92 => ⟨S16400x4x64, .f32⟩
  | 93 => ⟨S16400x4x64, .f32⟩
  | 94 => ⟨S16400x4, .f32⟩
  | 95 => ⟨S16400x4, .f32⟩
  | 96 => ⟨S_, .f32⟩
  | 97 => ⟨S16400x4, .f32⟩
  | 98 => ⟨S16400x4, .f32⟩
  | 99 => ⟨S_, .f32⟩
  | 100 => ⟨S16400x4, .f32⟩
  | 101 => ⟨S16400x4, .f32⟩
  | 102 => ⟨S_, .f32⟩
  | 103 => ⟨S16400x4, .f32⟩
  | 104 => ⟨S16400x4, .f32⟩
  | 105 => ⟨S16400x4, .f32⟩
  | 106 => ⟨S4, .f32⟩
  | 107 => ⟨S4, .f32⟩
  | 108 => ⟨S1x4, .f32⟩
  | 109 => ⟨S16400x4, .f32⟩
  | 110 => ⟨S16400x4, .f32⟩
  | 111 => ⟨S_, .f32⟩
  | 112 => ⟨S16400x4, .f32⟩
  | 113 => ⟨S16400x4, .f32⟩
  | 114 => ⟨S16400x4, .f32⟩
  | 115 => ⟨S16400x4, .f32⟩
  | 116 => ⟨S16400x4, .i1⟩
  | 117 => ⟨S16400x4, .f32⟩
  | 118 => ⟨S16400x4, .f32⟩
  | 119 => ⟨S16400x4, .f32⟩
  | 120 => ⟨S16400x4, .f32⟩
  | 121 => ⟨S16400x4, .f32⟩
  | 122 => ⟨S16400x4, .f32⟩
  | 123 => ⟨S16400x4, .f32⟩
  | 124 => ⟨S16400x4, .f32⟩
  | 125 => ⟨S_, .f32⟩
  | 126 => ⟨S16400x4, .f32⟩
  | 127 => ⟨S16400x4, .i1⟩
  | _ => ⟨S16400x768, .f32⟩

abbrev hbmTy0_1 (i : Nat) : BufTy := match i % 128 with
  | 0 => ⟨S_, .f32⟩
  | 1 => ⟨S16400x4, .f32⟩
  | 2 => ⟨S16400x4, .f32⟩
  | 3 => ⟨S_, .f32⟩
  | 4 => ⟨S16400x4, .f32⟩
  | 5 => ⟨S16400x4, .i1⟩
  | 6 => ⟨S_, .f32⟩
  | 7 => ⟨S16400x4, .f32⟩
  | 8 => ⟨S16400x4, .f32⟩
  | 9 => ⟨S16400x4, .f32⟩
  | 10 => ⟨S16400x4, .f32⟩
  | 11 => ⟨S_, .f32⟩
  | 12 => ⟨S_, .f32⟩
  | 13 => ⟨S_, .i1⟩
  | 14 => ⟨S_, .f32⟩
  | 15 => ⟨S_, .f32⟩
  | 16 => ⟨S_, .f32⟩
  | 17 => ⟨S_, .f32⟩
  | 18 => ⟨S16400x4, .f32⟩
  | 19 => ⟨S16400x4, .i1⟩
  | 20 => ⟨S_, .f32⟩
  | 21 => ⟨S16400x4, .f32⟩
  | 22 => ⟨S16400x4, .f32⟩
  | 23 => ⟨S16400x4, .f32⟩
  | 24 => ⟨S16400x4, .f32⟩
  | 25 => ⟨S16400x4, .f32⟩
  | 26 => ⟨S_, .f32⟩
  | 27 => ⟨S16400x4, .f32⟩
  | 28 => ⟨S16400x4, .f32⟩
  | 29 => ⟨S1x4, .f32⟩
  | 30 => ⟨S16400x4, .f32⟩
  | 31 => ⟨S16400x4, .f32⟩
  | 32 => ⟨S16400x256, .f32⟩
  | 33 => ⟨S16400x256, .f32⟩
  | 34 => ⟨S16400x256, .f32⟩
  | 35 => ⟨S16400x4x64, .f32⟩
  | 36 => ⟨S16400x4x64, .f32⟩
  | 37 => ⟨S16400x4x64, .f32⟩
  | 38 => ⟨S16400x4, .f32⟩
  | 39 => ⟨S16400x4, .f32⟩
  | 40 => ⟨S16400x4, .f32⟩
  | 41 => ⟨S_, .f32⟩
  | 42 => ⟨S4, .f32⟩
  | 43 => ⟨S1x4, .f32⟩
  | 44 => ⟨S_, .f32⟩
  | 45 => ⟨S4, .f32⟩
  | 46 => ⟨S16400x4, .f32⟩
  | 47 => ⟨S_, .f32⟩
  | 48 => ⟨S4, .f32⟩
  | 49 => ⟨S1x4, .f32⟩
  | 50 => ⟨S_, .f32⟩
  | 51 => ⟨S4, .f32⟩
  | 52 => ⟨S4, .f32⟩
  | 53 => ⟨S4, .f32⟩
  | 54 => ⟨S16400x4, .f32⟩
  | 55 => ⟨S16400x4x64, .f32⟩
  | 56 => ⟨S_, .f32⟩
  | 57 => ⟨S16400x4, .f32⟩
  | 58 => ⟨S16400x4x1, .f32⟩
  | 59 => ⟨S16400x4x64, .f32⟩
  | 60 => ⟨S16400x4x64, .f32⟩
  | 61 => ⟨S16400x4x1, .f32⟩
  | 62 => ⟨S_, .f32⟩
  | 63 => ⟨S16400x4, .f32⟩
  | 64 => ⟨S16400x4x64, .f32⟩
  | 65 => ⟨S16400x4x64, .f32⟩
  | 66 => ⟨S16400x4x64, .f32⟩
  | 67 => ⟨S16400x4x64, .f32⟩
  | 68 => ⟨S16400x4x64, .f32⟩
  | 69 => ⟨S16400x4x64, .f32⟩
  | 70 => ⟨S_, .f32⟩
  | 71 => ⟨S16400x4, .f32⟩
  | 72 => ⟨S16400x4x1, .f32⟩
  | 73 => ⟨S16400x4x64, .f32⟩
  | 74 => ⟨S16400x4x64, .f32⟩
  | 75 => ⟨S16400x4x1, .f32⟩
  | 76 => ⟨S_, .f32⟩
  | 77 => ⟨S16400x4, .f32⟩
  | 78 => ⟨S16400x4x64, .f32⟩
  | 79 => ⟨S16400x4x64, .f32⟩
  | 80 => ⟨S16400x4x64, .f32⟩
  | 81 => ⟨S16400x4x64, .f32⟩
  | 82 => ⟨S16400x4x64, .f32⟩
  | 83 => ⟨S16400x256, .f32⟩
  | 84 => ⟨S16400x256, .f32⟩
  | 85 => ⟨S16400x256, .f32⟩
  | 86 => ⟨S16400x768, .f32⟩
  | 87 => ⟨S16400x768, .f32⟩
  | 88 => ⟨S16400x768, .f32⟩
  | 89 => ⟨S16400x768, .f32⟩
  | 90 => ⟨S16400x768, .f32⟩
  | 91 => ⟨S16400x8, .f32⟩
  | 92 => ⟨S_, .i32⟩
  | 93 => ⟨S_, .f32⟩
  | 94 => ⟨S16640x128, .f32⟩
  | 95 => ⟨S1x4, .f32⟩
  | 96 => ⟨S1x4, .f32⟩
  | 97 => ⟨S2x4, .f32⟩
  | 98 => ⟨S_, .i32⟩
  | 99 => ⟨S_, .f32⟩
  | 100 => ⟨S8x128, .f32⟩
  | 101 => ⟨S_, .i32⟩
  | 102 => ⟨S_, .f32⟩
  | 103 => ⟨S16640x768, .f32⟩
  | _ => ⟨S16400x768, .f32⟩

abbrev hbmTy (i : Nat) : BufTy := match i / 128 with
  | 0 => hbmTy0_0 i
  | 1 => hbmTy0_1 i
  | _ => ⟨S16400x768, .f32⟩

abbrev bufTy : (tb : Table) → Fin (tcTables nBuf tb) → BufTy
  | .hbm, ⟨i, _⟩ => hbmTy i
  | _, _ => ⟨S16400x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_v33_2 : Ref sig .tc := ⟨.hbm, 54, rfl⟩
abbrev main_call0_cst_1 : Ref sig .tc := ⟨.hbm, 55, rfl⟩
abbrev main_call0_v6 : Ref sig .tc := ⟨.hbm, 56, rfl⟩
abbrev main_call0_v7 : Ref sig .tc := ⟨.hbm, 57, rfl⟩
abbrev main_v33_1 : Ref sig .tc := ⟨.hbm, 58, rfl⟩
abbrev main_v33_0 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_2 : Ref sig .tc := ⟨.hbm, 67, rfl⟩
abbrev main_v41 : Ref sig .tc := ⟨.hbm, 68, rfl⟩
abbrev main_v42 : Ref sig .tc := ⟨.hbm, 69, rfl⟩
abbrev main_cst_3 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_4 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_5 : Ref sig .tc := ⟨.hbm, 81, rfl⟩
abbrev main_v52 : Ref sig .tc := ⟨.hbm, 82, rfl⟩
abbrev main_v53 : Ref sig .tc := ⟨.hbm, 83, rfl⟩
abbrev main_cst_6 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_7 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_8 : Ref sig .tc := ⟨.hbm, 96, rfl⟩
abbrev main_v64 : Ref sig .tc := ⟨.hbm, 97, rfl⟩
abbrev main_v65 : Ref sig .tc := ⟨.hbm, 98, rfl⟩
abbrev main_cst_9 : Ref sig .tc := ⟨.hbm, 99, rfl⟩
abbrev main_v66 : Ref sig .tc := ⟨.hbm, 100, rfl⟩
abbrev main_v67 : Ref sig .tc := ⟨.hbm, 101, rfl⟩
abbrev main_cst_10 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_call1_cst : Ref sig .tc := ⟨.hbm, 111, rfl⟩
abbrev main_call1_v0 : Ref sig .tc := ⟨.hbm, 112, rfl⟩
abbrev main_call1_v1 : Ref sig .tc := ⟨.hbm, 113, rfl⟩
abbrev main_call1_v2 : Ref sig .tc := ⟨.hbm, 114, rfl⟩
abbrev main_call1_v3 : Ref sig .tc := ⟨.hbm, 115, rfl⟩
abbrev main_call1_v4 : Ref sig .tc := ⟨.hbm, 116, rfl⟩
abbrev main_call1_v5 : Ref sig .tc := ⟨.hbm, 117, rfl⟩
abbrev main_call1_v6 : Ref sig .tc := ⟨.hbm, 118, rfl⟩
abbrev main_call1_v7 : Ref sig .tc := ⟨.hbm, 119, rfl⟩
abbrev main_call1_v8 : Ref sig .tc := ⟨.hbm, 120, rfl⟩
abbrev main_call1_v9 : Ref sig .tc := ⟨.hbm, 121, rfl⟩
abbrev main_call1_v10 : Ref sig .tc := ⟨.hbm, 122, rfl⟩
abbrev main_call1_v11 : Ref sig .tc := ⟨.hbm, 123, rfl⟩
abbrev main_v76_0 : Ref sig .tc := ⟨.hbm, 124, rfl⟩
abbrev main_call1_cst_0 : Ref sig .tc := ⟨.hbm, 125, rfl⟩
abbrev main_call1_v13 : Ref sig .tc := ⟨.hbm, 126, rfl⟩
abbrev main_call1_v14 : Ref sig .tc := ⟨.hbm, 127, rfl⟩
abbrev main_call1_cst_1 : Ref sig .tc := ⟨.hbm, 128, rfl⟩
abbrev main_call1_v15 : Ref sig .tc := ⟨.hbm, 129, rfl⟩
abbrev main_call1_v16 : Ref sig .tc := ⟨.hbm, 130, rfl⟩
abbrev main_call1_cst_2 : Ref sig .tc := ⟨.hbm, 131, rfl⟩
abbrev main_call1_v17 : Ref sig .tc := ⟨.hbm, 132, rfl⟩
abbrev main_call1_v18 : Ref sig .tc := ⟨.hbm, 133, rfl⟩
abbrev main_call1_cst_3 : Ref sig .tc := ⟨.hbm, 134, rfl⟩
abbrev main_call1_v19 : Ref sig .tc := ⟨.hbm, 135, rfl⟩
abbrev main_call1_v20 : Ref sig .tc := ⟨.hbm, 136, rfl⟩
abbrev main_call1_v21 : Ref sig .tc := ⟨.hbm, 137, rfl⟩
abbrev main_v76_1 : Ref sig .tc := ⟨.hbm, 138, rfl⟩
abbrev main_call1_cst_4 : Ref sig .tc := ⟨.hbm, 139, rfl⟩
abbrev main_call1_cst_5 : Ref sig .tc := ⟨.hbm, 140, rfl⟩
abbrev main_call1_v23 : Ref sig .tc := ⟨.hbm, 141, rfl⟩
abbrev main_call1_cst_6 : Ref sig .tc := ⟨.hbm, 142, rfl⟩
abbrev main_call1_cst_7 : Ref sig .tc := ⟨.hbm, 143, rfl⟩
abbrev main_call1_v24 : Ref sig .tc := ⟨.hbm, 144, rfl⟩
abbrev main_call1_cst_8 : Ref sig .tc := ⟨.hbm, 145, rfl⟩
abbrev main_call1_v25 : Ref sig .tc := ⟨.hbm, 146, rfl⟩
abbrev main_call1_v26 : Ref sig .tc := ⟨.hbm, 147, rfl⟩
abbrev main_call1_cst_9 : Ref sig .tc := ⟨.hbm, 148, rfl⟩
abbrev main_call1_v27 : Ref sig .tc := ⟨.hbm, 149, rfl⟩
abbrev main_call1_v28 : Ref sig .tc := ⟨.hbm, 150, rfl⟩
abbrev main_call1_v29 : Ref sig .tc := ⟨.hbm, 151, rfl⟩
abbrev main_call1_v30 : Ref sig .tc := ⟨.hbm, 152, rfl⟩
abbrev main_call1_v31 : Ref sig .tc := ⟨.hbm, 153, rfl⟩
abbrev main_call1_cst_10 : Ref sig .tc := ⟨.hbm, 154, rfl⟩
abbrev main_call1_v32 : Ref sig .tc := ⟨.hbm, 155, rfl⟩
abbrev main_v76_2 : Ref sig .tc := ⟨.hbm, 156, rfl⟩
abbrev main_v77 : Ref sig .tc := ⟨.hbm, 157, rfl⟩
abbrev main_v78 : Ref sig .tc := ⟨.hbm, 158, rfl⟩
abbrev main_v79 : Ref sig .tc := ⟨.hbm, 159, rfl⟩
abbrev main_v80 : Ref sig .tc := ⟨.hbm, 160, rfl⟩
abbrev main_v81 : Ref sig .tc := ⟨.hbm, 161, rfl⟩
abbrev main_v82 : Ref sig .tc := ⟨.hbm, 162, rfl⟩
abbrev main_v83 : Ref sig .tc := ⟨.hbm, 163, rfl⟩
abbrev main_v84 : Ref sig .tc := ⟨.hbm, 164, rfl⟩
abbrev main_v85 : Ref sig .tc := ⟨.hbm, 165, rfl⟩
abbrev main_v86 : Ref sig .tc := ⟨.hbm, 166, rfl⟩
abbrev main_v87 : Ref sig .tc := ⟨.hbm, 167, rfl⟩
abbrev main_v88 : Ref sig .tc := ⟨.hbm, 168, rfl⟩
abbrev main_cst_11 : Ref sig .tc := ⟨.hbm, 169, rfl⟩
abbrev main_v89 : Ref sig .tc := ⟨.hbm, 170, rfl⟩
abbrev main_v90 : Ref sig .tc := ⟨.hbm, 171, rfl⟩
abbrev main_cst_12 : Ref sig .tc := ⟨.hbm, 172, rfl⟩
abbrev main_v91 : Ref sig .tc := ⟨.hbm, 173, rfl⟩
abbrev main_v92 : Ref sig .tc := ⟨.hbm, 174, rfl⟩
abbrev main_cst_13 : Ref sig .tc := ⟨.hbm, 175, rfl⟩
abbrev main_v93 : Ref sig .tc := ⟨.hbm, 176, rfl⟩
abbrev main_v94 : Ref sig .tc := ⟨.hbm, 177, rfl⟩
abbrev main_cst_14 : Ref sig .tc := ⟨.hbm, 178, rfl⟩
abbrev main_v95 : Ref sig .tc := ⟨.hbm, 179, rfl⟩
abbrev main_v96 : Ref sig .tc := ⟨.hbm, 180, rfl⟩
abbrev main_v97 : Ref sig .tc := ⟨.hbm, 181, rfl⟩
abbrev main_v98 : Ref sig .tc := ⟨.hbm, 182, rfl⟩
abbrev main_v99 : Ref sig .tc := ⟨.hbm, 183, rfl⟩
abbrev main_cst_15 : Ref sig .tc := ⟨.hbm, 184, rfl⟩
abbrev main_v100 : Ref sig .tc := ⟨.hbm, 185, rfl⟩
abbrev main_v101 : Ref sig .tc := ⟨.hbm, 186, rfl⟩
abbrev main_v102 : Ref sig .tc := ⟨.hbm, 187, rfl⟩
abbrev main_v103 : Ref sig .tc := ⟨.hbm, 188, rfl⟩
abbrev main_v104 : Ref sig .tc := ⟨.hbm, 189, rfl⟩
abbrev main_cst_16 : Ref sig .tc := ⟨.hbm, 190, rfl⟩
abbrev main_v105 : Ref sig .tc := ⟨.hbm, 191, rfl⟩
abbrev main_v106 : Ref sig .tc := ⟨.hbm, 192, rfl⟩
abbrev main_v107 : Ref sig .tc := ⟨.hbm, 193, rfl⟩
abbrev main_v108 : Ref sig .tc := ⟨.hbm, 194, rfl⟩
abbrev main_v109 : Ref sig .tc := ⟨.hbm, 195, rfl⟩
abbrev main_v110 : Ref sig .tc := ⟨.hbm, 196, rfl⟩
abbrev main_v111 : Ref sig .tc := ⟨.hbm, 197, rfl⟩
abbrev main_cst_17 : Ref sig .tc := ⟨.hbm, 198, rfl⟩
abbrev main_v112 : Ref sig .tc := ⟨.hbm, 199, rfl⟩
abbrev main_v113 : Ref sig .tc := ⟨.hbm, 200, rfl⟩
abbrev main_v114 : Ref sig .tc := ⟨.hbm, 201, rfl⟩
abbrev main_v115 : Ref sig .tc := ⟨.hbm, 202, rfl⟩
abbrev main_v116 : Ref sig .tc := ⟨.hbm, 203, rfl⟩
abbrev main_cst_18 : Ref sig .tc := ⟨.hbm, 204, rfl⟩
abbrev main_v117 : Ref sig .tc := ⟨.hbm, 205, rfl⟩
abbrev main_v118 : Ref sig .tc := ⟨.hbm, 206, rfl⟩
abbrev main_v119 : Ref sig .tc := ⟨.hbm, 207, rfl⟩
abbrev main_v120 : Ref sig .tc := ⟨.hbm, 208, rfl⟩
abbrev main_v121 : Ref sig .tc := ⟨.hbm, 209, rfl⟩
abbrev main_v122 : Ref sig .tc := ⟨.hbm, 210, rfl⟩
abbrev main_v123 : Ref sig .tc := ⟨.hbm, 211, rfl⟩
abbrev main_v124 : Ref sig .tc := ⟨.hbm, 212, rfl⟩
abbrev main_v125 : Ref sig .tc := ⟨.hbm, 213, rfl⟩
abbrev main_v126 : Ref sig .tc := ⟨.hbm, 214, rfl⟩
abbrev main_call3_v0 : Ref sig .tc := ⟨.hbm, 215, rfl⟩
abbrev main_call3_v1 : Ref sig .tc := ⟨.hbm, 216, rfl⟩
abbrev main_call3_v2 : Ref sig .tc := ⟨.hbm, 217, rfl⟩
abbrev main_v127 : Ref sig .tc := ⟨.hbm, 218, rfl⟩
abbrev main_v128 : Ref sig .tc := ⟨.hbm, 219, rfl⟩
abbrev main_c : Ref sig .tc := ⟨.hbm, 220, rfl⟩
abbrev main_call4_v0 : Ref sig .tc := ⟨.hbm, 221, rfl⟩
abbrev main_v129 : Ref sig .tc := ⟨.hbm, 222, rfl⟩
abbrev main_v130 : Ref sig .tc := ⟨.hbm, 223, rfl⟩
abbrev main_v131 : Ref sig .tc := ⟨.hbm, 224, rfl⟩
abbrev main_v132 : Ref sig .tc := ⟨.hbm, 225, rfl⟩
abbrev main_c_19 : Ref sig .tc := ⟨.hbm, 226, rfl⟩
abbrev main_call5_v0 : Ref sig .tc := ⟨.hbm, 227, rfl⟩
abbrev main_v133 : Ref sig .tc := ⟨.hbm, 228, rfl⟩
abbrev main_c_20 : Ref sig .tc := ⟨.hbm, 229, rfl⟩
abbrev main_call6_v0 : Ref sig .tc := ⟨.hbm, 230, rfl⟩
abbrev main_v134 : Ref sig .tc := ⟨.hbm, 231, rfl⟩

abbrev nD : Nat := 1
abbrev τ : Topo := Topo.v7x

variable {F : FTy → Type} [FloatOps F]
-- ==== FfnFwd.lean ====
abbrev S16400x1024 : Shape := ⟨2, ![16400, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16640x1024 : Shape := ⟨2, ![16640, 1024]⟩
abbrev S1x1024 : Shape := ⟨2, ![1, 1024]⟩
abbrev S16640x2816 : Shape := ⟨2, ![16640, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩

abbrev nBuf : Space → Nat
  | .hbm => 16
  | .vmem => 14
  | .smem => 0
  | _ => 0

abbrev bufTy : (tb : Table) → Fin (tcTables nBuf tb) → BufTy
  | .hbm, ⟨0, _⟩ => ⟨S16400x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S_, .i32⟩
  | .hbm, ⟨6, _⟩ => ⟨S_, .f32⟩
  | .hbm, ⟨7, _⟩ => ⟨S16640x1024, .f32⟩
  | .hbm, ⟨8, _⟩ => ⟨S1x1024, .f32⟩
  | .hbm, ⟨9, _⟩ => ⟨S1024x2816, .bf16⟩
  | .hbm, ⟨10, _⟩ => ⟨S1024x2816, .bf16⟩
  | .hbm, ⟨11, _⟩ => ⟨S2816x1024, .bf16⟩
  | .hbm, ⟨12, _⟩ => ⟨S16640x1024, .f32⟩
  | .hbm, ⟨13, _⟩ => ⟨S16640x1024, .bf16⟩
  | .hbm, ⟨14, _⟩ => ⟨S16640x2816, .bf16⟩
  | .hbm, ⟨15, _⟩ => ⟨S16640x2816, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | .local _ .vmem, ⟨10, _⟩ => ⟨S256x2816, .bf16⟩
  | .local _ .vmem, ⟨11, _⟩ => ⟨S256x2816, .bf16⟩
  | .local _ .vmem, ⟨12, _⟩ => ⟨S256x2816, .bf16⟩
  | .local _ .vmem, ⟨13, _⟩ => ⟨S256x2816, .bf16⟩
  | _, _ => ⟨S16400x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnFwdRefIdeal.lean ====
abbrev S16400x1024 : Shape := ⟨2, ![16400, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16400 : Shape := ⟨1, ![16400]⟩
abbrev S16400x1 : Shape := ⟨2, ![16400, 1]⟩
abbrev S1x1024 : Shape := ⟨2, ![1, 1024]⟩
abbrev S16400x2816 : Shape := ⟨2, ![16400, 2816]⟩
abbrev S16640x1024 : Shape := ⟨2, ![16640, 1024]⟩
abbrev S16640x2816 : Shape := ⟨2, ![16640, 2816]⟩

abbrev nBuf : Space → Nat
  | .hbm => 53
  | .vmem => 0
  | .smem => 0
  | _ => 0

abbrev bufTy : (tb : Table) → Fin (tcTables nBuf tb) → BufTy
  | .hbm, ⟨0, _⟩ => ⟨S16400x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16400x1024, .f32⟩
  | .hbm, ⟨6, _⟩ => ⟨S_, .f32⟩
  | .hbm, ⟨7, _⟩ => ⟨S16400, .f32⟩
  | .hbm, ⟨8, _⟩ => ⟨S16400x1, .f32⟩
  | .hbm, ⟨9, _⟩ => ⟨S_, .f32⟩
  | .hbm, ⟨10, _⟩ => ⟨S16400x1, .f32⟩
  | .hbm, ⟨11, _⟩ => ⟨S16400x1, .f32⟩
  | .hbm, ⟨12, _⟩ => ⟨S_, .f32⟩
  | .hbm, ⟨13, _⟩ => ⟨S16400x1, .f32⟩
  | .hbm, ⟨14, _⟩ => ⟨S16400x1, .f32⟩
  | .hbm, ⟨15, _⟩ => ⟨S16400x1, .f32⟩
  | .hbm, ⟨16, _⟩ => ⟨S16400x1024, .f32⟩
  | .hbm, ⟨17, _⟩ => ⟨S16400x1024, .f32⟩
  | .hbm, ⟨18, _⟩ => ⟨S1x1024, .f32⟩
  | .hbm, ⟨19, _⟩ => ⟨S16400x1024, .f32⟩
  | .hbm, ⟨20, _⟩ => ⟨S16400x1024, .f32⟩
  | .hbm, ⟨21, _⟩ => ⟨S16400x2816, .f32⟩
  | .hbm, ⟨22, _⟩ => ⟨S16400x2816, .f32⟩
  | .hbm, ⟨23, _⟩ => ⟨S16400x2816, .f32⟩
  | .hbm, ⟨24, _⟩ => ⟨S16400x2816, .f32⟩
  | .hbm, ⟨25, _⟩ => ⟨S_, .f32⟩
  | .hbm, ⟨26, _⟩ => ⟨S16400x2816, .f32⟩
  | .hbm, ⟨27, _⟩ => ⟨S16400x2816, .f32⟩
  | .hbm, ⟨28, _⟩ => ⟨S_, .f32⟩
  | .hbm, ⟨29, _⟩ => ⟨S16400x2816, .f32⟩
  | .hbm, ⟨30, _⟩ => ⟨S16400x2816, .f32⟩
  | .hbm, ⟨31, _⟩ => ⟨S16400x2816, .f32⟩
  | .hbm, ⟨32, _⟩ => ⟨S16400x2816, .f32⟩
  | .hbm, ⟨33, _⟩ => ⟨S16400x1024, .f32⟩
  | .hbm, ⟨34, _⟩ => ⟨S_, .f32⟩
  | .hbm, ⟨35, _⟩ => ⟨S16400x1024, .f32⟩
  | .hbm, ⟨36, _⟩ => ⟨S16400x1024, .f32⟩
  | .hbm, ⟨37, _⟩ => ⟨S16400x1024, .f32⟩
  | .hbm, ⟨38, _⟩ => ⟨S_, .i32⟩
  | .hbm, ⟨39, _⟩ => ⟨S_, .f32⟩
  | .hbm, ⟨40, _⟩ => ⟨S16640x1024, .f32⟩
  | .hbm, ⟨41, _⟩ => ⟨S_, .i32⟩
  | .hbm, ⟨42, _⟩ => ⟨S_, .f32⟩
  | .hbm, ⟨43, _⟩ => ⟨S16640x1024, .f32⟩
  | .hbm, ⟨44, _⟩ => ⟨S16640x1024, .bf16⟩
  | .hbm, ⟨45, _⟩ => ⟨S_, .i32⟩
  | .hbm, ⟨46, _⟩ => ⟨S_, .f32⟩
  | .hbm, ⟨47, _⟩ => ⟨S16640x2816, .f32⟩
  | .hbm, ⟨48, _⟩ => ⟨S16640x2816, .bf16⟩
  | .hbm, ⟨49, _⟩ => ⟨S_, .i32⟩
  | .hbm, ⟨50, _⟩ => ⟨S_, .f32⟩
  | .hbm, ⟨51, _⟩ => ⟨S16640x2816, .f32⟩
  | .hbm, ⟨52, _⟩ => ⟨S16640x2816, .bf16⟩
  | _, _ => ⟨S16400x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c : Ref sig .tc := ⟨.hbm, 38, rfl⟩
abbrev main_call1_v0 : Ref sig .tc := ⟨.hbm, 39, rfl⟩
abbrev main_v21 : Ref sig .tc := ⟨.hbm, 40, rfl⟩
abbrev main_c_3 : Ref sig .tc := ⟨.hbm, 41, rfl⟩
abbrev main_call2_v0 : Ref sig .tc := ⟨.hbm, 42, rfl⟩
abbrev main_v22 : Ref sig .tc := ⟨.hbm, 43, rfl⟩
abbrev main_v23 : Ref sig .tc := ⟨.hbm, 44, rfl⟩
abbrev main_c_4 : Ref sig .tc := ⟨.hbm, 45, rfl⟩
abbrev main_call3_v0 : Ref sig .tc := ⟨.hbm, 46, rfl⟩
abbrev main_v24 : Ref sig .tc := ⟨.hbm, 47, rfl⟩
abbrev main_v25 : Ref sig .tc := ⟨.hbm, 48, rfl⟩
abbrev main_c_5 : Ref sig .tc := ⟨.hbm, 49, rfl⟩
abbrev main_call4_v0 : Ref sig .tc := ⟨.hbm, 50, rfl⟩
abbrev main_v26 : Ref sig .tc := ⟨.hbm, 51, rfl⟩
abbrev main_v27 : Ref sig .tc := ⟨.hbm, 52, rfl⟩

abbrev nD : Nat := 1
abbrev τ : Topo := Topo.v7x

variable {F : FTy → Type} [FloatOps F]
-- ==== MixFwd.lean ====
abbrev S16400x1024 : Shape := ⟨2, ![16400, 1024]⟩
abbrev S1024 : Shape := ⟨1, ![1024]⟩
abbrev S1024x2312 : Shape := ⟨2, ![1024, 2312]⟩
abbrev S_ : Shape := ⟨0, ![]⟩
abbrev S16640x1024 : Shape := ⟨2, ![16640, 1024]⟩
abbrev S1x1024 : Shape := ⟨2, ![1, 1024]⟩
abbrev S1024x1792 : Shape := ⟨2, ![1024, 1792]⟩
abbrev S1024x512 : Shape := ⟨2, ![1024, 512]⟩
abbrev S1024x8 : Shape := ⟨2, ![1024, 8]⟩
abbrev S1024x120 : Shape := ⟨2, ![1024, 120]⟩
abbrev S1024x2432 : Shape := ⟨2, ![1024, 2432]⟩
abbrev S16640x768 : Shape := ⟨2, ![16640, 768]⟩
abbrev S16640x1664 : Shape := ⟨2, ![16640, 1664]⟩
abbrev S256x1024 : Shape := ⟨2, ![256, 1024]⟩
abbrev S256x768 : Shape := ⟨2, ![256, 768]⟩
abbrev S256x1664 : Shape := ⟨2, ![256, 1664]⟩
abbrev S256 : Shape := ⟨1, ![256]⟩
abbrev S256x1 : Shape := ⟨2, ![256, 1]⟩
abbrev S1024x768 : Shape := ⟨2, ![1024, 768]⟩
abbrev S1024x1664 : Shape := ⟨2, ![1024, 1664]⟩

abbrev nBuf : Space → Nat
  | .hbm => 17
  | .vmem => 10
  | .smem => 0
  | _ => 0

abbrev bufTy : (tb : Table) → Fin (tcTables nBuf tb) → BufTy
  | .hbm, ⟨0, _⟩ => ⟨S16400x1024, .f32⟩
  | .hbm, ⟨1, _⟩ => ⟨S1024, .f32⟩
  | .hbm, ⟨2, _⟩ => ⟨S1024x2312, .f32⟩
  | .hbm, ⟨3, _⟩ => ⟨S_, .i32⟩
  | .hbm, ⟨4, _⟩ => ⟨S_, .f32⟩
  | .hbm, ⟨5, _⟩ => ⟨S16640x1024, .f32⟩
  | .hbm, ⟨6, _⟩ => ⟨S1x1024, .f32⟩
  | .hbm, ⟨7, _⟩ => ⟨S1024x1792, .f32⟩
  | .hbm, ⟨8, _⟩ => ⟨S1024x512, .f32⟩
  | .hbm, ⟨9, _⟩ => ⟨S1024x8, .f32⟩
  | .hbm, ⟨10, _⟩ => ⟨S_, .f32⟩
  | .hbm, ⟨11, _⟩ => ⟨S1024x120, .f32⟩
  | .hbm, ⟨12, _⟩ => ⟨S1024x2432, .f32⟩
  | .hbm, ⟨13, _⟩ => ⟨S1024x2432, .bf16⟩
  | .hbm, ⟨14, _⟩ => ⟨S16640x1024, .bf16⟩
  | .hbm, ⟨15, _⟩ => ⟨S16640x768, .bf16⟩
  | .hbm, ⟨16, _⟩ => ⟨S16640x1664, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2432, .bf16⟩
  | .local _ .vmem, ⟨4, _⟩ => ⟨S256x1024, .bf16⟩
  | .local _ .vmem, ⟨5, _⟩ => ⟨S256x1024, .bf16⟩
  | .local _ .vmem, ⟨6, _⟩ => ⟨S256x768, .bf16⟩
  | .local _ .vmem, ⟨7, _⟩ => ⟨S256x768, .bf16⟩
  | .local _ .vmem, ⟨8, _⟩ => ⟨S256x1664, .f32⟩
  | .local _ .vmem, ⟨9, _⟩ => ⟨S256x1664, .f32⟩
  | _, _ => ⟨S16400x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2432 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1664 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MixFwdRefIdeal.lean ====
abbrev S16400x1024 : Shape := ⟨2, ![16400, 1024]⟩
abbrev S1024 : Shape := ⟨1, ![1024]⟩
abbrev S1024x2312 : Shape := ⟨2, ![1024, 2312]⟩
abbrev S_ : Shape := ⟨0, ![]⟩
abbrev S16400 : Shape := ⟨1, ![16400]⟩
abbrev S16400x1 : Shape := ⟨2, ![16400, 1]⟩
abbrev S1x1024 : Shape := ⟨2, ![1, 1024]⟩
abbrev S16400x2312 : Shape := ⟨2, ![16400, 2312]⟩
abbrev S16400x512 : Shape := ⟨2, ![16400, 512]⟩
abbrev S16400x8 : Shape := ⟨2, ![16400, 8]⟩
abbrev S16400x120 : Shape := ⟨2, ![16400, 120]⟩
abbrev S16400x1664 : Shape := ⟨2, ![16400, 1664]⟩
abbrev S16640x1024 : Shape := ⟨2, ![16640, 1024]⟩
abbrev S16400x768 : Shape := ⟨2, ![16400, 768]⟩
abbrev S16640x768 : Shape := ⟨2, ![16640, 768]⟩
abbrev S16640x1664 : Shape := ⟨2, ![16640, 1664]⟩

abbrev nBuf : Space → Nat
  | .hbm => 38
  | .vmem => 0
  | .smem => 0
  | _ => 0

abbrev bufTy : (tb : Table) → Fin (tcTables nBuf tb) → BufTy
  | .hbm, ⟨0, _⟩ => ⟨S16400x1024, .f32⟩
  | .hbm, ⟨1, _⟩ => ⟨S1024, .f32⟩
  | .hbm, ⟨2, _⟩ => ⟨S1024x2312, .f32⟩
  | .hbm, ⟨3, _⟩ => ⟨S16400x1024, .f32⟩
  | .hbm, ⟨4, _⟩ => ⟨S_, .f32⟩
  | .hbm, ⟨5, _⟩ => ⟨S16400, .f32⟩
  | .hbm, ⟨6, _⟩ => ⟨S16400x1, .f32⟩
  | .hbm, ⟨7, _⟩ => ⟨S_, .f32⟩
  | .hbm, ⟨8, _⟩ => ⟨S16400x1, .f32⟩
  | .hbm, ⟨9, _⟩ => ⟨S16400x1, .f32⟩
  | .hbm, ⟨10, _⟩ => ⟨S_, .f32⟩
  | .hbm, ⟨11, _⟩ => ⟨S16400x1, .f32⟩
  | .hbm, ⟨12, _⟩ => ⟨S16400x1, .f32⟩
  | .hbm, ⟨13, _⟩ => ⟨S16400x1, .f32⟩
  | .hbm, ⟨14, _⟩ => ⟨S16400x1024, .f32⟩
  | .hbm, ⟨15, _⟩ => ⟨S16400x1024, .f32⟩
  | .hbm, ⟨16, _⟩ => ⟨S1x1024, .f32⟩
  | .hbm, ⟨17, _⟩ => ⟨S16400x1024, .f32⟩
  | .hbm, ⟨18, _⟩ => ⟨S16400x1024, .f32⟩
  | .hbm, ⟨19, _⟩ => ⟨S16400x2312, .f32⟩
  | .hbm, ⟨20, _⟩ => ⟨S16400x1024, .f32⟩
  | .hbm, ⟨21, _⟩ => ⟨S16400x512, .f32⟩
  | .hbm, ⟨22, _⟩ => ⟨S16400x8, .f32⟩
  | .hbm, ⟨23, _⟩ => ⟨S_, .f32⟩
  | .hbm, ⟨24, _⟩ => ⟨S16400x120, .f32⟩
  | .hbm, ⟨25, _⟩ => ⟨S16400x1664, .f32⟩
  | .hbm, ⟨26, _⟩ => ⟨S_, .i32⟩
  | .hbm, ⟨27, _⟩ => ⟨S_, .f32⟩
  | .hbm, ⟨28, _⟩ => ⟨S16640x1024, .f32⟩
  | .hbm, ⟨29, _⟩ => ⟨S16640x1024, .bf16⟩
  | .hbm, ⟨30, _⟩ => ⟨S16400x768, .f32⟩
  | .hbm, ⟨31, _⟩ => ⟨S_, .i32⟩
  | .hbm, ⟨32, _⟩ => ⟨S_, .f32⟩
  | .hbm, ⟨33, _⟩ => ⟨S16640x768, .f32⟩
  | .hbm, ⟨34, _⟩ => ⟨S16640x768, .bf16⟩
  | .hbm, ⟨35, _⟩ => ⟨S_, .i32⟩
  | .hbm, ⟨36, _⟩ => ⟨S_, .f32⟩
  | .hbm, ⟨37, _⟩ => ⟨S16640x1664, .f32⟩
  | _, _ => ⟨S16400x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_c : Ref sig .tc := ⟨.hbm, 26, rfl⟩
abbrev main_call0_v0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_call1_v0 : Ref sig .tc := ⟨.hbm, 32, rfl⟩
abbrev main_v22 : Ref sig .tc := ⟨.hbm, 33, rfl⟩
abbrev main_v23 : Ref sig .tc := ⟨.hbm, 34, rfl⟩
abbrev main_c_4 : Ref sig .tc := ⟨.hbm, 35, rfl⟩
abbrev main_call2_v0 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== MixOutBwd.lean ====
abbrev S16400x256 : Shape := ⟨2, ![16400, 256]⟩
abbrev S16400x512 : Shape := ⟨2, ![16400, 512]⟩
abbrev S1024x1024 : Shape := ⟨2, ![1024, 1024]⟩
abbrev S16400x1024 : Shape := ⟨2, ![16400, 1024]⟩
abbrev S_ : Shape := ⟨0, ![]⟩
abbrev S16640x1024 : Shape := ⟨2, ![16640, 1024]⟩
abbrev S16640x256 : Shape := ⟨2, ![16640, 256]⟩
abbrev S16640x512 : Shape := ⟨2, ![16640, 512]⟩
abbrev S256x1024 : Shape := ⟨2, ![256, 1024]⟩
abbrev S256x256 : Shape := ⟨2, ![256, 256]⟩
abbrev S256x512 : Shape := ⟨2, ![256, 512]⟩

abbrev nBuf : Space → Nat
  | .hbm => 13
  | .vmem => 9
  | .smem => 0
  | _ => 0

abbrev bufTy : (tb : Table) → Fin (tcTables nBuf tb) → BufTy
  | .hbm, ⟨0, _⟩ => ⟨S16400x256, .f32⟩
  | .hbm, ⟨1, _⟩ => ⟨S16400x256, .f32⟩
  | .hbm, ⟨2, _⟩ => ⟨S16400x512, .f32⟩
  | .hbm, ⟨3, _⟩ => ⟨S1024x1024, .f32⟩
  | .hbm, ⟨4, _⟩ => ⟨S16400x1024, .f32⟩
  | .hbm, ⟨5, _⟩ => ⟨S_, .i32⟩
  | .hbm, ⟨6, _⟩ => ⟨S_, .f32⟩
  | .hbm, ⟨7, _⟩ => ⟨S16640x1024, .f32⟩
  | .hbm, ⟨8, _⟩ => ⟨S1024x1024, .f32⟩
  | .hbm, ⟨9, _⟩ => ⟨S1024x1024, .bf16⟩
  | .hbm, ⟨10, _⟩ => ⟨S16640x256, .f32⟩
  | .hbm, ⟨11, _⟩ => ⟨S16640x256, .f32⟩
  | .hbm, ⟨12, _⟩ => ⟨S16640x512, .f32⟩
  | .local _ .vmem, ⟨0, _⟩ => ⟨S256x1024, .f32⟩
  | .local _ .vmem, ⟨1, _⟩ => ⟨S256x1024, .f32⟩
  | .local _ .vmem, ⟨2, _⟩ => ⟨S1024x1024, .bf16⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x512, .f32⟩
  | .local _ .vmem, ⟨8, _⟩ => ⟨S256x512, .f32⟩
  | _, _ => ⟨S16400x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MixOutBwdRefIdeal.lean ====
abbrev S16400x256 : Shape := ⟨2, ![16400, 256]⟩
abbrev S16400x512 : Shape := ⟨2, ![16400, 512]⟩
abbrev S1024x1024 : Shape := ⟨2, ![1024, 1024]⟩
abbrev S16400x1024 : Shape := ⟨2, ![16400, 1024]⟩
abbrev S_ : Shape := ⟨0, ![]⟩
abbrev S16640x256 : Shape := ⟨2, ![16640, 256]⟩
abbrev S16640x512 : Shape := ⟨2, ![16640, 512]⟩

abbrev nBuf : Space → Nat
  | .hbm => 20
  | .vmem => 0
  | .smem => 0
  | _ => 0

abbrev bufTy : (tb : Table) → Fin (tcTables nBuf tb) → BufTy
  | .hbm, ⟨0, _⟩ => ⟨S16400x256, .f32⟩
  | .hbm, ⟨1, _⟩ => ⟨S16400x256, .f32⟩
  | .hbm, ⟨2, _⟩ => ⟨S16400x512, .f32⟩
  | .hbm, ⟨3, _⟩ => ⟨S1024x1024, .f32⟩
  | .hbm, ⟨4, _⟩ => ⟨S16400x1024, .f32⟩
  | .hbm, ⟨5, _⟩ => ⟨S16400x1024, .f32⟩
  | .hbm, ⟨6, _⟩ => ⟨S16400x1024, .f32⟩
  | .hbm, ⟨7, _⟩ => ⟨S16400x1024, .f32⟩
  | .hbm, ⟨8, _⟩ => ⟨S16400x256, .f32⟩
  | .hbm, ⟨9, _⟩ => ⟨S16400x256, .f32⟩
  | .hbm, ⟨10, _⟩ => ⟨S16400x512, .f32⟩
  | .hbm, ⟨11, _⟩ => ⟨S_, .i32⟩
  | .hbm, ⟨12, _⟩ => ⟨S_, .f32⟩
  | .hbm, ⟨13, _⟩ => ⟨S16640x256, .f32⟩
  | .hbm, ⟨14, _⟩ => ⟨S_, .i32⟩
  | .hbm, ⟨15, _⟩ => ⟨S_, .f32⟩
  | .hbm, ⟨16, _⟩ => ⟨S16640x256, .f32⟩
  | .hbm, ⟨17, _⟩ => ⟨S_, .i32⟩
  | .hbm, ⟨18, _⟩ => ⟨S_, .f32⟩
  | .hbm, ⟨19, _⟩ => ⟨S16640x512, .f32⟩
  | _, _ => ⟨S16400x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_v6 : Ref sig .tc := ⟨.hbm, 13, rfl⟩
abbrev main_c_0 : Ref sig .tc := ⟨.hbm, 14, rfl⟩
abbrev main_call1_v0 : Ref sig .tc := ⟨.hbm, 15, rfl⟩
abbrev main_v7 : Ref sig .tc := ⟨.hbm, 16, rfl⟩
abbrev main_c_1 : Ref sig .tc := ⟨.hbm, 17, rfl⟩
abbrev main_call2_v0 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== Adam.lean ====
abbrev S10272x1024 : Shape := ⟨2, ![10272, 1024]⟩
abbrev S1x10272x1024 : Shape := ⟨3, ![1, 10272, 1024]⟩
abbrev S96x1024 : Shape := ⟨2, ![96, 1024]⟩
abbrev S1x96x1024 : Shape := ⟨3, ![1, 96, 1024]⟩

abbrev nBuf : Space → Nat
  | .hbm => 9
  | .vmem => 16
  | .smem => 0
  | _ => 0

abbrev bufTy : (tb : Table) → Fin (tcTables nBuf tb) → BufTy
  | .hbm, ⟨0, _⟩ => ⟨S10272x1024, .f32⟩
  | .hbm, ⟨1, _⟩ => ⟨S10272x1024, .f32⟩
  | .hbm, ⟨2, _⟩ => ⟨S10272x1024, .f32⟩
  | .hbm, ⟨3, _⟩ => ⟨S10272x1024, .f32⟩
  | .hbm, ⟨4, _⟩ => ⟨S1x10272x1024, .f32⟩
  | .hbm, ⟨5, _⟩ => ⟨S10272x1024, .f32⟩
  | .hbm, ⟨6, _⟩ => ⟨S10272x1024, .f32⟩
  | .hbm, ⟨7, _⟩ => ⟨S10272x1024, .f32⟩
  | .hbm, ⟨8, _⟩ => ⟨S10272x1024, .f32⟩
  | .local _ .vmem, ⟨0, _⟩ => ⟨S96x1024, .f32⟩
  | .local _ .vmem, ⟨1, _⟩ => ⟨S96x1024, .f32⟩
  | .local _ .vmem, ⟨2, _⟩ => ⟨S1x96x1024, .f32⟩
  | .local _ .vmem, ⟨3, _⟩ => ⟨S1x96x1024, .f32⟩
  | .local _ .vmem, ⟨4, _⟩ => ⟨S96x1024, .f32⟩
  | .local _ .vmem, ⟨5, _⟩ => ⟨S96x1024, .f32⟩
  | .local _ .vmem, ⟨6, _⟩ => ⟨S96x1024, .f32⟩
  | .local _ .vmem, ⟨7, _⟩ => ⟨S96x1024, .f32⟩
  | .local _ .vmem, ⟨8, _⟩ => ⟨S96x1024, .f32⟩
  | .local _ .vmem, ⟨9, _⟩ => ⟨S96x1024, .f32⟩
  | .local _ .vmem, ⟨10, _⟩ => ⟨S96x1024, .f32⟩
  | .local _ .vmem, ⟨11, _⟩ => ⟨S96x1024, .f32⟩
  | .local _ .vmem, ⟨12, _⟩ => ⟨S96x1024, .f32⟩
  | .local _ .vmem, ⟨13, _⟩ => ⟨S96x1024, .f32⟩
  | .local _ .vmem, ⟨14, _⟩ => ⟨S96x1024, .f32⟩
  | .local _ .vmem, ⟨15, _⟩ => ⟨S96x1024, .f32⟩
  | _, _ => ⟨S10272x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![107], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S96x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x96x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S96x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S96x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S96x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S96x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S96x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S96x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamRefIdeal.lean ====
abbrev S10272x1024 : Shape := ⟨2, ![10272, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S10272x1024, .f32⟩
  | .hbm, ⟨1, _⟩ => ⟨S10272x1024, .f32⟩
  | .hbm, ⟨2, _⟩ => ⟨S10272x1024, .f32⟩
  | .hbm, ⟨3, _⟩ => ⟨S10272x1024, .f32⟩
  | .hbm, ⟨4, _⟩ => ⟨S_, .f32⟩
  | .hbm, ⟨5, _⟩ => ⟨S10272x1024, .f32⟩
  | .hbm, ⟨6, _⟩ => ⟨S10272x1024, .f32⟩
  | .hbm, ⟨7, _⟩ => ⟨S_, .f32⟩
  | .hbm, ⟨8, _⟩ => ⟨S10272x1024, .f32⟩
  | .hbm, ⟨9, _⟩ => ⟨S10272x1024, .f32⟩
  | .hbm, ⟨10, _⟩ => ⟨S10272x1024, .f32⟩
  | .hbm, ⟨11, _⟩ => ⟨S_, .f32⟩
  | .hbm, ⟨12, _⟩ => ⟨S10272x1024, .f32⟩
  | .hbm, ⟨13, _⟩ => ⟨S10272x1024, .f32⟩
  | .hbm, ⟨14, _⟩ => ⟨S10272x1024, .f32⟩
  | .hbm, ⟨15, _⟩ => ⟨S_, .f32⟩
  | .hbm, ⟨16, _⟩ => ⟨S10272x1024, .f32⟩
  | .hbm, ⟨17, _⟩ => ⟨S10272x1024, .f32⟩
  | .hbm, ⟨18, _⟩ => ⟨S10272x1024, .f32⟩
  | .hbm, ⟨19, _⟩ => ⟨S_, .f32⟩
  | .hbm, ⟨20, _⟩ => ⟨S10272x1024, .f32⟩
  | .hbm, ⟨21, _⟩ => ⟨S10272x1024, .f32⟩
  | .hbm, ⟨22, _⟩ => ⟨S_, .f32⟩
  | .hbm, ⟨23, _⟩ => ⟨S10272x1024, .f32⟩
  | .hbm, ⟨24, _⟩ => ⟨S10272x1024, .f32⟩
  | .hbm, ⟨25, _⟩ => ⟨S10272x1024, .f32⟩
  | .hbm, ⟨26, _⟩ => ⟨S_, .f32⟩
  | .hbm, ⟨27, _⟩ => ⟨S10272x1024, .f32⟩
  | .hbm, ⟨28, _⟩ => ⟨S10272x1024, .f32⟩
  | .hbm, ⟨29, _⟩ => ⟨S10272x1024, .f32⟩
  | .hbm, ⟨30, _⟩ => ⟨S_, .f32⟩
  | .hbm, ⟨31, _⟩ => ⟨S10272x1024, .f32⟩
  | .hbm, ⟨32, _⟩ => ⟨S10272x1024, .f32⟩
  | .hbm, ⟨33, _⟩ => ⟨S10272x1024, .f32⟩
  | .hbm, ⟨34, _⟩ => ⟨S_, .f32⟩
  | .hbm, ⟨35, _⟩ => ⟨S10272x1024, .f32⟩
  | .hbm, ⟨36, _⟩ => ⟨S10272x1024, .f32⟩
  | _, _ => ⟨S10272x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.SbTile.lean ====
module

public import proofs.«01_k».proof.Proof.Gen.SbIdeal.Skeleton
public import Idealize.ShloMosaic.Lib.Tactic
public import Idealize.ShloMosaic.Lib.VecWindow
public import Idealize.ShloMosaic.Lib.Pointwise

@[expose] public section

set_option maxRecDepth 16384

noncomputable section

namespace Cert.SbIdeal.Sb

open Cert.SbIdeal Cert.SbIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The walk, as functions of vectors -/

/-- What one grid point's walk carries: the query block's gradient, the running remainder and the running sum of
    `e`, and the two key-side accumulators. -/
abbrev Acc (F : FTy → Type) : Type := FVec F S256x128 .f32 × FVec F S512x1 .f32 × FVec F S512x1 .f32

/-- The state the walk threads: the carried values, the accumulated `dk` and `dv`. -/
abbrev St (F : FTy → Type) : Type := Acc F × Vec F S16640x128 .f32 × Vec F S16640x128 .f32

/-- The 256 rows of a sequence array from row `256 * j` on. -/
def rows {α : Type} (x : S16640x128.Idx → α) (j : ℕ) : S256x128.Idx → α :=
  fun y => x (ix2 ⟨(256 * j + (y 0).val) % 16640, Nat.mod_lt _ (by decide)⟩ (y 1))

/-- A sequence array with the 256 rows from row `256 * j` on replaced. -/
def setRows {α : Type} (x : S16640x128.Idx → α) (j : ℕ) (w : S256x128.Idx → α) : S16640x128.Idx → α :=
  VecWindow.put x ![256 * j, 0] S256x128.size w

/-- What a point's tiles read and do not change: the masks, the cotangent's stack, queries, keys and values. -/
structure Env (F : FTy → Type) where
  /-- the lanes of the first head -/
  v2 : IVec S256x128 1
  /-- the triangle the prefix sum is taken with -/
  v8 : FVec F S256x256 .bf16
  /-- the triangle the suffix sum is taken with -/
  v14 : FVec F S256x256 .bf16
  /-- the stacked cotangent of the read-out -/
  v84 : FVec F S512x128 .bf16
  /-- the query block -/
  v85 : Vec F S256x128 .bf16
  /-- the keys -/
  X3 : Vec F S16640x128 .bf16
  /-- the values -/
  X4 : Vec F S16640x128 .bf16

/-- The stacked, scaled queries. -/
abbrev Env.v95 (E : Env F) : FVec F S512x128 .bf16 := k0_pay109 E.v2 E.v85

/-- One tile of keys strictly below the query block: no mask. -/
def tileU (E : Env F) (j : ℕ) (s : St F) : St F :=
  let kb := rows E.X3 j
  let vb := rows E.X4 j
  let dz := k0_pay86 E.v8 E.v14 E.v84 E.v95 s.1.2.1 s.1.2.2 kb vb
  ((k0_pay121 E.v2 s.1.1 (k0_pay79 kb) dz, k0_pay83 E.v95 s.1.2.1 kb,
    k0_pay122 s.1.2.2 (k0_pay85 E.v14 E.v84 E.v95 s.1.2.1 kb vb)),
   setRows s.2.1 j (k0_pay119 E.v95 dz (rows s.2.1 j)),
   setRows s.2.2 j (k0_pay120 E.v84 (k0_pay84 E.v14 E.v95 s.1.2.1 kb) (rows s.2.2 j)))

/-- The first tile of keys of a point past the first: masked at the padding and at the diagonal. -/
def tile0 (E : Env F) (q : BitVec 32) (s : St F) : St F :=
  let kb := rows E.X3 0
  let vb := rows E.X4 0
  let w := k0_pay11 q E.v14 E.v95 s.1.2.1 kb
  ((k0_pay16 E.v2 E.v8 E.v84 s.1.1 s.1.2.2 (k0_pay5 kb) (k0_pay6 E.v95 kb) (k0_pay7 E.v95 kb) (k0_pay8 q) w vb,
    k0_pay10 q E.v95 s.1.2.1 kb, k0_pay113 s.1.2.2 (k0_pay17 E.v84 w vb)),
   setRows s.2.1 0 (k0_pay14 E.v8 E.v84 E.v95 s.1.2.2 (k0_pay6 E.v95 kb) (k0_pay7 E.v95 kb) (k0_pay8 q) w vb (rows s.2.1 0)),
   setRows s.2.2 0 (k0_pay15 E.v84 w (rows s.2.2 0)))

/-- The state before tile `k + 1`: the entry state after the first tile, then `k` unmasked tiles. -/
def walk (E : Env F) (s : St F) : ℕ → St F
  | 0 => s
  | k + 1 => tileU E (k + 1) (walk E s k)

/-- The state after the first loop: a point past the first has gone through tile 0. -/
def first (E : Env F) (q : BitVec 32) (i : ℕ) (s : St F) : St F := if i = 0 then s else tile0 E q s

/-- What a query block's walk holds before its last tile. -/
def beforeLast (E : Env F) (q : BitVec 32) (i : ℕ) (s : St F) : St F := walk E (first E q i s) (i - 1)

/-- The last tile of a query block, masked at the diagonal: the accumulators after it, and the block of `dq`. -/
def tileLast (E : Env F) (q : BitVec 32) (i : ℕ) (s : St F) : Vec F S256x128 .f32 × Vec F S16640x128 .f32 × Vec F S16640x128 .f32 :=
  let kb := rows E.X3 i
  let v160 := k0_pay128 E.v95 kb
  let v161 := k0_pay129 E.v95 kb
  let v164 := k0_pay131 v161 (k0_pay130 (F := F))
  let v187 := k0_pay132 q
  let v205 := k0_pay134 q E.v14 E.v84 s.1.2.1 v160 v161 (k0_pay130 (F := F)) (rows E.X4 i)
  let v207 := k0_pay135 v160
  let one : F .f32 := Scalar.ofBits .f32 0x3F800000#32
  (k0_pay4 E.v2 E.v8 s.1.1 s.1.2.2 (k0_pay127 kb) v164 v187 v205 v207 one,
   setRows s.2.1 i (k0_pay2 E.v8 E.v95 s.1.2.2 v164 v187 v205 v207 one (rows s.2.1 i)),
   setRows s.2.2 i (k0_pay3 E.v84 (k0_pay133 q E.v14 s.1.2.1 v160 v161 (k0_pay130 (F := F))) (rows s.2.2 i)))

/-- The blocks a point reads: queries, keys, values, read-out, remainder's cotangent, output's cotangent, gain. -/
structure Blocks (F : FTy → Type) where
  X2 : Vec F S256x128 .bf16
  X3 : Vec F S16640x128 .bf16
  X4 : Vec F S16640x128 .bf16
  X5 : Vec F S256x128 .f32
  X6 : Vec F S256x128 .f32
  X7 : Vec F S256x128 .f32
  X8 : Vec F S1x128 .f32

/-- What the point's walk reads, from its blocks. -/
def Blocks.env (B : Blocks F) : Env F where
  v2 := k0_pay95
  v8 := k0_pay96
  v14 := k0_pay97
  v84 := k0_pay108 k0_pay95 (k0_pay101 B.X5) (k0_pay102 B.X8) (k0_pay103 B.X5) (Scalar.ofBits .f32 0x3C800000#32) B.X7
  v85 := B.X2
  X3 := B.X3
  X4 := B.X4

/-- The state the point's walk starts from: nothing carried, the accumulators cleared at the first query block. -/
def Blocks.start (B : Blocks F) (i : grid0.Coords) (dk dv : Vec F S16640x128 .f32) : St F :=
  ((k0_pay111 (F := F), k0_pay110 B.X6, k0_pay112 (F := F)),
   (if (i 1).val = 0 then k0_pay99 (F := F) else dk), (if (i 1).val = 0 then k0_pay100 (F := F) else dv))

/-- One grid point: the blocks of `dq`, `dk`, `dv` it leaves. -/
def Blocks.walked (B : Blocks F) (i : grid0.Coords) (dk dv : Vec F S16640x128 .f32) : Vec F S256x128 .f32 × Vec F S16640x128 .f32 × Vec F S16640x128 .f32 :=
  tileLast B.env (BitVec.ofNat 32 (i 1).val) (i 1).val (beforeLast B.env (BitVec.ofNat 32 (i 1).val) (i 1).val (B.start i dk dv))

/-- One grid point: the gain's gradient it leaves. -/
def Blocks.gain (B : Blocks F) (i : grid0.Coords) (dgn : Vec F S1x128 .f32) : Vec F S1x128 .f32 :=
  k0_pay107 (k0_pay101 B.X5) (k0_pay103 B.X5) (Scalar.ofBits .f32 0x3C800000#32) B.X7
    (if (i 0).val = 0 ∧ (i 1).val = 0 then k0_pay98 (F := F) else dgn)

/-! ## Reading and writing the rows of a tile -/

section Windows

variable {κ : Kind} {sp : Space} {e : EltTy}

theorem window_rows {α : Type} (x : S16640x128.Idx → α) (j : ℕ) (hj : j < 65)
    (inb : ∀ a, (![256 * j, 0] : Fin S16640x128.rank → ℕ) a + S256x128.size a ≤ S16640x128.size a) :
    VecWindow.window x ![256 * j, 0] S256x128.size inb = rows x j := by
  funext y
  refine congrArg x (funext fun a => Fin.ext ?_)
  have h0 := (y 0).isLt
  have h1 : (y 0).val < 256 := h0
  match a with
  | ⟨0, _⟩ => exact (show 256 * j + 1 * (y 0).val = (256 * j + (y 0).val) % 16640 by omega)
  | ⟨1, _⟩ => exact (show 0 + 1 * (y 1).val = (y 1).val by omega)

theorem inb_rows (j : ℕ) (hj : j < 65) : ∀ a, (![256 * j, 0] : Fin S16640x128.rank → ℕ) a + S256x128.size a ≤ S16640x128.size a := by
  intro a
  match a with
  | ⟨0, _⟩ => exact (show 256 * j + 256 ≤ 16640 by omega)
  | ⟨1, _⟩ => exact (show 0 + 128 ≤ 128 by omega)

theorem readAt_rows (v : View sig κ sp S16640x128 e) (x : Vec F S16640x128 e) {off : Fin S16640x128.rank → ℕ} (j : ℕ) (hj : j < 65)
    (h : off = ![256 * j, 0]) (inb : ∀ a, off a + S256x128.size a ≤ S16640x128.size a) :
    v.readAt (Elt F) (Rect.unit off S256x128.size inb).toLoadRect (v.rep x) = rows x j := by
  rw [View.readAt_rep_unit v x inb h (inb_rows j hj), window_rows x j hj]

theorem setRows_held (c : Thread nD τ) (m : Memref sig c.2.kind sp S16640x128 e) (x : Vec F S16640x128 e)
    {off : Fin S16640x128.rank → ℕ} (j : ℕ) (h : off = ![256 * j, 0]) (inb : ∀ a, off a + S256x128.size a ≤ S16640x128.size a) (w : Vec F S256x128 e) :
    (m.view.loc c ↦[m.view.set]{fullShare} m.view.writes (Elt F) (m.view.rep x) [⟨Rect.unit off S256x128.size inb, w⟩] : sProp 𝕄)
      ⊢ m.view.loc c ↦[m.view.set]{fullShare} m.view.rep (setRows x j w) :=
  pointsTo_rep_of_read c m _ fullShare _ (View.read_writes_rep_unit m.view x inb w h)

theorem rows_setRows_ne {α : Type} (x : S16640x128.Idx → α) (j j' : ℕ) (hj' : j' < 65) (h : j ≠ j') (w : S256x128.Idx → α) :
    rows (setRows x j w) j' = rows x j' := by
  funext y
  have h0 : (y 0).val < 256 := (y 0).isLt
  refine dif_neg fun hall => ?_
  have := hall 0
  have e : (256 * j' + (y 0).val) % 16640 = 256 * j' + (y 0).val := Nat.mod_eq_of_lt (by omega)
  have h2 : 256 * j ≤ (256 * j' + (y 0).val) % 16640 ∧ (256 * j' + (y 0).val) % 16640 < 256 * j + 256 := this
  omega

theorem setRows_held₂ (c : Thread nD τ) (m : Memref sig c.2.kind sp S16640x128 e) (x : Vec F S16640x128 e)
    {off off' : Fin S16640x128.rank → ℕ} (j j' : ℕ) (h : off = ![256 * j, 0]) (h' : off' = ![256 * j', 0])
    (inb : ∀ a, off a + S256x128.size a ≤ S16640x128.size a) (inb' : ∀ a, off' a + S256x128.size a ≤ S16640x128.size a)
    (w w' : Vec F S256x128 e) :
    (m.view.loc c ↦[m.view.set]{fullShare} m.view.writes (Elt F) (m.view.rep x)
        [⟨Rect.unit off' S256x128.size inb', w'⟩, ⟨Rect.unit off S256x128.size inb, w⟩] : sProp 𝕄)
      ⊢ m.view.loc c ↦[m.view.set]{fullShare} m.view.rep (setRows (setRows x j w) j' w') :=
  pointsTo_rep_of_read c m _ fullShare _ (by
    rw [View.read_writes_cons_put m.view _ inb' w' _ h', View.read_writes_rep_unit m.view x inb w h]; rfl)

end Windows

/-! ## One trip of each loop -/

section Trips

variable (𝒱 : Variants) (c : Dev nD) (bd : Option 𝒱.V) (i : grid0.Coords) (arg2 : Memref sig .tc .vmem S256x128 .bf16) (harg2 : arg2.IsWhole) (arg3 : Memref sig .tc .vmem S16640x128 .bf16) (harg3 : arg3.IsWhole) (arg4 : Memref sig .tc .vmem S16640x128 .bf16) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S256x128 .f32) (harg9 : arg9.IsWhole) (arg10 : Memref sig .tc .vmem S16640x128 .f32) (harg10 : arg10.IsWhole) (arg11 : Memref sig .tc .vmem S16640x128 .f32) (harg11 : arg11.IsWhole) (arg12 : Memref sig .tc .vmem S1x128 .f32) (harg12 : arg12.IsWhole)

/-- The resources of a tile: keys and values at their contents, the two accumulators at what the state says. -/
abbrev Held (E : Env F) (s : St F) : sProp 𝕄 :=
  iprop((arg3.view.loc (c : Thread nD τ) ↦[arg3.view.set]{fullShare} arg3.view.rep E.X3)
    ∗ (arg4.view.loc (c : Thread nD τ) ↦[arg4.view.set]{fullShare} arg4.view.rep E.X4)
    ∗ (arg10.view.loc (c : Thread nD τ) ↦[arg10.view.set]{fullShare} arg10.view.rep s.2.1)
    ∗ (arg11.view.loc (c : Thread nD τ) ↦[arg11.view.set]{fullShare} arg11.view.rep s.2.2))

theorem trips1 : ∀ i : grid0.Coords, (k0_t1_loop i).trips = min (i 1).val 1 := by decide +kernel
theorem trips2 : ∀ i : grid0.Coords, (k0_t2_loop i).trips = 0 := by decide +kernel
theorem trips3 : ∀ i : grid0.Coords, (k0_t3_loop i).trips = ((i 1).val - 1) / 2 := by decide +kernel
theorem trips4 : ∀ i : grid0.Coords, (k0_t4_loop i).trips = 0 := by decide +kernel
theorem trips5 : ∀ i : grid0.Coords, (k0_t5_loop i).trips = ((i 1).val - 1) % 2 := by decide +kernel
theorem trips6 : ∀ i : grid0.Coords, (k0_t6_loop i).trips = 0 := by decide +kernel
theorem off1_eq : ∀ (i : grid0.Coords) (k : Fin (k0_t3_loop i).trips), k0_off1 i k = ![256 * (2 * k.val + 1), 0] := by decide +kernel
theorem off2_eq : ∀ (i : grid0.Coords) (k : Fin (k0_t3_loop i).trips), k0_off2 i k = ![256 * (2 * k.val + 1 + 1), 0] := by decide +kernel
theorem off5_eq : ∀ i : grid0.Coords, 1 < (i 1).val → k0_off5 i = ![256 * ((i 1).val - 2 + 1), 0] := by decide +kernel
theorem off7_eq : ∀ i : grid0.Coords, k0_off7 i = ![256 * (i 1).val, 0] := by decide +kernel
instance (i : grid0.Coords) (k : Fin (k0_t3_loop i).trips) : ClosedOff (k0_off1 i k) := ⟨_, off1_eq i k⟩
instance (i : grid0.Coords) (k : Fin (k0_t3_loop i).trips) : ClosedOff (k0_off2 i k) := ⟨_, off2_eq i k⟩

theorem point_lt (i : grid0.Coords) : (i 1).val < 65 := (i 1).isLt

theorem trip5 (E' : Set ℕ) (E : Env F) (arg1 : BitVec 32) (v104 : BitVec 32) (v112_0 : FVec F S256x128 .f32) (v112_1 : FVec F S512x1 .f32) (v112_2 : FVec F S512x1 .f32) (c2_i32 : BitVec 32) (v113 : BitVec 32) (v118 : BitVec 32) (v123 : BitVec 32) (v137 : BitVec 32) (k : Fin (k0_t5_loop i).trips) (s : St F) :
    Held (F := F) c arg3 arg4 arg10 arg11 E s
      ⊢ wp frame (wpE (defs₀ (F := F)) 𝒱 (c : Thread nD τ) bd) E' (k0_t5_body (F := F) i arg2 harg2 arg3 harg3 arg4 harg4 arg5 harg5 arg6 harg6 arg7 harg7 arg8 harg8 arg9 harg9 arg10 harg10 arg11 harg11 arg12 harg12 arg1 E.v2 E.v8 E.v14 E.v84 E.v95 v104 v112_0 v112_1 v112_2 c2_i32 v113 v118 v123 v137 k s.1)
          (fun yld => iprop(⌜yld = (tileU E ((i 1).val - 2 + 1) s).1⌝ ∗ Held (F := F) c arg3 arg4 arg10 arg11 E (tileU E ((i 1).val - 2 + 1) s))) := by
  have hk : k.val < ((i 1).val - 1) % 2 := (trips5 i) ▸ k.isLt
  have hi := point_lt i
  have h5 := off5_eq i (by omega)
  have e3 := fun inb => readAt_rows (F := F) arg3.view E.X3 ((i 1).val - 2 + 1) (by omega) h5 inb
  have e4 := fun inb => readAt_rows (F := F) arg4.view E.X4 ((i 1).val - 2 + 1) (by omega) h5 inb
  have e10 := fun inb => readAt_rows (F := F) arg10.view s.2.1 ((i 1).val - 2 + 1) (by omega) h5 inb
  have e11 := fun inb => readAt_rows (F := F) arg11.view s.2.2 ((i 1).val - 2 + 1) (by omega) h5 inb
  unfold k0_t5_body
  iintro ⟨H3, H4, H10, H11⟩
  sl_exec
  sl_step
  sl_unfold_run_names
  simp only [e3, e4, e10, e11]
  isplitr; swap
  · isplitl [H3]; · iexact H3
    isplitl [H4]; · iexact H4
    isplitl [H10]
    · iapply (setRows_held (F := F) (c : Thread nD τ) arg10 s.2.1 _ h5) $$ H10
    · iapply (setRows_held (F := F) (c : Thread nD τ) arg11 s.2.2 _ h5) $$ H11
  · ipureintro; rfl

theorem trip3 (E' : Set ℕ) (E : Env F) (arg1 : BitVec 32) (v104 : BitVec 32) (v112_0 : FVec F S256x128 .f32) (v112_1 : FVec F S512x1 .f32) (v112_2 : FVec F S512x1 .f32) (c2_i32 : BitVec 32) (v113 : BitVec 32) (v118 : BitVec 32) (v123 : BitVec 32) (k : Fin (k0_t3_loop i).trips) (s : St F) :
    Held (F := F) c arg3 arg4 arg10 arg11 E s
      ⊢ wp frame (wpE (defs₀ (F := F)) 𝒱 (c : Thread nD τ) bd) E' (k0_t3_body (F := F) i arg2 harg2 arg3 harg3 arg4 harg4 arg5 harg5 arg6 harg6 arg7 harg7 arg8 harg8 arg9 harg9 arg10 harg10 arg11 harg11 arg12 harg12 arg1 E.v2 E.v8 E.v14 E.v84 E.v95 v104 v112_0 v112_1 v112_2 c2_i32 v113 v118 v123 k s.1)
          (fun yld => iprop(⌜yld = (tileU E (2 * k.val + 1 + 1) (tileU E (2 * k.val + 1) s)).1⌝ ∗ Held (F := F) c arg3 arg4 arg10 arg11 E (tileU E (2 * k.val + 1 + 1) (tileU E (2 * k.val + 1) s)))) := by
  have hk : k.val < ((i 1).val - 1) / 2 := (trips3 i) ▸ k.isLt
  have hi := point_lt i
  have h1 := off1_eq i k
  have h2 := off2_eq i k
  have e3 := fun inb => readAt_rows (F := F) arg3.view E.X3 (2 * k.val + 1) (by omega) h1 inb
  have e4 := fun inb => readAt_rows (F := F) arg4.view E.X4 (2 * k.val + 1) (by omega) h1 inb
  have e10 := fun inb => readAt_rows (F := F) arg10.view s.2.1 (2 * k.val + 1) (by omega) h1 inb
  have e11 := fun inb => readAt_rows (F := F) arg11.view s.2.2 (2 * k.val + 1) (by omega) h1 inb
  have f3 := fun inb => readAt_rows (F := F) arg3.view E.X3 (2 * k.val + 1 + 1) (by omega) h2 inb
  have f4 := fun inb => readAt_rows (F := F) arg4.view E.X4 (2 * k.val + 1 + 1) (by omega) h2 inb
  have f10 := fun inb => (readAt_rows (F := F) arg10.view s.2.1 (2 * k.val + 1 + 1) (by omega) h2 inb).trans
    (rows_setRows_ne s.2.1 (2 * k.val + 1) (2 * k.val + 1 + 1) (by omega) (by omega) (k0_pay119 E.v95 (k0_pay86 E.v8 E.v14 E.v84 E.v95 s.1.2.1 s.1.2.2 (rows E.X3 (2 * k.val + 1)) (rows E.X4 (2 * k.val + 1))) (rows s.2.1 (2 * k.val + 1)))).symm
  have f11 := fun inb => (readAt_rows (F := F) arg11.view s.2.2 (2 * k.val + 1 + 1) (by omega) h2 inb).trans
    (rows_setRows_ne s.2.2 (2 * k.val + 1) (2 * k.val + 1 + 1) (by omega) (by omega) (k0_pay120 E.v84 (k0_pay84 E.v14 E.v95 s.1.2.1 (rows E.X3 (2 * k.val + 1))) (rows s.2.2 (2 * k.val + 1)))).symm
  unfold k0_t3_body
  iintro ⟨H3, H4, H10, H11⟩
  sl_exec
  sl_step
  sl_unfold_run_names
  simp only [e3, e4, e10, e11, f3, f4, f10, f11]
  isplitr; swap
  · isplitl [H3]; · iexact H3
    isplitl [H4]; · iexact H4
    isplitl [H10]
    · iapply (setRows_held₂ (F := F) (c : Thread nD τ) arg10 s.2.1 _ _ h1 h2) $$ H10
    · iapply (setRows_held₂ (F := F) (c : Thread nD τ) arg11 s.2.2 _ _ h1 h2) $$ H11
  · ipureintro; rfl

theorem trip1 (E' : Set ℕ) (E : Env F) (arg1 : BitVec 32) (k : Fin (k0_t1_loop i).trips) (s : St F) :
    Held (F := F) c arg3 arg4 arg10 arg11 E s
      ⊢ wp frame (wpE (defs₀ (F := F)) 𝒱 (c : Thread nD τ) bd) E' (k0_t1_body (F := F) i arg2 harg2 arg3 harg3 arg4 harg4 arg5 harg5 arg6 harg6 arg7 harg7 arg8 harg8 arg9 harg9 arg10 harg10 arg11 harg11 arg12 harg12 arg1 E.v2 E.v8 E.v14 E.v84 E.v85 k s.1)
          (fun yld => iprop(⌜yld = (tile0 E arg1 s).1⌝ ∗ Held (F := F) c arg3 arg4 arg10 arg11 E (tile0 E arg1 s))) := by
  have h0 : (![0, 0] : Fin S16640x128.rank → ℕ) = ![256 * 0, 0] := rfl
  have e3 := fun inb => readAt_rows (F := F) arg3.view E.X3 0 (by omega) h0 inb
  have e4 := fun inb => readAt_rows (F := F) arg4.view E.X4 0 (by omega) h0 inb
  have e10 := fun inb => readAt_rows (F := F) arg10.view s.2.1 0 (by omega) h0 inb
  have e11 := fun inb => readAt_rows (F := F) arg11.view s.2.2 0 (by omega) h0 inb
  unfold k0_t1_body
  iintro ⟨H3, H4, H10, H11⟩
  sl_exec
  sl_step
  sl_unfold_run_names
  simp only [e3, e4, e10, e11]
  isplitr; swap
  · isplitl [H3]; · iexact H3
    isplitl [H4]; · iexact H4
    isplitl [H10]
    · iapply (setRows_held (F := F) (c : Thread nD τ) arg10 s.2.1 0 h0) $$ H10
    · iapply (setRows_held (F := F) (c : Thread nD τ) arg11 s.2.2 0 h0) $$ H11
  · ipureintro; rfl

/-! ## The loops, by their invariants -/

/-- The first loop, from the state `s`: tile 0 once, of every point past the first. -/
@[instance_reducible] def loop1 (E' : Set ℕ) (E : Env F) (arg1 : BitVec 32) (s : St F) (init : Acc F) (hinit : init = s.1) :
    LoopInv (M := MT nD τ sig Unit (Elt F) ℕ (UR sig nD τ) ℕ) Idealize.ShloMosaic.frame (wpE (defs₀ (F := F)) 𝒱 (c : Thread nD τ) bd) E'
      (k0_t1_loop i).lb (k0_t1_loop i).ub (k0_t1_loop i).st (k0_t1_ok i) init
      (k0_t1_body (F := F) i arg2 harg2 arg3 harg3 arg4 harg4 arg5 harg5 arg6 harg6 arg7 harg7 arg8 harg8 arg9 harg9 arg10 harg10 arg11 harg11 arg12 harg12 arg1 E.v2 E.v8 E.v14 E.v84 E.v85) where
  inv k acc := iprop(⌜acc = (if k = 0 then s else tile0 E arg1 s).1⌝ ∗ Held (F := F) c arg3 arg4 arg10 arg11 E (if k = 0 then s else tile0 E arg1 s))
  step k acc := by
    have hk : k.val < min (i 1).val 1 := (trips1 i) ▸ k.isLt
    have hk0 : k.val = 0 := by omega
    rw [if_pos hk0, if_neg (Nat.succ_ne_zero _)]
    iintro ⟨%ha, H⟩
    subst ha
    iapply (trip1 (F := F) 𝒱 c bd i arg2 harg2 arg3 harg3 arg4 harg4 arg5 harg5 arg6 harg6 arg7 harg7 arg8 harg8 arg9 harg9 arg10 harg10 arg11 harg11 arg12 harg12 E' E arg1 k s) $$ H

/-- The third loop, from the state `s`: two unmasked tiles a trip. -/
@[instance_reducible] def loop3 (E' : Set ℕ) (E : Env F) (arg1 : BitVec 32) (v104 : BitVec 32) (v112_0 : FVec F S256x128 .f32) (v112_1 : FVec F S512x1 .f32) (v112_2 : FVec F S512x1 .f32) (c2_i32 : BitVec 32) (v113 : BitVec 32) (v118 : BitVec 32) (v123 : BitVec 32) (s : St F) (init : Acc F) (hinit : init = s.1) :
    LoopInv (M := MT nD τ sig Unit (Elt F) ℕ (UR sig nD τ) ℕ) Idealize.ShloMosaic.frame (wpE (defs₀ (F := F)) 𝒱 (c : Thread nD τ) bd) E'
      (k0_t3_loop i).lb (k0_t3_loop i).ub (k0_t3_loop i).st (k0_t3_ok i) init
      (k0_t3_body (F := F) i arg2 harg2 arg3 harg3 arg4 harg4 arg5 harg5 arg6 harg6 arg7 harg7 arg8 harg8 arg9 harg9 arg10 harg10 arg11 harg11 arg12 harg12 arg1 E.v2 E.v8 E.v14 E.v84 E.v95 v104 v112_0 v112_1 v112_2 c2_i32 v113 v118 v123) where
  inv k acc := iprop(⌜acc = (walk E s (2 * k)).1⌝ ∗ Held (F := F) c arg3 arg4 arg10 arg11 E (walk E s (2 * k)))
  step k acc := by
    iintro ⟨%ha, H⟩
    subst ha
    iapply (trip3 (F := F) 𝒱 c bd i arg2 harg2 arg3 harg3 arg4 harg4 arg5 harg5 arg6 harg6 arg7 harg7 arg8 harg8 arg9 harg9 arg10 harg10 arg11 harg11 arg12 harg12 E' E arg1 v104 v112_0 v112_1 v112_2 c2_i32 v113 v118 v123 k (walk E s (2 * k.val))) $$ H

/-- The fifth loop, from the state before its tile: the odd tile left over, if there is one. -/
@[instance_reducible] def loop5 (E' : Set ℕ) (E : Env F) (arg1 : BitVec 32) (v104 : BitVec 32) (v112_0 : FVec F S256x128 .f32) (v112_1 : FVec F S512x1 .f32) (v112_2 : FVec F S512x1 .f32) (c2_i32 : BitVec 32) (v113 : BitVec 32) (v118 : BitVec 32) (v123 : BitVec 32) (v137 : BitVec 32) (s : St F) (init : Acc F) (hinit : init = (walk E s (2 * (((i 1).val - 1) / 2))).1) :
    LoopInv (M := MT nD τ sig Unit (Elt F) ℕ (UR sig nD τ) ℕ) Idealize.ShloMosaic.frame (wpE (defs₀ (F := F)) 𝒱 (c : Thread nD τ) bd) E'
      (k0_t5_loop i).lb (k0_t5_loop i).ub (k0_t5_loop i).st (k0_t5_ok i) init
      (k0_t5_body (F := F) i arg2 harg2 arg3 harg3 arg4 harg4 arg5 harg5 arg6 harg6 arg7 harg7 arg8 harg8 arg9 harg9 arg10 harg10 arg11 harg11 arg12 harg12 arg1 E.v2 E.v8 E.v14 E.v84 E.v95 v104 v112_0 v112_1 v112_2 c2_i32 v113 v118 v123 v137) where
  inv k acc := iprop(⌜acc = (walk E s (2 * (((i 1).val - 1) / 2) + k)).1⌝ ∗ Held (F := F) c arg3 arg4 arg10 arg11 E (walk E s (2 * (((i 1).val - 1) / 2) + k)))
  step k acc := by
    have hk : k.val < ((i 1).val - 1) % 2 := (trips5 i) ▸ k.isLt
    have hk0 : k.val = 0 := by omega
    have e : 2 * (((i 1).val - 1) / 2) = (i 1).val - 2 := by omega
    rw [hk0, e]
    iintro ⟨%ha, H⟩
    subst ha
    iapply (trip5 (F := F) 𝒱 c bd i arg2 harg2 arg3 harg3 arg4 harg4 arg5 harg5 arg6 harg6 arg7 harg7 arg8 harg8 arg9 harg9 arg10 harg10 arg11 harg11 arg12 harg12 E' E arg1 v104 v112_0 v112_1 v112_2 c2_i32 v113 v118 v123 v137 k (walk E s ((i 1).val - 2))) $$ H

/-- The first loop as a step of a run. -/
theorem run1 (E' : Set ℕ) (E : Env F) (arg1 : BitVec 32) (s : St F) (init : Acc F) (hinit : init = s.1)
    {β : Type} {kk : Acc F → Prog (TpuEff nD τ sig (Elt F) Λ₀ .tc) β} {Q : β → sProp 𝕄} :
    Held (F := F) c arg3 arg4 arg10 arg11 E s
      ⊢ iprop((∀ acc, iprop(⌜acc = (first E arg1 (i 1).val s).1⌝ ∗ Held (F := F) c arg3 arg4 arg10 arg11 E (first E arg1 (i 1).val s)) -∗ wp frame (wpE (defs₀ (F := F)) 𝒱 (c : Thread nD τ) bd) E' (kk acc) Q)
        -∗ wp frame (wpE (defs₀ (F := F)) 𝒱 (c : Thread nD τ) bd) E' (Scf.Loop.for (k0_t1_loop i) (k0_t1_ok i) init (k0_t1_body (F := F) i arg2 harg2 arg3 harg3 arg4 harg4 arg5 harg5 arg6 harg6 arg7 harg7 arg8 harg8 arg9 harg9 arg10 harg10 arg11 harg11 arg12 harg12 arg1 E.v2 E.v8 E.v14 E.v84 E.v85) >>= kk) Q) := by
  have h := exec_loop _ _ _ _ _ _ _ _ _ (loop1 (F := F) 𝒱 c bd i arg2 harg2 arg3 harg3 arg4 harg4 arg5 harg5 arg6 harg6 arg7 harg7 arg8 harg8 arg9 harg9 arg10 harg10 arg11 harg11 arg12 harg12 E' E arg1 s init hinit) (kk := kk) (Q := Q)
  have eS : (if (k0_t1_loop i).trips = 0 then s else tile0 E arg1 s) = first E arg1 (i 1).val s := by
    unfold first
    rw [trips1]
    exact if_congr (by omega) rfl rfl
  rw [← eS]
  refine BIBase.Entails.trans (Q := iprop(⌜init = s.1⌝ ∗ Held (F := F) c arg3 arg4 arg10 arg11 E s)) ?_ h
  iintro H
  isplitr
  · ipureintro; exact hinit
  · iexact H

/-- The third loop as a step of a run. -/
theorem run3 (E' : Set ℕ) (E : Env F) (arg1 : BitVec 32) (v104 : BitVec 32) (v112_0 : FVec F S256x128 .f32) (v112_1 : FVec F S512x1 .f32) (v112_2 : FVec F S512x1 .f32) (c2_i32 : BitVec 32) (v113 : BitVec 32) (v118 : BitVec 32) (v123 : BitVec 32) (s : St F) (init : Acc F) (hinit : init = s.1)
    {β : Type} {kk : Acc F → Prog (TpuEff nD τ sig (Elt F) Λ₀ .tc) β} {Q : β → sProp 𝕄} :
    Held (F := F) c arg3 arg4 arg10 arg11 E s
      ⊢ iprop((∀ acc, iprop(⌜acc = (walk E s (2 * (((i 1).val - 1) / 2))).1⌝ ∗ Held (F := F) c arg3 arg4 arg10 arg11 E (walk E s (2 * (((i 1).val - 1) / 2)))) -∗ wp frame (wpE (defs₀ (F := F)) 𝒱 (c : Thread nD τ) bd) E' (kk acc) Q)
        -∗ wp frame (wpE (defs₀ (F := F)) 𝒱 (c : Thread nD τ) bd) E' (Scf.Loop.for (k0_t3_loop i) (k0_t3_ok i) init (k0_t3_body (F := F) i arg2 harg2 arg3 harg3 arg4 harg4 arg5 harg5 arg6 harg6 arg7 harg7 arg8 harg8 arg9 harg9 arg10 harg10 arg11 harg11 arg12 harg12 arg1 E.v2 E.v8 E.v14 E.v84 E.v95 v104 v112_0 v112_1 v112_2 c2_i32 v113 v118 v123) >>= kk) Q) := by
  have h := exec_loop _ _ _ _ _ _ _ _ _ (loop3 (F := F) 𝒱 c bd i arg2 harg2 arg3 harg3 arg4 harg4 arg5 harg5 arg6 harg6 arg7 harg7 arg8 harg8 arg9 harg9 arg10 harg10 arg11 harg11 arg12 harg12 E' E arg1 v104 v112_0 v112_1 v112_2 c2_i32 v113 v118 v123 s init hinit) (kk := kk) (Q := Q)
  rw [← trips3 i]
  refine BIBase.Entails.trans (Q := iprop(⌜init = s.1⌝ ∗ Held (F := F) c arg3 arg4 arg10 arg11 E s)) ?_ h
  iintro H
  isplitr
  · ipureintro; exact hinit
  · iexact H

/-- The fifth loop as a step of a run. -/
theorem run5 (E' : Set ℕ) (E : Env F) (arg1 : BitVec 32) (v104 : BitVec 32) (v112_0 : FVec F S256x128 .f32) (v112_1 : FVec F S512x1 .f32) (v112_2 : FVec F S512x1 .f32) (c2_i32 : BitVec 32) (v113 : BitVec 32) (v118 : BitVec 32) (v123 : BitVec 32) (v137 : BitVec 32) (s : St F) (init : Acc F) (hinit : init = (walk E s (2 * (((i 1).val - 1) / 2))).1)
    (n : ℕ) (hn : n = 2 * (((i 1).val - 1) / 2) + (k0_t5_loop i).trips)
    {β : Type} {kk : Acc F → Prog (TpuEff nD τ sig (Elt F) Λ₀ .tc) β} {Q : β → sProp 𝕄} :
    Held (F := F) c arg3 arg4 arg10 arg11 E (walk E s (2 * (((i 1).val - 1) / 2)))
      ⊢ iprop((∀ acc, iprop(⌜acc = (walk E s n).1⌝ ∗ Held (F := F) c arg3 arg4 arg10 arg11 E (walk E s n)) -∗ wp frame (wpE (defs₀ (F := F)) 𝒱 (c : Thread nD τ) bd) E' (kk acc) Q)
        -∗ wp frame (wpE (defs₀ (F := F)) 𝒱 (c : Thread nD τ) bd) E' (Scf.Loop.for (k0_t5_loop i) (k0_t5_ok i) init (k0_t5_body (F := F) i arg2 harg2 arg3 harg3 arg4 harg4 arg5 harg5 arg6 harg6 arg7 harg7 arg8 harg8 arg9 harg9 arg10 harg10 arg11 harg11 arg12 harg12 arg1 E.v2 E.v8 E.v14 E.v84 E.v95 v104 v112_0 v112_1 v112_2 c2_i32 v113 v118 v123 v137) >>= kk) Q) := by
  subst hn
  have h := exec_loop _ _ _ _ _ _ _ _ _ (loop5 (F := F) 𝒱 c bd i arg2 harg2 arg3 harg3 arg4 harg4 arg5 harg5 arg6 harg6 arg7 harg7 arg8 harg8 arg9 harg9 arg10 harg10 arg11 harg11 arg12 harg12 E' E arg1 v104 v112_0 v112_1 v112_2 c2_i32 v113 v118 v123 v137 s init hinit) (kk := kk) (Q := Q)
  refine BIBase.Entails.trans (Q := iprop(⌜init = (walk E s (2 * (((i 1).val - 1) / 2))).1⌝ ∗ Held (F := F) c arg3 arg4 arg10 arg11 E (walk E s (2 * (((i 1).val - 1) / 2))))) ?_ h
  iintro H
  isplitr
  · ipureintro; exact hinit
  · iexact H

/-! ## The two parts that hold the loops -/

theorem part15 (E' : Set ℕ) (E : Env F) (arg1 : BitVec 32) (X6 : Vec F S256x128 .f32) (s : St F) (hs : s.1 = (k0_pay111 (F := F), k0_pay110 X6, k0_pay112 (F := F))) :
    iprop((arg2.view.loc (c : Thread nD τ) ↦[arg2.view.set]{fullShare} arg2.view.rep E.v85)
      ∗ (arg6.view.loc (c : Thread nD τ) ↦[arg6.view.set]{fullShare} arg6.view.rep X6)
      ∗ Held (F := F) c arg3 arg4 arg10 arg11 E s)
      ⊢ wp frame (wpE (defs₀ (F := F)) 𝒱 (c : Thread nD τ) bd) E' (k0_part15 (F := F) i arg2 harg2 arg3 harg3 arg4 harg4 arg5 harg5 arg6 harg6 arg7 harg7 arg8 harg8 arg9 harg9 arg10 harg10 arg11 harg11 arg12 harg12 arg1 E.v2 E.v8 E.v14 E.v84)
          (fun r => iprop(⌜r.1 = E.v95⌝ ∗ ⌜r.2.2.1 = (first E arg1 (i 1).val s).1.1⌝ ∗ ⌜r.2.2.2.1 = (first E arg1 (i 1).val s).1.2.1⌝ ∗ ⌜r.2.2.2.2.1 = (first E arg1 (i 1).val s).1.2.2⌝
            ∗ (arg2.view.loc (c : Thread nD τ) ↦[arg2.view.set]{fullShare} arg2.view.rep E.v85)
            ∗ (arg6.view.loc (c : Thread nD τ) ↦[arg6.view.set]{fullShare} arg6.view.rep X6)
            ∗ Held (F := F) c arg3 arg4 arg10 arg11 E (first E arg1 (i 1).val s))) := by
  have e2 := fun inb => View.readAt_rep_full (Val := Elt F) arg2.view E.v85 (off := ![0, 0]) inb
  have e6 := fun inb => View.readAt_rep_full (Val := Elt F) arg6.view X6 (off := ![0, 0]) inb
  iintro ⟨H2, H6, H3, H4, H10, H11⟩
  rw [k0_part15_eq_skeleton]
  unfold k0_part15_skel
  have htr2 := trips2 i
  sl_exec
  iapply (run1 (F := F) 𝒱 c bd i arg2 harg2 arg3 harg3 arg4 harg4 arg5 harg5 arg6 harg6 arg7 harg7 arg8 harg8 arg9 harg9 arg10 harg10 arg11 harg11 arg12 harg12 E' E arg1 s _ hs.symm) $$ [H3 H4 H10 H11]
  · isplitl [H3]; · iexact H3
    isplitl [H4]; · iexact H4
    isplitl [H10]; · iexact H10
    iexact H11
  iintro %acc ⟨%ha, H3, H4, H10, H11⟩
  obtain ⟨a0, a1, a2⟩ := acc
  sl_exec
  sl_step
  isplitr; · ipureintro; rfl
  isplitr; · ipureintro; exact congrArg (fun x => x.1) ha
  isplitr; · ipureintro; exact congrArg (fun x => x.2.1) ha
  isplitr; · ipureintro; exact congrArg (fun x => x.2.2) ha
  isplitl [H2]; · iexact H2
  isplitl [H6]; · iexact H6
  isplitl [H3]; · iexact H3
  isplitl [H4]; · iexact H4
  isplitl [H10]; · iexact H10
  iexact H11

theorem part16 (E' : Set ℕ) (E : Env F) (arg1 : BitVec 32) (s : St F) (v104 : BitVec 32) (c2_i32 : BitVec 32) (v113 : BitVec 32) (v118 : BitVec 32) (v123 : BitVec 32) :
    Held (F := F) c arg3 arg4 arg10 arg11 E s
      ⊢ wp frame (wpE (defs₀ (F := F)) 𝒱 (c : Thread nD τ) bd) E' (k0_part16 (F := F) i arg2 harg2 arg3 harg3 arg4 harg4 arg5 harg5 arg6 harg6 arg7 harg7 arg8 harg8 arg9 harg9 arg10 harg10 arg11 harg11 arg12 harg12 arg1 E.v2 E.v8 E.v14 E.v84 E.v95 v104 s.1.1 s.1.2.1 s.1.2.2 c2_i32 v113 v118 v123)
          (fun r => iprop(⌜r.1 = (walk E s ((i 1).val - 1)).1.1⌝ ∗ ⌜r.2.1 = (walk E s ((i 1).val - 1)).1.2.1⌝ ∗ ⌜r.2.2.1 = (walk E s ((i 1).val - 1)).1.2.2⌝
            ∗ ⌜r.2.2.2.2.1 = k0_pay127 (rows E.X3 (i 1).val)⌝ ∗ ⌜r.2.2.2.2.2.1 = k0_pay128 E.v95 (rows E.X3 (i 1).val)⌝ ∗ ⌜r.2.2.2.2.2.2.1 = k0_pay129 E.v95 (rows E.X3 (i 1).val)⌝ ∗ ⌜r.2.2.2.2.2.2.2 = k0_pay130 (F := F)⌝
            ∗ Held (F := F) c arg3 arg4 arg10 arg11 E (walk E s ((i 1).val - 1)))) := by
  have e3 := fun inb => readAt_rows (F := F) arg3.view E.X3 (i 1).val (point_lt i) (off7_eq i) inb
  have htr4 := trips4 i
  have htr6 := trips6 i
  iintro ⟨H3, H4, H10, H11⟩
  rw [k0_part16_eq_skeleton]
  unfold k0_part16_skel
  sl_exec
  iapply (run3 (F := F) 𝒱 c bd i arg2 harg2 arg3 harg3 arg4 harg4 arg5 harg5 arg6 harg6 arg7 harg7 arg8 harg8 arg9 harg9 arg10 harg10 arg11 harg11 arg12 harg12 E' E arg1 _ _ _ _ _ _ _ _ s _ rfl) $$ [H3 H4 H10 H11]
  · isplitl [H3]; · iexact H3
    isplitl [H4]; · iexact H4
    isplitl [H10]; · iexact H10
    iexact H11
  iintro %acc ⟨%ha, H3, H4, H10, H11⟩
  obtain ⟨a0, a1, a2⟩ := acc
  sl_exec
  iapply (run5 (F := F) 𝒱 c bd i arg2 harg2 arg3 harg3 arg4 harg4 arg5 harg5 arg6 harg6 arg7 harg7 arg8 harg8 arg9 harg9 arg10 harg10 arg11 harg11 arg12 harg12 E' E arg1 _ _ _ _ _ _ _ _ _ s _ ha ((i 1).val - 1) (by rw [trips5]; omega)) $$ [H3 H4 H10 H11]
  · isplitl [H3]; · iexact H3
    isplitl [H4]; · iexact H4
    isplitl [H10]; · iexact H10
    iexact H11
  iintro %acc ⟨%hb, H3, H4, H10, H11⟩
  obtain ⟨b0, b1, b2⟩ := acc
  sl_exec
  sl_step
  isplitr; · ipureintro; exact congrArg (fun x => x.1) hb
  isplitr; · ipureintro; exact congrArg (fun x => x.2.1) hb
  isplitr; · ipureintro; exact congrArg (fun x => x.2.2) hb
  isplitr; · ipureintro; rfl
  isplitr; · ipureintro; rfl
  isplitr; · ipureintro; rfl
  isplitr; · ipureintro; rfl
  isplitl [H3]; · iexact H3
  isplitl [H4]; · iexact H4
  isplitl [H10]; · iexact H10
  iexact H11

/-- The two conditions of the point: the very first point, and the first of a pair of heads. -/
theorem cond1 : ∀ i : grid0.Coords, (Scalar.cmpi .ne (Scalar.extui (Scalar.andi (Scalar.cmpi .eq (BitVec.ofNat 32 (i 0).val) 0#32) (Scalar.cmpi .eq (BitVec.ofNat 32 (i 1).val) 0#32)) : BitVec 32) 0#32 = 1#1) ↔ ((i 0).val = 0 ∧ (i 1).val = 0) := by decide +kernel
theorem cond2 : ∀ i : grid0.Coords, (Scalar.cmpi .ne (Scalar.extui (Scalar.cmpi .eq (BitVec.ofNat 32 (i 1).val) 0#32) : BitVec 32) 0#32 = 1#1) ↔ ((i 1).val = 0) := by decide +kernel

theorem write_held {sp : Space} {S : Shape} {e : EltTy} (c : Thread nD τ) (m : Memref sig c.2.kind sp S e) (g : Buf (Elt F) (m.view.loc c)) {off : Fin S.rank → ℕ}
    (inb : ∀ a, off a + S.size a ≤ S.size a) (w : Vec F S e) :
    (m.view.loc c ↦[m.view.set]{fullShare} m.view.writes (Elt F) g [⟨Rect.unit off S.size inb, w⟩] : sProp 𝕄)
      ⊢ m.view.loc c ↦[m.view.set]{fullShare} m.view.rep w :=
  pointsTo_rep_of_read c m _ fullShare _ (View.read_writes_full m.view _ inb w [])

/-- What the first part hands on. -/
def pack13 (X5 : Vec F S256x128 .f32) (X8 : Vec F S1x128 .f32) :
    Σ' (arg1 : BitVec 32) (v2 : IVec S256x128 1) (v8 : FVec F S256x256 .bf16) (v14 : FVec F S256x256 .bf16) (v24 : FVec F S256x128 .f32) (v26 : FVec F S1x128 .f32) (v40 : FVec F S256x128 .f32), F .f32 :=
  ⟨BitVec.ofNat 32 (i 1).val, k0_pay95, k0_pay96 (F := F), k0_pay97 (F := F), k0_pay101 X5, k0_pay102 X8, k0_pay103 X5, Scalar.ofBits .f32 0x3C800000#32⟩

theorem part13 (E' : Set ℕ) (X5 : Vec F S256x128 .f32) (X8 : Vec F S1x128 .f32) (dk dv : Vec F S16640x128 .f32) (dgn : Vec F S1x128 .f32) :
    (iprop((arg5.view.loc (c : Thread nD τ) ↦[arg5.view.set]{fullShare} arg5.view.rep X5)
      ∗ (arg8.view.loc (c : Thread nD τ) ↦[arg8.view.set]{fullShare} arg8.view.rep X8)
      ∗ (arg10.view.loc (c : Thread nD τ) ↦[arg10.view.set]{fullShare} arg10.view.rep dk)
      ∗ (arg11.view.loc (c : Thread nD τ) ↦[arg11.view.set]{fullShare} arg11.view.rep dv)
      ∗ (arg12.view.loc (c : Thread nD τ) ↦[arg12.view.set]{fullShare} arg12.view.rep dgn)) : sProp 𝕄)
      ⊢ wp frame (wpE (defs₀ (F := F)) 𝒱 (c : Thread nD τ) bd) E' (k0_part13 (F := F) i arg2 harg2 arg3 harg3 arg4 harg4 arg5 harg5 arg6 harg6 arg7 harg7 arg8 harg8 arg9 harg9 arg10 harg10 arg11 harg11 arg12 harg12)
          (fun r => iprop(⌜r = pack13 (F := F) i X5 X8⌝
            ∗ (arg5.view.loc (c : Thread nD τ) ↦[arg5.view.set]{fullShare} arg5.view.rep X5)
            ∗ (arg8.view.loc (c : Thread nD τ) ↦[arg8.view.set]{fullShare} arg8.view.rep X8)
            ∗ (arg10.view.loc (c : Thread nD τ) ↦[arg10.view.set]{fullShare} arg10.view.rep (if (i 1).val = 0 then k0_pay99 (F := F) else dk))
            ∗ (arg11.view.loc (c : Thread nD τ) ↦[arg11.view.set]{fullShare} arg11.view.rep (if (i 1).val = 0 then k0_pay100 (F := F) else dv))
            ∗ (arg12.view.loc (c : Thread nD τ) ↦[arg12.view.set]{fullShare} arg12.view.rep (if (i 0).val = 0 ∧ (i 1).val = 0 then k0_pay98 (F := F) else dgn)))) := by
  have e5 := fun inb => View.readAt_rep_full (Val := Elt F) arg5.view X5 (off := ![0, 0]) inb
  have e8 := fun inb => View.readAt_rep_full (Val := Elt F) arg8.view X8 (off := ![0, 0]) inb
  rw [k0_part13_eq_skeleton]
  unfold k0_part13_skel
  iintro ⟨H5, H8, H10, H11, H12⟩
  by_cases h1 : (i 0).val = 0 ∧ (i 1).val = 0
  · rw [if_pos h1, if_pos h1.2, if_pos h1.2]
    have c1 := (cond1 i).mpr h1
    have c2 := (cond2 i).mpr h1.2
    sl_exec
    sl_step
    isplitr; · ipureintro; rfl
    isplitl [H5]; · iexact H5
    isplitl [H8]; · iexact H8
    isplitl [H10]; · iapply (write_held (F := F) (c : Thread nD τ) arg10 _ _ _) $$ H10
    isplitl [H11]; · iapply (write_held (F := F) (c : Thread nD τ) arg11 _ _ _) $$ H11
    iapply (write_held (F := F) (c : Thread nD τ) arg12 _ _ _) $$ H12
  · rw [if_neg h1]
    have c1 : ¬ _ := fun h => h1 ((cond1 i).mp h)
    by_cases h2 : (i 1).val = 0
    · rw [if_pos h2, if_pos h2]
      have c2 := (cond2 i).mpr h2
      sl_exec
      sl_step
      isplitr; · ipureintro; rfl
      isplitl [H5]; · iexact H5
      isplitl [H8]; · iexact H8
      isplitl [H10]; · iapply (write_held (F := F) (c : Thread nD τ) arg10 _ _ _) $$ H10
      isplitl [H11]; · iapply (write_held (F := F) (c : Thread nD τ) arg11 _ _ _) $$ H11
      iexact H12
    · rw [if_neg h2, if_neg h2]
      have c2 : ¬ _ := fun h => h2 ((cond2 i).mp h)
      sl_exec
      sl_step
      isplitr; · ipureintro; rfl
      isplitl [H5]; · iexact H5
      isplitl [H8]; · iexact H8
      isplitl [H10]; · iexact H10
      isplitl [H11]; · iexact H11
      iexact H12

theorem part14 (E' : Set ℕ) (X7 : Vec F S256x128 .f32) (dgn : Vec F S1x128 .f32) (v2 : IVec S256x128 1) (v24 : FVec F S256x128 .f32) (v26 : FVec F S1x128 .f32) (v40 : FVec F S256x128 .f32) (cst : F .f32) :
    (iprop((arg7.view.loc (c : Thread nD τ) ↦[arg7.view.set]{fullShare} arg7.view.rep X7)
      ∗ (arg12.view.loc (c : Thread nD τ) ↦[arg12.view.set]{fullShare} arg12.view.rep dgn)) : sProp 𝕄)
      ⊢ wp frame (wpE (defs₀ (F := F)) 𝒱 (c : Thread nD τ) bd) E' (k0_part14 (F := F) i arg2 harg2 arg3 harg3 arg4 harg4 arg5 harg5 arg6 harg6 arg7 harg7 arg8 harg8 arg9 harg9 arg10 harg10 arg11 harg11 arg12 harg12 v2 v24 v26 v40 cst)
          (fun r => iprop(⌜r = k0_pay108 v2 v24 v26 v40 cst X7⌝
            ∗ (arg7.view.loc (c : Thread nD τ) ↦[arg7.view.set]{fullShare} arg7.view.rep X7)
            ∗ (arg12.view.loc (c : Thread nD τ) ↦[arg12.view.set]{fullShare} arg12.view.rep (k0_pay107 v24 v40 cst X7 dgn)))) := by
  have e7 := fun inb => View.readAt_rep_full (Val := Elt F) arg7.view X7 (off := ![0, 0]) inb
  have e12 := fun inb => View.readAt_rep_full (Val := Elt F) arg12.view dgn (off := ![0, 0]) inb
  rw [k0_part14_eq_skeleton]
  unfold k0_part14_skel
  iintro ⟨H7, H12⟩
  sl_exec
  sl_step
  isplitr; · ipureintro; rfl
  isplitl [H7]; · iexact H7
  iapply (write_held (F := F) (c : Thread nD τ) arg12 _ _ _) $$ H12

/-! ## The whole body at a point -/

theorem body (E' : Set ℕ) (B : Blocks F) (dq : Vec F S256x128 .f32) (dk dv : Vec F S16640x128 .f32) (dgn : Vec F S1x128 .f32) :
    (iprop((arg2.view.loc (c : Thread nD τ) ↦[arg2.view.set]{fullShare} arg2.view.rep B.X2)
      ∗ (arg3.view.loc (c : Thread nD τ) ↦[arg3.view.set]{fullShare} arg3.view.rep B.X3)
      ∗ (arg4.view.loc (c : Thread nD τ) ↦[arg4.view.set]{fullShare} arg4.view.rep B.X4)
      ∗ (arg5.view.loc (c : Thread nD τ) ↦[arg5.view.set]{fullShare} arg5.view.rep B.X5)
      ∗ (arg6.view.loc (c : Thread nD τ) ↦[arg6.view.set]{fullShare} arg6.view.rep B.X6)
      ∗ (arg7.view.loc (c : Thread nD τ) ↦[arg7.view.set]{fullShare} arg7.view.rep B.X7)
      ∗ (arg8.view.loc (c : Thread nD τ) ↦[arg8.view.set]{fullShare} arg8.view.rep B.X8)
      ∗ (arg9.view.loc (c : Thread nD τ) ↦[arg9.view.set]{fullShare} arg9.view.rep dq)
      ∗ (arg10.view.loc (c : Thread nD τ) ↦[arg10.view.set]{fullShare} arg10.view.rep dk)
      ∗ (arg11.view.loc (c : Thread nD τ) ↦[arg11.view.set]{fullShare} arg11.view.rep dv)
      ∗ (arg12.view.loc (c : Thread nD τ) ↦[arg12.view.set]{fullShare} arg12.view.rep dgn)) : sProp 𝕄)
      ⊢ wp frame (wpE (defs₀ (F := F)) 𝒱 (c : Thread nD τ) bd) E' (cc0_sb_bwd (F := F) i arg2 harg2 arg3 harg3 arg4 harg4 arg5 harg5 arg6 harg6 arg7 harg7 arg8 harg8 arg9 harg9 arg10 harg10 arg11 harg11 arg12 harg12)
          (fun _ => iprop((arg2.view.loc (c : Thread nD τ) ↦[arg2.view.set]{fullShare} arg2.view.rep B.X2)
      ∗ (arg3.view.loc (c : Thread nD τ) ↦[arg3.view.set]{fullShare} arg3.view.rep B.X3)
      ∗ (arg4.view.loc (c : Thread nD τ) ↦[arg4.view.set]{fullShare} arg4.view.rep B.X4)
      ∗ (arg5.view.loc (c : Thread nD τ) ↦[arg5.view.set]{fullShare} arg5.view.rep B.X5)
      ∗ (arg6.view.loc (c : Thread nD τ) ↦[arg6.view.set]{fullShare} arg6.view.rep B.X6)
      ∗ (arg7.view.loc (c : Thread nD τ) ↦[arg7.view.set]{fullShare} arg7.view.rep B.X7)
      ∗ (arg8.view.loc (c : Thread nD τ) ↦[arg8.view.set]{fullShare} arg8.view.rep B.X8)
      ∗ (arg9.view.loc (c : Thread nD τ) ↦[arg9.view.set]{fullShare} arg9.view.rep (B.walked i dk dv).1)
      ∗ (arg10.view.loc (c : Thread nD τ) ↦[arg10.view.set]{fullShare} arg10.view.rep (B.walked i dk dv).2.1)
      ∗ (arg11.view.loc (c : Thread nD τ) ↦[arg11.view.set]{fullShare} arg11.view.rep (B.walked i dk dv).2.2)
      ∗ (arg12.view.loc (c : Thread nD τ) ↦[arg12.view.set]{fullShare} arg12.view.rep (B.gain i dgn)))) := by
  have hcut13 := part13 (F := F) 𝒱 c bd i arg2 harg2 arg3 harg3 arg4 harg4 arg5 harg5 arg6 harg6 arg7 harg7 arg8 harg8 arg9 harg9 arg10 harg10 arg11 harg11 arg12 harg12 E' B.X5 B.X8 dk dv dgn
  have hcut14 := part14 (F := F) 𝒱 c bd i arg2 harg2 arg3 harg3 arg4 harg4 arg5 harg5 arg6 harg6 arg7 harg7 arg8 harg8 arg9 harg9 arg10 harg10 arg11 harg11 arg12 harg12 E' B.X7 (if (i 0).val = 0 ∧ (i 1).val = 0 then k0_pay98 (F := F) else dgn) k0_pay95 (k0_pay101 B.X5) (k0_pay102 B.X8) (k0_pay103 B.X5) (Scalar.ofBits .f32 0x3C800000#32)
  have hcut15 := part15 (F := F) 𝒱 c bd i arg2 harg2 arg3 harg3 arg4 harg4 arg5 harg5 arg6 harg6 arg7 harg7 arg8 harg8 arg9 harg9 arg10 harg10 arg11 harg11 arg12 harg12 E' B.env (BitVec.ofNat 32 (i 1).val) B.X6 (B.start i dk dv) rfl
  have hcut16 := part16 (F := F) 𝒱 c bd i arg2 harg2 arg3 harg3 arg4 harg4 arg5 harg5 arg6 harg6 arg7 harg7 arg8 harg8 arg9 harg9 arg10 harg10 arg11 harg11 arg12 harg12 E' B.env (BitVec.ofNat 32 (i 1).val) (first B.env (BitVec.ofNat 32 (i 1).val) (i 1).val (B.start i dk dv))
  have e4 := fun inb => readAt_rows (F := F) arg4.view B.X4 (i 1).val (point_lt i) (off7_eq i) inb
  have e10 := fun x inb => readAt_rows (F := F) arg10.view x (i 1).val (point_lt i) (off7_eq i) inb
  have e11 := fun x inb => readAt_rows (F := F) arg11.view x (i 1).val (point_lt i) (off7_eq i) inb
  rw [cc0_sb_bwd_eq_skeleton]
  unfold cc0_sb_bwd_skel
  iintro ⟨H2, H3, H4, H5, H6, H7, H8, H9, H10, H11, H12⟩
  iapply (exec_cut _ _ _ hcut13) $$ [H5 H8 H10 H11 H12]
  · isplitl [H5]; · iexact H5
    isplitl [H8]; · iexact H8
    isplitl [H10]; · iexact H10
    isplitl [H11]; · iexact H11
    iexact H12
  iintro %r ⟨%hr, H5, H8, H10, H11, H12⟩
  subst hr
  unfold pack13
  iapply (exec_cut _ _ _ hcut14) $$ [H7 H12]
  · isplitl [H7]; · iexact H7
    iexact H12
  iintro %r ⟨%hr, H7, H12⟩
  subst hr
  iapply (exec_cut _ _ _ hcut15) $$ [H2 H6 H3 H4 H10 H11]
  · isplitl [H2]; · iexact H2
    isplitl [H6]; · iexact H6
    isplitl [H3]; · iexact H3
    isplitl [H4]; · iexact H4
    isplitl [H10]; · iexact H10
    iexact H11
  iintro %r ⟨%hr, %h0, %h1, %h2, H2, H6, H3, H4, H10, H11⟩
  obtain ⟨v95, v104, a0, a1, a2, c2, v113, v118, v123⟩ := r
  dsimp only at hr h0 h1 h2
  subst hr h0 h1 h2
  iapply (exec_cut _ _ _ (hcut16 v104 c2 v113 v118 v123)) $$ [H3 H4 H10 H11]
  · isplitl [H3]; · iexact H3
    isplitl [H4]; · iexact H4
    isplitl [H10]; · iexact H10
    iexact H11
  iintro %r ⟨%h0, %h1, %h2, %h3, %h4, %h5, %h6, H3, H4, H10, H11⟩
  obtain ⟨b0, b1, b2, v156, v159, v160, v161, v162⟩ := r
  dsimp only at h0 h1 h2 h3 h4 h5 h6
  subst h0 h1 h2 h3 h4 h5 h6
  sl_exec
  sl_step
  sl_unfold_run_names
  simp only [e4, e10, e11]
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iapply (write_held (F := F) (c : Thread nD τ) arg9 _ _ _) $$ H9
  isplitl [H10]; · iapply (setRows_held (F := F) (c : Thread nD τ) arg10 _ _ (off7_eq i)) $$ H10
  isplitl [H11]; · iapply (setRows_held (F := F) (c : Thread nD τ) arg11 _ _ (off7_eq i)) $$ H11
  iexact H12

end Trips

end Cert.SbIdeal.Sb

end
-- ==== Proof.SbFrame.lean ====
module

public import proofs.«01_k».proof.Proof.SbTile
public import proofs.«01_k».proof.Proof.Gen.SbIdeal.Frame
public import Idealize.ShloMosaic.Lib.Pipeline.TableIdle
public import Idealize.ShloMosaic.Lib.Claim

/-! The run of the attention's backward program, at any interpretation of the floats: what the four outputs hold
    point by point (each from the key gradients and the gain gradient the point before left), the pipeline's proof data,
    its body obligation off the body's triple, the launch, and the frame. -/

@[expose] public section

set_option maxRecDepth 16384

noncomputable section

namespace Cert.SbIdeal.Sb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.SbIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The second grid coordinate of a point is its row of tiles, -/
theorem coord1 (t : Fin cfg0.N) : (grid0.coords t 1).val = t.val % 65 := by revert t; decide +kernel
/-- the first its pair of heads. -/
theorem coord0 (t : Fin cfg0.N) : (grid0.coords t 0).val = t.val / 65 := by revert t; decide +kernel

/-- The staged blocks of a point's seven inputs. -/
def blocks (c : Dev nD) (t : Fin cfg0.N) : Blocks F :=
  ⟨iblk m c 0 t, iblk m c 1 t, iblk m c 2 t, iblk m c 3 t, iblk m c 4 t, iblk m c 5 t, iblk m c 6 t⟩

/-- The four outputs' staging contents: the queries' gradient tile, the keys', the values', the gain's. -/
abbrev Outs (F : FTy → Type) : Type := FVec F S256x128 .f32 × FVec F S16640x128 .f32 × FVec F S16640x128 .f32 × FVec F S1x128 .f32

/-- One point, from what the point before left. -/
def step (c : Dev nD) (t : Fin cfg0.N) (o : Outs F) : Outs F :=
  (((blocks m c t).walked (grid0.coords t) o.2.1 o.2.2.1).1, ((blocks m c t).walked (grid0.coords t) o.2.1 o.2.2.1).2.1,
    ((blocks m c t).walked (grid0.coords t) o.2.1 o.2.2.1).2.2, (blocks m c t).gain (grid0.coords t) o.2.2.2)

/-- What the outputs hold when point `n` is left (the first point starts from nothing: it resets all it accumulates). -/
def outsAt (c : Dev nD) : (n : ℕ) → n < cfg0.N → Outs F
  | 0, h => step m c ⟨0, h⟩ (k0_pay111, k0_pay99, k0_pay100, k0_pay98)
  | n + 1, h => step m c ⟨n + 1, h⟩ (outsAt c n (Nat.lt_of_succ_lt h))

theorem outsAt_of_pos (c : Dev nD) (t : Fin cfg0.N) (h : t.val ≠ 0) :
    outsAt m c t.val t.isLt = step m c t (outsAt m c (t.val - 1) (Nat.lt_of_le_of_lt (Nat.sub_le _ _) t.isLt)) := by
  obtain ⟨n, hn⟩ := t
  cases n with
  | zero => exact absurd rfl h
  | succ n => rfl

/-- Where a pair of heads starts, the key gradients left by the point before do not matter. -/
theorem walked_reset (B : Blocks F) (i : grid0.Coords) (h : (i 1).val = 0) (dk dv dk' dv' : FVec F S16640x128 .f32) :
    B.walked i dk dv = B.walked i dk' dv' := by
  unfold Blocks.walked Blocks.start
  simp only [if_pos h]

theorem gain_reset (B : Blocks F) (i : grid0.Coords) (h : (i 0).val = 0 ∧ (i 1).val = 0) (g g' : FVec F S1x128 .f32) :
    B.gain i g = B.gain i g' := by
  unfold Blocks.gain
  simp only [if_pos h]

/-! ## The proof data -/

def dats (_ : Fin 1) (c : Dev nD) : Dat τ (Elt F) Unit ℕ (UR sig nD τ) ℕ cfg0 c where
  A w := V m c (Pipeline.arrRef spec0 w)
  after w t := match w with
  | ⟨0, _⟩ => iblk m c 0 t
  | ⟨1, _⟩ => iblk m c 1 t
  | ⟨2, _⟩ => iblk m c 2 t
  | ⟨3, _⟩ => iblk m c 3 t
  | ⟨4, _⟩ => iblk m c 4 t
  | ⟨5, _⟩ => iblk m c 5 t
  | ⟨6, _⟩ => iblk m c 6 t
  | ⟨7, _⟩ => (outsAt m c t.val t.isLt).1
  | ⟨8, _⟩ => (outsAt m c t.val t.isLt).2.1
  | ⟨9, _⟩ => (outsAt m c t.val t.isLt).2.2.1
  | ⟨10, _⟩ => (outsAt m c t.val t.isLt).2.2.2
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = (blocks m c t).X2 := by dsimp only [dats, blocks]
theorem after_1 (c : Dev nD) (t : Fin cfg0.N) : (dats m 0 c).after 1 t = (blocks m c t).X3 := by dsimp only [dats, blocks]
theorem after_2 (c : Dev nD) (t : Fin cfg0.N) : (dats m 0 c).after 2 t = (blocks m c t).X4 := by dsimp only [dats, blocks]
theorem after_3 (c : Dev nD) (t : Fin cfg0.N) : (dats m 0 c).after 3 t = (blocks m c t).X5 := by dsimp only [dats, blocks]
theorem after_4 (c : Dev nD) (t : Fin cfg0.N) : (dats m 0 c).after 4 t = (blocks m c t).X6 := by dsimp only [dats, blocks]
theorem after_5 (c : Dev nD) (t : Fin cfg0.N) : (dats m 0 c).after 5 t = (blocks m c t).X7 := by dsimp only [dats, blocks]
theorem after_6 (c : Dev nD) (t : Fin cfg0.N) : (dats m 0 c).after 6 t = (blocks m c t).X8 := by dsimp only [dats, blocks]
theorem after_7 (c : Dev nD) (t : Fin cfg0.N) : (dats m 0 c).after 7 t = (outsAt m c t.val t.isLt).1 := by dsimp only [dats]
theorem after_8 (c : Dev nD) (t : Fin cfg0.N) : (dats m 0 c).after 8 t = (outsAt m c t.val t.isLt).2.1 := by dsimp only [dats]
theorem after_9 (c : Dev nD) (t : Fin cfg0.N) : (dats m 0 c).after 9 t = (outsAt m c t.val t.isLt).2.2.1 := by dsimp only [dats]
theorem after_10 (c : Dev nD) (t : Fin cfg0.N) : (dats m 0 c).after 10 t = (outsAt m c t.val t.isLt).2.2.2 := by dsimp only [dats]
theorem before_0 (c : Dev nD) (t : Fin cfg0.N) (d) : (dats m 0 c).before 0 t d = (blocks m c t).X2 :=
  before0_0_of m (dats m 0 c) (A_eq m c 0) (fun t => (after_0 m c t).trans rfl) t d
theorem before_1 (c : Dev nD) (t : Fin cfg0.N) (d) : (dats m 0 c).before 1 t d = (blocks m c t).X3 :=
  before0_1_of m (dats m 0 c) (A_eq m c 1) (fun t => (after_1 m c t).trans rfl) t d
theorem before_2 (c : Dev nD) (t : Fin cfg0.N) (d) : (dats m 0 c).before 2 t d = (blocks m c t).X4 :=
  before0_2_of m (dats m 0 c) (A_eq m c 2) (fun t => (after_2 m c t).trans rfl) t d
theorem before_3 (c : Dev nD) (t : Fin cfg0.N) (d) : (dats m 0 c).before 3 t d = (blocks m c t).X5 :=
  before0_3_of m (dats m 0 c) (A_eq m c 3) (fun t => (after_3 m c t).trans rfl) t d
theorem before_4 (c : Dev nD) (t : Fin cfg0.N) (d) : (dats m 0 c).before 4 t d = (blocks m c t).X6 :=
  before0_4_of m (dats m 0 c) (A_eq m c 4) (fun t => (after_4 m c t).trans rfl) t d
theorem before_5 (c : Dev nD) (t : Fin cfg0.N) (d) : (dats m 0 c).before 5 t d = (blocks m c t).X7 :=
  before0_5_of m (dats m 0 c) (A_eq m c 5) (fun t => (after_5 m c t).trans rfl) t d
theorem before_6 (c : Dev nD) (t : Fin cfg0.N) (d) : (dats m 0 c).before 6 t d = (blocks m c t).X8 :=
  before0_6_of m (dats m 0 c) (A_eq m c 6) (fun t => (after_6 m c t).trans rfl) t d
theorem before_8 (c : Dev nD) (t : Fin cfg0.N) (h0 : ¬ t.val % 65 = 0) (d) :
    (dats m 0 c).before 8 t d = (outsAt m c (t.val - 1) (Nat.lt_of_le_of_lt (Nat.sub_le _ _) t.isLt)).2.1 := by
  have hN : t.val < 130 := lt_of_lt_of_eq t.isLt (show cfg0.N = 130 from N_0)
  rw [Dat.before_out_kept _ 8 rfl t (by omega) (Bool.eq_false_iff.mpr fun h => by have := (flush0_8 _).mp h; dsimp only at this; omega)
    (fun _ => rfl) (fun _ _ => rfl)]
  dsimp only [dats]
theorem before_9 (c : Dev nD) (t : Fin cfg0.N) (h0 : ¬ t.val % 65 = 0) (d) :
    (dats m 0 c).before 9 t d = (outsAt m c (t.val - 1) (Nat.lt_of_le_of_lt (Nat.sub_le _ _) t.isLt)).2.2.1 := by
  have hN : t.val < 130 := lt_of_lt_of_eq t.isLt (show cfg0.N = 130 from N_0)
  rw [Dat.before_out_kept _ 9 rfl t (by omega) (Bool.eq_false_iff.mpr fun h => by have := (flush0_9 _).mp h; dsimp only at this; omega)
    (fun _ => rfl) (fun _ _ => rfl)]
  dsimp only [dats]
theorem before_10 (c : Dev nD) (t : Fin cfg0.N) (h0 : ¬ t.val = 0) (d) :
    (dats m 0 c).before 10 t d = (outsAt m c (t.val - 1) (Nat.lt_of_le_of_lt (Nat.sub_le _ _) t.isLt)).2.2.2 := by
  have hN : t.val < 130 := lt_of_lt_of_eq t.isLt (show cfg0.N = 130 from N_0)
  rw [Dat.before_out_kept _ 10 rfl t (by omega) (Bool.eq_false_iff.mpr fun h => by have := (flush0_10 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- The body at a point, from any contents of the four outputs that agree with `o` where the point reads them. -/
theorem sound_at (c : Dev nD) (t : Fin cfg0.N) (dq : Vec F S256x128 .f32) (dk dv : Vec F S16640x128 .f32) (dgn : Vec F S1x128 .f32)
    (h : outsAt m c t.val t.isLt = step m c t (dq, dk, dv, dgn)) :
    (iprop((dats m 0 c).Φ t.castSucc ∗ (dats m 0 c).owesAt () t.castSucc
    ∗ owns (c : Thread nD τ) (st0_0 t) fullShare ((blocks m c t).X2)
    ∗ owns (c : Thread nD τ) (st0_1 t) fullShare ((blocks m c t).X3)
    ∗ owns (c : Thread nD τ) (st0_2 t) fullShare ((blocks m c t).X4)
    ∗ owns (c : Thread nD τ) (st0_3 t) fullShare ((blocks m c t).X5)
    ∗ owns (c : Thread nD τ) (st0_4 t) fullShare ((blocks m c t).X6)
    ∗ owns (c : Thread nD τ) (st0_5 t) fullShare ((blocks m c t).X7)
    ∗ owns (c : Thread nD τ) (st0_6 t) fullShare ((blocks m c t).X8)
    ∗ owns (c : Thread nD τ) (st0_7 t) fullShare dq
    ∗ owns (c : Thread nD τ) (st0_8 t) fullShare dk
    ∗ owns (c : Thread nD τ) (st0_9 t) fullShare dv
    ∗ owns (c : Thread nD τ) (st0_10 t) fullShare dgn) : sProp 𝕄)
      ⊢ wp frame (wpE (defs₀ (F := F)) Variants.none c none) Set.univ (bodyAt0 t) (fun _ => bodyPost m c t) := by
  have hb := body (F := F) Variants.none c none (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) Set.univ (blocks m c t) dq dk dv dgn
  unfold bodyPost bodyAt0
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, h]
  unfold step
  dsimp only
  simp only [owns_eq_rep]
  exact (sep_mono_right (sep_mono_right hb)).trans ((sep_mono_right (wp_frame_l _ _ _)).trans ((wp_frame_l _ _ _).trans
    (wp_mono _ _ _ fun _ => .rfl)))

/-- What a point leaves is its step from whatever its output buffers hold when it starts. -/
theorem outsAt_before (c : Dev nD) (t : Fin cfg0.N) (d7 d8 d9 d10) :
    outsAt m c t.val t.isLt = step m c t ((dats m 0 c).before 7 t d7, (dats m 0 c).before 8 t d8, (dats m 0 c).before 9 t d9, (dats m 0 c).before 10 t d10) := by
  have hN : t.val < 130 := lt_of_lt_of_eq t.isLt (show cfg0.N = 130 from N_0)
  have c1 := coord1 t
  have c0 := coord0 t
  by_cases h : t.val = 0
  · have hi0 : (grid0.coords t 0).val = 0 := by omega
    have hi1 : (grid0.coords t 1).val = 0 := by omega
    have e : outsAt m c t.val t.isLt = step m c t (k0_pay111, k0_pay99, k0_pay100, k0_pay98) := by
      obtain ⟨n, hn⟩ := t; dsimp only at h; subst h; rfl
    rw [e]
    unfold step
    dsimp only
    rw [walked_reset (blocks m c t) _ hi1 k0_pay99 k0_pay100 ((dats m 0 c).before 8 t d8) ((dats m 0 c).before 9 t d9),
      gain_reset (blocks m c t) _ ⟨hi0, hi1⟩ k0_pay98 ((dats m 0 c).before 10 t d10)]
  · rw [outsAt_of_pos m c t h]
    unfold step
    dsimp only
    rw [before_10 m c t h]
    by_cases h1 : t.val % 65 = 0
    · rw [walked_reset (blocks m c t) _ (c1.trans h1) (outsAt m c (t.val - 1) (Nat.lt_of_le_of_lt (Nat.sub_le _ _) t.isLt)).2.1
        (outsAt m c (t.val - 1) (Nat.lt_of_le_of_lt (Nat.sub_le _ _) t.isLt)).2.2.1 ((dats m 0 c).before 8 t d8) ((dats m 0 c).before 9 t d9)]
    · rw [before_8 m c t h1, before_9 m c t h1]

theorem sound_body (c : Dev nD) (t : Fin cfg0.N) :
    bodyPre m c t ⊢ wp frame (wpE (defs₀ (F := F)) Variants.none c none) Set.univ (bodyAt0 t) (fun _ => bodyPost m c t) := by
  unfold bodyPre
  simp only [before_0, before_1, before_2, before_3, before_4, before_5, before_6]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_at m c t ((dats m 0 c).before 7 t d7) ((dats m 0 c).before 8 t d8) ((dats m 0 c).before 9 t d9) ((dats m 0 c).before 10 t d10) (outsAt_before m c t d7 d8 d9 d10))
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch and the frame -/

set_option backward.isDefEq.respectTransparency.types false in
/-- Every execution ends with every array at what the proof data says and every counter zero. -/
theorem run_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_shared (Q' := _) cfgs (dats m) (0 : Fin 1) launch₀0 defs₀ Variants.none m ρ main
    (hbody := fun c => (body_obligation m c).loose) (hq := fun _ _ _ => rfl) (howed := fun _ _ => rfl) (V₀ := V0 m) (opss := [hostOps1])
    (hsub := sfx_sub) (hfresh := sfx_fresh) (hkeep := sfx_keeps) (hmain := hmain m Variants.none) (hA := A_eq m) (hΦ := fun _ _ => rfl)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiescent m ρ)

/-- The frame: the arguments end as launched, every counter zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiescent m ρ))

end Cert.SbIdeal.Sb

end
-- ==== Proof.SbSpec.lean ====
/-
  The real arithmetic of the stick-breaking attention's gradient on one tile of 512 stacked query rows (256 positions of
  two heads, one below the other) against 256 keys: the softplus of the scores, the weights that the suffix sums leave,
  their gradients, and the arrays of reals as arrays of extended reals.
-/
module

public import Idealize.ShloMosaic.Lib.Pointwise

@[expose] public section

set_option maxRecDepth 16384

noncomputable section

open Idealize.ShloMosaic

namespace Cert.SbIdeal.Sb

/-! ### Reals as extended reals -/

/-- A finite sum of reals, read as an extended real, is the sum of the extended reals. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem coe_max (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

theorem coe_ite (p : Prop) [Decidable p] (a b : ℝ) :
    (if p then (a : EReal) else (b : EReal)) = ((if p then a else b : ℝ) : EReal) := by
  split <;> rfl

/-- A matrix of reals as an array of extended reals, at any float type. -/
def up (φ : FTy) {m n : ℕ} (f : Fin m → Fin n → ℝ) : FVec Ideal ⟨2, ![m, n]⟩ φ := fun i => ((f (i 0) (i 1) : ℝ) : EReal)

/-- A matrix of truth values as an array of one-bit words. -/
def bits {m n : ℕ} (p : Fin m → Fin n → Bool) : IVec ⟨2, ![m, n]⟩ 1 := fun i => BitVec.ofBool (p (i 0) (i 1))

/-! ### The softplus and its derivative -/

/-- The softplus. -/
def sp (z : ℝ) : ℝ := Real.log (1 + Real.exp z)

/-- The logistic function. -/
def sig (z : ℝ) : ℝ := Real.exp z / (1 + Real.exp z)

theorem sp_stable (z : ℝ) : max z 0 + Real.log (1 + Real.exp (-|z|)) = sp z := by
  unfold sp
  rcases le_total 0 z with h | h
  · rw [max_eq_left h, abs_of_nonneg h]
    have e : 1 + Real.exp z = Real.exp z * (1 + Real.exp (-z)) := by
      rw [mul_add, ← Real.exp_add]; simp [add_comm]
    rw [e, Real.log_mul (Real.exp_ne_zero _) (by positivity), Real.log_exp]
  · rw [max_eq_right h, abs_of_nonpos h, neg_neg, zero_add]

theorem sig_stable (z : ℝ) : (if 0 ≤ z then 1 else Real.exp (-|z|)) * (1 / (1 + Real.exp (-|z|))) = sig z := by
  unfold sig
  rcases le_or_gt 0 z with h | h
  · rw [if_pos h, abs_of_nonneg h]
    have e : 1 + Real.exp z = Real.exp z * (1 + Real.exp (-z)) := by
      rw [mul_add, ← Real.exp_add]; simp [add_comm]
    rw [e, one_mul, div_mul_eq_div_div, div_self (Real.exp_ne_zero _)]
  · rw [if_neg (not_le.2 h), abs_of_neg h, neg_neg, mul_one_div]

/-! ### One tile -/

section Tile

variable (M : Fin 512 → Fin 256 → Bool)
variable (qq dd : Fin 512 → Fin 128 → ℝ) (kb vb : Fin 256 → Fin 128 → ℝ) (rem er : Fin 512 → Fin 1 → ℝ)

/-- A row of the left times a row of the right: the scores, and the gradients of the weights. -/
def prod (s : Fin 512) (k : Fin 256) : ℝ := ∑ l : Fin 128, qq s l * kb k l

/-- The masked softplus of the scores. -/
def tsp (s : Fin 512) (k : Fin 256) : ℝ := if M s k then sp (prod qq kb s k) else 0

/-- What is left of a row's sum of softpluses behind the tile. -/
def trem (s : Fin 512) (o : Fin 1) : ℝ := rem s o - ∑ k, tsp M qq kb s k

/-- The weights of the tile. -/
def tw (s : Fin 512) (k : Fin 256) : ℝ :=
  if M s k then Real.exp (prod qq kb s k - (∑ l, tsp M qq kb s l * (if k ≤ l then 1 else 0)) - trem M qq kb rem s 0) else 0

/-- The weights times their gradients. -/
def te (s : Fin 512) (k : Fin 256) : ℝ := tw M qq kb rem s k * prod dd vb s k

/-- The running sum of a row behind the tile. -/
def ter (s : Fin 512) (o : Fin 1) : ℝ := er s o + ∑ k, te M qq dd kb vb rem s k

/-- The gradients of the scores. -/
def tdz (s : Fin 512) (k : Fin 256) : ℝ :=
  if M s k then te M qq dd kb vb rem s k
    - sig (prod qq kb s k) * (er s 0 + ∑ l, te M qq dd kb vb rem s l * (if l ≤ k then 1 else 0)) else 0

end Tile

/-- Row `p` of the stack's upper or lower half, by the lane's head. -/
def half (p : Fin 256) (l : Fin 128) : Fin 512 := if l.val < 64 then ⟨p.val, by omega⟩ else ⟨256 + p.val, by omega⟩

/-- The tile's part of the gradient of the queries, each lane read of its own head's rows. -/
def tdq (dz : Fin 512 → Fin 256 → ℝ) (kb : Fin 256 → Fin 128 → ℝ) (dq : Fin 256 → Fin 128 → ℝ) (p : Fin 256) (l : Fin 128) : ℝ :=
  dq p l + ∑ k, dz (half p l) k * kb k l

/-- The tile's part of the gradient of the keys or of the values: the stack's rows summed. -/
def tacc (dz : Fin 512 → Fin 256 → ℝ) (q : Fin 512 → Fin 128 → ℝ) (dk : Fin 256 → Fin 128 → ℝ) (k : Fin 256) (l : Fin 128) : ℝ :=
  dk k l + ∑ s, dz s k * q s l

/-! ### A query block's stacks -/

/-- A block of two heads stacked, each head's rows with the other head's lanes cleared. -/
def stack (f : Fin 256 → Fin 128 → ℝ) (s : Fin 512) (l : Fin 128) : ℝ :=
  if h : s.val < 256 then (if l.val < 64 then f ⟨s.val, h⟩ l else 0) else (if l.val < 64 then 0 else f ⟨s.val - 256, by omega⟩ l)

/-- The two outer lanes of a block, one below the other. -/
def ends (f : Fin 256 → Fin 128 → ℝ) (s : Fin 512) (_ : Fin 1) : ℝ :=
  if h : s.val < 256 then f ⟨s.val, h⟩ 0 else f ⟨s.val - 256, by omega⟩ 127

/-- A row's sum over the lanes of a lane's head. -/
def hsum (f : Fin 256 → Fin 128 → ℝ) (p : Fin 256) (l : Fin 128) : ℝ :=
  if l.val < 64 then ∑ k : Fin 128, (if k.val < 64 then f p k else 0) else ∑ k : Fin 128, (if k.val < 64 then 0 else f p k)

/-- The norm's small summand. -/
def eps : ℝ := 8796093 / 8796093022208

variable (o c : Fin 256 → Fin 128 → ℝ) (g : Fin 1 → Fin 128 → ℝ)

/-- The reciprocal root of a head's mean square. -/
def rs (p : Fin 256) (l : Fin 128) : ℝ := (Real.sqrt (hsum (fun p l => o p l * o p l) p l * (1 / 64) + eps))⁻¹

/-- The gradient of the read-out, behind the norm. -/
def dob (p : Fin 256) (l : Fin 128) : ℝ :=
  rs o p l * (c p l * g 0 l - o p l * rs o p l * (hsum (fun p l => c p l * g 0 l * (o p l * rs o p l)) p l * (1 / 64)))

/-- The gain's gradient, summed over a block's rows onto what was there. -/
def dgb (d : Fin 1 → Fin 128 → ℝ) (z : Fin 1) (l : Fin 128) : ℝ := d z l + ∑ p, c p l * (o p l * rs o p l)

end Cert.SbIdeal.Sb
-- ==== Proof.SbSums.lean ====
/-
  The walk of one block of queries over the tiles of keys, as prefix sums: what the remainder, the running sum and the
  accumulators are before each tile, and that one tile takes them to the next.
-/
module

public import proofs.«01_k».proof.Proof.SbSpec

@[expose] public section

set_option maxRecDepth 16384

noncomputable section

namespace Cert.SbIdeal.Sb

open Finset

/-! ### Sums over a tile's positions -/

theorem sum_fin_tile {α : Type} [AddCommMonoid α] (f : ℕ → α) (j : ℕ) :
    ∑ J ∈ range (256 * j), f J + ∑ k : Fin 256, f (256 * j + k.val) = ∑ J ∈ range (256 * (j + 1)), f J := by
  rw [show 256 * (j + 1) = 256 * j + 256 by ring, sum_range_add, Fin.sum_univ_eq_sum_range (fun k => f (256 * j + k))]

theorem sum_fin_upto (f : ℕ → ℝ) (j : ℕ) (k : Fin 256) :
    ∑ J ∈ range (256 * j), f J + ∑ l : Fin 256, f (256 * j + l.val) * (if l ≤ k then 1 else 0) = ∑ J ∈ range (256 * j + k.val + 1), f J := by
  rw [show 256 * j + k.val + 1 = 256 * j + (k.val + 1) by ring, sum_range_add]
  congr 1
  have h := k.isLt
  have e : ∀ l : Fin 256, f (256 * j + l.val) * (if l ≤ k then (1 : ℝ) else 0) = (fun l : ℕ => if l < k.val + 1 then f (256 * j + l) else 0) l.val := by
    intro l
    by_cases hl : l ≤ k
    · simp only [if_pos hl, mul_one]; rw [if_pos (Nat.lt_succ_of_le hl)]
    · simp only [if_neg hl, mul_zero]; rw [if_neg (fun h' => hl (Nat.le_of_lt_succ h'))]
  rw [sum_congr rfl fun l _ => e l, Fin.sum_univ_eq_sum_range (fun l : ℕ => if l < k.val + 1 then f (256 * j + l) else 0), ← sum_filter]
  congr 1
  ext l
  simp only [mem_filter, mem_range]
  omega

theorem sum_fin_from (f : ℕ → ℝ) (j : ℕ) (k : Fin 256) :
    ∑ J ∈ range (256 * j), f J + ∑ l : Fin 256, f (256 * j + l.val) - ∑ l : Fin 256, f (256 * j + l.val) * (if k ≤ l then 1 else 0)
      = ∑ J ∈ range (256 * j + k.val), f J := by
  rw [sum_range_add, add_sub_assoc, ← sum_sub_distrib]
  congr 1
  have h := k.isLt
  have e : ∀ l : Fin 256, f (256 * j + l.val) - f (256 * j + l.val) * (if k ≤ l then (1 : ℝ) else 0) = (fun l : ℕ => if l < k.val then f (256 * j + l) else 0) l.val := by
    intro l
    by_cases hl : k ≤ l
    · simp only [if_pos hl, mul_one, sub_self]; exact (if_neg (by have : k.val ≤ l.val := hl; omega)).symm
    · simp only [if_neg hl, mul_zero, sub_zero]; exact (if_pos (by have : l.val < k.val := not_le.1 hl; omega)).symm
  rw [sum_congr rfl fun l _ => e l, Fin.sum_univ_eq_sum_range (fun l : ℕ => if l < k.val then f (256 * j + l) else 0), ← sum_filter]
  congr 1
  ext l
  simp only [mem_filter, mem_range]
  omega

/-! ### One block of queries against all the keys -/

section Walk

/-- A position's key is seen from the stacked row `s` of query block `q`. -/
abbrev Seen (q : ℕ) (s : Fin 512) (J : ℕ) : Prop := J < 256 * q + s.val % 256 ∧ 240 ≤ J

variable (q : ℕ) (Q D : Fin 512 → Fin 128 → ℝ) (K V : ℕ → Fin 128 → ℝ) (ct : Fin 512 → Fin 1 → ℝ)

/-- The score of a row and a position. -/
def wZ (s : Fin 512) (J : ℕ) : ℝ := ∑ l, Q s l * K J l

/-- The softplus of the score where the key is seen. -/
def wsp (s : Fin 512) (J : ℕ) : ℝ := if Seen q s J then sp (wZ Q K s J) else 0

/-- The weight of a position. -/
def ww (s : Fin 512) (J : ℕ) : ℝ :=
  if Seen q s J then Real.exp (wZ Q K s J - (ct s 0 - ∑ I ∈ range J, wsp q Q K s I)) else 0

/-- The weight times its gradient. -/
def we (s : Fin 512) (J : ℕ) : ℝ := ww q Q K ct s J * wZ D V s J

/-- The gradient of the score. -/
def wdz (s : Fin 512) (J : ℕ) : ℝ :=
  if Seen q s J then we q Q D K V ct s J - sig (wZ Q K s J) * ∑ I ∈ range (J + 1), we q Q D K V ct s I else 0

/-- The queries' gradient over the first `t` tiles. -/
def wdq (t : ℕ) (p : Fin 256) (l : Fin 128) : ℝ := ∑ J ∈ range (256 * t), wdz q Q D K V ct (half p l) J * K J l

/-- What is left of the softpluses behind `t` tiles. -/
def wrem (t : ℕ) (s : Fin 512) (o : Fin 1) : ℝ := ct s o - ∑ J ∈ range (256 * t), wsp q Q K s J

/-- The running sum behind `t` tiles. -/
def wer (t : ℕ) (s : Fin 512) (_ : Fin 1) : ℝ := ∑ J ∈ range (256 * t), we q Q D K V ct s J

/-- An accumulator behind `t` tiles: every position of them has its column's sum added. -/
def wacc (x : Fin 512 → ℕ → ℝ) (y : Fin 512 → Fin 128 → ℝ) (t : ℕ) (a : ℕ → Fin 128 → ℝ) (J : ℕ) (l : Fin 128) : ℝ :=
  a J l + if J < 256 * t then ∑ s, x s J * y s l else 0

/-- A tile's rows of a sequence. -/
abbrev tile (a : ℕ → Fin 128 → ℝ) (j : ℕ) (k : Fin 256) (l : Fin 128) : ℝ := a (256 * j + k.val) l

variable (M : Fin 512 → Fin 256 → Bool) (j : ℕ) (hM : ∀ s k, M s k = decide (Seen q s (256 * j + k.val)))
include hM

theorem tsp_eq (s : Fin 512) (k : Fin 256) : tsp M Q (tile K j) s k = wsp q Q K s (256 * j + k.val) := by
  unfold tsp wsp
  simp only [hM, decide_eq_true_eq]; rfl

theorem trem_eq : trem M Q (tile K j) (wrem q Q K ct j) = wrem q Q K ct (j + 1) := by
  funext s o
  unfold trem wrem
  simp only [tsp_eq q Q K M j hM]
  rw [← sum_fin_tile]; ring

theorem tw_eq (s : Fin 512) (k : Fin 256) : tw M Q (tile K j) (wrem q Q K ct j) s k = ww q Q K ct s (256 * j + k.val) := by
  unfold tw ww
  rw [trem_eq q Q K ct M j hM]
  simp only [hM, decide_eq_true_eq, tsp_eq q Q K M j hM]
  unfold wrem
  rw [← sum_fin_tile, ← sum_fin_from]
  congr 2
  show _ = wZ Q K s _ - _
  have : prod Q (tile K j) s k = wZ Q K s (256 * j + k.val) := rfl
  rw [this]; ring

theorem te_eq (s : Fin 512) (k : Fin 256) : te M Q D (tile K j) (tile V j) (wrem q Q K ct j) s k = we q Q D K V ct s (256 * j + k.val) := by
  unfold te we
  rw [tw_eq q Q K ct M j hM]; rfl

theorem ter_eq : ter M Q D (tile K j) (tile V j) (wrem q Q K ct j) (wer q Q D K V ct j) = wer q Q D K V ct (j + 1) := by
  funext s o
  unfold ter wer
  simp only [te_eq q Q D K V ct M j hM]
  rw [sum_fin_tile (fun J => we q Q D K V ct s J)]

theorem tdz_eq (s : Fin 512) (k : Fin 256) :
    tdz M Q D (tile K j) (tile V j) (wrem q Q K ct j) (wer q Q D K V ct j) s k = wdz q Q D K V ct s (256 * j + k.val) := by
  unfold tdz wdz
  simp only [hM, decide_eq_true_eq, te_eq q Q D K V ct M j hM]
  unfold wer
  rw [sum_fin_upto (fun J => we q Q D K V ct s J)]
  rfl

theorem tdq_eq : tdq (tdz M Q D (tile K j) (tile V j) (wrem q Q K ct j) (wer q Q D K V ct j)) (tile K j) (wdq q Q D K V ct j)
    = wdq q Q D K V ct (j + 1) := by
  funext p l
  unfold tdq wdq
  simp only [tdz_eq q Q D K V ct M j hM]
  rw [sum_fin_tile (fun J => wdz q Q D K V ct (half p l) J * K J l)]

omit hM in
/-- A tile's rows of an accumulator, after the tile. -/
theorem tacc_eq (x : Fin 512 → ℕ → ℝ) (y : Fin 512 → Fin 128 → ℝ) (a : ℕ → Fin 128 → ℝ) (J : ℕ) (l : Fin 128) :
    (if h : 256 * j ≤ J ∧ J < 256 * j + 256 then tacc (fun s k => x s (256 * j + k.val)) y (tile (wacc x y j a) j) ⟨J - 256 * j, by omega⟩ l
      else wacc x y j a J l) = wacc x y (j + 1) a J l := by
  unfold tacc wacc tile
  split
  · rename_i h
    have e : 256 * j + (J - 256 * j) = J := by omega
    simp only [e]
    rw [if_neg (by omega), if_pos (by omega)]; ring
  · by_cases h1 : J < 256 * j
    · rw [if_pos h1, if_pos (by omega)]
    · rw [if_neg h1, if_neg (by omega)]

end Walk

end Cert.SbIdeal.Sb
-- ==== Proof.SbGrad.lean ====
/-
  The gradient of the stick-breaking attention with its heads' norm over the padded positions, as sums of reals, and that
  the blocks' walk computes it: a stacked row is one head's query, and the lanes of a pair of heads are two heads' columns.
-/
module

public import proofs.«01_k».proof.Proof.SbSums

@[expose] public section

set_option maxRecDepth 16384

noncomputable section

namespace Cert.SbIdeal.Sb

open Finset

/-! ### The gradient -/

section Grad

/-- The key `J` is before the query `I` and no padding. -/
abbrev Vis (I J : ℕ) : Prop := J < I ∧ 240 ≤ J

variable (q k v c : ℕ → ℕ → ℝ) (g : ℕ → ℝ) (h : ℕ)

/-- The score of a query and a key. -/
def gz (I J : ℕ) : ℝ := (∑ d : Fin 64, q I (64 * h + d.val) * k J (64 * h + d.val)) * (1 / 8)

/-- The softplus of the score of a key that is seen. -/
def gsp (I J : ℕ) : ℝ := if Vis I J then sp (gz q k h I J) else 0

/-- The weight of a key. -/
def gw (I J : ℕ) : ℝ := if Vis I J then Real.exp (gz q k h I J - ∑ L ∈ Ico J 16640, gsp q k h I L) else 0

/-- The read-out. -/
def go (I d : ℕ) : ℝ := ∑ J ∈ range 16640, gw q k h I J * v J (64 * h + d)

/-- The reciprocal root of the read-out's mean square. -/
def grs (I : ℕ) : ℝ := (Real.sqrt ((∑ d : Fin 64, go q k v h I d.val * go q k v h I d.val) * (1 / 64) + eps))⁻¹

/-- The gradient of the read-out. -/
def gdo (I d : ℕ) : ℝ :=
  grs q k v h I * (c I (64 * h + d) * g d - go q k v h I d * grs q k v h I
    * ((∑ d' : Fin 64, c I (64 * h + d'.val) * g d'.val * (go q k v h I d'.val * grs q k v h I)) * (1 / 64)))

/-- A weight times its gradient. -/
def ge (I J : ℕ) : ℝ := gw q k h I J * ∑ d : Fin 64, gdo q k v c g h I d.val * v J (64 * h + d.val)

/-- The gradient of a score. -/
def gdz (I J : ℕ) : ℝ :=
  if Vis I J then ge q k v c g h I J - sig (gz q k h I J) * ∑ L ∈ range (J + 1), ge q k v c g h I L else 0

/-- The gradients of the queries, the keys, the values and the gain. -/
def gdq (I d : ℕ) : ℝ := (∑ J ∈ range 16640, gdz q k v c g h I J * k J (64 * h + d)) * (1 / 8)
def gdk (J d : ℕ) : ℝ := ∑ I ∈ range 16640, gdz q k v c g h I J * (q I (64 * h + d) * (1 / 8))
def gdv (J d : ℕ) : ℝ := ∑ I ∈ range 16640, gw q k h I J * gdo q k v c g h I d
def ggn (d : ℕ) : ℝ := ∑ I ∈ range 16640, c I (64 * h + d) * (go q k v h I d * grs q k v h I)

theorem gdz_late (I J : ℕ) (hJ : I ≤ J) : gdz q k v c g h I J = 0 := if_neg (by unfold Vis; omega)
theorem gw_late (I J : ℕ) (hJ : I ≤ J) : gw q k h I J = 0 := if_neg (by unfold Vis; omega)

end Grad

/-! ### A pair's lanes and the stacked rows -/

/-- Lane `d` of the head `b` of a pair. -/
def lane (b : ℕ) (d : Fin 64) : Fin 128 := ⟨(64 * b + d.val) % 128, Nat.mod_lt _ (by omega)⟩

/-- The query's row of a stacked row. -/
def qrow (s : Fin 512) : Fin 256 := ⟨s.val % 256, Nat.mod_lt _ (by omega)⟩

theorem stack_eq (f : Fin 256 → Fin 128 → ℝ) (s : Fin 512) (l : Fin 128) :
    stack f s l = if l.val / 64 = s.val / 256 then f (qrow s) l else 0 := by
  unfold stack qrow
  have := s.isLt
  have := l.isLt
  by_cases h : s.val < 256
  · rw [dif_pos h]
    have e : (⟨s.val, h⟩ : Fin 256) = ⟨s.val % 256, Nat.mod_lt _ (by omega)⟩ := Fin.ext (Nat.mod_eq_of_lt h).symm
    rw [e]
    by_cases hl : l.val < 64
    · rw [if_pos hl, if_pos (by omega)]
    · rw [if_neg hl, if_neg (by omega)]
  · rw [dif_neg h]
    have e : (⟨s.val - 256, by omega⟩ : Fin 256) = ⟨s.val % 256, Nat.mod_lt _ (by omega)⟩ := Fin.ext (by show s.val - 256 = s.val % 256; omega)
    rw [e]
    by_cases hl : l.val < 64
    · rw [if_pos hl, if_neg (by omega)]
    · rw [if_neg hl, if_pos (by omega)]

/-- A sum over the lanes of one head. -/
theorem sum_lane (b : ℕ) (hb : b < 2) (f : Fin 128 → ℝ) :
    ∑ l : Fin 128, (if l.val / 64 = b then f l else 0) = ∑ d : Fin 64, f (lane b d) := by
  rw [← sum_filter]
  refine (sum_bij (fun d _ => lane b d) ?_ ?_ ?_ ?_).symm
  · intro d _
    have := d.isLt
    simp only [mem_filter, mem_univ, true_and, lane]; omega
  · intro d _ e _ he
    have := d.isLt; have := e.isLt
    have := congrArg Fin.val he
    simp only [lane] at this
    apply Fin.ext; omega
  · intro l hl
    have := l.isLt
    simp only [mem_filter, mem_univ, true_and] at hl
    exact ⟨⟨l.val % 64, by omega⟩, mem_univ _, Fin.ext (by simp only [lane]; omega)⟩
  · intro _ _; rfl

theorem stack_sum (f : Fin 256 → Fin 128 → ℝ) (y : Fin 128 → ℝ) (s : Fin 512) :
    ∑ l, stack f s l * y l = ∑ d : Fin 64, f (qrow s) (lane (s.val / 256) d) * y (lane (s.val / 256) d) := by
  have := s.isLt
  rw [← sum_lane (s.val / 256) (by omega) (fun l => f (qrow s) l * y l)]
  refine sum_congr rfl fun l _ => ?_
  rw [stack_eq]
  split
  · rfl
  · rw [zero_mul]

theorem hsum_eq (f : Fin 256 → Fin 128 → ℝ) (p : Fin 256) (l : Fin 128) : hsum f p l = ∑ d : Fin 64, f p (lane (l.val / 64) d) := by
  have := l.isLt
  rw [← sum_lane (l.val / 64) (by omega) (fun k => f p k)]
  unfold hsum
  by_cases h : l.val < 64
  · rw [if_pos h]
    refine sum_congr rfl fun k _ => ?_
    have := k.isLt
    by_cases hk : k.val < 64
    · rw [if_pos hk, if_pos (by omega)]
    · rw [if_neg hk, if_neg (by omega)]
  · rw [if_neg h]
    refine sum_congr rfl fun k _ => ?_
    have := k.isLt
    by_cases hk : k.val < 64
    · rw [if_pos hk, if_neg (by omega)]
    · rw [if_neg hk, if_pos (by omega)]

theorem half_div (p : Fin 256) (l : Fin 128) : (half p l).val / 256 = l.val / 64 := by
  have := p.isLt; have := l.isLt
  unfold half
  split <;> simp only <;> omega
theorem half_row (p : Fin 256) (l : Fin 128) : qrow (half p l) = p := by
  have := p.isLt; have := l.isLt
  apply Fin.ext
  unfold half qrow
  split <;> simp only <;> omega
theorem half_mod (p : Fin 256) (l : Fin 128) : (half p l).val % 256 = p.val := congrArg Fin.val (half_row p l)

/-- A sum over the stacked rows takes one row per query: the lane's head's. -/
theorem sum_stack (x : Fin 512 → ℝ) (f : Fin 256 → Fin 128 → ℝ) (l : Fin 128) :
    ∑ s, x s * stack f s l = ∑ p, x (half p l) * f p l := by
  have hl := l.isLt
  have e : ∀ s : Fin 512, x s * stack f s l = if l.val / 64 = s.val / 256 then x s * f (qrow s) l else 0 := by
    intro s; rw [stack_eq]; split
    · rfl
    · rw [mul_zero]
  rw [sum_congr rfl fun s _ => e s, ← sum_filter]
  refine (sum_bij (fun p _ => half p l) ?_ ?_ ?_ ?_).symm
  · intro p _
    simp only [mem_filter, mem_univ, true_and, half_div]
  · intro p _ p' _ he
    rw [← half_row p l, he, half_row]
  · intro s hs
    have := s.isLt
    simp only [mem_filter, mem_univ, true_and] at hs
    refine ⟨qrow s, mem_univ _, Fin.ext ?_⟩
    unfold half qrow
    split <;> simp only <;> omega
  · intro p _; rw [half_row]

/-! ### The walk computes the gradient -/

section Walked

variable (q k v c : ℕ → ℕ → ℝ) (g : ℕ → ℝ) (P n : ℕ) (hn : n < 65)

/-- The blocks of pair `P` and query block `n`. -/
def bq (p : Fin 256) (l : Fin 128) : ℝ := q (256 * n + p.val) (128 * P + l.val)
def bk (J : ℕ) (l : Fin 128) : ℝ := k J (128 * P + l.val)
def bo (p : Fin 256) (l : Fin 128) : ℝ := go q k v (2 * P + l.val / 64) (256 * n + p.val) (l.val % 64)
def bt (p : Fin 256) (l : Fin 128) : ℝ := ∑ J ∈ range 16640, gsp q k (2 * P + l.val / 64) (256 * n + p.val) J
def bg (_ : Fin 1) (l : Fin 128) : ℝ := g (l.val % 64)

theorem lane_col (b : ℕ) (hb : b < 2) (d : Fin 64) : 128 * P + (lane b d).val = 64 * (2 * P + b) + d.val := by
  have := d.isLt; simp only [lane]; omega
theorem lane_div (b : ℕ) (hb : b < 2) (d : Fin 64) : (lane b d).val / 64 = b := by
  have := d.isLt; simp only [lane]; omega
theorem lane_mod (b : ℕ) (d : Fin 64) : (lane b d).val % 64 = d.val := by
  have := d.isLt; simp only [lane]; omega

abbrev Qs : Fin 512 → Fin 128 → ℝ := stack fun p l => bq q P n p l * (1 / 8)
abbrev Ds : Fin 512 → Fin 128 → ℝ := stack (dob (bo q k v P n) (bq c P n) (bg g))

theorem wZ_gz (s : Fin 512) (J : ℕ) : wZ (Qs q P n) (bk k P) s J = gz q k (2 * P + s.val / 256) (256 * n + s.val % 256) J := by
  have := s.isLt
  unfold wZ gz Qs
  rw [stack_sum, sum_mul]
  refine sum_congr rfl fun d _ => ?_
  unfold bq bk qrow
  rw [lane_col P _ (by omega)]; ring

theorem wsp_gsp (s : Fin 512) (J : ℕ) : wsp n (Qs q P n) (bk k P) s J = gsp q k (2 * P + s.val / 256) (256 * n + s.val % 256) J := by
  unfold wsp gsp
  rw [wZ_gz]

include hn in
theorem ww_gw (s : Fin 512) (J : ℕ) :
    ww n (Qs q P n) (bk k P) (ends (bt q k P n)) s J = gw q k (2 * P + s.val / 256) (256 * n + s.val % 256) J := by
  have hs := s.isLt
  unfold ww gw
  rw [wZ_gz]
  by_cases h : Seen n s J
  · rw [if_pos h, if_pos h]
    have e : ends (bt q k P n) s 0 = ∑ J ∈ range 16640, gsp q k (2 * P + s.val / 256) (256 * n + s.val % 256) J := by
      unfold ends bt
      split
      · rename_i hh
        simp only
        rw [show s.val / 256 = 0 by omega, show s.val % 256 = s.val by omega]; rfl
      · rename_i hh
        simp only
        rw [show s.val / 256 = 1 by omega, show s.val % 256 = s.val - 256 by omega]; rfl
    have e2 : ∑ I ∈ range J, wsp n (Qs q P n) (bk k P) s I = ∑ I ∈ range J, gsp q k (2 * P + s.val / 256) (256 * n + s.val % 256) I :=
      sum_congr rfl fun I _ => wsp_gsp q k P n s I
    rw [e, e2, ← sum_range_add_sum_Ico _ (show J ≤ 16640 by unfold Seen at h; omega), add_sub_cancel_left]
  · rw [if_neg h, if_neg h]

theorem rs_grs (p : Fin 256) (l : Fin 128) : rs (bo q k v P n) p l = grs q k v (2 * P + l.val / 64) (256 * n + p.val) := by
  have := l.isLt
  unfold rs grs
  rw [hsum_eq]
  simp only [bo, lane_div _ (show l.val / 64 < 2 by omega), lane_mod]

theorem dob_gdo (p : Fin 256) (l : Fin 128) : dob (bo q k v P n) (bq c P n) (bg g) p l
    = gdo q k v c g (2 * P + l.val / 64) (256 * n + p.val) (l.val % 64) := by
  have := l.isLt
  unfold dob gdo
  rw [hsum_eq, rs_grs]
  simp only [rs_grs, bo, bq, bg, lane_div _ (show l.val / 64 < 2 by omega), lane_mod, lane_col P _ (show l.val / 64 < 2 by omega)]
  rw [show 128 * P + l.val = 64 * (2 * P + l.val / 64) + l.val % 64 by omega]

theorem wZ_gdo (s : Fin 512) (J : ℕ) : wZ (Ds q k v c g P n) (bk v P) s J
    = ∑ d : Fin 64, gdo q k v c g (2 * P + s.val / 256) (256 * n + s.val % 256) d.val * v J (64 * (2 * P + s.val / 256) + d.val) := by
  have := s.isLt
  unfold wZ Ds
  rw [stack_sum]
  refine sum_congr rfl fun d _ => ?_
  rw [dob_gdo, lane_div _ (by omega), lane_mod]
  unfold bk qrow
  rw [lane_col P _ (by omega)]

include hn in
theorem we_ge (s : Fin 512) (J : ℕ) : we n (Qs q P n) (Ds q k v c g P n) (bk k P) (bk v P) (ends (bt q k P n)) s J
    = ge q k v c g (2 * P + s.val / 256) (256 * n + s.val % 256) J := by
  unfold we ge
  rw [ww_gw q k P n hn, wZ_gdo]

include hn in
theorem wdz_gdz (s : Fin 512) (J : ℕ) : wdz n (Qs q P n) (Ds q k v c g P n) (bk k P) (bk v P) (ends (bt q k P n)) s J
    = gdz q k v c g (2 * P + s.val / 256) (256 * n + s.val % 256) J := by
  unfold wdz gdz
  simp only [we_ge q k v c g P n hn, wZ_gz]

/-- A sum over the keys before the block's end has all the terms. -/
theorem sum_upto (f : ℕ → ℝ) (M N : ℕ) (hMN : M ≤ N) (h0 : ∀ J, M ≤ J → f J = 0) : ∑ J ∈ range M, f J = ∑ J ∈ range N, f J := by
  rw [← sum_range_add_sum_Ico _ hMN, sum_eq_zero (s := Ico M N), add_zero]
  intro J hJ
  exact h0 J (mem_Ico.1 hJ).1

include hn in
/-- The queries' gradient of the block. -/
theorem wdq_gdq (p : Fin 256) (l : Fin 128) :
    wdq n (Qs q P n) (Ds q k v c g P n) (bk k P) (bk v P) (ends (bt q k P n)) (n + 1) p l * (1 / 8)
      = gdq q k v c g (2 * P + l.val / 64) (256 * n + p.val) (l.val % 64) := by
  have := l.isLt
  have hp := p.isLt
  unfold wdq gdq
  refine congrArg (fun a : ℝ => a * (1 / 8)) ?_
  simp only [wdz_gdz q k v c g P n hn, half_div, half_mod]
  unfold bk
  rw [show 128 * P + l.val = 64 * (2 * P + l.val / 64) + l.val % 64 by omega]
  exact sum_upto (fun J => gdz q k v c g (2 * P + l.val / 64) (256 * n + p.val) J * k J (64 * (2 * P + l.val / 64) + l.val % 64))
    (256 * (n + 1)) 16640 (by omega) fun J hJ => by simp only [gdz_late q k v c g _ _ J (show 256 * n + p.val ≤ J by omega), zero_mul]

/-- The keys' and the values' gradients after `n` blocks of queries. -/
def dkAt (J : ℕ) (l : Fin 128) : ℝ :=
  ∑ I ∈ range (256 * n), gdz q k v c g (2 * P + l.val / 64) I J * (q I (128 * P + l.val) * (1 / 8))
def dvAt (J : ℕ) (l : Fin 128) : ℝ :=
  ∑ I ∈ range (256 * n), gw q k (2 * P + l.val / 64) I J * gdo q k v c g (2 * P + l.val / 64) I (l.val % 64)

/-- One block more: the accumulator's columns are the block's rows' terms, nothing behind the block. -/
theorem wacc_step (x : Fin 512 → ℕ → ℝ) (f : Fin 256 → Fin 128 → ℝ) (F : Fin 128 → ℕ → ℕ → ℝ)
    (hF : ∀ p l J, x (half p l) J * f p l = F l (256 * n + p.val) J) (h0 : ∀ l I J, I ≤ J → F l I J = 0) :
    wacc x (stack f) (n + 1) (fun J l => ∑ I ∈ range (256 * n), F l I J) = fun J l => ∑ I ∈ range (256 * (n + 1)), F l I J := by
  funext J l
  unfold wacc
  rw [← sum_fin_tile (fun I => F l I J)]
  congr 1
  by_cases h : J < 256 * (n + 1)
  · rw [if_pos h, sum_stack]
    exact sum_congr rfl fun p _ => hF p l J
  · rw [if_neg h]
    exact (sum_eq_zero fun p _ => h0 l _ J (by have := p.isLt; omega)).symm

include hn in
theorem dk_step : wacc (wdz n (Qs q P n) (Ds q k v c g P n) (bk k P) (bk v P) (ends (bt q k P n))) (Qs q P n) (n + 1) (dkAt q k v c g P n)
    = dkAt q k v c g P (n + 1) :=
  wacc_step n _ _ (fun l I J => gdz q k v c g (2 * P + l.val / 64) I J * (q I (128 * P + l.val) * (1 / 8)))
    (fun p l J => by rw [wdz_gdz q k v c g P n hn, half_div, half_mod]; rfl)
    (fun l I J hJ => by simp only [gdz_late q k v c g _ I J hJ, zero_mul])

include hn in
theorem dv_step : wacc (ww n (Qs q P n) (bk k P) (ends (bt q k P n))) (Ds q k v c g P n) (n + 1) (dvAt q k v c g P n)
    = dvAt q k v c g P (n + 1) :=
  wacc_step n _ _ (fun l I J => gw q k (2 * P + l.val / 64) I J * gdo q k v c g (2 * P + l.val / 64) I (l.val % 64))
    (fun p l J => by rw [ww_gw q k P n hn, half_div, half_mod, dob_gdo])
    (fun l I J hJ => by simp only [gw_late q k _ I J hJ, zero_mul])

/-- A block's part of the gain's gradient, lane by lane. -/
def gnPart (l : Fin 128) : ℝ := ∑ p : Fin 256, bq c P n p l * (bo q k v P n p l * grs q k v (2 * P + l.val / 64) (256 * n + p.val))

theorem dgb_eq (d : Fin 1 → Fin 128 → ℝ) : dgb (bo q k v P n) (bq c P n) d = fun z l => d z l + gnPart q k v c P n l := by
  funext z l
  unfold dgb gnPart
  simp only [rs_grs]

/-- A pair's blocks' parts are the head's sum over all positions. -/
theorem sum_gnPart (l : Fin 128) : ∑ n ∈ range 65, gnPart q k v c P n l = ggn q k v c (2 * P + l.val / 64) (l.val % 64) := by
  have hl := l.isLt
  have e : ∀ N, ∑ n ∈ range N, gnPart q k v c P n l = ∑ I ∈ range (256 * N), c I (128 * P + l.val)
      * (go q k v (2 * P + l.val / 64) I (l.val % 64) * grs q k v (2 * P + l.val / 64) I) := by
    intro N
    induction N with
    | zero => simp
    | succ N ih =>
      rw [sum_range_succ, ih, ← sum_fin_tile]
      rfl
  rw [e]
  unfold ggn
  rw [show 128 * P + l.val = 64 * (2 * P + l.val / 64) + l.val % 64 by omega]

end Walked

end Cert.SbIdeal.Sb
-- ==== Proof.SbArr.lean ====
/-
  The host operations the attention's two programs are made of, on arrays of reals: sums from the end and from the start
  of an axis, zeros in front, and arrays of three axes.
-/
module

public import proofs.«01_k».proof.Proof.SbGrad
public import Idealize.ShloMosaic.Lib.WordCmp

@[expose] public section

set_option maxRecDepth 16384

noncomputable section

open Idealize.ShloMosaic

namespace Cert.SbIdeal.Sb

/-- An array of three axes of reals, read at the positions' numbers. -/
def cube (a b n : ℕ) (f : ℕ → ℕ → ℕ → ℝ) : FVec Ideal ⟨3, ![a, b, n]⟩ .f32 := fun i => ((f (i 0).val (i 1).val (i 2).val : ℝ) : EReal)

theorem cube_apply (a b n : ℕ) (f : ℕ → ℕ → ℕ → ℝ) (i : Fin a) (j : Fin b) (k : Fin n) : cube a b n f (ix3 i j k) = ((f i.val j.val k.val : ℝ) : EReal) := rfl

/-- An array of two axes of reals, read at the positions' numbers. -/
def sheet (φ : FTy) (a b : ℕ) (f : ℕ → ℕ → ℝ) : FVec Ideal ⟨2, ![a, b]⟩ φ := fun i => ((f (i 0).val (i 1).val : ℝ) : EReal)

theorem sheet_apply (φ : FTy) (a b : ℕ) (f : ℕ → ℕ → ℝ) (i : Fin a) (j : Fin b) : sheet φ a b f (ix2 i j) = ((f i.val j.val : ℝ) : EReal) := rfl

theorem foldl_add {α : Type} [AddCommMonoid α] (n : ℕ) (g : Fin n → α) (a : α) :
    (List.finRange n).foldl (fun r i => r + g i) a = a + ∑ i, g i := by
  rw [← List.sum_ofFn, List.ofFn_eq_map]
  generalize List.finRange n = L
  induction L generalizing a with
  | nil => simp
  | cons x L ih => simp only [List.foldl_cons, List.map_cons, List.sum_cons]; rw [ih, add_assoc]

/-- A window sum with a zero start and zero padding, as a sum over the window. -/
theorem window_sum {s t : Shape} (window strides lo hi : Fin s.rank → ℕ) (h : s.ReduceWindows window strides lo hi t) (x : FVec Ideal s .f32)
    (init : FVec Ideal ⟨0, ![]⟩ .f32) (hi0 : init = fun _ => 0) (hu : 0 < (⟨0, ![]⟩ : Shape).numel) (j : t.Idx) :
    Host.reduceWindowAdd window strides lo hi x init h hu j
      = ∑ w : (⟨s.rank, window⟩ : Shape).Idx, (if hin : ∀ a, lo a ≤ (j (a.cast h.1.symm)).val * strides a + (w a).val
          ∧ (j (a.cast h.1.symm)).val * strides a + (w a).val - lo a < s.size a
          then x (fun a => ⟨(j (a.cast h.1.symm)).val * strides a + (w a).val - lo a, (hin a).2⟩) else 0) := by
  subst hi0
  refine (foldl_add (α := EReal) _ _ _).trans ?_
  rw [zero_add]
  exact Fintype.sum_equiv (⟨s.rank, window⟩ : Shape).rowMajor.symm _ _ fun _ => dite_congr rfl (fun _ => rfl) (fun _ => rfl)

theorem sum_from (N J : ℕ) (f : ℕ → ℝ) :
    ∑ w : Fin N, (if J + w.val < N then f (J + w.val) else 0) = ∑ L ∈ Finset.Ico J N, f L := by
  rw [Fin.sum_univ_eq_sum_range (fun w => if J + w < N then f (J + w) else 0), ← Finset.sum_filter, Finset.sum_Ico_eq_sum_range]
  refine Finset.sum_congr ?_ fun _ _ => rfl
  ext w; simp only [Finset.mem_filter, Finset.mem_range]; omega

theorem sum_to (N J : ℕ) (hJ : J < N) (f : ℕ → ℝ) :
    ∑ w : Fin N, (if N - 1 ≤ J + w.val then f (J + w.val - (N - 1)) else 0) = ∑ L ∈ Finset.range (J + 1), f L := by
  rw [Fin.sum_univ_eq_sum_range (fun w => if N - 1 ≤ J + w then f (J + w - (N - 1)) else 0), ← Finset.sum_filter]
  refine Finset.sum_bij (fun w _ => J + w - (N - 1)) ?_ ?_ ?_ fun _ _ => rfl
  · intro w hw; simp only [Finset.mem_filter, Finset.mem_range] at hw ⊢; omega
  · intro w hw w' hw' e; simp only [Finset.mem_filter, Finset.mem_range] at hw hw'; omega
  · intro L hL
    simp only [Finset.mem_range] at hL
    exact ⟨L + (N - 1) - J, by simp only [Finset.mem_filter, Finset.mem_range]; omega, by omega⟩

section Cum

variable (a b N : ℕ) (f : ℕ → ℕ → ℕ → ℝ) (init : FVec Ideal ⟨0, ![]⟩ .f32) (hi0 : init = fun _ => 0) (hu : 0 < (⟨0, ![]⟩ : Shape).numel)
include hi0

/-- The sum from each position of the last axis to its end. -/
theorem revcum_cube (h : (⟨3, ![a, b, N]⟩ : Shape).ReduceWindows (![1, 1, N] : Fin 3 → ℕ) ![1, 1, 1] ![0, 0, 0] ![0, 0, N - 1] ⟨3, ![a, b, N]⟩) :
    Host.reduceWindowAdd ![1, 1, N] ![1, 1, 1] ![0, 0, 0] ![0, 0, N - 1] (cube a b N f) init h hu
      = cube a b N (fun i j J => ∑ L ∈ Finset.Ico J N, f i j L) := by
  funext y
  refine (window_sum _ _ _ _ h _ init hi0 hu y).trans ?_
  refine (sum_idx3 (n0 := 1) (n1 := 1) (n2 := N) _).trans ?_
  rw [Fin.sum_univ_one, Fin.sum_univ_one]
  refine Eq.trans ?_ (congrArg (fun t : ℝ => (t : EReal)) (sum_from N (y 2).val (f (y 0).val (y 1).val)))
  rw [← coe_sum]
  refine Finset.sum_congr rfl fun w _ => ?_
  have hw := w.isLt
  by_cases hin : (y 2).val + w.val < N
  · rw [if_pos hin, dif_pos (by
      intro d
      match d with
      | ⟨0, _⟩ => exact ⟨Nat.zero_le _, (show (y 0).val * 1 + 0 - 0 < a by have : (y 0).val < a := (y 0).isLt; omega)⟩
      | ⟨1, _⟩ => exact ⟨Nat.zero_le _, (show (y 1).val * 1 + 0 - 0 < b by have : (y 1).val < b := (y 1).isLt; omega)⟩
      | ⟨2, _⟩ => exact ⟨Nat.zero_le _, (show (y 2).val * 1 + w.val - 0 < N by omega)⟩)]
    show ((f ((y 0).val * 1 + 0 - 0) ((y 1).val * 1 + 0 - 0) ((y 2).val * 1 + w.val - 0) : ℝ) : EReal) = _
    rw [Nat.mul_one, Nat.mul_one, Nat.mul_one]; rfl
  · rw [if_neg hin, dif_neg (fun hh => hin (by
      have h2 : (y 2).val * 1 + w.val - 0 < N := (hh 2).2
      omega))]; rfl

/-- The sum from the start of the last axis to each position. -/
theorem cum_cube (h : (⟨3, ![a, b, N]⟩ : Shape).ReduceWindows (![1, 1, N] : Fin 3 → ℕ) ![1, 1, 1] ![0, 0, N - 1] ![0, 0, 0] ⟨3, ![a, b, N]⟩) :
    Host.reduceWindowAdd ![1, 1, N] ![1, 1, 1] ![0, 0, N - 1] ![0, 0, 0] (cube a b N f) init h hu
      = cube a b N (fun i j J => ∑ L ∈ Finset.range (J + 1), f i j L) := by
  funext y
  refine (window_sum _ _ _ _ h _ init hi0 hu y).trans ?_
  refine (sum_idx3 (n0 := 1) (n1 := 1) (n2 := N) _).trans ?_
  rw [Fin.sum_univ_one, Fin.sum_univ_one]
  have hy : (y 2).val < N := (y 2).isLt
  refine Eq.trans ?_ (congrArg (fun t : ℝ => (t : EReal)) (sum_to N (y 2).val hy (f (y 0).val (y 1).val)))
  rw [← coe_sum]
  refine Finset.sum_congr rfl fun w _ => ?_
  have hw := w.isLt
  by_cases hin : N - 1 ≤ (y 2).val + w.val
  · rw [if_pos hin, dif_pos (by
      intro d
      match d with
      | ⟨0, _⟩ => exact ⟨Nat.zero_le _, (show (y 0).val * 1 + 0 - 0 < a by have : (y 0).val < a := (y 0).isLt; omega)⟩
      | ⟨1, _⟩ => exact ⟨Nat.zero_le _, (show (y 1).val * 1 + 0 - 0 < b by have : (y 1).val < b := (y 1).isLt; omega)⟩
      | ⟨2, _⟩ => exact ⟨(show N - 1 ≤ (y 2).val * 1 + w.val by omega), (show (y 2).val * 1 + w.val - (N - 1) < N by omega)⟩)]
    show ((f ((y 0).val * 1 + 0 - 0) ((y 1).val * 1 + 0 - 0) ((y 2).val * 1 + w.val - (N - 1)) : ℝ) : EReal) = _
    rw [Nat.mul_one, Nat.mul_one, Nat.mul_one]; rfl
  · rw [if_neg hin, dif_neg (fun hh => hin (by
      have h2 : N - 1 ≤ (y 2).val * 1 + w.val := (hh 2).1
      omega))]; rfl

end Cum

/-- Zeros in front of the rows. -/
theorem pad_sheet (n w lo N : ℕ) (f : ℕ → ℕ → ℝ) (v : FVec Ideal ⟨0, ![]⟩ .f32) (hv : v = fun _ => 0) (hu : 0 < (⟨0, ![]⟩ : Shape).numel) (hN : lo + n = N)
    (h : (⟨2, ![n, w]⟩ : Shape).Pads (![lo, 0] : Fin 2 → ℕ) ![0, 0] ![0, 0] ⟨2, ![N, w]⟩) :
    pad ⟨2, ![N, w]⟩ ![lo, 0] ![0, 0] ![0, 0] (sheet .f32 n w f) v h hu = sheet .f32 N w (fun r l => if lo ≤ r then f (r - lo) l else 0) := by
  subst hv
  funext y
  rw [pad_apply]
  have h0 : (y 0).val < N := (y 0).isLt
  have h1 : (y 1).val < w := (y 1).isLt
  by_cases hin : lo ≤ (y 0).val
  · rw [dif_pos (by
      intro d
      match d with
      | ⟨0, _⟩ => exact ⟨hin, (show ((y 0).val - lo) % 1 = 0 by omega), (show ((y 0).val - lo) / 1 < n by omega)⟩
      | ⟨1, _⟩ => exact ⟨Nat.zero_le _, (show ((y 1).val - 0) % 1 = 0 by omega), (show ((y 1).val - 0) / 1 < w by omega)⟩)]
    refine Eq.trans ?_ (congrArg (fun t : ℝ => (t : EReal)) (if_pos (c := lo ≤ (y 0).val) hin)).symm
    show ((f (((y 0).val - lo) / 1) (((y 1).val - 0) / 1) : ℝ) : EReal) = _
    rw [Nat.div_one, Nat.div_one]; rfl
  · rw [dif_neg (fun hh => hin (hh 0).1)]
    exact (congrArg (fun t : ℝ => (t : EReal)) (if_neg (c := lo ≤ (y 0).val) hin)).symm

/-- Zeros in front. -/
def front (f : ℕ → ℕ → ℝ) (r l : ℕ) : ℝ := if 240 ≤ r then f (r - 240) l else 0

/-- A row of reals. -/
def line (n : ℕ) (f : ℕ → ℝ) : FVec Ideal ⟨1, ![n]⟩ .f32 := fun i => ((f (i 0).val : ℝ) : EReal)

theorem zero_const : (constant (F := Ideal) ⟨0, ![]⟩ .f32 0#32) = fun _ => (0 : EReal) := by
  funext i; exact Ideal.ofBits_zero .f32
theorem zero_conv : (sitofp (F := Ideal) .f32 (constantI ⟨0, ![]⟩ 32 0#32)) = fun _ => (0 : EReal) := by
  funext i
  show ((((0#32 : BitVec 32).toInt : ℤ) : ℝ) : EReal) = 0
  simp

/-! ### Operations on arrays of reals -/

/-- The sum over the first two axes. -/
theorem sum01_cube (a b n : ℕ) (f : ℕ → ℕ → ℕ → ℝ) (init : FVec Ideal ⟨0, ![]⟩ .f32) (hi0 : init = fun _ => 0) (hu : 0 < (⟨0, ![]⟩ : Shape).numel)
    (h : (⟨3, ![a, b, n]⟩ : Shape).ReducesTo [0, 1] ⟨1, ![n]⟩) (hd : ∀ (i : Fin a) (j : Fin b) (d : Fin n), (h.drop (ix3 i j d) 0).val = d.val) :
    Host.reduceAdd (cube a b n f) init h hu = line n (fun d => ∑ i ∈ Finset.range a, ∑ j ∈ Finset.range b, f i j d) := by
  subst hi0
  funext y
  show (0 : EReal) + ∑ i ∈ Finset.univ.filter (fun i => h.drop i = y), cube a b n f i = _
  rw [zero_add, Finset.sum_filter, sum_idx3]
  have hy : ∀ (i : Fin a) (j : Fin b) (d : Fin n), (h.drop (ix3 i j d) = y) ↔ d = (show Fin n from y 0) := by
    intro i j d
    constructor
    · intro e; exact Fin.ext ((hd i j d).symm.trans (congrArg (fun t : (⟨1, ![n]⟩ : Shape).Idx => (t 0).val) e))
    · intro e; funext x
      match x with
      | ⟨0, _⟩ => exact Fin.ext ((hd i j d).trans (congrArg Fin.val e))
  show _ = ((∑ i ∈ Finset.range a, ∑ j ∈ Finset.range b, f i j (y 0).val : ℝ) : EReal)
  rw [← Fin.sum_univ_eq_sum_range (fun i => ∑ j ∈ Finset.range b, f i j (y 0).val), ← coe_sum]
  refine Finset.sum_congr rfl fun i _ => ?_
  rw [← Fin.sum_univ_eq_sum_range (fun j => f i.val j (y 0).val), ← coe_sum]
  refine Finset.sum_congr rfl fun j _ => ?_
  refine (Finset.sum_congr rfl fun d _ => if_congr (hy i j d) rfl rfl).trans ?_
  exact (Finset.sum_ite_eq' Finset.univ (show Fin n from y 0) _).trans (if_pos (Finset.mem_univ _))

section Ops

variable (a b n : ℕ) (f g : ℕ → ℕ → ℕ → ℝ)

theorem neg_cube : Host.negf (cube a b n f) = cube a b n (fun i j k => -f i j k) := funext fun _ => (EReal.coe_neg _).symm
theorem mul_cube : mulf (cube a b n f) (cube a b n g) = cube a b n (fun i j k => f i j k * g i j k) := funext fun _ => (EReal.coe_mul _ _).symm
theorem add_cube : addf (cube a b n f) (cube a b n g) = cube a b n (fun i j k => f i j k + g i j k) := funext fun _ => (EReal.coe_add _ _).symm
theorem sub_cube : subf (cube a b n f) (cube a b n g) = cube a b n (fun i j k => f i j k - g i j k) := funext fun _ => (EReal.coe_sub _ _).symm
theorem exp_cube : Host.exp (cube a b n f) = cube a b n (fun i j k => Real.exp (f i j k)) := funext fun _ => Ideal.exp_coe _

end Ops

end Cert.SbIdeal.Sb
-- ==== Proof.Finite.lean ====
/-
  What the precondition says: every entry of an array that is below infinity in absolute value is a real number, so the
  array is one of reals.
-/
module

public import proofs.«01_k».proof.Proof.SbArr
public import Idealize.ShloMosaic.Lib.ReduceAll

@[expose] public section

set_option maxRecDepth 16384

noncomputable section

namespace Cert.Finite

open Idealize.ShloMosaic Idealize.ShloMosaic.TcCoe Cert.SbIdeal.Sb

theorem real_of_below (x : EReal) (h : FloatOps.cmpf (F := Ideal) (φ := .f32) .olt (FloatOps.hostAbsf (F := Ideal) (φ := .f32) x) (FloatOps.ofBits (F := Ideal) .f32 0x7F800000#32) = 1#1) :
    ((x.toReal : ℝ) : EReal) = x := by
  have hw : FloatOps.ofBits (F := Ideal) .f32 0x7F800000#32 = (⊤ : EReal) := by
    show Ideal.ofBits .f32 0x7F800000#32 = _
    simp [Ideal.ofBits, Ideal.ieee]
  rw [hw] at h
  have h2 : max x (-x) < ⊤ := by
    by_contra hc
    have : FloatOps.cmpf (F := Ideal) (φ := .f32) .olt (max x (-x)) (⊤ : EReal) = 0#1 := by
      show Ideal.cmp .olt _ _ = _
      simp [Ideal.cmp, hc]
    exact absurd (this.symm.trans h) (by decide)
  refine EReal.coe_toReal ?_ ?_
  · rintro rfl; simp at h2
  · rintro rfl; simp at h2

variable {s t : Shape} {axes : List (Fin s.rank)} [Subsingleton t.Idx]

/-- The test "all entries are below infinity", read back. -/
theorem real_of_all (x : FVec Ideal s .f32) (hb : (⟨0, ![]⟩ : Shape).BroadcastsInDim s (![] : Fin 0 → Fin s.rank)) (h : s.ReducesTo axes ⟨0, ![]⟩) (hu : 0 < (⟨0, ![]⟩ : Shape).numel) (j : Shape.Idx ⟨0, ![]⟩)
    (e : Host.reduce IntOp.andi (cmpf .olt (Host.absf x) (broadcastInDim s ![] hb (constant (F := Ideal) ⟨0, ![]⟩ .f32 0x7F800000#32))) (constantI ⟨0, ![]⟩ 1 1#1) h hu j = 1#1)
    (i : s.Idx) : (((x i : EReal).toReal : ℝ) : EReal) = x i :=
  real_of_below _ (Host.reduce_andi_all _ _ _ _ j e i)

/-- The reals of a rank-2 array of finite entries. -/
def reals2 {a b : ℕ} (x : FVec Ideal ⟨2, ![a, b]⟩ .f32) (r l : ℕ) : ℝ :=
  if h : r < a ∧ l < b then (x (ix2 ⟨r, h.1⟩ ⟨l, h.2⟩) : EReal).toReal else 0

/-- The reals of a rank-1 array of finite entries. -/
def reals1 {a : ℕ} (x : FVec Ideal ⟨1, ![a]⟩ .f32) (l : ℕ) : ℝ :=
  if h : l < a then (x (ix1 ⟨l, h⟩) : EReal).toReal else 0

theorem sheet_reals2 {a b : ℕ} (x : FVec Ideal ⟨2, ![a, b]⟩ .f32) (h : ∀ i, (((x i : EReal).toReal : ℝ) : EReal) = x i) :
    x = sheet .f32 a b (reals2 x) := by
  funext i
  rw [eq_ix2 i]
  show _ = ((reals2 x (i 0) (i 1) : ℝ) : EReal)
  rw [reals2, dif_pos ⟨(i 0).isLt, (i 1).isLt⟩]
  exact (h _).symm

theorem reals1_of {a : ℕ} (x : FVec Ideal ⟨1, ![a]⟩ .f32) (k : Fin a) : reals1 x k.val = (x (ix1 k) : EReal).toReal := dif_pos k.isLt

theorem line_reals1 {a : ℕ} (x : FVec Ideal ⟨1, ![a]⟩ .f32) (h : ∀ i, (((x i : EReal).toReal : ℝ) : EReal) = x i) :
    x = line a (reals1 x) := by
  funext i
  rw [← ix1_eta i]
  exact ((congrArg (fun t : ℝ => (t : EReal)) (reals1_of x (i 0))).trans (h _)).symm

end Cert.Finite

end
-- ==== Proof.SbPay.lean ====
/-
  Each operation of a tile of the attention's backward kernel, over arrays of reals: what it leaves is the array of
  reals that the tile's arithmetic says.
-/
module

public import proofs.«01_k».proof.Proof.SbSpec
public import proofs.«01_k».proof.Proof.Gen.SbIdeal.Skeleton
public import Idealize.ShloMosaic.Lib.WordCmp

@[expose] public section

set_option maxRecDepth 16384

noncomputable section

open Idealize.ShloMosaic

namespace Cert.SbIdeal.Sb

open Cert.SbIdeal Cert.SbIdeal.Gen

/-- An array of reals at an index. -/
theorem up_apply (φ : FTy) {m n : ℕ} (f : Fin m → Fin n → ℝ) (a : Fin m) (b : Fin n) : up φ f (ix2 a b) = ((f a b : ℝ) : EReal) := rfl

theorem bits_apply {m n : ℕ} (p : Fin m → Fin n → Bool) (a : Fin m) (b : Fin n) : bits p (ix2 a b) = BitVec.ofBool (p a b) := rfl

/-- A one-bit word chooses as its truth value does. -/
theorem sel_bool {α : Type} (p : Bool) (a b : α) : Scalar.select (BitVec.ofBool p) a b = if p then a else b := by
  cases p <;> rfl

theorem ofBits_eighth_bf16 : Ideal.ofBits .bf16 0x3E00#16 = (((1 : ℝ) / 8 : ℝ) : EReal) := by
  simp [Ideal.ofBits, Ideal.ieee, -EReal.coe_mul]; norm_num

theorem ofBits_eighth_f32 : Ideal.ofBits .f32 0x3E000000#32 = (((1 : ℝ) / 8 : ℝ) : EReal) := by
  simp [Ideal.ofBits, Ideal.ieee, -EReal.coe_mul]; norm_num

variable (qq dd : Fin 512 → Fin 128 → ℝ) (kb vb : Fin 256 → Fin 128 → ℝ) (rem er : Fin 512 → Fin 1 → ℝ)

/-- The triangle of the suffix sums: rows at or below the column. -/
abbrev triS (r c : Fin 256) : ℝ := if c ≤ r then 1 else 0
/-- The triangle of the prefix sums: rows at or above the column. -/
abbrev triP (r c : Fin 256) : ℝ := if r ≤ c then 1 else 0
/-- The lanes of the first head. -/
abbrev low (_ : Fin 256) (l : Fin 128) : Bool := decide (l.val < 64)
/-- No mask. -/
abbrev tt (_ : Fin 512) (_ : Fin 256) : Bool := true

theorem zero_sub_abs (z : ℝ) : (0 : EReal) - FloatOps.absf (F := Ideal) (φ := .f32) (z : EReal) = ((-|z| : ℝ) : EReal) := by
  show (0 : EReal) - max (z : EReal) (-(z : EReal)) = _
  rw [← EReal.coe_neg, coe_max, ← EReal.coe_zero, ← EReal.coe_sub]; congr 1; rw [zero_sub]; rfl

theorem log_one_add (z : ℝ) : Ideal.log ((1 : EReal) + ((Real.exp z : ℝ) : EReal)) = ((Real.log (1 + Real.exp z) : ℝ) : EReal) := by
  rw [← EReal.coe_one, ← EReal.coe_add, Ideal.log_coe, if_neg (not_le.2 (by positivity))]

theorem max_add_log (z : ℝ) : max (z : EReal) 0 + Ideal.log ((1 : EReal) + ((Real.exp (-|z|) : ℝ) : EReal)) = ((sp z : ℝ) : EReal) := by
  rw [log_one_add, ← EReal.coe_zero, coe_max, ← EReal.coe_add, sp_stable]

theorem div_sig (z : ℝ) [Decidable ((0 : EReal) ≤ (z : EReal))] :
    Ideal.div (if (0 : EReal) ≤ (z : EReal) then 1 else ((Real.exp (-|z|) : ℝ) : EReal)) (1 + ((Real.exp (-|z|) : ℝ) : EReal))
    = ((sig z : ℝ) : EReal) := by
  rw [← EReal.coe_one, ← EReal.coe_add, Ideal.div_coe (by positivity), ← sig_stable]
  by_cases h : 0 ≤ z
  · rw [if_pos (EReal.coe_nonneg.2 h), if_pos h, ← EReal.coe_mul]
  · rw [if_neg (fun h' => h (EReal.coe_nonneg.1 h')), if_neg h, ← EReal.coe_mul]

/-! ### A tile strictly below the query block -/

theorem pay79_up : k0_pay79 (F := Ideal) (up .bf16 kb) = up .bf16 kb := by
  funext i; idx_vars i
  pointwise [k0_pay79]

theorem pay80_up : k0_pay80 (F := Ideal) (up .bf16 qq) (up .bf16 kb) = up .f32 (prod qq kb) := by
  funext i; idx_vars i
  pointwise [k0_pay80]
  simp only [pay79_up, up_apply, ← EReal.coe_mul, coe_sum]; rfl

theorem pay81_up : k0_pay81 (F := Ideal) (up .bf16 qq) (up .bf16 kb) = up .f32 (fun s k => Real.exp (-|prod qq kb s k|)) := by
  funext i; idx_vars i
  pointwise [k0_pay81]
  simp only [pay80_up, up_apply, zero_sub_abs, Ideal.exp_coe]

theorem pay82_up : k0_pay82 (F := Ideal) (up .bf16 qq) (up .bf16 kb) = up .f32 (tsp tt qq kb) := by
  funext i; idx_vars i
  pointwise [k0_pay82]
  simp only [pay80_up, pay81_up, up_apply, max_add_log]; rfl

theorem pay83_up : k0_pay83 (F := Ideal) (up .bf16 qq) (up .f32 rem) (up .bf16 kb) = up .f32 (trem tt qq kb rem) := by
  funext i; idx_vars i
  pointwise [k0_pay83]
  simp only [pay82_up, up_apply, coe_sum, ← EReal.coe_sub]; rfl

theorem pay84_up : k0_pay84 (F := Ideal) (up .bf16 triS) (up .bf16 qq) (up .f32 rem) (up .bf16 kb) = up .f32 (tw tt qq kb rem) := by
  funext i; idx_vars i
  pointwise [k0_pay84]
  simp only [pay80_up, pay82_up, pay83_up, up_apply, ← EReal.coe_mul, coe_sum, ← EReal.coe_sub, Ideal.exp_coe]; rfl

theorem pay85_up : k0_pay85 (F := Ideal) (up .bf16 triS) (up .bf16 dd) (up .bf16 qq) (up .f32 rem) (up .bf16 kb) (up .bf16 vb)
    = up .f32 (te tt qq dd kb vb rem) := by
  funext i; idx_vars i
  pointwise [k0_pay85]
  simp only [pay84_up, up_apply, ← EReal.coe_mul, coe_sum]; rfl

theorem pay86_up : k0_pay86 (F := Ideal) (up .bf16 triP) (up .bf16 triS) (up .bf16 dd) (up .bf16 qq) (up .f32 rem) (up .f32 er) (up .bf16 kb) (up .bf16 vb)
    = up .bf16 (tdz tt qq dd kb vb rem er) := by
  funext i; idx_vars i
  pointwise [k0_pay86]
  simp only [pay80_up, pay81_up, pay85_up, up_apply, div_sig, ← EReal.coe_mul, coe_sum, ← EReal.coe_add, ← EReal.coe_sub]; rfl

variable (dz : Fin 512 → Fin 256 → ℝ) (dk : Fin 256 → Fin 128 → ℝ)

theorem pay119_up : k0_pay119 (F := Ideal) (up .bf16 qq) (up .bf16 dz) (up .f32 dk) = up .f32 (tacc dz qq dk) := by
  funext i; idx_vars i
  pointwise [k0_pay119]
  simp only [up_apply, ← EReal.coe_mul, coe_sum, ← EReal.coe_add]; rfl

theorem pay120_up : k0_pay120 (F := Ideal) (up .bf16 dd) (up .f32 dz) (up .f32 dk) = up .f32 (tacc dz dd dk) := by
  funext i; idx_vars i
  pointwise [k0_pay120]
  simp only [up_apply, ← EReal.coe_mul, coe_sum, ← EReal.coe_add]; rfl

theorem half_sum (p : Fin 256) (l : Fin 128) (f : Fin 512 → EReal) (h0 : p.val < 512) (h1 : 256 + p.val < 512) :
    Scalar.select (BitVec.ofBool (low p l)) (f ⟨p.val, h0⟩) (f ⟨256 + p.val, h1⟩) = f (half p l) := by
  rw [sel_bool]
  unfold half low
  by_cases h : l.val < 64
  · simp only [h, decide_true, if_true]
  · simp only [h, decide_false, if_false, Bool.false_eq_true]

theorem pay121_up : k0_pay121 (F := Ideal) (bits low) (up .f32 dk) (up .bf16 kb) (up .bf16 dz) = up .f32 (tdq dz kb dk) := by
  funext i; idx_vars i
  pointwise [k0_pay121]
  rw [bits_apply, half_sum i0 i1 (fun s => ∑ x, up FTy.bf16 dz (ix2 s x) * up FTy.bf16 kb (ix2 x i1))]
  simp only [up_apply, ← EReal.coe_mul, coe_sum, ← EReal.coe_add]; rfl

theorem pay122_up (e : Fin 512 → Fin 256 → ℝ) : k0_pay122 (F := Ideal) (up .f32 er) (up .f32 e) = up .f32 (fun s o => er s o + ∑ k, e s k) := by
  funext i; idx_vars i
  pointwise [k0_pay122]
  simp only [up_apply, ← EReal.coe_mul, coe_sum, ← EReal.coe_add]

/-! ### The masks -/

/-- The query position of a stacked row at query block `q` and the key position `k` of tile `j`: the key is a token and
    lies strictly before the query. -/
def mk (q j : ℕ) (s : Fin 512) (k : Fin 256) : Bool := decide (256 * j + k.val < 256 * q + s.val % 256 ∧ 240 ≤ 256 * j + k.val)

theorem qpos_word (q : ℕ) (r : Fin 512) :
    IntOp.addi (Scalar.muli (BitVec.ofNat 32 q) 256#32)
      (Scalar.select (IntOp.cmpi CmpIPredicate.sge (BitVec.ofNat 32 r.val) 256#32) (IntOp.subi (BitVec.ofNat 32 r.val) 256#32) (BitVec.ofNat 32 r.val))
      = BitVec.ofNat 32 (256 * q + r.val % 256) := by
  have hr := r.isLt
  have e : Scalar.select (IntOp.cmpi CmpIPredicate.sge (BitVec.ofNat 32 r.val) 256#32) (IntOp.subi (BitVec.ofNat 32 r.val) 256#32) (BitVec.ofNat 32 r.val)
      = BitVec.ofNat 32 (r.val % 256) := by
    by_cases h : 256 ≤ r.val
    · rw [WordCmp.select_of_eq_one ((WordCmp.cmpi_sge_ofNat_eq_one_iff (by norm_num; omega) (by norm_num)).2 h)]
      apply BitVec.eq_of_toNat_eq
      show ((2 ^ 32 - 256 + (BitVec.ofNat 32 r.val).toNat) % 2 ^ 32) = _
      simp only [BitVec.toNat_ofNat]
      omega
    · rw [WordCmp.select_of_eq_zero ((WordCmp.cmpi_sge_ofNat_eq_zero_iff (by norm_num; omega) (by norm_num)).2 h), Nat.mod_eq_of_lt (by omega)]
  rw [e]
  show IntOp.addi (IntOp.muli (BitVec.ofNat 32 q) (BitVec.ofNat 32 256)) (BitVec.ofNat 32 (r.val % 256)) = _
  rw [WordCmp.muli_ofNat, WordCmp.addi_ofNat, Nat.mul_comm]

theorem kpos_word (q k : ℕ) : IntOp.addi (Scalar.muli (BitVec.ofNat 32 q) 256#32) (BitVec.ofNat 32 k) = BitVec.ofNat 32 (256 * q + k) := by
  show IntOp.addi (IntOp.muli (BitVec.ofNat 32 q) (BitVec.ofNat 32 256)) (BitVec.ofNat 32 k) = _
  rw [WordCmp.muli_ofNat, WordCmp.addi_ofNat, Nat.mul_comm]

theorem and_word (a b : ℕ) (ha : a < 2 ^ 31) (hb : b < 2 ^ 31) :
    IntOp.andi (IntOp.cmpi CmpIPredicate.slt (BitVec.ofNat 32 a) (BitVec.ofNat 32 b)) (IntOp.cmpi CmpIPredicate.sge (BitVec.ofNat 32 a) 240#32)
      = BitVec.ofBool (decide (a < b ∧ 240 ≤ a)) := by
  have h : (240#32 : BitVec 32) = BitVec.ofNat 32 240 := rfl
  rw [h, WordCmp.cmpi_slt_ofNat ha hb, WordCmp.cmpi_sge_ofNat ha (by norm_num)]
  by_cases p : a < b <;> by_cases q : 240 ≤ a <;> simp only [p, q, decide_true, decide_false, and_self, and_true, and_false] <;> rfl

theorem pay132_bits (q : ℕ) (hq : q < 65) : k0_pay132 (BitVec.ofNat 32 q) = bits (mk q q) := by
  funext i; idx_vars i
  have h0 := i0.isLt
  have h1 := i1.isLt
  pointwise [k0_pay132]
  rw [qpos_word, kpos_word, and_word _ _ (by omega) (by omega)]; rfl

theorem pay8_bits (q : ℕ) (hq : q < 65) : k0_pay8 (BitVec.ofNat 32 q) = bits (mk q 0) := by
  funext i; idx_vars i
  have h0 := i0.isLt
  have h1 := i1.isLt
  pointwise [k0_pay8]
  have e : IntOp.addi (0#32) (BitVec.ofNat 32 i1.val) = BitVec.ofNat 32 (256 * 0 + i1.val) := kpos_word 0 i1.val
  rw [qpos_word, e, and_word _ _ (by omega) (by omega)]; rfl

/-! ### The first tile, masked -/

theorem pay5_up : k0_pay5 (F := Ideal) (up .bf16 kb) = up .bf16 kb := by
  funext i; idx_vars i
  pointwise [k0_pay5]

theorem pay6_up : k0_pay6 (F := Ideal) (up .bf16 qq) (up .bf16 kb) = up .f32 (prod qq kb) := by
  funext i; idx_vars i
  pointwise [k0_pay6]
  simp only [pay5_up, up_apply, ← EReal.coe_mul, coe_sum]; rfl

theorem pay7_up : k0_pay7 (F := Ideal) (up .bf16 qq) (up .bf16 kb) = up .f32 (fun s k => Real.exp (-|prod qq kb s k|)) := by
  funext i; idx_vars i
  pointwise [k0_pay7]
  simp only [pay6_up, up_apply, zero_sub_abs, Ideal.exp_coe]

theorem ite_coe_zero (p : Bool) (a : ℝ) : (if p then (a : EReal) else 0) = ((if p then a else 0 : ℝ) : EReal) := by
  cases p <;> simp

section First

variable (q : ℕ) (hq : q < 65)
include hq

theorem pay9_up : k0_pay9 (F := Ideal) (BitVec.ofNat 32 q) (up .bf16 qq) (up .bf16 kb) = up .f32 (tsp (mk q 0) qq kb) := by
  funext i; idx_vars i
  pointwise [k0_pay9]
  simp only [pay8_bits q hq, bits_apply, sel_bool, pay6_up, pay7_up, up_apply, max_add_log, ite_coe_zero]; rfl

theorem pay10_up : k0_pay10 (F := Ideal) (BitVec.ofNat 32 q) (up .bf16 qq) (up .f32 rem) (up .bf16 kb) = up .f32 (trem (mk q 0) qq kb rem) := by
  funext i; idx_vars i
  pointwise [k0_pay10]
  simp only [pay9_up _ _ q hq, up_apply, coe_sum, ← EReal.coe_sub]; rfl

theorem pay11_up : k0_pay11 (F := Ideal) (BitVec.ofNat 32 q) (up .bf16 triS) (up .bf16 qq) (up .f32 rem) (up .bf16 kb)
    = up .f32 (tw (mk q 0) qq kb rem) := by
  funext i; idx_vars i
  pointwise [k0_pay11]
  simp only [pay8_bits q hq, bits_apply, sel_bool, pay6_up, pay9_up _ _ q hq, pay10_up _ _ _ q hq, up_apply, ← EReal.coe_mul, coe_sum,
    ← EReal.coe_sub, Ideal.exp_coe, ite_coe_zero]; rfl

end First

variable (M : Fin 512 → Fin 256 → Bool)

theorem pay12_up : k0_pay12 (F := Ideal) (up .bf16 dd) (up .f32 (tw M qq kb rem)) (up .bf16 vb) = up .f32 (te M qq dd kb vb rem) := by
  funext i; idx_vars i
  pointwise [k0_pay12]
  simp only [up_apply, ← EReal.coe_mul, coe_sum]; rfl

theorem pay13_up : k0_pay13 (F := Ideal) (up .bf16 triP) (up .bf16 dd) (up .f32 er) (up .f32 (prod qq kb))
      (up .f32 (fun s k => Real.exp (-|prod qq kb s k|))) (bits M) (up .f32 (tw M qq kb rem)) (up .bf16 vb)
    = up .bf16 (tdz M qq dd kb vb rem er) := by
  funext i; idx_vars i
  pointwise [k0_pay13]
  simp only [bits_apply, sel_bool, pay12_up, up_apply]
  erw [div_sig]
  simp only [← EReal.coe_mul, coe_sum, ← EReal.coe_add, ← EReal.coe_sub, ite_coe_zero]; rfl

theorem pay14_up : k0_pay14 (F := Ideal) (up .bf16 triP) (up .bf16 dd) (up .bf16 qq) (up .f32 er) (up .f32 (prod qq kb))
      (up .f32 (fun s k => Real.exp (-|prod qq kb s k|))) (bits M) (up .f32 (tw M qq kb rem)) (up .bf16 vb) (up .f32 dk)
    = up .f32 (tacc (tdz M qq dd kb vb rem er) qq dk) := by
  funext i; idx_vars i
  pointwise [k0_pay14]
  simp only [pay13_up, up_apply, ← EReal.coe_mul, coe_sum, ← EReal.coe_add]; rfl

theorem pay15_up : k0_pay15 (F := Ideal) (up .bf16 dd) (up .f32 dz) (up .f32 dk) = up .f32 (tacc dz dd dk) := by
  funext i; idx_vars i
  pointwise [k0_pay15]
  simp only [up_apply, ← EReal.coe_mul, coe_sum, ← EReal.coe_add]; rfl

theorem pay16_up (dq : Fin 256 → Fin 128 → ℝ) : k0_pay16 (F := Ideal) (bits low) (up .bf16 triP) (up .bf16 dd) (up .f32 dq) (up .f32 er) (up .bf16 kb)
      (up .f32 (prod qq kb)) (up .f32 (fun s k => Real.exp (-|prod qq kb s k|))) (bits M) (up .f32 (tw M qq kb rem)) (up .bf16 vb)
    = up .f32 (tdq (tdz M qq dd kb vb rem er) kb dq) := by
  funext i; idx_vars i
  pointwise [k0_pay16]
  simp only [pay13_up]
  rw [bits_apply, half_sum i0 i1 (fun s => ∑ x, up FTy.bf16 (tdz M qq dd kb vb rem er) (ix2 s x) * up FTy.bf16 kb (ix2 x i1))]
  simp only [up_apply, ← EReal.coe_mul, coe_sum, ← EReal.coe_add]; rfl

theorem pay17_up : k0_pay17 (F := Ideal) (up .bf16 dd) (up .f32 (tw M qq kb rem)) (up .bf16 vb)
    = up .f32 (fun s _ => ∑ k, te M qq dd kb vb rem s k) := by
  funext i; idx_vars i
  pointwise [k0_pay17]
  simp only [pay12_up, up_apply, coe_sum]

theorem pay113_up (f g : Fin 512 → Fin 1 → ℝ) : k0_pay113 (F := Ideal) (up .f32 f) (up .f32 g) = up .f32 (fun s o => f s o + g s o) := by
  funext i; idx_vars i
  pointwise [k0_pay113]
  simp only [up_apply, ← EReal.coe_add]

/-! ### The tile of the diagonal, masked -/

theorem pay127_up : k0_pay127 (F := Ideal) (up .bf16 kb) = up .bf16 kb := by
  funext i; idx_vars i
  pointwise [k0_pay127]

theorem pay128_up : k0_pay128 (F := Ideal) (up .bf16 qq) (up .bf16 kb) = up .f32 (prod qq kb) := by
  funext i; idx_vars i
  pointwise [k0_pay128]
  simp only [pay127_up, up_apply, ← EReal.coe_mul, coe_sum]; rfl

theorem pay131_up : k0_pay131 (F := Ideal) (k0_pay129 (up .bf16 qq) (up .bf16 kb)) k0_pay130 = up .f32 (fun s k => Real.exp (-|prod qq kb s k|)) := by
  funext i; idx_vars i
  pointwise [k0_pay131, k0_pay129, k0_pay130]
  simp only [pay128_up, up_apply, zero_sub_abs, Ideal.exp_coe]

theorem pay133_up (q : ℕ) (hq : q < 65) : k0_pay133 (F := Ideal) (BitVec.ofNat 32 q) (up .bf16 triS) (up .f32 rem) (up .f32 (prod qq kb))
      (k0_pay129 (up .bf16 qq) (up .bf16 kb)) k0_pay130 = up .f32 (tw (mk q q) qq kb rem) := by
  funext i; idx_vars i
  pointwise [k0_pay133]
  simp only [pay132_bits q hq, bits_apply, sel_bool, pay131_up, up_apply, max_add_log, ite_coe_zero, ← EReal.coe_mul, coe_sum,
    ← EReal.coe_sub, Ideal.exp_coe]
  unfold tw trem tsp
  simp only [ite_mul, zero_mul]

theorem pay134_up (q : ℕ) (hq : q < 65) : k0_pay134 (F := Ideal) (BitVec.ofNat 32 q) (up .bf16 triS) (up .bf16 dd) (up .f32 rem) (up .f32 (prod qq kb))
      (k0_pay129 (up .bf16 qq) (up .bf16 kb)) k0_pay130 (up .bf16 vb) = up .f32 (te (mk q q) qq dd kb vb rem) := by
  funext i; idx_vars i
  pointwise [k0_pay134]
  simp only [pay133_up _ _ _ q hq, up_apply, ← EReal.coe_mul, coe_sum]; rfl

theorem pay1_up : k0_pay1 (F := Ideal) (up .bf16 triP) (up .f32 er) (up .f32 (fun s k => Real.exp (-|prod qq kb s k|))) (bits M)
      (up .f32 (te M qq dd kb vb rem)) (k0_pay135 (up .f32 (prod qq kb))) (1 : EReal)
    = up .bf16 (tdz M qq dd kb vb rem er) := by
  funext i; idx_vars i
  pointwise [k0_pay1, k0_pay135]
  simp only [bits_apply, sel_bool, up_apply]
  erw [div_sig]
  simp only [← EReal.coe_mul, coe_sum, ← EReal.coe_add, ← EReal.coe_sub, ite_coe_zero]; rfl

theorem pay2_up : k0_pay2 (F := Ideal) (up .bf16 triP) (up .bf16 qq) (up .f32 er) (up .f32 (fun s k => Real.exp (-|prod qq kb s k|))) (bits M)
      (up .f32 (te M qq dd kb vb rem)) (k0_pay135 (up .f32 (prod qq kb))) (Scalar.ofBits .f32 0x3F800000#32) (up .f32 dk)
    = up .f32 (tacc (tdz M qq dd kb vb rem er) qq dk) := by
  funext i; idx_vars i
  pointwise [k0_pay2]
  simp only [pay1_up, up_apply, ← EReal.coe_mul, coe_sum, ← EReal.coe_add]; rfl

theorem pay3_up : k0_pay3 (F := Ideal) (up .bf16 dd) (up .f32 dz) (up .f32 dk) = up .f32 (tacc dz dd dk) := by
  funext i; idx_vars i
  pointwise [k0_pay3]
  simp only [up_apply, ← EReal.coe_mul, coe_sum, ← EReal.coe_add]; rfl

theorem pay4_up (dq : Fin 256 → Fin 128 → ℝ) : k0_pay4 (F := Ideal) (bits low) (up .bf16 triP) (up .f32 dq) (up .f32 er) (up .bf16 kb)
      (up .f32 (fun s k => Real.exp (-|prod qq kb s k|))) (bits M)
      (up .f32 (te M qq dd kb vb rem)) (k0_pay135 (up .f32 (prod qq kb))) (Scalar.ofBits .f32 0x3F800000#32)
    = up .f32 (fun p l => tdq (tdz M qq dd kb vb rem er) kb dq p l * (1 / 8)) := by
  funext i; idx_vars i
  pointwise [k0_pay4]
  simp only [pay1_up, ofBits_eighth_f32]
  rw [bits_apply, half_sum i0 i1 (fun s => ∑ x, up FTy.bf16 (tdz M qq dd kb vb rem er) (ix2 s x) * up FTy.bf16 kb (ix2 x i1))]
  simp only [up_apply, ← EReal.coe_mul, coe_sum, ← EReal.coe_add]; rfl

end Cert.SbIdeal.Sb
-- ==== Proof.SbBlk.lean ====
/-
  A query block's stacks and its norm, over arrays of reals.
-/
module

public import proofs.«01_k».proof.Proof.SbPay

@[expose] public section

set_option maxRecDepth 16384

noncomputable section

open Idealize.ShloMosaic

namespace Cert.SbIdeal.Sb

open Cert.SbIdeal Cert.SbIdeal.Gen

theorem pay95_bits : k0_pay95 = bits low := by
  funext i; idx_vars i
  have h := i1.isLt
  pointwise [k0_pay95]
  rw [show (64#32 : BitVec 32) = BitVec.ofNat 32 64 from rfl, WordCmp.cmpi_slt_ofNat (by omega) (by norm_num)]; rfl

/-- A comparison's bit, widened and read as a real. -/
theorem bit_real (p : Prop) [Decidable p] :
    (FloatOps.sitofp FTy.f32 (BitVec.setWidth 32 (BitVec.ofBool (decide p))) : Ideal .f32) = ((if p then 1 else 0 : ℝ) : EReal) := by
  by_cases h : p
  · simp only [h, decide_true, if_true]
    show ((((BitVec.setWidth 32 (BitVec.ofBool true)).toInt : ℝ)) : EReal) = _
    have : (BitVec.setWidth 32 (BitVec.ofBool true)).toInt = 1 := by decide
    rw [this]; norm_num
  · simp only [h, decide_false, if_false]
    show ((((BitVec.setWidth 32 (BitVec.ofBool false)).toInt : ℝ)) : EReal) = _
    have : (BitVec.setWidth 32 (BitVec.ofBool false)).toInt = 0 := by decide
    rw [this]; norm_num

theorem pay96_up : k0_pay96 (F := Ideal) = up .bf16 triP := by
  funext i; idx_vars i
  have h0 := i0.isLt
  have h1 := i1.isLt
  pointwise [k0_pay96]
  rw [WordCmp.cmpi_sle_ofNat (by omega) (by omega), bit_real]; rfl

theorem pay97_up : k0_pay97 (F := Ideal) = up .bf16 triS := by
  funext i; idx_vars i
  have h0 := i0.isLt
  have h1 := i1.isLt
  pointwise [k0_pay97]
  rw [WordCmp.cmpi_sge_ofNat (by omega) (by omega), bit_real]; rfl

theorem pay98_up : k0_pay98 (F := Ideal) = up .f32 (fun _ _ => 0) := by
  funext i; idx_vars i
  pointwise [k0_pay98]
  simp only [up_apply, EReal.coe_zero]

theorem pay99_up : k0_pay99 (F := Ideal) = up .f32 (fun _ _ => 0) := by
  funext i; idx_vars i
  pointwise [k0_pay99]
  simp only [up_apply, EReal.coe_zero]

theorem pay100_up : k0_pay100 (F := Ideal) = up .f32 (fun _ _ => 0) := by
  funext i; idx_vars i
  pointwise [k0_pay100]
  simp only [up_apply, EReal.coe_zero]

theorem pay111_up : k0_pay111 (F := Ideal) = up .f32 (fun _ _ => 0) := by
  funext i; idx_vars i
  pointwise [k0_pay111]
  simp only [up_apply, EReal.coe_zero]

theorem pay112_up : k0_pay112 (F := Ideal) = up .f32 (fun _ _ => 0) := by
  funext i; idx_vars i
  pointwise [k0_pay112]
  simp only [up_apply, EReal.coe_zero]

theorem ofBits_64th_f32 : Ideal.ofBits .f32 0x3C800000#32 = (((1 : ℝ) / 64 : ℝ) : EReal) := by
  simp [Ideal.ofBits, Ideal.ieee, -EReal.coe_mul]; norm_num

theorem ofBits_eps_f32 : Ideal.ofBits .f32 0x358637BD#32 = ((eps : ℝ) : EReal) := by
  unfold eps
  simp [Ideal.ofBits, Ideal.ieee, -EReal.coe_mul]; norm_num

theorem zero_word : (((0#32 : BitVec 32).toInt : ℝ) : EReal) = 0 := by norm_num

variable (q o c : Fin 256 → Fin 128 → ℝ) (g : Fin 1 → Fin 128 → ℝ)

theorem ite_zero_coe (p : Prop) [Decidable p] (a : ℝ) : (if p then (0 : EReal) else (a : EReal)) = ((if p then 0 else a : ℝ) : EReal) := by
  split <;> simp

theorem ite_coe_zero' (p : Prop) [Decidable p] (a : ℝ) : (if p then (a : EReal) else (0 : EReal)) = ((if p then a else 0 : ℝ) : EReal) := by
  split <;> simp

theorem hsum_up (f : Fin 256 → Fin 128 → ℝ) (p : Fin 256) (l : Fin 128) :
    (if low p l = true then ∑ x, (if low p x = true then ((f p x : ℝ) : EReal) else 0) else ∑ x, (if low p x = true then 0 else ((f p x : ℝ) : EReal)))
      = ((hsum f p l : ℝ) : EReal) := by
  simp only [decide_eq_true_eq, ite_coe_zero', ite_zero_coe, coe_sum, coe_ite, hsum]

theorem pay103_up : k0_pay103 (F := Ideal) (up .f32 o) = up .f32 (hsum (fun p l => o p l * o p l)) := by
  funext i; idx_vars i
  pointwise [k0_pay103, k0_pay101]
  simp only [pay95_bits, bits_apply, sel_bool, up_apply, ← EReal.coe_mul]
  exact hsum_up (fun p l => o p l * o p l) i0 i1

theorem hsum_nonneg (p : Fin 256) (l : Fin 128) : 0 ≤ hsum (fun p l => o p l * o p l) p l := by
  unfold hsum
  split <;> refine Finset.sum_nonneg fun k _ => ?_ <;> split <;> first | exact le_refl _ | exact mul_self_nonneg _

theorem eps_pos : 0 < eps := by unfold eps; norm_num

theorem pay104_up : k0_pay104 (F := Ideal) (up .f32 (hsum (fun p l => o p l * o p l))) (Scalar.ofBits .f32 0x3C800000#32) = up .f32 (rs o) := by
  funext i; idx_vars i
  pointwise [k0_pay104]
  have h := hsum_nonneg o i0 i1
  have e := eps_pos
  simp only [ofBits_64th_f32, ofBits_eps_f32, up_apply, ← EReal.coe_mul, ← EReal.coe_add]
  rw [Ideal.rsqrt_coe, if_neg (not_lt.2 (by positivity)), if_neg (ne_of_gt (by positivity))]
  rfl

theorem pay105_up : k0_pay105 (F := Ideal) (up .f32 o) (up .f32 (hsum (fun p l => o p l * o p l))) (Scalar.ofBits .f32 0x3C800000#32)
    = up .f32 (fun p l => o p l * rs o p l) := by
  have h := pay104_up o
  funext i; idx_vars i
  unfold k0_pay105
  rw [h]
  pointwise []
  simp only [up_apply, ← EReal.coe_mul]

theorem pay107_up (d : Fin 1 → Fin 128 → ℝ) : k0_pay107 (F := Ideal) (k0_pay101 (up .f32 o)) (k0_pay103 (up .f32 o)) (Scalar.ofBits .f32 0x3C800000#32)
    (up .f32 c) (up .f32 d) = up .f32 (dgb o c d) := by
  have e : k0_pay101 (F := Ideal) (up .f32 o) = up .f32 o := by
    funext i; idx_vars i
    pointwise [k0_pay101]
  rw [e, pay103_up]
  have h := pay105_up o
  funext i; idx_vars i
  unfold k0_pay107
  rw [h]
  pointwise [k0_pay106]
  simp only [up_apply, ← EReal.coe_mul, coe_sum, ← EReal.coe_add]
  rfl

theorem stack_up (f : Fin 256 → Fin 128 → ℝ) (s : Fin 512) (l : Fin 128) (h1 : ¬ s.val < 256 → s.val - 256 < 256) :
    (if h : s.val < 256 then (if low ⟨s.val, h⟩ l = true then ((f ⟨s.val, h⟩ l : ℝ) : EReal) else 0)
      else (if low ⟨s.val - 256, h1 h⟩ l = true then 0 else ((f ⟨s.val - 256, h1 h⟩ l : ℝ) : EReal))) = ((stack f s l : ℝ) : EReal) := by
  unfold stack
  simp only [decide_eq_true_eq, ite_coe_zero', ite_zero_coe]
  split <;> rfl

theorem pay108_up : k0_pay108 (F := Ideal) (bits low) (k0_pay101 (up .f32 o)) (k0_pay102 (up .f32 g)) (k0_pay103 (up .f32 o))
    (Scalar.ofBits .f32 0x3C800000#32) (up .f32 c) = up .bf16 (stack (dob o c g)) := by
  have e : k0_pay101 (F := Ideal) (up .f32 o) = up .f32 o := by
    funext i; idx_vars i
    pointwise [k0_pay101]
  have e' : k0_pay102 (F := Ideal) (up .f32 g) = up .f32 g := by
    funext i; idx_vars i
    pointwise [k0_pay102]
  rw [e, e', pay103_up]
  have h := pay105_up o
  have h' := pay104_up o
  funext i; idx_vars i
  unfold k0_pay108
  rw [h, h']
  pointwise [k0_pay106]
  simp only [bits_apply, sel_bool, up_apply, zero_word, ofBits_64th_f32, ← EReal.coe_mul, hsum_up (fun p l => c p l * g 0 l * (o p l * rs o p l)), ← EReal.coe_mul, ← EReal.coe_sub]
  exact stack_up (dob o c g) i0 i1 _

theorem pay109_up : k0_pay109 (F := Ideal) (bits low) (up .bf16 q) = up .bf16 (stack (fun p l => q p l * (1 / 8))) := by
  funext i; idx_vars i
  pointwise [k0_pay109]
  simp only [bits_apply, sel_bool, up_apply, zero_word, ofBits_eighth_bf16, ← EReal.coe_mul]
  exact stack_up (fun p l => q p l * (1 / 8)) i0 i1 _

theorem pay110_up : k0_pay110 (F := Ideal) (up .f32 q) = up .f32 (ends q) := by
  funext i; idx_vars i
  pointwise [k0_pay110]
  simp only [up_apply]
  unfold ends
  split <;> rfl

end Cert.SbIdeal.Sb
-- ==== Proof.SbWalk.lean ====
/-
  The walk of one grid point over arrays of reals: each tile takes the prefix sums to the next tile's, so that the point
  leaves the whole sums.
-/
module

public import proofs.«01_k».proof.Proof.SbSums
public import proofs.«01_k».proof.Proof.SbBlk
public import proofs.«01_k».proof.Proof.SbTile

@[expose] public section

set_option maxRecDepth 16384

noncomputable section

open Idealize.ShloMosaic

namespace Cert.SbIdeal.Sb

open Cert.SbIdeal Cert.SbIdeal.Gen

/-- A sequence of rows as an array of the padded length. -/
abbrev seq (φ : FTy) (a : ℕ → Fin 128 → ℝ) : FVec Ideal S16640x128 φ := up φ (fun (J : Fin 16640) l => a J.val l)

theorem rows_seq (φ : FTy) (a : ℕ → Fin 128 → ℝ) (j : ℕ) (hj : j < 65) : rows (seq φ a) j = up φ (tile a j) := by
  funext y; idx_vars y
  have h := y0.isLt
  have e : (256 * j + y0.val) % 16640 = 256 * j + y0.val := Nat.mod_eq_of_lt (by omega)
  show ((a ((256 * j + y0.val) % 16640) y1 : ℝ) : EReal) = _
  rw [e]; rfl

theorem setRows_seq (a : ℕ → Fin 128 → ℝ) (j : ℕ) (hj : j < 65) (w : Fin 256 → Fin 128 → ℝ) :
    setRows (seq .f32 a) j (up .f32 w) = seq .f32 (fun J l => if h : 256 * j ≤ J ∧ J < 256 * j + 256 then w ⟨J - 256 * j, by omega⟩ l else a J l) := by
  funext y; idx_vars y
  have h0 := y0.isLt
  have h1 := y1.isLt
  by_cases h : 256 * j ≤ y0.val ∧ y0.val < 256 * j + 256
  · have hall : ∀ a : Fin S16640x128.rank, ![256 * j, 0] a ≤ (ix2 y0 y1 a).val ∧ (ix2 y0 y1 a).val < ![256 * j, 0] a + S256x128.size a := by
      intro a
      match a with
      | ⟨0, _⟩ => exact h
      | ⟨1, _⟩ => exact ⟨Nat.zero_le _, (show y1.val < 0 + 128 by omega)⟩
    refine (dif_pos hall).trans ?_
    simp only [seq, up_apply, dif_pos h]
    rfl
  · refine (dif_neg fun hall => h (hall 0)).trans ?_
    simp only [seq, up_apply, dif_neg h]

variable (q : ℕ) (Q D : Fin 512 → Fin 128 → ℝ) (K V : ℕ → Fin 128 → ℝ) (ct : Fin 512 → Fin 1 → ℝ) (dk dv : ℕ → Fin 128 → ℝ)

/-- The state before tile `t`. -/
def stAt (t : ℕ) : St Ideal :=
  ((up .f32 (wdq q Q D K V ct t), up .f32 (wrem q Q K ct t), up .f32 (wer q Q D K V ct t)),
   seq .f32 (wacc (wdz q Q D K V ct) Q t dk), seq .f32 (wacc (ww q Q K ct) D t dv))

variable (E : Env Ideal) (h2 : E.v2 = bits low) (h8 : E.v8 = up .bf16 triP) (h14 : E.v14 = up .bf16 triS) (h84 : E.v84 = up .bf16 D)
  (h95 : E.v95 = up .bf16 Q) (h3 : E.X3 = seq .bf16 K) (h4 : E.X4 = seq .bf16 V)
include h2 h8 h14 h84 h95 h3 h4

theorem tileU_at (j : ℕ) (h1 : 1 ≤ j) (hj : j < q) (hq : q < 65) : tileU E j (stAt q Q D K V ct dk dv j) = stAt q Q D K V ct dk dv (j + 1) := by
  have hM : ∀ s k, tt s k = decide (Seen q s (256 * j + k.val)) := by
    intro s k
    have := k.isLt
    exact (decide_eq_true (by unfold Seen; omega)).symm
  unfold tileU
  rw [h2, h8, h14, h84, h95, h3, h4, rows_seq _ _ _ (by omega), rows_seq _ _ _ (by omega)]
  unfold stAt
  dsimp only
  rw [rows_seq _ _ _ (by omega), rows_seq _ _ _ (by omega), pay79_up, pay83_up, pay84_up, pay85_up, pay86_up, pay119_up, pay120_up, pay121_up, pay122_up,
    setRows_seq _ _ (by omega), setRows_seq _ _ (by omega), tdq_eq q Q D K V ct tt j hM, trem_eq q Q K ct tt j hM]
  have e := ter_eq q Q D K V ct tt j hM
  have e1 := fun J l => tacc_eq j (wdz q Q D K V ct) Q dk J l
  have e2 := fun J l => tacc_eq j (ww q Q K ct) D dv J l
  have f1 : tdz tt Q D (tile K j) (tile V j) (wrem q Q K ct j) (wer q Q D K V ct j) = fun s k => wdz q Q D K V ct s (256 * j + k.val) :=
    funext fun s => funext fun k => tdz_eq q Q D K V ct tt j hM s k
  have f2 : tw tt Q (tile K j) (wrem q Q K ct j) = fun s k => ww q Q K ct s (256 * j + k.val) :=
    funext fun s => funext fun k => tw_eq q Q K ct tt j hM s k
  unfold ter at e
  rw [e, f1, f2]
  simp only [e1, e2]

theorem tile0_at (h1 : 1 ≤ q) (hq : q < 65) : tile0 E (BitVec.ofNat 32 q) (stAt q Q D K V ct dk dv 0) = stAt q Q D K V ct dk dv 1 := by
  have hM : ∀ s k, mk q 0 s k = decide (Seen q s (256 * 0 + k.val)) := fun s k => rfl
  unfold tile0
  rw [h2, h8, h14, h84, h95, h3, h4, rows_seq _ _ _ (by omega), rows_seq _ _ _ (by omega)]
  unfold stAt
  dsimp only
  rw [rows_seq _ _ _ (by omega), rows_seq _ _ _ (by omega), pay5_up, pay6_up, pay7_up, pay8_bits q hq, pay10_up _ _ _ q hq, pay11_up _ _ _ q hq,
    pay14_up, pay15_up, pay16_up, pay17_up, pay113_up, setRows_seq _ _ (by omega), setRows_seq _ _ (by omega),
    tdq_eq q Q D K V ct (mk q 0) 0 hM, trem_eq q Q K ct (mk q 0) 0 hM]
  have e := ter_eq q Q D K V ct (mk q 0) 0 hM
  have e1 := fun J l => tacc_eq 0 (wdz q Q D K V ct) Q dk J l
  have e2 := fun J l => tacc_eq 0 (ww q Q K ct) D dv J l
  have f1 : tdz (mk q 0) Q D (tile K 0) (tile V 0) (wrem q Q K ct 0) (wer q Q D K V ct 0) = fun s k => wdz q Q D K V ct s (256 * 0 + k.val) :=
    funext fun s => funext fun k => tdz_eq q Q D K V ct (mk q 0) 0 hM s k
  have f2 : tw (mk q 0) Q (tile K 0) (wrem q Q K ct 0) = fun s k => ww q Q K ct s (256 * 0 + k.val) :=
    funext fun s => funext fun k => tw_eq q Q K ct (mk q 0) 0 hM s k
  unfold ter at e
  rw [e, f1, f2]
  simp only [e1, e2]

/-- What the last tile leaves. -/
theorem tileLast_at (hq : q < 65) : tileLast E (BitVec.ofNat 32 q) q (stAt q Q D K V ct dk dv q)
    = (up .f32 (fun p l => wdq q Q D K V ct (q + 1) p l * (1 / 8)), seq .f32 (wacc (wdz q Q D K V ct) Q (q + 1) dk),
       seq .f32 (wacc (ww q Q K ct) D (q + 1) dv)) := by
  have hM : ∀ s k, mk q q s k = decide (Seen q s (256 * q + k.val)) := fun s k => rfl
  unfold tileLast
  rw [h2, h8, h14, h84, h95, h3, h4, rows_seq _ _ _ (by omega), rows_seq _ _ _ (by omega)]
  unfold stAt
  dsimp only
  rw [rows_seq _ _ _ (by omega), rows_seq _ _ _ (by omega), pay127_up, pay128_up, pay131_up, pay132_bits q hq, pay133_up _ _ _ q hq, pay134_up _ _ _ _ _ q hq]
  rw [pay2_up, pay3_up, pay4_up, setRows_seq _ _ (by omega), setRows_seq _ _ (by omega), tdq_eq q Q D K V ct (mk q q) q hM]
  have e1 := fun J l => tacc_eq q (wdz q Q D K V ct) Q dk J l
  have e2 := fun J l => tacc_eq q (ww q Q K ct) D dv J l
  have f1 : tdz (mk q q) Q D (tile K q) (tile V q) (wrem q Q K ct q) (wer q Q D K V ct q) = fun s k => wdz q Q D K V ct s (256 * q + k.val) :=
    funext fun s => funext fun k => tdz_eq q Q D K V ct (mk q q) q hM s k
  have f2 : tw (mk q q) Q (tile K q) (wrem q Q K ct q) = fun s k => ww q Q K ct s (256 * q + k.val) :=
    funext fun s => funext fun k => tw_eq q Q K ct (mk q q) q hM s k
  rw [f1, f2]
  simp only [e1, e2]

theorem beforeLast_at (hq : q < 65) : beforeLast E (BitVec.ofNat 32 q) q (stAt q Q D K V ct dk dv 0) = stAt q Q D K V ct dk dv q := by
  unfold beforeLast first
  by_cases h0 : q = 0
  · subst h0; rfl
  · rw [if_neg h0, tile0_at q Q D K V ct dk dv E h2 h8 h14 h84 h95 h3 h4 (by omega) hq]
    have w : ∀ t, t + 1 ≤ q → walk E (stAt q Q D K V ct dk dv 1) t = stAt q Q D K V ct dk dv (t + 1) := by
      intro t
      induction t with
      | zero => intro _; rfl
      | succ t ih =>
        intro ht
        show tileU E (t + 1) (walk E _ t) = _
        rw [ih (by omega), tileU_at q Q D K V ct dk dv E h2 h8 h14 h84 h95 h3 h4 (t + 1) (by omega) (by omega) hq]
    rw [w (q - 1) (by omega)]
    congr 1; omega

omit h2 h8 h14 h84 h95 h3 h4 in
/-- One grid point: from real blocks and real accumulators it leaves the real sums. -/
theorem walked_up (B : Blocks Ideal) (i : grid0.Coords) (hi : (i 1).val = q) (qb ob cb cc : Fin 256 → Fin 128 → ℝ) (gb : Fin 1 → Fin 128 → ℝ)
    (b2 : B.X2 = up .bf16 qb) (b3 : B.X3 = seq .bf16 K) (b4 : B.X4 = seq .bf16 V) (b5 : B.X5 = up .f32 ob) (b6 : B.X6 = up .f32 cc)
    (b7 : B.X7 = up .f32 cb) (b8 : B.X8 = up .f32 gb) (x y : Vec Ideal S16640x128 .f32)
    (hx : (i 1).val = 0 ∨ x = seq .f32 dk) (hy : (i 1).val = 0 ∨ y = seq .f32 dv)
    (hk : (i 1).val = 0 → dk = fun _ _ => 0) (hv : (i 1).val = 0 → dv = fun _ _ => 0) :
    B.walked i x y =
      (up .f32 (fun p l => wdq q (stack fun p l => qb p l * (1 / 8)) (stack (dob ob cb gb)) K V (ends cc) (q + 1) p l * (1 / 8)),
       seq .f32 (wacc (wdz q (stack fun p l => qb p l * (1 / 8)) (stack (dob ob cb gb)) K V (ends cc)) (stack fun p l => qb p l * (1 / 8)) (q + 1) dk),
       seq .f32 (wacc (ww q (stack fun p l => qb p l * (1 / 8)) K (ends cc)) (stack (dob ob cb gb)) (q + 1) dv)) := by
  have hq : q < 65 := hi ▸ point_lt i
  have s0 : B.start i x y = stAt q (stack fun p l => qb p l * (1 / 8)) (stack (dob ob cb gb)) K V (ends cc) dk dv 0 := by
    unfold Blocks.start stAt
    rw [pay111_up, pay112_up, pay99_up, pay100_up, b6, pay110_up]
    have e1 : (if (i 1).val = 0 then (up .f32 fun _ _ => 0 : Vec Ideal S16640x128 .f32) else x) = seq .f32 dk := by
      by_cases h : (i 1).val = 0
      · rw [if_pos h, hk h]
      · rw [if_neg h]; exact hx.resolve_left h
    have e2 : (if (i 1).val = 0 then (up .f32 fun _ _ => 0 : Vec Ideal S16640x128 .f32) else y) = seq .f32 dv := by
      by_cases h : (i 1).val = 0
      · rw [if_pos h, hv h]
      · rw [if_neg h]; exact hy.resolve_left h
    rw [e1, e2]
    have a1 : wdq q (stack fun p l => qb p l * (1 / 8)) (stack (dob ob cb gb)) K V (ends cc) 0 = fun _ _ => 0 := by
      funext p l; unfold wdq; simp
    have a2 : wrem q (stack fun p l => qb p l * (1 / 8)) K (ends cc) 0 = ends cc := by
      funext p l; unfold wrem; simp
    have a3 : wer q (stack fun p l => qb p l * (1 / 8)) (stack (dob ob cb gb)) K V (ends cc) 0 = fun _ _ => 0 := by
      funext p l; unfold wer; simp
    have a4 : ∀ (x : Fin 512 → ℕ → ℝ) (y : Fin 512 → Fin 128 → ℝ) (a : ℕ → Fin 128 → ℝ), wacc x y 0 a = a := by
      intro x y a; funext J l; unfold wacc; simp
    rw [a1, a2, a3, a4, a4]
  unfold Blocks.walked
  have d2 : B.env.v2 = bits low := pay95_bits
  have d84 : B.env.v84 = up .bf16 (stack (dob ob cb gb)) := by
    show k0_pay108 k0_pay95 _ _ _ _ _ = _
    rw [b5, b7, b8, pay95_bits, pay108_up]
  have d95 : B.env.v95 = up .bf16 (stack fun p l => qb p l * (1 / 8)) := by
    show k0_pay109 k0_pay95 B.X2 = _
    rw [b2, pay95_bits, pay109_up]
  rw [s0, hi, beforeLast_at q _ _ K V _ dk dv B.env d2 pay96_up pay97_up d84 d95 b3 b4 hq,
    tileLast_at q _ _ K V _ dk dv B.env d2 pay96_up pay97_up d84 d95 b3 b4 hq]

omit h2 h8 h14 h84 h95 h3 h4 in
theorem gain_up (B : Blocks Ideal) (i : grid0.Coords) (ob cb : Fin 256 → Fin 128 → ℝ) (b5 : B.X5 = up .f32 ob) (b7 : B.X7 = up .f32 cb)
    (x : Vec Ideal S1x128 .f32) (d : Fin 1 → Fin 128 → ℝ) (hx : ((i 0).val = 0 ∧ (i 1).val = 0) ∨ x = up .f32 d)
    (hd : (i 0).val = 0 ∧ (i 1).val = 0 → d = fun _ _ => 0) : B.gain i x = up .f32 (dgb ob cb d) := by
  unfold Blocks.gain
  have e : (if (i 0).val = 0 ∧ (i 1).val = 0 then k0_pay98 (F := Ideal) else x) = up .f32 d := by
    by_cases h : (i 0).val = 0 ∧ (i 1).val = 0
    · rw [if_pos h, hd h, pay98_up]
    · rw [if_neg h]; exact hx.resolve_left h
  rw [e, b5, b7, pay107_up]

end Cert.SbIdeal.Sb
-- ==== Proof.SbFinal.lean ====
/-
  What the attention's backward program leaves in its four output arrays, from the arrays of reals its inputs hold: the
  gradients of the queries, the keys and the values, and the gain's gradient lane by lane.
-/
module

public import proofs.«01_k».proof.Proof.SbGrad
public import proofs.«01_k».proof.Proof.SbWalk
public import proofs.«01_k».proof.Proof.SbFrame
public import Idealize.ShloMosaic.Lib.Pipeline.ValueKit

@[expose] public section

set_option maxRecDepth 16384

noncomputable section

open Idealize.ShloMosaic Idealize.ShloMosaic.TcCoe Idealize.SL.Sem

namespace Cert.SbIdeal.Run

open Cert.SbIdeal Cert.SbIdeal.Gen
open Cert.SbIdeal.Sb hiding sig

variable (m : (ℓ : Loc nD τ sig) → Buf (Elt Ideal) ℓ) (c : Dev nD)

/-- The inputs of the program are these reals. -/
structure Inputs (q k v ct : ℕ → ℕ → ℝ) (g : ℕ → ℝ) : Prop where
  qkv : (V m c main_v44 : FVec Ideal S16640x768 .bf16) = up .bf16 (fun (r : Fin 16640) (l : Fin 768) =>
    if l.val < 256 then q r.val l.val else if l.val < 512 then k r.val (l.val - 256) else v r.val (l.val - 512))
  o : (V m c main_v38 : FVec Ideal S16640x256 .f32) = up .f32 (fun (r : Fin 16640) (l : Fin 256) => go q k v (l.val / 64) r.val (l.val % 64))
  tot : (V m c main_v43 : FVec Ideal S16640x256 .f32) = up .f32 (fun (r : Fin 16640) (l : Fin 256) =>
    ∑ J ∈ Finset.range 16640, gsp q k (l.val / 64) r.val J)
  ct : (V m c main_v45 : FVec Ideal S16640x256 .f32) = up .f32 (fun (r : Fin 16640) (l : Fin 256) => ct r.val l.val)
  gain : (V m c main_v49 : FVec Ideal S1x128 .f32) = up .f32 (fun (_ : Fin 1) (l : Fin 128) => g (l.val % 64))

theorem idx_val : ∀ t : Fin cfg0.N, win0_0.index t = ![t.val % 65, t.val / 65] ∧ win0_1.index t = ![0, 2 + t.val / 65]
    ∧ win0_2.index t = ![0, 4 + t.val / 65] ∧ win0_3.index t = ![t.val % 65, t.val / 65] ∧ win0_4.index t = ![t.val % 65, t.val / 65]
    ∧ win0_5.index t = ![t.val % 65, t.val / 65] ∧ win0_6.index t = ![0, 0] ∧ win0_7.index t = ![t.val % 65, t.val / 65]
    ∧ win0_8.index t = ![0, t.val / 65] ∧ win0_9.index t = ![0, t.val / 65] ∧ win0_10.index t = ![0, 0] :=
  (by decide +kernel : ∀ t : Fin grid0.N, _)

theorem lt_130 (t : Fin cfg0.N) : t.val < 130 := lt_of_lt_of_eq t.isLt N_0

/-- A row of the point's query block, a column of the point's pair. -/
def prow (t : Fin cfg0.N) (p : Fin 256) : Fin 16640 := ⟨(256 * (t.val % 65) + p.val) % 16640, Nat.mod_lt _ (by omega)⟩
def pcol (N : ℕ) (hN : 0 < N) (o : ℕ) (t : Fin cfg0.N) (l : Fin 128) : Fin N := ⟨(128 * (o + t.val / 65) + l.val) % N, Nat.mod_lt _ hN⟩

theorem prow_val (t : Fin cfg0.N) (p : Fin 256) : (prow t p).val = 256 * (t.val % 65) + p.val := by
  have := p.isLt
  exact Nat.mod_eq_of_lt (by omega)

section In

variable {q k v ct : ℕ → ℕ → ℝ} {g : ℕ → ℝ} (I : Inputs m c q k v ct g) (t : Fin cfg0.N)
include I

theorem blk0 : (iblk m c 0 t : FVec Ideal S256x128 .bf16) = up .bf16 (bq q (t.val / 65) (t.val % 65)) := by
  have h := lt_130 t
  funext y; idx_vars y
  have h1 := y1.isLt
  refine Eq.trans (b := (V m c main_v44 : FVec Ideal S16640x768 .bf16) (ix2 (prow t y0) (pcol 768 (by omega) 0 t y1))) ?_ ?_
  · unfold prow pcol
    blk_ext [iblk, idx_val t]
  · rw [I.qkv]
    simp only [up_apply, prow_val, pcol, bq]
    rw [show (128 * (0 + t.val / 65) + y1.val) % 768 = 128 * (t.val / 65) + y1.val by omega, if_pos (by omega)]

theorem blk1 : (iblk m c 1 t : FVec Ideal S16640x128 .bf16) = seq .bf16 (bk k (t.val / 65)) := by
  have h := lt_130 t
  funext y; idx_vars y
  have h1 := y1.isLt
  refine Eq.trans (b := (V m c main_v44 : FVec Ideal S16640x768 .bf16) (ix2 y0 (pcol 768 (by omega) 2 t y1))) ?_ ?_
  · unfold pcol
    blk_ext [iblk, idx_val t]
  · rw [I.qkv]
    simp only [up_apply, pcol, bk]
    rw [show (128 * (2 + t.val / 65) + y1.val) % 768 = 256 + (128 * (t.val / 65) + y1.val) by omega, if_neg (by omega), if_pos (by omega),
      Nat.add_sub_cancel_left]

theorem blk2 : (iblk m c 2 t : FVec Ideal S16640x128 .bf16) = seq .bf16 (bk v (t.val / 65)) := by
  have h := lt_130 t
  funext y; idx_vars y
  have h1 := y1.isLt
  refine Eq.trans (b := (V m c main_v44 : FVec Ideal S16640x768 .bf16) (ix2 y0 (pcol 768 (by omega) 4 t y1))) ?_ ?_
  · unfold pcol
    blk_ext [iblk, idx_val t]
  · rw [I.qkv]
    simp only [up_apply, pcol, bk]
    rw [show (128 * (4 + t.val / 65) + y1.val) % 768 = 512 + (128 * (t.val / 65) + y1.val) by omega, if_neg (by omega), if_neg (by omega),
      Nat.add_sub_cancel_left]

omit I in
theorem pcol_val (l : Fin 128) : (pcol 256 (by omega) 0 t l).val = 128 * (t.val / 65) + l.val := by
  have h := lt_130 t
  have := l.isLt
  show (128 * (0 + t.val / 65) + l.val) % 256 = _
  omega
omit I in
theorem pcol_div (l : Fin 128) : (pcol 256 (by omega) 0 t l).val / 64 = 2 * (t.val / 65) + l.val / 64 := by rw [pcol_val]; omega
omit I in
theorem pcol_mod (l : Fin 128) : (pcol 256 (by omega) 0 t l).val % 64 = l.val % 64 := by rw [pcol_val]; omega

omit I in
/-- Window 3's block, of any array. -/
theorem read3 (X : FVec Ideal S16640x256 .f32) (y0 : Fin 256) (y1 : Fin 128) :
    ((cfg0.win 3).blk t).view.read (Elt Ideal) X (ix2 y0 y1) = X (ix2 (prow t y0) (pcol 256 (by omega) 0 t y1)) := by
  unfold prow pcol
  blk_ext [idx_val t]

theorem blk3 : (iblk m c 3 t : FVec Ideal S256x128 .f32) = up .f32 (bo q k v (t.val / 65) (t.val % 65)) := by
  funext y; idx_vars y
  refine Eq.trans (b := (V m c main_v38 : FVec Ideal S16640x256 .f32) (ix2 (prow t y0) (pcol 256 (by omega) 0 t y1))) ?_ ?_
  · exact read3 t _ y0 y1
  · rw [I.o]
    simp only [up_apply, prow_val, pcol_div, pcol_mod, bo]

omit I in
/-- Window 4's block, of any array. -/
theorem read4 (X : FVec Ideal S16640x256 .f32) (y0 : Fin 256) (y1 : Fin 128) :
    ((cfg0.win 4).blk t).view.read (Elt Ideal) X (ix2 y0 y1) = X (ix2 (prow t y0) (pcol 256 (by omega) 0 t y1)) := by
  unfold prow pcol
  blk_ext [idx_val t]

theorem blk4 : (iblk m c 4 t : FVec Ideal S256x128 .f32) = up .f32 (bt q k (t.val / 65) (t.val % 65)) := by
  funext y; idx_vars y
  refine Eq.trans (b := (V m c main_v43 : FVec Ideal S16640x256 .f32) (ix2 (prow t y0) (pcol 256 (by omega) 0 t y1))) ?_ ?_
  · exact read4 t _ y0 y1
  · rw [I.tot]
    simp only [up_apply, prow_val, pcol_div, bt]

theorem blk5 : (iblk m c 5 t : FVec Ideal S256x128 .f32) = up .f32 (bq ct (t.val / 65) (t.val % 65)) := by
  funext y; idx_vars y
  refine Eq.trans (b := (V m c main_v45 : FVec Ideal S16640x256 .f32) (ix2 (prow t y0) (pcol 256 (by omega) 0 t y1))) ?_ ?_
  · unfold prow pcol
    blk_ext [iblk, idx_val t]
  · rw [I.ct]
    simp only [up_apply, prow_val, pcol_val, bq]

theorem blk6 : (iblk m c 6 t : FVec Ideal S1x128 .f32) = up .f32 (bg g) := by
  funext y; idx_vars y
  refine Eq.trans (b := (V m c main_v49 : FVec Ideal S1x128 .f32) (ix2 y0 y1)) ?_ ?_
  · blk_ext [iblk, idx_val t]
  · rw [I.gain]
    simp only [up_apply, bg]

/-- What the outputs hold when a point is left. -/
def left (q k v ct : ℕ → ℕ → ℝ) (g : ℕ → ℝ) (n : ℕ) : Outs Ideal :=
  (up .f32 (fun p l => gdq q k v ct g (2 * (n / 65) + l.val / 64) (256 * (n % 65) + p.val) (l.val % 64)),
   seq .f32 (dkAt q k v ct g (n / 65) (n % 65 + 1)), seq .f32 (dvAt q k v ct g (n / 65) (n % 65 + 1)),
   up .f32 (fun _ l => ∑ s ∈ Finset.range (n + 1), gnPart q k v ct (s / 65) (s % 65) l))

set_option maxHeartbeats 1000000 in
theorem step_left (o : Outs Ideal)
    (hk : t.val % 65 = 0 ∨ o.2.1 = seq .f32 (dkAt q k v ct g (t.val / 65) (t.val % 65)))
    (hv : t.val % 65 = 0 ∨ o.2.2.1 = seq .f32 (dvAt q k v ct g (t.val / 65) (t.val % 65)))
    (hg : t.val = 0 ∨ o.2.2.2 = up .f32 (fun _ l => ∑ s ∈ Finset.range t.val, gnPart q k v ct (s / 65) (s % 65) l)) :
    step m c t o = left q k v ct g t.val := by
  have hN := lt_130 t
  have c1 := coord1 t
  have c0 := coord0 t
  have hn : t.val % 65 < 65 := Nat.mod_lt _ (by omega)
  have z1 : t.val % 65 = 0 → dkAt q k v ct g (t.val / 65) (t.val % 65) = fun _ _ => 0 := by
    intro h; funext J l; rw [h]; unfold dkAt; simp
  have z2 : t.val % 65 = 0 → dvAt q k v ct g (t.val / 65) (t.val % 65) = fun _ _ => 0 := by
    intro h; funext J l; rw [h]; unfold dvAt; simp
  unfold step left
  rw [walked_up (t.val % 65) (bk k (t.val / 65)) (bk v (t.val / 65)) (dkAt q k v ct g (t.val / 65) (t.val % 65))
    (dvAt q k v ct g (t.val / 65) (t.val % 65)) (blocks m c t) (grid0.coords t) c1 (bq q (t.val / 65) (t.val % 65))
    (bo q k v (t.val / 65) (t.val % 65)) (bq ct (t.val / 65) (t.val % 65)) (bt q k (t.val / 65) (t.val % 65)) (bg g)
    (blk0 m c I t) (blk1 m c I t) (blk2 m c I t) (blk3 m c I t) (blk4 m c I t) (blk5 m c I t) (blk6 m c I t) o.2.1 o.2.2.1
    (hk.imp (fun h => c1.trans h) id) (hv.imp (fun h => c1.trans h) id) (fun h => z1 (c1.symm.trans h)) (fun h => z2 (c1.symm.trans h)),
    gain_up (blocks m c t) (grid0.coords t) (bo q k v (t.val / 65) (t.val % 65)) (bq ct (t.val / 65) (t.val % 65)) (blk3 m c I t) (blk5 m c I t)
      o.2.2.2 (fun _ l => ∑ s ∈ Finset.range t.val, gnPart q k v ct (s / 65) (s % 65) l)
      (hg.imp (fun h => ⟨by omega, by omega⟩) id) (fun h => by
        have h0 : t.val = 0 := by omega
        funext z l; rw [h0]; simp)]
  dsimp only
  rw [dgb_eq, dk_step q k v ct g (t.val / 65) (t.val % 65) hn, dv_step q k v ct g (t.val / 65) (t.val % 65) hn]
  simp only [wdq_gdq q k v ct g (t.val / 65) (t.val % 65) hn, Finset.sum_range_succ]

theorem outsAt_left : ∀ (n : ℕ) (h : n < cfg0.N), outsAt m c n h = left q k v ct g n := by
  intro n
  induction n with
  | zero =>
    intro h
    exact step_left m c I ⟨0, h⟩ _ (Or.inl rfl) (Or.inl rfl) (Or.inl rfl)
  | succ n ih =>
    intro h
    show step m c ⟨n + 1, h⟩ (outsAt m c n _) = _
    rw [ih]
    have hN : n + 1 < 130 := lt_130 ⟨n + 1, h⟩
    refine step_left m c I ⟨n + 1, h⟩ _ ?_ ?_ (Or.inr rfl)
    · by_cases h0 : (n + 1) % 65 = 0
      · exact Or.inl h0
      · refine Or.inr ?_
        show seq .f32 (dkAt q k v ct g (n / 65) (n % 65 + 1)) = seq .f32 (dkAt q k v ct g ((n + 1) / 65) ((n + 1) % 65))
        rw [show (n + 1) / 65 = n / 65 by omega, show (n + 1) % 65 = n % 65 + 1 by omega]
    · by_cases h0 : (n + 1) % 65 = 0
      · exact Or.inl h0
      · refine Or.inr ?_
        show seq .f32 (dvAt q k v ct g (n / 65) (n % 65 + 1)) = seq .f32 (dvAt q k v ct g ((n + 1) / 65) ((n + 1) % 65))
        rw [show (n + 1) / 65 = n / 65 by omega, show (n + 1) % 65 = n % 65 + 1 by omega]

/-- The queries' gradient, after the run. -/
theorem final7 : (dats m 0 c).arrAt 7 (cfgs 0).N
    = (up .f32 (fun (r : Fin 16640) (l : Fin 256) => gdq q k v ct g (l.val / 64) r.val (l.val % 64)) : FVec Ideal S16640x256 .f32) := by
  refine (dats m 0 c).arrAt_eq_of_covers 7 _ (by decide +kernel) fun t _ y => ?_
  blk_simp
  rw [after_7, outsAt_left m c I]
  idx_vars y
  have e0 : ((View.whole main_v50_0).slice (win0_7.rect t)).emb (ix2 y0 y1) = ix2 (prow t y0) (pcol 256 (by omega) 0 t y1) := by
    unfold prow pcol
    blk_ext [idx_val t]
  rw [e0]
  simp only [left, up_apply, prow_val, pcol_div, pcol_mod]

/-- The keys' gradient, after the run. -/
theorem final8 : (dats m 0 c).arrAt 8 (cfgs 0).N
    = (up .f32 (fun (r : Fin 16640) (l : Fin 256) => gdk q k v ct g (l.val / 64) r.val (l.val % 64)) : FVec Ideal S16640x256 .f32) := by
  refine (dats m 0 c).arrAt_eq_of_covers 8 _ (by decide +kernel) fun t hf y => ?_
  blk_simp
  rw [after_8, outsAt_left m c I]
  idx_vars y
  have e0 : ((View.whole main_v50_1).slice (win0_8.rect t)).emb (ix2 y0 y1) = ix2 y0 (pcol 256 (by omega) 0 t y1) := by
    unfold pcol
    blk_ext [idx_val t]
  rw [e0]
  have h64 : t.val % 65 = 64 := (flush0_8 t).mp hf
  simp only [left, up_apply, pcol_div, pcol_mod, dkAt, gdk, h64]
  have e : 128 * (t.val / 65) + y1.val = 64 * (2 * (t.val / 65) + y1.val / 64) + y1.val % 64 := by omega
  rw [e]

/-- The values' gradient, after the run. -/
theorem final9 : (dats m 0 c).arrAt 9 (cfgs 0).N
    = (up .f32 (fun (r : Fin 16640) (l : Fin 256) => gdv q k v ct g (l.val / 64) r.val (l.val % 64)) : FVec Ideal S16640x256 .f32) := by
  refine (dats m 0 c).arrAt_eq_of_covers 9 _ (by decide +kernel) fun t hf y => ?_
  blk_simp
  rw [after_9, outsAt_left m c I]
  idx_vars y
  have e0 : ((View.whole main_v50_2).slice (win0_9.rect t)).emb (ix2 y0 y1) = ix2 y0 (pcol 256 (by omega) 0 t y1) := by
    unfold pcol
    blk_ext [idx_val t]
  rw [e0]
  have h64 : t.val % 65 = 64 := (flush0_9 t).mp hf
  simp only [left, up_apply, pcol_div, pcol_mod, dvAt, gdv, h64]

/-- The gain's gradient, after the run: a lane holds its two heads' sums. -/
theorem final10 : (dats m 0 c).arrAt 10 (cfgs 0).N
    = (up .f32 (fun (_ : Fin 1) (l : Fin 128) => ggn q k v ct (l.val / 64) (l.val % 64) + ggn q k v ct (2 + l.val / 64) (l.val % 64)) : FVec Ideal S1x128 .f32) := by
  refine (dats m 0 c).arrAt_eq_of_covers 10 _ (by decide +kernel) fun t hf y => ?_
  blk_simp
  rw [after_10, outsAt_left m c I]
  idx_vars y
  have e0 : ((View.whole main_v50_3).slice (win0_10.rect t)).emb (ix2 y0 y1) = ix2 y0 y1 := by
    blk_ext [idx_val t]
  rw [e0]
  have h64 : t.val % 130 = 129 := (flush0_10 t).mp hf
  have hN := lt_130 t
  have ht : t.val = 129 := by omega
  simp only [left, up_apply, ht]
  refine congrArg (fun a : ℝ => (a : EReal)) ?_
  rw [show (129 + 1 : ℕ) = 65 + 65 from rfl, Finset.sum_range_add]
  refine congrArg₂ (fun a b : ℝ => a + b) ?_ ?_
  · rw [← show 2 * 0 + y1.val / 64 = y1.val / 64 by omega, ← sum_gnPart q k v ct 0 y1]
    refine Finset.sum_congr rfl fun s hs => ?_
    have := Finset.mem_range.1 hs
    rw [show s / 65 = 0 by omega, show s % 65 = s by omega]
  · rw [← show 2 * 1 + y1.val / 64 = 2 + y1.val / 64 by omega, ← sum_gnPart q k v ct 1 y1]
    refine Finset.sum_congr rfl fun s hs => ?_
    have := Finset.mem_range.1 hs
    rw [show (65 + s) / 65 = 1 by omega, show (65 + s) % 65 = s by omega]

end In

end Cert.SbIdeal.Run
-- ==== Proof.SbHost.lean ====
/-
  The attention kernel's arguments as the host prepares them: zeros in front of the rows, the three projections beside each
  other, and the saved read-out and softplus totals, all on arrays of reals.
-/
module

public import proofs.«01_k».proof.Proof.SbArr
public import proofs.«01_k».proof.Proof.SbFinal

@[expose] public section

set_option maxRecDepth 16384

noncomputable section

open Idealize.ShloMosaic Idealize.ShloMosaic.TcCoe Idealize.SL.Sem

namespace Cert.SbIdeal.Run

open Cert.SbIdeal Cert.SbIdeal.Gen
open Cert.SbIdeal.Sb hiding sig

variable (m : (ℓ : Loc nD τ sig) → Buf (Elt Ideal) ℓ) (c : Dev nD)

/-- Three arrays beside each other. -/
def beside (q k v : ℕ → ℕ → ℝ) (r l : ℕ) : ℝ := if l < 256 then q r l else if l < 512 then k r (l - 256) else v r (l - 512)

variable (q k v : ℕ → ℕ → ℝ)

theorem join_sheet :
    concatenate S16400x768 1 [⟨S16400x256, sheet .f32 16400 256 q⟩, ⟨S16400x256, sheet .f32 16400 256 k⟩, ⟨S16400x256, sheet .f32 16400 256 v⟩]
      concatenates_S16400x256_S16400x256_S16400x256_S16400x768_d1 = sheet .f32 16400 768 (beside q k v) := by
  funext i; idx_vars i
  have hi := i1.isLt
  have piece (n o : ℕ) (hn : n < 3) (x : FVec Ideal S16400x256 .f32)
      (hx : [(⟨S16400x256, sheet .f32 16400 256 q⟩ : (s : Shape) × (s.Idx → EReal)), ⟨S16400x256, sheet .f32 16400 256 k⟩, ⟨S16400x256, sheet .f32 16400 256 v⟩][n] = ⟨S16400x256, x⟩)
      (ho : 256 * n = o) (h1 : o ≤ i1.val) (h2 : i1.val < o + 256) :
      concatenate S16400x768 1 [⟨S16400x256, sheet .f32 16400 256 q⟩, ⟨S16400x256, sheet .f32 16400 256 k⟩, ⟨S16400x256, sheet .f32 16400 256 v⟩]
        concatenates_S16400x256_S16400x256_S16400x256_S16400x768_d1 (ix2 i0 i1) = x (ix2 i0 ⟨i1.val - o, by omega⟩) := by
    refine concatenate_apply_piece (t := S16400x768) 1 [⟨S16400x256, sheet .f32 16400 256 q⟩, ⟨S16400x256, sheet .f32 16400 256 k⟩, ⟨S16400x256, sheet .f32 16400 256 v⟩] _ (ix2 i0 i1) n hn S16400x256 x hx rfl o ?_ (ix2 i0 ⟨i1.val - o, by omega⟩) ?_ ?_
    · subst ho
      match n, hn with
      | 0, _ => rfl
      | 1, _ => rfl
      | 2, _ => rfl
    · intro b hb
      match b with
      | ⟨0, _⟩ => rfl
      | ⟨1, _⟩ => exact absurd rfl hb
    · show o + (i1.val - o) = i1.val
      omega
  rw [sheet_apply]; unfold beside
  by_cases h1 : i1.val < 256
  · rw [if_pos h1]; exact piece 0 0 (by decide) _ rfl rfl (by omega) (by omega)
  · rw [if_neg h1]
    by_cases h2 : i1.val < 512
    · rw [if_pos h2]; exact piece 1 256 (by decide) _ rfl rfl (by omega) (by omega)
    · rw [if_neg h2]; exact piece 2 512 (by decide) _ rfl rfl (by omega) (by omega)

variable (X : ℕ → ℕ → ℝ)

theorem heads0 : shapeCast S16640x4x64 (extractStridedSlice S16640x256 ![0, 0] (sheet .f32 16640 768 X) slices_S16640x768_S16640x256_0_0) shapeCasts_S16640x256_S16640x4x64
    = cube 16640 4 64 (fun r h d => X r (64 * h + d)) := by
  funext i; idx_vars i
  pointwise
  exact congrArg (fun t : ℕ => ((X i0.val t : ℝ) : EReal)) (show i1.val * 64 + i2.val = 64 * i1.val + i2.val by omega)

theorem heads1 : shapeCast S16640x4x64 (extractStridedSlice S16640x256 ![0, 256] (sheet .f32 16640 768 X) slices_S16640x768_S16640x256_0_256) shapeCasts_S16640x256_S16640x4x64
    = cube 16640 4 64 (fun r h d => X r (256 + (64 * h + d))) := by
  funext i; idx_vars i
  pointwise
  exact congrArg (fun t : ℕ => ((X i0.val t : ℝ) : EReal)) (show 256 + (i1.val * 64 + i2.val) = 256 + (64 * i1.val + i2.val) by omega)

theorem heads2 : shapeCast S16640x4x64 (extractStridedSlice S16640x256 ![0, 512] (sheet .f32 16640 768 X) slices_S16640x768_S16640x256_0_512) shapeCasts_S16640x256_S16640x4x64
    = cube 16640 4 64 (fun r h d => X r (512 + (64 * h + d))) := by
  funext i; idx_vars i
  pointwise
  exact congrArg (fun t : ℕ => ((X i0.val t : ℝ) : EReal)) (show 512 + (i1.val * 64 + i2.val) = 512 + (64 * i1.val + i2.val) by omega)

variable (Q K U : ℕ → ℕ → ℕ → ℝ)

theorem scores : Host.dotGeneral (F := Ideal) dot_S16640x4x64_S16640x4x64_S4x16640x16640_2_2_0_0_1_1 none
      (mulf (cube 16640 4 64 Q) (broadcastInDim S16640x4x64 ![] bcast_S_S16640x4x64 (constant S_ .f32 0x3E000000#32))) (cube 16640 4 64 K)
    = cube 4 16640 16640 (fun h i j => (∑ d : Fin 64, Q i h d * K j h d) * (1 / 8)) := by
  funext i; idx_vars i
  pointwise
  simp only [cube_apply, ofBits_eighth_f32, ← EReal.coe_mul, coe_sum]
  rw [Finset.sum_mul]
  refine congrArg (fun t : ℝ => (t : EReal)) (Finset.sum_congr rfl fun d _ => ?_)
  ring

/-- A key is seen by a query, as a one-bit word. -/
def seen : IVec S16640x16640 1 := bits (fun (i : Fin 16640) (j : Fin 16640) => decide (Vis i.val j.val))

theorem mask_bits :
    andi (cmpi .slt (broadcastInDim S16640x16640 ![0, 1] bcast_S1x16640_S16640x16640_0_1 (broadcastInDim S1x16640 ![1] bcast_S16640_S1x16640_1 (iotaInDim S16640 32 0)))
        (broadcastInDim S16640x16640 ![0, 1] bcast_S16640x1_S16640x16640_0_1 (broadcastInDim S16640x1 ![0] bcast_S16640_S16640x1_0 (iotaInDim S16640 32 0))))
      (broadcastInDim S16640x16640 ![0, 1] bcast_S1x16640_S16640x16640_0_1 (cmpi .sge (broadcastInDim S1x16640 ![1] bcast_S16640_S1x16640_1 (iotaInDim S16640 32 0))
        (broadcastInDim S1x16640 ![] bcast_S_S1x16640 (constantI S_ 32 240#32)))) = seen := by
  funext i; idx_vars i
  pointwise
  exact and_word _ _ (by omega) (by omega)

theorem softplus_cube : select (broadcastInDim S4x16640x16640 ![1, 2] bcast_S16640x16640_S4x16640x16640_1_2 seen)
      (addf (maximumf (cube 4 16640 16640 U) (broadcastInDim S4x16640x16640 ![] bcast_S_S4x16640x16640 (constant (F := Ideal) S_ .f32 0#32)))
        (Host.log (addf (broadcastInDim S4x16640x16640 ![] bcast_S_S4x16640x16640 (constant S_ .f32 0x3F800000#32)) (Host.exp (Host.negf (Host.absf (cube 4 16640 16640 U)))))))
      (broadcastInDim S4x16640x16640 ![] bcast_S_S4x16640x16640 (constant S_ .f32 0#32))
    = cube 4 16640 16640 (fun h i j => if Vis i j then sp (U h i j) else 0) := by
  funext i; idx_vars i
  pointwise
  rw [show seen (ix2 i1 i2) = BitVec.ofBool (decide (Vis i1.val i2.val)) from rfl, sel_bool]
  simp only [cube_apply, decide_eq_true_eq]
  by_cases h : Vis i1.val i2.val
  · rw [if_pos h, if_pos h]
    show max _ _ + Ideal.log (1 + Ideal.exp (-(max (U i0 i1 i2 : EReal) (-(U i0 i1 i2 : EReal))))) = _
    rw [← EReal.coe_neg, coe_max, ← EReal.coe_neg, Ideal.exp_coe]
    exact max_add_log _
  · rw [if_neg h, if_neg h]; rfl

theorem weights_cube (S : ℕ → ℕ → ℕ → ℝ) : select (broadcastInDim S4x16640x16640 ![1, 2] bcast_S16640x16640_S4x16640x16640_1_2 seen)
      (Host.exp (subf (cube 4 16640 16640 U) (cube 4 16640 16640 S)))
      (broadcastInDim S4x16640x16640 ![] bcast_S_S4x16640x16640 (constant S_ .f32 0#32))
    = cube 4 16640 16640 (fun h i j => if Vis i j then Real.exp (U h i j - S h i j) else 0) := by
  funext i; idx_vars i
  pointwise
  rw [show seen (ix2 i1 i2) = BitVec.ofBool (decide (Vis i1.val i2.val)) from rfl, sel_bool]
  simp only [cube_apply, decide_eq_true_eq, ← EReal.coe_sub, Ideal.exp_coe]
  by_cases h : Vis i1.val i2.val
  · rw [if_pos h, if_pos h]
  · rw [if_neg h, if_neg h]; rfl

theorem readout_sheet : shapeCast S16640x256 (transpose S16640x4x64 [2, 0, 1] (Host.dotGeneral (F := Ideal) dot_S16640x4x64_S4x16640x16640_S4x64x16640_0_2_2_1_1_0 none
      (cube 16640 4 64 Q) (cube 4 16640 16640 U)) transposes_S4x64x16640_S16640x4x64_2_0_1) shapeCasts_S16640x4x64_S16640x256
    = sheet .f32 16640 256 (fun r l => ∑ J ∈ Finset.range 16640, U (l / 64) r J * Q J (l / 64) (l % 64)) := by
  funext i; idx_vars i
  pointwise
  simp only [cube_apply, sheet_apply, ← EReal.coe_mul, coe_sum]
  rw [← Fin.sum_univ_eq_sum_range (fun J => U (i1.val / 64) i0 J * Q J (i1.val / 64) (i1.val % 64))]
  refine congrArg (fun t : ℝ => (t : EReal)) (Finset.sum_congr rfl fun J _ => mul_comm _ _)

theorem totals_sheet : shapeCast S16640x256 (broadcastInDim S16640x4x64 ![0, 1, 2] bcast_S16640x4x1_S16640x4x64_0_1_2 (broadcastInDim S16640x4x1 ![0, 1] bcast_S16640x4_S16640x4x1_0_1
      (transpose S16640x4 [1, 0] (Host.reduceAdd (cube 4 16640 16640 U) (constant S_ .f32 0#32) reducesTo_S4x16640x16640_S4x16640_d2 h_S_) transposes_S4x16640_S16640x4_1_0))) shapeCasts_S16640x4x64_S16640x256
    = sheet .f32 16640 256 (fun r l => ∑ J ∈ Finset.range 16640, U (l / 64) r J) := by
  funext i; idx_vars i
  pointwise
  simp only [cube_apply, sheet_apply, coe_sum]
  rw [← Fin.sum_univ_eq_sum_range (fun J => U (i1.val / 64) i0 J)]

/-! ### The program's arrays -/

theorem v1_eq : @Eq (FVec Ideal S16640x768 .f32) (V m c main_v1) (pad S16640x768 ![240, 0] ![0, 0] ![0, 0]
    (concatenate S16400x768 1 [⟨S16400x256, (m ((c : Thread nD τ).loc main_arg0) : FVec Ideal S16400x256 .f32)⟩, ⟨S16400x256, (m ((c : Thread nD τ).loc main_arg1) : FVec Ideal S16400x256 .f32)⟩,
      ⟨S16400x256, (m ((c : Thread nD τ).loc main_arg2) : FVec Ideal S16400x256 .f32)⟩] concatenates_S16400x256_S16400x256_S16400x256_S16400x768_d1)
    (sitofp .f32 (constantI S_ 32 0#32)) pads_S16400x768_S16640x768_24000_000 h_S_) := rfl

theorem v10_eq (x : FVec Ideal S16640x768 .f32) (hx : @Eq (FVec Ideal S16640x768 .f32) (V m c main_v1) x) :
    @Eq (FVec Ideal S4x16640x16640 .f32) (V m c main_v10) (Host.dotGeneral (F := Ideal) dot_S16640x4x64_S16640x4x64_S4x16640x16640_2_2_0_0_1_1 none
      (mulf (shapeCast S16640x4x64 (extractStridedSlice S16640x256 ![0, 0] x slices_S16640x768_S16640x256_0_0) shapeCasts_S16640x256_S16640x4x64)
        (broadcastInDim S16640x4x64 ![] bcast_S_S16640x4x64 (constant S_ .f32 0x3E000000#32)))
      (shapeCast S16640x4x64 (extractStridedSlice S16640x256 ![0, 256] x slices_S16640x768_S16640x256_0_256) shapeCasts_S16640x256_S16640x4x64)) := by
  subst hx; sl_kernel_rfl

theorem v21_eq : @Eq (IVec S16640x16640 1) (V m c main_v21)
    (andi (cmpi .slt (broadcastInDim S16640x16640 ![0, 1] bcast_S1x16640_S16640x16640_0_1 (broadcastInDim S1x16640 ![1] bcast_S16640_S1x16640_1 (iotaInDim S16640 32 0)))
        (broadcastInDim S16640x16640 ![0, 1] bcast_S16640x1_S16640x16640_0_1 (broadcastInDim S16640x1 ![0] bcast_S16640_S16640x1_0 (iotaInDim S16640 32 0))))
      (broadcastInDim S16640x16640 ![0, 1] bcast_S1x16640_S16640x16640_0_1 (cmpi .sge (broadcastInDim S1x16640 ![1] bcast_S16640_S1x16640_1 (iotaInDim S16640 32 0))
        (broadcastInDim S1x16640 ![] bcast_S_S1x16640 (constantI S_ 32 240#32))))) := rfl

theorem v30_eq (z : FVec Ideal S4x16640x16640 .f32) (hz : @Eq (FVec Ideal S4x16640x16640 .f32) (V m c main_v10) z) :
    @Eq (FVec Ideal S4x16640x16640 .f32) (V m c main_v30)
      (addf (maximumf z (broadcastInDim S4x16640x16640 ![] bcast_S_S4x16640x16640 (constant (F := Ideal) S_ .f32 0#32)))
        (Host.log (addf (broadcastInDim S4x16640x16640 ![] bcast_S_S4x16640x16640 (constant S_ .f32 0x3F800000#32)) (Host.exp (Host.negf (Host.absf z)))))) := by
  subst hz; sl_kernel_rfl

theorem v31_eq (p : IVec S16640x16640 1) (hp : @Eq (IVec S16640x16640 1) (V m c main_v21) p)
    (y : FVec Ideal S4x16640x16640 .f32) (hy : @Eq (FVec Ideal S4x16640x16640 .f32) (V m c main_v30) y) :
    @Eq (FVec Ideal S4x16640x16640 .f32) (V m c main_v31)
      (select (broadcastInDim S4x16640x16640 ![1, 2] bcast_S16640x16640_S4x16640x16640_1_2 p) y
        (broadcastInDim S4x16640x16640 ![] bcast_S_S4x16640x16640 (constant S_ .f32 0#32))) := by
  subst hp hy; sl_kernel_rfl

theorem v32_eq (y : FVec Ideal S4x16640x16640 .f32) (hy : @Eq (FVec Ideal S4x16640x16640 .f32) (V m c main_v31) y) :
    @Eq (FVec Ideal S4x16640x16640 .f32) (V m c main_v32)
      (Host.reduceWindowAdd ![1, 1, 16640] ![1, 1, 1] ![0, 0, 0] ![0, 0, 16639] y
        (broadcastInDim S_ ![] bcast_S_S_ (constant S_ .f32 0#32)) reduceWindows_S4x16640x16640_S4x16640x16640_w1s1p0_0_w1s1p0_0_w16640s1p0_16639 h_S_) := by
  subst hy; sl_kernel_rfl

theorem v35_eq (p : IVec S16640x16640 1) (hp : @Eq (IVec S16640x16640 1) (V m c main_v21) p)
    (z y : FVec Ideal S4x16640x16640 .f32) (hz : @Eq (FVec Ideal S4x16640x16640 .f32) (V m c main_v10) z) (hy : @Eq (FVec Ideal S4x16640x16640 .f32) (V m c main_v32) y) :
    @Eq (FVec Ideal S4x16640x16640 .f32) (V m c main_v35)
      (select (broadcastInDim S4x16640x16640 ![1, 2] bcast_S16640x16640_S4x16640x16640_1_2 p) (Host.exp (subf z y))
        (broadcastInDim S4x16640x16640 ![] bcast_S_S4x16640x16640 (constant S_ .f32 0#32))) := by
  subst hp hz hy; sl_kernel_rfl

theorem v38_eq (x : FVec Ideal S16640x768 .f32) (hx : @Eq (FVec Ideal S16640x768 .f32) (V m c main_v1) x)
    (y : FVec Ideal S4x16640x16640 .f32) (hy : @Eq (FVec Ideal S4x16640x16640 .f32) (V m c main_v35) y) :
    @Eq (FVec Ideal S16640x256 .f32) (V m c main_v38)
      (shapeCast S16640x256 (transpose S16640x4x64 [2, 0, 1] (Host.dotGeneral (F := Ideal) dot_S16640x4x64_S4x16640x16640_S4x64x16640_0_2_2_1_1_0 none
        (shapeCast S16640x4x64 (extractStridedSlice S16640x256 ![0, 512] x slices_S16640x768_S16640x256_0_512) shapeCasts_S16640x256_S16640x4x64)
        y) transposes_S4x64x16640_S16640x4x64_2_0_1) shapeCasts_S16640x4x64_S16640x256) := by
  subst hx hy; sl_kernel_rfl

theorem v43_eq (y : FVec Ideal S4x16640x16640 .f32) (hy : @Eq (FVec Ideal S4x16640x16640 .f32) (V m c main_v31) y) :
    @Eq (FVec Ideal S16640x256 .f32) (V m c main_v43)
      (shapeCast S16640x256 (broadcastInDim S16640x4x64 ![0, 1, 2] bcast_S16640x4x1_S16640x4x64_0_1_2 (broadcastInDim S16640x4x1 ![0, 1] bcast_S16640x4_S16640x4x1_0_1
        (transpose S16640x4 [1, 0] (Host.reduceAdd y (constant S_ .f32 0#32) reducesTo_S4x16640x16640_S4x16640_d2 h_S_) transposes_S4x16640_S16640x4_1_0))) shapeCasts_S16640x4x64_S16640x256) := by
  subst hy; sl_kernel_rfl

theorem v44_eq : @Eq (FVec Ideal S16640x768 .bf16) (V m c main_v44) (truncf .bf16 (V m c main_v1 : FVec Ideal S16640x768 .f32) bitsLt_bf16_f32) := rfl

theorem v45_eq : @Eq (FVec Ideal S16640x256 .f32) (V m c main_v45)
    (pad S16640x256 ![240, 0] ![0, 0] ![0, 0] (m ((c : Thread nD τ).loc main_arg4) : FVec Ideal S16400x256 .f32) (sitofp .f32 (constantI S_ 32 0#32)) pads_S16400x256_S16640x256_24000_000 h_S_) := rfl

theorem v49_eq : @Eq (FVec Ideal S1x128 .f32) (V m c main_v49)
    (broadcastInDim S1x128 ![1] bcast_S128_S1x128_1 (shapeCast S128 (broadcastInDim S2x64 ![0, 1] bcast_S1x64_S2x64_0_1
      (shapeCast S1x64 (m ((c : Thread nD τ).loc main_arg3) : FVec Ideal S64 .f32) shapeCasts_S64_S1x64)) shapeCasts_S2x64_S128)) := rfl

/-! ### On arguments of reals -/

/-- The arguments are reals. -/
structure Args (q k v ct : ℕ → ℕ → ℝ) (g : ℕ → ℝ) : Prop where
  q : (m ((c : Thread nD τ).loc main_arg0) : FVec Ideal S16400x256 .f32) = sheet .f32 16400 256 q
  k : (m ((c : Thread nD τ).loc main_arg1) : FVec Ideal S16400x256 .f32) = sheet .f32 16400 256 k
  v : (m ((c : Thread nD τ).loc main_arg2) : FVec Ideal S16400x256 .f32) = sheet .f32 16400 256 v
  g : (m ((c : Thread nD τ).loc main_arg3) : FVec Ideal S64 .f32) = line 64 g
  ct : (m ((c : Thread nD τ).loc main_arg4) : FVec Ideal S16400x256 .f32) = sheet .f32 16400 256 ct

variable {m c} {q k v} {ct : ℕ → ℕ → ℝ} {g : ℕ → ℝ} (A : Args m c q k v ct g)
include A

theorem v1_at : (V m c main_v1 : FVec Ideal S16640x768 .f32) = sheet .f32 16640 768 (beside (front q) (front k) (front v)) := by
  rw [v1_eq, A.q, A.k, A.v, join_sheet]
  refine (pad_sheet 16400 768 240 16640 _ _ zero_conv h_S_ (by norm_num) _).trans ?_
  refine congrArg (sheet .f32 16640 768) (funext fun r => funext fun l => ?_)
  unfold beside front
  by_cases h : 240 ≤ r
  · simp only [if_pos h]
  · simp only [if_neg h, ite_self]

theorem v10_at : (V m c main_v10 : FVec Ideal S4x16640x16640 .f32) = cube 4 16640 16640 (fun h i j => gz (front q) (front k) h i j) := by
  rw [v10_eq m c _ (v1_at A), heads0, heads1, scores]
  funext i; idx_vars i
  refine congrArg (fun t : ℝ => (t : EReal)) (congrArg (· * (1 / 8 : ℝ)) (Finset.sum_congr rfl fun d _ => ?_))
  have hh : i0.val < 4 := i0.isLt
  have hd := d.isLt
  show beside _ _ _ i1.val (64 * i0.val + d.val) * beside _ _ _ i2.val (256 + (64 * i0.val + d.val)) = _
  unfold beside
  rw [if_pos (by omega), if_neg (by omega), if_pos (by omega), Nat.add_sub_cancel_left]
  rfl

theorem v31_at : (V m c main_v31 : FVec Ideal S4x16640x16640 .f32) = cube 4 16640 16640 (fun h i j => gsp (front q) (front k) h i j) := by
  rw [v31_eq m c _ ((v21_eq m c).trans mask_bits) _ (v30_eq m c _ (v10_at A)), softplus_cube]; rfl

theorem v35_at : (V m c main_v35 : FVec Ideal S4x16640x16640 .f32) = cube 4 16640 16640 (fun h i j => gw (front q) (front k) h i j) := by
  rw [v35_eq m c _ ((v21_eq m c).trans mask_bits) _ _ (v10_at A) ((v32_eq m c _ (v31_at A)).trans (revcum_cube 4 16640 16640 _ _ zero_const _ _)), weights_cube]; rfl

/-- The kernel's arguments. -/
theorem inputs : Inputs m c (front q) (front k) (front v) (front ct) g where
  qkv := by
    rw [v44_eq, v1_at A]; rfl
  o := by
    rw [v38_eq m c _ (v1_at A) _ (v35_at A), heads2, readout_sheet]
    funext i; idx_vars i
    refine congrArg (fun t : ℝ => (t : EReal)) (Finset.sum_congr rfl fun J _ => ?_)
    unfold beside
    rw [if_neg (by omega), if_neg (by omega), Nat.add_sub_cancel_left]
  tot := by
    rw [v43_eq m c _ (v31_at A), totals_sheet]; rfl
  ct := by
    rw [v45_eq, A.ct]
    exact pad_sheet 16400 256 240 16640 _ _ zero_conv h_S_ (by norm_num) _
  gain := by
    rw [v49_eq, A.g]
    funext i; idx_vars i
    pointwise
    rfl

end Cert.SbIdeal.Run
-- ==== Proof.SbRef.lean ====
/-
  The reference of the attention's gradient, step by step, on arrays of reals: each of its arrays is the plain sums' array at
  the positions behind the zeros in front.
-/
module

public import proofs.«01_k».proof.Proof.SbArr
public import proofs.«01_k».proof.Proof.SbPay
public import proofs.«01_k».proof.Proof.Gen.SbRefIdeal.Read

@[expose] public section

set_option maxRecDepth 16384

noncomputable section

open Idealize.ShloMosaic Idealize.ShloMosaic.TcCoe Idealize.SL.Sem

namespace Cert.SbRefVal

open Cert.SbRefIdeal hiding sig
open Cert.SbRefIdeal.Gen Cert.SbRefIdeal.Read
open Cert.SbIdeal.Sb

variable (q k v c : ℕ → ℕ → ℝ) (g : ℕ → ℝ)

/-! ### Sums over the positions behind the zeros -/

theorem sum_front (f : ℕ → ℝ) (h0 : ∀ J < 240, f J = 0) : ∑ j : Fin 16400, f (240 + j.val) = ∑ J ∈ Finset.range 16640, f J := by
  rw [Fin.sum_univ_eq_sum_range (fun j => f (240 + j)), show (16640 : ℕ) = 240 + 16400 from rfl, Finset.sum_range_add,
    Finset.sum_eq_zero (fun J hJ => h0 J (Finset.mem_range.1 hJ)), zero_add]

theorem sum_ico (f : ℕ → ℝ) (j : ℕ) : ∑ L ∈ Finset.Ico j 16400, f (240 + L) = ∑ L ∈ Finset.Ico (240 + j) 16640, f L := by
  rw [Finset.sum_Ico_add f j 16400 240, Nat.add_comm j 240]

theorem sum_rng (f : ℕ → ℝ) (h0 : ∀ J < 240, f J = 0) (j : ℕ) : ∑ L ∈ Finset.range (j + 1), f (240 + L) = ∑ L ∈ Finset.range (240 + j + 1), f L := by
  rw [Nat.add_assoc, Finset.sum_range_add f 240 (j + 1), Finset.sum_eq_zero (fun J hJ => h0 J (Finset.mem_range.1 hJ)), zero_add]

theorem vis_iff (i j : ℕ) : Vis (240 + i) (240 + j) ↔ j < i := by unfold Vis; omega

theorem rng_front (f : ℕ → ℝ) (h0 : ∀ J < 240, f J = 0) : ∑ j ∈ Finset.range 16400, f (240 + j) = ∑ J ∈ Finset.range 16640, f J :=
  (Fin.sum_univ_eq_sum_range (fun j => f (240 + j)) 16400).symm.trans (sum_front f h0)

theorem front_low (f : ℕ → ℕ → ℝ) (r l : ℕ) (h : r < 240) : front f r l = 0 := if_neg (by omega)

theorem front_at (f : ℕ → ℕ → ℝ) (r l : ℕ) : front f (240 + r) l = f r l := by
  unfold front; rw [if_pos (by omega), Nat.add_sub_cancel_left]

theorem sp_neg (z : ℝ) : sp (-z) = sp z - z := by
  unfold sp
  rw [eq_sub_iff_add_eq, show z = Real.log (Real.exp z) from (Real.log_exp z).symm, ← Real.log_mul (by positivity) (by positivity), Real.log_exp,
    add_mul, one_mul, ← Real.exp_add, neg_add_cancel, Real.exp_zero, add_comm]

theorem sig_neg (z : ℝ) : sig (-z) = 1 - sig z := by
  unfold sig
  rw [Real.exp_neg]
  have h := Real.exp_pos z
  field_simp
  ring

theorem exp_sub_sp (z : ℝ) : Real.exp (z - sp z) = sig z := by
  unfold sp sig
  rw [Real.exp_sub, Real.exp_log (by positivity)]

/-! ### The scores and the weights -/

theorem v3_at : val_main_v3 (F := Ideal) (sheet .f32 16400 256 q) = cube 4 16400 64 (fun h i d => front q (240 + i) (64 * h + d)) := by
  unfold val_main_v3 val_main_v0
  funext i; idx_vars i
  pointwise
  rw [sheet_apply, cube_apply, front_at]
  exact congrArg (fun t : ℕ => ((q i1.val t : ℝ) : EReal)) (show i0.val * 64 + i2.val = 64 * i0.val + i2.val by omega)

theorem v9_at : val_main_v9 (F := Ideal) (sheet .f32 16400 256 q) (sheet .f32 16400 256 k) = cube 4 16400 16400 (fun h i j => gz (front q) (front k) h (240 + i) (240 + j)) := by
  unfold val_main_v9 val_main_v7 val_main_v8 val_main_cst
  rw [v3_at, show val_main_v4 (F := Ideal) (sheet .f32 16400 256 k) = _ from v3_at k]
  funext i; idx_vars i
  pointwise
  simp only [cube_apply, ofBits_eighth_f32, ← EReal.coe_mul, coe_sum]
  rfl

theorem v14_at : val_main_v14 (F := Ideal) = bits (fun (i : Fin 16400) (j : Fin 16400) => decide (Vis (240 + i.val) (240 + j.val))) := by
  unfold val_main_v14 val_main_v12 val_main_v13 val_main_v10 val_main_v11 val_main_v6
  funext i; idx_vars i
  pointwise
  rw [WordCmp.cmpi_slt_ofNat (by omega) (by omega), bits_apply]
  exact congrArg BitVec.ofBool (decide_eq_decide.2 (vis_iff _ _).symm)

theorem ofBits_inf : Ideal.ofBits .f32 0x7F800000#32 = ⊤ := by
  simp [Ideal.ofBits, Ideal.ieee]

/-- The stable form of the softplus that the reference's `log_sigmoid` uses. -/
theorem lae (x : FVec Ideal S4x16400x16400 .f32) (y : ℕ → ℕ → ℕ → ℝ) (hx : x = cube 4 16400 16400 y) (z : FVec Ideal S4x16400x16400 .f32) (hz : z = fun _ => 0) :
    select (cmpf .une (subf x z) (subf x z)) (addf x z) (addf (maximumf x z) (Host.log1p (Host.exp (Host.negf (Host.absf (subf x z)))))) = cube 4 16400 16400 (fun h i j => sp (y h i j)) := by
  subst hx hz
  funext i; idx_vars i
  pointwise
  rw [if_neg (fun h => h rfl)]
  simp only [cube_apply]
  show max _ _ + Ideal.log (1 + Ideal.exp (-(max (y i0 i1 i2 : EReal) (-(y i0 i1 i2 : EReal))))) = _
  rw [← EReal.coe_neg, coe_max, ← EReal.coe_neg, Ideal.exp_coe]
  exact max_add_log _

theorem dlae (x s : FVec Ideal S4x16400x16400 .f32) (y : ℕ → ℕ → ℕ → ℝ) (hx : x = cube 4 16400 16400 y) (hs : s = cube 4 16400 16400 (fun h i j => sp (y h i j))) (z : FVec Ideal S4x16400x16400 .f32) :
    Host.exp (subf (select (cmpf .oeq x (broadcastInDim S4x16400x16400 ![] bcast_S_S4x16400x16400 (constant (F := Ideal) S_ .f32 0x7F800000#32))) z x)
      (select (cmpf .oeq s (broadcastInDim S4x16400x16400 ![] bcast_S_S4x16400x16400 (constant (F := Ideal) S_ .f32 0x7F800000#32))) z s)) = cube 4 16400 16400 (fun h i j => sig (y h i j)) := by
  subst hx hs
  funext i; idx_vars i
  pointwise
  rw [ofBits_inf, cube_apply, cube_apply, if_neg (EReal.coe_ne_top _), if_neg (EReal.coe_ne_top _), ← EReal.coe_sub, Ideal.exp_coe, exp_sub_sp, cube_apply]

/-- The keys a query sees. -/
def seen : IVec S16400x16400 1 := bits (fun (i : Fin 16400) (j : Fin 16400) => decide (Vis (240 + i.val) (240 + j.val)))

theorem sel_at (f f' : ℕ → ℕ → ℕ → ℝ) (s : IVec S16400x16400 1) (hs : s = seen) :
    select (broadcastInDim S4x16400x16400 ![1, 2] bcast_S16400x16400_S4x16400x16400_1_2 s) (cube 4 16400 16400 f) (cube 4 16400 16400 f')
      = cube 4 16400 16400 (fun h i j => if Vis (240 + i) (240 + j) then f h i j else f' h i j) := by
  subst hs
  funext i; idx_vars i
  pointwise
  rw [show seen (ix2 i1 i2) = BitVec.ofBool (decide (Vis (240 + i1.val) (240 + i2.val))) from rfl, sel_bool]
  simp only [cube_apply, decide_eq_true_eq]
  by_cases h : Vis (240 + i1.val) (240 + i2.val)
  · rw [if_pos h, if_pos h]
  · rw [if_neg h, if_neg h]

theorem zeros_at : broadcastInDim S4x16400x16400 ![] bcast_S_S4x16400x16400 (constant (F := Ideal) S_ .f32 0x00000000#32) = cube 4 16400 16400 (fun _ _ _ => 0) := by
  funext i; idx_vars i
  pointwise
  rfl

abbrev Z (h i j : ℕ) : ℝ := gz (front q) (front k) h (240 + i) (240 + j)

theorem c0_at : val_main_call0_v0 (F := Ideal) (sheet .f32 16400 256 q) (sheet .f32 16400 256 k) = cube 4 16400 16400 (Z q k) := by
  unfold val_main_call0_v0 val_main_v15
  rw [v9_at, neg_cube, neg_cube]
  simp only [neg_neg]

theorem c0s_at : val_main_call0_v1_0 (F := Ideal) (sheet .f32 16400 256 q) (sheet .f32 16400 256 k) = cube 4 16400 16400 (fun h i j => sp (Z q k h i j)) :=
  lae _ _ (c0_at q k) _ zeros_at

theorem v16_1_at : val_main_v16_1 (F := Ideal) (sheet .f32 16400 256 q) (sheet .f32 16400 256 k) = cube 4 16400 16400 (fun h i j => sig (Z q k h i j)) :=
  dlae _ _ _ (c0_at q k) (c0s_at q k) _

theorem c3_at : val_main_call3_v0 (F := Ideal) (sheet .f32 16400 256 q) (sheet .f32 16400 256 k) = cube 4 16400 16400 (fun h i j => -Z q k h i j) := by
  unfold val_main_call3_v0
  rw [v9_at, neg_cube]

theorem c3s_at : val_main_call3_v1_0 (F := Ideal) (sheet .f32 16400 256 q) (sheet .f32 16400 256 k) = cube 4 16400 16400 (fun h i j => sp (-Z q k h i j)) :=
  lae _ _ (c3_at q k) _ zeros_at

theorem v20_1_at : val_main_v20_1 (F := Ideal) (sheet .f32 16400 256 q) (sheet .f32 16400 256 k) = cube 4 16400 16400 (fun h i j => sig (-Z q k h i j)) :=
  dlae _ _ _ (c3_at q k) (c3s_at q k) _

theorem v17_at : val_main_v17_0 (F := Ideal) (sheet .f32 16400 256 q) (sheet .f32 16400 256 k) = cube 4 16400 16400 (fun h i j => -gsp (front q) (front k) h (240 + i) (240 + j)) := by
  unfold val_main_v17_0 val_main_v17_1 val_main_v16_0 val_main_call1_v2 val_main_call1_v0 val_main_cst_0
  rw [c0s_at, neg_cube]
  erw [zeros_at]
  rw [sel_at _ _ _ v14_at]
  refine congrArg (cube 4 16400 16400) (funext fun h => funext fun i => funext fun j => ?_)
  unfold gsp
  by_cases p : Vis (240 + i) (240 + j)
  · rw [if_pos p, if_pos p]
  · rw [if_neg p, if_neg p, neg_zero]

theorem v18_at : val_main_v18 (F := Ideal) (sheet .f32 16400 256 q) (sheet .f32 16400 256 k)
    = cube 4 16400 16400 (fun h i j => -∑ L ∈ Finset.Ico (240 + j) 16640, gsp (front q) (front k) h (240 + i) L) := by
  unfold val_main_v18 val_main_call2_v0 val_main_call2_cst
  rw [v17_at]
  refine (revcum_cube 4 16400 16400 _ _ zero_const _ _).trans ?_
  refine congrArg (cube 4 16400 16400) (funext fun h => funext fun i => funext fun j => ?_)
  rw [Finset.sum_neg_distrib, sum_ico (fun L => gsp (front q) (front k) h (240 + i) L)]

/-- The exponential before the mask. -/
def ew (h i j : ℕ) : ℝ := Real.exp (-sp (-Z q k h i j) + (-(∑ L ∈ Finset.Ico (240 + j) 16640, gsp (front q) (front k) h (240 + i) L) - -gsp (front q) (front k) h (240 + i) (240 + j)))

theorem ew_vis (h i j : ℕ) (p : Vis (240 + i) (240 + j)) : ew q k h i j = gw (front q) (front k) h (240 + i) (240 + j) := by
  unfold ew gw
  rw [if_pos p, sp_neg]
  refine congrArg Real.exp ?_
  have : gsp (front q) (front k) h (240 + i) (240 + j) = sp (Z q k h i j) := if_pos p
  rw [this]; ring

theorem v22_at : val_main_v22 (F := Ideal) (sheet .f32 16400 256 q) (sheet .f32 16400 256 k) = cube 4 16400 16400 (ew q k) := by
  unfold val_main_v22 val_main_v21 val_main_v20_0 val_main_v19
  rw [c3s_at, v18_at, v17_at, neg_cube, sub_cube, add_cube, exp_cube]; rfl

theorem v23_at : val_main_v23_0 (F := Ideal) (sheet .f32 16400 256 q) (sheet .f32 16400 256 k) = cube 4 16400 16400 (fun h i j => gw (front q) (front k) h (240 + i) (240 + j)) := by
  unfold val_main_v23_0 val_main_v23_1 val_main_call4_v2 val_main_call4_v0 val_main_cst_1
  rw [v22_at]
  erw [zeros_at]
  rw [sel_at _ _ _ v14_at]
  refine congrArg (cube 4 16400 16400) (funext fun h => funext fun i => funext fun j => ?_)
  by_cases p : Vis (240 + i) (240 + j)
  · rw [if_pos p, ew_vis q k h i j p]
  · rw [if_neg p]; exact (if_neg p).symm

/-! ### The read-out and its norm -/

theorem ofBits_64 : Ideal.ofBits .f32 0x42800000#32 = ((64 : ℝ) : EReal) := by
  simp [Ideal.ofBits, Ideal.ieee, -EReal.coe_mul]; norm_num
theorem ofBits_eps : Ideal.ofBits .f32 0x358637BD#32 = ((eps : ℝ) : EReal) := by
  unfold eps; simp [Ideal.ofBits, Ideal.ieee, -EReal.coe_mul]; norm_num
theorem ofBits_mhalf : Ideal.ofBits .f32 0xBF000000#32 = ((-(1 / 2) : ℝ) : EReal) := by
  simp [Ideal.ofBits, Ideal.ieee, -EReal.coe_mul]; norm_num

abbrev O (i h d : ℕ) : ℝ := go (front q) (front k) (front v) h (240 + i) d

theorem go_front (h i d : ℕ) : O q k v i h d = ∑ j : Fin 16400, gw (front q) (front k) h (240 + i) (240 + j.val) * front v (240 + j.val) (64 * h + d) := by
  refine Eq.trans ?_ (sum_front (fun J => gw (front q) (front k) h (240 + i) J * front v J (64 * h + d))
    fun J hJ => by rw [show gw (front q) (front k) h (240 + i) J = 0 from if_neg (by unfold Vis; omega), zero_mul]).symm
  unfold O go
  rfl

theorem v25_at : val_main_v25 (F := Ideal) (sheet .f32 16400 256 q) (sheet .f32 16400 256 k) (sheet .f32 16400 256 v) = cube 16400 4 64 (O q k v) := by
  unfold val_main_v25 val_main_v24
  rw [v23_at, show val_main_v5 (F := Ideal) (sheet .f32 16400 256 v) = _ from v3_at v]
  funext i; idx_vars i
  pointwise
  simp only [cube_apply, ← EReal.coe_mul, coe_sum]
  exact congrArg (fun t : ℝ => (t : EReal)) (go_front q k v i1 i0 i2).symm

abbrev R (i h : ℕ) : ℝ := grs (front q) (front k) (front v) h (240 + i)

/-- The read-out's mean square with its epsilon. -/
def ms (i h : ℕ) : ℝ := (∑ d : Fin 64, O q k v i h d * O q k v i h d) * (1 / 64) + eps

theorem ms_pos (i h : ℕ) : 0 < ms q k v i h := by
  refine add_pos_of_nonneg_of_pos (mul_nonneg (Finset.sum_nonneg fun d _ => mul_self_nonneg _) (by norm_num)) ?_
  unfold eps; norm_num

theorem v32_at : val_main_v32 (F := Ideal) (sheet .f32 16400 256 q) (sheet .f32 16400 256 k) (sheet .f32 16400 256 v) = cube 16400 4 1 (fun i h _ => ms q k v i h) := by
  unfold val_main_v32 val_main_v31 val_main_v30 val_main_v29 val_main_v28 val_main_v27 val_main_v26 val_main_cst_2 val_main_cst_3 val_main_cst_4
  rw [v25_at]
  funext i; idx_vars i
  pointwise
  simp only [cube_apply, ofBits_64, ofBits_eps, ← EReal.coe_mul, coe_sum]
  rw [Ideal.div_coe (by norm_num), ← EReal.coe_mul, ← EReal.coe_add]
  rfl

theorem v33_at : val_main_v33 (F := Ideal) (sheet .f32 16400 256 q) (sheet .f32 16400 256 k) (sheet .f32 16400 256 v) = cube 16400 4 1 (fun i h _ => R q k v i h) := by
  unfold val_main_v33
  rw [v32_at]
  funext i
  show Ideal.rsqrt ((ms q k v (i 0).val (i 1).val : ℝ) : EReal) = _
  have := ms_pos q k v (i 0).val (i 1).val
  rw [Ideal.rsqrt_coe, if_neg (by linarith), if_neg (by linarith)]
  rfl

theorem v36_at : val_main_v36 (F := Ideal) (sheet .f32 16400 256 q) (sheet .f32 16400 256 k) (sheet .f32 16400 256 v)
    = cube 16400 4 1 (fun i h _ => -(1 / 2) * (R q k v i h * (1 / ms q k v i h))) := by
  unfold val_main_v36 val_main_v35 val_main_v34 val_main_cst_5
  rw [v32_at, v33_at]
  funext i; idx_vars i
  pointwise
  have h := ms_pos q k v i0 i1
  simp only [cube_apply, ofBits_mhalf]
  rw [Ideal.div_coe h.ne', ← EReal.coe_mul, ← EReal.coe_mul]

abbrev B (i h d : ℕ) : ℝ := c i (64 * h + d) * g d

theorem v43_at : val_main_v43 (F := Ideal) (sheet .f32 16400 256 c) = cube 16400 4 64 (fun i h d => c i (64 * h + d)) := by
  unfold val_main_v43
  funext i; idx_vars i
  pointwise
  exact congrArg (fun t : ℕ => ((c i0.val t : ℝ) : EReal)) (show i1.val * 64 + i2.val = 64 * i1.val + i2.val by omega)

theorem v48_at : val_main_v48 (F := Ideal) (line 64 g) (sheet .f32 16400 256 c) = cube 16400 4 64 (B c g) := by
  unfold val_main_v48 val_main_v47 val_main_v39
  rw [v43_at]
  funext i; idx_vars i
  pointwise
  exact (EReal.coe_mul _ _).symm

/-- The gradient through the norm, as the reference adds it. -/
def nd (i h d : ℕ) : ℝ :=
  B c g i h d * R q k v i h + O q k v i h d * ((∑ d' : Fin 64, O q k v i h d' * B c g i h d') * (-(1 / 2) * (R q k v i h * (1 / ms q k v i h))) * (1 / 64))
    + (∑ d' : Fin 64, O q k v i h d' * B c g i h d') * (-(1 / 2) * (R q k v i h * (1 / ms q k v i h))) * (1 / 64) * O q k v i h d

abbrev D (i h d : ℕ) : ℝ := gdo (front q) (front k) (front v) (front c) g h (240 + i) d

theorem nd_eq (i h d : ℕ) : nd q k v c g i h d = D q k v c g i h d := by
  have hr : R q k v i h * R q k v i h = 1 / ms q k v i h := by
    show (Real.sqrt (ms q k v i h))⁻¹ * (Real.sqrt (ms q k v i h))⁻¹ = _
    rw [← mul_inv, Real.mul_self_sqrt (ms_pos q k v i h).le, one_div]
  have hs : ∑ d' : Fin 64, front c (240 + i) (64 * h + d'.val) * g d'.val * (O q k v i h d'.val * R q k v i h)
      = (∑ d' : Fin 64, O q k v i h d' * B c g i h d') * R q k v i h := by
    rw [Finset.sum_mul]
    refine Finset.sum_congr rfl fun d' _ => ?_
    rw [front_at]; unfold B; ring
  unfold nd D gdo
  rw [hs, front_at, ← hr]
  show B c g i h d * R q k v i h + _ + _ = R q k v i h * (B c g i h d - O q k v i h d * R q k v i h * _)
  ring

theorem v63_at : val_main_v63 (F := Ideal) (sheet .f32 16400 256 q) (sheet .f32 16400 256 k) (sheet .f32 16400 256 v) (line 64 g) (sheet .f32 16400 256 c)
    = cube 16400 4 64 (D q k v c g) := by
  unfold val_main_v63 val_main_v62 val_main_v61 val_main_v60 val_main_v59 val_main_v58 val_main_v57 val_main_v56 val_main_v55 val_main_v54 val_main_v53 val_main_v52
    val_main_v51 val_main_v50 val_main_cst_8 val_main_cst_9 val_main_cst_10
  rw [v25_at, v33_at, v36_at, v48_at]
  funext i; idx_vars i
  pointwise
  simp only [cube_apply, ofBits_64, Fin.sum_univ_one, ← EReal.coe_mul, coe_sum]
  rw [Ideal.div_coe (by norm_num)]
  simp only [← EReal.coe_mul, ← EReal.coe_add]
  exact congrArg (fun t : ℝ => (t : EReal)) (nd_eq q k v c g i0 i1 i2)

theorem v64_at : val_main_v64 (F := Ideal) (sheet .f32 16400 256 q) (sheet .f32 16400 256 k) (sheet .f32 16400 256 v) (line 64 g) (sheet .f32 16400 256 c)
    = cube 4 16400 64 (fun h i d => D q k v c g i h d) := by
  unfold val_main_v64
  rw [v63_at]
  funext i; idx_vars i
  pointwise
  rfl

/-! ### The gradients -/

theorem v49_at : val_main_v49 (F := Ideal) (sheet .f32 16400 256 q) (sheet .f32 16400 256 k) (sheet .f32 16400 256 v) (sheet .f32 16400 256 c)
    = line 64 (fun d => ∑ h ∈ Finset.range 4, ggn (front q) (front k) (front v) (front c) h d) := by
  unfold val_main_v49 val_main_v46 val_main_v45 val_main_v44 val_main_v38 val_main_v37 val_main_cst_6 val_main_cst_7
  rw [v25_at, v33_at, v43_at]
  have e : mulf (mulf (cube 16400 4 64 (O q k v)) (broadcastInDim S16400x4x64 ![0, 1, 2] bcast_S16400x4x1_S16400x4x64_0_1_2 (cube 16400 4 1 fun i h _ => R q k v i h)))
      (cube 16400 4 64 fun i h d => c i (64 * h + d)) = cube 16400 4 64 (fun i h d => front c (240 + i) (64 * h + d) * (O q k v i h d * R q k v i h)) := by
    funext i; idx_vars i
    pointwise
    simp only [cube_apply, ← EReal.coe_mul, front_at]
    rw [mul_comm]
  rw [e, sum01_cube 16400 4 64 _ _ zero_const _ _ (fun _ _ _ => rfl)]
  have e2 (f : ℕ → ℝ) : shapeCast S1x1x64 (line 64 f) shapeCasts_S64_S1x1x64 = cube 1 1 64 (fun _ _ d => f d) := by
    funext i; idx_vars i
    pointwise
    rfl
  erw [e2, sum01_cube 1 1 64 _ _ zero_const _ _ (fun _ _ _ => rfl)]
  refine congrArg (line 64) (funext fun d => ?_)
  rw [Finset.sum_range_one, Finset.sum_range_one, Finset.sum_comm]
  refine Finset.sum_congr rfl fun h _ => ?_
  exact (rng_front (fun I => front c I (64 * h + d) * (go (front q) (front k) (front v) h I d * grs (front q) (front k) (front v) h I))
    fun J hJ => by rw [front_low c J _ hJ, zero_mul])

/-- An array behind the zeros, with the zeros: heads' rows put beside each other and zeros in front. -/
theorem out_at (f : ℕ → ℕ → ℕ → ℝ) (f0 : ∀ h J d, J < 240 → f h J d = 0) (x : FVec Ideal S4x16400x64 .f32) (hx : x = cube 4 16400 64 (fun h i d => f h (240 + i) d)) :
    pad S16640x256 ![240, 0] ![0, 0] ![0, 0] (shapeCast S16400x256 (transpose S16400x4x64 [1, 0, 2] x transposes_S4x16400x64_S16400x4x64_1_0_2) shapeCasts_S16400x4x64_S16400x256)
      (sitofp (F := Ideal) .f32 (constantI S_ 32 0#32)) pads_S16400x256_S16640x256_24000_000 h_S_ = sheet .f32 16640 256 (fun J l => f (l / 64) J (l % 64)) := by
  subst hx
  have e : shapeCast S16400x256 (transpose S16400x4x64 [1, 0, 2] (cube 4 16400 64 (fun h i d => f h (240 + i) d)) transposes_S4x16400x64_S16400x4x64_1_0_2) shapeCasts_S16400x4x64_S16400x256
      = sheet .f32 16400 256 (fun i l => f (l / 64) (240 + i) (l % 64)) := by
    funext i; idx_vars i
    pointwise
    rfl
  rw [e]
  refine (pad_sheet 16400 256 240 16640 _ _ zero_conv _ (by norm_num) _).trans ?_
  refine congrArg (sheet .f32 16640 256) (funext fun J => funext fun l => ?_)
  by_cases h : 240 ≤ J
  · rw [if_pos h, Nat.add_sub_cancel' h]
  · rw [if_neg h, f0 _ _ _ (by omega)]

theorem gw_low (h I J : ℕ) (hJ : J < 240) : gw (front q) (front k) h I J = 0 := if_neg (by unfold Vis; omega)
theorem gw_low' (h I J : ℕ) (hI : I < 240) : gw (front q) (front k) h I J = 0 := if_neg (by unfold Vis; omega)
theorem gdz_low (h I J : ℕ) (hJ : J < 240) : gdz (front q) (front k) (front v) (front c) g h I J = 0 := if_neg (by unfold Vis; omega)
theorem gdz_low' (h I J : ℕ) (hI : I < 240) : gdz (front q) (front k) (front v) (front c) g h I J = 0 := if_neg (by unfold Vis; omega)

theorem v90_at : val_main_v90 (F := Ideal) (sheet .f32 16400 256 q) (sheet .f32 16400 256 k) (sheet .f32 16400 256 v) (line 64 g) (sheet .f32 16400 256 c)
    = sheet .f32 16640 256 (fun J l => gdv (front q) (front k) (front v) (front c) g (l / 64) J (l % 64)) := by
  refine out_at (fun h J d => gdv (front q) (front k) (front v) (front c) g h J d) (fun h J d hJ => ?_) _ ?_
  · exact Finset.sum_eq_zero fun I _ => by rw [gw_low q k h I J hJ, zero_mul]
  unfold val_main_v66 val_main_v65
  rw [v64_at, v23_at]
  funext i; idx_vars i
  pointwise
  simp only [cube_apply, ← EReal.coe_mul, coe_sum]
  refine congrArg (fun t : ℝ => (t : EReal)) ?_
  refine Eq.trans ?_ (sum_front (fun I => gw (front q) (front k) i0.val I (240 + i1.val) * gdo (front q) (front k) (front v) (front c) g i0.val I i2.val)
    fun J hJ => by rw [gw_low' q k _ J _ hJ, zero_mul])
  exact Finset.sum_congr rfl fun _ _ => mul_comm _ _

/-- A weight's gradient times the weight. -/
theorem v69_at : val_main_v69 (F := Ideal) (sheet .f32 16400 256 q) (sheet .f32 16400 256 k) (sheet .f32 16400 256 v) (line 64 g) (sheet .f32 16400 256 c)
    = cube 4 16400 16400 (fun h i j => ge (front q) (front k) (front v) (front c) g h (240 + i) (240 + j)) := by
  have h67 : val_main_v67 (F := Ideal) (sheet .f32 16400 256 q) (sheet .f32 16400 256 k) (sheet .f32 16400 256 v) (line 64 g) (sheet .f32 16400 256 c)
      = cube 4 16400 16400 (fun h i j => ∑ d : Fin 64, D q k v c g i h d * front v (240 + j) (64 * h + d)) := by
    unfold val_main_v67
    rw [v64_at, show val_main_v5 (F := Ideal) (sheet .f32 16400 256 v) = _ from v3_at v]
    funext i; idx_vars i
    pointwise
    simp only [cube_apply, ← EReal.coe_mul, coe_sum]
  unfold val_main_v69 val_main_v68 val_main_v23_1 val_main_call5_v0 val_main_call5_cst
  rw [h67, v22_at, zeros_at, sel_at _ _ _ v14_at, mul_cube]
  refine congrArg (cube 4 16400 16400) (funext fun h => funext fun i => funext fun j => ?_)
  unfold ge
  by_cases p : Vis (240 + i) (240 + j)
  · rw [if_pos p, ew_vis q k h i j p, mul_comm]
  · rw [if_neg p, zero_mul, show gw (front q) (front k) h (240 + i) (240 + j) = 0 from if_neg p, zero_mul]

theorem ge_zero (h I J : ℕ) (hJ : J < 240) : ge (front q) (front k) (front v) (front c) g h I J = 0 := by
  unfold ge
  rw [show gw (front q) (front k) h I J = 0 from if_neg (by unfold Vis; omega), zero_mul]

/-- The gradient of a scaled score. -/
theorem v77_at : val_main_v77 (F := Ideal) (sheet .f32 16400 256 q) (sheet .f32 16400 256 k) (sheet .f32 16400 256 v) (line 64 g) (sheet .f32 16400 256 c)
    = cube 4 16400 16400 (fun h i j => gdz (front q) (front k) (front v) (front c) g h (240 + i) (240 + j)) := by
  have h72 : val_main_v72 (F := Ideal) (sheet .f32 16400 256 q) (sheet .f32 16400 256 k) (sheet .f32 16400 256 v) (line 64 g) (sheet .f32 16400 256 c)
      = cube 4 16400 16400 (fun h i j => ∑ L ∈ Finset.range (240 + j + 1), ge (front q) (front k) (front v) (front c) g h (240 + i) L) := by
    unfold val_main_v72 val_main_call7_v0 val_main_call7_cst
    rw [v69_at]
    refine (cum_cube 4 16400 16400 _ _ zero_const _ _).trans ?_
    refine congrArg (cube 4 16400 16400) (funext fun h => funext fun i => funext fun j => ?_)
    exact sum_rng (fun L => ge (front q) (front k) (front v) (front c) g h (240 + i) L) (fun J hJ => ge_zero q k v c g h _ J hJ) j
  unfold val_main_v77 val_main_v76 val_main_v75 val_main_call9_v1 val_main_call9_v0 val_main_v74 val_main_v17_1 val_main_v73 val_main_v71 val_main_v70 val_main_call6_v1 val_main_call6_v0
    val_main_call8_v0 val_main_call8_cst
  rw [h72, v69_at, neg_cube, add_cube, zeros_at, sel_at _ _ _ v14_at, neg_cube, v16_1_at, mul_cube, neg_cube, neg_cube, v20_1_at, mul_cube, neg_cube, add_cube]
  refine congrArg (cube 4 16400 16400) (funext fun h => funext fun i => funext fun j => ?_)
  unfold gdz
  by_cases p : Vis (240 + i) (240 + j)
  · rw [if_pos p, if_pos p, sig_neg]; ring
  · rw [if_neg p, if_neg p, show ge (front q) (front k) (front v) (front c) g h (240 + i) (240 + j) = 0 by
      unfold ge; rw [show gw (front q) (front k) h (240 + i) (240 + j) = 0 from if_neg p, zero_mul]]
    ring

theorem v79_at : val_main_v79 (F := Ideal) (sheet .f32 16400 256 q) (sheet .f32 16400 256 k) (sheet .f32 16400 256 v) (line 64 g) (sheet .f32 16400 256 c)
    = cube 4 16400 16400 (fun h i j => gdz (front q) (front k) (front v) (front c) g h (240 + i) (240 + j) * (1 / 8)) := by
  unfold val_main_v79 val_main_v78 val_main_cst_11
  rw [v77_at]
  funext i; idx_vars i
  pointwise
  simp only [cube_apply, ofBits_eighth_f32, ← EReal.coe_mul]

theorem v88_at : val_main_v88 (F := Ideal) (sheet .f32 16400 256 q) (sheet .f32 16400 256 k) (sheet .f32 16400 256 v) (line 64 g) (sheet .f32 16400 256 c)
    = sheet .f32 16640 256 (fun I l => gdq (front q) (front k) (front v) (front c) g (l / 64) I (l % 64)) := by
  refine out_at (fun h J d => gdq (front q) (front k) (front v) (front c) g h J d) (fun h J d hJ => ?_) _ ?_
  · show (∑ L ∈ Finset.range 16640, _) * (1 / 8 : ℝ) = 0
    rw [Finset.sum_eq_zero fun L _ => by rw [gdz_low' q k v c g h J L hJ, zero_mul], zero_mul]
  unfold val_main_v81
  rw [v79_at, show val_main_v4 (F := Ideal) (sheet .f32 16400 256 k) = _ from v3_at k]
  funext i; idx_vars i
  pointwise
  simp only [cube_apply, ← EReal.coe_mul, coe_sum]
  refine congrArg (fun t : ℝ => (t : EReal)) ?_
  refine Eq.trans ?_ (congrArg (· * (1 / 8 : ℝ)) (sum_front (fun L => gdz (front q) (front k) (front v) (front c) g i0.val (240 + i1.val) L * front k L (64 * i0.val + i2.val))
    fun J hJ => by rw [gdz_low q k v c g _ _ J hJ, zero_mul]))
  rw [Finset.sum_mul]
  exact Finset.sum_congr rfl fun _ _ => by ring

theorem v89_at : val_main_v89 (F := Ideal) (sheet .f32 16400 256 q) (sheet .f32 16400 256 k) (sheet .f32 16400 256 v) (line 64 g) (sheet .f32 16400 256 c)
    = sheet .f32 16640 256 (fun J l => gdk (front q) (front k) (front v) (front c) g (l / 64) J (l % 64)) := by
  refine out_at (fun h J d => gdk (front q) (front k) (front v) (front c) g h J d) (fun h J d hJ => ?_) _ ?_
  · exact Finset.sum_eq_zero fun I _ => by rw [gdz_low q k v c g h I J hJ, zero_mul]
  unfold val_main_v80
  rw [v79_at, v3_at]
  funext i; idx_vars i
  pointwise
  simp only [cube_apply, ← EReal.coe_mul, coe_sum]
  refine congrArg (fun t : ℝ => (t : EReal)) ?_
  refine Eq.trans ?_ (sum_front (fun L => gdz (front q) (front k) (front v) (front c) g i0.val L (240 + i1.val) * (front q L (64 * i0.val + i2.val) * (1 / 8)))
    fun J hJ => by rw [gdz_low' q k v c g _ J _ hJ, zero_mul])
  exact Finset.sum_congr rfl fun _ _ => by ring

end Cert.SbRefVal
-- ==== Proof.SbClaims.lean ====
/-
  The claims about the gradients of the stick-breaking attention: both programs' runs, and the equality of their four results
  for finite arguments.
-/
module

public import proofs.«01_k».proof.Defs
public import proofs.«01_k».proof.Proof.Finite
public import proofs.«01_k».proof.Proof.SbHost
public import proofs.«01_k».proof.Proof.SbRef
public import proofs.«01_k».proof.Proof.Gen.Sb
public import proofs.«01_k».proof.Proof.Gen.Pre_sb_finite

@[expose] public section

set_option maxRecDepth 16384

noncomputable section

namespace Cert.SbClaims

open Idealize.ShloMosaic Idealize.ShloMosaic.TcCoe Idealize.SL.Sem

theorem frame_ref : Cert.quiescent_SbRefIdeal := fun m ρ _ =>
  (θ_run _ _ _).mono (fun r h => ⟨fun c => (h c).2.2.2.2, sem_eq_zero_of_no_sems (by decide) r.2⟩) (Cert.SbRefIdeal.Value.run m ρ)

theorem frame_kernel_ideal : Cert.quiescent_SbIdeal := fun m ρ _ => Cert.SbIdeal.Sb.frame_run m ρ

/-- The float program has the same text as the ideal one. -/
theorem frame_kernel : Cert.quiescent_Sb := fun m ρ _ => by
  refine Eq.mp ?_ (Cert.SbIdeal.Sb.frame_run (F := Bits) m ρ)
  sl_kernel_rfl

section kernel
open Cert.SbIdeal Cert.SbIdeal.Gen
open Cert.SbIdeal.Sb hiding sig
variable (m : (ℓ : Loc nD τ sig) → Buf (Elt Ideal) ℓ) (ρ : Dev nD → PrngReg) (c : Dev nD)

/-- What the host makes of the two halves of the norm weight's gradient. -/
def halves (y : FVec Ideal S1x128 .f32) : FVec Ideal S64 .f32 :=
  addf (shapeCast S64 (extractStridedSlice S1x64 ![0, 0] y slices_S1x128_S1x64_0_0) shapeCasts_S1x64_S64)
    (shapeCast S64 (extractStridedSlice S1x64 ![0, 64] y slices_S1x128_S1x64_0_64) shapeCasts_S1x64_S64)

theorem tail_of (W : Valuation τ sig (Elt Ideal)) (y : FVec Ideal S1x128 .f32) (h : @Eq (FVec Ideal S1x128 .f32) (W (Proc.devRef .tc main_v50_3)) y) :
    @Eq (FVec Ideal S64 .f32) (StableHlo.after hostOps1 W (Proc.devRef .tc main_v55)) (halves y) := by
  subst h; sl_kernel_rfl

theorem tail_v55 : @Eq (FVec Ideal S64 .f32) (Pipeline.afterTail₀ cfgs (dats m) 0 (V0 m) [hostOps1] c main_v55) (halves ((dats m 0 c).arrAt 10 (cfgs 0).N)) :=
  tail_of _ _ ((dats m 0 c).withArrays_arrAt sharedIn0 (V0 m c) (fun w => A_eq m c w) 10)

/-- The kernel's run: every result, and the arguments as launched. -/
theorem run_results : θ_run defs (onTc (τ := τ) (main (F := Ideal))) ⟨m, fun _ => 0, ρ⟩ (fun r => ∀ c : Dev nD,
      r.2.mem ((c.tc : Thread nD τ).loc main_v50_0) = (dats m 0 c).arrAt 7 (cfgs 0).N
      ∧ r.2.mem ((c.tc : Thread nD τ).loc main_v50_1) = (dats m 0 c).arrAt 8 (cfgs 0).N
      ∧ r.2.mem ((c.tc : Thread nD τ).loc main_v50_2) = (dats m 0 c).arrAt 9 (cfgs 0).N
      ∧ r.2.mem ((c.tc : Thread nD τ).loc main_v55) = halves ((dats m 0 c).arrAt 10 (cfgs 0).N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1 c).1 7, (h.1 c).1 8, (h.1 c).1 9,
      ((h.1 c).2 main_v55 (Pipeline.mem_restRefs_of main_v55 (by decide) (by decide))).trans (tail_v55 m c), h.2 c⟩)
    (θ_run_and (run_main m ρ) (frame_of m ρ (dats m) (A_eq m) (run_main m ρ)))

/-- Finite arguments are arrays of reals. -/
theorem args_of_finite (h : Cert.Pre_SbIdeal_sb_finite m) : ∃ (q k v ct : ℕ → ℕ → ℝ) (g : ℕ → ℝ), Cert.SbIdeal.Run.Args m c q k v ct g := by
  have e := congrFun (h c) ix0
  obtain ⟨e0123, e4⟩ := IntOp.andi_eq_one.1 e
  obtain ⟨e012, e3⟩ := IntOp.andi_eq_one.1 e0123
  obtain ⟨e01, e2⟩ := IntOp.andi_eq_one.1 e012
  obtain ⟨e0, e1⟩ := IntOp.andi_eq_one.1 e01
  exact ⟨_, _, _, _, _,
    { q := Cert.Finite.sheet_reals2 _ (Cert.Finite.real_of_all _ _ _ _ _ e0)
      k := Cert.Finite.sheet_reals2 _ (Cert.Finite.real_of_all _ _ _ _ _ e1)
      v := Cert.Finite.sheet_reals2 _ (Cert.Finite.real_of_all _ _ _ _ _ e2)
      g := Cert.Finite.line_reals1 _ (Cert.Finite.real_of_all _ _ _ _ _ e3)
      ct := Cert.Finite.sheet_reals2 _ (Cert.Finite.real_of_all _ _ _ _ _ e4) }⟩

variable {m c} {q k v ct : ℕ → ℕ → ℝ} {g : ℕ → ℝ} (A : Cert.SbIdeal.Run.Args m c q k v ct g)
include A

theorem same88 : Cert.SbRefIdeal.Read.val_main_v88 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) = (dats m 0 c).arrAt 7 (cfgs 0).N := by
  rw [A.q, A.k, A.v, A.g, A.ct]
  exact (Cert.SbRefVal.v88_at q k v ct g).trans (Cert.SbIdeal.Run.final7 m c (Cert.SbIdeal.Run.inputs A)).symm

theorem same89 : Cert.SbRefIdeal.Read.val_main_v89 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) = (dats m 0 c).arrAt 8 (cfgs 0).N := by
  rw [A.q, A.k, A.v, A.g, A.ct]
  exact (Cert.SbRefVal.v89_at q k v ct g).trans (Cert.SbIdeal.Run.final8 m c (Cert.SbIdeal.Run.inputs A)).symm

theorem same90 : Cert.SbRefIdeal.Read.val_main_v90 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) = (dats m 0 c).arrAt 9 (cfgs 0).N := by
  rw [A.q, A.k, A.v, A.g, A.ct]
  exact (Cert.SbRefVal.v90_at q k v ct g).trans (Cert.SbIdeal.Run.final9 m c (Cert.SbIdeal.Run.inputs A)).symm

omit A in
theorem halves_at (f : ℕ → ℕ → ℝ) :
    halves (up .f32 (fun (_ : Fin 1) (l : Fin 128) => f (l.val / 64) (l.val % 64) + f (2 + l.val / 64) (l.val % 64)))
      = line 64 (fun d => ∑ h ∈ Finset.range 4, f h d) := by
  funext i
  idx_vars i
  pointwise [halves]
  have e1 : ((i0 : Fin 64) : ℕ) / 64 = 0 := Nat.div_eq_of_lt i0.isLt
  have e2 : (64 + (i0 : ℕ)) / 64 = 1 := by omega
  have e3 : (64 + (i0 : ℕ)) % 64 = i0 := by omega
  have e4 : (i0 : ℕ) % 64 = i0 := Nat.mod_eq_of_lt i0.isLt
  show (((f ((i0 : ℕ) / 64) ((i0 : ℕ) % 64) + f (2 + (i0 : ℕ) / 64) ((i0 : ℕ) % 64) : ℝ)) : EReal)
    + (((f ((64 + (i0 : ℕ)) / 64) ((64 + (i0 : ℕ)) % 64) + f (2 + (64 + (i0 : ℕ)) / 64) ((64 + (i0 : ℕ)) % 64) : ℝ)) : EReal)
    = ((∑ h ∈ Finset.range 4, f h i0 : ℝ) : EReal)
  rw [e1, e2, e3, e4, ← EReal.coe_add]
  refine congrArg (fun t : ℝ => (t : EReal)) ?_
  simp only [Finset.sum_range_succ, Finset.sum_range_zero]
  ring

theorem same49 : Cert.SbRefIdeal.Read.val_main_v49 (F := Ideal) (m ((c : Thread nD τ).loc main_arg0)) (m ((c : Thread nD τ).loc main_arg1))
    (m ((c : Thread nD τ).loc main_arg2)) (m ((c : Thread nD τ).loc main_arg4)) = halves ((dats m 0 c).arrAt 10 (cfgs 0).N) := by
  rw [A.q, A.k, A.v, A.ct]
  refine (Cert.SbRefVal.v49_at q k v ct).trans (Eq.trans ?_ (congrArg halves (Cert.SbIdeal.Run.final10 m c (Cert.SbIdeal.Run.inputs A)).symm))
  exact (halves_at _).symm

end kernel

theorem algebraic : Cert.algebraic_SbIdeal_SbRefIdeal_pre_sb_finite := fun m ρ m' ρ' hpre hag => by
  refine ⟨fun c => (Cert.SbIdeal.Sb.dats m 0 c).arrAt 7 (Cert.SbIdeal.cfgs 0).N, fun c => (Cert.SbIdeal.Sb.dats m 0 c).arrAt 8 (Cert.SbIdeal.cfgs 0).N,
    fun c => (Cert.SbIdeal.Sb.dats m 0 c).arrAt 9 (Cert.SbIdeal.cfgs 0).N, fun c => halves ((Cert.SbIdeal.Sb.dats m 0 c).arrAt 10 (Cert.SbIdeal.cfgs 0).N),
    run_results m ρ, (θ_run _ _ _).mono (fun _ h c => ?_) (Cert.SbRefIdeal.Value.run m' ρ')⟩
  obtain ⟨q, k, v, ct, g, A⟩ := args_of_finite m c hpre
  obtain ⟨a0, a1, a2, a3, a4⟩ := hag c
  refine ⟨(h c).1.trans ((Cert.SbRefIdeal.Read.val_main_v88_eq _).trans (Eq.trans ?_ (same88 A))),
    (h c).2.1.trans ((Cert.SbRefIdeal.Read.val_main_v89_eq _).trans (Eq.trans ?_ (same89 A))),
    (h c).2.2.1.trans ((Cert.SbRefIdeal.Read.val_main_v90_eq _).trans (Eq.trans ?_ (same90 A))),
    (h c).2.2.2.1.trans ((Cert.SbRefIdeal.Read.val_main_v49_eq _).trans (Eq.trans ?_ (same49 A))), (h c).2.2.2.2⟩
  · exact congr (congr (congr (congrArg₂ _ a0 a1) a2) a3) a4
  · exact congr (congr (congr (congrArg₂ _ a0 a1) a2) a3) a4
  · exact congr (congr (congr (congrArg₂ _ a0 a1) a2) a3) a4
  · exact congr (congr (congrArg₂ _ a0 a1) a2) a4

end Cert.SbClaims

end
-- ==== Proof.Facts.lean ====
/- Facts of the extended reals every part of the proof uses: the float words' numbers, and a nonnegative factor drawn
   out of a sum. -/
module

public import Idealize.ShloMosaic.PureOps.Ideal.Laws

@[expose] public section

noncomputable section

namespace Cert.Facts

open Idealize.ShloMosaic

theorem w_half : Ideal.ofBits .f32 0x3F000000#32 = ((1 / 2 : ℝ) : EReal) := by
  simp [Ideal.ofBits, Ideal.ieee, -EReal.coe_mul]; norm_num
theorem w_one : Ideal.ofBits .f32 0x3F800000#32 = ((1 : ℝ) : EReal) := by
  simp [Ideal.ofBits, Ideal.ieee, -EReal.coe_mul]; norm_num
theorem w_two : Ideal.ofBits .f32 0x40000000#32 = ((2 : ℝ) : EReal) := by
  simp [Ideal.ofBits, Ideal.ieee, -EReal.coe_mul]; norm_num
theorem w_1024 : Ideal.ofBits .f32 0x44800000#32 = ((1024 : ℝ) : EReal) := by
  simp [Ideal.ofBits, Ideal.ieee, -EReal.coe_mul]; norm_num
theorem w_inv1024 : Ideal.ofBits .f32 0x3A800000#32 = ((1 / 1024 : ℝ) : EReal) := by
  simp [Ideal.ofBits, Ideal.ieee, -EReal.coe_mul]; norm_num

/-- A nonnegative real factor goes into a sum. -/
theorem coe_mul_sum {ι : Type} (s : Finset ι) (a : ℝ) (ha : 0 ≤ a) (f : ι → EReal) :
    (a : EReal) * ∑ i ∈ s, f i = ∑ i ∈ s, (a : EReal) * f i := by
  classical
  refine Finset.induction_on s (by simp) fun i s hi ih => ?_
  rw [Finset.sum_insert hi, Finset.sum_insert hi, ← ih]
  exact EReal.left_distrib_of_nonneg_of_ne_top (by exact_mod_cast ha) (EReal.coe_ne_top a) _ _

/-- A sum over a longer range whose terms off a window are zero is the sum over the window. -/
theorem sum_window {n k : Nat} (a : Nat) (h : a + k ≤ n) (f : Fin n → EReal) (h0 : ∀ p : Fin n, ¬(a ≤ p.val ∧ p.val < a + k) → f p = 0) :
    ∑ p, f p = ∑ q : Fin k, f ⟨q.val + a, by omega⟩ := by
  classical
  have e : ∑ q : Fin k, f ⟨q.val + a, by omega⟩
      = ∑ p ∈ Finset.univ.image (fun q : Fin k => (⟨q.val + a, by omega⟩ : Fin n)), f p := by
    rw [Finset.sum_image]
    intro x _ y _ hxy
    have := congrArg Fin.val hxy
    simp only at this
    exact Fin.ext (by omega)
  rw [e]
  refine (Finset.sum_subset (Finset.subset_univ _) fun p _ hp => h0 p fun hw => hp ?_).symm
  exact Finset.mem_image.2 ⟨⟨p.val - a, by omega⟩, Finset.mem_univ _, Fin.ext (by simp only; omega)⟩

end Cert.Facts

end
-- ==== Proof.RmsSpec.lean ====
/- The root-mean-square norm and its gradient on one row of a thousand and twenty-four numbers, over the extended reals:
   the derivative's form and the kernels' hand-written one, and their equality on rows of reals. -/
module

public import proofs.«01_k».proof.Proof.Facts
public import proofs.«01_k».proof.Proof.SbArr

@[expose] public section

noncomputable section

namespace Cert.Rms

open Idealize.ShloMosaic

/-- One row. -/
abbrev Row := Fin 1024 → EReal

/-- The mean of the squares plus the small constant. -/
def var (x : Row) : EReal :=
  Ideal.div (∑ k, x k * x k) (Ideal.ofBits .f32 0x44800000#32) + Ideal.ofBits .f32 0x358637BD#32

/-- The reciprocal root the row is scaled by. -/
def rs (x : Row) : EReal := Ideal.rsqrt (var x)

/-- The derivative of the reciprocal root in the mean of squares. -/
def slope (x : Row) : EReal := Ideal.ofBits .f32 0xBF000000#32 * Ideal.div (rs x) (var x)

/-- What reaches every entry of the row through the mean of squares, once per factor of the square. -/
def pull (x gy : Row) : EReal :=
  Ideal.div ((∑ k, x k * gy k) * slope x) (Ideal.ofBits .f32 0x44800000#32)

/-- The gradient in the row, from the gradient `gy` at the scaled row (the gain already multiplied in). -/
def grad (x gy : Row) (l : Fin 1024) : EReal := gy l * rs x + x l * pull x gy + pull x gy * x l

/-- A row with no gradient above it has none below it. -/
theorem grad_zero (x gy : Row) (h : ∀ k, gy k = 0) (l : Fin 1024) : grad x gy l = 0 := by
  have hp : pull x gy = 0 := by
    have h1024 : Ideal.ofBits .f32 0x44800000#32 = ((1024 : ℝ) : EReal) := by
      simp [Ideal.ofBits, Ideal.ieee, -EReal.coe_mul]; norm_num
    unfold pull
    rw [h1024, Ideal.div_coe (by norm_num)]
    simp [h]
  simp [grad, hp, h]

/-- The gradient as the kernels write it. -/
def kgrad (x gy : Row) (l : Fin 1024) : EReal :=
  rs x * (gy l - x l * rs x * Ideal.div (∑ k, gy k * (x k * rs x)) (Ideal.ofBits .f32 0x44800000#32))

/-- The small constant under the root is positive. -/
theorem eps_pos : ∃ e : ℝ, 0 < e ∧ Ideal.ofBits .f32 0x358637BD#32 = ((e : ℝ) : EReal) := by
  refine ⟨8796093 * 2 ^ (-43 : ℤ), by positivity, ?_⟩
  simp [Ideal.ofBits, Ideal.ieee, -EReal.coe_mul]

theorem w_neg_half : Ideal.ofBits .f32 0xBF000000#32 = ((-(1 / 2) : ℝ) : EReal) := by
  simp [Ideal.ofBits, Ideal.ieee, -EReal.coe_mul]; norm_num

/-- On a row of reals the mean of squares plus the constant is a positive real, and the scale its reciprocal root. -/
theorem real_rs (x : Fin 1024 → ℝ) : ∃ v : ℝ, 0 < v ∧ var (fun k => (x k : EReal)) = (v : EReal)
    ∧ rs (fun k => (x k : EReal)) = (((Real.sqrt v)⁻¹ : ℝ) : EReal) := by
  obtain ⟨e, he, hw⟩ := eps_pos
  have h0 : 0 ≤ ∑ k, x k * x k := Finset.sum_nonneg fun k _ => mul_self_nonneg _
  have hv : var (fun k => (x k : EReal)) = (((∑ k, x k * x k) * (1 / 1024) + e : ℝ) : EReal) := by
    unfold var
    rw [hw, Facts.w_1024, Ideal.div_coe (by norm_num)]
    simp only [← EReal.coe_mul, SbIdeal.Sb.coe_sum, ← EReal.coe_add]
  have hp : 0 < (∑ k, x k * x k) * (1 / 1024) + e := by linarith [mul_nonneg h0 (by norm_num : (0 : ℝ) ≤ 1 / 1024)]
  refine ⟨_, hp, hv, ?_⟩
  unfold rs
  rw [hv, Ideal.rsqrt_coe, if_neg (not_lt.2 hp.le), if_neg (ne_of_gt hp)]

/-- On rows of reals the two forms of the gradient agree. -/
theorem kgrad_eq (x gy : Fin 1024 → ℝ) (l : Fin 1024) :
    kgrad (fun k => (x k : EReal)) (fun k => (gy k : EReal)) l = grad (fun k => (x k : EReal)) (fun k => (gy k : EReal)) l := by
  obtain ⟨v, hv, ev, er⟩ := real_rs x
  have hs : (Real.sqrt v)⁻¹ * (Real.sqrt v)⁻¹ = 1 / v := by
    rw [← mul_inv, Real.mul_self_sqrt hv.le, one_div]
  unfold kgrad grad pull slope
  rw [ev, er, w_neg_half, Facts.w_1024]
  simp only [Ideal.div_coe (ne_of_gt hv), Ideal.div_coe (show (1024 : ℝ) ≠ 0 by norm_num), ← EReal.coe_mul, SbIdeal.Sb.coe_sum, ← EReal.coe_sub, ← EReal.coe_add]
  refine congrArg (fun t : ℝ => (t : EReal)) ?_
  have e : ∑ k, gy k * (x k * (Real.sqrt v)⁻¹) = (∑ k, x k * gy k) * (Real.sqrt v)⁻¹ := by
    rw [Finset.sum_mul]; exact Finset.sum_congr rfl fun k _ => by ring
  rw [e]
  generalize (∑ k, x k * gy k) = s
  generalize (Real.sqrt v)⁻¹ = r at hs
  linear_combination (-(r * x l * s * (1 / 1024))) * hs

end Cert.Rms

end
-- ==== Proof.LossSpec.lean ====
/- The loss on the normed rows and its gradient: per row of the padded sequence, and summed over the rows. -/
module

public import proofs.«01_k».proof.Proof.RmsSpec

@[expose] public section

noncomputable section

namespace Cert.LossSpec

open Idealize.ShloMosaic Cert.Rms

/-- All rows of the padded sequence. -/
abbrev Rows := Fin 16640 → Row

/-- The error of row `p`, zero on the two hundred and fifty-six rows before the first token. -/
def err (H : Rows) (T : Fin 16384 → Row) (g : Row) (p : Fin 16640) : Row := fun k =>
  if h : 256 ≤ p.val then H p k * rs (H p) * g k - T ⟨p.val - 256, by omega⟩ k else 0

/-- The gradient at the normed row. -/
def gy (H : Rows) (T : Fin 16384 → Row) (g : Row) (p : Fin 16640) : Row := fun k => err H T g p k * Ideal.ofBits .f32 0x3A800000#32

/-- The gradient in row `p`, in the kernel's form. -/
def kdh (H : Rows) (T : Fin 16384 → Row) (g : Row) (p : Fin 16640) (l : Fin 1024) : EReal := kgrad (H p) (fun k => gy H T g p k * g k) l

/-- The gradient in row `p`. -/
def dh (H : Rows) (T : Fin 16384 → Row) (g : Row) (p : Fin 16640) (l : Fin 1024) : EReal := grad (H p) (fun k => gy H T g p k * g k) l

/-- Row `p`'s share of the gradient in the gain. -/
def dgRow (H : Rows) (T : Fin 16384 → Row) (g : Row) (p : Fin 16640) (l : Fin 1024) : EReal := H p l * rs (H p) * gy H T g p l

/-- Row `r` of the tile of two hundred and fifty-six rows that point `i` works on. -/
def row (i : Fin 65) (r : Fin 256) : Fin 16640 := ⟨i.val * 256 + r.val, by omega⟩

/-- Token `q`'s row: two hundred and fifty-six rows come before the first token. -/
def tok (q : Fin 16384) : Fin 16640 := ⟨q.val + 256, by omega⟩

/-- Row `p` of the carried sequence, with two hundred and forty rows in front. -/
def up (p : Fin 16400) : Fin 16640 := ⟨p.val + 240, by omega⟩

end Cert.LossSpec

end
-- ==== Proof.LossKernel.lean ====
/- The final norm and loss kernel: its stores read at an index, and its three result arrays. -/
module

public import proofs.«01_k».proof.Proof.LossSpec
public import proofs.«01_k».proof.Proof.Gen.LossIdeal.Value
public import Idealize.ShloMosaic.Lib.Pipeline.ReadBack
public import Idealize.ShloMosaic.Lib.Pipeline.ValueKit

@[expose] public section

set_option maxRecDepth 16384

noncomputable section

namespace Cert.LossKernel

open Cert.LossIdeal Cert.LossIdeal.Gen Idealize.ShloMosaic Idealize.ShloMosaic.TcCoe Idealize.SL.Sem
open Idealize.ShloMosaic.Pipeline (Dat)
open Cert.LossSpec Cert.Rms

/-- The tile's test "not the first" is one from the second tile on. -/
theorem sge_one (n : Fin 65) : Scalar.cmpi CmpIPredicate.sge (BitVec.ofNat 32 n.val) 1#32 = if 1 ≤ n.val then 1#1 else 0#1 := by
  have hn := n.isLt
  have ha : (BitVec.ofNat 32 n.val).toInt = (n.val : Int) := WordCmp.toInt_ofNat_of_lt (by norm_num; omega)
  show IntOp.cmpi CmpIPredicate.sge (BitVec.ofNat 32 n.val) 1#32 = _
  rw [WordCmp.cmpi_sge_eq, ha]
  have h1 : (1#32).toInt = 1 := rfl
  rw [h1]
  by_cases h : 1 ≤ n.val
  · rw [if_pos h, decide_eq_true (by omega)]; rfl
  · rw [if_neg h, decide_eq_false (by omega)]; rfl

section
variable (i : grid0.Coords) (n : Fin 65) (hn : n.val = (i 0).val)
  (x : Vec Ideal S256x1024 .f32) (g : Vec Ideal S1x1024 .f32) (t : Vec Ideal S256x1024 .f32)
  (H : Rows) (T : Fin 16384 → Row) (G : Row)
  (hx : ∀ r k, x (ix2 r k) = H (row n r) k)
  (ht : ∀ (_ : 1 ≤ n.val) (r : Fin 256) (k : Fin 1024), t (ix2 r k) = T ⟨n.val * 256 + r.val - 256, by omega⟩ k)
  (hg : ∀ k, g (ix2 0 k) = G k)

include hx in
theorem pay8_at (r : Fin 256) (z : Fin 1) : k0_pay8 (F := Ideal) x (ix2 r z) = rs (H (row n r)) := by
  pointwise [k0_pay7, k0_pay8]
  simp only [hx, Fin.sum_univ_one]
  rfl

include hx in
theorem pay9_at (r : Fin 256) (l : Fin 1024) : k0_pay9 (F := Ideal) x (ix2 r l) = H (row n r) l * rs (H (row n r)) := by
  pointwise [k0_pay7, k0_pay9]
  rw [pay8_at n x H hx, hx]

include hn hx ht hg
theorem pay10_at (r : Fin 256) (l : Fin 1024) : k0_pay10 (F := Ideal) i g x t (ix2 r l) = err H T G (row n r) l := by
  pointwise [k0_pay6, k0_pay10]
  rw [pay9_at n x H hx, hg, ← hn, sge_one]
  unfold err
  by_cases h : 1 ≤ n.val
  · rw [dif_pos (show 256 ≤ (row n r).val by show 256 ≤ n.val * 256 + r.val; omega), if_pos h, ht h]
    rfl
  · rw [dif_neg (show ¬256 ≤ (row n r).val by show ¬256 ≤ n.val * 256 + r.val; omega), if_neg h]
    rfl

theorem pay1_at (r : Fin 256) (l : Fin 1024) :
    k0_pay1 (F := Ideal) (k0_pay8 x) (k0_pay9 x) (k0_pay13 i g x t) (k0_pay14 i g x t) (ix2 r l) = kdh H T G (row n r) l := by
  pointwise [k0_pay1, k0_pay6, k0_pay12, k0_pay13, k0_pay14]
  simp only [pay8_at n x H hx, pay9_at n x H hx, pay10_at i n hn x g t H T G hx ht hg, hg, Fin.sum_univ_one]
  rfl

theorem pay2_at (acc : Vec Ideal S1x1024 .f32) (z : Fin 1) (l : Fin 1024) :
    k0_pay2 (F := Ideal) (k0_pay9 x) (k0_pay12 i g x t) acc (ix2 z l) = acc (ix2 z l) + ∑ r, dgRow H T G (row n r) l := by
  obtain rfl : z = 0 := Subsingleton.elim _ _
  pointwise [k0_pay2, k0_pay12]
  simp only [pay9_at n x H hx, pay10_at i n hn x g t H T G hx ht hg, Fin.sum_univ_one]
  exact congrArg _ (Finset.sum_congr rfl fun r _ => mul_comm _ _)

theorem pay11_at (acc : Vec Ideal S1x1024 .f32) (z : Fin 1) (l : Fin 1024) :
    k0_pay11 (F := Ideal) i g x t acc (ix2 z l) = acc (ix2 z l) + ∑ r, err H T G (row n r) l * err H T G (row n r) l := by
  obtain rfl : z = 0 := Subsingleton.elim _ _
  pointwise [k0_pay11]
  simp only [pay10_at i n hn x g t H T G hx ht hg, Fin.sum_univ_one]
end

/-- What the last point stores of the sum of squares. -/
theorem pay3_at (acc : Vec Ideal S1x1024 .f32) (r : Fin 8) (l : Fin 128) :
    k0_pay3 (F := Ideal) acc (ix2 r l) = (∑ k, acc (ix2 0 k)) * Ideal.ofBits .f32 0x3A000000#32 := by
  pointwise [k0_pay3]

variable (m : (ℓ : Loc nD τ sig) → Buf (Elt Ideal) ℓ)

/-- The rows the kernel reads: the carried rows with zeros in front, the targets, and the gain. -/
def rowsH (c : Dev nD) : Rows := fun p k => (V m c main_v0 : FVec Ideal S16640x1024 .f32) (ix2 p k)
def rowsT (c : Dev nD) : Fin 16384 → Row := fun p k => (m ((c : Thread nD τ).loc main_arg2) : FVec Ideal S16384x1024 .f32) (ix2 p k)
def gain (c : Dev nD) : Row := fun k => (m ((c : Thread nD τ).loc main_arg1) : FVec Ideal S1024 .f32) (ix1 k)

theorem idx_val : ∀ t : Fin cfg0.N, win0_0.index t = ![t.val, 0] ∧ win0_1.index t = ![0, 0] ∧ win0_2.index t = ![t.val - 1, 0]
    ∧ win0_3.index t = ![0, 0] ∧ win0_4.index t = ![t.val, 0] ∧ win0_5.index t = ![0, 0] ∧ (grid0.coords t 0).val = t.val :=
  (by decide +kernel : ∀ t : Fin grid0.N, _)

/-- The point's number. -/
def pt (t : Fin cfg0.N) : Fin 65 := ⟨t.val, lt_of_lt_of_eq t.isLt N_0⟩

theorem hx (c : Dev nD) (t : Fin cfg0.N) (r : Fin 256) (k : Fin 1024) :
    (iblk m c 0 t : FVec Ideal S256x1024 .f32) (ix2 r k) = rowsH m c (row (pt t) r) k := by
  unfold rowsH row pt
  blk_ext [iblk, idx_val t]

theorem ht (c : Dev nD) (t : Fin cfg0.N) (h : 1 ≤ (pt t).val) (r : Fin 256) (k : Fin 1024) :
    (iblk m c 2 t : FVec Ideal S256x1024 .f32) (ix2 r k) = rowsT m c ⟨(pt t).val * 256 + r.val - 256, by have := (pt t).isLt; omega⟩ k := by
  have e : (pt t).val * 256 + r.val - 256 = (t.val - 1) * 256 + r.val := by
    have : 1 ≤ t.val := h
    show t.val * 256 + r.val - 256 = _
    omega
  have e' : (⟨(pt t).val * 256 + r.val - 256, by have := (pt t).isLt; omega⟩ : Fin 16384) = ⟨(t.val - 1) * 256 + r.val, by have := (pt t).isLt; rw [← e]; omega⟩ := Fin.ext e
  rw [e']
  unfold rowsT
  blk_ext [iblk, V, idx_val t]

theorem v1_at (c : Dev nD) (k : Fin 1024) : (V m c main_v1 : FVec Ideal S1x1024 .f32) (ix2 0 k) = gain m c k := by
  have e : V m c main_v1 = broadcastInDim S1x1024 ![1] bcast_S1024_S1x1024_1 (m ((c : Thread nD τ).loc main_arg1)) := by sl_kernel_rfl
  rw [e]
  unfold gain
  pointwise

theorem hg (c : Dev nD) (t : Fin cfg0.N) (k : Fin 1024) :
    (iblk m c 1 t : FVec Ideal S1x1024 .f32) (ix2 0 k) = gain m c k := by
  refine Eq.trans (b := (V m c main_v1 : FVec Ideal S1x1024 .f32) (ix2 0 k)) ?_ (v1_at m c k)
  blk_ext [iblk, idx_val t]

/-- The stores of a point, read at its own blocks. -/
theorem at_pay1 (c : Dev nD) (t : Fin cfg0.N) (r : Fin 256) (l : Fin 1024) :
    k0_pay1 (F := Ideal) (k0_pay8 (iblk m c 0 t)) (k0_pay9 (iblk m c 0 t)) (k0_pay13 (grid0.coords t) (iblk m c 1 t) (iblk m c 0 t) (iblk m c 2 t))
      (k0_pay14 (grid0.coords t) (iblk m c 1 t) (iblk m c 0 t) (iblk m c 2 t)) (ix2 r l)
      = kdh (rowsH m c) (rowsT m c) (gain m c) (row (pt t) r) l :=
  pay1_at (grid0.coords t) (pt t) (idx_val t).2.2.2.2.2.2.symm (iblk m c 0 t)
    (iblk m c 1 t) (iblk m c 2 t) (rowsH m c) (rowsT m c) (gain m c) (hx m c t) (ht m c t) (hg m c t) r l
theorem at_pay2 (c : Dev nD) (t : Fin cfg0.N) (acc : Vec Ideal S1x1024 .f32) (z : Fin 1) (l : Fin 1024) :
    k0_pay2 (F := Ideal) (k0_pay9 (iblk m c 0 t)) (k0_pay12 (grid0.coords t) (iblk m c 1 t) (iblk m c 0 t) (iblk m c 2 t)) acc (ix2 z l)
      = acc (ix2 z l) + ∑ r, dgRow (rowsH m c) (rowsT m c) (gain m c) (row (pt t) r) l :=
  pay2_at (grid0.coords t) (pt t) (idx_val t).2.2.2.2.2.2.symm (iblk m c 0 t)
    (iblk m c 1 t) (iblk m c 2 t) (rowsH m c) (rowsT m c) (gain m c) (hx m c t) (ht m c t) (hg m c t) acc z l
theorem at_pay11 (c : Dev nD) (t : Fin cfg0.N) (acc : Vec Ideal S1x1024 .f32) (z : Fin 1) (l : Fin 1024) :
    k0_pay11 (F := Ideal) (grid0.coords t) (iblk m c 1 t) (iblk m c 0 t) (iblk m c 2 t) acc (ix2 z l)
      = acc (ix2 z l) + ∑ r, err (rowsH m c) (rowsT m c) (gain m c) (row (pt t) r) l * err (rowsH m c) (rowsT m c) (gain m c) (row (pt t) r) l :=
  pay11_at (grid0.coords t) (pt t) (idx_val t).2.2.2.2.2.2.symm (iblk m c 0 t)
    (iblk m c 1 t) (iblk m c 2 t) (rowsH m c) (rowsT m c) (gain m c) (hx m c t) (ht m c t) (hg m c t) acc z l

/-- The point that is the `s`th of the one run over all points. -/
theorem pt_run (t : Fin cfg0.N) (s : Fin 65) (h : 65 * (t.val / 65) + s.val < cfg0.N) : pt ⟨65 * (t.val / 65) + s.val, h⟩ = s := by
  have := lt_of_lt_of_eq t.isLt N_0
  have := lt_of_lt_of_eq h N_0
  apply Fin.ext
  show 65 * (t.val / 65) + s.val = s.val
  omega

/-- The gradient in the rows, after the run. -/
theorem final4 (c : Dev nD) : (dats m 0 c).arrAt 4 (cfgs 0).N
    = fun j : S16640x1024.Idx => kdh (rowsH m c) (rowsT m c) (gain m c) (j 0) (j 1) := by
  refine (dats m 0 c).arrAt_eq_of_covers 4 _ (by decide +kernel) fun t _ y => ?_
  blk_simp
  rw [after0_4]
  idx_vars y
  have e0 : ((View.whole main_v2_1).slice (win0_4.rect t)).emb (ix2 y0 y1) = ix2 (row (pt t) y0) y1 := by
    unfold row pt
    blk_ext [idx_val t]
  rw [e0]
  by_cases h : t.val % 65 = 0
  · rw [outsAt0_A m c t h (by omega)]
    frame_out
    exact at_pay1 m c t y0 y1
  · by_cases h' : t.val % 65 = 64
    · rw [outsAt0_C m c t h h']
      frame_out
      exact at_pay1 m c t y0 y1
    · rw [outsAt0_B m c t h h']
      frame_out
      exact at_pay1 m c t y0 y1

/-- The gradient in the gain, after the run. -/
theorem final5 (c : Dev nD) : (dats m 0 c).arrAt 5 (cfgs 0).N
    = fun j : S1x1024.Idx => ∑ i : Fin 65, ∑ r : Fin 256, dgRow (rowsH m c) (rowsT m c) (gain m c) (row i r) (j 1) := by
  refine (dats m 0 c).arrAt_eq_of_covers 5 _ (by decide +kernel) fun t hf y => ?_
  blk_simp
  rw [after0_5]
  idx_vars y
  have e0 : ((View.whole main_v2_2).slice (win0_5.rect t)).emb (ix2 y0 y1) = ix2 0 y1 := by
    blk_ext [idx_val t]
  rw [e0, Pipeline.eq_sum_fin_of_reset_step_apply_of_flush (fun n h => (outsAt0 m c n h).2.2.1) 65 (fun _ => 0)
    (fun t j => ∑ r : Fin 256, dgRow (rowsH m c) (rowsT m c) (gain m c) (row (pt t) r) (j 1))
    (fun t h j => by
      rw [outsAt0_A m c t h (by omega)]; frame_out
      idx_vars j
      rw [at_pay2]
      congr 1
      pointwise [k0_pay5])
    (fun t h j => by
      by_cases h' : t.val % 65 = 64
      · rw [outsAt0_C m c t h h']; frame_out
        idx_vars j
        exact at_pay2 m c t _ _ _
      · rw [outsAt0_B m c t h h']; frame_out
        idx_vars j
        exact at_pay2 m c t _ _ _) t ((flush0_5 t).mp hf) _, zero_add]
  exact Fin.sum_fin_congr fun s => by rw [pt_run] <;> rfl

/-- The sum of squares per column, after the last point. -/
theorem acc_last (c : Dev nD) (t : Fin cfg0.N) (ht : t.val % 65 = 64) (j : S1x1024.Idx) : (outsAt0 m c t.val t.isLt).2.2.2 j
    = ∑ i : Fin 65, ∑ r : Fin 256, err (rowsH m c) (rowsT m c) (gain m c) (row i r) (j 1) * err (rowsH m c) (rowsT m c) (gain m c) (row i r) (j 1) := by
  rw [Pipeline.eq_sum_fin_of_reset_step_apply_of_flush (fun n h => (outsAt0 m c n h).2.2.2) 65 (fun _ => 0)
    (fun t j => ∑ r : Fin 256, err (rowsH m c) (rowsT m c) (gain m c) (row (pt t) r) (j 1) * err (rowsH m c) (rowsT m c) (gain m c) (row (pt t) r) (j 1))
    (fun t h j => by
      rw [outsAt0_A m c t h (by omega)]; frame_out
      idx_vars j
      rw [at_pay11]
      congr 1
      pointwise [k0_pay4])
    (fun t h j => by
      by_cases h' : t.val % 65 = 64
      · rw [outsAt0_C m c t h h']; frame_out
        idx_vars j
        rw [at_pay11, read_unread_whole]
      · rw [outsAt0_B m c t h h']; frame_out
        idx_vars j
        rw [at_pay11, read_unread_whole]) t ht _, zero_add]
  exact Fin.sum_fin_congr fun s => by rw [pt_run] <;> rfl

/-- The last point stores the loss from the sums it has just completed. -/
theorem out_last (c : Dev nD) (t : Fin cfg0.N) (h0 : ¬t.val % 65 = 0) (h : t.val % 65 = 64) :
    (outsAt0 m c t.val t.isLt).1 = k0_pay3 (F := Ideal) (outsAt0 m c t.val t.isLt).2.2.2 := by
  rw [outsAt0_C m c t h0 h]
  funext j
  frame_out

/-- The loss, in every cell of its array, after the run. -/
theorem final3 (c : Dev nD) : (dats m 0 c).arrAt 3 (cfgs 0).N
    = fun _ : S8x128.Idx => (∑ k : Fin 1024, ∑ i : Fin 65, ∑ r : Fin 256, err (rowsH m c) (rowsT m c) (gain m c) (row i r) k
        * err (rowsH m c) (rowsT m c) (gain m c) (row i r) k) * Ideal.ofBits .f32 0x3A000000#32 := by
  refine (dats m 0 c).arrAt_eq_of_covers 3 _ (by decide +kernel) fun t hf y => ?_
  blk_simp
  have hl := (flush0_3 t).mp hf
  rw [after0_3, out_last m c t (by omega) hl]
  idx_vars y
  rw [pay3_at]
  simp only [acc_last m c t hl]
  rfl

end Cert.LossKernel

end
-- ==== Proof.LossRef.lean ====
/- The reference of the loss, read at an index: its three results in closed form. -/
module

public import proofs.«01_k».proof.Proof.LossSpec
public import proofs.«01_k».proof.Proof.Gen.LossRefIdeal.Read
public import Idealize.ShloMosaic.Lib.Pipeline.ValueKit

@[expose] public section

set_option maxRecDepth 16384

noncomputable section

namespace Cert.LossRef

open Cert.LossRefIdeal Cert.LossRefIdeal.Gen Cert.LossRefIdeal.Read Idealize.ShloMosaic Idealize.ShloMosaic.TcCoe Idealize.SL.Sem
open Cert.LossSpec Cert.Rms Cert.Facts

variable (H : Rows) (T : Fin 16384 → Row) (G : Row)

theorem err_off (p : Fin 16640) (hp : ¬256 ≤ p.val) (k : Fin 1024) : err H T G p k = 0 := by
  simp [err, hp]

theorem gy_off (p : Fin 16640) (hp : ¬256 ≤ p.val) (k : Fin 1024) : gy H T G p k = 0 := by
  simp [gy, err_off H T G p hp]

theorem dh_off (p : Fin 16640) (hp : ¬256 ≤ p.val) (l : Fin 1024) : dh H T G p l = 0 :=
  grad_zero _ _ (fun k => by simp [gy_off H T G p hp]) l

theorem dgRow_off (p : Fin 16640) (hp : ¬256 ≤ p.val) (l : Fin 1024) : dgRow H T G p l = 0 := by
  simp [dgRow, gy_off H T G p hp]

variable (x0 : (⟨S16400x1024, .f32⟩ : BufTy).Contents (Elt Ideal)) (x1 : (⟨S1024, .f32⟩ : BufTy).Contents (Elt Ideal)) (x2 : (⟨S16384x1024, .f32⟩ : BufTy).Contents (Elt Ideal))
  (hx : ∀ p k, x0 (ix2 p k) = H (up p) k) (ht : ∀ (q : Fin 16384) k, x2 (ix2 q k) = T q k) (hg : ∀ k, x1 (ix1 k) = G k)

include hx in
theorem v6_at (p : Fin 16400) (z : Fin 1) : val_main_v6 (F := Ideal) x0 (ix2 p z) = var (H (up p)) := by
  pointwise [val_main_v6, val_main_v5, val_main_v4, val_main_v3, val_main_v2, val_main_v1, val_main_v0,
    val_main_cst, val_main_cst_0, val_main_cst_1]
  simp only [hx]
  rfl

include hx in
theorem v7_at (p : Fin 16400) (z : Fin 1) : val_main_v7 (F := Ideal) x0 (ix2 p z) = rs (H (up p)) := by
  pointwise [val_main_v7]
  rw [v6_at H x0 hx]
  rfl

include hx in
theorem v10_at (p : Fin 16400) (z : Fin 1) : val_main_v10 (F := Ideal) x0 (ix2 p z) = slope (H (up p)) := by
  pointwise [val_main_v10, val_main_v9, val_main_v8, val_main_cst_2]
  rw [v6_at H x0 hx, v7_at H x0 hx]
  rfl

include hx in
theorem v12_at (p : Fin 16400) (k : Fin 1024) : val_main_v12 (F := Ideal) x0 (ix2 p k) = H (up p) k * rs (H (up p)) := by
  pointwise [val_main_v12, val_main_v11]
  rw [hx, v7_at H x0 hx]

include hx ht hg in
theorem v17_at (q : Fin 16384) (k : Fin 1024) : val_main_v17 (F := Ideal) x0 x1 x2 (ix2 q k) = err H T G (tok q) k := by
  pointwise [val_main_v17, val_main_v16, val_main_v15, val_main_v14, val_main_v13]
  rw [v12_at H x0 hx, hg, ht]
  unfold err
  rw [dif_pos (show 256 ≤ (tok q).val by show 256 ≤ q.val + 256; omega)]
  have e1 : up ⟨16 + q.val, by omega⟩ = tok q := Fin.ext (by show 16 + q.val + 240 = q.val + 256; omega)
  have e2 : (⟨(tok q).val - 256, by have := q.isLt; show q.val + 256 - 256 < 16384; omega⟩ : Fin 16384) = q := Fin.ext (by show q.val + 256 - 256 = q.val; omega)
  rw [e2]
  first | rw [e1] | rw [← e1]; rfl

include hx ht hg in
theorem v32_at (p : Fin 16400) (k : Fin 1024) : val_main_v32 (F := Ideal) x0 x1 x2 (ix2 p k) = gy H T G (up p) k := by
  pointwise [val_main_v32, val_main_v31, val_main_v30, val_main_v29, val_main_v28, val_main_v27, val_main_v26, val_main_v20, val_main_v19,
    val_main_cst_3, val_main_cst_8, val_main_cst_9, val_main_cst_10, val_main_cst_11]
  by_cases h : 16 ≤ p.val ∧ p.val - 16 < 16384
  · rw [dif_pos h, v17_at H T G x0 x1 x2 hx ht hg]
    have e : tok ⟨p.val - 16, by omega⟩ = up p := Fin.ext (by simp only [up, tok]; omega)
    rw [e]
    unfold gy
    rw [w_half, w_1024, w_two, w_inv1024, Ideal.div_coe (by norm_num), ← EReal.coe_mul, ← mul_assoc, ← EReal.coe_mul, mul_comm]
    norm_num
  · rw [dif_neg h]
    rw [gy_off H T G _ (by simp only [up]; omega)]

include hx ht hg in
theorem v37_at (p : Fin 16400) (k : Fin 1024) : val_main_v37 (F := Ideal) x0 x1 x2 (ix2 p k) = gy H T G (up p) k * G k := by
  pointwise [val_main_v37, val_main_v36, val_main_v13]
  rw [v32_at H T G x0 x1 x2 hx ht hg, hg]

include hx ht hg in
theorem v48_at (p : Fin 16400) (k : Fin 1024) :
    val_main_v48 (F := Ideal) x0 x1 x2 (ix2 p k) = pull (H (up p)) (fun l => gy H T G (up p) l * G l) := by
  pointwise [val_main_v48, val_main_v47, val_main_v46, val_main_v45, val_main_v44, val_main_v41, val_main_v40, val_main_v39,
    val_main_cst_14, val_main_cst_15, val_main_cst_16]
  simp only [hx, v10_at H x0 hx, v37_at H T G x0 x1 x2 hx ht hg]
  simp only [Fin.sum_univ_one]
  rfl

include hx ht hg in
/-- The gradient in the rows, with zeros in front. -/
theorem v54_at (p : Fin 16640) (l : Fin 1024) : val_main_v54 (F := Ideal) x0 x1 x2 (ix2 p l) = dh H T G p l := by
  pointwise [val_main_v54, val_main_v52, val_main_v51, val_main_v50, val_main_v49, val_main_v43, val_main_v42, val_main_call0_v0, val_main_c]
  by_cases h : 240 ≤ p.val ∧ p.val - 240 < 16400
  · have e : up ⟨p.val - 240, by omega⟩ = p := Fin.ext (by simp only [up]; omega)
    rw [dif_pos h, v37_at H T G x0 x1 x2 hx ht hg, v7_at H x0 hx, hx, v48_at H T G x0 x1 x2 hx ht hg, e]
    rfl
  · rw [dif_neg h, dh_off H T G p (by omega)]
    exact congrFun SbIdeal.Sb.zero_conv ix0

include hx ht hg in
/-- The gradient in the gain: the sum over all rows. -/
theorem v55_at (z : Fin 1) (l : Fin 1024) : val_main_v55 (F := Ideal) x0 x1 x2 (ix2 z l) = ∑ i : Fin 65, ∑ r : Fin 256, dgRow H T G (row i r) l := by
  pointwise [val_main_v55, val_main_v38, val_main_v35, val_main_v34, val_main_v33, val_main_cst_12, val_main_cst_13]
  simp only [Fin.sum_univ_one, v12_at H x0 hx, v32_at H T G x0 x1 x2 hx ht hg]
  refine Eq.trans (b := ∑ p : Fin 16640, dgRow H T G p l) ?_ (Fin.sum_mul_add_fin 65 256 (fun p => dgRow H T G p l)).symm
  rw [sum_window (k := 16400) 240 (by norm_num) _ (fun p hp => dgRow_off H T G p (by omega) l)]
  rfl

include hx ht hg in
/-- The loss: half the mean squares of the tokens, in the order the kernel sums them. -/
theorem v53_at (j : S8x128.Idx) : val_main_v53 (F := Ideal) x0 x1 x2 j
    = (∑ k : Fin 1024, ∑ i : Fin 65, ∑ r : Fin 256, err H T G (row i r) k * err H T G (row i r) k) * Ideal.ofBits .f32 0x3A000000#32 := by
  idx_vars j
  pointwise [val_main_v53, val_main_v25, val_main_v24, val_main_v23, val_main_v22, val_main_v21, val_main_v18, val_main_cst_4, val_main_cst_5, val_main_cst_6, val_main_cst_7]
  simp only [v17_at H T G x0 x1 x2 hx ht hg, w_half, w_1024, Ideal.div_coe (show (1024 : ℝ) ≠ 0 by norm_num)]
  have w : Ideal.ofBits .f32 0x3A000000#32 = ((1 / 2 * (1 / 1024) : ℝ) : EReal) := by
    simp [Ideal.ofBits, Ideal.ieee, -EReal.coe_mul]; norm_num
  have hs (k : Fin 1024) : ∑ i : Fin 65, ∑ r : Fin 256, err H T G (row i r) k * err H T G (row i r) k = ∑ q : Fin 16384, err H T G (tok q) k * err H T G (tok q) k := by
    refine (Fin.sum_mul_add_fin 65 256 (fun p => err H T G p k * err H T G p k)).trans ?_
    exact sum_window (k := 16384) 256 (by norm_num) _ (fun p hp => by rw [err_off H T G p (by omega), zero_mul])
  simp only [hs]
  rw [Finset.sum_comm, w, EReal.coe_mul, mul_comm _ (_ * _), mul_assoc]
  refine congrArg _ ?_
  rw [coe_mul_sum _ _ (by norm_num)]
  exact Finset.sum_congr rfl fun q _ => mul_comm _ _

end Cert.LossRef

end
-- ==== Proof.LossClaims.lean ====
/- The claims about the final norm, the loss and their gradient: both programs' runs, and the equality of their three results
   for finite arguments. -/
module

public import proofs.«01_k».proof.Defs
public import proofs.«01_k».proof.Proof.LossKernel
public import proofs.«01_k».proof.Proof.LossRef
public import proofs.«01_k».proof.Proof.Finite
public import proofs.«01_k».proof.Proof.Gen.Loss.Frame
public import proofs.«01_k».proof.Proof.Gen.Pre_loss_finite

@[expose] public section

set_option maxRecDepth 16384

noncomputable section

namespace Cert.LossClaims

open Idealize.ShloMosaic Idealize.ShloMosaic.TcCoe Idealize.SL.Sem

theorem frame_kernel : Cert.quiescent_Loss := fun m ρ _ => Cert.Loss.Gen.frame m ρ
theorem frame_kernel_ideal : Cert.quiescent_LossIdeal := fun m ρ _ => Cert.LossIdeal.Gen.frame m ρ
theorem frame_ref : Cert.quiescent_LossRefIdeal := fun m ρ _ =>
  (θ_run _ _ _).mono (fun r h => ⟨fun c => (h c).2.2.2, sem_eq_zero_of_no_sems (by decide) r.2⟩) (Cert.LossRefIdeal.Value.run m ρ)

section
open Cert.LossIdeal Cert.LossIdeal.Gen Cert.LossSpec Cert.LossKernel Cert.Rms
open Cert.SbIdeal.Sb (sheet line front pad_sheet zero_conv)
variable (m : (ℓ : Loc nD τ sig) → Buf (Elt Ideal) ℓ) (c : Dev nD)

/-- Two hundred and forty zero rows in front. -/
def fronted (x : FVec Ideal S16400x1024 .f32) : FVec Ideal S16640x1024 .f32 :=
  pad S16640x1024 ![240, 0] ![0, 0] ![0, 0] x (sitofp (F := Ideal) .f32 (constantI S_ 32 0#32)) pads_S16400x1024_S16640x1024_24000_000 h_S_

/-- The arguments are arrays of reals. -/
structure Args (h t : ℕ → ℕ → ℝ) (g : ℕ → ℝ) : Prop where
  h : (m ((c.tc : Thread nD τ).loc main_arg0) : FVec Ideal S16400x1024 .f32) = sheet .f32 16400 1024 h
  g : (m ((c.tc : Thread nD τ).loc main_arg1) : FVec Ideal S1024 .f32) = line 1024 g
  t : (m ((c.tc : Thread nD τ).loc main_arg2) : FVec Ideal S16384x1024 .f32) = sheet .f32 16384 1024 t

theorem args_of_finite (hp : Cert.Pre_LossIdeal_loss_finite m) : ∃ (h t : ℕ → ℕ → ℝ) (g : ℕ → ℝ), Args m c h t g := by
  have e := congrFun (hp c) ix0
  obtain ⟨e01, e2⟩ := IntOp.andi_eq_one.1 e
  obtain ⟨e0, e1⟩ := IntOp.andi_eq_one.1 e01
  exact ⟨_, _, _,
    { h := Cert.Finite.sheet_reals2 _ (Cert.Finite.real_of_all _ _ _ _ _ e0)
      g := Cert.Finite.line_reals1 _ (Cert.Finite.real_of_all _ _ _ _ _ e1)
      t := Cert.Finite.sheet_reals2 _ (Cert.Finite.real_of_all _ _ _ _ _ e2) }⟩

variable {m c} {h t : ℕ → ℕ → ℝ} {g : ℕ → ℝ} (A : Args m c h t g)
include A

theorem rows_eq (p : Fin 16640) : rowsH m c p = fun k => ((front h p.val k.val : ℝ) : EReal) := by
  have e : (V m c main_v0 : FVec Ideal S16640x1024 .f32) = sheet .f32 16640 1024 (front h) := by
    refine Eq.trans (b := fronted (m ((c.tc : Thread nD τ).loc main_arg0))) (by sl_kernel_rfl) ?_
    rw [A.h]
    unfold fronted
    exact pad_sheet 16400 1024 240 16640 _ _ zero_conv h_S_ (by norm_num) _
  funext k
  exact congrFun e (ix2 p k)

theorem gain_eq : gain m c = fun k => ((g k.val : ℝ) : EReal) := by
  funext k
  exact congrFun A.g (ix1 k)

theorem targets_eq (q : Fin 16384) : rowsT m c q = fun k => ((t q.val k.val : ℝ) : EReal) := by
  funext k
  exact congrFun A.t (ix2 q k)

/-- Every row's error is a row of reals. -/
theorem err_real (p : Fin 16640) : ∃ e : Fin 1024 → ℝ, err (rowsH m c) (rowsT m c) (gain m c) p = fun k => ((e k : ℝ) : EReal) := by
  by_cases hp : 256 ≤ p.val
  · obtain ⟨v, _, _, er⟩ := real_rs (fun k : Fin 1024 => front h p.val k.val)
    refine ⟨fun k => front h p.val k.val * (Real.sqrt v)⁻¹ * g k.val - t (p.val - 256) k.val, ?_⟩
    funext k
    unfold err
    rw [dif_pos hp, rows_eq A, gain_eq A, targets_eq A, er]
    simp only [← EReal.coe_mul, ← EReal.coe_sub]
  · refine ⟨fun _ => 0, ?_⟩
    funext k
    exact (LossRef.err_off _ _ _ p hp k).trans EReal.coe_zero.symm

/-- The kernel's form of the gradient in the rows is the derivative's. -/
theorem kdh_eq (p : Fin 16640) (l : Fin 1024) : kdh (rowsH m c) (rowsT m c) (gain m c) p l = dh (rowsH m c) (rowsT m c) (gain m c) p l := by
  obtain ⟨e, he⟩ := err_real A p
  have hy : (fun k => gy (rowsH m c) (rowsT m c) (gain m c) p k * gain m c k) = fun k => ((e k * (1 / 1024) * g k.val : ℝ) : EReal) := by
    funext k
    unfold gy
    rw [he, gain_eq A, Facts.w_inv1024, ← EReal.coe_mul, ← EReal.coe_mul]
  unfold kdh dh
  rw [hy, rows_eq A]
  exact kgrad_eq _ _ l

omit A
theorem up_eq (p : Fin 16400) (k : Fin 1024) : (m ((c.tc : Thread nD τ).loc main_arg0) : FVec Ideal S16400x1024 .f32) (ix2 p k) = rowsH m c (up p) k := by
  refine Eq.symm (Eq.trans (b := fronted (m ((c.tc : Thread nD τ).loc main_arg0)) (ix2 (up p) k)) ?_ ?_)
  · exact congrFun (show (V m c main_v0 : FVec Ideal S16640x1024 .f32) = _ by sl_kernel_rfl) (ix2 (up p) k)
  · have h1 : 240 ≤ (up p).val ∧ (up p).val - 240 < 16400 :=
      ⟨Nat.le_add_left _ _, by show p.val + 240 - 240 < 16400; omega⟩
    pointwise [fronted]
    rw [dif_pos h1]
    exact congrArg (fun q : Fin 16400 => (m ((c.tc : Thread nD τ).loc main_arg0) : FVec Ideal S16400x1024 .f32) (ix2 q k)) (Fin.ext (Nat.add_sub_cancel p.val 240))

variable (m c)

theorem same53 (x0 : FVec Ideal S16400x1024 .f32) (h0 : x0 = m ((c.tc : Thread nD τ).loc main_arg0)) (x1 : FVec Ideal S1024 .f32) (h1 : x1 = m ((c.tc : Thread nD τ).loc main_arg1))
    (x2 : FVec Ideal S16384x1024 .f32) (h2 : x2 = m ((c.tc : Thread nD τ).loc main_arg2)) :
    Cert.LossRefIdeal.Read.val_main_v53 (F := Ideal) x0 x1 x2 = (dats m 0 c).arrAt 3 (cfgs 0).N := by
  subst h0 h1 h2
  rw [final3]
  funext j
  exact Cert.LossRef.v53_at (rowsH m c) (rowsT m c) (gain m c) _ _ _ (up_eq (m := m) (c := c)) (fun _ _ => rfl) (fun _ => rfl) j

theorem same55 (x0 : FVec Ideal S16400x1024 .f32) (h0 : x0 = m ((c.tc : Thread nD τ).loc main_arg0)) (x1 : FVec Ideal S1024 .f32) (h1 : x1 = m ((c.tc : Thread nD τ).loc main_arg1))
    (x2 : FVec Ideal S16384x1024 .f32) (h2 : x2 = m ((c.tc : Thread nD τ).loc main_arg2)) :
    Cert.LossRefIdeal.Read.val_main_v55 (F := Ideal) x0 x1 x2 = (dats m 0 c).arrAt 5 (cfgs 0).N := by
  subst h0 h1 h2
  rw [final5]
  funext j
  idx_vars j
  exact Cert.LossRef.v55_at (rowsH m c) (rowsT m c) (gain m c) _ _ _ (up_eq (m := m) (c := c)) (fun _ _ => rfl) (fun _ => rfl) j0 j1

include A in
theorem same54 (x0 : FVec Ideal S16400x1024 .f32) (h0 : x0 = m ((c.tc : Thread nD τ).loc main_arg0)) (x1 : FVec Ideal S1024 .f32) (h1 : x1 = m ((c.tc : Thread nD τ).loc main_arg1))
    (x2 : FVec Ideal S16384x1024 .f32) (h2 : x2 = m ((c.tc : Thread nD τ).loc main_arg2)) :
    Cert.LossRefIdeal.Read.val_main_v54 (F := Ideal) x0 x1 x2 = (dats m 0 c).arrAt 4 (cfgs 0).N := by
  subst h0 h1 h2
  rw [final4]
  funext j
  idx_vars j
  exact (Cert.LossRef.v54_at (rowsH m c) (rowsT m c) (gain m c) _ _ _ (up_eq (m := m) (c := c)) (fun _ _ => rfl) (fun _ => rfl) j0 j1).trans (kdh_eq A j0 j1).symm
end

theorem algebraic : Cert.algebraic_LossIdeal_LossRefIdeal_pre_loss_finite := fun m ρ m' ρ' hpre hag => by
  refine ⟨fun c => (Cert.LossIdeal.Gen.dats m 0 c).arrAt 3 Cert.LossIdeal.cfg0.N, fun c => (Cert.LossIdeal.Gen.dats m 0 c).arrAt 4 Cert.LossIdeal.cfg0.N,
    fun c => (Cert.LossIdeal.Gen.dats m 0 c).arrAt 5 Cert.LossIdeal.cfg0.N,
    Cert.LossIdeal.Value.run_blocks m ρ,
    (θ_run _ _ _).mono (fun _ h c => ?_) (Cert.LossRefIdeal.Value.run m' ρ')⟩
  obtain ⟨x, t, g, A⟩ := args_of_finite m c hpre
  obtain ⟨a0, a1, a2⟩ := hag c
  exact ⟨(h c).1.trans (same53 m c _ a0 _ a1 _ a2), (h c).2.1.trans ((Cert.LossRefIdeal.Read.val_main_v54_eq _ _).trans (same54 m c A _ a0 _ a1 _ a2)),
    (h c).2.2.1.trans (same55 m c _ a0 _ a1 _ a2), (h c).2.2.2⟩

end Cert.LossClaims

end
-- ==== Proof.RmsReal.lean ====
/- The root-mean-square norm of a row of reals, its scale and its gradient as real numbers, and the logistic function. -/
module

public import proofs.«01_k».proof.Proof.RmsSpec

@[expose] public section

noncomputable section

namespace Cert.Rms

open Idealize.ShloMosaic

/-- The small constant under the root. -/
def eps : ℝ := 8796093 * 2 ^ (-43 : ℤ)

theorem w_eps : Ideal.ofBits .f32 0x358637BD#32 = ((eps : ℝ) : EReal) := by
  unfold eps
  simp [Ideal.ofBits, Ideal.ieee, -EReal.coe_mul]

theorem eps_gt : 0 < eps := by unfold eps; positivity

/-- The mean of the squares plus the constant, and the row's scale. -/
def vr (x : ℕ → ℝ) : ℝ := (∑ k : Fin 1024, x k.val * x k.val) * (1 / 1024) + eps
def rr (x : ℕ → ℝ) : ℝ := (Real.sqrt (vr x))⁻¹

theorem vr_pos (x : ℕ → ℝ) : 0 < vr x := by
  have h0 : 0 ≤ ∑ k : Fin 1024, x k.val * x k.val := Finset.sum_nonneg fun k _ => mul_self_nonneg _
  unfold vr
  linarith [mul_nonneg h0 (by norm_num : (0 : ℝ) ≤ 1 / 1024), eps_gt]

theorem var_coe (x : ℕ → ℝ) : var (fun k => ((x k.val : ℝ) : EReal)) = ((vr x : ℝ) : EReal) := by
  unfold var vr
  rw [w_eps, Facts.w_1024, Ideal.div_coe (by norm_num)]
  simp only [← EReal.coe_mul, SbIdeal.Sb.coe_sum, ← EReal.coe_add]

theorem rs_coe (x : ℕ → ℝ) : rs (fun k => ((x k.val : ℝ) : EReal)) = ((rr x : ℝ) : EReal) := by
  have hp := vr_pos x
  unfold rs rr
  rw [var_coe, Ideal.rsqrt_coe, if_neg (not_lt.2 hp.le), if_neg (ne_of_gt hp)]

/-- The gradient in the row, from the gradient at the scaled row. -/
def ngrad (x gy : ℕ → ℝ) (l : ℕ) : ℝ :=
  rr x * (gy l - x l * rr x * ((∑ k : Fin 1024, gy k.val * (x k.val * rr x)) * (1 / 1024)))

theorem kgrad_coe (x gy : ℕ → ℝ) (l : Fin 1024) :
    kgrad (fun k => ((x k.val : ℝ) : EReal)) (fun k => ((gy k.val : ℝ) : EReal)) l = ((ngrad x gy l.val : ℝ) : EReal) := by
  unfold kgrad ngrad
  rw [rs_coe, Facts.w_1024]
  simp only [Ideal.div_coe (show (1024 : ℝ) ≠ 0 by norm_num), ← EReal.coe_mul, SbIdeal.Sb.coe_sum, ← EReal.coe_sub]

theorem grad_coe (x gy : ℕ → ℝ) (l : Fin 1024) :
    grad (fun k => ((x k.val : ℝ) : EReal)) (fun k => ((gy k.val : ℝ) : EReal)) l = ((ngrad x gy l.val : ℝ) : EReal) :=
  (kgrad_eq (fun k => x k.val) (fun k => gy k.val) l).symm.trans (kgrad_coe x gy l)

/-- The gradient of a row with no gradient above it. -/
theorem ngrad_zero (x gy : ℕ → ℝ) (h : ∀ k, gy k = 0) (l : ℕ) : ngrad x gy l = 0 := by
  simp [ngrad, h]

/-- The logistic function. -/
def sg (t : ℝ) : ℝ := 1 / (1 + Real.exp (-t))

theorem sg_coe (t : ℝ) : Ideal.div (((1 : ℝ) : EReal)) (((1 : ℝ) : EReal) + ((Real.exp (-t) : ℝ) : EReal)) = ((sg t : ℝ) : EReal) := by
  have h : (1 + Real.exp (-t)) ≠ 0 := by have := Real.exp_pos (-t); linarith
  rw [← EReal.coe_add, Ideal.div_coe h, ← EReal.coe_mul]
  unfold sg
  rw [one_mul]

end Cert.Rms

end
-- ==== Proof.FfnSpec.lean ====
/- The half-step gated layer on one row of reals: its forward values and the gradients its backward call gives. -/
module

public import proofs.«01_k».proof.Proof.RmsReal

@[expose] public section

noncomputable section

namespace Cert.FfnSpec

open Cert.Rms

/-- The layer's weights. -/
structure W where
  wg : ℕ → ℕ → ℝ
  wu : ℕ → ℕ → ℝ
  wd : ℕ → ℕ → ℝ
  g : ℕ → ℝ

variable (w : W) (x y : ℕ → ℝ)

/-- The normed row, its two projections, and the gated product. -/
def xn (k : ℕ) : ℝ := x k * rr x * w.g k
def gate (d : ℕ) : ℝ := ∑ k : Fin 1024, xn w x k.val * w.wg k.val d
def lift (d : ℕ) : ℝ := ∑ k : Fin 1024, xn w x k.val * w.wu k.val d
def silu (d : ℕ) : ℝ := gate w x d * sg (gate w x d)
def act (d : ℕ) : ℝ := silu w x d * lift w x d

/-- The gradients at the gated product and at the two projections. -/
def dact (d : ℕ) : ℝ := ∑ k : Fin 1024, 1 / 2 * y k.val * w.wd d k.val
def dup (d : ℕ) : ℝ := dact w y d * silu w x d
def dgate (d : ℕ) : ℝ := dact w y d * lift w x d * (sg (gate w x d) * (1 + gate w x d * (1 - sg (gate w x d))))

/-- The gradients at the normed row, in the row, and the row's share of the gradient in the gain. -/
def dxn (k : ℕ) : ℝ := ∑ d : Fin 2816, dgate w x y d.val * w.wg k d.val + ∑ d : Fin 2816, dup w x y d.val * w.wu k d.val
def dh (l : ℕ) : ℝ := y l + ngrad x (fun k => dxn w x y k * w.g k) l
def dg (l : ℕ) : ℝ := dxn w x y l * (x l * rr x)

section zero
variable (hx : ∀ k, x k = 0) (hy : ∀ k, y k = 0)
include hy in
theorem dact_zero (d : ℕ) : dact w y d = 0 := by simp [dact, hy]
include hx in
theorem lift_zero (d : ℕ) : lift w x d = 0 := by simp [lift, xn, hx]
include hx in
theorem act_zero (d : ℕ) : act w x d = 0 := by simp [act, lift_zero w x hx]
include hy in
theorem dup_zero (d : ℕ) : dup w x y d = 0 := by simp [dup, dact_zero w y hy]
include hy in
theorem dgate_zero (d : ℕ) : dgate w x y d = 0 := by simp [dgate, dact_zero w y hy]
include hy in
theorem dxn_zero (k : ℕ) : dxn w x y k = 0 := by simp [dxn, dgate_zero w x y hy, dup_zero w x y hy]
include hy in
theorem dh_zero (l : ℕ) : dh w x y l = 0 := by
  unfold dh
  rw [hy, zero_add]
  exact ngrad_zero _ _ (fun k => by simp [dxn_zero w x y hy]) l
include hy in
theorem dg_zero (l : ℕ) : dg w x y l = 0 := by simp [dg, dxn_zero w x y hy]
end zero

end Cert.FfnSpec

end
-- ==== Proof.FfnPay.lean ====
/- The gated layer's backward body on a block of rows of reals: what each of its stores holds. -/
module

public import proofs.«01_k».proof.Proof.FfnSpec
public import proofs.«01_k».proof.Proof.Gen.FfnIdeal.Value
public import Idealize.ShloMosaic.Lib.Pipeline.ValueKit

@[expose] public section

set_option maxRecDepth 16384

noncomputable section

open Idealize.ShloMosaic

namespace Cert.FfnKernel

open Cert.FfnIdeal Cert.FfnIdeal.Gen Cert.Rms Cert.FfnSpec
open Cert.SbIdeal.Sb (sheet sheet_apply coe_sum)

variable (w : W) (x y : ℕ → ℕ → ℝ)

theorem pay6_eq : k0_pay6 (F := Ideal) (sheet .f32 256 1024 y) (sheet .bf16 1024 2816 fun k d => w.wd d k) = sheet .f32 256 2816 fun r d => dact w (y r) d := by
  funext i; idx_vars i
  pointwise [k0_pay3, k0_pay6]
  simp only [sheet_apply, Facts.w_half, ← EReal.coe_mul, coe_sum]
  rfl

theorem pay4_eq (f : ℕ → ℕ → ℝ) : k0_pay4 (F := Ideal) (sheet .bf16 256 2816 f) = sheet .f32 256 2816 f := by
  funext i; idx_vars i
  pointwise [k0_pay4]
  rfl

theorem pay5_eq (f : ℕ → ℕ → ℝ) : k0_pay5 (F := Ideal) (sheet .bf16 256 2816 f) = sheet .f32 256 2816 f := by
  funext i; idx_vars i
  pointwise [k0_pay5]
  rfl

theorem pay7_eq (f : ℕ → ℕ → ℝ) : k0_pay7 (F := Ideal) (sheet .bf16 256 2816 f) = sheet .f32 256 2816 fun r d => sg (f r d) := by
  funext i; idx_vars i
  pointwise [k0_pay7]
  rw [pay4_eq]
  simp only [sheet_apply, Facts.w_one, zero_sub, ← EReal.coe_neg, Ideal.exp_coe]
  exact sg_coe _

theorem pay8_eq : k0_pay8 (F := Ideal) (sheet .bf16 256 2816 fun r d => gate w (x r) d) = sheet .f32 256 2816 fun r d => silu w (x r) d := by
  funext i; idx_vars i
  pointwise [k0_pay8]
  rw [pay4_eq, pay7_eq]
  simp only [sheet_apply, ← EReal.coe_mul]
  rfl

theorem pay9_eq : k0_pay9 (F := Ideal) (sheet .bf16 256 2816 fun r d => gate w (x r) d) (sheet .bf16 256 2816 fun r d => lift w (x r) d)
    = sheet .bf16 256 2816 fun r d => act w (x r) d := by
  funext i; idx_vars i
  pointwise [k0_pay9]
  rw [pay8_eq, pay5_eq]
  simp only [sheet_apply, ← EReal.coe_mul]
  rfl

theorem pay10_eq : k0_pay10 (F := Ideal) (sheet .f32 256 1024 y) (sheet .bf16 256 2816 fun r d => gate w (x r) d) (sheet .bf16 1024 2816 fun k d => w.wd d k)
    = sheet .bf16 256 2816 fun r d => dup w (x r) (y r) d := by
  funext i; idx_vars i
  pointwise [k0_pay10]
  rw [pay6_eq, pay8_eq]
  simp only [sheet_apply, ← EReal.coe_mul]
  rfl

theorem pay11_eq : k0_pay11 (F := Ideal) (sheet .f32 256 1024 y) (sheet .bf16 256 2816 fun r d => gate w (x r) d)
    (sheet .bf16 256 2816 fun r d => lift w (x r) d) (sheet .bf16 1024 2816 fun k d => w.wd d k)
    = sheet .bf16 256 2816 fun r d => dgate w (x r) (y r) d := by
  funext i; idx_vars i
  pointwise [k0_pay11]
  rw [pay6_eq, pay5_eq, pay4_eq, pay7_eq]
  simp only [sheet_apply, Facts.w_one, ← EReal.coe_mul, ← EReal.coe_sub, ← EReal.coe_add]
  rfl

theorem pay12_eq : k0_pay12 (F := Ideal) (sheet .bf16 256 2816 fun r d => dup w (x r) (y r) d) (sheet .bf16 256 2816 fun r d => dgate w (x r) (y r) d)
    (sheet .bf16 2816 1024 fun d k => w.wg k d) (sheet .bf16 2816 1024 fun d k => w.wu k d) = sheet .f32 256 1024 fun r k => dxn w (x r) (y r) k := by
  funext i; idx_vars i
  pointwise [k0_pay12]
  simp only [sheet_apply, ← EReal.coe_mul, coe_sum, ← EReal.coe_add]
  rfl

theorem pay14_eq : k0_pay14 (F := Ideal) (sheet .f32 256 1024 x) = sheet .f32 256 1 fun r _ => rr (x r) := by
  funext i; idx_vars i
  pointwise [k0_pay13, k0_pay14]
  simp only [sheet_apply]
  exact rs_coe _

theorem pay15_eq : k0_pay15 (F := Ideal) (sheet .f32 256 1024 x) = sheet .f32 256 1024 fun r k => x r k * rr (x r) := by
  funext i; idx_vars i
  pointwise [k0_pay13, k0_pay15]
  rw [pay14_eq]
  simp only [sheet_apply, ← EReal.coe_mul]

theorem pay16_eq : k0_pay16 (F := Ideal) (sheet .bf16 256 2816 fun r d => dup w (x r) (y r) d) (sheet .bf16 256 2816 fun r d => dgate w (x r) (y r) d)
    (sheet .bf16 2816 1024 fun d k => w.wg k d) (sheet .bf16 2816 1024 fun d k => w.wu k d) (sheet .f32 256 1024 x)
    = sheet .f32 256 1024 fun r l => dg w (x r) (y r) l := by
  funext i; idx_vars i
  pointwise [k0_pay16]
  rw [pay12_eq, pay15_eq]
  simp only [sheet_apply, ← EReal.coe_mul]
  rfl

theorem pay17_eq : k0_pay17 (F := Ideal) (k0_pay3 (sheet .f32 256 1024 y)) (sheet .bf16 256 2816 fun r d => dup w (x r) (y r) d) (sheet .bf16 256 2816 fun r d => dgate w (x r) (y r) d)
    (sheet .bf16 2816 1024 fun d k => w.wg k d) (sheet .bf16 2816 1024 fun d k => w.wu k d) (sheet .f32 1 1024 fun _ k => w.g k) (sheet .f32 256 1024 x)
    = sheet .f32 256 1024 fun r l => dh w (x r) (y r) l := by
  funext i; idx_vars i
  pointwise [k0_pay17, k0_pay3]
  rw [pay12_eq, pay15_eq, pay14_eq]
  simp only [sheet_apply, Facts.w_1024, Ideal.div_coe (show (1024 : ℝ) ≠ 0 by norm_num), ← EReal.coe_mul, coe_sum, ← EReal.coe_sub, ← EReal.coe_add]
  rfl

theorem pay2_eq (acc : FVec Ideal S1x1024 .f32) (f : ℕ → ℕ → ℝ) (z : Fin 1) (l : Fin 1024) :
    k0_pay2 (F := Ideal) (sheet .f32 256 1024 f) acc (ix2 z l) = acc (ix2 z l) + ∑ r : Fin 256, ((f r.val l.val : ℝ) : EReal) := by
  obtain rfl : z = 0 := Subsingleton.elim _ _
  pointwise [k0_pay2]
  simp only [sheet_apply, Fin.sum_univ_one]

end Cert.FfnKernel

end
-- ==== Proof.FfnKernel.lean ====
/- The gated layer's backward call on arguments of reals: the arrays the host prepares, and the five arrays the run leaves. -/
module

public import proofs.«01_k».proof.Proof.FfnPay
public import proofs.«01_k».proof.Proof.LossSpec
public import Idealize.ShloMosaic.Lib.Pipeline.ReadBack

@[expose] public section

set_option maxRecDepth 16384

noncomputable section

open Idealize.ShloMosaic Idealize.ShloMosaic.TcCoe Idealize.SL.Sem

namespace Cert.FfnKernel

open Cert.FfnIdeal Cert.FfnIdeal.Gen Cert.Rms Cert.FfnSpec
open Cert.SbIdeal.Sb (sheet sheet_apply coe_sum line front pad_sheet zero_conv)
open Cert.LossSpec (row)

/-- Two hundred and forty zero rows in front. -/
def fronted (x : FVec Ideal S16400x1024 .f32) : FVec Ideal S16640x1024 .f32 :=
  pad S16640x1024 ![240, 0] ![0, 0] ![0, 0] x (sitofp (F := Ideal) .f32 (constantI S_ 32 0#32)) pads_S16400x1024_S16640x1024_24000_000 h_S_

/-- The gain as a row. -/
def gainRow (g : FVec Ideal S1024 .f32) : FVec Ideal S1x1024 .f32 := broadcastInDim S1x1024 ![1] bcast_S1024_S1x1024_1 g

/-- The normed rows as the host computes them. -/
def normed (X : FVec Ideal S16640x1024 .f32) (G : FVec Ideal S1x1024 .f32) : FVec Ideal S16640x1024 .bf16 :=
  truncf .bf16 (mulf (mulf X (broadcastInDim S16640x1024 ![0, 1] bcast_S16640x1_S16640x1024_0_1 (Host.rsqrt (addf
    (Host.divf (broadcastInDim S16640x1 ![0] bcast_S16640_S16640x1_0 (Host.reduceAdd (mulf X X) (constant (F := Ideal) S_ .f32 0x00000000#32) reducesTo_S16640x1024_S16640_d1 h_S_))
      (broadcastInDim S16640x1 ![] bcast_S_S16640x1 (constant (F := Ideal) S_ .f32 0x44800000#32)))
    (broadcastInDim S16640x1 ![] bcast_S_S16640x1 (constant (F := Ideal) S_ .f32 0x358637BD#32))))))
    (broadcastInDim S16640x1024 ![0, 1] bcast_S1x1024_S16640x1024_0_1 G)) bitsLt_bf16_f32

/-- A projection of the normed rows. -/
def proj (X : FVec Ideal S16640x1024 .bf16) (U : FVec Ideal S1024x2816 .f32) : FVec Ideal S16640x2816 .bf16 :=
  truncf .bf16 (Host.dotGeneral dot_S16640x1024_S1024x2816_S16640x2816_1_0_0_1_n_n none X (truncf .bf16 U bitsLt_bf16_f32) : FVec Ideal S16640x2816 .f32) bitsLt_bf16_f32

/-- The weights turned round. -/
def turnDown (x : FVec Ideal S2816x1024 .f32) : FVec Ideal S1024x2816 .bf16 :=
  transpose S1024x2816 [1, 0] (truncf .bf16 x bitsLt_bf16_f32) transposes_S2816x1024_S1024x2816_1_0
def turnUp (x : FVec Ideal S1024x2816 .f32) : FVec Ideal S2816x1024 .bf16 :=
  transpose S2816x1024 [1, 0] (truncf .bf16 x bitsLt_bf16_f32) transposes_S1024x2816_S2816x1024_1_0

variable (w : W)

/-- A row's share of the gradient in the gain, as an extended real. -/
def share (h ct : ℕ → ℕ → ℝ) (p : Fin 16640) (l : Fin 1024) : EReal := ((dg w (front h p.val) (front ct p.val) l.val : ℝ) : EReal)

theorem fronted_eq (f : ℕ → ℕ → ℝ) : fronted (sheet .f32 16400 1024 f) = sheet .f32 16640 1024 (front f) :=
  pad_sheet 16400 1024 240 16640 _ _ zero_conv h_S_ (by norm_num) _

theorem gainRow_eq : gainRow (line 1024 w.g) = sheet .f32 1 1024 fun _ k => w.g k := by
  funext i; idx_vars i
  pointwise [gainRow]
  rfl

theorem normed_eq (f : ℕ → ℕ → ℝ) : normed (sheet .f32 16640 1024 f) (sheet .f32 1 1024 fun _ k => w.g k) = sheet .bf16 16640 1024 fun p k => xn w (f p) k := by
  funext i; idx_vars i
  pointwise [normed]
  simp only [sheet_apply]
  refine Eq.trans (congrArg (fun r : EReal => ((f i0.val i1.val : ℝ) : EReal) * r * ((w.g i1.val : ℝ) : EReal)) (rs_coe (f i0.val))) ?_
  simp only [← EReal.coe_mul]
  rfl

theorem proj_eq (f u : ℕ → ℕ → ℝ) : proj (sheet .bf16 16640 1024 f) (sheet .f32 1024 2816 u) = sheet .bf16 16640 2816 fun p d => ∑ k : Fin 1024, f p k.val * u k.val d := by
  funext i; idx_vars i
  pointwise [proj]
  simp only [sheet_apply, ← EReal.coe_mul, coe_sum]

variable (m : (ℓ : Loc nD τ sig) → Buf (Elt Ideal) ℓ) (c : Dev nD)

/-- The arguments are arrays of reals. -/
structure Args (h ct : ℕ → ℕ → ℝ) : Prop where
  h : (m ((c.tc : Thread nD τ).loc main_arg0) : FVec Ideal S16400x1024 .f32) = sheet .f32 16400 1024 h
  g : (m ((c.tc : Thread nD τ).loc main_arg1) : FVec Ideal S1024 .f32) = line 1024 w.g
  wg : (m ((c.tc : Thread nD τ).loc main_arg2) : FVec Ideal S1024x2816 .f32) = sheet .f32 1024 2816 w.wg
  wu : (m ((c.tc : Thread nD τ).loc main_arg3) : FVec Ideal S1024x2816 .f32) = sheet .f32 1024 2816 w.wu
  wd : (m ((c.tc : Thread nD τ).loc main_arg4) : FVec Ideal S2816x1024 .f32) = sheet .f32 2816 1024 w.wd
  ct : (m ((c.tc : Thread nD τ).loc main_arg5) : FVec Ideal S16400x1024 .f32) = sheet .f32 16400 1024 ct

variable {w m c} {h ct : ℕ → ℕ → ℝ} (A : Args w m c h ct)
include A

theorem v0_eq : (V m c main_v0 : FVec Ideal S16640x1024 .f32) = sheet .f32 16640 1024 (front h) := by
  refine Eq.trans (b := fronted (m ((c.tc : Thread nD τ).loc main_arg0))) (by sl_kernel_rfl) ?_
  rw [A.h]; exact fronted_eq h
theorem v2_eq : (V m c main_v2 : FVec Ideal S16640x1024 .f32) = sheet .f32 16640 1024 (front ct) := by
  refine Eq.trans (b := fronted (m ((c.tc : Thread nD τ).loc main_arg5))) (by sl_kernel_rfl) ?_
  rw [A.ct]; exact fronted_eq ct
theorem v1_eq : (V m c main_v1 : FVec Ideal S1x1024 .f32) = sheet .f32 1 1024 fun _ k => w.g k := by
  refine Eq.trans (b := gainRow (m ((c.tc : Thread nD τ).loc main_arg1))) (by sl_kernel_rfl) ?_
  rw [A.g]; exact gainRow_eq w
theorem v20_eq : (V m c main_v20 : FVec Ideal S16640x2816 .bf16) = sheet .bf16 16640 2816 fun p d => gate w (front h p) d := by
  refine Eq.trans (b := proj (normed (fronted (m ((c.tc : Thread nD τ).loc main_arg0))) (gainRow (m ((c.tc : Thread nD τ).loc main_arg1)))) (m ((c.tc : Thread nD τ).loc main_arg2))) (by sl_kernel_rfl) ?_
  rw [A.h, A.g, A.wg, fronted_eq, gainRow_eq, normed_eq, proj_eq]; rfl
theorem v22_eq : (V m c main_v22 : FVec Ideal S16640x2816 .bf16) = sheet .bf16 16640 2816 fun p d => lift w (front h p) d := by
  refine Eq.trans (b := proj (normed (fronted (m ((c.tc : Thread nD τ).loc main_arg0))) (gainRow (m ((c.tc : Thread nD τ).loc main_arg1)))) (m ((c.tc : Thread nD τ).loc main_arg3))) (by sl_kernel_rfl) ?_
  rw [A.h, A.g, A.wu, fronted_eq, gainRow_eq, normed_eq, proj_eq]; rfl
theorem v23_eq : (V m c main_v23 : FVec Ideal S1024x2816 .bf16) = sheet .bf16 1024 2816 fun k d => w.wd d k := by
  refine Eq.trans (b := turnDown (m ((c.tc : Thread nD τ).loc main_arg4))) (by sl_kernel_rfl) ?_
  rw [A.wd]
  funext i; idx_vars i; pointwise [turnDown]; rfl
theorem v24_eq : (V m c main_v24 : FVec Ideal S2816x1024 .bf16) = sheet .bf16 2816 1024 fun d k => w.wg k d := by
  refine Eq.trans (b := turnUp (m ((c.tc : Thread nD τ).loc main_arg2))) (by sl_kernel_rfl) ?_
  rw [A.wg]
  funext i; idx_vars i; pointwise [turnUp]; rfl
theorem v25_eq : (V m c main_v25 : FVec Ideal S2816x1024 .bf16) = sheet .bf16 2816 1024 fun d k => w.wu k d := by
  refine Eq.trans (b := turnUp (m ((c.tc : Thread nD τ).loc main_arg3))) (by sl_kernel_rfl) ?_
  rw [A.wu]
  funext i; idx_vars i; pointwise [turnUp]; rfl
omit A

theorem idx_val : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0] ∧ win0_6.index t = ![0, 0] ∧ win0_7.index t = ![0, 0]
    ∧ win0_8.index t = ![t.val, 0] ∧ win0_9.index t = ![t.val, 0] ∧ win0_10.index t = ![t.val, 0] ∧ win0_11.index t = ![t.val, 0] ∧ win0_12.index t = ![0, 0] :=
  (by decide +kernel : ∀ t : Fin grid0.N, _)

/-- The point's number. -/
def pt (t : Fin cfg0.N) : Fin 65 := ⟨t.val, lt_of_lt_of_eq t.isLt N_0⟩

/-- Row `r` of the point's block. -/
abbrev rw_ (t : Fin cfg0.N) (r : ℕ) : ℕ := t.val * 256 + r

include A
theorem blk0 (t : Fin cfg0.N) : (iblk m c 0 t : FVec Ideal S256x1024 .f32) = sheet .f32 256 1024 fun r => front ct (rw_ t r) := by
  funext y; idx_vars y
  exact Eq.trans (b := (V m c main_v2 : FVec Ideal S16640x1024 .f32) (ix2 (row (pt t) y0) y1)) (by unfold row pt; blk_ext [iblk, idx_val t]) (congrFun (v2_eq A) _)
theorem blk1 (t : Fin cfg0.N) : (iblk m c 1 t : FVec Ideal S256x1024 .f32) = sheet .f32 256 1024 fun r => front h (rw_ t r) := by
  funext y; idx_vars y
  exact Eq.trans (b := (V m c main_v0 : FVec Ideal S16640x1024 .f32) (ix2 (row (pt t) y0) y1)) (by unfold row pt; blk_ext [iblk, idx_val t]) (congrFun (v0_eq A) _)
theorem blk2 (t : Fin cfg0.N) : (iblk m c 2 t : FVec Ideal S1x1024 .f32) = sheet .f32 1 1024 fun _ k => w.g k := by
  funext y; idx_vars y
  exact Eq.trans (b := (V m c main_v1 : FVec Ideal S1x1024 .f32) (ix2 y0 y1)) (by blk_ext [iblk, idx_val t]) (congrFun (v1_eq A) _)
theorem blk3 (t : Fin cfg0.N) : (iblk m c 3 t : FVec Ideal S256x2816 .bf16) = sheet .bf16 256 2816 fun r d => gate w (front h (rw_ t r)) d := by
  funext y; idx_vars y
  exact Eq.trans (b := (V m c main_v20 : FVec Ideal S16640x2816 .bf16) (ix2 (row (pt t) y0) y1)) (by unfold row pt; blk_ext [iblk, idx_val t]) (congrFun (v20_eq A) _)
theorem blk4 (t : Fin cfg0.N) : (iblk m c 4 t : FVec Ideal S256x2816 .bf16) = sheet .bf16 256 2816 fun r d => lift w (front h (rw_ t r)) d := by
  funext y; idx_vars y
  exact Eq.trans (b := (V m c main_v22 : FVec Ideal S16640x2816 .bf16) (ix2 (row (pt t) y0) y1)) (by unfold row pt; blk_ext [iblk, idx_val t]) (congrFun (v22_eq A) _)
theorem blk5 (t : Fin cfg0.N) : (iblk m c 5 t : FVec Ideal S1024x2816 .bf16) = sheet .bf16 1024 2816 fun k d => w.wd d k := by
  funext y; idx_vars y
  exact Eq.trans (b := (V m c main_v23 : FVec Ideal S1024x2816 .bf16) (ix2 y0 y1)) (by blk_ext [iblk, idx_val t]) (congrFun (v23_eq A) _)
theorem blk6 (t : Fin cfg0.N) : (iblk m c 6 t : FVec Ideal S2816x1024 .bf16) = sheet .bf16 2816 1024 fun d k => w.wg k d := by
  funext y; idx_vars y
  exact Eq.trans (b := (V m c main_v24 : FVec Ideal S2816x1024 .bf16) (ix2 y0 y1)) (by blk_ext [iblk, idx_val t]) (congrFun (v24_eq A) _)
theorem blk7 (t : Fin cfg0.N) : (iblk m c 7 t : FVec Ideal S2816x1024 .bf16) = sheet .bf16 2816 1024 fun d k => w.wu k d := by
  funext y; idx_vars y
  exact Eq.trans (b := (V m c main_v25 : FVec Ideal S2816x1024 .bf16) (ix2 y0 y1)) (by blk_ext [iblk, idx_val t]) (congrFun (v25_eq A) _)

/-- What a point stores of the four row arrays. -/
theorem out8 (t : Fin cfg0.N) : ((outsAt0 m c t.val t.isLt).1 : FVec Ideal S256x1024 .f32) = sheet .f32 256 1024 fun r => dh w (front h (rw_ t r)) (front ct (rw_ t r)) := by
  have e := pay17_eq w (fun r => front h (rw_ t r)) (fun r => front ct (rw_ t r))
  rw [← pay10_eq w (fun r => front h (rw_ t r)) (fun r => front ct (rw_ t r)), ← pay11_eq w (fun r => front h (rw_ t r)) (fun r => front ct (rw_ t r)),
    ← blk0 A t, ← blk1 A t, ← blk2 A t, ← blk3 A t, ← blk4 A t, ← blk5 A t, ← blk6 A t, ← blk7 A t] at e
  refine Eq.trans ?_ e
  funext y
  by_cases h0 : t.val % 65 = 0
  · rw [outsAt0_A m c t h0]
    frame_out
  · rw [outsAt0_B m c t h0]
    frame_out
theorem out9 (t : Fin cfg0.N) : ((outsAt0 m c t.val t.isLt).2.1 : FVec Ideal S256x2816 .bf16) = sheet .bf16 256 2816 fun r => dgate w (front h (rw_ t r)) (front ct (rw_ t r)) := by
  have e := pay11_eq w (fun r => front h (rw_ t r)) (fun r => front ct (rw_ t r))
  rw [← blk0 A t, ← blk3 A t, ← blk4 A t, ← blk5 A t] at e
  refine Eq.trans ?_ e
  funext y
  by_cases h0 : t.val % 65 = 0
  · rw [outsAt0_A m c t h0]
    frame_out
  · rw [outsAt0_B m c t h0]
    frame_out
theorem out10 (t : Fin cfg0.N) : ((outsAt0 m c t.val t.isLt).2.2.1 : FVec Ideal S256x2816 .bf16) = sheet .bf16 256 2816 fun r => dup w (front h (rw_ t r)) (front ct (rw_ t r)) := by
  have e := pay10_eq w (fun r => front h (rw_ t r)) (fun r => front ct (rw_ t r))
  rw [← blk0 A t, ← blk3 A t, ← blk5 A t] at e
  refine Eq.trans ?_ e
  funext y
  by_cases h0 : t.val % 65 = 0
  · rw [outsAt0_A m c t h0]
    frame_out
  · rw [outsAt0_B m c t h0]
    frame_out
theorem out11 (t : Fin cfg0.N) : ((outsAt0 m c t.val t.isLt).2.2.2.1 : FVec Ideal S256x2816 .bf16) = sheet .bf16 256 2816 fun r => act w (front h (rw_ t r)) := by
  have e := pay9_eq w (fun r => front h (rw_ t r))
  rw [← blk3 A t, ← blk4 A t] at e
  refine Eq.trans ?_ e
  funext y
  by_cases h0 : t.val % 65 = 0
  · rw [outsAt0_A m c t h0]
    frame_out
  · rw [outsAt0_B m c t h0]
    frame_out

/-- What a point adds to the gradient in the gain. -/
theorem at_pay2 (t : Fin cfg0.N) (acc : FVec Ideal S1x1024 .f32) (z : Fin 1) (l : Fin 1024) :
    k0_pay2 (F := Ideal) (k0_pay16 (k0_pay10 (iblk m c 0 t) (iblk m c 3 t) (iblk m c 5 t)) (k0_pay11 (iblk m c 0 t) (iblk m c 3 t) (iblk m c 4 t) (iblk m c 5 t))
      (iblk m c 6 t) (iblk m c 7 t) (iblk m c 1 t)) acc (ix2 z l)
    = acc (ix2 z l) + ∑ r : Fin 256, share w h ct (row (pt t) r) l := by
  have e := pay16_eq w (fun r => front h (rw_ t r)) (fun r => front ct (rw_ t r))
  rw [← pay10_eq w (fun r => front h (rw_ t r)) (fun r => front ct (rw_ t r)), ← pay11_eq w (fun r => front h (rw_ t r)) (fun r => front ct (rw_ t r)),
    ← blk0 A t, ← blk1 A t, ← blk3 A t, ← blk4 A t, ← blk5 A t, ← blk6 A t, ← blk7 A t] at e
  refine (congrArg (fun v : FVec Ideal S256x1024 .f32 => k0_pay2 (F := Ideal) v acc (ix2 z l)) e).trans ?_
  exact pay2_eq acc _ z l

theorem final8 : (dats m 0 c).arrAt 8 (cfgs 0).N = (sheet .f32 16640 1024 fun p => dh w (front h p) (front ct p) : FVec Ideal S16640x1024 .f32) := by
  refine (dats m 0 c).arrAt_eq_of_covers 8 _ (by decide +kernel) fun t _ y => ?_
  blk_simp
  rw [after0_8, out8 A t]
  idx_vars y
  have e0 : ((View.whole main_v26_0).slice (win0_8.rect t)).emb (ix2 y0 y1) = ix2 (row (pt t) y0) y1 := by
    unfold row pt
    blk_ext [idx_val t]
  rw [e0]
  rfl
theorem final9 : (dats m 0 c).arrAt 9 (cfgs 0).N = (sheet .bf16 16640 2816 fun p => dgate w (front h p) (front ct p) : FVec Ideal S16640x2816 .bf16) := by
  refine (dats m 0 c).arrAt_eq_of_covers 9 _ (by decide +kernel) fun t _ y => ?_
  blk_simp
  rw [after0_9, out9 A t]
  idx_vars y
  have e0 : ((View.whole main_v26_1).slice (win0_9.rect t)).emb (ix2 y0 y1) = ix2 (row (pt t) y0) y1 := by
    unfold row pt
    blk_ext [idx_val t]
  rw [e0]
  rfl
theorem final10 : (dats m 0 c).arrAt 10 (cfgs 0).N = (sheet .bf16 16640 2816 fun p => dup w (front h p) (front ct p) : FVec Ideal S16640x2816 .bf16) := by
  refine (dats m 0 c).arrAt_eq_of_covers 10 _ (by decide +kernel) fun t _ y => ?_
  blk_simp
  rw [after0_10, out10 A t]
  idx_vars y
  have e0 : ((View.whole main_v26_2).slice (win0_10.rect t)).emb (ix2 y0 y1) = ix2 (row (pt t) y0) y1 := by
    unfold row pt
    blk_ext [idx_val t]
  rw [e0]
  rfl
theorem final11 : (dats m 0 c).arrAt 11 (cfgs 0).N = (sheet .bf16 16640 2816 fun p => act w (front h p) : FVec Ideal S16640x2816 .bf16) := by
  refine (dats m 0 c).arrAt_eq_of_covers 11 _ (by decide +kernel) fun t _ y => ?_
  blk_simp
  rw [after0_11, out11 A t]
  idx_vars y
  have e0 : ((View.whole main_v26_3).slice (win0_11.rect t)).emb (ix2 y0 y1) = ix2 (row (pt t) y0) y1 := by
    unfold row pt
    blk_ext [idx_val t]
  rw [e0]
  rfl

omit A in
theorem pt_run (t : Fin cfg0.N) (s : Fin 65) (h : 65 * (t.val / 65) + s.val < cfg0.N) : pt ⟨65 * (t.val / 65) + s.val, h⟩ = s := by
  have := lt_of_lt_of_eq t.isLt N_0
  have := lt_of_lt_of_eq h N_0
  apply Fin.ext
  show 65 * (t.val / 65) + s.val = s.val
  omega

theorem final12 : (dats m 0 c).arrAt 12 (cfgs 0).N
    = fun j : S1x1024.Idx => ∑ i : Fin 65, ∑ r : Fin 256, share w h ct (row i r) (j 1) := by
  refine (dats m 0 c).arrAt_eq_of_covers 12 _ (by decide +kernel) fun t hf y => ?_
  blk_simp
  rw [after0_12]
  idx_vars y
  have e0 : ((View.whole main_v26_4).slice (win0_12.rect t)).emb (ix2 y0 y1) = ix2 0 y1 := by
    blk_ext [idx_val t]
  rw [e0, Pipeline.eq_sum_fin_of_reset_step_apply_of_flush (fun n h => (outsAt0 m c n h).2.2.2.2) 65 (fun _ => 0)
    (fun t j => ∑ r : Fin 256, share w h ct (row (pt t) r) (j 1))
    (fun t h j => by
      rw [outsAt0_A m c t h]; frame_out
      idx_vars j
      rw [at_pay2 A]
      congr 1
      pointwise [k0_pay1])
    (fun t h j => by
      rw [outsAt0_B m c t h]; frame_out
      idx_vars j
      exact at_pay2 A t _ _ _) t ((flush0_12 t).mp hf) _, zero_add]
  exact Fin.sum_fin_congr fun s => by rw [pt_run] <;> rfl

end Cert.FfnKernel

end
-- ==== Proof.FfnRef.lean ====
/- The reference of the gated layer's gradients on arguments of reals: its five results. -/
module

public import proofs.«01_k».proof.Proof.FfnSpec
public import proofs.«01_k».proof.Proof.LossSpec
public import proofs.«01_k».proof.Proof.Gen.FfnRefIdeal.Read
public import Idealize.ShloMosaic.Lib.Pipeline.ValueKit

@[expose] public section

set_option maxRecDepth 16384

noncomputable section

namespace Cert.FfnRef

open Cert.FfnRefIdeal Cert.FfnRefIdeal.Gen Cert.FfnRefIdeal.Read Idealize.ShloMosaic Idealize.ShloMosaic.TcCoe Idealize.SL.Sem
open Cert.Rms Cert.FfnSpec
open Cert.SbIdeal.Sb (sheet sheet_apply coe_sum line front pad_sheet zero_conv)

theorem front_at (f : ℕ → ℕ → ℝ) {p : ℕ} (hp : 240 ≤ p) : front f p = f (p - 240) := by
  funext k
  exact if_pos hp

theorem front_off (f : ℕ → ℕ → ℝ) {p : ℕ} (hp : ¬240 ≤ p) (k : ℕ) : front f p k = 0 := if_neg hp

variable (w : W) (h ct : ℕ → ℕ → ℝ)

theorem v7_eq : val_main_v7 (F := Ideal) (sheet .f32 16400 1024 h) = sheet .f32 16400 1 fun p _ => vr (h p) := by
  funext i; idx_vars i
  pointwise [val_main_v7, val_main_v6, val_main_v5, val_main_v4, val_main_v3, val_main_v2, val_main_v1, val_main_cst_0, val_main_cst_1, val_main_cst_2]
  simp only [sheet_apply]
  exact var_coe _

theorem v8_eq : val_main_v8 (F := Ideal) (sheet .f32 16400 1024 h) = sheet .f32 16400 1 fun p _ => rr (h p) := by
  funext i; idx_vars i
  pointwise [val_main_v8]
  rw [v7_eq]
  exact (congrArg Ideal.rsqrt (var_coe (h i0.val)).symm).trans (rs_coe (h i0.val))

theorem v11_at (p : Fin 16400) (z : Fin 1) : val_main_v11 (F := Ideal) (sheet .f32 16400 1024 h) (ix2 p z) = Rms.slope fun k => ((h p.val k.val : ℝ) : EReal) := by
  pointwise [val_main_v11, val_main_v10, val_main_v9, val_main_cst_3]
  rw [v7_eq, v8_eq]
  unfold Rms.slope
  rw [rs_coe, var_coe]
  rfl

theorem v13_eq : val_main_v13 (F := Ideal) (sheet .f32 16400 1024 h) = sheet .f32 16400 1024 fun p k => h p k * rr (h p) := by
  funext i; idx_vars i
  pointwise [val_main_v13, val_main_v12]
  rw [v8_eq]
  simp only [sheet_apply, ← EReal.coe_mul]

theorem v16_eq : val_main_v16 (F := Ideal) (sheet .f32 16400 1024 h) (line 1024 w.g) = sheet .f32 16400 1024 fun p k => xn w (h p) k := by
  funext i; idx_vars i
  pointwise [val_main_v16, val_main_v15, val_main_v14]
  rw [v13_eq]
  simp only [sheet_apply]
  refine (EReal.coe_mul _ _).symm.trans ?_
  rfl

theorem v18_eq : val_main_v18 (F := Ideal) (sheet .f32 16400 1024 h) (line 1024 w.g) (sheet .f32 1024 2816 w.wg) = sheet .f32 16400 2816 fun p d => gate w (h p) d := by
  funext i; idx_vars i
  pointwise [val_main_v18, val_main_v17, val_main_v0, val_main_cst]
  rw [v16_eq]
  simp only [sheet_apply, ← EReal.coe_mul, coe_sum]
  rfl

theorem v21_eq : val_main_v21 (F := Ideal) (sheet .f32 16400 1024 h) (line 1024 w.g) (sheet .f32 1024 2816 w.wu) = sheet .f32 16400 2816 fun p d => lift w (h p) d := by
  funext i; idx_vars i
  pointwise [val_main_v21, val_main_v20, val_main_v0, val_main_cst]
  rw [v16_eq]
  simp only [sheet_apply, ← EReal.coe_mul, coe_sum]
  rfl

theorem v19_2_eq : val_main_v19_2 (F := Ideal) (sheet .f32 16400 1024 h) (line 1024 w.g) (sheet .f32 1024 2816 w.wg) = sheet .f32 16400 2816 fun p d => sg (gate w (h p) d) := by
  funext i; idx_vars i
  pointwise [val_main_v19_2, val_main_call0_v0, val_main_call0_v1, val_main_call0_v2, val_main_call0_v3, val_main_call0_v4, val_main_call0_cst, val_main_call0_cst_0]
  rw [v18_eq]
  simp only [sheet_apply, Facts.w_one, ← EReal.coe_neg, Ideal.exp_coe]
  exact sg_coe _

theorem v19_0_eq : val_main_v19_0 (F := Ideal) (sheet .f32 16400 1024 h) (line 1024 w.g) (sheet .f32 1024 2816 w.wg) = sheet .f32 16400 2816 fun p d => silu w (h p) d := by
  funext i; idx_vars i
  pointwise [val_main_v19_0]
  rw [v18_eq, v19_2_eq]
  simp only [sheet_apply, ← EReal.coe_mul]
  rfl

theorem v22_eq : val_main_v22 (F := Ideal) (sheet .f32 16400 1024 h) (line 1024 w.g) (sheet .f32 1024 2816 w.wg) (sheet .f32 1024 2816 w.wu) = sheet .f32 16400 2816 fun p d => act w (h p) d := by
  funext i; idx_vars i
  pointwise [val_main_v22]
  rw [v19_0_eq, v21_eq]
  simp only [sheet_apply, ← EReal.coe_mul]
  rfl

theorem v30_eq : val_main_v30 (F := Ideal) (sheet .f32 2816 1024 w.wd) (sheet .f32 16400 1024 ct) = sheet .f32 16400 2816 fun p d => dact w (ct p) d := by
  funext i; idx_vars i
  pointwise [val_main_v30, val_main_v29, val_main_v28, val_main_v27, val_main_cst_5]
  simp only [sheet_apply, Facts.w_half, ← EReal.coe_mul, coe_sum]
  rfl

theorem v31_eq : val_main_v31 (F := Ideal) (sheet .f32 16400 1024 h) (line 1024 w.g) (sheet .f32 1024 2816 w.wg) (sheet .f32 2816 1024 w.wd) (sheet .f32 16400 1024 ct)
    = sheet .f32 16400 2816 fun p d => dup w (h p) (ct p) d := by
  funext i; idx_vars i
  pointwise [val_main_v31]
  rw [v19_0_eq, v30_eq]
  simp only [sheet_apply, ← EReal.coe_mul]
  exact congrArg (fun t : ℝ => (t : EReal)) (mul_comm _ _)

theorem v34_eq : val_main_v34 (F := Ideal) (sheet .f32 16400 1024 h) (line 1024 w.g) (sheet .f32 1024 2816 w.wg) (sheet .f32 1024 2816 w.wu) (sheet .f32 2816 1024 w.wd) (sheet .f32 16400 1024 ct)
    = sheet .f32 16400 2816 fun p d => dgate w (h p) (ct p) d := by
  funext i; idx_vars i
  pointwise [val_main_v34, val_main_call1_v2, val_main_call1_v1, val_main_call1_v0, val_main_v32, val_main_v19_1, val_main_call0_v7, val_main_call0_v6, val_main_call0_cst_1]
  rw [v19_2_eq, v18_eq, v30_eq, v21_eq]
  simp only [sheet_apply, Facts.w_one, ← EReal.coe_mul, ← EReal.coe_sub, ← EReal.coe_add]
  refine congrArg (fun t : ℝ => (t : EReal)) ?_
  unfold dgate
  ring

theorem v36_eq : val_main_v36 (F := Ideal) (sheet .f32 16400 1024 h) (line 1024 w.g) (sheet .f32 1024 2816 w.wg) (sheet .f32 1024 2816 w.wu) (sheet .f32 2816 1024 w.wd) (sheet .f32 16400 1024 ct)
    = sheet .f32 16400 1024 fun p k => dxn w (h p) (ct p) k := by
  funext i; idx_vars i
  pointwise [val_main_v36, val_main_v35, val_main_v33]
  rw [v34_eq, v31_eq]
  simp only [sheet_apply, ← EReal.coe_mul, coe_sum, ← EReal.coe_add]
  exact congrArg (fun t : ℝ => (t : EReal)) (add_comm _ _)

theorem v41_eq : val_main_v41 (F := Ideal) (sheet .f32 16400 1024 h) (line 1024 w.g) (sheet .f32 1024 2816 w.wg) (sheet .f32 1024 2816 w.wu) (sheet .f32 2816 1024 w.wd) (sheet .f32 16400 1024 ct)
    = sheet .f32 16400 1024 fun p k => dxn w (h p) (ct p) k * w.g k := by
  funext i; idx_vars i
  pointwise [val_main_v41, val_main_v40, val_main_v14]
  rw [v36_eq]
  simp only [sheet_apply]
  refine (EReal.coe_mul _ _).symm.trans ?_
  rfl

theorem v53_at (p : Fin 16400) (l : Fin 1024) : val_main_v53 (F := Ideal) (sheet .f32 16400 1024 h) (line 1024 w.g) (sheet .f32 1024 2816 w.wg) (sheet .f32 1024 2816 w.wu) (sheet .f32 2816 1024 w.wd) (sheet .f32 16400 1024 ct) (ix2 p l)
    = pull (fun k => ((h p.val k.val : ℝ) : EReal)) (fun k => ((dxn w (h p.val) (ct p.val) k.val * w.g k.val : ℝ) : EReal)) := by
  pointwise [val_main_v53, val_main_v52, val_main_v51, val_main_v50, val_main_v49, val_main_v45, val_main_v44, val_main_v43, val_main_cst_8, val_main_cst_9, val_main_cst_10]
  rw [v41_eq]
  simp only [v11_at, Fin.sum_univ_one]
  rfl

theorem v57_eq : val_main_v57 (F := Ideal) (sheet .f32 16400 1024 h) (line 1024 w.g) (sheet .f32 1024 2816 w.wg) (sheet .f32 1024 2816 w.wu) (sheet .f32 2816 1024 w.wd) (sheet .f32 16400 1024 ct)
    = sheet .f32 16400 1024 fun p k => dh w (h p) (ct p) k := by
  funext i; idx_vars i
  pointwise [val_main_v57, val_main_v56, val_main_v55, val_main_v54, val_main_v48, val_main_v47, val_main_v46]
  rw [v41_eq, v53_at, v8_eq]
  refine Eq.trans ?_ ((congrArg (fun e : EReal => ((ct i0.val i1.val : ℝ) : EReal) + e) (grad_coe (h i0.val) (fun k => dxn w (h i0.val) (ct i0.val) k * w.g k) i1)).trans (EReal.coe_add _ _).symm)
  unfold grad
  rw [rs_coe, ← add_assoc, ← add_assoc]
  rfl

/-- The five results. -/
theorem v58_eq : val_main_v58 (F := Ideal) (sheet .f32 16400 1024 h) (line 1024 w.g) (sheet .f32 1024 2816 w.wg) (sheet .f32 1024 2816 w.wu) (sheet .f32 2816 1024 w.wd) (sheet .f32 16400 1024 ct)
    = sheet .f32 16640 1024 fun p k => dh w (front h p) (front ct p) k := by
  unfold val_main_v58
  rw [v57_eq]
  refine (pad_sheet 16400 1024 240 16640 _ _ zero_conv h_S_ (by norm_num) _).trans (congrArg (sheet .f32 16640 1024) ?_)
  funext p k
  by_cases hp : 240 ≤ p
  · simp only [hp, if_true, front_at _ hp]
  · simp only [hp, if_false]
    exact (dh_zero w _ _ (front_off _ hp) k).symm

theorem v59_eq : val_main_v59 (F := Ideal) (sheet .f32 16400 1024 h) (line 1024 w.g) (sheet .f32 1024 2816 w.wg) (sheet .f32 1024 2816 w.wu) (sheet .f32 2816 1024 w.wd) (sheet .f32 16400 1024 ct)
    = sheet .f32 16640 2816 fun p k => dgate w (front h p) (front ct p) k := by
  unfold val_main_v59
  rw [v34_eq]
  refine (pad_sheet 16400 2816 240 16640 _ _ zero_conv h_S_ (by norm_num) _).trans (congrArg (sheet .f32 16640 2816) ?_)
  funext p k
  by_cases hp : 240 ≤ p
  · simp only [hp, if_true, front_at _ hp]
  · simp only [hp, if_false]
    exact (dgate_zero w _ _ (front_off _ hp) k).symm

theorem v60_eq : val_main_v60 (F := Ideal) (sheet .f32 16400 1024 h) (line 1024 w.g) (sheet .f32 1024 2816 w.wg) (sheet .f32 1024 2816 w.wu) (sheet .f32 2816 1024 w.wd) (sheet .f32 16400 1024 ct)
    = sheet .bf16 16640 2816 fun p k => dgate w (front h p) (front ct p) k := by
  unfold val_main_v60
  rw [v59_eq]
  rfl

theorem v61_eq : val_main_v61 (F := Ideal) (sheet .f32 16400 1024 h) (line 1024 w.g) (sheet .f32 1024 2816 w.wg) (sheet .f32 2816 1024 w.wd) (sheet .f32 16400 1024 ct)
    = sheet .f32 16640 2816 fun p k => dup w (front h p) (front ct p) k := by
  unfold val_main_v61
  rw [v31_eq]
  refine (pad_sheet 16400 2816 240 16640 _ _ zero_conv h_S_ (by norm_num) _).trans (congrArg (sheet .f32 16640 2816) ?_)
  funext p k
  by_cases hp : 240 ≤ p
  · simp only [hp, if_true, front_at _ hp]
  · simp only [hp, if_false]
    exact (dup_zero w _ _ (front_off _ hp) k).symm

theorem v62_eq : val_main_v62 (F := Ideal) (sheet .f32 16400 1024 h) (line 1024 w.g) (sheet .f32 1024 2816 w.wg) (sheet .f32 2816 1024 w.wd) (sheet .f32 16400 1024 ct)
    = sheet .bf16 16640 2816 fun p k => dup w (front h p) (front ct p) k := by
  unfold val_main_v62
  rw [v61_eq]
  rfl

theorem v63_eq : val_main_v63 (F := Ideal) (sheet .f32 16400 1024 h) (line 1024 w.g) (sheet .f32 1024 2816 w.wg) (sheet .f32 1024 2816 w.wu)
    = sheet .f32 16640 2816 fun p k => act w (front h p) k := by
  unfold val_main_v63
  rw [v22_eq]
  refine (pad_sheet 16400 2816 240 16640 _ _ zero_conv h_S_ (by norm_num) _).trans (congrArg (sheet .f32 16640 2816) ?_)
  funext p k
  by_cases hp : 240 ≤ p
  · simp only [hp, if_true, front_at _ hp]
  · simp only [hp, if_false]
    exact (act_zero w _ (front_off _ hp) k).symm

theorem v64_eq : val_main_v64 (F := Ideal) (sheet .f32 16400 1024 h) (line 1024 w.g) (sheet .f32 1024 2816 w.wg) (sheet .f32 1024 2816 w.wu)
    = sheet .bf16 16640 2816 fun p k => act w (front h p) k := by
  unfold val_main_v64
  rw [v63_eq]
  rfl

theorem v65_at (j : S1x1024.Idx) : val_main_v65 (F := Ideal) (sheet .f32 16400 1024 h) (line 1024 w.g) (sheet .f32 1024 2816 w.wg) (sheet .f32 1024 2816 w.wu) (sheet .f32 2816 1024 w.wd) (sheet .f32 16400 1024 ct) j
    = ∑ i : Fin 65, ∑ r : Fin 256, ((dg w (front h (LossSpec.row i r).val) (front ct (LossSpec.row i r).val) (j 1).val : ℝ) : EReal) := by
  idx_vars j
  pointwise [val_main_v65, val_main_v42, val_main_v39, val_main_v38, val_main_v37, val_main_cst_6, val_main_cst_7]
  rw [v13_eq, v36_eq]
  simp only [Fin.sum_univ_one, sheet_apply, ← EReal.coe_mul]
  refine Eq.trans (b := ∑ p : Fin 16640, ((dg w (front h p.val) (front ct p.val) j1.val : ℝ) : EReal)) ?_ (Fin.sum_mul_add_fin 65 256 (fun p : Fin 16640 => ((dg w (front h p.val) (front ct p.val) j1.val : ℝ) : EReal))).symm
  refine Eq.trans ?_ (Facts.sum_window (k := 16400) 240 (by norm_num) (fun p : Fin 16640 => ((dg w (front h p.val) (front ct p.val) j1.val : ℝ) : EReal)) (fun p hp => by
    rw [dg_zero w _ _ (front_off ct (show ¬240 ≤ p.val by omega)), EReal.coe_zero])).symm
  refine Finset.sum_congr rfl fun q _ => congrArg (fun t : ℝ => (t : EReal)) ?_
  have e (f : ℕ → ℕ → ℝ) : front f (q.val + 240) = f q.val := by rw [front_at f (Nat.le_add_left _ _), Nat.add_sub_cancel]
  simp only [e]
  exact mul_comm _ _

end Cert.FfnRef

end
-- ==== Proof.FfnClaims.lean ====
/- The claims about the gated layer's gradients: both programs' runs, and the equality of their five results for finite
   arguments. -/
module

public import proofs.«01_k».proof.Defs
public import proofs.«01_k».proof.Proof.FfnKernel
public import proofs.«01_k».proof.Proof.FfnRef
public import proofs.«01_k».proof.Proof.Finite
public import proofs.«01_k».proof.Proof.Gen.Ffn.Frame
public import proofs.«01_k».proof.Proof.Gen.Pre_ffn_finite

@[expose] public section

set_option maxRecDepth 16384

noncomputable section

namespace Cert.FfnClaims

open Idealize.ShloMosaic Idealize.ShloMosaic.TcCoe Idealize.SL.Sem

theorem frame_kernel : Cert.quiescent_Ffn := fun m ρ _ => Cert.Ffn.Gen.frame m ρ
theorem frame_kernel_ideal : Cert.quiescent_FfnIdeal := fun m ρ _ => Cert.FfnIdeal.Gen.frame m ρ
theorem frame_ref : Cert.quiescent_FfnRefIdeal := fun m ρ _ =>
  (θ_run _ _ _).mono (fun r h => ⟨fun c => (h c).2.2.2.2.2, sem_eq_zero_of_no_sems (by decide) r.2⟩) (Cert.FfnRefIdeal.Value.run m ρ)

section
open Cert.FfnIdeal Cert.FfnIdeal.Gen Cert.FfnSpec Cert.FfnKernel
variable (m : (ℓ : Loc nD τ sig) → Buf (Elt Ideal) ℓ) (c : Dev nD)

theorem args_of_finite (hp : Cert.Pre_FfnIdeal_ffn_finite m) : ∃ (w : W) (h ct : ℕ → ℕ → ℝ), Args w m c h ct := by
  have e := congrFun (hp c) ix0
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨⟨_, _, _, _⟩, _, _,
    { h := Cert.Finite.sheet_reals2 _ (Cert.Finite.real_of_all _ _ _ _ _ e0)
      g := Cert.Finite.line_reals1 _ (Cert.Finite.real_of_all _ _ _ _ _ e1)
      wg := Cert.Finite.sheet_reals2 _ (Cert.Finite.real_of_all _ _ _ _ _ e2)
      wu := Cert.Finite.sheet_reals2 _ (Cert.Finite.real_of_all _ _ _ _ _ e3)
      wd := Cert.Finite.sheet_reals2 _ (Cert.Finite.real_of_all _ _ _ _ _ e4)
      ct := Cert.Finite.sheet_reals2 _ (Cert.Finite.real_of_all _ _ _ _ _ e5) }⟩

variable {m c} {w : W} {h ct : ℕ → ℕ → ℝ} (A : Args w m c h ct)
include A
variable (x0 : FVec Ideal S16400x1024 .f32) (h0 : x0 = m ((c.tc : Thread nD τ).loc main_arg0)) (x1 : FVec Ideal S1024 .f32) (h1 : x1 = m ((c.tc : Thread nD τ).loc main_arg1))
  (x2 : FVec Ideal S1024x2816 .f32) (h2 : x2 = m ((c.tc : Thread nD τ).loc main_arg2)) (x3 : FVec Ideal S1024x2816 .f32) (h3 : x3 = m ((c.tc : Thread nD τ).loc main_arg3))
  (x4 : FVec Ideal S2816x1024 .f32) (h4 : x4 = m ((c.tc : Thread nD τ).loc main_arg4)) (x5 : FVec Ideal S16400x1024 .f32) (h5 : x5 = m ((c.tc : Thread nD τ).loc main_arg5))

include h0 h1 h2 h3 h4 h5 in
theorem same58 : Cert.FfnRefIdeal.Read.val_main_v58 (F := Ideal) x0 x1 x2 x3 x4 x5 = (dats m 0 c).arrAt 8 (cfgs 0).N := by
  rw [final8 A, h0, h1, h2, h3, h4, h5, A.h, A.g, A.wg, A.wu, A.wd, A.ct]
  exact FfnRef.v58_eq w h ct

include h0 h1 h2 h3 h4 h5 in
theorem same60 : Cert.FfnRefIdeal.Read.val_main_v60 (F := Ideal) x0 x1 x2 x3 x4 x5 = (dats m 0 c).arrAt 9 (cfgs 0).N := by
  rw [final9 A, h0, h1, h2, h3, h4, h5, A.h, A.g, A.wg, A.wu, A.wd, A.ct]
  exact FfnRef.v60_eq w h ct

include h0 h1 h2 h4 h5 in
theorem same62 : Cert.FfnRefIdeal.Read.val_main_v62 (F := Ideal) x0 x1 x2 x4 x5 = (dats m 0 c).arrAt 10 (cfgs 0).N := by
  rw [final10 A, h0, h1, h2, h4, h5, A.h, A.g, A.wg, A.wd, A.ct]
  exact FfnRef.v62_eq w h ct

include h0 h1 h2 h3 in
theorem same64 : Cert.FfnRefIdeal.Read.val_main_v64 (F := Ideal) x0 x1 x2 x3 = (dats m 0 c).arrAt 11 (cfgs 0).N := by
  rw [final11 A, h0, h1, h2, h3, A.h, A.g, A.wg, A.wu]
  exact FfnRef.v64_eq w h

include h0 h1 h2 h3 h4 h5 in
theorem same65 : Cert.FfnRefIdeal.Read.val_main_v65 (F := Ideal) x0 x1 x2 x3 x4 x5 = (dats m 0 c).arrAt 12 (cfgs 0).N := by
  rw [final12 A, h0, h1, h2, h3, h4, h5, A.h, A.g, A.wg, A.wu, A.wd, A.ct]
  funext j
  exact FfnRef.v65_at w h ct j
end

theorem algebraic : Cert.algebraic_FfnIdeal_FfnRefIdeal_pre_ffn_finite := fun m ρ m' ρ' hpre hag => by
  refine ⟨fun c => (Cert.FfnIdeal.Gen.dats m 0 c).arrAt 8 Cert.FfnIdeal.cfg0.N, fun c => (Cert.FfnIdeal.Gen.dats m 0 c).arrAt 9 Cert.FfnIdeal.cfg0.N,
    fun c => (Cert.FfnIdeal.Gen.dats m 0 c).arrAt 10 Cert.FfnIdeal.cfg0.N, fun c => (Cert.FfnIdeal.Gen.dats m 0 c).arrAt 11 Cert.FfnIdeal.cfg0.N,
    fun c => (Cert.FfnIdeal.Gen.dats m 0 c).arrAt 12 Cert.FfnIdeal.cfg0.N,
    Cert.FfnIdeal.Value.run_blocks m ρ,
    (θ_run _ _ _).mono (fun _ h c => ?_) (Cert.FfnRefIdeal.Value.run m' ρ')⟩
  obtain ⟨w, x, t, A⟩ := args_of_finite m c hpre
  obtain ⟨a0, a1, a2, a3, a4, a5⟩ := hag c
  exact ⟨(h c).1.trans ((Cert.FfnRefIdeal.Read.val_main_v58_eq _ _).trans (same58 A _ a0 _ a1 _ a2 _ a3 _ a4 _ a5)),
    (h c).2.1.trans ((Cert.FfnRefIdeal.Read.val_main_v60_eq _ _).trans (same60 A _ a0 _ a1 _ a2 _ a3 _ a4 _ a5)),
    (h c).2.2.1.trans (same62 A _ a0 _ a1 _ a2 _ a4 _ a5),
    (h c).2.2.2.1.trans (same64 A _ a0 _ a1 _ a2 _ a3),
    (h c).2.2.2.2.1.trans ((Cert.FfnRefIdeal.Read.val_main_v65_eq _ _).trans (same65 A _ a0 _ a1 _ a2 _ a3 _ a4 _ a5)), (h c).2.2.2.2.2⟩

end Cert.FfnClaims

end
-- ==== Proof.MixInSpec.lean ====
/- The gradients of the mixer's input projection with its norm, on one row of reals, and the order of the projection's columns. -/
module

public import proofs.«01_k».proof.Proof.RmsReal

@[expose] public section

noncomputable section

namespace Cert.MixInSpec

open Cert.Rms

/-- The layer's weights: the projection and the norm's gain. -/
structure W where
  wi : ℕ → ℕ → ℝ
  g : ℕ → ℝ

/-- The gradients at the projection's parts: queries, keys, values, the delta rule's three, its gate, step sizes, decays, the state
    space's input. -/
structure Parts where
  q : ℕ → ℕ → ℝ
  k : ℕ → ℕ → ℝ
  v : ℕ → ℕ → ℝ
  n : ℕ → ℕ → ℝ
  z : ℕ → ℕ → ℝ
  b : ℕ → ℕ → ℝ
  a : ℕ → ℕ → ℝ
  s : ℕ → ℕ → ℝ

/-- A row of them side by side, in the problem's order. -/
def cat (e : Parts) (p j : ℕ) : ℝ :=
  if j < 256 then e.q p j else if j < 512 then e.k p (j - 256) else if j < 768 then e.v p (j - 512)
  else if j < 1536 then e.n p (j - 768) else if j < 1792 then e.z p (j - 1536) else if j < 1796 then e.b p (j - 1792)
  else if j < 1800 then e.a p (j - 1796) else e.s p (j - 1800)

/-- The kernel's order of the columns: the step sizes and decays last, then zeros. -/
def perm (f : ℕ → ℝ) (j : ℕ) : ℝ :=
  if j < 1792 then f j else if j < 2304 then f (j + 8) else if j < 2312 then f (j - 512) else 0

theorem perm_lo (f : ℕ → ℝ) {j : ℕ} (h : j < 1792) : perm f j = f j := by unfold perm; rw [if_pos h]
theorem perm_mid (f : ℕ → ℝ) {j : ℕ} (h : j < 512) : perm f (1792 + j) = f (1800 + j) := by
  unfold perm; rw [if_neg (by omega), if_pos (by omega), show 1792 + j + 8 = 1800 + j by omega]
theorem perm_hi (f : ℕ → ℝ) {j : ℕ} (h : j < 8) : perm f (2304 + j) = f (1792 + j) := by
  unfold perm; rw [if_neg (by omega), if_neg (by omega), if_pos (by omega), show 2304 + j - 512 = 1792 + j by omega]
theorem perm_off (f : ℕ → ℝ) {j : ℕ} (h : 8 ≤ j) : perm f (2304 + j) = 0 := by
  unfold perm; rw [if_neg (by omega), if_neg (by omega), if_neg (by omega)]

section parts
variable (e : Parts) (p : ℕ) {j : ℕ}
theorem cat_q (h : j < 256) : cat e p j = e.q p j := by unfold cat; rw [if_pos h]
theorem cat_k (h : j < 256) : cat e p (256 + j) = e.k p j := by
  unfold cat; rw [if_neg (by omega), if_pos (by omega), Nat.add_sub_cancel_left]
theorem cat_v (h : j < 256) : cat e p (512 + j) = e.v p j := by
  unfold cat; rw [if_neg (by omega), if_neg (by omega), if_pos (by omega), Nat.add_sub_cancel_left]
theorem cat_n (h : j < 768) : cat e p (768 + j) = e.n p j := by
  unfold cat; rw [if_neg (by omega), if_neg (by omega), if_neg (by omega), if_pos (by omega), Nat.add_sub_cancel_left]
theorem cat_z (h : j < 256) : cat e p (1536 + j) = e.z p j := by
  unfold cat; rw [if_neg (by omega), if_neg (by omega), if_neg (by omega), if_neg (by omega), if_pos (by omega), Nat.add_sub_cancel_left]
theorem cat_b (h : j < 4) : cat e p (1792 + j) = e.b p j := by
  unfold cat; rw [if_neg (by omega), if_neg (by omega), if_neg (by omega), if_neg (by omega), if_neg (by omega), if_pos (by omega), Nat.add_sub_cancel_left]
theorem cat_a (h : j < 4) : cat e p (1796 + j) = e.a p j := by
  unfold cat; rw [if_neg (by omega), if_neg (by omega), if_neg (by omega), if_neg (by omega), if_neg (by omega), if_neg (by omega), if_pos (by omega), Nat.add_sub_cancel_left]
theorem cat_s : cat e p (1800 + j) = e.s p j := by
  unfold cat; rw [if_neg (by omega), if_neg (by omega), if_neg (by omega), if_neg (by omega), if_neg (by omega), if_neg (by omega), if_neg (by omega), Nat.add_sub_cancel_left]

/-- A row of the projection's gradient in the kernel's order, and its pieces. -/
def dp (j : ℕ) : ℝ := perm (cat e p) j
theorem dp_q (h : j < 256) : dp e p j = e.q p j := (perm_lo _ (by omega)).trans (cat_q e p h)
theorem dp_k (h : j < 256) : dp e p (256 + j) = e.k p j := (perm_lo _ (by omega)).trans (cat_k e p h)
theorem dp_v (h : j < 256) : dp e p (512 + j) = e.v p j := (perm_lo _ (by omega)).trans (cat_v e p h)
theorem dp_n (h : j < 768) : dp e p (768 + j) = e.n p j := (perm_lo _ (by omega)).trans (cat_n e p h)
theorem dp_z (h : j < 256) : dp e p (1536 + j) = e.z p j := (perm_lo _ (by omega)).trans (cat_z e p h)
theorem dp_s (h : j < 512) : dp e p (1792 + j) = e.s p j := (perm_mid _ h).trans (cat_s e p)
theorem dp_b (h : j < 4) : dp e p (2304 + j) = e.b p j := (perm_hi _ (by omega)).trans (cat_b e p h)
theorem dp_a (h : j < 4) : dp e p (2304 + (4 + j)) = e.a p j := (perm_hi _ (by omega)).trans (by rw [← Nat.add_assoc]; exact cat_a e p h)
theorem dp_off (h : 8 ≤ j) : dp e p (2304 + j) = 0 := perm_off _ h
end parts

theorem sum_perm (f u : ℕ → ℝ) : ∑ j : Fin 2432, perm f j.val * perm u j.val = ∑ j : Fin 2312, f j.val * u j.val := by
  rw [Fin.sum_univ_eq_sum_range (fun j => perm f j * perm u j) 2432, Fin.sum_univ_eq_sum_range (fun j => f j * u j) 2312,
    Finset.sum_range_add (fun j => perm f j * perm u j) 2312 120, Finset.sum_range_add (fun j => perm f j * perm u j) 2304 8,
    Finset.sum_range_add (fun j => perm f j * perm u j) 1792 512, Finset.sum_range_add (fun j => f j * u j) 1800 512,
    Finset.sum_range_add (fun j => f j * u j) 1792 8]
  have e0 : ∑ j ∈ Finset.range 1792, perm f j * perm u j = ∑ j ∈ Finset.range 1792, f j * u j :=
    Finset.sum_congr rfl fun j hj => by rw [perm_lo f (Finset.mem_range.1 hj), perm_lo u (Finset.mem_range.1 hj)]
  have e1 : ∑ j ∈ Finset.range 512, perm f (1792 + j) * perm u (1792 + j) = ∑ j ∈ Finset.range 512, f (1800 + j) * u (1800 + j) :=
    Finset.sum_congr rfl fun j hj => by rw [perm_mid f (Finset.mem_range.1 hj), perm_mid u (Finset.mem_range.1 hj)]
  have e2 : ∑ j ∈ Finset.range 8, perm f (2304 + j) * perm u (2304 + j) = ∑ j ∈ Finset.range 8, f (1792 + j) * u (1792 + j) :=
    Finset.sum_congr rfl fun j hj => by rw [perm_hi f (Finset.mem_range.1 hj), perm_hi u (Finset.mem_range.1 hj)]
  have e3 : ∑ j ∈ Finset.range 120, perm f (2312 + j) * perm u (2312 + j) = 0 :=
    Finset.sum_eq_zero fun j hj => by rw [show 2312 + j = 2304 + (8 + j) by omega, perm_off f (Nat.le_add_right _ _), zero_mul]
  rw [e0, e1, e2, e3]
  ring

/-- A sum over the columns by the kernel's seven pieces. -/
theorem sum_pieces (f : ℕ → ℝ) : ∑ d : Fin 256, f d.val + ∑ d : Fin 256, f (256 + d.val) + ∑ d : Fin 256, f (512 + d.val) + ∑ d : Fin 768, f (768 + d.val)
    + ∑ d : Fin 256, f (1536 + d.val) + ∑ d : Fin 512, f (1792 + d.val) + ∑ d : Fin 128, f (2304 + d.val) = ∑ j : Fin 2432, f j.val := by
  rw [Fin.sum_univ_eq_sum_range f 2432, Fin.sum_univ_eq_sum_range f 256, Fin.sum_univ_eq_sum_range (fun d => f (256 + d)) 256,
    Fin.sum_univ_eq_sum_range (fun d => f (512 + d)) 256, Fin.sum_univ_eq_sum_range (fun d => f (768 + d)) 768, Fin.sum_univ_eq_sum_range (fun d => f (1536 + d)) 256,
    Fin.sum_univ_eq_sum_range (fun d => f (1792 + d)) 512, Fin.sum_univ_eq_sum_range (fun d => f (2304 + d)) 128,
    Finset.sum_range_add f 2304 128, Finset.sum_range_add f 1792 512, Finset.sum_range_add f 1536 256, Finset.sum_range_add f 768 768,
    Finset.sum_range_add f 512 256, Finset.sum_range_add f 256 256]

variable (w : W) (x y P : ℕ → ℝ)

/-- The gradients at the normed row, in the row, and the row's share of the gradient in the gain. -/
def dxn (k : ℕ) : ℝ := ∑ j : Fin 2432, P j.val * perm (w.wi k) j.val
def dh (l : ℕ) : ℝ := y l + ngrad x (fun k => dxn w P k * w.g k) l
def dg (l : ℕ) : ℝ := dxn w P l * (x l * rr x)

section zero
variable (hy : ∀ k, y k = 0) (hP : ∀ j, P j = 0)
include hP
theorem dxn_zero (k : ℕ) : dxn w P k = 0 := by simp [dxn, hP]
include hy in
theorem dh_zero (l : ℕ) : dh w x y P l = 0 := by
  unfold dh
  rw [hy, zero_add]
  exact ngrad_zero _ _ (fun k => by simp [dxn_zero w P hP]) l
theorem dg_zero (l : ℕ) : dg w x P l = 0 := by simp [dg, dxn_zero w P hP]
end zero

end Cert.MixInSpec

end
-- ==== Proof.MixInKernel.lean ====
/- The mixer's input projection's backward call on arguments of reals: the arrays the host prepares, and the three arrays the run
   leaves. -/
module

public import proofs.«01_k».proof.Proof.MixInSpec
public import proofs.«01_k».proof.Proof.LossSpec
public import proofs.«01_k».proof.Proof.Gen.MixInIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.MixInKernel

open Cert.MixInIdeal Cert.MixInIdeal.Gen Cert.Rms Cert.MixInSpec
open Cert.SbIdeal.Sb (sheet sheet_apply coe_sum line front pad_sheet zero_conv)
open Cert.LossSpec (row)

variable (w : W) (x y P : ℕ → ℕ → ℝ)

/-- Two arrays of reals whose entries agree. -/
theorem sheet_congr {φ : FTy} {a b : ℕ} {f f' : ℕ → ℕ → ℝ} (h : ∀ p q, p < a → q < b → f p q = f' p q) : sheet φ a b f = sheet φ a b f' := by
  funext i; exact congrArg (fun t : ℝ => (t : EReal)) (h _ _ (i 0).isLt (i 1).isLt)

theorem pay1_eq (f : ℕ → ℕ → ℝ) : k0_pay1 (F := Ideal) (sheet .f32 256 256 f) = sheet .bf16 256 256 f := by
  funext i; idx_vars i; pointwise [k0_pay1]; rfl
theorem pay2_eq (f : ℕ → ℕ → ℝ) : k0_pay2 (F := Ideal) (sheet .f32 256 256 f) = sheet .bf16 256 256 f := by
  funext i; idx_vars i; pointwise [k0_pay2]; rfl
theorem pay3_eq (f : ℕ → ℕ → ℝ) : k0_pay3 (F := Ideal) (sheet .f32 256 256 f) = sheet .bf16 256 256 f := by
  funext i; idx_vars i; pointwise [k0_pay3]; rfl
theorem pay5_eq (f : ℕ → ℕ → ℝ) : k0_pay5 (F := Ideal) (sheet .f32 256 768 f) = sheet .bf16 256 768 f := by
  funext i; idx_vars i; pointwise [k0_pay5]; rfl
theorem pay6_eq (f : ℕ → ℕ → ℝ) : k0_pay6 (F := Ideal) (sheet .f32 256 256 f) = sheet .bf16 256 256 f := by
  funext i; idx_vars i; pointwise [k0_pay6]; rfl
theorem pay7_eq (f : ℕ → ℕ → ℝ) : k0_pay7 (F := Ideal) (sheet .f32 256 512 f) = sheet .bf16 256 512 f := by
  funext i; idx_vars i; pointwise [k0_pay7]; rfl
theorem pay8_eq (f : ℕ → ℕ → ℝ) : k0_pay8 (F := Ideal) (sheet .f32 256 128 f) = sheet .bf16 256 128 f := by
  funext i; idx_vars i; pointwise [k0_pay8]; rfl

/-- The gradient at the normed rows, from the seven pieces and the weights' rows they meet. -/
theorem pay9_eq : k0_pay9 (F := Ideal)
      (k0_pay4 (sheet .f32 256 256 fun r d => P r d) (sheet .bf16 256 1024 fun d k => perm (w.wi k) d)
        (sheet .f32 256 256 fun r d => P r (256 + d)) (sheet .bf16 256 1024 fun d k => perm (w.wi k) (256 + d))
        (sheet .f32 256 256 fun r d => P r (512 + d)) (sheet .bf16 256 1024 fun d k => perm (w.wi k) (512 + d)))
      (k0_pay5 (sheet .f32 256 768 fun r d => P r (768 + d))) (sheet .bf16 768 1024 fun d k => perm (w.wi k) (768 + d))
      (sheet .f32 256 256 fun r d => P r (1536 + d)) (sheet .bf16 256 1024 fun d k => perm (w.wi k) (1536 + d))
      (sheet .f32 256 512 fun r d => P r (1792 + d)) (sheet .bf16 512 1024 fun d k => perm (w.wi k) (1792 + d))
      (sheet .f32 256 128 fun r d => P r (2304 + d)) (sheet .bf16 128 1024 fun d k => perm (w.wi k) (2304 + d))
    = sheet .f32 256 1024 fun r k => dxn w (P r) k := by
  funext i; idx_vars i
  pointwise [k0_pay9, k0_pay4]
  rw [pay1_eq, pay2_eq, pay3_eq, pay5_eq, pay6_eq, pay7_eq, pay8_eq]
  simp only [sheet_apply, ← EReal.coe_mul, coe_sum, ← EReal.coe_add]
  exact congrArg (fun t : ℝ => (t : EReal)) (sum_pieces (fun j => P i0.val j * perm (w.wi i1.val) j))

theorem pay12_eq : k0_pay12 (F := Ideal) (sheet .f32 256 1024 x) = sheet .f32 256 1 fun r _ => rr (x r) := by
  funext i; idx_vars i
  pointwise [k0_pay11, k0_pay12]
  simp only [sheet_apply]
  exact rs_coe _

theorem pay13_eq : k0_pay13 (F := Ideal) (sheet .f32 256 1024 x) = sheet .f32 256 1024 fun r k => x r k * rr (x r) := by
  funext i; idx_vars i
  pointwise [k0_pay11, k0_pay13]
  rw [pay12_eq]
  simp only [sheet_apply, ← EReal.coe_mul]

theorem pay14_eq : k0_pay14 (F := Ideal) (sheet .f32 256 1024 fun r k => dxn w (P r) k) (k0_pay10 (sheet .f32 1 1024 fun _ k => w.g k)) (sheet .f32 256 1024 x) (sheet .f32 256 1024 y)
    = sheet .f32 256 1024 fun r l => dh w (x r) (y r) (P r) l := by
  funext i; idx_vars i
  pointwise [k0_pay14, k0_pay10]
  rw [pay13_eq, pay12_eq]
  simp only [sheet_apply, Facts.w_1024, Ideal.div_coe (show (1024 : ℝ) ≠ 0 by norm_num), ← EReal.coe_mul, coe_sum, ← EReal.coe_sub, ← EReal.coe_add]
  rfl

theorem pay16_eq (acc : FVec Ideal S1x1024 .f32) (z : Fin 1) (l : Fin 1024) :
    k0_pay16 (F := Ideal) (sheet .f32 256 1024 fun r k => dxn w (P r) k) (sheet .f32 256 1024 x) acc (ix2 z l) = acc (ix2 z l) + ∑ r : Fin 256, ((dg w (x r.val) (P r.val) l.val : ℝ) : EReal) := by
  obtain rfl : z = 0 := Subsingleton.elim _ _
  pointwise [k0_pay16]
  rw [pay13_eq]
  simp only [sheet_apply, Fin.sum_univ_one, ← EReal.coe_mul]
  rfl

/-- Two hundred and forty zero rows in front, for the six widths. -/
def fronted (x : FVec Ideal S16400x1024 .f32) : FVec Ideal S16640x1024 .f32 :=
  pad S16640x1024 ![240, 0] ![0, 0] ![0, 0] x (sitofp (F := Ideal) .f32 (constantI S_ 32 0#32)) pads_S16400x1024_S16640x1024_24000_000 h_S_
def fronted256 (x : FVec Ideal S16400x256 .f32) : FVec Ideal S16640x256 .f32 :=
  pad S16640x256 ![240, 0] ![0, 0] ![0, 0] x (sitofp (F := Ideal) .f32 (constantI S_ 32 0#32)) pads_S16400x256_S16640x256_24000_000 h_S_
def fronted768 (x : FVec Ideal S16400x768 .f32) : FVec Ideal S16640x768 .f32 :=
  pad S16640x768 ![240, 0] ![0, 0] ![0, 0] x (sitofp (F := Ideal) .f32 (constantI S_ 32 0#32)) pads_S16400x768_S16640x768_24000_000 h_S_
def fronted512 (x : FVec Ideal S16400x512 .f32) : FVec Ideal S16640x512 .f32 :=
  pad S16640x512 ![240, 0] ![0, 0] ![0, 0] x (sitofp (F := Ideal) .f32 (constantI S_ 32 0#32)) pads_S16400x512_S16640x512_24000_000 h_S_
def fronted128 (x : FVec Ideal S16400x128 .f32) : FVec Ideal S16640x128 .f32 :=
  pad S16640x128 ![240, 0] ![0, 0] ![0, 0] x (sitofp (F := Ideal) .f32 (constantI S_ 32 0#32)) pads_S16400x128_S16640x128_24000_000 h_S_

/-- The step sizes' and decays' gradients side by side, in 128 columns. -/
def steps (b a : FVec Ideal S16400x4 .f32) : FVec Ideal S16400x128 .f32 :=
  pad S16400x128 ![0, 0] ![0, 120] ![0, 0] (concatenate S16400x8 1 [⟨S16400x4, b⟩, ⟨S16400x4, a⟩] concatenates_S16400x4_S16400x4_S16400x8_d1)
    (sitofp (F := Ideal) .f32 (constantI S_ 32 0#32)) pads_S16400x8_S16400x128_000_01200 h_S_

/-- The gain as a row. -/
def gainRow (g : FVec Ideal S1024 .f32) : FVec Ideal S1x1024 .f32 := broadcastInDim S1x1024 ![1] bcast_S1024_S1x1024_1 g

/-- The projection in the kernel's order of columns, turned round. -/
def weights (u : FVec Ideal S1024x2312 .f32) : FVec Ideal S2432x1024 .bf16 :=
  transpose S2432x1024 [1, 0] (truncf .bf16 (concatenate S1024x2432 1 [⟨S1024x1792, extractStridedSlice S1024x1792 ![0, 0] u slices_S1024x2312_S1024x1792_0_0⟩,
    ⟨S1024x512, extractStridedSlice S1024x512 ![0, 1800] u slices_S1024x2312_S1024x512_0_1800⟩,
    ⟨S1024x8, extractStridedSlice S1024x8 ![0, 1792] u slices_S1024x2312_S1024x8_0_1792⟩,
    ⟨S1024x120, broadcastInDim S1024x120 ![] bcast_S_S1024x120 (constant (F := Ideal) S_ .f32 0x00000000#32)⟩]
    concatenates_S1024x1792_S1024x512_S1024x8_S1024x120_S1024x2432_d1 : FVec Ideal S1024x2432 .f32) bitsLt_bf16_f32) transposes_S1024x2432_S2432x1024_1_0

theorem weights_eq (u : ℕ → ℕ → ℝ) : weights (sheet .f32 1024 2312 u) = sheet .bf16 2432 1024 fun d k => perm (u k) d := by
  funext i; idx_vars i
  pointwise [weights]
  have h0 := i0.isLt
  unfold perm
  simp only [sheet_apply]
  split_ifs <;> first | omega | rfl | exact congrArg (fun d : ℕ => ((u i1.val d : ℝ) : EReal)) (by omega)

theorem steps_eq (e : Parts) : steps (sheet .f32 16400 4 e.b) (sheet .f32 16400 4 e.a) = sheet .f32 16400 128 fun p d => dp e p (2304 + d) := by
  funext i; idx_vars i
  pointwise [steps]
  simp only [sheet_apply]
  split_ifs with h8 h4
  · rw [dp_b e _ h4]
  · rw [← dp_a e _ (show i1.val - 4 < 4 by omega), show 4 + (i1.val - 4) = i1.val by omega]
  · rw [dp_off e _ (by omega)]
    exact congrFun zero_conv ix0

/-- A piece behind its zero rows, at its place in the projection's gradient. -/
theorem front_piece {wd : ℕ} (off : ℕ) (e : Parts) (f : ℕ → ℕ → ℝ) (h : ∀ p d, d < wd → dp e p (off + d) = f p d) :
    sheet .f32 16640 wd (front f) = sheet .f32 16640 wd fun p d => front (dp e) p (off + d) :=
  sheet_congr fun p d _ hd => by
    unfold front
    by_cases hp : 240 ≤ p
    · rw [if_pos hp, if_pos hp, h _ _ hd]
    · rw [if_neg hp, if_neg hp]

theorem fronted_eq (f : ℕ → ℕ → ℝ) : fronted (sheet .f32 16400 1024 f) = sheet .f32 16640 1024 (front f) :=
  pad_sheet 16400 1024 240 16640 _ _ zero_conv h_S_ (by norm_num) _
theorem fronted256_eq (f : ℕ → ℕ → ℝ) : fronted256 (sheet .f32 16400 256 f) = sheet .f32 16640 256 (front f) :=
  pad_sheet 16400 256 240 16640 _ _ zero_conv h_S_ (by norm_num) _
theorem fronted768_eq (f : ℕ → ℕ → ℝ) : fronted768 (sheet .f32 16400 768 f) = sheet .f32 16640 768 (front f) :=
  pad_sheet 16400 768 240 16640 _ _ zero_conv h_S_ (by norm_num) _
theorem fronted512_eq (f : ℕ → ℕ → ℝ) : fronted512 (sheet .f32 16400 512 f) = sheet .f32 16640 512 (front f) :=
  pad_sheet 16400 512 240 16640 _ _ zero_conv h_S_ (by norm_num) _
theorem fronted128_eq (f : ℕ → ℕ → ℝ) : fronted128 (sheet .f32 16400 128 f) = sheet .f32 16640 128 (front f) :=
  pad_sheet 16400 128 240 16640 _ _ zero_conv h_S_ (by norm_num) _
theorem gainRow_eq : gainRow (line 1024 w.g) = sheet .f32 1 1024 fun _ k => w.g k := by
  funext i; idx_vars i
  pointwise [gainRow]
  rfl

variable (m : (ℓ : Loc nD τ sig) → Buf (Elt Ideal) ℓ) (c : Dev nD)

/-- The arguments are arrays of reals. -/
structure Args (h ct : ℕ → ℕ → ℝ) (e : Parts) : Prop where
  h : (m ((c.tc : Thread nD τ).loc main_arg0) : FVec Ideal S16400x1024 .f32) = sheet .f32 16400 1024 h
  g : (m ((c.tc : Thread nD τ).loc main_arg1) : FVec Ideal S1024 .f32) = line 1024 w.g
  wi : (m ((c.tc : Thread nD τ).loc main_arg2) : FVec Ideal S1024x2312 .f32) = sheet .f32 1024 2312 w.wi
  ct : (m ((c.tc : Thread nD τ).loc main_arg3) : FVec Ideal S16400x1024 .f32) = sheet .f32 16400 1024 ct
  q : (m ((c.tc : Thread nD τ).loc main_arg4) : FVec Ideal S16400x256 .f32) = sheet .f32 16400 256 e.q
  k : (m ((c.tc : Thread nD τ).loc main_arg5) : FVec Ideal S16400x256 .f32) = sheet .f32 16400 256 e.k
  v : (m ((c.tc : Thread nD τ).loc main_arg6) : FVec Ideal S16400x256 .f32) = sheet .f32 16400 256 e.v
  n : (m ((c.tc : Thread nD τ).loc main_arg7) : FVec Ideal S16400x768 .f32) = sheet .f32 16400 768 e.n
  z : (m ((c.tc : Thread nD τ).loc main_arg8) : FVec Ideal S16400x256 .f32) = sheet .f32 16400 256 e.z
  b : (m ((c.tc : Thread nD τ).loc main_arg9) : FVec Ideal S16400x4 .f32) = sheet .f32 16400 4 e.b
  a : (m ((c.tc : Thread nD τ).loc main_arg10) : FVec Ideal S16400x4 .f32) = sheet .f32 16400 4 e.a
  s : (m ((c.tc : Thread nD τ).loc main_arg11) : FVec Ideal S16400x512 .f32) = sheet .f32 16400 512 e.s

variable {w m c} {h ct : ℕ → ℕ → ℝ} {e : Parts} (A : Args w m c h ct e)
include A

theorem v9_eq : (V m c main_v9 : FVec Ideal S16640x1024 .f32) = sheet .f32 16640 1024 (front ct) := by
  refine Eq.trans (b := fronted (m ((c.tc : Thread nD τ).loc main_arg3))) (by sl_kernel_rfl) ?_
  rw [A.ct]; exact fronted_eq ct
theorem v10_eq : (V m c main_v10 : FVec Ideal S16640x1024 .f32) = sheet .f32 16640 1024 (front h) := by
  refine Eq.trans (b := fronted (m ((c.tc : Thread nD τ).loc main_arg0))) (by sl_kernel_rfl) ?_
  rw [A.h]; exact fronted_eq h
theorem v11_eq : (V m c main_v11 : FVec Ideal S1x1024 .f32) = sheet .f32 1 1024 fun _ k => w.g k := by
  refine Eq.trans (b := gainRow (m ((c.tc : Thread nD τ).loc main_arg1))) (by sl_kernel_rfl) ?_
  rw [A.g]; exact gainRow_eq w
theorem v18_eq : (V m c main_v18 : FVec Ideal S2432x1024 .bf16) = sheet .bf16 2432 1024 fun d k => perm (w.wi k) d := by
  refine Eq.trans (b := weights (m ((c.tc : Thread nD τ).loc main_arg2))) (by sl_kernel_rfl) ?_
  rw [A.wi]; exact weights_eq w.wi
theorem v2_eq : (V m c main_v2 : FVec Ideal S16640x256 .f32) = sheet .f32 16640 256 fun p d => front (dp e) p d := by
  refine Eq.trans (b := fronted256 (m ((c.tc : Thread nD τ).loc main_arg4))) (by sl_kernel_rfl) ?_
  rw [A.q, fronted256_eq, front_piece 0 e e.q fun p d hd => (congrArg (dp e p) (Nat.zero_add d)).trans (dp_q e p hd)]; simp only [Nat.zero_add]
theorem v3_eq : (V m c main_v3 : FVec Ideal S16640x256 .f32) = sheet .f32 16640 256 fun p d => front (dp e) p (256 + d) := by
  refine Eq.trans (b := fronted256 (m ((c.tc : Thread nD τ).loc main_arg5))) (by sl_kernel_rfl) ?_
  rw [A.k, fronted256_eq, front_piece 256 e e.k fun p d hd => dp_k e p hd]
theorem v4_eq : (V m c main_v4 : FVec Ideal S16640x256 .f32) = sheet .f32 16640 256 fun p d => front (dp e) p (512 + d) := by
  refine Eq.trans (b := fronted256 (m ((c.tc : Thread nD τ).loc main_arg6))) (by sl_kernel_rfl) ?_
  rw [A.v, fronted256_eq, front_piece 512 e e.v fun p d hd => dp_v e p hd]
theorem v5_eq : (V m c main_v5 : FVec Ideal S16640x768 .f32) = sheet .f32 16640 768 fun p d => front (dp e) p (768 + d) := by
  refine Eq.trans (b := fronted768 (m ((c.tc : Thread nD τ).loc main_arg7))) (by sl_kernel_rfl) ?_
  rw [A.n, fronted768_eq, front_piece 768 e e.n fun p d hd => dp_n e p hd]
theorem v6_eq : (V m c main_v6 : FVec Ideal S16640x256 .f32) = sheet .f32 16640 256 fun p d => front (dp e) p (1536 + d) := by
  refine Eq.trans (b := fronted256 (m ((c.tc : Thread nD τ).loc main_arg8))) (by sl_kernel_rfl) ?_
  rw [A.z, fronted256_eq, front_piece 1536 e e.z fun p d hd => dp_z e p hd]
theorem v7_eq : (V m c main_v7 : FVec Ideal S16640x512 .f32) = sheet .f32 16640 512 fun p d => front (dp e) p (1792 + d) := by
  refine Eq.trans (b := fronted512 (m ((c.tc : Thread nD τ).loc main_arg11))) (by sl_kernel_rfl) ?_
  rw [A.s, fronted512_eq, front_piece 1792 e e.s fun p d hd => dp_s e p hd]
theorem v8_eq : (V m c main_v8 : FVec Ideal S16640x128 .f32) = sheet .f32 16640 128 fun p d => front (dp e) p (2304 + d) := by
  refine Eq.trans (b := fronted128 (steps (m ((c.tc : Thread nD τ).loc main_arg9)) (m ((c.tc : Thread nD τ).loc main_arg10)))) (by sl_kernel_rfl) ?_
  rw [A.b, A.a, steps_eq, fronted128_eq, front_piece 2304 e _ fun p d _ => rfl]
omit A

theorem idx_val : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![t.val, 0] ∧ win0_6.index t = ![t.val, 0] ∧ win0_7.index t = ![t.val, 0]
    ∧ win0_8.index t = ![t.val, 0] ∧ win0_9.index t = ![t.val, 0] ∧ win0_10.index t = ![0, 0] ∧ win0_11.index t = ![t.val, 0] ∧ win0_12.index t = ![t.val, 0]
    ∧ win0_13.index t = ![0, 0] :=
  (by decide +kernel : ∀ t : Fin grid0.N, _)

/-- The point's number. -/
def pt (t : Fin cfg0.N) : Fin 65 := ⟨t.val, lt_of_lt_of_eq t.isLt N_0⟩

/-- Row `r` of the point's block. -/
abbrev rw_ (t : Fin cfg0.N) (r : ℕ) : ℕ := t.val * 256 + r

include A
theorem blk0 (t : Fin cfg0.N) : (iblk m c 0 t : FVec Ideal S256x1024 .f32) = sheet .f32 256 1024 fun r => front ct (rw_ t r) := by
  funext y; idx_vars y
  exact Eq.trans (b := (V m c main_v9 : FVec Ideal S16640x1024 .f32) (ix2 (row (pt t) y0) y1)) (by unfold row pt; blk_ext [iblk, idx_val t]) (congrFun (v9_eq A) _)
theorem blk1 (t : Fin cfg0.N) : (iblk m c 1 t : FVec Ideal S256x1024 .f32) = sheet .f32 256 1024 fun r => front h (rw_ t r) := by
  funext y; idx_vars y
  exact Eq.trans (b := (V m c main_v10 : FVec Ideal S16640x1024 .f32) (ix2 (row (pt t) y0) y1)) (by unfold row pt; blk_ext [iblk, idx_val t]) (congrFun (v10_eq A) _)
theorem blk2 (t : Fin cfg0.N) : (iblk m c 2 t : FVec Ideal S1x1024 .f32) = sheet .f32 1 1024 fun _ k => w.g k := by
  funext y; idx_vars y
  exact Eq.trans (b := (V m c main_v11 : FVec Ideal S1x1024 .f32) (ix2 y0 y1)) (by blk_ext [iblk, idx_val t]) (congrFun (v11_eq A) _)
theorem blk3 (t : Fin cfg0.N) : (iblk m c 3 t : FVec Ideal S256x256 .f32) = sheet .f32 256 256 fun r d => front (dp e) (rw_ t r) d := by
  funext y; idx_vars y
  exact Eq.trans (b := (V m c main_v2 : FVec Ideal S16640x256 .f32) (ix2 (row (pt t) y0) y1)) (by unfold row pt; blk_ext [iblk, idx_val t]) (congrFun (v2_eq A) _)
theorem blk4 (t : Fin cfg0.N) : (iblk m c 4 t : FVec Ideal S256x256 .f32) = sheet .f32 256 256 fun r d => front (dp e) (rw_ t r) (256 + d) := by
  funext y; idx_vars y
  exact Eq.trans (b := (V m c main_v3 : FVec Ideal S16640x256 .f32) (ix2 (row (pt t) y0) y1)) (by unfold row pt; blk_ext [iblk, idx_val t]) (congrFun (v3_eq A) _)
theorem blk5 (t : Fin cfg0.N) : (iblk m c 5 t : FVec Ideal S256x256 .f32) = sheet .f32 256 256 fun r d => front (dp e) (rw_ t r) (512 + d) := by
  funext y; idx_vars y
  exact Eq.trans (b := (V m c main_v4 : FVec Ideal S16640x256 .f32) (ix2 (row (pt t) y0) y1)) (by unfold row pt; blk_ext [iblk, idx_val t]) (congrFun (v4_eq A) _)
theorem blk6 (t : Fin cfg0.N) : (iblk m c 6 t : FVec Ideal S256x768 .f32) = sheet .f32 256 768 fun r d => front (dp e) (rw_ t r) (768 + d) := by
  funext y; idx_vars y
  exact Eq.trans (b := (V m c main_v5 : FVec Ideal S16640x768 .f32) (ix2 (row (pt t) y0) y1)) (by unfold row pt; blk_ext [iblk, idx_val t]) (congrFun (v5_eq A) _)
theorem blk7 (t : Fin cfg0.N) : (iblk m c 7 t : FVec Ideal S256x256 .f32) = sheet .f32 256 256 fun r d => front (dp e) (rw_ t r) (1536 + d) := by
  funext y; idx_vars y
  exact Eq.trans (b := (V m c main_v6 : FVec Ideal S16640x256 .f32) (ix2 (row (pt t) y0) y1)) (by unfold row pt; blk_ext [iblk, idx_val t]) (congrFun (v6_eq A) _)
theorem blk8 (t : Fin cfg0.N) : (iblk m c 8 t : FVec Ideal S256x512 .f32) = sheet .f32 256 512 fun r d => front (dp e) (rw_ t r) (1792 + d) := by
  funext y; idx_vars y
  exact Eq.trans (b := (V m c main_v7 : FVec Ideal S16640x512 .f32) (ix2 (row (pt t) y0) y1)) (by unfold row pt; blk_ext [iblk, idx_val t]) (congrFun (v7_eq A) _)
theorem blk9 (t : Fin cfg0.N) : (iblk m c 9 t : FVec Ideal S256x128 .f32) = sheet .f32 256 128 fun r d => front (dp e) (rw_ t r) (2304 + d) := by
  funext y; idx_vars y
  exact Eq.trans (b := (V m c main_v8 : FVec Ideal S16640x128 .f32) (ix2 (row (pt t) y0) y1)) (by unfold row pt; blk_ext [iblk, idx_val t]) (congrFun (v8_eq A) _)
theorem blk10 (t : Fin cfg0.N) : (iblk m c 10 t : FVec Ideal S2432x1024 .bf16) = sheet .bf16 2432 1024 fun d k => perm (w.wi k) d := by
  funext y; idx_vars y
  exact Eq.trans (b := (V m c main_v18 : FVec Ideal S2432x1024 .bf16) (ix2 y0 y1)) (by blk_ext [iblk, idx_val t]) (congrFun (v18_eq A) _)

theorem ld0 (t : Fin cfg0.N) : (View.ld (iblk m c 10 t) (Rect.unit ![0, 0] ![256, 1024] inb_S2432x1024_S256x1024_0_0) : FVec Ideal S256x1024 .bf16) = sheet .bf16 256 1024 fun d k => perm (w.wi k) d := by
  rw [blk10 A t]; funext y; idx_vars y; pointwise; first | rfl | simp only [Nat.zero_add, sheet_apply]
theorem ld256 (t : Fin cfg0.N) : (View.ld (iblk m c 10 t) (Rect.unit ![256, 0] ![256, 1024] inb_S2432x1024_S256x1024_256_0) : FVec Ideal S256x1024 .bf16) = sheet .bf16 256 1024 fun d k => perm (w.wi k) (256 + d) := by
  rw [blk10 A t]; funext y; idx_vars y; pointwise; rfl
theorem ld512 (t : Fin cfg0.N) : (View.ld (iblk m c 10 t) (Rect.unit ![512, 0] ![256, 1024] inb_S2432x1024_S256x1024_512_0) : FVec Ideal S256x1024 .bf16) = sheet .bf16 256 1024 fun d k => perm (w.wi k) (512 + d) := by
  rw [blk10 A t]; funext y; idx_vars y; pointwise; rfl
theorem ld768 (t : Fin cfg0.N) : (View.ld (iblk m c 10 t) (Rect.unit ![768, 0] ![768, 1024] inb_S2432x1024_S768x1024_768_0) : FVec Ideal S768x1024 .bf16) = sheet .bf16 768 1024 fun d k => perm (w.wi k) (768 + d) := by
  rw [blk10 A t]; funext y; idx_vars y; pointwise; rfl
theorem ld1536 (t : Fin cfg0.N) : (View.ld (iblk m c 10 t) (Rect.unit ![1536, 0] ![256, 1024] inb_S2432x1024_S256x1024_1536_0) : FVec Ideal S256x1024 .bf16) = sheet .bf16 256 1024 fun d k => perm (w.wi k) (1536 + d) := by
  rw [blk10 A t]; funext y; idx_vars y; pointwise; rfl
theorem ld1792 (t : Fin cfg0.N) : (View.ld (iblk m c 10 t) (Rect.unit ![1792, 0] ![512, 1024] inb_S2432x1024_S512x1024_1792_0) : FVec Ideal S512x1024 .bf16) = sheet .bf16 512 1024 fun d k => perm (w.wi k) (1792 + d) := by
  rw [blk10 A t]; funext y; idx_vars y; pointwise; rfl
theorem ld2304 (t : Fin cfg0.N) : (View.ld (iblk m c 10 t) (Rect.unit ![2304, 0] ![128, 1024] inb_S2432x1024_S128x1024_2304_0) : FVec Ideal S128x1024 .bf16) = sheet .bf16 128 1024 fun d k => perm (w.wi k) (2304 + d) := by
  rw [blk10 A t]; funext y; idx_vars y; pointwise; rfl

/-- The gradient at the normed rows, as the body computes it at a point. -/
theorem got (t : Fin cfg0.N) : k0_pay9 (F := Ideal) (k0_pay4 (iblk m c 3 t) (View.ld (iblk m c 10 t) (Rect.unit ![0, 0] ![256, 1024] inb_S2432x1024_S256x1024_0_0)) (iblk m c 4 t) (View.ld (iblk m c 10 t) (Rect.unit ![256, 0] ![256, 1024] inb_S2432x1024_S256x1024_256_0)) (iblk m c 5 t) (View.ld (iblk m c 10 t) (Rect.unit ![512, 0] ![256, 1024] inb_S2432x1024_S256x1024_512_0)))
      (k0_pay5 (iblk m c 6 t)) (View.ld (iblk m c 10 t) (Rect.unit ![768, 0] ![768, 1024] inb_S2432x1024_S768x1024_768_0)) (iblk m c 7 t) (View.ld (iblk m c 10 t) (Rect.unit ![1536, 0] ![256, 1024] inb_S2432x1024_S256x1024_1536_0)) (iblk m c 8 t) (View.ld (iblk m c 10 t) (Rect.unit ![1792, 0] ![512, 1024] inb_S2432x1024_S512x1024_1792_0)) (iblk m c 9 t) (View.ld (iblk m c 10 t) (Rect.unit ![2304, 0] ![128, 1024] inb_S2432x1024_S128x1024_2304_0))
    = sheet .f32 256 1024 fun r k => dxn w (front (dp e) (rw_ t r)) k := by
  refine Eq.trans ?_ (pay9_eq w fun r => front (dp e) (rw_ t r))
  rw [blk3 A t, blk4 A t, blk5 A t, blk6 A t, blk7 A t, blk8 A t, blk9 A t, ld0 A t, ld256 A t, ld512 A t, ld768 A t, ld1536 A t, ld1792 A t, ld2304 A t]

theorem out11 (t : Fin cfg0.N) : ((outsAt0 m c t.val t.isLt).1 : FVec Ideal S256x1024 .f32) = sheet .f32 256 1024 fun r => dh w (front h (rw_ t r)) (front ct (rw_ t r)) (front (dp e) (rw_ t r)) := by
  have e := pay14_eq w (fun r => front h (rw_ t r)) (fun r => front ct (rw_ t r)) (fun r => front (dp e) (rw_ t r))
  rw [← got A t, ← blk0 A t, ← blk1 A t, ← blk2 A t] at e
  refine Eq.trans ?_ e
  funext y
  by_cases h0 : t.val % 65 = 0
  · rw [outsAt0_A m c t h0]
    frame_out
    rfl
  · rw [outsAt0_B m c t h0]
    frame_out
    rfl

/-- The seven stores of the projection's gradient, read at an index. -/
theorem stored (t : Fin cfg0.N) (y : S256x2432.Idx) : View.canon (Val := Elt Ideal) (e := .bf16)
      [⟨Rect.unit ![0, 2304] ![256, 128] inb_S256x2432_S256x128_0_2304, k0_pay8 (iblk m c 9 t)⟩,
        ⟨Rect.unit ![0, 1792] ![256, 512] inb_S256x2432_S256x512_0_1792, k0_pay7 (iblk m c 8 t)⟩,
        ⟨Rect.unit ![0, 1536] ![256, 256] inb_S256x2432_S256x256_0_1536, k0_pay6 (iblk m c 7 t)⟩,
        ⟨Rect.unit ![0, 768] ![256, 768] inb_S256x2432_S256x768_0_768, k0_pay5 (iblk m c 6 t)⟩,
        ⟨Rect.unit ![0, 512] ![256, 256] inb_S256x2432_S256x256_0_512, k0_pay3 (iblk m c 5 t)⟩,
        ⟨Rect.unit ![0, 256] ![256, 256] inb_S256x2432_S256x256_0_256, k0_pay2 (iblk m c 4 t)⟩,
        ⟨Rect.unit ![0, 0] ![256, 256] inb_S256x2432_S256x256_0_0, k0_pay1 (iblk m c 3 t)⟩] y
    = (((sheet .bf16 256 2432 fun r => front (dp e) (rw_ t r)) : FVec Ideal S256x2432 .bf16) y : Elt Ideal .bf16) := by
  rw [blk3 A t, blk4 A t, blk5 A t, blk6 A t, blk7 A t, blk8 A t, blk9 A t, pay1_eq, pay2_eq, pay3_eq, pay5_eq, pay6_eq, pay7_eq, pay8_eq]
  canon_tiles x hx using View.cover_of_tiledBy _ ![256, 128] (by sl_kernel_rfl) y
  all_goals
    refine congrArg (fun v : ℝ => (v : EReal)) (congrArg₂ (fun p d => front (dp e) (rw_ t p) d) hx0.symm hx1.symm)

theorem out12 (t : Fin cfg0.N) : ((outsAt0 m c t.val t.isLt).2.1 : FVec Ideal S256x2432 .bf16) = sheet .bf16 256 2432 fun r => front (dp e) (rw_ t r) := by
  funext y
  refine Eq.trans ?_ (stored A t y)
  by_cases h0 : t.val % 65 = 0
  · rw [outsAt0_A m c t h0]
    frame_out
  · rw [outsAt0_B m c t h0]
    frame_out

theorem final11 : (dats m 0 c).arrAt 11 (cfgs 0).N = (sheet .f32 16640 1024 fun p => dh w (front h p) (front ct p) (front (dp e) p) : FVec Ideal S16640x1024 .f32) := by
  refine (dats m 0 c).arrAt_eq_of_covers 11 _ (by decide +kernel) fun t _ y => ?_
  blk_simp
  rw [after0_11, out11 A t]
  idx_vars y
  have e0 : ((View.whole main_v19_0).slice (win0_11.rect t)).emb (ix2 y0 y1) = ix2 (row (pt t) y0) y1 := by
    unfold row pt
    blk_ext [idx_val t]
  rw [e0]
  rfl

theorem final12 : (dats m 0 c).arrAt 12 (cfgs 0).N = (sheet .bf16 16640 2432 (front (dp e)) : FVec Ideal S16640x2432 .bf16) := by
  refine (dats m 0 c).arrAt_eq_of_covers 12 _ (by decide +kernel) fun t _ y => ?_
  blk_simp
  rw [after0_12, out12 A t]
  idx_vars y
  have e0 : ((View.whole main_v19_1).slice (win0_12.rect t)).emb (ix2 y0 y1) = ix2 (row (pt t) y0) y1 := by
    unfold row pt
    blk_ext [idx_val t]
  rw [e0]
  rfl

omit A in
/-- A row's share of the gradient in the gain. -/
def share (w : W) (h : ℕ → ℕ → ℝ) (e : Parts) (p : Fin 16640) (l : Fin 1024) : EReal := ((dg w (front h p.val) (front (dp e) p.val) l.val : ℝ) : EReal)

/-- What a point adds to the gradient in the gain. -/
theorem at_pay16 (t : Fin cfg0.N) (acc : FVec Ideal S1x1024 .f32) (z : Fin 1) (l : Fin 1024) :
    k0_pay16 (F := Ideal) (k0_pay9 (k0_pay4 (iblk m c 3 t) (View.ld (iblk m c 10 t) (Rect.unit ![0, 0] ![256, 1024] inb_S2432x1024_S256x1024_0_0)) (iblk m c 4 t) (View.ld (iblk m c 10 t) (Rect.unit ![256, 0] ![256, 1024] inb_S2432x1024_S256x1024_256_0)) (iblk m c 5 t) (View.ld (iblk m c 10 t) (Rect.unit ![512, 0] ![256, 1024] inb_S2432x1024_S256x1024_512_0)))
      (k0_pay5 (iblk m c 6 t)) (View.ld (iblk m c 10 t) (Rect.unit ![768, 0] ![768, 1024] inb_S2432x1024_S768x1024_768_0)) (iblk m c 7 t) (View.ld (iblk m c 10 t) (Rect.unit ![1536, 0] ![256, 1024] inb_S2432x1024_S256x1024_1536_0)) (iblk m c 8 t) (View.ld (iblk m c 10 t) (Rect.unit ![1792, 0] ![512, 1024] inb_S2432x1024_S512x1024_1792_0)) (iblk m c 9 t) (View.ld (iblk m c 10 t) (Rect.unit ![2304, 0] ![128, 1024] inb_S2432x1024_S128x1024_2304_0))) (iblk m c 1 t) acc (ix2 z l)
    = acc (ix2 z l) + ∑ r : Fin 256, share w h e (row (pt t) r) l := by
  rw [got A t, blk1 A t]
  exact pay16_eq w (fun r => front h (rw_ t r)) (fun r => front (dp e) (rw_ t r)) acc z l

omit A in
theorem pt_run (t : Fin cfg0.N) (s : Fin 65) (h : 65 * (t.val / 65) + s.val < cfg0.N) : pt ⟨65 * (t.val / 65) + s.val, h⟩ = s := by
  have := lt_of_lt_of_eq t.isLt N_0
  have := lt_of_lt_of_eq h N_0
  apply Fin.ext
  show 65 * (t.val / 65) + s.val = s.val
  omega

theorem final13 : (dats m 0 c).arrAt 13 (cfgs 0).N
    = fun j : S1x1024.Idx => ∑ i : Fin 65, ∑ r : Fin 256, share w h e (row i r) (j 1) := by
  refine (dats m 0 c).arrAt_eq_of_covers 13 _ (by decide +kernel) fun t hf y => ?_
  blk_simp
  rw [after0_13]
  idx_vars y
  have e0 : ((View.whole main_v19_2).slice (win0_13.rect t)).emb (ix2 y0 y1) = ix2 0 y1 := by
    blk_ext [idx_val t]
  rw [e0, Pipeline.eq_sum_fin_of_reset_step_apply_of_flush (fun n h => (outsAt0 m c n h).2.2) 65 (fun _ => 0)
    (fun t j => ∑ r : Fin 256, share w h e (row (pt t) r) (j 1))
    (fun t h j => by
      rw [outsAt0_A m c t h]; frame_out
      idx_vars j
      refine (at_pay16 A t _ _ _).trans ?_
      congr 1
      pointwise [k0_pay15])
    (fun t h j => by
      rw [outsAt0_B m c t h]; frame_out
      idx_vars j
      exact at_pay16 A t _ _ _) t ((flush0_13 t).mp hf) _, zero_add]
  exact Fin.sum_fin_congr fun s => by rw [pt_run] <;> rfl

end Cert.MixInKernel

end
-- ==== Proof.MixInRef.lean ====
/- The reference of the input projection's gradients on arguments of reals: its three results. -/
module

public import proofs.«01_k».proof.Proof.MixInSpec
public import proofs.«01_k».proof.Proof.FfnRef
public import proofs.«01_k».proof.Proof.Gen.MixInRefIdeal.Read

@[expose] public section

set_option maxRecDepth 16384

noncomputable section

namespace Cert.MixInRef

open Cert.MixInRefIdeal Cert.MixInRefIdeal.Gen Cert.MixInRefIdeal.Read Idealize.ShloMosaic Idealize.ShloMosaic.TcCoe Idealize.SL.Sem
open Cert.Rms Cert.MixInSpec
open Cert.SbIdeal.Sb (sheet sheet_apply coe_sum line front pad_sheet zero_conv)
open Cert.FfnRef (front_at front_off)

variable (w : W) (h ct : ℕ → ℕ → ℝ) (e : Parts)

theorem v7_eq : val_main_v7 (F := Ideal) (sheet .f32 16400 1024 h) = sheet .f32 16400 1 fun p _ => vr (h p) := by
  funext i; idx_vars i
  pointwise [val_main_v7, val_main_v6, val_main_v5, val_main_v4, val_main_v3, val_main_v2, val_main_v1, val_main_cst_0, val_main_cst_1, val_main_cst_2]
  simp only [sheet_apply]
  exact var_coe _

theorem v8_eq : val_main_v8 (F := Ideal) (sheet .f32 16400 1024 h) = sheet .f32 16400 1 fun p _ => rr (h p) := by
  funext i; idx_vars i
  pointwise [val_main_v8]
  rw [v7_eq]
  exact (congrArg Ideal.rsqrt (var_coe (h i0.val)).symm).trans (rs_coe (h i0.val))

theorem v11_at (p : Fin 16400) (z : Fin 1) : val_main_v11 (F := Ideal) (sheet .f32 16400 1024 h) (ix2 p z) = Rms.slope fun k => ((h p.val k.val : ℝ) : EReal) := by
  pointwise [val_main_v11, val_main_v10, val_main_v9, val_main_cst_3]
  rw [v7_eq, v8_eq]
  unfold Rms.slope
  rw [rs_coe, var_coe]
  rfl

theorem v13_eq : val_main_v13 (F := Ideal) (sheet .f32 16400 1024 h) = sheet .f32 16400 1024 fun p k => h p k * rr (h p) := by
  funext i; idx_vars i
  pointwise [val_main_v13, val_main_v12]
  rw [v8_eq]
  simp only [sheet_apply, ← EReal.coe_mul]

theorem choose {c d : Prop} [Decidable c] [Decidable d] {x y : EReal} {x' y' : ℝ} (hc : c ↔ d) (hx : x = (x' : EReal)) (hy : y = (y' : EReal)) :
    (if _h : c then x else y) = ((if d then x' else y' : ℝ) : EReal) := by
  by_cases h : c
  · rw [dif_pos h, if_pos (hc.1 h), hx]
  · rw [dif_neg h, if_neg (fun g => h (hc.2 g)), hy]

/-- The eight gradients side by side. -/
theorem v27_eq : val_main_v27 (F := Ideal) (sheet .f32 16400 256 e.q) (sheet .f32 16400 256 e.k) (sheet .f32 16400 256 e.v) (sheet .f32 16400 768 e.n) (sheet .f32 16400 256 e.z) (sheet .f32 16400 4 e.b) (sheet .f32 16400 4 e.a) (sheet .f32 16400 512 e.s) = sheet .f32 16400 2312 (cat e) := by
  funext i; idx_vars i
  have h0 := i1.isLt
  pointwise [val_main_v27]
  simp only [sheet_apply]
  unfold cat
  refine choose (by omega) (congrArg (fun j : ℕ => ((e.q i0.val j : ℝ) : EReal)) (by omega)) ?_
  refine choose (by omega) (congrArg (fun j : ℕ => ((e.k i0.val j : ℝ) : EReal)) (by omega)) ?_
  refine choose (by omega) (congrArg (fun j : ℕ => ((e.v i0.val j : ℝ) : EReal)) (by omega)) ?_
  refine choose (by omega) (congrArg (fun j : ℕ => ((e.n i0.val j : ℝ) : EReal)) (by omega)) ?_
  refine choose (by omega) (congrArg (fun j : ℕ => ((e.z i0.val j : ℝ) : EReal)) (by omega)) ?_
  refine choose (by omega) (congrArg (fun j : ℕ => ((e.b i0.val j : ℝ) : EReal)) (by omega)) ?_
  refine choose (by omega) (congrArg (fun j : ℕ => ((e.a i0.val j : ℝ) : EReal)) (by omega)) ?_
  exact congrArg (fun j : ℕ => ((e.s i0.val j : ℝ) : EReal)) (by omega)

theorem v28_eq : val_main_v28 (F := Ideal) (sheet .f32 1024 2312 w.wi) (sheet .f32 16400 256 e.q) (sheet .f32 16400 256 e.k) (sheet .f32 16400 256 e.v) (sheet .f32 16400 768 e.n) (sheet .f32 16400 256 e.z) (sheet .f32 16400 4 e.b) (sheet .f32 16400 4 e.a) (sheet .f32 16400 512 e.s) = sheet .f32 16400 1024 fun p k => dxn w (dp e p) k := by
  funext i; idx_vars i
  pointwise [val_main_v28]
  rw [v27_eq]
  simp only [sheet_apply, ← EReal.coe_mul, coe_sum]
  exact congrArg (fun t : ℝ => (t : EReal)) (sum_perm (cat e i0.val) (w.wi i1.val)).symm

theorem v33_eq : val_main_v33 (F := Ideal) (line 1024 w.g) (sheet .f32 1024 2312 w.wi) (sheet .f32 16400 256 e.q) (sheet .f32 16400 256 e.k) (sheet .f32 16400 256 e.v) (sheet .f32 16400 768 e.n) (sheet .f32 16400 256 e.z) (sheet .f32 16400 4 e.b) (sheet .f32 16400 4 e.a) (sheet .f32 16400 512 e.s) = sheet .f32 16400 1024 fun p k => dxn w (dp e p) k * w.g k := by
  funext i; idx_vars i
  pointwise [val_main_v33, val_main_v32, val_main_v14]
  rw [v28_eq]
  simp only [sheet_apply]
  refine (EReal.coe_mul _ _).symm.trans ?_
  rfl

theorem v45_at (p : Fin 16400) (l : Fin 1024) : val_main_v45 (F := Ideal) (sheet .f32 16400 1024 h) (line 1024 w.g) (sheet .f32 1024 2312 w.wi) (sheet .f32 16400 256 e.q) (sheet .f32 16400 256 e.k) (sheet .f32 16400 256 e.v) (sheet .f32 16400 768 e.n) (sheet .f32 16400 256 e.z) (sheet .f32 16400 4 e.b) (sheet .f32 16400 4 e.a) (sheet .f32 16400 512 e.s) (ix2 p l)
    = pull (fun k => ((h p.val k.val : ℝ) : EReal)) (fun k => ((dxn w (dp e p.val) k.val * w.g k.val : ℝ) : EReal)) := by
  pointwise [val_main_v45, val_main_v44, val_main_v43, val_main_v42, val_main_v41, val_main_v37, val_main_v36, val_main_v35, val_main_cst_6, val_main_cst_7, val_main_cst_8]
  rw [v33_eq]
  simp only [v11_at, Fin.sum_univ_one]
  rfl

theorem v49_eq : val_main_v49 (F := Ideal) (sheet .f32 16400 1024 h) (line 1024 w.g) (sheet .f32 1024 2312 w.wi) (sheet .f32 16400 1024 ct) (sheet .f32 16400 256 e.q) (sheet .f32 16400 256 e.k) (sheet .f32 16400 256 e.v) (sheet .f32 16400 768 e.n) (sheet .f32 16400 256 e.z) (sheet .f32 16400 4 e.b) (sheet .f32 16400 4 e.a) (sheet .f32 16400 512 e.s) = sheet .f32 16400 1024 fun p k => dh w (h p) (ct p) (dp e p) k := by
  funext i; idx_vars i
  pointwise [val_main_v49, val_main_v48, val_main_v47, val_main_v46, val_main_v40, val_main_v39, val_main_v38]
  rw [v33_eq, v45_at, v8_eq]
  refine Eq.trans ?_ ((congrArg (fun u : EReal => ((ct i0.val i1.val : ℝ) : EReal) + u) (grad_coe (h i0.val) (fun k => dxn w (dp e i0.val) k * w.g k) i1)).trans (EReal.coe_add _ _).symm)
  unfold grad
  rw [rs_coe, ← add_assoc, ← add_assoc]
  rfl

/-- The three results. -/
theorem v55_eq : val_main_v55 (F := Ideal) (sheet .f32 16400 1024 h) (line 1024 w.g) (sheet .f32 1024 2312 w.wi) (sheet .f32 16400 1024 ct) (sheet .f32 16400 256 e.q) (sheet .f32 16400 256 e.k) (sheet .f32 16400 256 e.v) (sheet .f32 16400 768 e.n) (sheet .f32 16400 256 e.z) (sheet .f32 16400 4 e.b) (sheet .f32 16400 4 e.a) (sheet .f32 16400 512 e.s) = sheet .f32 16640 1024 fun p k => dh w (front h p) (front ct p) (front (dp e) p) k := by
  unfold val_main_v55
  rw [v49_eq]
  refine (pad_sheet 16400 1024 240 16640 _ _ zero_conv h_S_ (by norm_num) _).trans (congrArg (sheet .f32 16640 1024) ?_)
  funext p k
  by_cases hp : 240 ≤ p
  · simp only [hp, if_true, front_at _ hp]
  · simp only [hp, if_false]
    exact (dh_zero w _ _ _ (front_off _ hp) (front_off _ hp) k).symm

theorem v50_eq : val_main_v50 (F := Ideal) (sheet .f32 16400 256 e.q) (sheet .f32 16400 256 e.k) (sheet .f32 16400 256 e.v) (sheet .f32 16400 768 e.n) (sheet .f32 16400 256 e.z) (sheet .f32 16400 4 e.b) (sheet .f32 16400 4 e.a) (sheet .f32 16400 512 e.s) = sheet .f32 16400 1792 (cat e) := by
  unfold val_main_v50
  rw [v27_eq]
  funext i; idx_vars i
  pointwise
  rfl
theorem v51_eq : val_main_v51 (F := Ideal) (sheet .f32 16400 256 e.q) (sheet .f32 16400 256 e.k) (sheet .f32 16400 256 e.v) (sheet .f32 16400 768 e.n) (sheet .f32 16400 256 e.z) (sheet .f32 16400 4 e.b) (sheet .f32 16400 4 e.a) (sheet .f32 16400 512 e.s) = sheet .f32 16400 512 fun p j => cat e p (1800 + j) := by
  unfold val_main_v51
  rw [v27_eq]
  funext i; idx_vars i
  pointwise
  rfl
theorem v52_eq : val_main_v52 (F := Ideal) (sheet .f32 16400 256 e.q) (sheet .f32 16400 256 e.k) (sheet .f32 16400 256 e.v) (sheet .f32 16400 768 e.n) (sheet .f32 16400 256 e.z) (sheet .f32 16400 4 e.b) (sheet .f32 16400 4 e.a) (sheet .f32 16400 512 e.s) = sheet .f32 16400 8 fun p j => cat e p (1792 + j) := by
  unfold val_main_v52
  rw [v27_eq]
  funext i; idx_vars i
  pointwise
  rfl
theorem v53_eq : val_main_v53 (F := Ideal) = sheet .f32 16400 120 fun _ _ => 0 := by
  funext i; idx_vars i
  pointwise [val_main_v53, val_main_cst_9]
  rfl

theorem v54_eq : val_main_v54 (F := Ideal) (sheet .f32 16400 256 e.q) (sheet .f32 16400 256 e.k) (sheet .f32 16400 256 e.v) (sheet .f32 16400 768 e.n) (sheet .f32 16400 256 e.z) (sheet .f32 16400 4 e.b) (sheet .f32 16400 4 e.a) (sheet .f32 16400 512 e.s) = sheet .f32 16400 2432 (dp e) := by
  unfold val_main_v54
  rw [v50_eq, v51_eq, v52_eq, v53_eq]
  funext i; idx_vars i
  have h0 := i1.isLt
  pointwise
  simp only [sheet_apply]
  unfold dp perm
  split_ifs <;> first | omega | rfl | exact congrArg (fun j : ℕ => ((cat e i0.val j : ℝ) : EReal)) (by omega)

theorem v56_eq : val_main_v56 (F := Ideal) (sheet .f32 16400 256 e.q) (sheet .f32 16400 256 e.k) (sheet .f32 16400 256 e.v) (sheet .f32 16400 768 e.n) (sheet .f32 16400 256 e.z) (sheet .f32 16400 4 e.b) (sheet .f32 16400 4 e.a) (sheet .f32 16400 512 e.s) = sheet .f32 16640 2432 (front (dp e)) := by
  unfold val_main_v56
  rw [v54_eq]
  exact pad_sheet 16400 2432 240 16640 _ _ zero_conv h_S_ (by norm_num) _

theorem v57_eq : val_main_v57 (F := Ideal) (sheet .f32 16400 256 e.q) (sheet .f32 16400 256 e.k) (sheet .f32 16400 256 e.v) (sheet .f32 16400 768 e.n) (sheet .f32 16400 256 e.z) (sheet .f32 16400 4 e.b) (sheet .f32 16400 4 e.a) (sheet .f32 16400 512 e.s) = sheet .bf16 16640 2432 (front (dp e)) := by
  unfold val_main_v57
  rw [v56_eq]
  rfl

theorem v58_at (j : S1x1024.Idx) : val_main_v58 (F := Ideal) (sheet .f32 16400 1024 h) (sheet .f32 1024 2312 w.wi) (sheet .f32 16400 256 e.q) (sheet .f32 16400 256 e.k) (sheet .f32 16400 256 e.v) (sheet .f32 16400 768 e.n) (sheet .f32 16400 256 e.z) (sheet .f32 16400 4 e.b) (sheet .f32 16400 4 e.a) (sheet .f32 16400 512 e.s) j
    = ∑ i : Fin 65, ∑ r : Fin 256, ((dg w (front h (LossSpec.row i r).val) (front (dp e) (LossSpec.row i r).val) (j 1).val : ℝ) : EReal) := by
  idx_vars j
  pointwise [val_main_v58, val_main_v34, val_main_v31, val_main_v30, val_main_v29, val_main_cst_4, val_main_cst_5]
  rw [v13_eq, v28_eq]
  simp only [Fin.sum_univ_one, sheet_apply, ← EReal.coe_mul]
  refine Eq.trans (b := ∑ p : Fin 16640, ((dg w (front h p.val) (front (dp e) p.val) j1.val : ℝ) : EReal)) ?_ (Fin.sum_mul_add_fin 65 256 (fun p : Fin 16640 => ((dg w (front h p.val) (front (dp e) p.val) j1.val : ℝ) : EReal))).symm
  refine Eq.trans ?_ (Facts.sum_window (k := 16400) 240 (by norm_num) (fun p : Fin 16640 => ((dg w (front h p.val) (front (dp e) p.val) j1.val : ℝ) : EReal)) (fun p hp => by
    rw [dg_zero w _ _ (front_off _ (show ¬240 ≤ p.val by omega)), EReal.coe_zero])).symm
  refine Finset.sum_congr rfl fun q _ => congrArg (fun t : ℝ => (t : EReal)) ?_
  have e' (f : ℕ → ℕ → ℝ) : front f (q.val + 240) = f q.val := by rw [front_at f (Nat.le_add_left _ _), Nat.add_sub_cancel]
  simp only [e']
  exact mul_comm _ _

end Cert.MixInRef

end
-- ==== Proof.MixInClaims.lean ====
/- The claims about the input projection's gradients: both programs' runs, and the equality of their three results for finite
   arguments -/
module

public import proofs.«01_k».proof.Defs
public import proofs.«01_k».proof.Proof.MixInKernel
public import proofs.«01_k».proof.Proof.MixInRef
public import proofs.«01_k».proof.Proof.Finite
public import proofs.«01_k».proof.Proof.Gen.MixIn.Frame
public import proofs.«01_k».proof.Proof.Gen.Pre_mixin_finite

@[expose] public section

set_option maxRecDepth 16384

noncomputable section

namespace Cert.MixInClaims

open Idealize.ShloMosaic Idealize.ShloMosaic.TcCoe Idealize.SL.Sem

theorem frame_kernel : Cert.quiescent_MixIn := fun m ρ _ => Cert.MixIn.Gen.frame m ρ
theorem frame_kernel_ideal : Cert.quiescent_MixInIdeal := fun m ρ _ => Cert.MixInIdeal.Gen.frame m ρ
theorem frame_ref : Cert.quiescent_MixInRefIdeal := fun m ρ _ =>
  (θ_run _ _ _).mono (fun r h => ⟨fun c => (h c).2.2.2, sem_eq_zero_of_no_sems (by decide) r.2⟩) (Cert.MixInRefIdeal.Value.run m ρ)

section
open Cert.MixInIdeal Cert.MixInIdeal.Gen Cert.MixInSpec Cert.MixInKernel
variable (m : (ℓ : Loc nD τ sig) → Buf (Elt Ideal) ℓ) (c : Dev nD)

theorem args_of_finite (hp : Cert.Pre_MixInIdeal_mixin_finite m) : ∃ (w : W) (h ct : ℕ → ℕ → ℝ) (p : Parts), Args w m c h ct p := by
  have e := congrFun (hp c) ix0
  obtain ⟨e, e11⟩ := IntOp.andi_eq_one.1 e
  obtain ⟨e, e10⟩ := IntOp.andi_eq_one.1 e
  obtain ⟨e, e9⟩ := IntOp.andi_eq_one.1 e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨⟨_, _⟩, _, _, ⟨_, _, _, _, _, _, _, _⟩,
    { h := Cert.Finite.sheet_reals2 _ (Cert.Finite.real_of_all _ _ _ _ _ e0)
      g := Cert.Finite.line_reals1 _ (Cert.Finite.real_of_all _ _ _ _ _ e1)
      wi := Cert.Finite.sheet_reals2 _ (Cert.Finite.real_of_all _ _ _ _ _ e2)
      ct := Cert.Finite.sheet_reals2 _ (Cert.Finite.real_of_all _ _ _ _ _ e3)
      q := Cert.Finite.sheet_reals2 _ (Cert.Finite.real_of_all _ _ _ _ _ e4)
      k := Cert.Finite.sheet_reals2 _ (Cert.Finite.real_of_all _ _ _ _ _ e5)
      v := Cert.Finite.sheet_reals2 _ (Cert.Finite.real_of_all _ _ _ _ _ e6)
      n := Cert.Finite.sheet_reals2 _ (Cert.Finite.real_of_all _ _ _ _ _ e7)
      z := Cert.Finite.sheet_reals2 _ (Cert.Finite.real_of_all _ _ _ _ _ e8)
      b := Cert.Finite.sheet_reals2 _ (Cert.Finite.real_of_all _ _ _ _ _ e9)
      a := Cert.Finite.sheet_reals2 _ (Cert.Finite.real_of_all _ _ _ _ _ e10)
      s := Cert.Finite.sheet_reals2 _ (Cert.Finite.real_of_all _ _ _ _ _ e11) }⟩

variable {m c} {w : W} {h ct : ℕ → ℕ → ℝ} {p : Parts} (A : Args w m c h ct p)
include A
variable
  (x0 : FVec Ideal S16400x1024 .f32) (h0 : x0 = m ((c.tc : Thread nD τ).loc main_arg0))
  (x1 : FVec Ideal S1024 .f32) (h1 : x1 = m ((c.tc : Thread nD τ).loc main_arg1))
  (x2 : FVec Ideal S1024x2312 .f32) (h2 : x2 = m ((c.tc : Thread nD τ).loc main_arg2))
  (x3 : FVec Ideal S16400x1024 .f32) (h3 : x3 = m ((c.tc : Thread nD τ).loc main_arg3))
  (x4 : FVec Ideal S16400x256 .f32) (h4 : x4 = m ((c.tc : Thread nD τ).loc main_arg4))
  (x5 : FVec Ideal S16400x256 .f32) (h5 : x5 = m ((c.tc : Thread nD τ).loc main_arg5))
  (x6 : FVec Ideal S16400x256 .f32) (h6 : x6 = m ((c.tc : Thread nD τ).loc main_arg6))
  (x7 : FVec Ideal S16400x768 .f32) (h7 : x7 = m ((c.tc : Thread nD τ).loc main_arg7))
  (x8 : FVec Ideal S16400x256 .f32) (h8 : x8 = m ((c.tc : Thread nD τ).loc main_arg8))
  (x9 : FVec Ideal S16400x4 .f32) (h9 : x9 = m ((c.tc : Thread nD τ).loc main_arg9))
  (x10 : FVec Ideal S16400x4 .f32) (h10 : x10 = m ((c.tc : Thread nD τ).loc main_arg10))
  (x11 : FVec Ideal S16400x512 .f32) (h11 : x11 = m ((c.tc : Thread nD τ).loc main_arg11))

include h0 h1 h2 h3 h4 h5 h6 h7 h8 h9 h10 h11 in
theorem same55 : Cert.MixInRefIdeal.Read.val_main_v55 (F := Ideal) x0 x1 x2 x3 x4 x5 x6 x7 x8 x9 x10 x11 = (dats m 0 c).arrAt 11 (cfgs 0).N := by
  rw [final11 A, h0, h1, h2, h3, h4, h5, h6, h7, h8, h9, h10, h11, A.h, A.g, A.wi, A.ct, A.q, A.k, A.v, A.n, A.z, A.b, A.a, A.s]
  exact MixInRef.v55_eq w h ct p

include h4 h5 h6 h7 h8 h9 h10 h11 in
theorem same57 : Cert.MixInRefIdeal.Read.val_main_v57 (F := Ideal) x4 x5 x6 x7 x8 x9 x10 x11 = (dats m 0 c).arrAt 12 (cfgs 0).N := by
  rw [final12 A, h4, h5, h6, h7, h8, h9, h10, h11, A.q, A.k, A.v, A.n, A.z, A.b, A.a, A.s]
  exact MixInRef.v57_eq p

include h0 h2 h4 h5 h6 h7 h8 h9 h10 h11 in
theorem same58 : Cert.MixInRefIdeal.Read.val_main_v58 (F := Ideal) x0 x2 x4 x5 x6 x7 x8 x9 x10 x11 = (dats m 0 c).arrAt 13 (cfgs 0).N := by
  rw [final13 A, h0, h2, h4, h5, h6, h7, h8, h9, h10, h11, A.h, A.wi, A.q, A.k, A.v, A.n, A.z, A.b, A.a, A.s]
  funext j
  exact MixInRef.v58_at w h p j

end

theorem algebraic : Cert.algebraic_MixInIdeal_MixInRefIdeal_pre_mixin_finite := fun m ρ m' ρ' hpre hag => by
  refine ⟨fun c => (Cert.MixInIdeal.Gen.dats m 0 c).arrAt 11 Cert.MixInIdeal.cfg0.N, fun c => (Cert.MixInIdeal.Gen.dats m 0 c).arrAt 12 Cert.MixInIdeal.cfg0.N,
    fun c => (Cert.MixInIdeal.Gen.dats m 0 c).arrAt 13 Cert.MixInIdeal.cfg0.N,
    Cert.MixInIdeal.Value.run_blocks m ρ,
    (θ_run _ _ _).mono (fun _ h c => ?_) (Cert.MixInRefIdeal.Value.run m' ρ')⟩
  obtain ⟨w, x, t, p, A⟩ := args_of_finite m c hpre
  obtain ⟨a0, a1, a2, a3, a4, a5, a6, a7, a8, a9, a10, a11⟩ := hag c
  exact ⟨(h c).1.trans ((Cert.MixInRefIdeal.Read.val_main_v55_eq _ _).trans (same55 A _ a0 _ a1 _ a2 _ a3 _ a4 _ a5 _ a6 _ a7 _ a8 _ a9 _ a10 _ a11)),
    (h c).2.1.trans ((Cert.MixInRefIdeal.Read.val_main_v57_eq _ _ _ _ _ _ _ _).trans (same57 A _ a4 _ a5 _ a6 _ a7 _ a8 _ a9 _ a10 _ a11)),
    (h c).2.2.1.trans ((Cert.MixInRefIdeal.Read.val_main_v58_eq _ _ _ _ _ _ _ _ _ _).trans (same58 A _ a0 _ a2 _ a4 _ a5 _ a6 _ a7 _ a8 _ a9 _ a10 _ a11)), (h c).2.2.2⟩

end Cert.MixInClaims

end
-- ==== Proof.ConvKernel.lean ====
/- The short convolution's backward call: the arrays the host prepares, and the two arrays the run leaves. -/
module

public import proofs.«01_k».proof.Proof.SbArr
public import proofs.«01_k».proof.Proof.Gen.ConvIdeal.Value
public import Idealize.ShloMosaic.Lib.Pipeline.ValueKit
public import Idealize.ShloMosaic.Lib.Pipeline.ReadBack
public import Idealize.ShloMosaic.Lib.WritesUnit

@[expose] public section

set_option maxRecDepth 16384

noncomputable section

open Idealize.ShloMosaic Idealize.ShloMosaic.TcCoe Idealize.SL.Sem

namespace Cert.ConvKernel

open Cert.ConvIdeal Cert.ConvIdeal.Gen
open Cert.SbIdeal.Sb (zero_conv)

/-- An array given by a function of its two coordinates. -/
def esheet (a b : ℕ) (f : ℕ → ℕ → EReal) : FVec Ideal ⟨2, ![a, b]⟩ .f32 := fun i => f (i 0).val (i 1).val

theorem esheet_apply {a b : ℕ} (f : ℕ → ℕ → EReal) (p : Fin a) (q : Fin b) : esheet a b f (ix2 p q) = f p.val q.val := rfl

/-- An array's entries, zero outside it. -/
def ent {a b : ℕ} (x : FVec Ideal ⟨2, ![a, b]⟩ .f32) (p q : ℕ) : EReal := if h : p < a ∧ q < b then x (ix2 ⟨p, h.1⟩ ⟨q, h.2⟩) else 0

theorem ent_of {a b : ℕ} (x : FVec Ideal ⟨2, ![a, b]⟩ .f32) {p q : ℕ} (hp : p < a) (hq : q < b) : ent x p q = x (ix2 ⟨p, hp⟩ ⟨q, hq⟩) := dif_pos ⟨hp, hq⟩
theorem ent_off {a b : ℕ} (x : FVec Ideal ⟨2, ![a, b]⟩ .f32) {p q : ℕ} (h : a ≤ p) : ent x p q = 0 := dif_neg fun k => absurd k.1 (Nat.not_lt.2 h)

/-- A choice by a decided condition. -/
theorem choice {p : Prop} [Decidable p] {b : BitVec 1} (h : b = if p then 1#1 else 0#1) (x y : EReal) : Scalar.select b x y = if p then x else y := by
  subst h; by_cases hp : p <;> simp [hp, Scalar.select]

theorem from7 : ∀ i : Fin 8, IntOp.cmpi CmpIPredicate.sge (BitVec.ofNat 32 i.val) 7#32 = if 7 ≤ i.val then 1#1 else 0#1 := by decide +kernel
theorem from6 : ∀ i : Fin 8, IntOp.cmpi CmpIPredicate.sge (BitVec.ofNat 32 i.val) 6#32 = if 6 ≤ i.val then 1#1 else 0#1 := by decide +kernel
theorem from5 : ∀ i : Fin 8, IntOp.cmpi CmpIPredicate.sge (BitVec.ofNat 32 i.val) 5#32 = if 5 ≤ i.val then 1#1 else 0#1 := by decide +kernel
theorem upto1 : ∀ i : Fin 8, IntOp.cmpi CmpIPredicate.slt (BitVec.ofNat 32 i.val) 1#32 = if i.val < 1 then 1#1 else 0#1 := by decide +kernel
theorem upto2 : ∀ i : Fin 8, IntOp.cmpi CmpIPredicate.slt (BitVec.ofNat 32 i.val) 2#32 = if i.val < 2 then 1#1 else 0#1 := by decide +kernel
theorem upto3 : ∀ i : Fin 8, IntOp.cmpi CmpIPredicate.slt (BitVec.ofNat 32 i.val) 3#32 = if i.val < 3 then 1#1 else 0#1 := by decide +kernel

theorem last {n : ℕ} (h : n < 65) : Scalar.cmpi CmpIPredicate.eq (BitVec.ofNat 32 n) 64#32 = if n = 64 then 1#1 else 0#1 :=
  (by decide +kernel : ∀ i : Fin 65, Scalar.cmpi CmpIPredicate.eq (BitVec.ofNat 32 i.val) 64#32 = if i.val = 64 then 1#1 else 0#1) ⟨n, h⟩
theorem first {n : ℕ} (h : n < 65) : Scalar.cmpi CmpIPredicate.eq (BitVec.ofNat 32 n) 0#32 = if n = 0 then 1#1 else 0#1 :=
  (by decide +kernel : ∀ i : Fin 65, Scalar.cmpi CmpIPredicate.eq (BitVec.ofNat 32 i.val) 0#32 = if i.val = 0 then 1#1 else 0#1) ⟨n, h⟩

/-- The gradient in the rows of a block: the cotangent's four rows from its own on, each times its tap. -/
def mix (C : ℕ → ℕ → EReal) (W : ℕ → ℕ → EReal) (p l : ℕ) : EReal := C p l * W 3 l + C (p + 1) l * W 2 l + C (p + 2) l * W 1 l + C (p + 3) l * W 0 l

variable (C X : ℕ → ℕ → EReal) (W : ℕ → ℕ → EReal)

theorem pay2_eq : k0_pay2 (F := Ideal) (esheet 256 768 C) = esheet 256 768 C := by
  funext i; idx_vars i; pointwise [k0_pay2]

theorem up1 (l : Fin 768) (r : Fin 256) (h : ¬r.val < 248) : Scalar.select (IntOp.cmpi CmpIPredicate.sge (BitVec.ofNat 32 (r.val - 248)) 7#32) (C (256 + (r.val - 248 + 8 - 7) % 8) l.val) (C ((248 + (r.val - 248) + 256 - 255) % 256) l.val) = C (r.val + 1) l.val := by
  have := r.isLt
  rw [choice (from7 ⟨r.val - 248, by omega⟩)]
  split_ifs with h7 <;> exact congrArg (fun p => C p l.val) (by dsimp only at h7; omega)
theorem up2 (l : Fin 768) (r : Fin 256) (h : ¬r.val < 248) : Scalar.select (IntOp.cmpi CmpIPredicate.sge (BitVec.ofNat 32 (r.val - 248)) 6#32) (C (256 + (r.val - 248 + 8 - 6) % 8) l.val) (C ((248 + (r.val - 248) + 256 - 254) % 256) l.val) = C (r.val + 2) l.val := by
  have := r.isLt
  rw [choice (from6 ⟨r.val - 248, by omega⟩)]
  split_ifs with h7 <;> exact congrArg (fun p => C p l.val) (by dsimp only at h7; omega)
theorem up3 (l : Fin 768) (r : Fin 256) (h : ¬r.val < 248) : Scalar.select (IntOp.cmpi CmpIPredicate.sge (BitVec.ofNat 32 (r.val - 248)) 5#32) (C (256 + (r.val - 248 + 8 - 5) % 8) l.val) (C ((248 + (r.val - 248) + 256 - 253) % 256) l.val) = C (r.val + 3) l.val := by
  have := r.isLt
  rw [choice (from5 ⟨r.val - 248, by omega⟩)]
  split_ifs with h7 <;> exact congrArg (fun p => C p l.val) (by dsimp only at h7; omega)

/-- A choice both of whose branches are one value. -/
theorem either {p : Prop} [Decidable p] {x : p → EReal} {y : ¬p → EReal} {z : EReal} (hx : ∀ h, x h = z) (hy : ∀ h, y h = z) : (if h : p then x h else y h) = z := by
  by_cases h : p
  · rw [dif_pos h]; exact hx h
  · rw [dif_neg h]; exact hy h

/-- A block's own rows and the eight after it give the rows one, two and three further on. -/
theorem dx_eq (i : grid0.Coords) (n8 : FVec Ideal S8x768 .f32) (hn : k0_pay3 (F := Ideal) i n8 = esheet 8 768 fun r => C (256 + r)) :
    k0_pay15 (F := Ideal) (k0_pay2 (esheet 256 768 C)) (k0_pay3 i n8)
      (k0_pay12 (k0_pay2 (esheet 256 768 C)) (k0_pay3 i n8) (k0_pay6 (esheet 256 768 C) (esheet 1 768 fun _ => W 3)) (k0_pay8 (esheet 256 768 C)) k0_pay9 (k0_pay10 i n8) (esheet 1 768 fun _ => W 2) (esheet 1 768 fun _ => W 1))
      (esheet 1 768 fun _ => W 0)
    = esheet 256 768 (mix C W) := by
  unfold k0_pay10
  rw [hn, pay2_eq]
  funext i; idx_vars i
  pointwise [k0_pay15, k0_pay12, k0_pay6, k0_pay8, k0_pay9]
  rw [pay2_eq]
  simp only [esheet_apply]
  unfold mix
  have := i0.isLt
  refine congrArg₂ (· + ·) (congrArg₂ (· + ·) (congrArg₂ (· + ·) rfl ?_) ?_) ?_
  · exact congrArg (· * W 2 i1.val) (either (fun h => congrArg (fun p => C p i1.val) (by omega)) (fun h => up1 C i1 i0 h))
  · exact congrArg (· * W 1 i1.val) (either (fun h => congrArg (fun p => C p i1.val) (by omega)) (fun h => up2 C i1 i0 h))
  · exact congrArg (· * W 0 i1.val) (either (fun h => congrArg (fun p => C p i1.val) (by omega)) (fun h => up3 C i1 i0 h))

theorem pay5_eq : k0_pay5 (F := Ideal) (esheet 256 768 C) = esheet 256 768 C := by
  funext i; idx_vars i; pointwise [k0_pay5]
theorem pay13_eq (acc : FVec Ideal S1x768 .f32) : k0_pay13 (F := Ideal) acc = acc := by
  funext i; idx_vars i; pointwise [k0_pay13]

theorem pay7_eq (acc : FVec Ideal S1x768 .f32) (z : Fin 1) (l : Fin 768) :
    k0_pay7 (F := Ideal) (esheet 256 768 C) (esheet 256 768 X) acc (ix2 z l) = acc (ix2 z l) + ∑ r : Fin 256, C r.val l.val * X r.val l.val := by
  obtain rfl : z = 0 := Subsingleton.elim _ _
  pointwise [k0_pay7, k0_pay5]
  rw [pay2_eq]
  simp only [esheet_apply]

/-- A sum over a block's first eight rows and its other ones. -/
theorem eight (f : Fin 256 → EReal) (g : Fin 8 → EReal) (g' : Fin 248 → EReal) (h : ∀ x, g x = f ⟨x.val, by omega⟩) (h' : ∀ x, g' x = f ⟨8 + x.val, by omega⟩) :
    ∑ x, g x + ∑ x, g' x = ∑ r, f r := by
  rw [show ∑ r, f r = ∑ x : Fin 8, f (Fin.castAdd 248 x) + ∑ x : Fin 248, f (Fin.natAdd 8 x) from Fin.sum_univ_add (a := 8) (b := 248) (fun i : Fin (8 + 248) => f i), Finset.sum_congr rfl fun x _ => h x, Finset.sum_congr rfl fun x _ => h' x]
  rfl

theorem down1 (l : Fin 768) (r : Fin 8) : Scalar.select (IntOp.cmpi CmpIPredicate.slt (BitVec.ofNat 32 r.val) 1#32) (X ((r.val + 8 - 1) % 8) l.val) (X (8 + (r.val + 256 - 1) % 256) l.val) = X (7 + r.val) l.val := by
  have := r.isLt
  rw [choice (upto1 r)]
  split_ifs with h7 <;> exact congrArg (fun p => X p l.val) (by omega)
theorem down2 (l : Fin 768) (r : Fin 8) : Scalar.select (IntOp.cmpi CmpIPredicate.slt (BitVec.ofNat 32 r.val) 2#32) (X ((r.val + 8 - 2) % 8) l.val) (X (8 + (r.val + 256 - 2) % 256) l.val) = X (6 + r.val) l.val := by
  have := r.isLt
  rw [choice (upto2 r)]
  split_ifs with h7 <;> exact congrArg (fun p => X p l.val) (by omega)
theorem down3 (l : Fin 768) (r : Fin 8) : Scalar.select (IntOp.cmpi CmpIPredicate.slt (BitVec.ofNat 32 r.val) 3#32) (X ((r.val + 8 - 3) % 8) l.val) (X (8 + (r.val + 256 - 3) % 256) l.val) = X (5 + r.val) l.val := by
  have := r.isLt
  rw [choice (upto3 r)]
  split_ifs with h7 <;> exact congrArg (fun p => X p l.val) (by omega)

theorem pay11_eq (acc : FVec Ideal S1x768 .f32) (z : Fin 1) (l : Fin 768) :
    k0_pay11 (F := Ideal) (esheet 256 768 C) (esheet 8 768 X) (esheet 256 768 fun r => X (8 + r)) acc (ix2 z l) = acc (ix2 z l) + ∑ r : Fin 256, C r.val l.val * X (7 + r.val) l.val := by
  obtain rfl : z = 0 := Subsingleton.elim _ _
  pointwise [k0_pay11]
  simp only [esheet_apply]
  exact congrArg (acc (ix2 0 l) + ·) (eight (fun r => C r.val l.val * X (7 + r.val) l.val) _ _ (fun x => congrArg (C x.val l.val * ·) (down1 X l x))
    fun x => congrArg (fun p => C (8 + x.val) l.val * X p l.val) (show 8 + (8 + x.val + 256 - 1) % 256 = 7 + (8 + x.val) by have := x.isLt; omega))
theorem pay14_eq (acc : FVec Ideal S1x768 .f32) (z : Fin 1) (l : Fin 768) :
    k0_pay14 (F := Ideal) (esheet 256 768 C) (esheet 8 768 X) (esheet 256 768 fun r => X (8 + r)) acc 2#32 (ix2 z l) = acc (ix2 z l) + ∑ r : Fin 256, C r.val l.val * X (6 + r.val) l.val := by
  obtain rfl : z = 0 := Subsingleton.elim _ _
  pointwise [k0_pay14]
  simp only [esheet_apply]
  exact congrArg (acc (ix2 0 l) + ·) (eight (fun r => C r.val l.val * X (6 + r.val) l.val) _ _ (fun x => congrArg (C x.val l.val * ·) (down2 X l x))
    fun x => congrArg (fun p => C (8 + x.val) l.val * X p l.val) (show 8 + (8 + x.val + 256 - 2) % 256 = 6 + (8 + x.val) by have := x.isLt; omega))
theorem pay16_eq (acc : FVec Ideal S1x768 .f32) (z : Fin 1) (l : Fin 768) :
    k0_pay16 (F := Ideal) (esheet 256 768 C) (esheet 8 768 X) (esheet 256 768 fun r => X (8 + r)) acc (ix2 z l) = acc (ix2 z l) + ∑ r : Fin 256, C r.val l.val * X (5 + r.val) l.val := by
  obtain rfl : z = 0 := Subsingleton.elim _ _
  pointwise [k0_pay16]
  simp only [esheet_apply]
  exact congrArg (acc (ix2 0 l) + ·) (eight (fun r => C r.val l.val * X (5 + r.val) l.val) _ _ (fun x => congrArg (C x.val l.val * ·) (down3 X l x))
    fun x => congrArg (fun p => C (8 + x.val) l.val * X p l.val) (show 8 + (8 + x.val + 256 - 3) % 256 = 5 + (8 + x.val) by have := x.isLt; omega))

/-- The host's zeros: in front of the rows, beside them, below the taps. -/
def wide (x : FVec Ideal S16400x768 .f32) : FVec Ideal S16640x1664 .f32 :=
  pad S16640x1664 ![240, 0] ![0, 896] ![0, 0] x (sitofp (F := Ideal) .f32 (constantI S_ 32 0#32)) pads_S16400x768_S16640x1664_24000_08960 h_S_
def fronted (x : FVec Ideal S16400x768 .f32) : FVec Ideal S16640x768 .f32 :=
  pad S16640x768 ![240, 0] ![0, 0] ![0, 0] x (sitofp (F := Ideal) .f32 (constantI S_ 32 0#32)) pads_S16400x768_S16640x768_24000_000 h_S_
def taps (w : FVec Ideal S4x768 .f32) : FVec Ideal S8x768 .f32 :=
  pad S8x768 ![0, 0] ![4, 0] ![0, 0] w (sitofp (F := Ideal) .f32 (constantI S_ 32 0#32)) pads_S4x768_S8x768_040_000 h_S_

/-- Rows behind two hundred and forty zero rows. -/
def fr (x : FVec Ideal S16400x768 .f32) (p l : ℕ) : EReal := if 240 ≤ p then ent x (p - 240) l else 0

theorem fr_end (x : FVec Ideal S16400x768 .f32) {p l : ℕ} (h : 16640 ≤ p) : fr x p l = 0 := by
  unfold fr; rw [if_pos (by omega), ent_off x (by omega)]

theorem fronted_eq (x : FVec Ideal S16400x768 .f32) : fronted x = esheet 16640 768 (fr x) := by
  funext i; idx_vars i
  pointwise [fronted]
  simp only [esheet_apply]
  unfold fr ent
  have := i0.isLt
  split_ifs <;> first | rfl | omega | exact congrFun zero_conv ix0
theorem wide_eq (x : FVec Ideal S16400x768 .f32) : wide x = esheet 16640 1664 (fr x) := by
  funext i; idx_vars i
  pointwise [wide]
  simp only [esheet_apply]
  unfold fr ent
  have := i0.isLt
  split_ifs <;> first | rfl | omega | exact congrFun zero_conv ix0
theorem taps_eq (x : FVec Ideal S4x768 .f32) : taps x = esheet 8 768 (ent x) := by
  funext i; idx_vars i
  pointwise [taps]
  simp only [esheet_apply]
  unfold ent
  have := i1.isLt
  split_ifs <;> first | rfl | omega | exact congrFun zero_conv ix0

variable {m : (ℓ : Loc nD τ sig) → Buf (Elt Ideal) ℓ} {c : Dev nD}

abbrev argX (m : (ℓ : Loc nD τ sig) → Buf (Elt Ideal) ℓ) (c : Dev nD) : FVec Ideal S16400x768 .f32 := m ((c.tc : Thread nD τ).loc main_arg0)
abbrev argW (m : (ℓ : Loc nD τ sig) → Buf (Elt Ideal) ℓ) (c : Dev nD) : FVec Ideal S4x768 .f32 := m ((c.tc : Thread nD τ).loc main_arg1)
abbrev argC (m : (ℓ : Loc nD τ sig) → Buf (Elt Ideal) ℓ) (c : Dev nD) : FVec Ideal S16400x768 .f32 := m ((c.tc : Thread nD τ).loc main_arg2)

theorem v0_eq : (V m c main_v0 : FVec Ideal S16640x1664 .f32) = esheet 16640 1664 (fr (argX m c)) :=
  Eq.trans (b := wide (argX m c)) (by sl_kernel_rfl) (wide_eq _)
theorem v1_eq : (V m c main_v1 : FVec Ideal S16640x768 .f32) = esheet 16640 768 (fr (argC m c)) :=
  Eq.trans (b := fronted (argC m c)) (by sl_kernel_rfl) (fronted_eq _)
theorem v2_eq : (V m c main_v2 : FVec Ideal S8x768 .f32) = esheet 8 768 (ent (argW m c)) :=
  Eq.trans (b := taps (argW m c)) (by sl_kernel_rfl) (taps_eq _)

theorem idx_val : ∀ t : Fin cfg0.N, win0_0.index t = ![t.val, 0] ∧ win0_1.index t = ![min ((t.val + 1) * 32) 2079, 0] ∧ win0_2.index t = ![t.val, 0]
    ∧ win0_3.index t = ![t.val * 32 - 1, 0] ∧ win0_4.index t = ![0, 0] ∧ win0_5.index t = ![t.val, 0] ∧ win0_6.index t = ![0, 0]
    ∧ (grid0.coords t 0).val = t.val :=
  (by decide +kernel : ∀ t : Fin grid0.N, _)

/-- The point's number, and a row of the array from a block's. -/
def pt (t : Fin cfg0.N) : Fin 65 := ⟨t.val, lt_of_lt_of_eq t.isLt N_0⟩
def row (i : Fin 65) (r : Fin 256) : Fin 16640 := ⟨i.val * 256 + r.val, by omega⟩
/-- The rows' eight forerunners, zero before the first. -/
def late (f : ℕ → ℕ → EReal) (q l : ℕ) : EReal := if q < 8 then 0 else f (q - 8) l

theorem blk0 (t : Fin cfg0.N) : (iblk m c 0 t : FVec Ideal S256x768 .f32) = esheet 256 768 fun r => fr (argC m c) (t.val * 256 + r) := by
  funext y; idx_vars y
  exact Eq.trans (b := (V m c main_v1 : FVec Ideal S16640x768 .f32) (ix2 (row (pt t) y0) y1)) (by unfold row pt; blk_ext [iblk, idx_val t]) (congrFun v1_eq _)
theorem blk1 (t : Fin cfg0.N) : k0_pay3 (F := Ideal) (grid0.coords t) (iblk m c 1 t) = esheet 8 768 fun r => fr (argC m c) (t.val * 256 + (256 + r)) := by
  have ht := lt_of_lt_of_eq t.isLt N_0
  funext y; idx_vars y
  have h0 := y0.isLt
  pointwise [k0_pay3]
  rw [(idx_val t).2.2.2.2.2.2.2, choice (last ht)]
  simp only [esheet_apply]
  by_cases h : t.val = 64
  · rw [if_pos h, fr_end _ (by omega)]
  · rw [if_neg h]
    exact Eq.trans (b := (V m c main_v1 : FVec Ideal S16640x768 .f32) (ix2 ⟨t.val * 256 + (256 + y0.val), by omega⟩ y1)) (by blk_ext [iblk, idx_val t]) (congrFun v1_eq _)
theorem blk2 (t : Fin cfg0.N) : (X0_2 m c t : FVec Ideal S256x768 .f32) = esheet 256 768 fun r => late (fr (argX m c)) (t.val * 256 + (8 + r)) := by
  funext y; idx_vars y
  unfold X0_2 Pipeline.Window.fill
  rw [dif_pos (moved0_2 t (ix2 y0 y1))]
  have h0 := y0.isLt
  simp only [esheet_apply]
  unfold late
  rw [if_neg (by omega), show t.val * 256 + (8 + y0.val) - 8 = t.val * 256 + y0.val by omega]
  exact Eq.trans (b := (V m c main_v0 : FVec Ideal S16640x1664 .f32) (ix2 (row (pt t) y0) ⟨y1.val, by omega⟩)) (by unfold row pt; blk_ext [iblk, idx_val t]) (congrFun v0_eq _)
theorem blk3 (t : Fin cfg0.N) : k0_pay4 (F := Ideal) (grid0.coords t) (X0_3 m c t) = esheet 8 768 fun r => late (fr (argX m c)) (t.val * 256 + r) := by
  have ht := lt_of_lt_of_eq t.isLt N_0
  funext y; idx_vars y
  have h0 := y0.isLt
  pointwise [k0_pay4]
  rw [(idx_val t).2.2.2.2.2.2.2, choice (first ht)]
  simp only [esheet_apply]
  unfold late
  by_cases h : t.val = 0
  · rw [if_pos h, if_pos (by omega)]
  · rw [if_neg h, if_neg (by omega)]
    unfold X0_3 Pipeline.Window.fill
    rw [dif_pos (moved0_3 t (ix2 y0 y1))]
    exact Eq.trans (b := (V m c main_v0 : FVec Ideal S16640x1664 .f32) (ix2 ⟨t.val * 256 + y0.val - 8, by omega⟩ ⟨y1.val, by omega⟩)) (by blk_ext [iblk, idx_val t]) (congrFun v0_eq _)
theorem blk4 (t : Fin cfg0.N) : (iblk m c 4 t : FVec Ideal S8x768 .f32) = esheet 8 768 (ent (argW m c)) := by
  funext y; idx_vars y
  exact Eq.trans (b := (V m c main_v2 : FVec Ideal S8x768 .f32) (ix2 y0 y1)) (by blk_ext [iblk, idx_val t]) (congrFun v2_eq _)

theorem tap (t : Fin cfg0.N) (j : ℕ) (hj : j < 8) (inb) : (View.ld (iblk m c 4 t) (Rect.unit (s := S8x768) ![j, 0] ![1, 768] inb) : FVec Ideal S1x768 .f32) = esheet 1 768 fun _ => ent (argW m c) j := by
  rw [blk4]; funext y; idx_vars y
  obtain rfl : y0 = 0 := Subsingleton.elim _ _
  pointwise
  rfl

theorem out5 (t : Fin cfg0.N) : ((outsAt0 m c t.val t.isLt).1 : FVec Ideal S256x768 .f32) = esheet 256 768 fun r => mix (fr (argC m c)) (ent (argW m c)) (t.val * 256 + r) := by
  have e := dx_eq (fun r => fr (argC m c) (t.val * 256 + r)) (ent (argW m c)) (grid0.coords t) (iblk m c 1 t) (blk1 t)
  rw [← blk0 t, ← tap t 0 (by omega) inb_S8x768_S1x768_0_0, ← tap t 1 (by omega) inb_S8x768_S1x768_1_0, ← tap t 2 (by omega) inb_S8x768_S1x768_2_0, ← tap t 3 (by omega) inb_S8x768_S1x768_3_0] at e
  refine Eq.trans ?_ e
  funext y
  by_cases h0 : t.val % 65 = 0
  · rw [outsAt0_A m c t h0]
    frame_out
    rfl
  · rw [outsAt0_B m c t h0]
    frame_out
    rfl

theorem final5 : (dats m 0 c).arrAt 5 (cfgs 0).N = (esheet 16640 768 (mix (fr (argC m c)) (ent (argW m c))) : FVec Ideal S16640x768 .f32) := by
  refine (dats m 0 c).arrAt_eq_of_covers 5 _ (by decide +kernel) fun t _ y => ?_
  blk_simp
  rw [after0_5, out5 t]
  idx_vars y
  have e0 : ((View.whole main_v3_0).slice (win0_5.rect t)).emb (ix2 y0 y1) = ix2 (row (pt t) y0) y1 := by
    unfold row pt
    blk_ext [idx_val t]
  rw [e0]
  rfl

/-- What row `p` adds to the gradient of tap `j`. -/
def share (C X : ℕ → ℕ → EReal) (j : Fin 8) (p : Fin 16640) (l : Fin 768) : EReal := if j.val < 4 then C p.val l.val * late X (p.val + (5 + j.val)) l.val else 0

variable (m c) in
/-- What a point adds to the taps' gradients. -/
def add (t : Fin cfg0.N) (j : Fin 8) (l : Fin 768) : EReal := ∑ r : Fin 256, share (fr (argC m c)) (fr (argX m c)) j (row (pt t) r) l

theorem add_of (t : Fin cfg0.N) (j : Fin 8) (hj : j.val < 4) (k : ℕ) (hk : k = 5 + j.val) (l : Fin 768) (x : EReal) :
    x + ∑ r : Fin 256, fr (argC m c) (t.val * 256 + r.val) l.val * late (fr (argX m c)) (t.val * 256 + (k + r.val)) l.val = x + add m c t j l := by
  subst hk
  unfold add share
  simp only [if_pos hj]
  refine congrArg (x + ·) (Finset.sum_congr rfl fun r _ => ?_)
  exact congrArg (fun p => fr (argC m c) (t.val * 256 + r.val) l.val * late (fr (argX m c)) p l.val) (show _ = t.val * 256 + r.val + (5 + j.val) by omega)

theorem add3 (t : Fin cfg0.N) (acc : FVec Ideal S1x768 .f32) (z : Fin 1) (l : Fin 768) : k0_pay7 (F := Ideal) (iblk m c 0 t) (X0_2 m c t) acc (ix2 z l) = acc (ix2 z l) + add m c t 3 l := by
  rw [blk0 t, blk2 t]
  exact (pay7_eq _ _ acc z l).trans (add_of t 3 (by decide) 8 rfl l _)
theorem add2 (t : Fin cfg0.N) (acc : FVec Ideal S1x768 .f32) (z : Fin 1) (l : Fin 768) : k0_pay11 (F := Ideal) (k0_pay2 (iblk m c 0 t)) (k0_pay4 (grid0.coords t) (X0_3 m c t)) (k0_pay5 (X0_2 m c t)) acc (ix2 z l) = acc (ix2 z l) + add m c t 2 l := by
  rw [blk0 t, blk2 t, blk3 t, pay2_eq, pay5_eq]
  exact (pay11_eq _ (fun r => late (fr (argX m c)) (t.val * 256 + r)) acc z l).trans (add_of t 2 (by decide) 7 rfl l _)
theorem add1 (t : Fin cfg0.N) (acc : FVec Ideal S1x768 .f32) (z : Fin 1) (l : Fin 768) : k0_pay14 (F := Ideal) (k0_pay2 (iblk m c 0 t)) (k0_pay4 (grid0.coords t) (X0_3 m c t)) (k0_pay5 (X0_2 m c t)) (k0_pay13 acc) 2#32 (ix2 z l) = acc (ix2 z l) + add m c t 1 l := by
  rw [blk0 t, blk2 t, blk3 t, pay2_eq, pay5_eq, pay13_eq]
  exact (pay14_eq _ (fun r => late (fr (argX m c)) (t.val * 256 + r)) acc z l).trans (add_of t 1 (by decide) 6 rfl l _)
theorem add0 (t : Fin cfg0.N) (acc : FVec Ideal S1x768 .f32) (z : Fin 1) (l : Fin 768) : k0_pay16 (F := Ideal) (k0_pay2 (iblk m c 0 t)) (k0_pay4 (grid0.coords t) (X0_3 m c t)) (k0_pay5 (X0_2 m c t)) acc (ix2 z l) = acc (ix2 z l) + add m c t 0 l := by
  rw [blk0 t, blk2 t, blk3 t, pay2_eq, pay5_eq]
  exact (pay16_eq _ (fun r => late (fr (argX m c)) (t.val * 256 + r)) acc z l).trans (add_of t 0 (by decide) 5 rfl l _)

theorem add_off (t : Fin cfg0.N) (j : Fin 8) (hj : ¬j.val < 4) (l : Fin 768) : add m c t j l = 0 := by
  unfold add share
  simp only [if_neg hj]
  exact Finset.sum_const_zero

/-- The four rows stored over what a block of eight held. -/
theorem rows {κ : Kind} {sp : Space} (v : View sig κ sp S8x768 .f32) (f : v.ty.Contents (Elt Ideal)) (L : List (View.Piece (Elt Ideal) S8x768 .f32)) (p0 p1 p2 p3 : FVec Ideal S1x768 .f32) (j : Fin 8) (l : Fin 768) :
    View.read (Elt Ideal) v (v.writes (Elt Ideal) f (⟨Rect.unit ![0, 0] ![1, 768] inb_S8x768_S1x768_0_0, p0⟩ :: ⟨Rect.unit ![1, 0] ![1, 768] inb_S8x768_S1x768_1_0, p1⟩
      :: ⟨Rect.unit ![2, 0] ![1, 768] inb_S8x768_S1x768_2_0, p2⟩ :: ⟨Rect.unit ![3, 0] ![1, 768] inb_S8x768_S1x768_3_0, p3⟩ :: L)) (ix2 j l)
    = if j.val = 0 then p0 (ix2 0 l) else if j.val = 1 then p1 (ix2 0 l) else if j.val = 2 then p2 (ix2 0 l) else if j.val = 3 then p3 (ix2 0 l)
      else View.read (Elt Ideal) v (v.writes (Elt Ideal) f L) (ix2 j l) := by
  by_cases e0 : j.val = 0
  · rw [if_pos e0]
    exact View.read_writes_cons_rows_of_mem (o := 0) v f _ p0 _ (ix2 j l) (ix2 (0 : Fin 1) l) rfl e0 rfl
  rw [if_neg e0]
  refine (View.read_writes_cons_rows_of_not_mem (o := 0) (W := 1) v f _ p0 _ (ix2 j l) rfl rfl (by right; show 0 + 1 ≤ j.val; omega)).trans ?_
  by_cases e1 : j.val = 1
  · rw [if_pos e1]
    exact View.read_writes_cons_rows_of_mem (o := 1) v f _ p1 _ (ix2 j l) (ix2 (0 : Fin 1) l) rfl e1 rfl
  rw [if_neg e1]
  refine (View.read_writes_cons_rows_of_not_mem (o := 1) (W := 1) v f _ p1 _ (ix2 j l) rfl rfl (by right; show 1 + 1 ≤ j.val; omega)).trans ?_
  by_cases e2 : j.val = 2
  · rw [if_pos e2]
    exact View.read_writes_cons_rows_of_mem (o := 2) v f _ p2 _ (ix2 j l) (ix2 (0 : Fin 1) l) rfl e2 rfl
  rw [if_neg e2]
  refine (View.read_writes_cons_rows_of_not_mem (o := 2) (W := 1) v f _ p2 _ (ix2 j l) rfl rfl (by right; show 2 + 1 ≤ j.val; omega)).trans ?_
  by_cases e3 : j.val = 3
  · rw [if_pos e3]
    exact View.read_writes_cons_rows_of_mem (o := 3) v f _ p3 _ (ix2 j l) (ix2 (0 : Fin 1) l) rfl e3 rfl
  rw [if_neg e3]
  exact View.read_writes_cons_rows_of_not_mem (o := 3) (W := 1) v f _ p3 _ (ix2 j l) rfl rfl (by right; show 3 + 1 ≤ j.val; omega)

theorem filled {κ : Kind} {sp : Space} (v : View sig κ sp S8x768 .f32) (Z : S8x768.Idx → Elt Ideal .f32) (r : Rect S8x768) :
    v.readCov [⟨Rect.unit ![0, 0] ![8, 768] inb_S8x768_S8x768_0_0, Z⟩] r.toLoadRect = View.ld Z r :=
  View.readCov_fill v inb_S8x768_S8x768_0_0 Z [] r (by intro a; fin_cases a <;> rfl)
/-- A row's load passes over the store of a later row. -/
theorem skip {κ : Kind} {sp : Space} (v : View sig κ sp S8x768 .f32) (L : List (View.Piece (Elt Ideal) S8x768 .f32)) {i j : ℕ} (hi) (hj) (p : (Rect.unit (s := S8x768) ![i, 0] ![1, 768] hi).shape.Idx → Elt Ideal .f32) (h : j < i) :
    v.readCov (⟨Rect.unit (s := S8x768) ![i, 0] ![1, 768] hi, p⟩ :: L) (Rect.unit (s := S8x768) ![j, 0] ![1, 768] hj).toLoadRect = v.readCov L (Rect.unit (s := S8x768) ![j, 0] ![1, 768] hj).toLoadRect :=
  View.readCov_skip v _ p L _ (decide_eq_true ⟨0, Or.inr (Or.inr (Or.inr (show j + 1 * (1 - 1) < i by omega)))⟩)

/-- A row of the zero block. -/
theorem zero_row (j : ℕ) (hj) (l : Fin 768) : (View.ld (Val := Elt Ideal) (e' := .f32) (k0_pay1 (F := Ideal)) (Rect.unit (s := S8x768) ![j, 0] ![1, 768] hj) : FVec Ideal S1x768 .f32) (ix2 0 l) = 0 := by
  pointwise [k0_pay1]

theorem held_zero {κ : Kind} {sp : Space} (v : View sig κ sp S8x768 .f32) (f : v.ty.Contents (Elt Ideal)) (y : S8x768.Idx) :
    View.read (Elt Ideal) v (v.writes (Elt Ideal) f [⟨Rect.unit ![0, 0] ![8, 768] inb_S8x768_S8x768_0_0, k0_pay1 (F := Ideal)⟩]) y = (0 : EReal) := by
  refine (View.read_writes_cons_unit_of_mem v f inb_S8x768_S8x768_0_0 (k0_pay1 (F := Ideal)) [] y y rfl (by intro a; fin_cases a <;> exact (Nat.zero_add _).symm)).trans ?_
  idx_vars y
  pointwise [k0_pay1]

/-- The four rows stored over zeros. -/
theorem rows_zero {κ : Kind} {sp : Space} (v : View sig κ sp S8x768 .f32) (p0 p1 p2 p3 : FVec Ideal S1x768 .f32) (j : Fin 8) (l : Fin 768) :
    (View.canon (Val := Elt Ideal) (e := .f32) [⟨Rect.unit ![0, 0] ![1, 768] inb_S8x768_S1x768_0_0, p0⟩, ⟨Rect.unit ![1, 0] ![1, 768] inb_S8x768_S1x768_1_0, p1⟩,
      ⟨Rect.unit ![2, 0] ![1, 768] inb_S8x768_S1x768_2_0, p2⟩, ⟨Rect.unit ![3, 0] ![1, 768] inb_S8x768_S1x768_3_0, p3⟩,
      ⟨Rect.unit ![0, 0] ![8, 768] inb_S8x768_S8x768_0_0, k0_pay1 (F := Ideal)⟩] : FVec Ideal S8x768 .f32) (ix2 j l)
    = if j.val = 0 then p0 (ix2 0 l) else if j.val = 1 then p1 (ix2 0 l) else if j.val = 2 then p2 (ix2 0 l) else if j.val = 3 then p3 (ix2 0 l) else 0 := by
  refine (View.read_writes_apply_eq_canon (Val := Elt Ideal) v v.junk (ix2 j l) _ ⟨⟨Rect.unit ![0, 0] ![8, 768] inb_S8x768_S8x768_0_0, k0_pay1 (F := Ideal)⟩, by simp only [List.mem_cons, true_or, or_true], ?_⟩).symm.trans ((rows v v.junk [⟨Rect.unit ![0, 0] ![8, 768] inb_S8x768_S8x768_0_0, k0_pay1 (F := Ideal)⟩] p0 p1 p2 p3 j l).trans ?_)
  · refine (Rect.mem_set_unit (inb := inb_S8x768_S8x768_0_0)).2 fun a => ?_
    fin_cases a
    · exact ⟨Nat.zero_le _, j.isLt⟩
    · exact ⟨Nat.zero_le _, l.isLt⟩
  · rw [held_zero]

/-- Five equal choices by the row. -/
theorem rowwise {j : Fin 8} {x0 x1 x2 x3 x4 z : EReal} (h0 : j = 0 → x0 = z) (h1 : j = 1 → x1 = z) (h2 : j = 2 → x2 = z) (h3 : j = 3 → x3 = z) (h4 : ¬j.val < 4 → x4 = z) :
    (if j.val = 0 then x0 else if j.val = 1 then x1 else if j.val = 2 then x2 else if j.val = 3 then x3 else x4) = z := by
  split_ifs with a b d e
  · exact h0 (Fin.ext a)
  · exact h1 (Fin.ext b)
  · exact h2 (Fin.ext d)
  · exact h3 (Fin.ext e)
  · exact h4 (by omega)

theorem oA6 (t : Fin cfg0.N) (j : Fin 8) (l : Fin 768) (h0 : t.val % 65 = 0) : ((outsAt0 m c t.val t.isLt).2 : FVec Ideal S8x768 .f32) (ix2 j l) = 0 + add m c t j l := by
    rw [outsAt0_A m c t h0]
    frame_out
    rw [skip _ _ _ _ _ (show 0 < 1 by decide)]
    simp only [skip _ _ _ _ _ (show 0 < 2 by decide), skip _ _ _ _ _ (show 0 < 3 by decide), skip _ _ _ _ _ (show 1 < 2 by decide), skip _ _ _ _ _ (show 1 < 3 by decide), skip _ _ _ _ _ (show 2 < 3 by decide), filled]
    refine (rows_zero (ms0_6 t).view _ _ _ _ j l).trans (rowwise ?_ ?_ ?_ ?_ ?_)
    · rintro rfl; exact (add0 t _ 0 l).trans (congrArg (· + add m c t 0 l) (zero_row 0 _ l))
    · rintro rfl; exact (add1 t _ 0 l).trans (congrArg (· + add m c t 1 l) (zero_row 1 _ l))
    · rintro rfl; exact (add2 t _ 0 l).trans (congrArg (· + add m c t 2 l) (zero_row 2 _ l))
    · rintro rfl; exact (add3 t _ 0 l).trans (congrArg (· + add m c t 3 l) (zero_row 3 _ l))
    · intro h; rw [add_off t j h, add_zero]

/-- A row of a block of eight. -/
theorem row_of (X : S8x768.Idx → Elt Ideal .f32) (j : Fin 8) (hj) (l : Fin 768) : (View.ld X (Rect.unit (s := S8x768) ![j.val, 0] ![1, 768] hj) : FVec Ideal S1x768 .f32) (ix2 0 l) = X (ix2 j l) := by
  pointwise

theorem oB6 (t : Fin cfg0.N) (j : Fin 8) (l : Fin 768) (h0 : ¬t.val % 65 = 0) : ((outsAt0 m c t.val t.isLt).2 : FVec Ideal S8x768 .f32) (ix2 j l) = ((outsAt0 m c (t.val - 1) (Nat.lt_of_le_of_lt (Nat.sub_le _ _) t.isLt)).2 : FVec Ideal S8x768 .f32) (ix2 j l) + add m c t j l := by
    rw [outsAt0_B m c t h0]
    frame_out
    refine (rows (ms0_6 t).view _ [] _ _ _ _ j l).trans (rowwise ?_ ?_ ?_ ?_ ?_)
    · rintro rfl; exact (add0 t _ 0 l).trans (congrArg (· + add m c t 0 l) (row_of _ 0 _ l))
    · rintro rfl; exact (add1 t _ 0 l).trans (congrArg (· + add m c t 1 l) (row_of _ 1 _ l))
    · rintro rfl; exact (add2 t _ 0 l).trans (congrArg (· + add m c t 2 l) (row_of _ 2 _ l))
    · rintro rfl; exact (add3 t _ 0 l).trans (congrArg (· + add m c t 3 l) (row_of _ 3 _ l))
    · intro h; rw [add_off t j h, add_zero, View.writes_nil]
      exact congrFun (Memref.IsWhole.read_unread _ _) _

theorem pt_run (t : Fin cfg0.N) (s : Fin 65) (h : 65 * (t.val / 65) + s.val < cfg0.N) : pt ⟨65 * (t.val / 65) + s.val, h⟩ = s := by
  have := lt_of_lt_of_eq t.isLt N_0
  have := lt_of_lt_of_eq h N_0
  apply Fin.ext
  show 65 * (t.val / 65) + s.val = s.val
  omega

theorem final6 : (dats m 0 c).arrAt 6 (cfgs 0).N
    = fun j : S8x768.Idx => ∑ i : Fin 65, ∑ r : Fin 256, share (fr (argC m c)) (fr (argX m c)) (j 0) (row i r) (j 1) := by
  refine (dats m 0 c).arrAt_eq_of_covers 6 _ (by decide +kernel) fun t hf y => ?_
  blk_simp
  rw [after0_6]
  idx_vars y
  have e0 : ((View.whole main_v3_1).slice (win0_6.rect t)).emb (ix2 y0 y1) = ix2 y0 y1 := by
    blk_ext [idx_val t]
  rw [e0, Pipeline.eq_sum_fin_of_reset_step_apply_of_flush (fun n h => (outsAt0 m c n h).2) 65 (fun _ => 0)
    (fun t j => add m c t (j 0) (j 1))
    (fun t h j => by
      idx_vars j
      exact oA6 t j0 j1 h)
    (fun t h j => by
      idx_vars j
      exact oB6 t j0 j1 h) t ((flush0_6 t).mp hf) _, zero_add]
  exact Fin.sum_fin_congr fun s => by unfold add; rw [pt_run] <;> rfl

end Cert.ConvKernel

end
-- ==== Proof.ConvRef.lean ====
/- The reference of the short convolution's gradients: its two results, entry by entry. -/
module

public import proofs.«01_k».proof.Proof.ConvKernel
public import proofs.«01_k».proof.Proof.Gen.ConvRefIdeal.Read

@[expose] public section

set_option maxRecDepth 16384

noncomputable section

namespace Cert.ConvRef

open Cert.ConvRefIdeal Cert.ConvRefIdeal.Gen Cert.ConvRefIdeal.Read Idealize.ShloMosaic Idealize.ShloMosaic.TcCoe Idealize.SL.Sem
open Cert.ConvKernel (esheet esheet_apply ent ent_of ent_off fr fr_end late mix share row)
open Cert.SbIdeal.Sb (zero_conv)

variable (x : FVec Ideal S16400x768 .f32) (w : FVec Ideal S4x768 .f32) (ct : FVec Ideal S16400x768 .f32)

theorem v0_eq : val_main_v0 (F := Ideal) x = esheet 16640 768 (fr x) := Cert.ConvKernel.fronted_eq x

theorem v34_eq : val_main_v34 (F := Ideal) ct = esheet 16640 768 (fr ct) := by
  funext i; idx_vars i
  pointwise [val_main_v34, val_main_cst_2]
  simp only [esheet_apply]
  unfold fr ent
  have := i0.isLt
  split_ifs <;> first | rfl | omega

theorem v2_at (q : Fin 16643) (l : Fin 768) : val_main_v2 (F := Ideal) x (ix2 q l) = late (fr x) (q.val + 5) l.val := by
  pointwise [val_main_v2, val_main_v1, val_main_cst]
  rw [v0_eq]
  simp only [esheet_apply]
  unfold late
  have := q.isLt
  split_ifs <;> first | rfl | omega | exact congrArg (fun p => fr x p l.val) (by omega)

theorem w0 (p : Fin 16640) (l : Fin 768) : val_main_v66 (F := Ideal) w (ix2 p l) = ent w 0 l.val := by
  pointwise [val_main_v66, val_main_v7, val_main_v5, val_main_v4]
  exact (ent_of w (by omega) l.isLt).symm
theorem w1 (p : Fin 16640) (l : Fin 768) : val_main_v55 (F := Ideal) w (ix2 p l) = ent w 1 l.val := by
  pointwise [val_main_v55, val_main_v15, val_main_v13, val_main_v12]
  exact (ent_of w (by omega) l.isLt).symm
theorem w2 (p : Fin 16640) (l : Fin 768) : val_main_v44 (F := Ideal) w (ix2 p l) = ent w 2 l.val := by
  pointwise [val_main_v44, val_main_v22, val_main_v20, val_main_v19]
  exact (ent_of w (show 2 < 4 by norm_num) l.isLt).symm
theorem w3 (p : Fin 16640) (l : Fin 768) : val_main_v35 (F := Ideal) w (ix2 p l) = ent w 3 l.val := by
  pointwise [val_main_v35, val_main_v29, val_main_v27, val_main_v26]
  exact (ent_of w (show 3 < 4 by norm_num) l.isLt).symm

/-- A row further on, past the end a zero. -/
theorem within {n : ℕ} {c : Prop} [Decidable c] (l : ℕ) (t : EReal) {y : c → EReal} (hc : c ↔ n < 16640) (hy : ∀ h, y h = t * fr ct n l) :
    (if h : c then y h else (0 : EReal)) = fr ct n l * t := by
  by_cases h : c
  · rw [dif_pos h, hy h, mul_comm]
  · rw [dif_neg h, fr_end ct (Nat.le_of_not_lt fun g => h (hc.2 g)), zero_mul]

theorem v78_eq : val_main_v78 (F := Ideal) w ct = esheet 16640 768 (mix (fr ct) (ent w)) := by
  funext i; idx_vars i
  have := i0.isLt
  pointwise [val_main_v78, val_main_v73, val_main_v62, val_main_v51, val_main_v41, val_main_v50, val_main_v61, val_main_v72, val_main_cst_5, val_main_cst_9, val_main_cst_13, val_main_cst_17,
    val_main_v36, val_main_v45, val_main_v56, val_main_v67]
  rw [v34_eq]
  simp only [esheet_apply, w0, w1, w2, w3]
  unfold mix
  refine congrArg₂ (· + ·) (congrArg₂ (· + ·) (congrArg₂ (· + ·) (mul_comm _ _) ?_) ?_) ?_
  · refine within ct (n := i0.val + 1) i1.val (ent w 2 i1.val) (by omega) fun h => congrArg (fun n => ent w 2 i1.val * fr ct n i1.val) (by omega)
  · refine within ct (n := i0.val + 2) i1.val (ent w 1 i1.val) (by omega) fun h => congrArg (fun n => ent w 1 i1.val * fr ct n i1.val) (by omega)
  · refine within ct (n := i0.val + 3) i1.val (ent w 0 i1.val) (by omega) fun h => congrArg (fun n => ent w 0 i1.val * fr ct n i1.val) (by omega)

/-- A filter tap's gradient as one sum over all rows. -/
def tap (j : Fin 8) (l : Fin 768) : EReal := ∑ p : Fin 16640, share (fr ct) (fr x) j p l

theorem tap_of (j : Fin 8) (hj : j.val < 4) (l : Fin 768) :
    (∑ p : Fin 16640, fr ct p.val l.val * late (fr x) (p.val + (5 + j.val)) l.val) = tap x ct j l :=
  Finset.sum_congr rfl fun p _ => (if_pos hj).symm

theorem v40_at (l : Fin 768) : val_main_v40 (F := Ideal) x ct (ix1 l) = tap x ct 3 l := by
  pointwise [val_main_v40, val_main_v39, val_main_v38, val_main_v37, val_main_cst_3, val_main_cst_4, val_main_v28]
  rw [v34_eq]
  simp only [Fin.sum_univ_one, esheet_apply, v2_at]
  refine Eq.trans (Finset.sum_congr rfl fun p _ => congrArg (fun n => fr ct p.val l.val * late (fr x) n l.val) ?_) (tap_of x ct 3 (show 3 < 4 by norm_num) l)
  show 3 + p.val + 5 = p.val + (5 + 3)
  omega

theorem v49_at (l : Fin 768) : val_main_v49 (F := Ideal) x ct (ix1 l) = tap x ct 2 l := by
  pointwise [val_main_v49, val_main_v48, val_main_v47, val_main_v46, val_main_cst_7, val_main_cst_8, val_main_v21]
  rw [v34_eq]
  simp only [Fin.sum_univ_one, esheet_apply, v2_at]
  refine Eq.trans (Finset.sum_congr rfl fun p _ => congrArg (fun n => fr ct p.val l.val * late (fr x) n l.val) ?_) (tap_of x ct 2 (show 2 < 4 by norm_num) l)
  show 2 + p.val + 5 = p.val + (5 + 2)
  omega

theorem v60_at (l : Fin 768) : val_main_v60 (F := Ideal) x ct (ix1 l) = tap x ct 1 l := by
  pointwise [val_main_v60, val_main_v59, val_main_v58, val_main_v57, val_main_cst_11, val_main_cst_12, val_main_v14]
  rw [v34_eq]
  simp only [Fin.sum_univ_one, esheet_apply, v2_at]
  refine Eq.trans (Finset.sum_congr rfl fun p _ => congrArg (fun n => fr ct p.val l.val * late (fr x) n l.val) ?_) (tap_of x ct 1 (show 1 < 4 by norm_num) l)
  show 1 + p.val + 5 = p.val + (5 + 1)
  omega

theorem v71_at (l : Fin 768) : val_main_v71 (F := Ideal) x ct (ix1 l) = tap x ct 0 l := by
  pointwise [val_main_v71, val_main_v70, val_main_v69, val_main_v68, val_main_cst_15, val_main_cst_16, val_main_v6]
  rw [v34_eq]
  simp only [Fin.sum_univ_one, esheet_apply, v2_at]
  refine Eq.trans (Finset.sum_congr rfl fun p _ => congrArg (fun n => fr ct p.val l.val * late (fr x) n l.val) ?_) (tap_of x ct 0 (show 0 < 4 by norm_num) l)
  show p.val + 5 = p.val + (5 + 0)
  omega

theorem tap_last (j : Fin 8) (hj : ¬j.val < 4) (l : Fin 768) : tap x ct j l = 0 :=
  Finset.sum_eq_zero fun p _ => if_neg hj

theorem v79_eq (j : Fin 8) (l : Fin 768) : val_main_v79 (F := Ideal) x ct (ix2 j l) = ∑ i : Fin 65, ∑ r : Fin 256, share (fr ct) (fr x) j (row i r) l := by
  pointwise [val_main_v79, val_main_v76, val_main_v65, val_main_v54, val_main_v43, val_main_v53, val_main_v64, val_main_v75, val_main_cst_6, val_main_cst_10, val_main_cst_14, val_main_cst_18, val_main_v42, val_main_v52, val_main_v63, val_main_v74]
  rw [v40_at, v49_at, v60_at, v71_at]
  refine Eq.trans (b := tap x ct j l) ?_ (Fin.sum_mul_add_fin 65 256 (fun p : Fin 16640 => share (fr ct) (fr x) j p l)).symm
  have z : val_main_call1_v0 (F := Ideal) (Shape.Idx.first h_S_) = 0 := by
    pointwise [val_main_call1_v0, val_main_c_19]
    exact congrFun zero_conv ix0
  by_cases hj : j.val < 4
  · rw [dif_pos hj]
    have h4 : j = 0 ∨ j = 1 ∨ j = 2 ∨ j = 3 := by
      rcases j with ⟨n, hn⟩
      simp only [Fin.ext_iff]
      change n < 4 at hj
      show n = 0 ∨ n = 1 ∨ n = 2 ∨ n = 3
      omega
    rcases h4 with h | h | h | h <;> subst h <;> simp
  · rw [dif_neg hj, tap_last x ct j hj l, z]

end Cert.ConvRef

end
-- ==== Proof.ConvClaims.lean ====
/- The claims about the short convolution's gradients: both programs' runs, and the equality of their two results for all
   arguments, infinities included -/
module

public import proofs.«01_k».proof.Defs
public import proofs.«01_k».proof.Proof.ConvRef
public import proofs.«01_k».proof.Proof.Gen.Conv.Frame

@[expose] public section

set_option maxRecDepth 16384

noncomputable section

namespace Cert.ConvClaims

open Idealize.ShloMosaic Idealize.ShloMosaic.TcCoe Idealize.SL.Sem

theorem frame_kernel : Cert.quiescent_Conv := fun m ρ _ => Cert.Conv.Gen.frame m ρ
theorem frame_kernel_ideal : Cert.quiescent_ConvIdeal := fun m ρ _ => Cert.ConvIdeal.Gen.frame m ρ
theorem frame_ref : Cert.quiescent_ConvRefIdeal := fun m ρ _ =>
  (θ_run _ _ _).mono (fun r h => ⟨fun c => (h c).2.2, sem_eq_zero_of_no_sems (by decide) r.2⟩) (Cert.ConvRefIdeal.Value.run m ρ)

theorem algebraic : Cert.algebraic_ConvIdeal_ConvRefIdeal := fun m ρ m' ρ' _ hag => by
  refine ⟨fun c => (Cert.ConvIdeal.Gen.dats m 0 c).arrAt 5 Cert.ConvIdeal.cfg0.N, fun c => (Cert.ConvIdeal.Gen.dats m 0 c).arrAt 6 Cert.ConvIdeal.cfg0.N,
    Cert.ConvIdeal.Value.run_blocks m ρ,
    (θ_run _ _ _).mono (fun _ h c => ?_) (Cert.ConvRefIdeal.Value.run m' ρ')⟩
  obtain ⟨a0, a1, a2⟩ := hag c
  refine ⟨(h c).1.trans ((Cert.ConvRefIdeal.Read.val_main_v78_eq _ _).trans ?_),
    (h c).2.1.trans ((Cert.ConvRefIdeal.Read.val_main_v79_eq _ _).trans ?_), (h c).2.2⟩
  · exact (ConvRef.v78_eq _ _).trans (((congrArg₂ (fun (w : FVec Ideal Cert.ConvIdeal.S4x768 .f32) (t : FVec Ideal Cert.ConvIdeal.S16400x768 .f32) =>
      ConvKernel.esheet 16640 768 (ConvKernel.mix (ConvKernel.fr t) (ConvKernel.ent w))) a1 a2)).trans ConvKernel.final5.symm)
  · refine Eq.trans (b := fun j : Cert.ConvIdeal.S8x768.Idx => ∑ i : Fin 65, ∑ r : Fin 256,
      ConvKernel.share (ConvKernel.fr (ConvKernel.argC m c)) (ConvKernel.fr (ConvKernel.argX m c)) (j 0) (ConvKernel.row i r) (j 1)) ?_ ConvKernel.final6.symm
    funext j; idx_vars j
    exact (ConvRef.v79_eq _ _ _ _).trans (congrArg₂ (fun (x t : FVec Ideal Cert.ConvIdeal.S16400x768 .f32) =>
      ∑ i : Fin 65, ∑ r : Fin 256, ConvKernel.share (ConvKernel.fr t) (ConvKernel.fr x) j0 (ConvKernel.row i r) j1) a0 a2)

end Cert.ConvClaims

end
-- ==== Proof.SbFwdPay.lean ====
/-
  The pieces of the forward attention kernel over arrays of reals.
-/
module

public import proofs.«01_k».proof.Proof.SbBlk
public import proofs.«01_k».proof.Proof.Gen.SbFwdIdeal.Skeleton

@[expose] public section

set_option maxRecDepth 16384

noncomputable section

open Idealize.ShloMosaic

namespace Cert.SbFwdIdeal.Fwd

open Cert.SbFwdIdeal Cert.SbFwdIdeal.Gen
open Cert.SbIdeal.Sb (up bits up_apply bits_apply sel_bool prod tsp trem tw half tdq stack low triS tt mk eps rs hsum coe_sum coe_ite zero_sub_abs
  max_add_log half_sum ite_coe_zero ite_coe_zero' ite_zero_coe qpos_word kpos_word and_word zero_word ofBits_eighth_bf16 stack_up hsum_up hsum_nonneg eps_pos
  ofBits_64th_f32 ofBits_eps_f32)

variable (M : Fin 512 → Fin 256 → Bool) (qq : Fin 512 → Fin 128 → ℝ) (kb vb : Fin 256 → Fin 128 → ℝ) (r : Fin 512 → Fin 1 → ℝ)
  (a : Fin 256 → Fin 128 → ℝ)

/-- The weights of a tile, from the sum of the softplus of the later tiles. -/
def fw (s : Fin 512) (k : Fin 256) : ℝ :=
  if M s k then Real.exp (prod qq kb s k - ∑ l, tsp M qq kb s l * (if k ≤ l then 1 else 0) - r s 0) else 0

/-- The carried sum after a tile. -/
def fr (s : Fin 512) (o : Fin 1) : ℝ := r s o + ∑ k, tsp M qq kb s k

theorem fw_tw (rem : Fin 512 → Fin 1 → ℝ) : fw M qq kb (trem M qq kb rem) = tw M qq kb rem := rfl

theorem fr_trem (rem : Fin 512 → Fin 1 → ℝ) : fr M qq kb (trem M qq kb rem) = rem := by
  funext s o; unfold fr trem; ring

/-! ### A tile without a mask: the three copies of the body -/

theorem pay7_up : k0_pay7 (F := Ideal) (up .bf16 qq) (up .bf16 kb) = up .f32 (prod qq kb) := by
  funext i; idx_vars i
  pointwise [k0_pay7]
  simp only [up_apply, ← EReal.coe_mul, coe_sum]; rfl

theorem pay8_up : k0_pay8 (F := Ideal) (up .bf16 qq) (up .bf16 kb) = up .f32 (tsp tt qq kb) := by
  funext i; idx_vars i
  pointwise [k0_pay8]
  simp only [pay7_up, up_apply, zero_sub_abs, Ideal.exp_coe, max_add_log]; rfl

theorem pay9_up : k0_pay9 (F := Ideal) (bits low) (up .bf16 triS) (up .bf16 qq) (up .f32 a) (up .f32 r) (up .bf16 kb) (up .bf16 vb)
    = up .f32 (tdq (fw tt qq kb r) vb a) := by
  funext i; idx_vars i
  pointwise [k0_pay9]
  simp only [pay7_up, pay8_up]
  rw [bits_apply, half_sum i0 i1 (fun s => ∑ x, Ideal.exp (up .f32 (prod qq kb) (ix2 s x) - ∑ y, up .f32 (tsp tt qq kb) (ix2 s y) * up .bf16 triS (ix2 y x) - up .f32 r (ix2 s 0))
    * up .bf16 vb (ix2 x i1))]
  simp only [up_apply, ← EReal.coe_mul, coe_sum, ← EReal.coe_sub, Ideal.exp_coe, ← EReal.coe_add]; rfl

theorem pay10_up : k0_pay10 (F := Ideal) (up .bf16 qq) (up .f32 r) (up .bf16 kb) = up .f32 (fr tt qq kb r) := by
  funext i; idx_vars i
  pointwise [k0_pay10]
  simp only [pay8_up, up_apply, coe_sum, ← EReal.coe_add]; rfl

theorem pay11_up : k0_pay11 (F := Ideal) (up .bf16 kb) = up .bf16 kb := by
  funext i; idx_vars i
  pointwise [k0_pay11]

/-- The zeros a product starts from. -/
abbrev z0 : FVec Ideal S512x256 .f32 := constant S512x256 .f32 0x00000000#32

theorem pay36_up : k0_pay36 (F := Ideal) (up .bf16 qq) (up .bf16 kb) z0 = up .f32 (prod qq kb) := by
  funext i; idx_vars i
  pointwise [k0_pay36]
  simp only [up_apply, ← EReal.coe_mul, coe_sum]; rfl

theorem pay37_up : k0_pay37 (F := Ideal) (up .bf16 qq) (up .bf16 kb) z0 = up .f32 (tsp tt qq kb) := by
  funext i; idx_vars i
  pointwise [k0_pay37]
  simp only [pay36_up, up_apply, zero_sub_abs, Ideal.exp_coe, max_add_log]; rfl

theorem pay38_up : k0_pay38 (F := Ideal) (bits low) (up .bf16 triS) (up .bf16 qq) (up .f32 a) (up .f32 r) (up .bf16 kb) z0 (up .bf16 vb)
    = up .f32 (tdq (fw tt qq kb r) vb a) := by
  funext i; idx_vars i
  pointwise [k0_pay38]
  simp only [pay36_up, pay37_up]
  rw [bits_apply, half_sum i0 i1 (fun s => ∑ x, Ideal.exp (up .f32 (prod qq kb) (ix2 s x) - ∑ y, up .f32 (tsp tt qq kb) (ix2 s y) * up .bf16 triS (ix2 y x) - up .f32 r (ix2 s 0))
    * up .bf16 vb (ix2 x i1))]
  simp only [up_apply, ← EReal.coe_mul, coe_sum, ← EReal.coe_sub, Ideal.exp_coe, ← EReal.coe_add]; rfl

theorem pay39_up : k0_pay39 (F := Ideal) (up .bf16 qq) (up .f32 r) (up .bf16 kb) z0 = up .f32 (fr tt qq kb r) := by
  funext i; idx_vars i
  pointwise [k0_pay39]
  simp only [pay37_up, up_apply, coe_sum, ← EReal.coe_add]; rfl

theorem pay46_up : k0_pay46 (F := Ideal) (bits low) (up .bf16 triS) (up .bf16 qq) (up .f32 a) (up .f32 r) (up .bf16 kb) (up .bf16 vb)
    = up .f32 (tdq (fw tt qq kb r) vb a) := (pay9_up qq kb vb r a)

theorem pay47_up : k0_pay47 (F := Ideal) (up .bf16 qq) (up .f32 r) (up .bf16 kb) = up .f32 (fr tt qq kb r) := (pay10_up qq kb r)

/-! ### The first tile, masked -/

section Mask

variable (q : ℕ) (hq : q < 65)
include hq

theorem pay18_bits : k0_pay18 (BitVec.ofNat 32 q) = bits (mk q 0) := by
  funext i; idx_vars i
  have h0 := i0.isLt
  have h1 := i1.isLt
  pointwise [k0_pay18]
  have e : IntOp.addi (0#32) (BitVec.ofNat 32 i1.val) = BitVec.ofNat 32 (256 * 0 + i1.val) := kpos_word 0 i1.val
  rw [qpos_word, e, and_word _ _ (by omega) (by omega)]; rfl

theorem pay19_up : k0_pay19 (F := Ideal) (BitVec.ofNat 32 q) (up .bf16 qq) (up .bf16 kb) = up .f32 (tsp (mk q 0) qq kb) := by
  have e : k0_pay17 (F := Ideal) (up .bf16 qq) (up .bf16 kb) = up .f32 (prod qq kb) := pay7_up qq kb
  funext i; idx_vars i
  pointwise [k0_pay19]
  simp only [pay18_bits q hq, bits_apply, sel_bool, e, up_apply, zero_sub_abs, Ideal.exp_coe, max_add_log, ite_coe_zero]; rfl

theorem pay20_up : k0_pay20 (F := Ideal) (BitVec.ofNat 32 q) (up .bf16 triS) (up .bf16 qq) (up .f32 r) (up .bf16 kb) = up .bf16 (fw (mk q 0) qq kb r) := by
  have e : k0_pay17 (F := Ideal) (up .bf16 qq) (up .bf16 kb) = up .f32 (prod qq kb) := pay7_up qq kb
  funext i; idx_vars i
  pointwise [k0_pay20]
  simp only [pay18_bits q hq, bits_apply, sel_bool, e, pay19_up _ _ q hq, up_apply, ← EReal.coe_mul, coe_sum, ← EReal.coe_sub, Ideal.exp_coe, ite_coe_zero]; rfl

/-! ### The tile of the diagonal, masked -/

/-- The row numbers. -/
abbrev rowIota : IVec S512x256 32 := iota .tc S512x256 32 [0] iota_S512x256_d0_w32

theorem pay32_bits : k0_pay32 (BitVec.ofNat 32 q) rowIota 256#32 = bits (mk q q) := by
  funext i; idx_vars i
  have h0 := i0.isLt
  have h1 := i1.isLt
  pointwise [k0_pay32]
  rw [qpos_word, kpos_word, and_word _ _ (by omega) (by omega)]; rfl

theorem pay33_up : k0_pay33 (F := Ideal) (BitVec.ofNat 32 q) (up .f32 (tsp tt qq kb)) rowIota 256#32 = up .f32 (tsp (mk q q) qq kb) := by
  funext i; idx_vars i
  pointwise [k0_pay33]
  simp only [pay32_bits q hq, bits_apply, sel_bool, up_apply, ite_coe_zero]; rfl

theorem pay34_up : k0_pay34 (F := Ideal) (BitVec.ofNat 32 q) (bits low) (up .bf16 triS) (up .f32 a) (up .f32 r) (up .f32 (prod qq kb)) (up .f32 (tsp tt qq kb))
      rowIota 256#32 (up .bf16 vb) = up .f32 (tdq (fw (mk q q) qq kb r) vb a) := by
  funext i; idx_vars i
  pointwise [k0_pay34]
  simp only [pay33_up qq kb q hq, pay32_bits q hq]
  rw [bits_apply, half_sum i0 i1 (fun s => ∑ x, Scalar.select (bits (mk q q) (ix2 s x))
    (Ideal.exp (up .f32 (prod qq kb) (ix2 s x) - ∑ y, up .f32 (tsp (mk q q) qq kb) (ix2 s y) * up .bf16 triS (ix2 y x) - up .f32 r (ix2 s 0)) * up .bf16 vb (ix2 x i1)) 0)]
  simp only [bits_apply, sel_bool, up_apply, ← EReal.coe_mul, coe_sum, ← EReal.coe_sub, Ideal.exp_coe, ite_coe_zero, ← EReal.coe_add]
  unfold tdq fw
  simp only [ite_mul, zero_mul]

theorem pay35_up : k0_pay35 (F := Ideal) (BitVec.ofNat 32 q) (up .f32 r) (up .f32 (tsp tt qq kb)) rowIota 256#32 = up .f32 (fr (mk q q) qq kb r) := by
  funext i; idx_vars i
  pointwise [k0_pay35]
  simp only [pay33_up qq kb q hq, up_apply, coe_sum, ← EReal.coe_add]; rfl

end Mask

theorem pay1_up (w : Fin 512 → Fin 256 → ℝ) : k0_pay1 (F := Ideal) (bits low) (up .f32 a) (up .bf16 w) (up .bf16 vb) = up .f32 (tdq w vb a) := by
  funext i; idx_vars i
  pointwise [k0_pay1]
  rw [bits_apply, half_sum i0 i1 (fun s => ∑ x, up .bf16 w (ix2 s x) * up .bf16 vb (ix2 x i1))]
  simp only [up_apply, ← EReal.coe_mul, coe_sum, ← EReal.coe_add]; rfl

theorem pay2_up : k0_pay2 (F := Ideal) (up .f32 r) (up .f32 (tsp M qq kb)) = up .f32 (fr M qq kb r) := by
  funext i; idx_vars i
  pointwise [k0_pay2]
  simp only [up_apply, coe_sum, ← EReal.coe_add]; rfl

/-! ### What the tiles start from -/

theorem pay25_bits : k0_pay25 = bits low := Cert.SbIdeal.Sb.pay95_bits

theorem pay26_up : k0_pay26 (F := Ideal) = up .bf16 triS := Cert.SbIdeal.Sb.pay97_up

theorem pay27_up : k0_pay27 (F := Ideal) (up .bf16 a) = up .bf16 (stack (fun p l => a p l * (1 / 8))) := by
  rw [← Cert.SbIdeal.Sb.pay109_up, ← Cert.SbIdeal.Sb.pay95_bits]; rfl

theorem pay28_up : k0_pay28 (F := Ideal) = up .f32 (fun _ _ => 0) := by
  funext i; idx_vars i
  pointwise [k0_pay28]
  simp only [up_apply, EReal.coe_zero]

theorem pay29_up : k0_pay29 (F := Ideal) = up .f32 (fun _ _ => 0) := by
  funext i; idx_vars i
  pointwise [k0_pay29]
  simp only [up_apply, EReal.coe_zero]

theorem pay30_up : k0_pay30 (F := Ideal) (up .bf16 a) (up .bf16 kb) = up .f32 (prod (stack (fun p l => a p l * (1 / 8))) kb) := by
  unfold k0_pay30
  rw [pay27_up]
  exact pay7_up _ kb

theorem pay31_up : k0_pay31 (F := Ideal) (up .bf16 a) (up .bf16 kb) = up .f32 (tsp tt (stack (fun p l => a p l * (1 / 8))) kb) := by
  funext i; idx_vars i
  pointwise [k0_pay31]
  simp only [pay30_up, up_apply, zero_sub_abs, Ideal.exp_coe, max_add_log]; rfl

/-! ### What is stored -/

theorem pay5_up : k0_pay5 (F := Ideal) (bits low) (up .f32 r) = up .f32 (fun p l => r (half p l) 0) := by
  funext i; idx_vars i
  pointwise [k0_pay5]
  rw [bits_apply, half_sum i0 i1 (fun s => up .f32 r (ix2 s 0))]
  rfl

theorem pay6_up (g : Fin 1 → Fin 128 → ℝ) : k0_pay6 (F := Ideal) (bits low) (up .f32 a) (up .f32 g) = up .f32 (fun p l => a p l * rs a p l * g 0 l) := by
  funext i; idx_vars i
  pointwise [k0_pay6]
  have h := hsum_nonneg a i0 i1
  have e := eps_pos
  simp only [bits_apply, sel_bool, up_apply, ofBits_64th_f32, ofBits_eps_f32, ← EReal.coe_mul]
  rw [hsum_up (fun p l => a p l * a p l) i0 i1, ← EReal.coe_mul, ← EReal.coe_add, Ideal.rsqrt_coe, if_neg (not_lt.2 (by positivity)), if_neg (ne_of_gt (by positivity)),
    ← EReal.coe_mul, ← EReal.coe_mul]
  rfl

end Cert.SbFwdIdeal.Fwd
-- ==== Proof.SbFwdTrip.lean ====
/-
  One trip of each loop of the forward attention kernel, as the pieces at the blocks of keys and values it reads, and the
  states of the loops over arrays of reals: the tiles are taken from the last to the first.
-/
module

public import proofs.«01_k».proof.Proof.SbFwdPay
public import Idealize.ShloMosaic.Lib.WholeRead
public import proofs.«01_k».proof.Proof.SbWalk
public import proofs.«01_k».proof.Proof.Gen.SbFwdIdeal.Value

@[expose] public section

set_option maxRecDepth 16384

noncomputable section

open Idealize.ShloMosaic

namespace Cert.SbFwdIdeal.Fwd

open Cert.SbFwdIdeal Cert.SbFwdIdeal.Gen
open Cert.SbIdeal.Sb (up bits up_apply bits_apply prod tsp trem tw half tdq stack low triS tt mk ends rows seq rows_seq tile wrem ww wsp Seen trem_eq tw_eq
  sum_fin_tile)

theorem trips1 : ∀ i : grid0.Coords, (k0_t1_loop i).trips = ((i 1).val - 1) / 2 := by decide +kernel
theorem trips2 : ∀ i : grid0.Coords, (k0_t2_loop i).trips = 0 := by decide +kernel
theorem trips3 : ∀ i : grid0.Coords, (k0_t3_loop i).trips = ((i 1).val - 1) % 2 := by decide +kernel
theorem trips4 : ∀ i : grid0.Coords, (k0_t4_loop i).trips = 0 := by decide +kernel
theorem trips5 : ∀ i : grid0.Coords, (k0_t5_loop i).trips = min (i 1).val 1 := by decide +kernel
theorem trips6 : ∀ i : grid0.Coords, (k0_t6_loop i).trips = 0 := by decide +kernel

theorem off1_eq : ∀ i : grid0.Coords, k0_off1 i = ![256 * (i 1).val, 0] := by decide +kernel
theorem off2_eq : ∀ (i : grid0.Coords) (k : Fin (k0_t1_loop i).trips), k0_off2 i k = ![256 * ((i 1).val - 1 - 2 * k.val), 0] := by decide +kernel
theorem off3_eq : ∀ (i : grid0.Coords) (k : Fin (k0_t1_loop i).trips), k0_off3 i k = ![256 * ((i 1).val - 2 - 2 * k.val), 0] := by decide +kernel

/-- A block of rows read out of a whole array. -/
theorem read_rows {κ : Kind} {sp : Space} {φ : EltTy} (m : Memref sig κ sp S16640x128 φ) (h : m.IsWhole) (x : Vec Ideal S16640x128 φ) (j : ℕ) (hj : j < 65)
    {off : Fin S16640x128.rank → ℕ} (e : off = ![256 * j, 0]) (inb : ∀ a, off a + S256x128.size a ≤ S16640x128.size a) :
    View.readAt (Elt Ideal) m.view (Rect.unit off S256x128.size inb).toLoadRect (h.unread x) = rows x j := by
  subst e
  funext y
  refine (h.readAt_unread _ _ _).trans (congrArg x (funext fun a => Fin.ext ?_))
  have h0 := (y 0).isLt
  have h1 : (y 0).val < 256 := h0
  match a with
  | ⟨0, _⟩ => exact (show 256 * j + 1 * (y 0).val = (256 * j + (y 0).val) % 16640 by omega)
  | ⟨1, _⟩ => exact (show 0 + 1 * (y 1).val = (y 1).val by omega)

section Trips

variable (𝒱 : Variants) (c : Dev nD) (bd : Option 𝒱.V) (i : grid0.Coords) (arg2 : Memref sig .tc .vmem S256x128 .bf16) (harg2 : arg2.IsWhole) (arg3 : Memref sig .tc .vmem S16640x128 .bf16) (harg3 : arg3.IsWhole) (arg4 : Memref sig .tc .vmem S16640x128 .bf16) (harg4 : arg4.IsWhole) (arg5 : Memref sig .tc .vmem S1x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole)
  (arg1 : BitVec 32) (v2 : IVec S256x128 1) (v8 : FVec Ideal S256x256 .bf16) (v19 : FVec Ideal S512x128 .bf16)
  (x1 : Vec Ideal S16640x128 .bf16) (x2 : Vec Ideal S16640x128 .bf16) (acc : FVec Ideal S256x128 .f32 × FVec Ideal S512x1 .f32)

theorem trip1_eq (v23 : BitVec 32) (v75 : FVec Ideal S256x128 .f32) (v78 : FVec Ideal S512x1 .f32) (c2_i32 v79 v84 v86 : BitVec 32)
    (k : Fin (k0_t1_loop i).trips) :
    tripR_k0_t1 (F := Ideal) 𝒱 c bd i arg2 harg2 arg3 harg3 arg4 harg4 arg5 harg5 arg6 harg6 arg7 harg7 arg8 harg8 arg1 v2 v8 v19 v23 v75 v78 c2_i32 v79 v84 v86 (harg3.unread x1) (harg4.unread x2) k acc
      = (k0_pay38 v2 v8 v19 (k0_pay9 v2 v8 v19 acc.1 acc.2 (rows x1 ((i 1).val - 1 - 2 * k.val)) (rows x2 ((i 1).val - 1 - 2 * k.val)))
            (k0_pay10 v19 acc.2 (rows x1 ((i 1).val - 1 - 2 * k.val))) (k0_pay11 (rows x1 ((i 1).val - 2 - 2 * k.val))) z0
            (rows x2 ((i 1).val - 2 - 2 * k.val)),
         k0_pay39 v19 (k0_pay10 v19 acc.2 (rows x1 ((i 1).val - 1 - 2 * k.val))) (k0_pay11 (rows x1 ((i 1).val - 2 - 2 * k.val))) z0) := by
  have hi : (i 1).val < 65 := (i 1).isLt
  rw [← read_rows arg3 harg3 x1 _ (by omega) (off2_eq i k) (k0_off2_inb i k), ← read_rows arg4 harg4 x2 _ (by omega) (off2_eq i k) (k0_off2_inb i k),
    ← read_rows arg3 harg3 x1 _ (by omega) (off3_eq i k) (k0_off3_inb i k), ← read_rows arg4 harg4 x2 _ (by omega) (off3_eq i k) (k0_off3_inb i k)]
  unfold tripR_k0_t1 trip_k0_t1
  rfl

theorem trip3_eq (v23 : BitVec 32) (v75 : FVec Ideal S256x128 .f32) (v78 : FVec Ideal S512x1 .f32) (c2_i32 v79 v84 v86 : BitVec 32)
    (k : Fin (k0_t3_loop i).trips) :
    tripR_k0_t3 (F := Ideal) 𝒱 c bd i arg2 harg2 arg3 harg3 arg4 harg4 arg5 harg5 arg6 harg6 arg7 harg7 arg8 harg8 arg1 v2 v8 v19 v23 v75 v78 c2_i32 v79 v84 v86 (harg3.unread x1) (harg4.unread x2) k acc
      = (k0_pay46 v2 v8 v19 acc.1 acc.2 (rows x1 1) (rows x2 1), k0_pay47 v19 acc.2 (rows x1 1)) := by
  rw [← read_rows arg3 harg3 x1 1 (by omega) rfl inb_S16640x128_S256x128_256_0, ← read_rows arg4 harg4 x2 1 (by omega) rfl inb_S16640x128_S256x128_256_0]
  unfold tripR_k0_t3 trip_k0_t3
  rfl

theorem trip5_eq (c0_i32_41 c1_i32_43 : BitVec 32) (k : Fin (k0_t5_loop i).trips) :
    tripR_k0_t5 (F := Ideal) 𝒱 c bd i arg2 harg2 arg3 harg3 arg4 harg4 arg5 harg5 arg6 harg6 arg7 harg7 arg8 harg8 arg1 v2 v8 v19 c0_i32_41 c1_i32_43 (harg3.unread x1) (harg4.unread x2) k acc
      = (k0_pay1 v2 acc.1 (k0_pay20 arg1 v8 v19 acc.2 (rows x1 0)) (rows x2 0), k0_pay2 acc.2 (k0_pay19 arg1 v19 (rows x1 0))) := by
  rw [← read_rows arg3 harg3 x1 0 (by omega) rfl inb_S16640x128_S256x128_0_0, ← read_rows arg4 harg4 x2 0 (by omega) rfl inb_S16640x128_S256x128_0_0]
  unfold tripR_k0_t5 trip_k0_t5
  rfl

end Trips

end Cert.SbFwdIdeal.Fwd
-- ==== Proof.SbFwdWalk.lean ====
/-
  The walk of one grid point of the forward attention kernel over arrays of reals: from the last tile to the first, the
  softplus of the tiles seen so far and the read-out they give, up to the whole sums.
-/
module

public import proofs.«01_k».proof.Proof.SbFwdTrip

@[expose] public section

set_option maxRecDepth 16384

noncomputable section

open Idealize.ShloMosaic Finset

namespace Cert.SbFwdIdeal.Fwd

open Cert.SbFwdIdeal Cert.SbFwdIdeal.Gen
open Cert.SbIdeal.Sb (up bits up_apply bits_apply prod tsp trem tw half tdq stack low triS tt mk ends rows seq rows_seq tile wrem ww wsp Seen trem_eq tw_eq
  sum_fin_tile)

section Tiles

variable (q : ℕ) (Q : Fin 512 → Fin 128 → ℝ) (K V : ℕ → Fin 128 → ℝ) (ct : Fin 512 → Fin 1 → ℝ)

/-- The read-out's part of the first `t` tiles. -/
def so (t : ℕ) (p : Fin 256) (l : Fin 128) : ℝ := ∑ J ∈ range (256 * t), ww q Q K ct (half p l) J * V J l

/-- The read-out's part of the tiles from `t` on. -/
def sfrom (t : ℕ) (p : Fin 256) (l : Fin 128) : ℝ := so q Q K V ct (q + 1) p l - so q Q K V ct t p l

variable (M : Fin 512 → Fin 256 → Bool) (j : ℕ) (hM : ∀ s k, M s k = decide (Seen q s (256 * j + k.val)))
include hM

theorem one_rem : fr M Q (tile K j) (wrem q Q K ct (j + 1)) = wrem q Q K ct j := by
  rw [← trem_eq q Q K ct M j hM]; exact fr_trem _ _ _ _

theorem one_acc : tdq (fw M Q (tile K j) (wrem q Q K ct (j + 1))) (tile V j) (sfrom q Q K V ct (j + 1)) = sfrom q Q K V ct j := by
  rw [← trem_eq q Q K ct M j hM, fw_tw]
  funext p l
  unfold tdq sfrom
  simp only [tw_eq q Q K ct M j hM]
  have e := sum_fin_tile (fun J => ww q Q K ct (half p l) J * V J l) j
  have e' : so q Q K V ct (j + 1) p l = so q Q K V ct j p l + ∑ k : Fin 256, ww q Q K ct (half p l) (256 * j + k.val) * V (256 * j + k.val) l := e.symm
  rw [e']
  show _ - (_ + _) + ∑ k : Fin 256, ww q Q K ct (half p l) (256 * j + k.val) * V (256 * j + k.val) l = _
  ring

end Tiles

/-- The state once the tiles from `t` on are done. -/
def stFrom (q : ℕ) (Q : Fin 512 → Fin 128 → ℝ) (K V : ℕ → Fin 128 → ℝ) (ct : Fin 512 → Fin 1 → ℝ) (t : ℕ) : FVec Ideal S256x128 .f32 × FVec Ideal S512x1 .f32 :=
  (up .f32 (sfrom q Q K V ct t), up .f32 (wrem q Q K ct t))

section Loops

variable (𝒱 : Variants) (c : Dev nD) (bd : Option 𝒱.V) (i : grid0.Coords) (arg2 : Memref sig .tc .vmem S256x128 .bf16) (harg2 : arg2.IsWhole) (arg3 : Memref sig .tc .vmem S16640x128 .bf16) (harg3 : arg3.IsWhole) (arg4 : Memref sig .tc .vmem S16640x128 .bf16) (harg4 : arg4.IsWhole) (arg5 : Memref sig .tc .vmem S1x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole)
  (arg1 : BitVec 32) (v2 : IVec S256x128 1) (v8 : FVec Ideal S256x256 .bf16) (v19 : FVec Ideal S512x128 .bf16)
  (x1 : Vec Ideal S16640x128 .bf16) (x2 : Vec Ideal S16640x128 .bf16)
  (v23 : BitVec 32) (v75 : FVec Ideal S256x128 .f32) (v78 : FVec Ideal S512x1 .f32) (c2_i32 v79 v84 v86 : BitVec 32)
  (q : ℕ) (hi : (i 1).val = q) (Q : Fin 512 → Fin 128 → ℝ) (K V : ℕ → Fin 128 → ℝ) (ct : Fin 512 → Fin 1 → ℝ)
  (h1 : arg1 = BitVec.ofNat 32 q) (h2 : v2 = bits low) (h8 : v8 = up .bf16 triS) (h19 : v19 = up .bf16 Q)
  (h3 : x1 = seq .bf16 K) (h4 : x2 = seq .bf16 V)
include hi h1 h2 h8 h19 h3 h4

theorem loop1_at (n : ℕ) (hn : 2 * n ≤ q - 1) :
    st_k0_t1 (F := Ideal) 𝒱 c bd i arg2 harg2 arg3 harg3 arg4 harg4 arg5 harg5 arg6 harg6 arg7 harg7 arg8 harg8 arg1 v2 v8 v19 v23 v75 v78 c2_i32 v79 v84 v86 (harg3.unread x1) (harg4.unread x2) (stFrom q Q K V ct q) n
      = stFrom q Q K V ct (q - 2 * n) := by
  have hq : (i 1).val < 65 := (i 1).isLt
  have ht := trips1 i
  induction n with
  | zero => rw [st_k0_t1_zero]; rfl
  | succ n ih =>
    have ih' := ih (by omega)
    have hk : n < (k0_t1_loop i).trips := by omega
    refine (st_k0_t1_succ (F := Ideal) 𝒱 c bd i arg2 harg2 arg3 harg3 arg4 harg4 arg5 harg5 arg6 harg6 arg7 harg7 arg8 harg8 arg1 v2 v8 v19 v23 v75 v78 c2_i32 v79 v84 v86 (harg3.unread x1) (harg4.unread x2) (stFrom q Q K V ct q) ⟨n, hk⟩).trans ?_
    show tripR_k0_t1 (F := Ideal) 𝒱 c bd i arg2 harg2 arg3 harg3 arg4 harg4 arg5 harg5 arg6 harg6 arg7 harg7 arg8 harg8 arg1 v2 v8 v19 v23 v75 v78 c2_i32 v79 v84 v86 (harg3.unread x1) (harg4.unread x2) ⟨n, hk⟩
      (st_k0_t1 (F := Ideal) 𝒱 c bd i arg2 harg2 arg3 harg3 arg4 harg4 arg5 harg5 arg6 harg6 arg7 harg7 arg8 harg8 arg1 v2 v8 v19 v23 v75 v78 c2_i32 v79 v84 v86 (harg3.unread x1) (harg4.unread x2) (stFrom q Q K V ct q) n) = _
    rw [ih', trip1_eq]
    obtain ⟨j, hj⟩ : ∃ j, q = j + 2 + 2 * n := ⟨q - 2 - 2 * n, by omega⟩
    have e1 : (i 1).val - 1 - 2 * (⟨n, hk⟩ : Fin (k0_t1_loop i).trips).val = j + 1 := by show (i 1).val - 1 - 2 * n = _; omega
    have e2 : (i 1).val - 2 - 2 * (⟨n, hk⟩ : Fin (k0_t1_loop i).trips).val = j := by show (i 1).val - 2 - 2 * n = _; omega
    have e3 : q - 2 * n = j + 1 + 1 := by omega
    have e4 : q - 2 * (n + 1) = j := by omega
    have hM : ∀ j', 1 ≤ j' → j' < q → ∀ s k, tt s k = decide (Seen q s (256 * j' + k.val)) := by
      intro j' a b s k
      have := k.isLt
      exact (decide_eq_true (by unfold Seen; omega)).symm
    rw [e1, e2, e3, e4, h2, h8, h19, h3, h4, rows_seq _ _ _ (by omega), rows_seq _ _ _ (by omega), rows_seq _ _ _ (by omega), rows_seq _ _ _ (by omega)]
    unfold stFrom
    dsimp only
    rw [pay9_up, pay10_up, pay11_up, pay38_up, pay39_up, one_rem q Q K ct tt (j + 1) (hM _ (by omega) (by omega)),
      one_acc q Q K V ct tt (j + 1) (hM _ (by omega) (by omega)), one_rem q Q K ct tt j (hM _ (by omega) (by omega)),
      one_acc q Q K V ct tt j (hM _ (by omega) (by omega))]

theorem loop3_at (s0 : FVec Ideal S256x128 .f32 × FVec Ideal S512x1 .f32) (hs : s0 = stFrom q Q K V ct (q - 2 * ((q - 1) / 2))) :
    st_k0_t3 (F := Ideal) 𝒱 c bd i arg2 harg2 arg3 harg3 arg4 harg4 arg5 harg5 arg6 harg6 arg7 harg7 arg8 harg8 arg1 v2 v8 v19 v23 v75 v78 c2_i32 v79 v84 v86 (harg3.unread x1) (harg4.unread x2) s0 (k0_t3_loop i).trips
      = stFrom q Q K V ct (min q 1) := by
  have hq : (i 1).val < 65 := (i 1).isLt
  have ht := trips3 i
  by_cases h : (q - 1) % 2 = 0
  · have e0 : (k0_t3_loop i).trips = 0 := by omega
    have e1 : q - 2 * ((q - 1) / 2) = min q 1 := by omega
    rw [e0, st_k0_t3_zero, hs, e1]
  · have hk : 0 < (k0_t3_loop i).trips := by omega
    have e0 : (k0_t3_loop i).trips = 0 + 1 := by omega
    have e1 : q - 2 * ((q - 1) / 2) = 1 + 1 := by omega
    have e2 : min q 1 = 1 := by omega
    have hM : ∀ s k, tt s k = decide (Seen q s (256 * 1 + k.val)) := by
      intro s k
      have := k.isLt
      exact (decide_eq_true (by unfold Seen; omega)).symm
    rw [e0]
    refine (st_k0_t3_succ (F := Ideal) 𝒱 c bd i arg2 harg2 arg3 harg3 arg4 harg4 arg5 harg5 arg6 harg6 arg7 harg7 arg8 harg8 arg1 v2 v8 v19 v23 v75 v78 c2_i32 v79 v84 v86 (harg3.unread x1) (harg4.unread x2) s0 ⟨0, hk⟩).trans ?_
    show tripR_k0_t3 (F := Ideal) 𝒱 c bd i arg2 harg2 arg3 harg3 arg4 harg4 arg5 harg5 arg6 harg6 arg7 harg7 arg8 harg8 arg1 v2 v8 v19 v23 v75 v78 c2_i32 v79 v84 v86 (harg3.unread x1) (harg4.unread x2) ⟨0, hk⟩
      (st_k0_t3 (F := Ideal) 𝒱 c bd i arg2 harg2 arg3 harg3 arg4 harg4 arg5 harg5 arg6 harg6 arg7 harg7 arg8 harg8 arg1 v2 v8 v19 v23 v75 v78 c2_i32 v79 v84 v86 (harg3.unread x1) (harg4.unread x2) s0 0) = _
    rw [st_k0_t3_zero, trip3_eq, hs, e1, e2, h2, h8, h19, h3, h4, rows_seq _ _ _ (by omega), rows_seq _ _ _ (by omega)]
    unfold stFrom
    dsimp only
    rw [pay46_up, pay47_up, one_rem q Q K ct tt 1 hM, one_acc q Q K V ct tt 1 hM]

theorem loop5_at (c0_i32_41 c1_i32_43 : BitVec 32) (s0 : FVec Ideal S256x128 .f32 × FVec Ideal S512x1 .f32) (hs : s0 = stFrom q Q K V ct (min q 1)) :
    st_k0_t5 (F := Ideal) 𝒱 c bd i arg2 harg2 arg3 harg3 arg4 harg4 arg5 harg5 arg6 harg6 arg7 harg7 arg8 harg8 arg1 v2 v8 v19 c0_i32_41 c1_i32_43 (harg3.unread x1) (harg4.unread x2) s0 (k0_t5_loop i).trips = stFrom q Q K V ct 0 := by
  have hq : (i 1).val < 65 := (i 1).isLt
  have ht := trips5 i
  by_cases h : q = 0
  · have e0 : (k0_t5_loop i).trips = 0 := by omega
    have e1 : min q 1 = 0 := by omega
    rw [e0, st_k0_t5_zero, hs, e1]
  · have hk : 0 < (k0_t5_loop i).trips := by omega
    have e0 : (k0_t5_loop i).trips = 0 + 1 := by omega
    have e1 : min q 1 = 0 + 1 := by omega
    have hM : ∀ s k, mk q 0 s k = decide (Seen q s (256 * 0 + k.val)) := fun s k => rfl
    rw [e0]
    refine (st_k0_t5_succ (F := Ideal) 𝒱 c bd i arg2 harg2 arg3 harg3 arg4 harg4 arg5 harg5 arg6 harg6 arg7 harg7 arg8 harg8 arg1 v2 v8 v19 c0_i32_41 c1_i32_43 (harg3.unread x1) (harg4.unread x2) s0 ⟨0, hk⟩).trans ?_
    show tripR_k0_t5 (F := Ideal) 𝒱 c bd i arg2 harg2 arg3 harg3 arg4 harg4 arg5 harg5 arg6 harg6 arg7 harg7 arg8 harg8 arg1 v2 v8 v19 c0_i32_41 c1_i32_43 (harg3.unread x1) (harg4.unread x2) ⟨0, hk⟩
      (st_k0_t5 (F := Ideal) 𝒱 c bd i arg2 harg2 arg3 harg3 arg4 harg4 arg5 harg5 arg6 harg6 arg7 harg7 arg8 harg8 arg1 v2 v8 v19 c0_i32_41 c1_i32_43 (harg3.unread x1) (harg4.unread x2) s0 0) = _
    rw [st_k0_t5_zero, trip5_eq, hs, e1, h1, h2, h8, h19, h3, h4, rows_seq _ _ _ (by omega), rows_seq _ _ _ (by omega)]
    unfold stFrom
    dsimp only
    rw [pay20_up _ _ _ q (by omega), pay19_up _ _ q (by omega), pay1_up, pay2_up, one_rem q Q K ct (mk q 0) 0 hM, one_acc q Q K V ct (mk q 0) 0 hM]

end Loops

end Cert.SbFwdIdeal.Fwd
-- ==== Proof.SbFwdPoint.lean ====
/-
  One grid point of the forward attention kernel over arrays of reals: what its three stores write.
-/
module

public import proofs.«01_k».proof.Proof.SbFwdWalk
public import proofs.«01_k».proof.Proof.SbGrad

@[expose] public section

set_option maxRecDepth 16384

noncomputable section

open Idealize.ShloMosaic Finset

namespace Cert.SbFwdIdeal.Fwd

open Cert.SbFwdIdeal Cert.SbFwdIdeal.Gen
open Cert.SbIdeal.Sb (up bits up_apply bits_apply prod tsp trem tw half tdq stack low triS tt mk ends rows seq rows_seq tile wrem ww wsp Seen trem_eq tw_eq
  sum_fin_tile bq bk bo bt bg Qs go gw gsp grs rs rs_grs ww_gw wsp_gsp half_div half_mod gw_late sum_upto Vis)

/-! ### The sums a point starts from and ends with -/

section Ends

variable (q k v : ℕ → ℕ → ℝ) (P n : ℕ) (hn : n < 65)
include hn

theorem rem_start : wrem n (Qs q P n) (bk k P) (ends (bt q k P n)) (n + 1) = fun _ _ => 0 := by
  funext s o
  have hs := s.isLt
  have e : ends (bt q k P n) s o = ∑ J ∈ range 16640, gsp q k (2 * P + s.val / 256) (256 * n + s.val % 256) J := by
    unfold ends bt
    by_cases h : s.val < 256
    · rw [dif_pos h, show s.val / 256 = 0 by omega, show s.val % 256 = s.val by omega]
      rfl
    · rw [dif_neg h, show s.val / 256 = 1 by omega, show s.val % 256 = s.val - 256 by omega]
      rfl
  unfold wrem
  rw [e]
  simp only [wsp_gsp]
  rw [sum_upto (fun J => gsp q k (2 * P + s.val / 256) (256 * n + s.val % 256) J) (256 * (n + 1)) 16640 (by omega)
    (fun J hJ => if_neg (by unfold Vis; omega)), sub_self]

omit hn in
theorem acc_start (Q : Fin 512 → Fin 128 → ℝ) (K V : ℕ → Fin 128 → ℝ) (ct : Fin 512 → Fin 1 → ℝ) : sfrom n Q K V ct (n + 1) = fun _ _ => 0 := by
  funext p l; exact sub_self _

theorem acc_end : sfrom n (Qs q P n) (bk k P) (bk v P) (ends (bt q k P n)) 0 = bo q k v P n := by
  funext p l
  have hp := p.isLt
  have hl := l.isLt
  unfold sfrom so
  rw [show 256 * 0 = 0 from rfl, sum_range_zero, sub_zero]
  simp only [ww_gw q k P n hn, half_div, half_mod]
  rw [sum_upto (fun J => gw q k (2 * P + l.val / 64) (256 * n + p.val) J * bk v P J l) (256 * (n + 1)) 16640 (by omega)
    (fun J hJ => by rw [gw_late q k _ _ _ (by omega), zero_mul])]
  unfold bo go bk
  rw [show 64 * (2 * P + l.val / 64) + l.val % 64 = 128 * P + l.val by omega]

omit hn in
theorem rem_end (p : Fin 256) (l : Fin 128) : wrem n (Qs q P n) (bk k P) (ends (bt q k P n)) 0 (half p l) 0 = bt q k P n p l := by
  have hp := p.isLt
  have hl := l.isLt
  unfold wrem
  rw [show 256 * 0 = 0 from rfl, sum_range_zero, sub_zero]
  unfold ends half
  by_cases h : l.val < 64
  · rw [if_pos h, dif_pos hp]
    unfold bt
    rw [show l.val / 64 = 0 by omega]
    rfl
  · rw [if_neg h, dif_neg (by show ¬ 256 + p.val < 256; omega)]
    unfold bt
    rw [show l.val / 64 = 1 by omega]
    show ∑ J ∈ range 16640, gsp q k (2 * P + 1) (256 * n + (256 + p.val - 256)) J = _
    rw [Nat.add_sub_cancel_left]

end Ends

/-! ### The point -/

section Point

variable (c : Dev nD) (i : grid0.Coords) (arg2 : Memref sig .tc .vmem S256x128 .bf16) (harg2 : arg2.IsWhole) (arg3 : Memref sig .tc .vmem S16640x128 .bf16) (harg3 : arg3.IsWhole) (arg4 : Memref sig .tc .vmem S16640x128 .bf16) (harg4 : arg4.IsWhole) (arg5 : Memref sig .tc .vmem S1x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole)
  (x0 : Vec Ideal S256x128 .bf16) (x1 x2 : Vec Ideal S16640x128 .bf16) (x3 : Vec Ideal S1x128 .f32)

theorem read_q : View.readAt (Elt Ideal) arg2.view (Rect.unit ![0, 0] S256x128.size inb_S256x128_S256x128_0_0).toLoadRect (harg2.unread x0) = x0 := by
  funext y
  refine (harg2.readAt_unread _ _ _).trans (congrArg x0 (funext fun a => Fin.ext ?_))
  match a with
  | ⟨0, _⟩ => exact (show 0 + 1 * (y 0).val = (y 0).val by omega)
  | ⟨1, _⟩ => exact (show 0 + 1 * (y 1).val = (y 1).val by omega)

theorem read_g : View.readAt (Elt Ideal) arg5.view (Rect.unit ![0, 0] S1x128.size inb_S1x128_S1x128_0_0).toLoadRect (harg5.unread x3) = x3 := by
  funext y
  refine (harg5.readAt_unread _ _ _).trans (congrArg x3 (funext fun a => Fin.ext ?_))
  match a with
  | ⟨0, _⟩ => exact (show 0 + 1 * (y 0).val = (y 0).val by omega)
  | ⟨1, _⟩ => exact (show 0 + 1 * (y 1).val = (y 1).val by omega)

theorem r_eq : kernelRun0_A.sl.r (F := Ideal) c arg2 harg2 x0 = k0_pay27 x0 :=
  congrArg k0_pay27 (read_q arg2 harg2 x0)

theorem hi65 : (i 1).val < 65 := (i 1).isLt

theorem r3_eq : kernelRun0_A.sl.r_3 (F := Ideal) c i arg2 harg2 arg3 harg3 arg4 harg4 x0 x1 x2 = k0_pay34 (BitVec.ofNat 32 (i 1).val) k0_pay25 k0_pay26 k0_pay28 k0_pay29 (k0_pay30 x0 (rows x1 (i 1).val))
    (k0_pay31 x0 (rows x1 (i 1).val)) rowIota 256#32 (rows x2 (i 1).val) := by
  rw [← read_rows arg3 harg3 x1 _ (hi65 i) (off1_eq i) (k0_off1_inb i), ← read_rows arg4 harg4 x2 _ (hi65 i) (off1_eq i) (k0_off1_inb i)]
  conv_rhs => rw [← read_q arg2 harg2 x0]
  rfl

theorem r4_eq : kernelRun0_A.sl.r_4 (F := Ideal) c i arg2 harg2 arg3 harg3 x0 x1 = k0_pay35 (BitVec.ofNat 32 (i 1).val) k0_pay29 (k0_pay31 x0 (rows x1 (i 1).val)) rowIota 256#32 := by
  rw [← read_rows arg3 harg3 x1 _ (hi65 i) (off1_eq i) (k0_off1_inb i)]
  conv_rhs => rw [← read_q arg2 harg2 x0]
  rfl

theorem mid_eq : ((kernelRun0_A.sl.r_5 (F := Ideal) c i arg2 harg2 arg3 harg3 arg4 harg4 arg5 harg5 arg6 harg6 arg7 harg7 arg8 harg8 x0 x1 x2), (kernelRun0_A.sl.r_6 (F := Ideal) c i arg2 harg2 arg3 harg3 arg4 harg4 arg5 harg5 arg6 harg6 arg7 harg7 arg8 harg8 x0 x1 x2))
    = (st_k0_t4 (F := Ideal) Variants.none c none i arg2 harg2 arg3 harg3 arg4 harg4 arg5 harg5 arg6 harg6 arg7 harg7 arg8 harg8 (BitVec.ofNat 32 (i 1).val) k0_pay25 k0_pay26 (kernelRun0_A.sl.r (F := Ideal) c arg2 harg2 x0) (kernelRun0_A.sl.v23 i) (kernelRun0_A.sl.r_3 (F := Ideal) c i arg2 harg2 arg3 harg3 arg4 harg4 x0 x1 x2) (kernelRun0_A.sl.r_4 (F := Ideal) c i arg2 harg2 arg3 harg3 x0 x1) 2#32 (kernelRun0_A.sl.v79 i) (kernelRun0_A.sl.v84 i) 1#32 (harg3.unread x1) (harg4.unread x2) (st_k0_t3 (F := Ideal) Variants.none c none i arg2 harg2 arg3 harg3 arg4 harg4 arg5 harg5 arg6 harg6 arg7 harg7 arg8 harg8 (BitVec.ofNat 32 (i 1).val) k0_pay25 k0_pay26 (kernelRun0_A.sl.r (F := Ideal) c arg2 harg2 x0) (kernelRun0_A.sl.v23 i) (kernelRun0_A.sl.r_3 (F := Ideal) c i arg2 harg2 arg3 harg3 arg4 harg4 x0 x1 x2) (kernelRun0_A.sl.r_4 (F := Ideal) c i arg2 harg2 arg3 harg3 x0 x1) 2#32 (kernelRun0_A.sl.v79 i) (kernelRun0_A.sl.v84 i) 1#32 (harg3.unread x1) (harg4.unread x2) (st_k0_t2 (F := Ideal) Variants.none c none i arg2 harg2 arg3 harg3 arg4 harg4 arg5 harg5 arg6 harg6 arg7 harg7 arg8 harg8 (BitVec.ofNat 32 (i 1).val) k0_pay25 k0_pay26 (kernelRun0_A.sl.r (F := Ideal) c arg2 harg2 x0) (kernelRun0_A.sl.v23 i) (kernelRun0_A.sl.r_3 (F := Ideal) c i arg2 harg2 arg3 harg3 arg4 harg4 x0 x1 x2) (kernelRun0_A.sl.r_4 (F := Ideal) c i arg2 harg2 arg3 harg3 x0 x1) 2#32 (kernelRun0_A.sl.v79 i) (kernelRun0_A.sl.v84 i) 1#32 (kernelRun0_A.sl.v100 i) (harg3.unread x1) (harg4.unread x2) (st_k0_t1 (F := Ideal) Variants.none c none i arg2 harg2 arg3 harg3 arg4 harg4 arg5 harg5 arg6 harg6 arg7 harg7 arg8 harg8 (BitVec.ofNat 32 (i 1).val) k0_pay25 k0_pay26 (kernelRun0_A.sl.r (F := Ideal) c arg2 harg2 x0) (kernelRun0_A.sl.v23 i) (kernelRun0_A.sl.r_3 (F := Ideal) c i arg2 harg2 arg3 harg3 arg4 harg4 x0 x1 x2) (kernelRun0_A.sl.r_4 (F := Ideal) c i arg2 harg2 arg3 harg3 x0 x1) 2#32 (kernelRun0_A.sl.v79 i) (kernelRun0_A.sl.v84 i) 1#32 (harg3.unread x1) (harg4.unread x2) ((kernelRun0_A.sl.r_3 (F := Ideal) c i arg2 harg2 arg3 harg3 arg4 harg4 x0 x1 x2), (kernelRun0_A.sl.r_4 (F := Ideal) c i arg2 harg2 arg3 harg3 x0 x1)) (k0_t1_loop i).trips) (k0_t2_loop i).trips) (k0_t3_loop i).trips) (k0_t4_loop i).trips) := by
  refine Prod.ext ?_ ?_
  · unfold kernelRun0_A.sl.r_5
    simp only [Prod.mk.eta]
  · unfold kernelRun0_A.sl.r_6
    simp only [Prod.mk.eta]

set_option maxHeartbeats 1000000 in
theorem store0_eq : (kernelRun0_A (F := Ideal) c i arg2 harg2 arg3 harg3 arg4 harg4 arg5 harg5 arg6 harg6 arg7 harg7 arg8 harg8 x0 x1 x2 x3).1 = [⟨Rect.unit ![0, 0] ![256, 128] inb_S256x128_S256x128_0_0, ((st_k0_t6 (F := Ideal) Variants.none c none i arg2 harg2 arg3 harg3 arg4 harg4 arg5 harg5 arg6 harg6 arg7 harg7 arg8 harg8 (BitVec.ofNat 32 (i 1).val) k0_pay25 k0_pay26 (kernelRun0_A.sl.r (F := Ideal) c arg2 harg2 x0) (kernelRun0_A.sl.v125 i) (harg3.unread x1) (harg4.unread x2) (st_k0_t5 (F := Ideal) Variants.none c none i arg2 harg2 arg3 harg3 arg4 harg4 arg5 harg5 arg6 harg6 arg7 harg7 arg8 harg8 (BitVec.ofNat 32 (i 1).val) k0_pay25 k0_pay26 (kernelRun0_A.sl.r (F := Ideal) c arg2 harg2 x0) 0#32 1#32 (harg3.unread x1) (harg4.unread x2) ((kernelRun0_A.sl.r_5 (F := Ideal) c i arg2 harg2 arg3 harg3 arg4 harg4 arg5 harg5 arg6 harg6 arg7 harg7 arg8 harg8 x0 x1 x2), (kernelRun0_A.sl.r_6 (F := Ideal) c i arg2 harg2 arg3 harg3 arg4 harg4 arg5 harg5 arg6 harg6 arg7 harg7 arg8 harg8 x0 x1 x2)) (k0_t5_loop i).trips) (k0_t6_loop i).trips)).1⟩] := by
  unfold kernelRun0_A
  rfl

set_option maxHeartbeats 1000000 in
theorem store1_eq : (kernelRun0_A (F := Ideal) c i arg2 harg2 arg3 harg3 arg4 harg4 arg5 harg5 arg6 harg6 arg7 harg7 arg8 harg8 x0 x1 x2 x3).2.1 = [⟨Rect.unit ![0, 0] ![256, 128] inb_S256x128_S256x128_0_0, k0_pay6 k0_pay25 ((st_k0_t6 (F := Ideal) Variants.none c none i arg2 harg2 arg3 harg3 arg4 harg4 arg5 harg5 arg6 harg6 arg7 harg7 arg8 harg8 (BitVec.ofNat 32 (i 1).val) k0_pay25 k0_pay26 (kernelRun0_A.sl.r (F := Ideal) c arg2 harg2 x0) (kernelRun0_A.sl.v125 i) (harg3.unread x1) (harg4.unread x2) (st_k0_t5 (F := Ideal) Variants.none c none i arg2 harg2 arg3 harg3 arg4 harg4 arg5 harg5 arg6 harg6 arg7 harg7 arg8 harg8 (BitVec.ofNat 32 (i 1).val) k0_pay25 k0_pay26 (kernelRun0_A.sl.r (F := Ideal) c arg2 harg2 x0) 0#32 1#32 (harg3.unread x1) (harg4.unread x2) ((kernelRun0_A.sl.r_5 (F := Ideal) c i arg2 harg2 arg3 harg3 arg4 harg4 arg5 harg5 arg6 harg6 arg7 harg7 arg8 harg8 x0 x1 x2), (kernelRun0_A.sl.r_6 (F := Ideal) c i arg2 harg2 arg3 harg3 arg4 harg4 arg5 harg5 arg6 harg6 arg7 harg7 arg8 harg8 x0 x1 x2)) (k0_t5_loop i).trips) (k0_t6_loop i).trips)).1 x3⟩] := by
  conv_rhs => rw [← read_g arg5 harg5 x3]
  unfold kernelRun0_A
  rfl

set_option maxHeartbeats 1000000 in
theorem store2_eq : (kernelRun0_A (F := Ideal) c i arg2 harg2 arg3 harg3 arg4 harg4 arg5 harg5 arg6 harg6 arg7 harg7 arg8 harg8 x0 x1 x2 x3).2.2.1 = [⟨Rect.unit ![0, 0] ![256, 128] inb_S256x128_S256x128_0_0, k0_pay5 k0_pay25 ((st_k0_t6 (F := Ideal) Variants.none c none i arg2 harg2 arg3 harg3 arg4 harg4 arg5 harg5 arg6 harg6 arg7 harg7 arg8 harg8 (BitVec.ofNat 32 (i 1).val) k0_pay25 k0_pay26 (kernelRun0_A.sl.r (F := Ideal) c arg2 harg2 x0) (kernelRun0_A.sl.v125 i) (harg3.unread x1) (harg4.unread x2) (st_k0_t5 (F := Ideal) Variants.none c none i arg2 harg2 arg3 harg3 arg4 harg4 arg5 harg5 arg6 harg6 arg7 harg7 arg8 harg8 (BitVec.ofNat 32 (i 1).val) k0_pay25 k0_pay26 (kernelRun0_A.sl.r (F := Ideal) c arg2 harg2 x0) 0#32 1#32 (harg3.unread x1) (harg4.unread x2) ((kernelRun0_A.sl.r_5 (F := Ideal) c i arg2 harg2 arg3 harg3 arg4 harg4 arg5 harg5 arg6 harg6 arg7 harg7 arg8 harg8 x0 x1 x2), (kernelRun0_A.sl.r_6 (F := Ideal) c i arg2 harg2 arg3 harg3 arg4 harg4 arg5 harg5 arg6 harg6 arg7 harg7 arg8 harg8 x0 x1 x2)) (k0_t5_loop i).trips) (k0_t6_loop i).trips)).2⟩] := by
  unfold kernelRun0_A
  rfl

variable (n : ℕ) (hi : (i 1).val = n) (P : ℕ) (q k v : ℕ → ℕ → ℝ) (h0 : x0 = up .bf16 (bq q P n)) (h1 : x1 = seq .bf16 (bk k P)) (h2 : x2 = seq .bf16 (bk v P))
include hi h0 h1 h2

theorem end_at : (st_k0_t6 (F := Ideal) Variants.none c none i arg2 harg2 arg3 harg3 arg4 harg4 arg5 harg5 arg6 harg6 arg7 harg7 arg8 harg8 (BitVec.ofNat 32 (i 1).val) k0_pay25 k0_pay26 (kernelRun0_A.sl.r (F := Ideal) c arg2 harg2 x0) (kernelRun0_A.sl.v125 i) (harg3.unread x1) (harg4.unread x2) (st_k0_t5 (F := Ideal) Variants.none c none i arg2 harg2 arg3 harg3 arg4 harg4 arg5 harg5 arg6 harg6 arg7 harg7 arg8 harg8 (BitVec.ofNat 32 (i 1).val) k0_pay25 k0_pay26 (kernelRun0_A.sl.r (F := Ideal) c arg2 harg2 x0) 0#32 1#32 (harg3.unread x1) (harg4.unread x2) ((kernelRun0_A.sl.r_5 (F := Ideal) c i arg2 harg2 arg3 harg3 arg4 harg4 arg5 harg5 arg6 harg6 arg7 harg7 arg8 harg8 x0 x1 x2), (kernelRun0_A.sl.r_6 (F := Ideal) c i arg2 harg2 arg3 harg3 arg4 harg4 arg5 harg5 arg6 harg6 arg7 harg7 arg8 harg8 x0 x1 x2)) (k0_t5_loop i).trips) (k0_t6_loop i).trips) = (up .f32 (bo q k v P n), up .f32 (wrem n (Qs q P n) (bk k P) (ends (bt q k P n)) 0)) := by
  have hn : n < 65 := hi ▸ hi65 i
  have hM : ∀ s k, mk n n s k = decide (Seen n s (256 * n + k.val)) := fun s k => rfl
  have hr : kernelRun0_A.sl.r (F := Ideal) c arg2 harg2 x0 = up .bf16 (Qs q P n) := by rw [r_eq, h0]; exact pay27_up _
  have e3 : kernelRun0_A.sl.r_3 (F := Ideal) c i arg2 harg2 arg3 harg3 arg4 harg4 x0 x1 x2 = up .f32 (sfrom n (Qs q P n) (bk k P) (bk v P) (ends (bt q k P n)) n) := by
    rw [r3_eq, hi, h0, h1, h2, rows_seq _ _ _ hn, rows_seq _ _ _ hn, pay25_bits, pay26_up, pay28_up, pay29_up, pay30_up, pay31_up, pay34_up _ _ _ _ _ n hn,
      ← rem_start q k P n hn, ← acc_start n (Qs q P n) (bk k P) (bk v P) (ends (bt q k P n))]
    exact congrArg (up .f32) (one_acc n (Qs q P n) (bk k P) (bk v P) (ends (bt q k P n)) (mk n n) n hM)
  have e4 : kernelRun0_A.sl.r_4 (F := Ideal) c i arg2 harg2 arg3 harg3 x0 x1 = up .f32 (wrem n (Qs q P n) (bk k P) (ends (bt q k P n)) n) := by
    rw [r4_eq, hi, h0, h1, rows_seq _ _ _ hn, pay29_up, pay31_up, pay35_up _ _ _ n hn, ← rem_start q k P n hn]
    exact congrArg (up .f32) (one_rem n (Qs q P n) (bk k P) (ends (bt q k P n)) (mk n n) n hM)
  have e34 : ((kernelRun0_A.sl.r_3 (F := Ideal) c i arg2 harg2 arg3 harg3 arg4 harg4 x0 x1 x2), (kernelRun0_A.sl.r_4 (F := Ideal) c i arg2 harg2 arg3 harg3 x0 x1)) = stFrom n (Qs q P n) (bk k P) (bk v P) (ends (bt q k P n)) n := by rw [e3, e4]; rfl
  have s1 : st_k0_t1 (F := Ideal) Variants.none c none i arg2 harg2 arg3 harg3 arg4 harg4 arg5 harg5 arg6 harg6 arg7 harg7 arg8 harg8 (BitVec.ofNat 32 (i 1).val) k0_pay25 k0_pay26 (kernelRun0_A.sl.r (F := Ideal) c arg2 harg2 x0) (kernelRun0_A.sl.v23 i) (kernelRun0_A.sl.r_3 (F := Ideal) c i arg2 harg2 arg3 harg3 arg4 harg4 x0 x1 x2) (kernelRun0_A.sl.r_4 (F := Ideal) c i arg2 harg2 arg3 harg3 x0 x1) 2#32 (kernelRun0_A.sl.v79 i) (kernelRun0_A.sl.v84 i) 1#32 (harg3.unread x1) (harg4.unread x2) ((kernelRun0_A.sl.r_3 (F := Ideal) c i arg2 harg2 arg3 harg3 arg4 harg4 x0 x1 x2), (kernelRun0_A.sl.r_4 (F := Ideal) c i arg2 harg2 arg3 harg3 x0 x1)) (k0_t1_loop i).trips = stFrom n (Qs q P n) (bk k P) (bk v P) (ends (bt q k P n)) (n - 2 * ((n - 1) / 2)) := by
    rw [e34, show (k0_t1_loop i).trips = (n - 1) / 2 from (trips1 i).trans (by rw [hi])]
    exact loop1_at _ c _ i arg2 harg2 arg3 harg3 arg4 harg4 arg5 harg5 arg6 harg6 arg7 harg7 arg8 harg8 _ _ _ _ x1 x2 _ _ _ _ _ _ _ n hi _ _ _ _ (congrArg (BitVec.ofNat 32) hi) pay25_bits pay26_up hr h1 h2 ((n - 1) / 2) (by omega)
  have s2 : st_k0_t2 (F := Ideal) Variants.none c none i arg2 harg2 arg3 harg3 arg4 harg4 arg5 harg5 arg6 harg6 arg7 harg7 arg8 harg8 (BitVec.ofNat 32 (i 1).val) k0_pay25 k0_pay26 (kernelRun0_A.sl.r (F := Ideal) c arg2 harg2 x0) (kernelRun0_A.sl.v23 i) (kernelRun0_A.sl.r_3 (F := Ideal) c i arg2 harg2 arg3 harg3 arg4 harg4 x0 x1 x2) (kernelRun0_A.sl.r_4 (F := Ideal) c i arg2 harg2 arg3 harg3 x0 x1) 2#32 (kernelRun0_A.sl.v79 i) (kernelRun0_A.sl.v84 i) 1#32 (kernelRun0_A.sl.v100 i) (harg3.unread x1) (harg4.unread x2) (st_k0_t1 (F := Ideal) Variants.none c none i arg2 harg2 arg3 harg3 arg4 harg4 arg5 harg5 arg6 harg6 arg7 harg7 arg8 harg8 (BitVec.ofNat 32 (i 1).val) k0_pay25 k0_pay26 (kernelRun0_A.sl.r (F := Ideal) c arg2 harg2 x0) (kernelRun0_A.sl.v23 i) (kernelRun0_A.sl.r_3 (F := Ideal) c i arg2 harg2 arg3 harg3 arg4 harg4 x0 x1 x2) (kernelRun0_A.sl.r_4 (F := Ideal) c i arg2 harg2 arg3 harg3 x0 x1) 2#32 (kernelRun0_A.sl.v79 i) (kernelRun0_A.sl.v84 i) 1#32 (harg3.unread x1) (harg4.unread x2) ((kernelRun0_A.sl.r_3 (F := Ideal) c i arg2 harg2 arg3 harg3 arg4 harg4 x0 x1 x2), (kernelRun0_A.sl.r_4 (F := Ideal) c i arg2 harg2 arg3 harg3 x0 x1)) (k0_t1_loop i).trips) (k0_t2_loop i).trips = st_k0_t1 (F := Ideal) Variants.none c none i arg2 harg2 arg3 harg3 arg4 harg4 arg5 harg5 arg6 harg6 arg7 harg7 arg8 harg8 (BitVec.ofNat 32 (i 1).val) k0_pay25 k0_pay26 (kernelRun0_A.sl.r (F := Ideal) c arg2 harg2 x0) (kernelRun0_A.sl.v23 i) (kernelRun0_A.sl.r_3 (F := Ideal) c i arg2 harg2 arg3 harg3 arg4 harg4 x0 x1 x2) (kernelRun0_A.sl.r_4 (F := Ideal) c i arg2 harg2 arg3 harg3 x0 x1) 2#32 (kernelRun0_A.sl.v79 i) (kernelRun0_A.sl.v84 i) 1#32 (harg3.unread x1) (harg4.unread x2) ((kernelRun0_A.sl.r_3 (F := Ideal) c i arg2 harg2 arg3 harg3 arg4 harg4 x0 x1 x2), (kernelRun0_A.sl.r_4 (F := Ideal) c i arg2 harg2 arg3 harg3 x0 x1)) (k0_t1_loop i).trips := by
    rw [trips2 i, st_k0_t2_zero]
  have s3 : st_k0_t3 (F := Ideal) Variants.none c none i arg2 harg2 arg3 harg3 arg4 harg4 arg5 harg5 arg6 harg6 arg7 harg7 arg8 harg8 (BitVec.ofNat 32 (i 1).val) k0_pay25 k0_pay26 (kernelRun0_A.sl.r (F := Ideal) c arg2 harg2 x0) (kernelRun0_A.sl.v23 i) (kernelRun0_A.sl.r_3 (F := Ideal) c i arg2 harg2 arg3 harg3 arg4 harg4 x0 x1 x2) (kernelRun0_A.sl.r_4 (F := Ideal) c i arg2 harg2 arg3 harg3 x0 x1) 2#32 (kernelRun0_A.sl.v79 i) (kernelRun0_A.sl.v84 i) 1#32 (harg3.unread x1) (harg4.unread x2) (st_k0_t2 (F := Ideal) Variants.none c none i arg2 harg2 arg3 harg3 arg4 harg4 arg5 harg5 arg6 harg6 arg7 harg7 arg8 harg8 (BitVec.ofNat 32 (i 1).val) k0_pay25 k0_pay26 (kernelRun0_A.sl.r (F := Ideal) c arg2 harg2 x0) (kernelRun0_A.sl.v23 i) (kernelRun0_A.sl.r_3 (F := Ideal) c i arg2 harg2 arg3 harg3 arg4 harg4 x0 x1 x2) (kernelRun0_A.sl.r_4 (F := Ideal) c i arg2 harg2 arg3 harg3 x0 x1) 2#32 (kernelRun0_A.sl.v79 i) (kernelRun0_A.sl.v84 i) 1#32 (kernelRun0_A.sl.v100 i) (harg3.unread x1) (harg4.unread x2) (st_k0_t1 (F := Ideal) Variants.none c none i arg2 harg2 arg3 harg3 arg4 harg4 arg5 harg5 arg6 harg6 arg7 harg7 arg8 harg8 (BitVec.ofNat 32 (i 1).val) k0_pay25 k0_pay26 (kernelRun0_A.sl.r (F := Ideal) c arg2 harg2 x0) (kernelRun0_A.sl.v23 i) (kernelRun0_A.sl.r_3 (F := Ideal) c i arg2 harg2 arg3 harg3 arg4 harg4 x0 x1 x2) (kernelRun0_A.sl.r_4 (F := Ideal) c i arg2 harg2 arg3 harg3 x0 x1) 2#32 (kernelRun0_A.sl.v79 i) (kernelRun0_A.sl.v84 i) 1#32 (harg3.unread x1) (harg4.unread x2) ((kernelRun0_A.sl.r_3 (F := Ideal) c i arg2 harg2 arg3 harg3 arg4 harg4 x0 x1 x2), (kernelRun0_A.sl.r_4 (F := Ideal) c i arg2 harg2 arg3 harg3 x0 x1)) (k0_t1_loop i).trips) (k0_t2_loop i).trips) (k0_t3_loop i).trips = stFrom n (Qs q P n) (bk k P) (bk v P) (ends (bt q k P n)) (min n 1) :=
    loop3_at _ c _ i arg2 harg2 arg3 harg3 arg4 harg4 arg5 harg5 arg6 harg6 arg7 harg7 arg8 harg8 _ _ _ _ x1 x2 _ _ _ _ _ _ _ n hi _ _ _ _ (congrArg (BitVec.ofNat 32) hi) pay25_bits pay26_up hr h1 h2 _ (s2.trans s1)
  have s4 : ((kernelRun0_A.sl.r_5 (F := Ideal) c i arg2 harg2 arg3 harg3 arg4 harg4 arg5 harg5 arg6 harg6 arg7 harg7 arg8 harg8 x0 x1 x2), (kernelRun0_A.sl.r_6 (F := Ideal) c i arg2 harg2 arg3 harg3 arg4 harg4 arg5 harg5 arg6 harg6 arg7 harg7 arg8 harg8 x0 x1 x2)) = stFrom n (Qs q P n) (bk k P) (bk v P) (ends (bt q k P n)) (min n 1) := by
    rw [mid_eq, trips4 i, st_k0_t4_zero]
    exact s3
  have s5 : st_k0_t5 (F := Ideal) Variants.none c none i arg2 harg2 arg3 harg3 arg4 harg4 arg5 harg5 arg6 harg6 arg7 harg7 arg8 harg8 (BitVec.ofNat 32 (i 1).val) k0_pay25 k0_pay26 (kernelRun0_A.sl.r (F := Ideal) c arg2 harg2 x0) 0#32 1#32 (harg3.unread x1) (harg4.unread x2) ((kernelRun0_A.sl.r_5 (F := Ideal) c i arg2 harg2 arg3 harg3 arg4 harg4 arg5 harg5 arg6 harg6 arg7 harg7 arg8 harg8 x0 x1 x2), (kernelRun0_A.sl.r_6 (F := Ideal) c i arg2 harg2 arg3 harg3 arg4 harg4 arg5 harg5 arg6 harg6 arg7 harg7 arg8 harg8 x0 x1 x2)) (k0_t5_loop i).trips = stFrom n (Qs q P n) (bk k P) (bk v P) (ends (bt q k P n)) 0 :=
    loop5_at _ c _ i arg2 harg2 arg3 harg3 arg4 harg4 arg5 harg5 arg6 harg6 arg7 harg7 arg8 harg8 _ _ _ _ x1 x2 n hi _ _ _ _ (congrArg (BitVec.ofNat 32) hi) pay25_bits pay26_up hr h1 h2 _ _ _ s4
  rw [trips6 i, st_k0_t6_zero, s5]
  unfold stFrom
  rw [acc_end q k v P n hn]

omit hi h0 h1 h2 in
/-- A store of a whole block, read back. -/
theorem read_whole {κ : Kind} {sp : Space} {e : EltTy} (w : View sig κ sp S256x128 e) (f : w.ty.Contents (Elt Ideal)) (p : Vec Ideal S256x128 e) :
    w.read (Elt Ideal) (w.writes (Elt Ideal) f [⟨Rect.unit ![0, 0] ![256, 128] inb_S256x128_S256x128_0_0, p⟩]) = p := by
  funext y
  exact View.read_writes_cons_unit_of_mem w f inb_S256x128_S256x128_0_0 p [] y y rfl (by intro a; fin_cases a <;> exact (Nat.zero_add _).symm)

theorem out4_at : out0_A_4 (F := Ideal) c i arg2 harg2 arg3 harg3 arg4 harg4 arg5 harg5 arg6 harg6 arg7 harg7 arg8 harg8 x0 x1 x2 x3 = up .f32 (bo q k v P n) := by
  unfold out0_A_4
  rw [store0_eq c i arg2 harg2 arg3 harg3 arg4 harg4 arg5 harg5 arg6 harg6 arg7 harg7 arg8 harg8 x0 x1 x2 x3, read_whole, end_at c i arg2 harg2 arg3 harg3 arg4 harg4 arg5 harg5 arg6 harg6 arg7 harg7 arg8 harg8 x0 x1 x2 n hi P q k v h0 h1 h2]

theorem out5_at (g : ℕ → ℝ) (h3 : x3 = up .f32 (bg g)) : out0_A_5 (F := Ideal) c i arg2 harg2 arg3 harg3 arg4 harg4 arg5 harg5 arg6 harg6 arg7 harg7 arg8 harg8 x0 x1 x2 x3
    = up .f32 (fun p l => bo q k v P n p l * grs q k v (2 * P + l.val / 64) (256 * n + p.val) * g (l.val % 64)) := by
  unfold out0_A_5
  rw [store1_eq c i arg2 harg2 arg3 harg3 arg4 harg4 arg5 harg5 arg6 harg6 arg7 harg7 arg8 harg8 x0 x1 x2 x3, read_whole, end_at c i arg2 harg2 arg3 harg3 arg4 harg4 arg5 harg5 arg6 harg6 arg7 harg7 arg8 harg8 x0 x1 x2 n hi P q k v h0 h1 h2, h3, pay25_bits, pay6_up]
  simp only [rs_grs, bg]

theorem out6_at : out0_A_6 (F := Ideal) c i arg2 harg2 arg3 harg3 arg4 harg4 arg5 harg5 arg6 harg6 arg7 harg7 arg8 harg8 x0 x1 x2 x3 = up .f32 (bt q k P n) := by
  unfold out0_A_6
  rw [store2_eq c i arg2 harg2 arg3 harg3 arg4 harg4 arg5 harg5 arg6 harg6 arg7 harg7 arg8 harg8 x0 x1 x2 x3, read_whole, end_at c i arg2 harg2 arg3 harg3 arg4 harg4 arg5 harg5 arg6 harg6 arg7 harg7 arg8 harg8 x0 x1 x2 n hi P q k v h0 h1 h2, pay25_bits, pay5_up]
  simp only [rem_end]

end Point

end Cert.SbFwdIdeal.Fwd
-- ==== Proof.SbFwdKernel.lean ====
/-
  What the forward attention program leaves in its three output arrays, from arguments of reals: the read-out, the read-out
  behind its norm, and the sum of the softplus of each row.
-/
module

public import proofs.«01_k».proof.Proof.SbFwdPoint
public import proofs.«01_k».proof.Proof.SbHost

@[expose] public section

set_option maxRecDepth 16384

noncomputable section

open Idealize.ShloMosaic Idealize.ShloMosaic.TcCoe Idealize.SL.Sem

namespace Cert.SbFwdIdeal.Fwd

open Cert.SbFwdIdeal Cert.SbFwdIdeal.Gen
open Cert.SbIdeal.Sb (up bits up_apply rows seq bq bk bo bt bg go gsp grs sheet line front sheet_apply pad_sheet zero_conv)
open Cert.SbIdeal.Run (beside join_sheet)

variable (m : (ℓ : Loc nD τ sig) → Buf (Elt Ideal) ℓ) (c : Dev nD)

/-- The arguments are reals. -/
structure Args (q k v : ℕ → ℕ → ℝ) (g : ℕ → ℝ) : Prop where
  q : (m ((c : Thread nD τ).loc main_arg0) : FVec Ideal S16400x256 .f32) = sheet .f32 16400 256 q
  k : (m ((c : Thread nD τ).loc main_arg1) : FVec Ideal S16400x256 .f32) = sheet .f32 16400 256 k
  v : (m ((c : Thread nD τ).loc main_arg2) : FVec Ideal S16400x256 .f32) = sheet .f32 16400 256 v
  g : (m ((c : Thread nD τ).loc main_arg3) : FVec Ideal S64 .f32) = line 64 g

theorem v2_eq : @Eq (FVec Ideal S16640x768 .bf16) (V m c main_v2) (truncf .bf16 (pad S16640x768 ![240, 0] ![0, 0] ![0, 0]
    (concatenate S16400x768 1 [⟨S16400x256, (m ((c : Thread nD τ).loc main_arg0) : FVec Ideal S16400x256 .f32)⟩, ⟨S16400x256, (m ((c : Thread nD τ).loc main_arg1) : FVec Ideal S16400x256 .f32)⟩,
      ⟨S16400x256, (m ((c : Thread nD τ).loc main_arg2) : FVec Ideal S16400x256 .f32)⟩] concatenates_S16400x256_S16400x256_S16400x256_S16400x768_d1)
    (sitofp .f32 (constantI S_ 32 0#32)) pads_S16400x768_S16640x768_24000_000 h_S_) bitsLt_bf16_f32) := rfl

theorem v6_eq : @Eq (FVec Ideal S1x128 .f32) (V m c main_v6)
    (broadcastInDim S1x128 ![1] bcast_S128_S1x128_1 (shapeCast S128 (broadcastInDim S2x64 ![0, 1] bcast_S1x64_S2x64_0_1
      (shapeCast S1x64 (m ((c : Thread nD τ).loc main_arg3) : FVec Ideal S64 .f32) shapeCasts_S64_S1x64)) shapeCasts_S2x64_S128)) := rfl

theorem idx_val : ∀ t : Fin cfg0.N, win0_0.index t = ![t.val % 65, t.val / 65] ∧ win0_1.index t = ![0, 2 + t.val / 65]
    ∧ win0_2.index t = ![0, 4 + t.val / 65] ∧ win0_3.index t = ![0, 0] ∧ win0_4.index t = ![t.val % 65, t.val / 65]
    ∧ win0_5.index t = ![t.val % 65, t.val / 65] ∧ win0_6.index t = ![t.val % 65, t.val / 65] :=
  (by decide +kernel : ∀ t : Fin grid0.N, _)

theorem coord1 : ∀ t : Fin cfg0.N, ((grid0.coords t) 1).val = t.val % 65 := (by decide +kernel : ∀ t : Fin grid0.N, _)

theorem lt_130 (t : Fin cfg0.N) : t.val < 130 := lt_of_lt_of_eq t.isLt N_0

/-- A row of the point's block, a column of the point's pair. -/
def prow (t : Fin cfg0.N) (p : Fin 256) : Fin 16640 := ⟨(256 * (t.val % 65) + p.val) % 16640, Nat.mod_lt _ (by omega)⟩
def pcol (N : ℕ) (hN : 0 < N) (o : ℕ) (t : Fin cfg0.N) (l : Fin 128) : Fin N := ⟨(128 * (o + t.val / 65) + l.val) % N, Nat.mod_lt _ hN⟩

theorem prow_val (t : Fin cfg0.N) (p : Fin 256) : (prow t p).val = 256 * (t.val % 65) + p.val := by
  have := p.isLt
  exact Nat.mod_eq_of_lt (by omega)

theorem pcol_val (t : Fin cfg0.N) (l : Fin 128) : (pcol 256 (by omega) 0 t l).val = 128 * (t.val / 65) + l.val := by
  have h := lt_130 t
  have := l.isLt
  show (128 * (0 + t.val / 65) + l.val) % 256 = _
  omega
theorem pcol_div (t : Fin cfg0.N) (l : Fin 128) : (pcol 256 (by omega) 0 t l).val / 64 = 2 * (t.val / 65) + l.val / 64 := by rw [pcol_val]; omega
theorem pcol_mod (t : Fin cfg0.N) (l : Fin 128) : (pcol 256 (by omega) 0 t l).val % 64 = l.val % 64 := by rw [pcol_val]; omega

variable {m c} {q k v : ℕ → ℕ → ℝ} {g : ℕ → ℝ} (A : Args m c q k v g) (t : Fin cfg0.N)
include A

theorem v2_at : (V m c main_v2 : FVec Ideal S16640x768 .bf16) = up .bf16 (fun (r : Fin 16640) (l : Fin 768) =>
    beside (front q) (front k) (front v) r.val l.val) := by
  have e : concatenate S16400x768 1 [⟨S16400x256, sheet .f32 16400 256 q⟩, ⟨S16400x256, sheet .f32 16400 256 k⟩, ⟨S16400x256, sheet .f32 16400 256 v⟩]
      concatenates_S16400x256_S16400x256_S16400x256_S16400x768_d1 = sheet .f32 16400 768 (beside q k v) := join_sheet q k v
  rw [v2_eq, A.q, A.k, A.v, e]
  have e2 := pad_sheet 16400 768 240 16640 (beside q k v) _ zero_conv h_S_ (by norm_num) pads_S16400x768_S16640x768_24000_000
  refine (congrArg (fun x : FVec Ideal S16640x768 .f32 => truncf (F := Ideal) .bf16 x bitsLt_bf16_f32) e2).trans ?_
  funext i; idx_vars i
  refine congrArg (fun a : ℝ => (a : EReal)) ?_
  show (if 240 ≤ i0.val then beside q k v (i0.val - 240) i1.val else 0) = beside (front q) (front k) (front v) i0.val i1.val
  unfold beside front
  by_cases h : 240 ≤ i0.val
  · simp only [if_pos h]
  · simp only [if_neg h, ite_self]

theorem blk0 : (iblk m c 0 t : FVec Ideal S256x128 .bf16) = up .bf16 (bq (front q) (t.val / 65) (t.val % 65)) := by
  have h := lt_130 t
  funext y; idx_vars y
  have h1 := y1.isLt
  refine Eq.trans (b := (V m c main_v2 : FVec Ideal S16640x768 .bf16) (ix2 (prow t y0) (pcol 768 (by omega) 0 t y1))) ?_ ?_
  · unfold prow pcol
    blk_ext [iblk, idx_val t]
  · rw [v2_at A]
    simp only [up_apply, prow_val, pcol, bq, beside]
    rw [show (128 * (0 + t.val / 65) + y1.val) % 768 = 128 * (t.val / 65) + y1.val by omega, if_pos (by omega)]

theorem blk1 : (iblk m c 1 t : FVec Ideal S16640x128 .bf16) = seq .bf16 (bk (front k) (t.val / 65)) := by
  have h := lt_130 t
  funext y; idx_vars y
  have h1 := y1.isLt
  refine Eq.trans (b := (V m c main_v2 : FVec Ideal S16640x768 .bf16) (ix2 y0 (pcol 768 (by omega) 2 t y1))) ?_ ?_
  · unfold pcol
    blk_ext [iblk, idx_val t]
  · rw [v2_at A]
    simp only [up_apply, pcol, bk, beside]
    rw [show (128 * (2 + t.val / 65) + y1.val) % 768 = 256 + (128 * (t.val / 65) + y1.val) by omega, if_neg (by omega), if_pos (by omega),
      Nat.add_sub_cancel_left]

theorem blk2 : (iblk m c 2 t : FVec Ideal S16640x128 .bf16) = seq .bf16 (bk (front v) (t.val / 65)) := by
  have h := lt_130 t
  funext y; idx_vars y
  have h1 := y1.isLt
  refine Eq.trans (b := (V m c main_v2 : FVec Ideal S16640x768 .bf16) (ix2 y0 (pcol 768 (by omega) 4 t y1))) ?_ ?_
  · unfold pcol
    blk_ext [iblk, idx_val t]
  · rw [v2_at A]
    simp only [up_apply, pcol, bk, beside]
    rw [show (128 * (4 + t.val / 65) + y1.val) % 768 = 512 + (128 * (t.val / 65) + y1.val) by omega, if_neg (by omega), if_neg (by omega),
      Nat.add_sub_cancel_left]

theorem blk3 : (iblk m c 3 t : FVec Ideal S1x128 .f32) = up .f32 (bg g) := by
  funext y; idx_vars y
  refine Eq.trans (b := (V m c main_v6 : FVec Ideal S1x128 .f32) (ix2 y0 y1)) ?_ ?_
  · blk_ext [iblk, idx_val t]
  · rw [v6_eq, A.g]
    pointwise
    rfl

/-- The read-out, after the run. -/
theorem final4 : (dats m 0 c).arrAt 4 cfg0.N
    = (sheet .f32 16640 256 (fun r l => go (front q) (front k) (front v) (l / 64) r (l % 64)) : FVec Ideal S16640x256 .f32) := by
  refine (dats m 0 c).arrAt_eq_of_covers 4 _ (by decide +kernel) fun t _ y => ?_
  blk_simp
  rw [after0_4]
  unfold outsAt0
  dsimp only
  rw [out4_at c _ _ _ _ _ _ _ _ _ _ _ _ _ _ _ _ _ _ _ _ (coord1 t) (t.val / 65) (front q) (front k) (front v) (blk0 A t) (blk1 A t) (blk2 A t)]
  idx_vars y
  have e0 : ((View.whole main_v7_0).slice (win0_4.rect t)).emb (ix2 y0 y1) = ix2 (prow t y0) (pcol 256 (by omega) 0 t y1) := by
    unfold prow pcol
    blk_ext [idx_val t]
  rw [e0, sheet_apply]
  simp only [up_apply, prow_val, pcol_div, pcol_mod, bo]

/-- The read-out behind its norm, after the run. -/
theorem final5 : (dats m 0 c).arrAt 5 cfg0.N
    = (sheet .f32 16640 256 (fun r l => go (front q) (front k) (front v) (l / 64) r (l % 64) * grs (front q) (front k) (front v) (l / 64) r * g (l % 64)) : FVec Ideal S16640x256 .f32) := by
  refine (dats m 0 c).arrAt_eq_of_covers 5 _ (by decide +kernel) fun t _ y => ?_
  blk_simp
  rw [after0_5]
  unfold outsAt0
  dsimp only
  rw [out5_at c _ _ _ _ _ _ _ _ _ _ _ _ _ _ _ _ _ _ _ _ (coord1 t) (t.val / 65) (front q) (front k) (front v) (blk0 A t) (blk1 A t) (blk2 A t) g (blk3 A t)]
  idx_vars y
  have e0 : ((View.whole main_v7_1).slice (win0_5.rect t)).emb (ix2 y0 y1) = ix2 (prow t y0) (pcol 256 (by omega) 0 t y1) := by
    unfold prow pcol
    blk_ext [idx_val t]
  rw [e0, sheet_apply]
  simp only [up_apply, prow_val, pcol_div, pcol_mod, bo]

/-- The sums of the softplus, after the run. -/
theorem final6 : (dats m 0 c).arrAt 6 cfg0.N
    = (sheet .f32 16640 256 (fun r l => ∑ J ∈ Finset.range 16640, gsp (front q) (front k) (l / 64) r J) : FVec Ideal S16640x256 .f32) := by
  refine (dats m 0 c).arrAt_eq_of_covers 6 _ (by decide +kernel) fun t _ y => ?_
  blk_simp
  rw [after0_6]
  unfold outsAt0
  dsimp only
  rw [out6_at c _ _ _ _ _ _ _ _ _ _ _ _ _ _ _ _ _ _ _ _ (coord1 t) (t.val / 65) (front q) (front k) (front v) (blk0 A t) (blk1 A t) (blk2 A t)]
  idx_vars y
  have e0 : ((View.whole main_v7_2).slice (win0_6.rect t)).emb (ix2 y0 y1) = ix2 (prow t y0) (pcol 256 (by omega) 0 t y1) := by
    unfold prow pcol
    blk_ext [idx_val t]
  rw [e0, sheet_apply]
  simp only [up_apply, prow_val, pcol_div, bt]

end Cert.SbFwdIdeal.Fwd
-- ==== Proof.SbFwdRef.lean ====
/-
  The reference of the forward attention on arrays of reals: its three results are the plain sums' arrays.
-/
module

public import proofs.«01_k».proof.Proof.SbRef
public import proofs.«01_k».proof.Proof.Gen.SbFwdRefIdeal.Read

@[expose] public section

set_option maxRecDepth 16384

noncomputable section

open Idealize.ShloMosaic Idealize.ShloMosaic.TcCoe Idealize.SL.Sem

namespace Cert.SbFwdRefVal

open Cert.SbFwdRefIdeal hiding sig
open Cert.SbFwdRefIdeal.Gen Cert.SbFwdRefIdeal.Read
open Cert.SbIdeal.Sb (sheet cube line up bits front go gsp gw grs Vis sp sheet_apply cube_apply neg_cube pad_sheet zero_conv coe_sum)
open Cert.SbRefVal (O R Z ms)

variable (q k v : ℕ → ℕ → ℝ) (g : ℕ → ℝ)

theorem v9_at : val_main_v9 (F := Ideal) (sheet .f32 16400 256 q) (sheet .f32 16400 256 k) = cube 4 16400 16400 (Z q k) :=
  Cert.SbRefVal.v9_at q k

theorem v25_at : val_main_v25 (F := Ideal) (sheet .f32 16400 256 q) (sheet .f32 16400 256 k) (sheet .f32 16400 256 v) = cube 16400 4 64 (O q k v) :=
  Cert.SbRefVal.v25_at q k v

theorem v56_at : val_main_v56 (F := Ideal) (sheet .f32 16400 256 q) (sheet .f32 16400 256 k) (sheet .f32 16400 256 v) = cube 16400 4 1 (fun i h _ => R q k v i h) :=
  Cert.SbRefVal.v33_at q k v

theorem v42_at : val_main_v42 (F := Ideal) (sheet .f32 16400 256 q) (sheet .f32 16400 256 k) = cube 4 16400 16400 (fun h i j => gsp (front q) (front k) h (240 + i) (240 + j)) := by
  have e : val_main_v41 (F := Ideal) (sheet .f32 16400 256 q) (sheet .f32 16400 256 k) = cube 4 16400 16400 (fun h i j => sp (Z q k h i j)) := by
    unfold val_main_v41 val_main_v40
    rw [show val_main_call5_v1 (F := Ideal) (sheet .f32 16400 256 q) (sheet .f32 16400 256 k) = _ from Cert.SbRefVal.c0s_at q k, neg_cube, neg_cube]
    simp only [neg_neg]
  unfold val_main_v42 val_main_call6_v1 val_main_call6_v2 val_main_call6_v0 val_main_cst_3
  rw [e]
  erw [Cert.SbRefVal.zeros_at]
  exact Cert.SbRefVal.sel_at _ _ _ Cert.SbRefVal.v14_at

theorem go_low (I h d : ℕ) (hI : I < 240) : go (front q) (front k) (front v) h I d = 0 :=
  Finset.sum_eq_zero fun J _ => by rw [show gw (front q) (front k) h I J = 0 from if_neg (by unfold Vis; omega), zero_mul]

theorem v48_at : val_main_v48 (F := Ideal) (sheet .f32 16400 256 q) (sheet .f32 16400 256 k) (sheet .f32 16400 256 v)
    = sheet .f32 16640 256 (fun r l => go (front q) (front k) (front v) (l / 64) r (l % 64)) := by
  have e : val_main_v47 (F := Ideal) (sheet .f32 16400 256 q) (sheet .f32 16400 256 k) (sheet .f32 16400 256 v)
      = sheet .f32 16400 256 (fun r l => O q k v r (l / 64) (l % 64)) := by
    unfold val_main_v47
    rw [v25_at]
    funext i; idx_vars i
    pointwise
    rfl
  unfold val_main_v48
  rw [e]
  refine (pad_sheet 16400 256 240 16640 _ _ zero_conv h_S_ (by norm_num) _).trans ?_
  refine congrArg (sheet .f32 16640 256) (funext fun r => funext fun l => ?_)
  by_cases h : 240 ≤ r
  · rw [if_pos h]; unfold O; rw [Nat.add_sub_cancel' h]
  · rw [if_neg h, go_low q k v r _ _ (by omega)]

theorem v63_at : val_main_v63 (F := Ideal) (sheet .f32 16400 256 q) (sheet .f32 16400 256 k) (sheet .f32 16400 256 v) (line 64 g)
    = sheet .f32 16640 256 (fun r l => go (front q) (front k) (front v) (l / 64) r (l % 64) * grs (front q) (front k) (front v) (l / 64) r * g (l % 64)) := by
  have e : val_main_v62 (F := Ideal) (sheet .f32 16400 256 q) (sheet .f32 16400 256 k) (sheet .f32 16400 256 v) (line 64 g)
      = sheet .f32 16400 256 (fun r l => O q k v r (l / 64) (l % 64) * R q k v r (l / 64) * g (l % 64)) := by
    unfold val_main_v62 val_main_v61 val_main_v60 val_main_v59 val_main_v58 val_main_v57
    rw [v25_at, v56_at]
    funext i; idx_vars i
    pointwise
    simp only [cube_apply, ← EReal.coe_mul]
    exact (EReal.coe_mul _ _).symm
  unfold val_main_v63
  rw [e]
  refine (pad_sheet 16400 256 240 16640 _ _ zero_conv h_S_ (by norm_num) _).trans ?_
  refine congrArg (sheet .f32 16640 256) (funext fun r => funext fun l => ?_)
  by_cases h : 240 ≤ r
  · rw [if_pos h]; unfold O R; rw [Nat.add_sub_cancel' h]
  · rw [if_neg h, go_low q k v r _ _ (by omega), zero_mul, zero_mul]

theorem v65_at : val_main_v65 (F := Ideal) (sheet .f32 16400 256 q) (sheet .f32 16400 256 k)
    = sheet .f32 16640 256 (fun r l => ∑ J ∈ Finset.range 16640, gsp (front q) (front k) (l / 64) r J) := by
  have e : val_main_v64 (F := Ideal) (sheet .f32 16400 256 q) (sheet .f32 16400 256 k)
      = sheet .f32 16400 256 (fun r l => ∑ J ∈ Finset.range 16640, gsp (front q) (front k) (l / 64) (240 + r) J) := by
    unfold val_main_v64 val_main_v46 val_main_v45 val_main_v44 val_main_v43 val_main_cst_4
    rw [v42_at]
    funext i; idx_vars i
    pointwise
    simp only [cube_apply, sheet_apply, coe_sum]
    rw [← Cert.SbRefVal.sum_front (fun J => gsp (front q) (front k) (i1.val / 64) (240 + i0.val) J) (fun J hJ => if_neg (by unfold Vis; omega))]
  unfold val_main_v65
  rw [e]
  refine (pad_sheet 16400 256 240 16640 _ _ zero_conv h_S_ (by norm_num) _).trans ?_
  refine congrArg (sheet .f32 16640 256) (funext fun r => funext fun l => ?_)
  by_cases h : 240 ≤ r
  · rw [if_pos h, Nat.add_sub_cancel' h]
  · rw [if_neg h]; exact (Finset.sum_eq_zero fun J _ => show gsp (front q) (front k) (l / 64) r J = 0 from if_neg (by unfold Vis; omega)).symm

end Cert.SbFwdRefVal
-- ==== Proof.SbFwdClaims.lean ====
/-
  The claims about the forward attention: both programs' runs, and the equality of their three results for finite arguments.
-/
module

public import proofs.«01_k».proof.Defs
public import proofs.«01_k».proof.Proof.Finite
public import proofs.«01_k».proof.Proof.SbFwdKernel
public import proofs.«01_k».proof.Proof.SbFwdRef
public import proofs.«01_k».proof.Proof.Gen.SbFwd.Frame
public import proofs.«01_k».proof.Proof.Gen.Pre_sbf_finite

@[expose] public section

set_option maxRecDepth 16384

noncomputable section

namespace Cert.SbFwdClaims

open Idealize.ShloMosaic Idealize.ShloMosaic.TcCoe Idealize.SL.Sem

theorem frame_ref : Cert.quiescent_SbFwdRefIdeal := fun m ρ _ =>
  (θ_run _ _ _).mono (fun r h => ⟨fun c => (h c).2.2.2, sem_eq_zero_of_no_sems (by decide) r.2⟩) (Cert.SbFwdRefIdeal.Value.run m ρ)

theorem frame_kernel_ideal : Cert.quiescent_SbFwdIdeal := fun m ρ _ => Cert.SbFwdIdeal.Gen.frame m ρ

theorem frame_kernel : Cert.quiescent_SbFwd := fun m ρ _ => Cert.SbFwd.Gen.frame m ρ

section kernel
open Cert.SbFwdIdeal Cert.SbFwdIdeal.Gen
variable (m : (ℓ : Loc nD τ sig) → Buf (Elt Ideal) ℓ) (c : Dev nD)

/-- Finite arguments are arrays of reals. -/
theorem args_of_finite (h : Cert.Pre_SbFwdIdeal_sbf_finite m) : ∃ (q k v : ℕ → ℕ → ℝ) (g : ℕ → ℝ), Cert.SbFwdIdeal.Fwd.Args m c q k v g := by
  have e := congrFun (h c) ix0
  obtain ⟨e012, e3⟩ := IntOp.andi_eq_one.1 e
  obtain ⟨e01, e2⟩ := IntOp.andi_eq_one.1 e012
  obtain ⟨e0, e1⟩ := IntOp.andi_eq_one.1 e01
  exact ⟨_, _, _, _,
    { q := Cert.Finite.sheet_reals2 _ (Cert.Finite.real_of_all _ _ _ _ _ e0)
      k := Cert.Finite.sheet_reals2 _ (Cert.Finite.real_of_all _ _ _ _ _ e1)
      v := Cert.Finite.sheet_reals2 _ (Cert.Finite.real_of_all _ _ _ _ _ e2)
      g := Cert.Finite.line_reals1 _ (Cert.Finite.real_of_all _ _ _ _ _ e3) }⟩

variable {m c} {q k v : ℕ → ℕ → ℝ} {g : ℕ → ℝ} (A : Cert.SbFwdIdeal.Fwd.Args m c q k v g)
include A

theorem same48 : Cert.SbFwdRefIdeal.Read.val_main_v48 (F := Ideal) (m ((c : Thread nD τ).loc main_arg0)) (m ((c : Thread nD τ).loc main_arg1))
    (m ((c : Thread nD τ).loc main_arg2)) = (dats m 0 c).arrAt 4 cfg0.N := by
  rw [A.q, A.k, A.v]
  exact (Cert.SbFwdRefVal.v48_at q k v).trans (Cert.SbFwdIdeal.Fwd.final4 A).symm

theorem same63 : Cert.SbFwdRefIdeal.Read.val_main_v63 (F := Ideal) (m ((c : Thread nD τ).loc main_arg0)) (m ((c : Thread nD τ).loc main_arg1))
    (m ((c : Thread nD τ).loc main_arg2)) (m ((c : Thread nD τ).loc main_arg3)) = (dats m 0 c).arrAt 5 cfg0.N := by
  rw [A.q, A.k, A.v, A.g]
  exact (Cert.SbFwdRefVal.v63_at q k v g).trans (Cert.SbFwdIdeal.Fwd.final5 A).symm

theorem same65 : Cert.SbFwdRefIdeal.Read.val_main_v65 (F := Ideal) (m ((c : Thread nD τ).loc main_arg0)) (m ((c : Thread nD τ).loc main_arg1))
    = (dats m 0 c).arrAt 6 cfg0.N := by
  rw [A.q, A.k]
  exact (Cert.SbFwdRefVal.v65_at q k).trans (Cert.SbFwdIdeal.Fwd.final6 A).symm

end kernel

theorem algebraic : Cert.algebraic_SbFwdIdeal_SbFwdRefIdeal_pre_sbf_finite := fun m ρ m' ρ' hpre hag => by
  refine ⟨fun c => (Cert.SbFwdIdeal.Gen.dats m 0 c).arrAt 4 Cert.SbFwdIdeal.cfg0.N, fun c => (Cert.SbFwdIdeal.Gen.dats m 0 c).arrAt 5 Cert.SbFwdIdeal.cfg0.N,
    fun c => (Cert.SbFwdIdeal.Gen.dats m 0 c).arrAt 6 Cert.SbFwdIdeal.cfg0.N,
    Cert.SbFwdIdeal.Value.run_blocks m ρ, (θ_run _ _ _).mono (fun _ h c => ?_) (Cert.SbFwdRefIdeal.Value.run m' ρ')⟩
  obtain ⟨q, k, v, g, A⟩ := args_of_finite m c hpre
  obtain ⟨a0, a1, a2, a3⟩ := hag c
  refine ⟨(h c).1.trans ((Cert.SbFwdRefIdeal.Read.val_main_v48_eq _ _).trans (Eq.trans ?_ (same48 A))),
    (h c).2.1.trans ((Cert.SbFwdRefIdeal.Read.val_main_v63_eq _ _).trans (Eq.trans ?_ (same63 A))),
    (h c).2.2.1.trans ((Cert.SbFwdRefIdeal.Read.val_main_v65_eq _ _).trans (Eq.trans ?_ (same65 A))), (h c).2.2.2⟩
  · exact congr (congrArg₂ _ a0 a1) a2
  · exact congr (congr (congrArg₂ _ a0 a1) a2) a3
  · exact congrArg₂ _ a0 a1

end Cert.SbFwdClaims

end
-- ==== Proof.PreSpec.lean ====
/-
  What the recurrence is fed and its gradients, as real numbers: the short convolution of the rows, the activated row, the sums over a
  head's columns, the unit-length gradient of a head, and the gradients of the step sizes and decays.
-/
module

public import proofs.«01_k».proof.Proof.RmsReal

@[expose] public section

noncomputable section

namespace Cert.PreSpec

open Cert.Rms (sg)
open Cert.SbIdeal.Sb (eps sp sig)

/-- The convolution at a row, from rows that stand eight later. -/
def cv (L w : ℕ → ℕ → ℝ) (p l : ℕ) : ℝ := L (8 + p) l * w 3 l + L (7 + p) l * w 2 l + L (6 + p) l * w 1 l + L (5 + p) l * w 0 l

/-- The sum over the sixty-four columns of column `j`'s head. -/
def hd (f : ℕ → ℝ) (j : ℕ) : ℝ := ∑ k : Fin 64, f (64 * (j / 64) + k.val)

theorem hd_shift (f : ℕ → ℝ) (o j : ℕ) (ho : o % 64 = 0) : hd (fun k => f (o + k)) j = hd f (o + j) :=
  Finset.sum_congr rfl fun k _ => congrArg f (by omega)

theorem hd_congr {f g : ℕ → ℝ} (j : ℕ) (h : ∀ k, k / 64 = j / 64 → f k = g k) : hd f j = hd g j :=
  Finset.sum_congr rfl fun k _ => h _ (by have := k.isLt; omega)

theorem hd_zero (j : ℕ) {f : ℕ → ℝ} (h : ∀ k, f k = 0) : hd f j = 0 := Finset.sum_eq_zero fun k _ => h _

/-- A head's reciprocal length, and the gradient at a column of a head scaled to that length, from the gradient at the scaled head. -/
def rn (a : ℕ → ℝ) (j : ℕ) : ℝ := (Real.sqrt (hd (fun k => a k * a k) j + eps))⁻¹
def un (d a : ℕ → ℝ) (j : ℕ) : ℝ := rn a j * (d j - a j * rn a j * hd (fun k => d k * (a k * rn a k)) j)

theorem eps_pos : 0 < eps := by unfold eps; norm_num
theorem sq_pos (a : ℕ → ℝ) (j : ℕ) : 0 < hd (fun k => a k * a k) j + eps :=
  add_pos_of_nonneg_of_pos (Finset.sum_nonneg fun k _ => mul_self_nonneg _) eps_pos

/-- Three arrays of 256 columns side by side. -/
def beside (q k v : ℕ → ℝ) (j : ℕ) : ℝ := if j < 256 then q j else if j < 512 then k (j - 256) else v (j - 512)

/-- The gradient at a column of the activated row, and at the convolution. -/
def gact (d a : ℕ → ℝ) (j : ℕ) : ℝ := if j < 512 then un d a j else d j
def act (c : ℕ → ℝ) (j : ℕ) : ℝ := c j * sg (c j)
def gconv (d c : ℕ → ℝ) (j : ℕ) : ℝ := gact d (act c) j * (sg (c j) * (1 + c j * (1 - sg (c j))))

theorem gconv_zero {d c : ℕ → ℝ} (h : ∀ k, d k = 0) (j : ℕ) : gconv d c j = 0 := by
  unfold gconv gact un
  rw [h, hd_zero _ fun k => by rw [h, zero_mul]]
  simp

/-- The step sizes' and decays' gradients on the eight lanes: the arrays hold `b` and `a` side by side. -/
def eight (s g : ℕ → ℝ) (l : ℕ) : ℝ := if l < 4 then s l else if l < 8 then g (l - 4) else 0
/-- The factor of the gradient: the logistic's slope on the steps' lanes, the decay's slope on the decays'. -/
def slope (x al dt : ℕ → ℝ) (l : ℕ) : ℝ :=
  if l < 4 then sg (x l) * (1 - sg (x l)) else if l < 8 then -Real.exp (al l) * sig (x l + dt l) else 0
/-- The two vectors' shares: the decay itself, and its slope. -/
def decay (x al dt : ℕ → ℝ) (l : ℕ) : ℝ := -Real.exp (al l) * sp (x l + dt l)

end Cert.PreSpec

end
-- ==== Proof.PrePay.lean ====
/-
  What the call before the recurrence computes on a block of 256 rows, on arrays of reals.
-/
module

public import proofs.«01_k».proof.Proof.PreSpec
public import proofs.«01_k».proof.Proof.ConvKernel
public import proofs.«01_k».proof.Proof.SbBlk
public import proofs.«01_k».proof.Proof.Gen.PreIdeal.Skeleton

@[expose] public section

set_option maxRecDepth 16384

noncomputable section

open Idealize.ShloMosaic Idealize.ShloMosaic.TcCoe Idealize.SL.Sem

namespace Cert.PrePay

open Cert.PreIdeal hiding sig
open Cert.PreIdeal.Gen
open Cert.PreSpec
open Cert.Rms (sg sg_coe)
open Cert.ConvKernel (choice upto1 upto2 upto3 either)
open Cert.SbIdeal.Sb (sheet sheet_apply eps sp sig coe_sum coe_ite ofBits_64th_f32 ofBits_eps_f32 zero_sub_abs max_add_log div_sig ite_coe_zero' ite_zero_coe)

theorem w_64 : Ideal.ofBits .f32 0x42800000#32 = ((64 : ℝ) : EReal) := by
  simp [Ideal.ofBits, Ideal.ieee, -EReal.coe_mul]; norm_num

variable (L w A X R D U : ℕ → ℕ → ℝ)

/-! ### The convolution -/

theorem down1 (l : Fin 768) (r : Fin 256) (h : r.val < 8) : Scalar.select (IntOp.cmpi CmpIPredicate.slt (BitVec.ofNat 32 r.val) 1#32) ((L ((r.val + 8 - 1) % 8) l.val : ℝ) : EReal) ((L (8 + (r.val + 256 - 1) % 256) l.val : ℝ) : EReal) = ((L (7 + r.val) l.val : ℝ) : EReal) :=
  Cert.ConvKernel.down1 (fun p q => ((L p q : ℝ) : EReal)) l ⟨r.val, h⟩
theorem down2 (l : Fin 768) (r : Fin 256) (h : r.val < 8) : Scalar.select (IntOp.cmpi CmpIPredicate.slt (BitVec.ofNat 32 r.val) 2#32) ((L ((r.val + 8 - 2) % 8) l.val : ℝ) : EReal) ((L (8 + (r.val + 256 - 2) % 256) l.val : ℝ) : EReal) = ((L (6 + r.val) l.val : ℝ) : EReal) :=
  Cert.ConvKernel.down2 (fun p q => ((L p q : ℝ) : EReal)) l ⟨r.val, h⟩
theorem down3 (l : Fin 768) (r : Fin 256) (h : r.val < 8) : Scalar.select (IntOp.cmpi CmpIPredicate.slt (BitVec.ofNat 32 r.val) 3#32) ((L ((r.val + 8 - 3) % 8) l.val : ℝ) : EReal) ((L (8 + (r.val + 256 - 3) % 256) l.val : ℝ) : EReal) = ((L (5 + r.val) l.val : ℝ) : EReal) :=
  Cert.ConvKernel.down3 (fun p q => ((L p q : ℝ) : EReal)) l ⟨r.val, h⟩

section conv
variable (i : grid0.Coords) (p8 : FVec Ideal S8x768 .f32) (hp : k0_pay5 (F := Ideal) i p8 = sheet .f32 8 768 L)

theorem pay6_eq (f : ℕ → ℕ → ℝ) : k0_pay6 (F := Ideal) (sheet .f32 256 768 f) = sheet .f32 256 768 f := by
  funext i; idx_vars i; pointwise [k0_pay6]

include hp

theorem pay7_eq : k0_pay7 (F := Ideal) i p8 (sheet .f32 256 768 fun r => L (8 + r)) (sheet .f32 1 768 fun _ => w 3) (sheet .f32 1 768 fun _ => w 2)
    = sheet .f32 256 768 fun r l => L (8 + r) l * w 3 l + L (7 + r) l * w 2 l := by
  unfold k0_pay7
  rw [hp, pay6_eq]
  funext i; idx_vars i
  pointwise
  simp only [sheet_apply, EReal.coe_add, EReal.coe_mul]
  refine congrArg₂ (· + ·) rfl (congrArg (· * ((w 2 i1.val : ℝ) : EReal)) (either (fun h => down1 L i1 i0 h) (fun h => congrArg (fun p => ((L p i1.val : ℝ) : EReal)) ?_)))
  have := i0.isLt
  omega

theorem pay8_eq : k0_pay8 (F := Ideal) i p8 (sheet .f32 256 768 fun r => L (8 + r)) = sheet .f32 256 768 fun r => L (6 + r) := by
  unfold k0_pay8
  rw [hp, pay6_eq]
  funext i; idx_vars i
  pointwise
  simp only [sheet_apply]
  refine either (fun h => down2 L i1 i0 h) (fun h => congrArg (fun p => ((L p i1.val : ℝ) : EReal)) ?_)
  have := i0.isLt
  omega

theorem pay9_eq : k0_pay9 (F := Ideal) (k0_pay5 i p8) (k0_pay6 (sheet .f32 256 768 fun r => L (8 + r)))
      (k0_pay7 i p8 (sheet .f32 256 768 fun r => L (8 + r)) (sheet .f32 1 768 fun _ => w 3) (sheet .f32 1 768 fun _ => w 2))
      (k0_pay8 i p8 (sheet .f32 256 768 fun r => L (8 + r))) (sheet .f32 1 768 fun _ => w 1) (sheet .f32 1 768 fun _ => w 0)
    = sheet .f32 256 768 (cv L w) := by
  rw [pay7_eq L w i p8 hp, pay8_eq L i p8 hp, hp, pay6_eq]
  funext i; idx_vars i
  pointwise [k0_pay9]
  unfold cv
  simp only [sheet_apply, EReal.coe_add, EReal.coe_mul]
  refine congrArg₂ (· + ·) rfl (congrArg (· * ((w 0 i1.val : ℝ) : EReal)) (either (fun h => down3 L i1 i0 h) (fun h => congrArg (fun p => ((L p i1.val : ℝ) : EReal)) ?_)))
  have := i0.isLt
  omega
end conv

/-! ### The activated row -/

section act
variable (v7 : FVec Ideal S8x768 .f32) (v9 v27 v36 : FVec Ideal S256x768 .f32) (v37 v51 : FVec Ideal S1x768 .f32) (C : ℕ → ℕ → ℝ)
  (hc : k0_pay9 (F := Ideal) v7 v9 v27 v36 v37 v51 = sheet .f32 256 768 C)
include hc

theorem pay10_eq : k0_pay10 (F := Ideal) v7 v9 v27 v36 v37 v51 = sheet .f32 256 768 fun r l => sg (C r l) := by
  unfold k0_pay10
  rw [hc]
  funext i; idx_vars i
  pointwise
  simp only [sheet_apply, Facts.w_one, zero_sub, ← EReal.coe_neg, Ideal.exp_coe]
  exact sg_coe _

theorem pay11_eq : k0_pay11 (F := Ideal) v7 v9 v27 v36 v37 v51 = sheet .f32 256 768 fun r => act (C r) := by
  unfold k0_pay11
  rw [pay10_eq v7 v9 v27 v36 v37 v51 C hc, hc]
  funext i; idx_vars i
  pointwise
  simp only [sheet_apply, ← EReal.coe_mul]
  rfl

theorem pay12_eq : k0_pay12 (F := Ideal) v7 v9 v27 v36 v37 v51 = sheet .f32 256 256 fun r => act (C r) := by
  unfold k0_pay12
  rw [pay11_eq v7 v9 v27 v36 v37 v51 C hc]
  funext i; idx_vars i
  pointwise
  rfl

theorem pay13_eq : k0_pay13 (F := Ideal) v7 v9 v27 v36 v37 v51 = sheet .f32 256 128 fun r => act (C r) := by
  unfold k0_pay13
  rw [pay12_eq v7 v9 v27 v36 v37 v51 C hc]
  funext i; idx_vars i
  pointwise
  rfl
end act

/-! ### The sums over a head's columns -/

theorem lower : ∀ i : Fin 128, IntOp.cmpi CmpIPredicate.slt (BitVec.ofNat 32 i.val) 64#32 = if i.val < 64 then 1#1 else 0#1 := by decide +kernel

theorem sum_low (f : ℕ → ℝ) : ∑ x : Fin 128, (if x.val < 64 then f x.val else 0) = ∑ k : Fin 64, f k.val := by
  rw [show ∑ x : Fin 128, (if x.val < 64 then f x.val else 0) = ∑ x : Fin 64, (if x.val < 64 then f x.val else 0) + ∑ x : Fin 64, (if 64 + x.val < 64 then f (64 + x.val) else 0) from Fin.sum_univ_add (a := 64) (b := 64) (fun i : Fin (64 + 64) => if i.val < 64 then f i.val else 0)]
  rw [Finset.sum_eq_zero (s := Finset.univ) (f := fun x : Fin 64 => if 64 + x.val < 64 then f (64 + x.val) else 0) (fun x _ => if_neg (by omega)), add_zero]
  exact Finset.sum_congr rfl fun x _ => if_pos x.isLt
theorem sum_high (f : ℕ → ℝ) : ∑ x : Fin 128, (if x.val < 64 then 0 else f x.val) = ∑ k : Fin 64, f (64 + k.val) := by
  rw [show ∑ x : Fin 128, (if x.val < 64 then 0 else f x.val) = ∑ x : Fin 64, (if x.val < 64 then 0 else f x.val) + ∑ x : Fin 64, (if 64 + x.val < 64 then 0 else f (64 + x.val)) from Fin.sum_univ_add (a := 64) (b := 64) (fun i : Fin (64 + 64) => if i.val < 64 then 0 else f i.val)]
  rw [Finset.sum_eq_zero (s := Finset.univ) (f := fun x : Fin 64 => if x.val < 64 then 0 else f x.val) (fun x _ => if_pos x.isLt), zero_add]
  exact Finset.sum_congr rfl fun x _ => if_neg (by omega)

/-- The masked sums over 128 lanes, each lane keeping its own head's. -/
theorem head (f : ℕ → ℝ) (l : Fin 128) :
    Scalar.select (IntOp.cmpi CmpIPredicate.slt (BitVec.ofNat 32 l.val) 64#32)
      (∑ x : Fin 128, Scalar.select (IntOp.cmpi CmpIPredicate.slt (BitVec.ofNat 32 x.val) 64#32) ((f x.val : ℝ) : EReal) 0)
      (∑ x : Fin 128, Scalar.select (IntOp.cmpi CmpIPredicate.slt (BitVec.ofNat 32 x.val) 64#32) 0 ((f x.val : ℝ) : EReal)) = ((hd f l.val : ℝ) : EReal) := by
  have hl := l.isLt
  simp only [choice (lower _), ite_coe_zero', ite_zero_coe, coe_sum, coe_ite, sum_low, sum_high]
  refine congrArg (fun x : ℝ => (x : EReal)) ?_
  unfold hd
  split_ifs with h
  · exact Finset.sum_congr rfl fun k _ => congrArg f (by omega)
  · exact Finset.sum_congr rfl fun k _ => congrArg f (by omega)

/-- A head's reciprocal length from its sum of squares. -/
theorem root (a : ℕ → ℝ) (l : ℕ) :
    Ideal.rsqrt (((hd (fun k => a k * a k) l : ℝ) : EReal) * ((1 / 64 : ℝ) : EReal) * ((64 : ℝ) : EReal) + ((eps : ℝ) : EReal)) = ((rn a l : ℝ) : EReal) := by
  have h := sq_pos a l
  rw [← EReal.coe_mul, ← EReal.coe_mul, ← EReal.coe_add, mul_assoc, show (1 / 64 : ℝ) * 64 = 1 by norm_num, mul_one, Ideal.rsqrt_coe, if_neg (not_lt.2 h.le), if_neg (ne_of_gt h)]
  rfl

/-- The head's gradient from its scaled columns, their scale and the cotangents. -/
def ub (X R D : ℕ → ℝ) (l : ℕ) : ℝ := R l * (D l - X l * hd (fun k => D k * X k) l)

theorem ub_coe (X R D : ℕ → ℝ) (l o : ℕ) (h : ℝ) (hh : h = hd (fun k => D k * X k) l) :
    ((R l : ℝ) : EReal) * (((D l : ℝ) : EReal) - ((X l : ℝ) : EReal) * (((h : ℝ) : EReal) * ((1 / 64 : ℝ) : EReal) * ((64 : ℝ) : EReal))) = ((ub X R D l : ℝ) : EReal) := by
  subst hh
  rw [← EReal.coe_mul, ← EReal.coe_mul, mul_assoc, show (1 / 64 : ℝ) * 64 = 1 by norm_num, mul_one, ← EReal.coe_mul, ← EReal.coe_sub, ← EReal.coe_mul]
  rfl

end Cert.PrePay

end
-- ==== Proof.PreLanes.lean ====
/- The step sizes and decays of a block of the call before the recurrence: their slopes, the cotangents on their lanes, and the sums over the block. -/
module

public import proofs.«01_k».proof.Proof.PrePay

@[expose] public section

set_option maxRecDepth 16384

noncomputable section

open Idealize.ShloMosaic Idealize.ShloMosaic.TcCoe Idealize.SL.Sem

namespace Cert.PrePay

open Cert.PreIdeal hiding sig
open Cert.PreIdeal.Gen
open Cert.PreSpec
open Cert.Rms (sg sg_coe)
open Cert.ConvKernel (choice either)

open Cert.SbIdeal.Sb (sheet sheet_apply cube cube_apply bits bits_apply sp sig coe_sum coe_ite zero_sub_abs max_add_log div_sig ite_coe_zero' sel_bool kpos_word)

variable (B W G S : ℕ → ℕ → ℝ) (al dt : ℕ → ℝ) (t : ℕ) (s g : ℕ → ℕ → ℝ)

theorem rows_word (ht : t < 65) : k0_pay43 (k0_pay41 (BitVec.ofNat 32 t)) = bits (fun (r : Fin 256) (_ : Fin 128) => decide (240 ≤ 256 * t + r.val)) := by
  funext i; idx_vars i
  pointwise [k0_pay43, k0_pay41]
  have := i0.isLt
  rw [kpos_word, WordCmp.cmpi_sge_ofNat (by omega) (by omega)]
  rfl

theorem pay50_bits : k0_pay50 = bits (fun (_ : Fin 256) (l : Fin 128) => decide (l.val < 4)) := by
  funext i; idx_vars i
  pointwise [k0_pay50]
  have := i1.isLt
  rw [WordCmp.cmpi_slt_ofNat (by omega) (by omega)]
  rfl

theorem pay51_bits : k0_pay51 = bits (fun (_ : Fin 256) (l : Fin 128) => decide (4 ≤ l.val) && decide (l.val < 8)) := by
  funext i; idx_vars i
  pointwise [k0_pay51]
  have := i1.isLt
  rw [WordCmp.cmpi_sge_ofNat (by omega) (by omega), WordCmp.cmpi_slt_ofNat (by omega) (by omega), WordCmp.andi_ofBool]
  rfl

theorem pay42_eq : k0_pay42 (F := Ideal) (sheet .f32 256 128 B) = sheet .f32 256 128 B := by
  funext i; idx_vars i; pointwise [k0_pay42]

theorem pay44_eq : k0_pay44 (F := Ideal) (sheet .f32 256 128 B) = sheet .f32 256 128 fun r l => sg (B r l) := by
  funext i; idx_vars i
  pointwise [k0_pay44]
  simp only [sheet_apply, Facts.w_one, zero_sub, ← EReal.coe_neg, Ideal.exp_coe]
  exact sg_coe _

theorem pay45_eq : k0_pay45 (F := Ideal) (sheet .f32 256 128 B) (sheet .f32 1 128 fun _ => dt) = sheet .f32 256 128 fun r l => B r l + dt l := by
  funext i; idx_vars i
  pointwise [k0_pay45]
  simp only [sheet_apply, ← EReal.coe_add]

theorem pay46_eq : k0_pay46 (F := Ideal) (sheet .f32 256 128 B) (sheet .f32 1 128 fun _ => dt) = sheet .f32 256 128 fun r l => Real.exp (-|B r l + dt l|) := by
  unfold k0_pay46
  rw [pay45_eq]
  funext i; idx_vars i
  pointwise
  simp only [sheet_apply]
  rw [zero_sub_abs, Ideal.exp_coe]

theorem pay47_eq : k0_pay47 (F := Ideal) (sheet .f32 256 128 B) (sheet .f32 1 128 fun _ => dt) = sheet .f32 256 128 fun r l => sig (B r l + dt l) := by
  unfold k0_pay47
  rw [pay45_eq, pay46_eq]
  funext i; idx_vars i
  pointwise
  simp only [sheet_apply]
  exact div_sig _

theorem pay48_eq : k0_pay48 (F := Ideal) (sheet .f32 1 128 fun _ => al) = sheet .f32 1 128 fun _ l => Real.exp (al l) := by
  funext i; idx_vars i
  pointwise [k0_pay48]
  simp only [sheet_apply, Ideal.exp_coe]

theorem pay49_eq : k0_pay49 (F := Ideal) (sheet .f32 256 128 B) (sheet .f32 1 128 fun _ => al) (sheet .f32 1 128 fun _ => dt) = sheet .f32 256 128 fun r => decay (B r) al dt := by
  unfold k0_pay49
  rw [pay45_eq, pay46_eq, pay48_eq]
  funext i; idx_vars i
  pointwise
  simp only [sheet_apply]
  rw [max_add_log, zero_sub, ← EReal.coe_neg, ← EReal.coe_mul]
  rfl

/-- The value and the slope of the lanes, zero in the rows before the first and beside the lanes. -/
theorem pay52_eq : k0_pay52 (F := Ideal) (bits (fun (r : Fin 256) (_ : Fin 128) => decide (240 ≤ 256 * t + r.val))) (sheet .f32 256 128 W) (sheet .f32 256 128 S) k0_pay50 k0_pay51
    = sheet .f32 256 128 fun r l => if 240 ≤ 256 * t + r then (if l < 4 then W r l else if l < 8 then S r l else 0) else 0 := by
  unfold k0_pay52
  rw [pay50_bits, pay51_bits]
  funext i; idx_vars i
  pointwise
  simp only [bits_apply, sel_bool, sheet_apply, WordCmp.andi_ofBool, Bool.and_eq_true, decide_eq_true_eq, ite_coe_zero', coe_ite]
  refine congrArg (fun x : ℝ => (x : EReal)) ?_
  split_ifs <;> first | rfl | omega

theorem pay53_eq : k0_pay53 (F := Ideal) (bits (fun (r : Fin 256) (_ : Fin 128) => decide (240 ≤ 256 * t + r.val))) (sheet .f32 256 128 fun r l => sg (B r l)) (sheet .f32 256 128 fun r l => sig (B r l + dt l))
      (sheet .f32 1 128 fun _ l => Real.exp (al l)) k0_pay50 k0_pay51
    = sheet .f32 256 128 fun r l => if 240 ≤ 256 * t + r then slope (B r) al dt l else 0 := by
  unfold k0_pay53
  rw [pay50_bits, pay51_bits]
  funext i; idx_vars i
  pointwise
  simp only [bits_apply, sel_bool, sheet_apply, WordCmp.andi_ofBool, Bool.and_eq_true, decide_eq_true_eq]
  rw [← EReal.coe_one, zero_sub, ← EReal.coe_sub, ← EReal.coe_mul, ← EReal.coe_neg, ← EReal.coe_mul]
  simp only [ite_coe_zero', coe_ite]
  refine congrArg (fun x : ℝ => (x : EReal)) ?_
  unfold PreSpec.slope
  split_ifs <;> first | rfl | omega

theorem lane (l : Fin 128) (n : ℕ) (h : n < 128) : IntOp.cmpi CmpIPredicate.eq (BitVec.ofNat 32 l.val) (BitVec.ofNat 32 n) = BitVec.ofBool (decide (l.val = n)) :=
  WordCmp.cmpi_eq_ofNat (by have := l.isLt; omega) (by omega)

/-- A head's cotangents, the same on every column. -/
abbrev col (f : ℕ → ℝ) : FVec Ideal S1x256x64 .f32 := cube 1 256 64 fun _ r _ => f r

theorem pay55_eq : k0_pay55 (F := Ideal) (iota .tc S256x128 32 [1] iota_S256x128_d1_w32) (k0_pay54 (col (s 0)) (col (g 0)) (col (s 1))) (col (g 1)) (col (s 2)) (col (g 2)) (col (s 3)) (col (g 3))
    = sheet .f32 256 128 fun r => PreSpec.eight (fun h => s h r) (fun h => g h r) := by
  funext i; idx_vars i
  pointwise [k0_pay55, k0_pay54]
  simp only [lane _ 0 (by omega), lane _ 1 (by omega), lane _ 2 (by omega), lane _ 3 (by omega), lane _ 4 (by omega), lane _ 5 (by omega), lane _ 6 (by omega), lane _ 7 (by omega),
    sel_bool, decide_eq_true_eq, cube_apply, sheet_apply]
  generalize i1.val = n
  unfold PreSpec.eight
  by_cases h : n < 8
  · interval_cases n <;> simp
  · rw [if_neg (by omega), if_neg (by omega), if_neg (by omega), if_neg (by omega), if_neg (by omega), if_neg (by omega), if_neg (by omega), if_neg (by omega), if_neg (by omega), if_neg h]
    rfl

theorem pay1_eq : k0_pay1 (F := Ideal) (sheet .f32 256 128 W) (sheet .f32 256 128 G) = sheet .f32 256 128 fun r l => G r l * W r l := by
  funext i; idx_vars i
  pointwise [k0_pay1]
  simp only [sheet_apply, ← EReal.coe_mul]

theorem pay2_eq (acc : FVec Ideal S1x128 .f32) (z : Fin 1) (l : Fin 128) : k0_pay2 (F := Ideal) k0_pay51 (sheet .f32 256 128 W) (sheet .f32 256 128 G) acc (ix2 z l)
    = acc (ix2 z l) + ((∑ r : Fin 256, (if 4 ≤ l.val ∧ l.val < 8 then G r.val l.val * W r.val l.val else 0) : ℝ) : EReal) := by
  obtain rfl : z = 0 := Subsingleton.elim _ _
  unfold k0_pay2
  rw [pay51_bits]
  pointwise
  simp only [bits_apply, sel_bool, sheet_apply, ← EReal.coe_mul, Bool.and_eq_true, decide_eq_true_eq, ite_coe_zero', coe_sum]

theorem pay3_eq (acc : FVec Ideal S1x128 .f32) (z : Fin 1) (l : Fin 128) : k0_pay3 (F := Ideal) k0_pay51 (sheet .f32 256 128 W) (sheet .f32 256 128 G) acc (ix2 z l)
    = acc (ix2 z l) + ((∑ r : Fin 256, (if 4 ≤ l.val ∧ l.val < 8 then G r.val l.val * W r.val l.val else 0) : ℝ) : EReal) :=
  pay2_eq W G acc z l

end Cert.PrePay

end
-- ==== Proof.PreHost.lean ====
/- The call before the recurrence: the arrays the host prepares, and the blocks a point of the grid reads of them. -/
module

public import proofs.«01_k».proof.Proof.PreLanes
public import proofs.«01_k».proof.Proof.Gen.PreIdeal.Value

@[expose] public section

set_option maxRecDepth 16384

noncomputable section

open Idealize.ShloMosaic Idealize.ShloMosaic.TcCoe Idealize.SL.Sem

namespace Cert.PreKernel

open Cert.PreIdeal hiding sig
open Cert.PreIdeal.Gen
open Cert.PreSpec
open Cert.ConvKernel (choice first)
open Cert.PrePay (col)
open Cert.SbIdeal.Sb (sheet sheet_apply cube cube_apply line front pad_sheet zero_conv zero_const)

/-- The arguments' numbers: the convolution's input, the two gates' inputs, the taps, the decays' two vectors, and the five cotangents. -/
structure Ins where
  x : ℕ → ℕ → ℝ
  b : ℕ → ℕ → ℝ
  a : ℕ → ℕ → ℝ
  w : ℕ → ℕ → ℝ
  al : ℕ → ℝ
  dt : ℕ → ℝ
  q : ℕ → ℕ → ℝ
  k : ℕ → ℕ → ℝ
  v : ℕ → ℕ → ℝ
  db : ℕ → ℕ → ℝ
  dg : ℕ → ℕ → ℝ

/-- Eight zero rows before the rows. -/
def behind (f : ℕ → ℕ → ℝ) (q l : ℕ) : ℝ := if q < 8 then 0 else f (q - 8) l
/-- The two gates' inputs on their eight lanes. -/
def gates (E : Ins) (p : ℕ) : ℕ → ℝ := PreSpec.eight (E.b p) (E.a p)
/-- A vector of four on the lanes from four on. -/
def mid (f : ℕ → ℝ) (l : ℕ) : ℝ := if 4 ≤ l ∧ l < 8 then f (l - 4) else 0
/-- All columns of the first array. -/
def proj (E : Ins) (p l : ℕ) : ℝ := if l < 768 then E.x p l else if l < 1536 then 0 else gates E p (l - 1536)

/-! ### The host's arrays -/

def projA (x : FVec Ideal S16400x768 .f32) (b a : FVec Ideal S16400x4 .f32) : FVec Ideal S16400x1664 .f32 :=
  concatenate S16400x1664 1 [⟨S16400x768, x⟩, ⟨S16400x768, broadcastInDim S16400x768 ![] bcast_S_S16400x768 (constant (F := Ideal) S_ .f32 0x00000000#32)⟩,
    ⟨S16400x4, b⟩, ⟨S16400x4, a⟩, ⟨S16400x120, broadcastInDim S16400x120 ![] bcast_S_S16400x120 (constant (F := Ideal) S_ .f32 0x00000000#32)⟩]
    concatenates_S16400x768_S16400x768_S16400x4_S16400x4_S16400x120_S16400x1664_d1
def front256 (x : FVec Ideal S16400x256 .f32) : FVec Ideal S16640x256 .f32 :=
  pad S16640x256 ![240, 0] ![0, 0] ![0, 0] x (sitofp (F := Ideal) .f32 (constantI S_ 32 0#32)) pads_S16400x256_S16640x256_24000_000 h_S_
def front4 (x : FVec Ideal S16400x4 .f32) : FVec Ideal S16640x4 .f32 :=
  pad S16640x4 ![240, 0] ![0, 0] ![0, 0] x (sitofp (F := Ideal) .f32 (constantI S_ 32 0#32)) pads_S16400x4_S16640x4_24000_000 h_S_
def lanesA (x : FVec Ideal S16400x4 .f32) : FVec Ideal S4x16640x64 .f32 :=
  broadcastInDim S4x16640x64 ![0, 1, 2] bcast_S4x16640x1_S4x16640x64_0_1_2 (broadcastInDim S4x16640x1 ![0, 1] bcast_S4x16640_S4x16640x1_0_1
    (transpose S4x16640 [1, 0] (front4 x) transposes_S16640x4_S4x16640_1_0))
def front1664 (x : FVec Ideal S16400x1664 .f32) : FVec Ideal S16640x1664 .f32 :=
  pad S16640x1664 ![240, 0] ![0, 0] ![0, 0] x (sitofp (F := Ideal) .f32 (constantI S_ 32 0#32)) pads_S16400x1664_S16640x1664_24000_000 h_S_
def tapsA (w : FVec Ideal S4x768 .f32) : FVec Ideal S8x768 .f32 :=
  pad S8x768 ![0, 0] ![4, 0] ![0, 0] w (sitofp (F := Ideal) .f32 (constantI S_ 32 0#32)) pads_S4x768_S8x768_040_000 h_S_
def midA (f : FVec Ideal S4 .f32) : FVec Ideal S1x128 .f32 :=
  broadcastInDim S1x128 ![1] bcast_S128_S1x128_1 (pad S128 ![4] ![120] ![0] f (sitofp (F := Ideal) .f32 (constantI S_ 32 0#32)) pads_S4_S128_41200 h_S_)

variable (E : Ins)

theorem projA_eq : projA (sheet .f32 16400 768 E.x) (sheet .f32 16400 4 E.b) (sheet .f32 16400 4 E.a) = sheet .f32 16400 1664 (proj E) := by
  unfold projA
  rw [zero_const]
  funext i; idx_vars i
  pointwise
  simp only [sheet_apply]
  unfold proj gates PreSpec.eight
  have := i1.isLt
  split_ifs <;> first | rfl | omega | exact congrArg (fun l : ℕ => ((E.b i0.val l : ℝ) : EReal)) (by omega) | exact congrArg (fun l : ℕ => ((E.a i0.val l : ℝ) : EReal)) (by omega)

theorem front256_eq (f : ℕ → ℕ → ℝ) : front256 (sheet .f32 16400 256 f) = sheet .f32 16640 256 (front f) :=
  pad_sheet 16400 256 240 16640 f _ zero_conv h_S_ (by norm_num) _
theorem front4_eq (f : ℕ → ℕ → ℝ) : front4 (sheet .f32 16400 4 f) = sheet .f32 16640 4 (front f) :=
  pad_sheet 16400 4 240 16640 f _ zero_conv h_S_ (by norm_num) _
theorem front1664_eq (f : ℕ → ℕ → ℝ) : front1664 (sheet .f32 16400 1664 f) = sheet .f32 16640 1664 (front f) :=
  pad_sheet 16400 1664 240 16640 f _ zero_conv h_S_ (by norm_num) _
theorem lanesA_eq (f : ℕ → ℕ → ℝ) : lanesA (sheet .f32 16400 4 f) = cube 4 16640 64 fun h p _ => front f p h := by
  unfold lanesA
  rw [front4_eq]
  funext i; idx_vars i
  pointwise
  rfl
theorem tapsA_eq (f : ℕ → ℕ → ℝ) : tapsA (sheet .f32 4 768 f) = sheet .f32 8 768 fun j l => if j < 4 then f j l else 0 := by
  funext i; idx_vars i
  pointwise [tapsA]
  simp only [sheet_apply]
  split_ifs <;> first | rfl | exact congrFun zero_conv ix0
theorem midA_eq (f : ℕ → ℝ) : midA (line 4 f) = sheet .f32 1 128 fun _ => mid f := by
  funext i; idx_vars i
  pointwise [midA]
  simp only [sheet_apply]
  unfold mid
  have := i1.isLt
  split_ifs <;> first | rfl | omega | exact congrFun zero_conv ix0

variable {m : (ℓ : Loc nD τ Cert.PreIdeal.sig) → Buf (Elt Ideal) ℓ} {c : Dev nD} {E}

variable (m c E) in
/-- The arguments are arrays of reals. -/
structure Args : Prop where
  x : (m ((c.tc : Thread nD τ).loc main_arg0) : FVec Ideal S16400x768 .f32) = sheet .f32 16400 768 E.x
  b : (m ((c.tc : Thread nD τ).loc main_arg1) : FVec Ideal S16400x4 .f32) = sheet .f32 16400 4 E.b
  a : (m ((c.tc : Thread nD τ).loc main_arg2) : FVec Ideal S16400x4 .f32) = sheet .f32 16400 4 E.a
  w : (m ((c.tc : Thread nD τ).loc main_arg3) : FVec Ideal S4x768 .f32) = sheet .f32 4 768 E.w
  al : (m ((c.tc : Thread nD τ).loc main_arg4) : FVec Ideal S4 .f32) = line 4 E.al
  dt : (m ((c.tc : Thread nD τ).loc main_arg5) : FVec Ideal S4 .f32) = line 4 E.dt
  q : (m ((c.tc : Thread nD τ).loc main_arg6) : FVec Ideal S16400x256 .f32) = sheet .f32 16400 256 E.q
  k : (m ((c.tc : Thread nD τ).loc main_arg7) : FVec Ideal S16400x256 .f32) = sheet .f32 16400 256 E.k
  v : (m ((c.tc : Thread nD τ).loc main_arg8) : FVec Ideal S16400x256 .f32) = sheet .f32 16400 256 E.v
  db : (m ((c.tc : Thread nD τ).loc main_arg9) : FVec Ideal S16400x4 .f32) = sheet .f32 16400 4 E.db
  dg : (m ((c.tc : Thread nD τ).loc main_arg10) : FVec Ideal S16400x4 .f32) = sheet .f32 16400 4 E.dg

variable (A : Args E m c)
include A

theorem v3_eq : (V m c main_v3 : FVec Ideal S16640x256 .f32) = sheet .f32 16640 256 (front E.q) := by
  refine Eq.trans (b := front256 (m ((c.tc : Thread nD τ).loc main_arg6))) (by sl_kernel_rfl) ?_
  rw [A.q, front256_eq]
theorem v4_eq : (V m c main_v4 : FVec Ideal S16640x256 .f32) = sheet .f32 16640 256 (front E.k) := by
  refine Eq.trans (b := front256 (m ((c.tc : Thread nD τ).loc main_arg7))) (by sl_kernel_rfl) ?_
  rw [A.k, front256_eq]
theorem v5_eq : (V m c main_v5 : FVec Ideal S16640x256 .f32) = sheet .f32 16640 256 (front E.v) := by
  refine Eq.trans (b := front256 (m ((c.tc : Thread nD τ).loc main_arg8))) (by sl_kernel_rfl) ?_
  rw [A.v, front256_eq]
theorem v9_eq : (V m c main_v9 : FVec Ideal S4x16640x64 .f32) = cube 4 16640 64 fun h p _ => front E.db p h := by
  refine Eq.trans (b := lanesA (m ((c.tc : Thread nD τ).loc main_arg9))) (by sl_kernel_rfl) ?_
  rw [A.db, lanesA_eq]
theorem v13_eq : (V m c main_v13 : FVec Ideal S4x16640x64 .f32) = cube 4 16640 64 fun h p _ => front E.dg p h := by
  refine Eq.trans (b := lanesA (m ((c.tc : Thread nD τ).loc main_arg10))) (by sl_kernel_rfl) ?_
  rw [A.dg, lanesA_eq]
theorem v14_eq : (V m c main_v14 : FVec Ideal S16640x1664 .f32) = sheet .f32 16640 1664 (front (proj E)) := by
  refine Eq.trans (b := front1664 (projA (m ((c.tc : Thread nD τ).loc main_arg0)) (m ((c.tc : Thread nD τ).loc main_arg1)) (m ((c.tc : Thread nD τ).loc main_arg2)))) (by sl_kernel_rfl) ?_
  rw [A.x, A.b, A.a, projA_eq, front1664_eq]
theorem v15_eq : (V m c main_v15 : FVec Ideal S8x768 .f32) = sheet .f32 8 768 fun j l => if j < 4 then E.w j l else 0 := by
  refine Eq.trans (b := tapsA (m ((c.tc : Thread nD τ).loc main_arg3))) (by sl_kernel_rfl) ?_
  rw [A.w, tapsA_eq]
theorem v17_eq : (V m c main_v17 : FVec Ideal S1x128 .f32) = sheet .f32 1 128 fun _ => mid E.al := by
  refine Eq.trans (b := midA (m ((c.tc : Thread nD τ).loc main_arg4))) (by sl_kernel_rfl) ?_
  rw [A.al, midA_eq]
theorem v19_eq : (V m c main_v19 : FVec Ideal S1x128 .f32) = sheet .f32 1 128 fun _ => mid E.dt := by
  refine Eq.trans (b := midA (m ((c.tc : Thread nD τ).loc main_arg5))) (by sl_kernel_rfl) ?_
  rw [A.dt, midA_eq]
omit A

/-! ### The blocks -/

theorem idx_val : ∀ t : Fin cfg0.N, win0_0.index t = ![t.val, 0] ∧ win0_1.index t = ![t.val, 0] ∧ win0_2.index t = ![t.val, 0]
    ∧ win0_3.index t = ![0, t.val, 0] ∧ win0_4.index t = ![0, t.val, 0] ∧ win0_5.index t = ![t.val, 0] ∧ win0_6.index t = ![t.val * 32 - 1, 0] ∧ win0_7.index t = ![t.val, 12]
    ∧ win0_8.index t = ![0, 0] ∧ win0_9.index t = ![0, 0] ∧ win0_10.index t = ![0, 0] ∧ win0_11.index t = ![t.val, 0] ∧ win0_12.index t = ![t.val, 0]
    ∧ win0_13.index t = ![0, 0] ∧ (grid0.coords t 0).val = t.val :=
  (by decide +kernel : ∀ t : Fin grid0.N, _)

/-- The point's number, and a row of the array from a block's. -/
def pt (t : Fin cfg0.N) : Fin 65 := ⟨t.val, lt_of_lt_of_eq t.isLt N_0⟩
def row (i : Fin 65) (r : Fin 256) : Fin 16640 := ⟨256 * i.val + r.val, by omega⟩

include A

theorem blk0 (t : Fin cfg0.N) : (iblk m c 0 t : FVec Ideal S256x256 .f32) = sheet .f32 256 256 fun r => front E.q (256 * t.val + r) := by
  funext y; idx_vars y
  exact Eq.trans (b := (V m c main_v3 : FVec Ideal S16640x256 .f32) (ix2 (row (pt t) y0) y1)) (by unfold row pt; blk_ext [iblk, idx_val t]) (congrFun (v3_eq A) _)
theorem blk1 (t : Fin cfg0.N) : (iblk m c 1 t : FVec Ideal S256x256 .f32) = sheet .f32 256 256 fun r => front E.k (256 * t.val + r) := by
  funext y; idx_vars y
  exact Eq.trans (b := (V m c main_v4 : FVec Ideal S16640x256 .f32) (ix2 (row (pt t) y0) y1)) (by unfold row pt; blk_ext [iblk, idx_val t]) (congrFun (v4_eq A) _)
theorem blk2 (t : Fin cfg0.N) : (iblk m c 2 t : FVec Ideal S256x256 .f32) = sheet .f32 256 256 fun r => front E.v (256 * t.val + r) := by
  funext y; idx_vars y
  exact Eq.trans (b := (V m c main_v5 : FVec Ideal S16640x256 .f32) (ix2 (row (pt t) y0) y1)) (by unfold row pt; blk_ext [iblk, idx_val t]) (congrFun (v5_eq A) _)
theorem blk3 (t : Fin cfg0.N) : (iblk m c 3 t : FVec Ideal S4x256x64 .f32) = cube 4 256 64 fun h r _ => front E.db (256 * t.val + r) h := by
  funext y; idx_vars y
  exact Eq.trans (b := (V m c main_v9 : FVec Ideal S4x16640x64 .f32) (ix3 y0 (row (pt t) y1) y2)) (by unfold row pt; blk_ext [iblk, idx_val t]) (congrFun (v9_eq A) _)
theorem blk4 (t : Fin cfg0.N) : (iblk m c 4 t : FVec Ideal S4x256x64 .f32) = cube 4 256 64 fun h r _ => front E.dg (256 * t.val + r) h := by
  funext y; idx_vars y
  exact Eq.trans (b := (V m c main_v13 : FVec Ideal S4x16640x64 .f32) (ix3 y0 (row (pt t) y1) y2)) (by unfold row pt; blk_ext [iblk, idx_val t]) (congrFun (v13_eq A) _)

omit A in
theorem proj_low {p l : ℕ} (h : l < 768) : front (proj E) p l = front E.x p l := by
  unfold front proj
  rw [if_pos h]
omit A in
theorem proj_high (p l : ℕ) : front (proj E) p (1536 + l) = front (gates E) p l := by
  unfold front
  rw [show proj E (p - 240) (1536 + l) = gates E (p - 240) l from
    (if_neg (by omega)).trans ((if_neg (by omega)).trans (congrArg (gates E (p - 240)) (Nat.add_sub_cancel_left ..)))]

theorem blk5 (t : Fin cfg0.N) : (X0_5 m c t : FVec Ideal S256x768 .f32) = sheet .f32 256 768 fun r => behind (front E.x) (256 * t.val + (8 + r)) := by
  funext y; idx_vars y
  unfold X0_5 Pipeline.Window.fill
  rw [dif_pos (moved0_5 t (ix2 y0 y1))]
  simp only [sheet_apply]
  unfold behind
  rw [if_neg (by omega), show 256 * t.val + (8 + y0.val) - 8 = 256 * t.val + y0.val by omega, ← proj_low (E := E) y1.isLt]
  exact Eq.trans (b := (V m c main_v14 : FVec Ideal S16640x1664 .f32) (ix2 (row (pt t) y0) ⟨y1.val, by omega⟩)) (by unfold row pt; blk_ext [iblk, idx_val t]) (congrFun (v14_eq A) _)
theorem blk6 (t : Fin cfg0.N) : k0_pay5 (F := Ideal) (grid0.coords t) (X0_6 m c t) = sheet .f32 8 768 fun r => behind (front E.x) (256 * t.val + r) := by
  have ht := lt_of_lt_of_eq t.isLt N_0
  funext y; idx_vars y
  have h0 := y0.isLt
  pointwise [k0_pay5]
  rw [(idx_val t).2.2.2.2.2.2.2.2.2.2.2.2.2.2, choice (first ht)]
  simp only [sheet_apply]
  unfold behind
  by_cases h : t.val = 0
  · rw [if_pos h, if_pos (by omega)]
    rfl
  · rw [if_neg h, if_neg (by omega), ← proj_low (E := E) y1.isLt]
    unfold X0_6 Pipeline.Window.fill
    rw [dif_pos (moved0_6 t (ix2 y0 y1))]
    exact Eq.trans (b := (V m c main_v14 : FVec Ideal S16640x1664 .f32) (ix2 ⟨256 * t.val + y0.val - 8, by omega⟩ ⟨y1.val, by omega⟩)) (by blk_ext [iblk, idx_val t]) (congrFun (v14_eq A) _)
theorem blk7 (t : Fin cfg0.N) : (iblk m c 7 t : FVec Ideal S256x128 .f32) = sheet .f32 256 128 fun r => front (gates E) (256 * t.val + r) := by
  funext y; idx_vars y
  rw [sheet_apply, ← proj_high (E := E)]
  exact Eq.trans (b := (V m c main_v14 : FVec Ideal S16640x1664 .f32) (ix2 (row (pt t) y0) ⟨1536 + y1.val, by omega⟩)) (by unfold row pt; blk_ext [iblk, idx_val t]) (congrFun (v14_eq A) _)
theorem blk8 (t : Fin cfg0.N) : (iblk m c 8 t : FVec Ideal S8x768 .f32) = sheet .f32 8 768 fun j l => if j < 4 then E.w j l else 0 := by
  funext y; idx_vars y
  exact Eq.trans (b := (V m c main_v15 : FVec Ideal S8x768 .f32) (ix2 y0 y1)) (by blk_ext [iblk, idx_val t]) (congrFun (v15_eq A) _)
theorem blk9 (t : Fin cfg0.N) : (iblk m c 9 t : FVec Ideal S1x128 .f32) = sheet .f32 1 128 fun _ => mid E.al := by
  funext y; idx_vars y
  exact Eq.trans (b := (V m c main_v17 : FVec Ideal S1x128 .f32) (ix2 y0 y1)) (by blk_ext [iblk, idx_val t]) (congrFun (v17_eq A) _)
theorem blk10 (t : Fin cfg0.N) : (iblk m c 10 t : FVec Ideal S1x128 .f32) = sheet .f32 1 128 fun _ => mid E.dt := by
  funext y; idx_vars y
  exact Eq.trans (b := (V m c main_v19 : FVec Ideal S1x128 .f32) (ix2 y0 y1)) (by blk_ext [iblk, idx_val t]) (congrFun (v19_eq A) _)

theorem tap (t : Fin cfg0.N) (j : ℕ) (hj : j < 4) (inb) : (View.ld (iblk m c 8 t) (Rect.unit (s := S8x768) ![j, 0] ![1, 768] inb) : FVec Ideal S1x768 .f32) = sheet .f32 1 768 fun _ => E.w j := by
  rw [blk8 A]; funext y; idx_vars y
  obtain rfl : y0 = 0 := Subsingleton.elim _ _
  pointwise
  simp only [sheet_apply]
  exact congrArg (fun z : ℝ => (z : EReal)) (if_pos (by show j + 0 < 4; omega))

theorem col3 (t : Fin cfg0.N) (h : ℕ) (inb) : (View.ld (iblk m c 3 t) (Rect.unit (s := S4x256x64) ![h, 0, 0] ![1, 256, 64] inb) : FVec Ideal S1x256x64 .f32) = col fun r => front E.db (256 * t.val + r) h := by
  rw [blk3 A]; funext y; idx_vars y
  obtain rfl : y0 = 0 := Subsingleton.elim _ _
  pointwise
  rfl
theorem col4 (t : Fin cfg0.N) (h : ℕ) (inb) : (View.ld (iblk m c 4 t) (Rect.unit (s := S4x256x64) ![h, 0, 0] ![1, 256, 64] inb) : FVec Ideal S1x256x64 .f32) = col fun r => front E.dg (256 * t.val + r) h := by
  rw [blk4 A]; funext y; idx_vars y
  obtain rfl : y0 = 0 := Subsingleton.elim _ _
  pointwise
  rfl

end Cert.PreKernel

end
-- ==== Proof.PreHeads.lean ====
/- The heads of a block of the call before the recurrence: their lengths, their scaled columns and the gradient at the convolution. -/
module

public import proofs.«01_k».proof.Proof.PrePay

@[expose] public section

set_option maxRecDepth 16384

noncomputable section

open Idealize.ShloMosaic Idealize.ShloMosaic.TcCoe Idealize.SL.Sem

namespace Cert.PrePay

open Cert.PreIdeal hiding sig
open Cert.PreIdeal.Gen
open Cert.PreSpec
open Cert.Rms (sg sg_coe)
open Cert.ConvKernel (choice either)

open Cert.SbIdeal.Sb (sheet sheet_apply eps coe_sum ofBits_64th_f32 ofBits_eps_f32)

variable (A X R D U : ℕ → ℕ → ℝ)

theorem pay14_eq (v7 : FVec Ideal S8x768 .f32) (v9 v27 v36 : FVec Ideal S256x768 .f32) (v37 v51 : FVec Ideal S1x768 .f32) (h : k0_pay13 (F := Ideal) v7 v9 v27 v36 v37 v51 = sheet .f32 256 128 A) :
    k0_pay14 (F := Ideal) v7 v9 v27 v36 v37 v51 = sheet .f32 256 128 fun r => hd (fun k => A r k * A r k) := by
  unfold k0_pay14
  rw [h]
  funext i; idx_vars i
  pointwise
  simp only [sheet_apply, ← EReal.coe_mul]
  exact head (fun k => A i0.val k * A i0.val k) i1

theorem pay16_eq : k0_pay16 (F := Ideal) (sheet .f32 256 128 fun r => hd (fun k => A r k * A r k)) k0_pay15 = sheet .f32 256 128 fun r => rn (A r) := by
  funext i; idx_vars i
  pointwise [k0_pay16, k0_pay15]
  simp only [sheet_apply, ofBits_64th_f32, w_64, ofBits_eps_f32]
  exact root (A i0.val) i1.val

theorem pay17_eq : k0_pay17 (F := Ideal) (sheet .f32 256 256 A) = sheet .f32 256 128 fun r l => A r (128 + l) := by
  funext i; idx_vars i
  pointwise [k0_pay17]
  simp only [sheet_apply]

theorem rn_shift (a : ℕ → ℝ) (o l : ℕ) (ho : o % 64 = 0) : rn (fun k => a (o + k)) l = rn a (o + l) := by
  unfold rn; rw [← hd_shift _ o l ho]

theorem pay18_eq : k0_pay18 (F := Ideal) (sheet .f32 256 256 A) = sheet .f32 256 128 fun r l => rn (A r) (128 + l) := by
  unfold k0_pay18
  rw [pay17_eq]
  funext i; idx_vars i
  pointwise
  simp only [sheet_apply, ofBits_64th_f32, w_64, ofBits_eps_f32, ← EReal.coe_mul]
  rw [head (fun k => A i0.val (128 + k) * A i0.val (128 + k)) i1, ← rn_shift (A i0.val) 128 i1.val (by norm_num)]
  exact root (fun k => A i0.val (128 + k)) i1.val

/-- Two halves of a row side by side. -/
theorem halves {P : Prop} [Decidable P] {x : P → EReal} {y : ¬P → EReal} {z z' : ℝ} (hx : ∀ h, x h = ((z : ℝ) : EReal)) (hy : ∀ h, y h = ((z' : ℝ) : EReal)) :
    (if h : P then x h else y h) = (((if P then z else z') : ℝ) : EReal) := by
  split_ifs with h
  · exact hx h
  · exact hy h

theorem pay19_eq : k0_pay19 (F := Ideal) (sheet .f32 256 256 A) (sheet .f32 256 128 A) (sheet .f32 256 128 fun r => hd (fun k => A r k * A r k)) k0_pay15
    = sheet .f32 256 256 fun r l => A r l * rn (A r) l := by
  unfold k0_pay19
  rw [pay16_eq, pay17_eq, pay18_eq]
  funext i; idx_vars i
  pointwise
  simp only [sheet_apply, ← EReal.coe_mul]
  refine either (fun h => rfl) (fun h => congrArg (fun p => ((A i0.val p * rn (A i0.val) p : ℝ) : EReal)) (by omega))

theorem pay20_eq : k0_pay20 (F := Ideal) (sheet .f32 256 256 A) (sheet .f32 256 128 fun r => hd (fun k => A r k * A r k)) k0_pay15
    = sheet .f32 256 256 fun r => rn (A r) := by
  unfold k0_pay20
  rw [pay16_eq, pay18_eq]
  funext i; idx_vars i
  pointwise
  simp only [sheet_apply]
  refine either (fun h => rfl) (fun h => congrArg (fun p => ((rn (A i0.val) p : ℝ) : EReal)) (by omega))

theorem pay21_eq : k0_pay21 (F := Ideal) (sheet .f32 256 768 A) = sheet .f32 256 256 fun r l => A r (256 + l) := by
  funext i; idx_vars i
  pointwise [k0_pay21]
  simp only [sheet_apply]

/-- The second array's first half goes through the same sums. -/
theorem pay27_eq : k0_pay27 (F := Ideal) k0_pay23 (k0_pay24 (sheet .f32 256 768 A)) (k0_pay25 (sheet .f32 256 768 A)) k0_pay26
    = sheet .f32 256 128 fun r l => rn (A r) (256 + l) := by
  unfold k0_pay27 k0_pay25 k0_pay24 k0_pay22
  rw [pay21_eq]
  funext i; idx_vars i
  pointwise [k0_pay23, k0_pay26]
  simp only [sheet_apply, ofBits_64th_f32, w_64, ofBits_eps_f32, ← EReal.coe_mul]
  rw [head (fun k => A i0.val (256 + k) * A i0.val (256 + k)) i1, ← rn_shift (A i0.val) 256 i1.val (by norm_num)]
  exact root (fun k => A i0.val (256 + k)) i1.val

theorem pay29_eq : k0_pay29 (F := Ideal) (k0_pay21 (sheet .f32 256 768 A)) = sheet .f32 256 128 fun r l => rn (A r) (256 + (128 + l)) := by
  rw [pay21_eq]
  refine Eq.trans (b := k0_pay18 (F := Ideal) (sheet .f32 256 256 fun r l => A r (256 + l))) rfl ((pay18_eq _).trans ?_)
  exact congrArg (sheet .f32 256 128) (funext fun r => funext fun l => rn_shift (A r) 256 (128 + l) (by norm_num))

theorem pay30_eq : k0_pay30 (F := Ideal) (k0_pay21 (sheet .f32 256 768 A)) (k0_pay22 (sheet .f32 256 768 A)) k0_pay23 (k0_pay24 (sheet .f32 256 768 A)) (k0_pay25 (sheet .f32 256 768 A)) k0_pay26
    = sheet .f32 256 256 fun r l => A r (256 + l) * rn (A r) (256 + l) := by
  unfold k0_pay30
  rw [pay27_eq, pay29_eq]
  unfold k0_pay28 k0_pay22
  rw [pay21_eq]
  funext i; idx_vars i
  pointwise
  simp only [sheet_apply, ← EReal.coe_mul]
  refine either (fun h => rfl) (fun h => congrArg (fun p => ((A i0.val (256 + p) * rn (A i0.val) (256 + p) : ℝ) : EReal)) (by omega))

theorem pay31_eq : k0_pay31 (F := Ideal) (k0_pay21 (sheet .f32 256 768 A)) k0_pay23 (k0_pay24 (sheet .f32 256 768 A)) (k0_pay25 (sheet .f32 256 768 A)) k0_pay26
    = sheet .f32 256 256 fun r l => rn (A r) (256 + l) := by
  unfold k0_pay31
  rw [pay27_eq, pay29_eq]
  funext i; idx_vars i
  pointwise
  simp only [sheet_apply]
  refine either (fun h => rfl) (fun h => congrArg (fun p => ((rn (A i0.val) (256 + p) : ℝ) : EReal)) (by omega))

theorem pay32_eq : k0_pay32 (F := Ideal) (sheet .f32 256 256 D) = sheet .f32 256 256 D := by
  funext i; idx_vars i; pointwise [k0_pay32]
theorem pay36_eq : k0_pay36 (F := Ideal) (sheet .f32 256 256 D) = sheet .f32 256 256 D := by
  funext i; idx_vars i; pointwise [k0_pay36]

theorem pay33_eq : k0_pay33 (F := Ideal) (sheet .f32 256 256 X) (sheet .f32 256 256 R) (sheet .f32 256 256 D) = sheet .f32 256 128 fun r => ub (X r) (R r) (D r) := by
  funext i; idx_vars i
  pointwise [k0_pay33]
  simp only [sheet_apply, ofBits_64th_f32, w_64]
  simp only [← EReal.coe_mul _ (X _ _)]
  rw [head (fun k => D i0.val k * X i0.val k) i1]
  exact ub_coe (X i0.val) (R i0.val) (D i0.val) i1.val 0 _ rfl

theorem pay37_eq : k0_pay37 (F := Ideal) (sheet .f32 256 256 X) (sheet .f32 256 256 R) (sheet .f32 256 256 D) = sheet .f32 256 128 fun r => ub (X r) (R r) (D r) :=
  Eq.trans (b := k0_pay33 (F := Ideal) (sheet .f32 256 256 X) (sheet .f32 256 256 R) (k0_pay36 (sheet .f32 256 256 D))) rfl (by rw [pay36_eq, pay33_eq])

theorem pay34_eq : k0_pay34 (F := Ideal) (sheet .f32 256 256 X) (sheet .f32 256 256 D) = sheet .f32 256 128 fun r l => hd (fun k => D r k * X r k) (128 + l) := by
  funext i; idx_vars i
  pointwise [k0_pay34]
  simp only [sheet_apply, ← EReal.coe_mul]
  rw [head (fun k => D i0.val (128 + k) * X i0.val (128 + k)) i1, hd_shift (fun k => D i0.val k * X i0.val k) 128 i1.val (by norm_num)]

theorem pay35_eq : k0_pay35 (F := Ideal) (sheet .f32 256 256 X) (sheet .f32 256 256 R) (sheet .f32 256 256 D) (sheet .f32 256 128 fun r => ub (X r) (R r) (D r))
      (sheet .f32 256 128 fun r l => hd (fun k => D r k * X r k) (128 + l))
    = sheet .f32 256 256 fun r => ub (X r) (R r) (D r) := by
  funext i; idx_vars i
  pointwise [k0_pay35]
  simp only [sheet_apply, ofBits_64th_f32, w_64]
  refine either (fun h => rfl) (fun h => ?_)
  rw [show 128 + (i1.val - 128) = i1.val by omega]
  exact ub_coe (X i0.val) (R i0.val) (D i0.val) i1.val 0 _ rfl

set_option maxHeartbeats 1000000 in
/-- The gradient at the convolution, from the first array's gradient, the second array's columns, and the third's cotangent. -/
theorem pay40_eq (C Q V : ℕ → ℕ → ℝ) : k0_pay40 (F := Ideal) (sheet .f32 256 768 C) (sheet .f32 256 768 fun r l => sg (C r l)) (sheet .f32 256 256 X) (sheet .f32 256 256 R)
      (sheet .f32 256 256 Q) (k0_pay36 (sheet .f32 256 256 D)) (sheet .f32 256 128 fun r => ub (X r) (R r) (D r)) k0_pay38 (k0_pay39 (sheet .f32 256 256 X) (sheet .f32 256 256 D)) (sheet .f32 256 256 V)
    = sheet .f32 256 768 fun r l => beside (Q r) (ub (X r) (R r) (D r)) (V r) l * (sg (C r l) * (1 + C r l * (1 - sg (C r l)))) := by
  unfold k0_pay40 k0_pay39
  rw [pay36_eq]
  funext i; idx_vars i
  pointwise [k0_pay38]
  simp only [sheet_apply, Facts.w_one, ofBits_64th_f32, w_64]
  rw [EReal.coe_mul (beside _ _ _ _)]
  refine congrArg₂ (· * ·) ?_ (by rw [← EReal.coe_one]; simp only [← EReal.coe_mul, ← EReal.coe_sub, ← EReal.coe_add])
  unfold beside
  split_ifs with h0 h1 h2 h3
  · rfl
  · rfl
  · omega
  · rw [show 128 + (i1.val - 256 - 128) = i1.val - 256 by omega]
    simp only [← EReal.coe_mul _ (X _ _)]
    rw [head (fun k => D i0.val (128 + k) * X i0.val (128 + k)) ⟨i1.val - 256 - 128, by omega⟩]
    refine ub_coe (X i0.val) (R i0.val) (D i0.val) (i1.val - 256) 0 _ ?_
    rw [hd_shift (fun k => D i0.val k * X i0.val k) 128 _ (by norm_num)]
    exact congrArg (hd _) (show 128 + (i1.val - 256 - 128) = i1.val - 256 by omega)
  · omega
  · omega
  · rw [show i1.val - 256 - 256 = i1.val - 512 by omega]

theorem un_congr {d d' a a' : ℕ → ℝ} {j j' : ℕ} (h1 : rn a j = rn a' j') (h2 : d j = d' j') (h3 : a j = a' j')
    (h4 : hd (fun k => d k * (a k * rn a k)) j = hd (fun k => d' k * (a' k * rn a' k)) j') : un d a j = un d' a' j' := by
  unfold un; rw [h1, h2, h3, h4]

/-- The block's gradient at the convolution. -/
theorem gconv_of (q k v c : ℕ → ℝ) (j : ℕ) :
    beside (ub (fun l => act c l * rn (act c) l) (rn (act c)) q) (ub (fun l => act c (256 + l) * rn (act c) (256 + l)) (fun l => rn (act c) (256 + l)) k) v j
      * (sg (c j) * (1 + c j * (1 - sg (c j)))) = gconv (beside q k v) c j := by
  unfold gconv
  refine congrArg (· * _) ?_
  unfold gact
  by_cases h0 : j < 256
  · rw [if_pos (by omega)]
    refine (if_pos h0).trans (un_congr (d := q) (a := act c) (j := j) rfl (if_pos h0).symm rfl (hd_congr j fun i hi => ?_))
    rw [show beside q k v i = q i from if_pos (by omega)]
  · by_cases h1 : j < 512
    · rw [if_pos h1]
      refine (if_neg h0).trans ((if_pos h1).trans ?_)
      unfold ub un
      dsimp only
      rw [show 256 + (j - 256) = j by omega, show beside q k v j = k (j - 256) from (if_neg h0).trans (if_pos h1)]
      refine congrArg (fun t => rn (act c) j * (k (j - 256) - act c j * rn (act c) j * t)) ?_
      refine Eq.trans ?_ ((hd_shift (fun i => beside q k v i * (act c i * rn (act c) i)) 256 (j - 256) (by norm_num)).trans (congrArg (hd _) (by omega)))
      refine hd_congr _ fun i hi => ?_
      rw [show beside q k v (256 + i) = k i from (if_neg (by omega)).trans ((if_pos (by omega)).trans (congrArg k (by omega)))]
    · rw [if_neg h1]
      refine (if_neg h0).trans ((if_neg h1).trans ?_)
      exact ((if_neg h0).trans (if_neg h1)).symm

end Cert.PrePay

end
-- ==== Proof.PreKernel.lean ====
/- The call before the recurrence: what a point of the grid stores, and the three arrays the run leaves. -/
module

public import proofs.«01_k».proof.Proof.PreHost
public import proofs.«01_k».proof.Proof.PreHeads

@[expose] public section

set_option maxRecDepth 16384

noncomputable section

open Idealize.ShloMosaic Idealize.ShloMosaic.TcCoe Idealize.SL.Sem

namespace Cert.PreKernel

open Cert.PreIdeal hiding sig
open Cert.PreIdeal.Gen
open Cert.PreSpec
open Cert.PrePay
open Cert.Rms (sg)
open Cert.SbIdeal.Sb (sheet sheet_apply cube cube_apply front bits sig coe_sum)

/-! ### A point's arithmetic -/

section values
variable {i : grid0.Coords} {p8 : FVec Ideal S8x768 .f32} {xb : FVec Ideal S256x768 .f32} {qb kb vb : FVec Ideal S256x256 .f32} {w0 w1 w2 w3 : FVec Ideal S1x768 .f32}

/-- The gradient at the convolution, as the body computes it from its blocks. -/
def dcOf (i : grid0.Coords) (p8 : FVec Ideal S8x768 .f32) (xb : FVec Ideal S256x768 .f32) (qb kb vb : FVec Ideal S256x256 .f32) (w0 w1 w2 w3 : FVec Ideal S1x768 .f32) : FVec Ideal S256x768 .f32 :=
  let v7 := k0_pay5 i p8
  let v9 := k0_pay6 xb
  let v27 := k0_pay7 i p8 xb w3 w2
  let v36 := k0_pay8 i p8 xb
  let v55 := k0_pay9 v7 v9 v27 v36 w1 w0
  let v62 := k0_pay10 v7 v9 v27 v36 w1 w0
  let v63 := k0_pay11 v7 v9 v27 v36 w1 w0
  let v64 := k0_pay12 v7 v9 v27 v36 w1 w0
  let v65 := k0_pay13 v7 v9 v27 v36 w1 w0
  let v82 := k0_pay14 v7 v9 v27 v36 w1 w0
  let v117 := k0_pay19 v64 v65 v82 k0_pay15
  let v118 := k0_pay20 v64 v82 k0_pay15
  let v119 := k0_pay21 v63
  let v172 := k0_pay30 v119 (k0_pay22 v63) k0_pay23 (k0_pay24 v63) (k0_pay25 v63) k0_pay26
  let v173 := k0_pay31 v119 k0_pay23 (k0_pay24 v63) (k0_pay25 v63) k0_pay26
  let v175 := k0_pay32 qb
  let v234 := k0_pay35 v117 v118 v175 (k0_pay33 v117 v118 v175) (k0_pay34 v117 v175)
  k0_pay40 v55 v62 v172 v173 v234 (k0_pay36 kb) (k0_pay37 v172 v173 kb) k0_pay38 (k0_pay39 v172 kb) vb

variable (L w Q K V : ℕ → ℕ → ℝ)

theorem dc_of (hp : k0_pay5 (F := Ideal) i p8 = sheet .f32 8 768 L) (hx : xb = sheet .f32 256 768 fun r => L (8 + r))
    (hq : qb = sheet .f32 256 256 Q) (hk : kb = sheet .f32 256 256 K) (hv : vb = sheet .f32 256 256 V)
    (h0 : w0 = sheet .f32 1 768 fun _ => w 0) (h1 : w1 = sheet .f32 1 768 fun _ => w 1) (h2 : w2 = sheet .f32 1 768 fun _ => w 2) (h3 : w3 = sheet .f32 1 768 fun _ => w 3) :
    dcOf i p8 xb qb kb vb w0 w1 w2 w3 = sheet .f32 256 768 fun r => gconv (beside (Q r) (K r) (V r)) (cv L w r) := by
  subst hx hq hk hv h0 h1 h2 h3
  have hc := pay9_eq L w i p8 hp
  have e13 := pay13_eq _ _ _ _ _ _ _ hc
  have e14 := pay14_eq _ _ _ _ _ _ _ e13
  unfold dcOf
  dsimp only
  rw [pay10_eq _ _ _ _ _ _ _ hc, pay11_eq _ _ _ _ _ _ _ hc, pay12_eq _ _ _ _ _ _ _ hc, e13, e14, hc]
  rw [pay19_eq, pay20_eq, pay30_eq, pay31_eq, pay32_eq, pay33_eq, pay34_eq, pay35_eq, pay37_eq, pay40_eq]
  exact congrArg (sheet .f32 256 768) (funext fun r => funext fun l => gconv_of (Q r) (K r) (V r) (cv L w r) l)

/-- The lanes of the gates' values, their slopes, and the cotangents on them, as the body computes them. -/
def maskOf (i : grid0.Coords) : IVec S256x128 1 := k0_pay43 (k0_pay41 (BitVec.ofNat 32 (i 0).val))
def slopeOf (i : grid0.Coords) (ba : FVec Ideal S256x128 .f32) (al dt : FVec Ideal S1x128 .f32) : FVec Ideal S256x128 .f32 :=
  k0_pay53 (maskOf i) (k0_pay44 (k0_pay42 ba)) (k0_pay47 (k0_pay42 ba) dt) (k0_pay48 al) k0_pay50 k0_pay51
def valueOf (i : grid0.Coords) (ba : FVec Ideal S256x128 .f32) (al dt : FVec Ideal S1x128 .f32) : FVec Ideal S256x128 .f32 :=
  k0_pay52 (maskOf i) (k0_pay44 (k0_pay42 ba)) (k0_pay49 (k0_pay42 ba) al dt) k0_pay50 k0_pay51

variable {ba : FVec Ideal S256x128 .f32} {al dt : FVec Ideal S1x128 .f32} (B : ℕ → ℕ → ℝ) (la ld : ℕ → ℝ) (t : ℕ)

theorem slope_of (ht : t < 65) (hi : (i 0).val = t) (hb : ba = sheet .f32 256 128 B) (ha : al = sheet .f32 1 128 fun _ => la) (hd : dt = sheet .f32 1 128 fun _ => ld) :
    slopeOf i ba al dt = sheet .f32 256 128 fun r l => if 240 ≤ 256 * t + r then PreSpec.slope (B r) la ld l else 0 := by
  subst hb ha hd
  unfold slopeOf maskOf
  rw [hi, rows_word t ht, pay42_eq, pay44_eq, pay47_eq, pay48_eq, pay53_eq]
theorem value_of (ht : t < 65) (hi : (i 0).val = t) (hb : ba = sheet .f32 256 128 B) (ha : al = sheet .f32 1 128 fun _ => la) (hd : dt = sheet .f32 1 128 fun _ => ld) :
    valueOf i ba al dt = sheet .f32 256 128 fun r l => if 240 ≤ 256 * t + r then (if l < 4 then sg (B r l) else if l < 8 then decay (B r) la ld l else 0) else 0 := by
  subst hb ha hd
  unfold valueOf maskOf
  rw [hi, rows_word t ht, pay42_eq, pay44_eq, pay49_eq, pay52_eq]
end values

/-! ### What a point stores -/

variable {m : (ℓ : Loc nD τ Cert.PreIdeal.sig) → Buf (Elt Ideal) ℓ} {c : Dev nD} (E : Ins) (A : Args E m c)

/-- The convolution's gradient in row `p`, and the gates' cotangents on their lanes. -/
def dcv (p : ℕ) : ℕ → ℝ := gconv (beside (front E.q p) (front E.k p) (front E.v p)) (cv (behind (front E.x)) E.w p)
def cts (p : ℕ) : ℕ → ℝ := PreSpec.eight (front E.db p) (front E.dg p)
def slp (p l : ℕ) : ℝ := if 240 ≤ p then PreSpec.slope (front (gates E) p) (mid E.al) (mid E.dt) l else 0
def vlu (p l : ℕ) : ℝ := if 240 ≤ p then (if l < 4 then sg (front (gates E) p l) else if l < 8 then decay (front (gates E) p) (mid E.al) (mid E.dt) l else 0) else 0

variable {E}

theorem cv_shift (f w : ℕ → ℕ → ℝ) (o r : ℕ) : cv (fun q => f (o + q)) w r = cv f w (o + r) := by
  funext l
  unfold cv
  dsimp only
  rw [show o + (8 + r) = 8 + (o + r) by omega, show o + (7 + r) = 7 + (o + r) by omega, show o + (6 + r) = 6 + (o + r) by omega, show o + (5 + r) = 5 + (o + r) by omega]

include A

theorem out11 (t : Fin cfg0.N) : ((outsAt0 m c t.val t.isLt).1 : FVec Ideal S256x768 .f32) = sheet .f32 256 768 fun r => dcv E (256 * t.val + r) := by
  have e := dc_of (i := grid0.coords t) (fun q => behind (front E.x) (256 * t.val + q)) E.w (fun r => front E.q (256 * t.val + r)) (fun r => front E.k (256 * t.val + r)) (fun r => front E.v (256 * t.val + r))
    (blk6 A t) (blk5 A t) (blk0 A t) (blk1 A t) (blk2 A t) (tap A t 0 (by omega) inb_S8x768_S1x768_0_0) (tap A t 1 (by omega) inb_S8x768_S1x768_1_0)
    (tap A t 2 (by omega) inb_S8x768_S1x768_2_0) (tap A t 3 (by omega) inb_S8x768_S1x768_3_0)
  refine Eq.trans ?_ (e.trans (congrArg (sheet .f32 256 768) (funext fun r => by unfold dcv; rw [cv_shift])))
  funext y
  by_cases h0 : t.val % 65 = 0
  · rw [outsAt0_A m c t h0]
    frame_out
    rfl
  · rw [outsAt0_B m c t h0]
    frame_out
    rfl
omit A

variable (m c) in
/-- The cotangents on the lanes, as the body computes them. -/
def ctsOf (t : Fin cfg0.N) : FVec Ideal S256x128 .f32 :=
  k0_pay55 (F := Ideal) (iota .tc S256x128 32 [1] iota_S256x128_d1_w32)
    (k0_pay54 (View.ld (iblk m c 3 t) (Rect.unit (s := S4x256x64) ![0, 0, 0] ![1, 256, 64] inb_S4x256x64_S1x256x64_0_0_0)) (View.ld (iblk m c 4 t) (Rect.unit (s := S4x256x64) ![0, 0, 0] ![1, 256, 64] inb_S4x256x64_S1x256x64_0_0_0))
      (View.ld (iblk m c 3 t) (Rect.unit (s := S4x256x64) ![1, 0, 0] ![1, 256, 64] inb_S4x256x64_S1x256x64_1_0_0)))
    (View.ld (iblk m c 4 t) (Rect.unit (s := S4x256x64) ![1, 0, 0] ![1, 256, 64] inb_S4x256x64_S1x256x64_1_0_0))
    (View.ld (iblk m c 3 t) (Rect.unit (s := S4x256x64) ![2, 0, 0] ![1, 256, 64] inb_S4x256x64_S1x256x64_2_0_0))
    (View.ld (iblk m c 4 t) (Rect.unit (s := S4x256x64) ![2, 0, 0] ![1, 256, 64] inb_S4x256x64_S1x256x64_2_0_0))
    (View.ld (iblk m c 3 t) (Rect.unit (s := S4x256x64) ![3, 0, 0] ![1, 256, 64] inb_S4x256x64_S1x256x64_3_0_0))
    (View.ld (iblk m c 4 t) (Rect.unit (s := S4x256x64) ![3, 0, 0] ![1, 256, 64] inb_S4x256x64_S1x256x64_3_0_0))

include A
theorem cts_of (t : Fin cfg0.N) : ctsOf m c t = sheet .f32 256 128 fun r => cts E (256 * t.val + r) := by
  unfold ctsOf
  rw [col3 A, col3 A, col3 A, col3 A, col4 A, col4 A, col4 A, col4 A]
  exact pay55_eq (fun h r => front E.db (256 * t.val + r) h) (fun h r => front E.dg (256 * t.val + r) h)

theorem slope_at (t : Fin cfg0.N) : slopeOf (grid0.coords t) (iblk m c 7 t) (iblk m c 9 t) (iblk m c 10 t) = sheet .f32 256 128 fun r => slp E (256 * t.val + r) :=
  slope_of _ _ _ t.val (lt_of_lt_of_eq t.isLt N_0) (idx_val t).2.2.2.2.2.2.2.2.2.2.2.2.2.2 (blk7 A t) (blk9 A t) (blk10 A t)
theorem value_at (t : Fin cfg0.N) : valueOf (grid0.coords t) (iblk m c 7 t) (iblk m c 9 t) (iblk m c 10 t) = sheet .f32 256 128 fun r => vlu E (256 * t.val + r) :=
  value_of _ _ _ t.val (lt_of_lt_of_eq t.isLt N_0) (idx_val t).2.2.2.2.2.2.2.2.2.2.2.2.2.2 (blk7 A t) (blk9 A t) (blk10 A t)

theorem out12 (t : Fin cfg0.N) : ((outsAt0 m c t.val t.isLt).2.1 : FVec Ideal S256x128 .f32) = sheet .f32 256 128 fun r l => cts E (256 * t.val + r) l * slp E (256 * t.val + r) l := by
  have e := pay1_eq (fun r => slp E (256 * t.val + r)) (fun r => cts E (256 * t.val + r))
  rw [← slope_at A, ← cts_of A] at e
  refine Eq.trans ?_ e
  funext y
  by_cases h0 : t.val % 65 = 0
  · rw [outsAt0_A m c t h0]
    frame_out
    rfl
  · rw [outsAt0_B m c t h0]
    frame_out
    rfl

theorem final11 : (dats m 0 c).arrAt 11 (cfgs 0).N = (sheet .f32 16640 768 (dcv E) : FVec Ideal S16640x768 .f32) := by
  refine (dats m 0 c).arrAt_eq_of_covers 11 _ (by decide +kernel) fun t _ y => ?_
  blk_simp
  rw [after0_11, out11 A t]
  idx_vars y
  have e0 : ((View.whole main_v20_0).slice (win0_11.rect t)).emb (ix2 y0 y1) = ix2 (row (pt t) y0) y1 := by
    unfold row pt
    blk_ext [idx_val t]
  rw [e0]
  rfl
theorem final12 : (dats m 0 c).arrAt 12 (cfgs 0).N = (sheet .f32 16640 128 (fun p l => cts E p l * slp E p l) : FVec Ideal S16640x128 .f32) := by
  refine (dats m 0 c).arrAt_eq_of_covers 12 _ (by decide +kernel) fun t _ y => ?_
  blk_simp
  rw [after0_12, out12 A t]
  idx_vars y
  have e0 : ((View.whole main_v20_1).slice (win0_12.rect t)).emb (ix2 y0 y1) = ix2 (row (pt t) y0) y1 := by
    unfold row pt
    blk_ext [idx_val t]
  rw [e0]
  rfl
omit A

/-! ### The two sums over the rows -/

/-- What a point adds to the first and the second row of the last result. -/
def share (E : Ins) (p l : ℕ) (j : ℕ) : ℝ :=
  if 4 ≤ l ∧ l < 8 then (if j = 0 then cts E p l * vlu E p l else if j = 1 then cts E p l * slp E p l else 0) else 0
def add (E : Ins) (t : Fin cfg0.N) (j : Fin 8) (l : Fin 128) : EReal := ((∑ r : Fin 256, share E (row (pt t) r).val l.val j.val : ℝ) : EReal)

/-- The two rows stored over what a block of eight held. -/
theorem rows {κ : Kind} {sp : Space} (v : View Cert.PreIdeal.sig κ sp S8x128 .f32) (f : v.ty.Contents (Elt Ideal)) (L : List (View.Piece (Elt Ideal) S8x128 .f32)) (p0 p1 : FVec Ideal S1x128 .f32) (j : Fin 8) (l : Fin 128) :
    View.read (Elt Ideal) v (v.writes (Elt Ideal) f (⟨Rect.unit ![1, 0] ![1, 128] inb_S8x128_S1x128_1_0, p1⟩ :: ⟨Rect.unit ![0, 0] ![1, 128] inb_S8x128_S1x128_0_0, p0⟩ :: L)) (ix2 j l)
    = if j.val = 1 then p1 (ix2 0 l) else if j.val = 0 then p0 (ix2 0 l) else View.read (Elt Ideal) v (v.writes (Elt Ideal) f L) (ix2 j l) := by
  by_cases e1 : j.val = 1
  · rw [if_pos e1]
    exact View.read_writes_cons_rows_of_mem (o := 1) v f _ p1 _ (ix2 j l) (ix2 (0 : Fin 1) l) rfl e1 rfl
  rw [if_neg e1]
  refine (View.read_writes_cons_rows_of_not_mem (o := 1) (W := 1) v f _ p1 _ (ix2 j l) rfl rfl (by show j.val < 1 ∨ 1 + 1 ≤ j.val; omega)).trans ?_
  by_cases e0 : j.val = 0
  · rw [if_pos e0]
    exact View.read_writes_cons_rows_of_mem (o := 0) v f _ p0 _ (ix2 j l) (ix2 (0 : Fin 1) l) rfl e0 rfl
  rw [if_neg e0]
  exact View.read_writes_cons_rows_of_not_mem (o := 0) (W := 1) v f _ p0 _ (ix2 j l) rfl rfl (by right; show 0 + 1 ≤ j.val; omega)

include A
theorem add0 (t : Fin cfg0.N) (acc : FVec Ideal S1x128 .f32) (z : Fin 1) (l : Fin 128) :
    k0_pay2 (F := Ideal) k0_pay51 (valueOf (grid0.coords t) (iblk m c 7 t) (iblk m c 9 t) (iblk m c 10 t)) (ctsOf m c t) acc (ix2 z l) = acc (ix2 z l) + add E t 0 l := by
  rw [value_at A, cts_of A, pay2_eq]
  rfl
theorem add1 (t : Fin cfg0.N) (acc : FVec Ideal S1x128 .f32) (z : Fin 1) (l : Fin 128) :
    k0_pay3 (F := Ideal) k0_pay51 (slopeOf (grid0.coords t) (iblk m c 7 t) (iblk m c 9 t) (iblk m c 10 t)) (ctsOf m c t) acc (ix2 z l) = acc (ix2 z l) + add E t 1 l := by
  rw [slope_at A, cts_of A, pay3_eq]
  rfl

omit A

theorem filled {κ : Kind} {sp : Space} (v : View Cert.PreIdeal.sig κ sp S8x128 .f32) (Z : S8x128.Idx → Elt Ideal .f32) (r : Rect S8x128) :
    v.readCov [⟨Rect.unit ![0, 0] ![8, 128] inb_S8x128_S8x128_0_0, Z⟩] r.toLoadRect = View.ld Z r :=
  View.readCov_fill v inb_S8x128_S8x128_0_0 Z [] r (by intro a; fin_cases a <;> rfl)
/-- The second row's load passes over the store of the first. -/
theorem skip {κ : Kind} {sp : Space} (v : View Cert.PreIdeal.sig κ sp S8x128 .f32) (L : List (View.Piece (Elt Ideal) S8x128 .f32)) (h0) (h1) (p : (Rect.unit (s := S8x128) ![0, 0] ![1, 128] h0).shape.Idx → Elt Ideal .f32) :
    v.readCov (⟨Rect.unit (s := S8x128) ![0, 0] ![1, 128] h0, p⟩ :: L) (Rect.unit (s := S8x128) ![1, 0] ![1, 128] h1).toLoadRect = v.readCov L (Rect.unit (s := S8x128) ![1, 0] ![1, 128] h1).toLoadRect :=
  View.readCov_skip v _ p L _ (decide_eq_true ⟨0, Or.inr (Or.inr (Or.inl (show 0 + 1 * (1 - 1) < 1 by omega)))⟩)

theorem zero_row (j : ℕ) (hj) (l : Fin 128) : (View.ld (Val := Elt Ideal) (e' := .f32) (k0_pay4 (F := Ideal)) (Rect.unit (s := S8x128) ![j, 0] ![1, 128] hj) : FVec Ideal S1x128 .f32) (ix2 0 l) = 0 := by
  pointwise [k0_pay4]

theorem held_zero {κ : Kind} {sp : Space} (v : View Cert.PreIdeal.sig κ sp S8x128 .f32) (f : v.ty.Contents (Elt Ideal)) (y : S8x128.Idx) :
    View.read (Elt Ideal) v (v.writes (Elt Ideal) f [⟨Rect.unit ![0, 0] ![8, 128] inb_S8x128_S8x128_0_0, k0_pay4 (F := Ideal)⟩]) y = (0 : EReal) := by
  refine (View.read_writes_cons_unit_of_mem v f inb_S8x128_S8x128_0_0 (k0_pay4 (F := Ideal)) [] y y rfl (by intro a; fin_cases a <;> exact (Nat.zero_add _).symm)).trans ?_
  idx_vars y
  pointwise [k0_pay4]

/-- The two rows stored over zeros. -/
theorem rows_zero {κ : Kind} {sp : Space} (v : View Cert.PreIdeal.sig κ sp S8x128 .f32) (p0 p1 : FVec Ideal S1x128 .f32) (j : Fin 8) (l : Fin 128) :
    (View.canon (Val := Elt Ideal) (e := .f32) [⟨Rect.unit ![1, 0] ![1, 128] inb_S8x128_S1x128_1_0, p1⟩, ⟨Rect.unit ![0, 0] ![1, 128] inb_S8x128_S1x128_0_0, p0⟩,
      ⟨Rect.unit ![0, 0] ![8, 128] inb_S8x128_S8x128_0_0, k0_pay4 (F := Ideal)⟩] : FVec Ideal S8x128 .f32) (ix2 j l)
    = if j.val = 1 then p1 (ix2 0 l) else if j.val = 0 then p0 (ix2 0 l) else 0 := by
  refine (View.read_writes_apply_eq_canon (Val := Elt Ideal) v v.junk (ix2 j l) _ ⟨⟨Rect.unit ![0, 0] ![8, 128] inb_S8x128_S8x128_0_0, k0_pay4 (F := Ideal)⟩, by simp only [List.mem_cons, true_or, or_true], ?_⟩).symm.trans ((rows v v.junk [⟨Rect.unit ![0, 0] ![8, 128] inb_S8x128_S8x128_0_0, k0_pay4 (F := Ideal)⟩] p0 p1 j l).trans ?_)
  · refine (Rect.mem_set_unit (inb := inb_S8x128_S8x128_0_0)).2 fun a => ?_
    fin_cases a
    · exact ⟨Nat.zero_le _, j.isLt⟩
    · exact ⟨Nat.zero_le _, l.isLt⟩
  · rw [held_zero]

/-- Three equal choices by the row. -/
theorem rowwise {j : Fin 8} {x0 x1 x4 z : EReal} (h1 : j = 1 → x1 = z) (h0 : j = 0 → x0 = z) (h4 : j.val ≠ 1 → j.val ≠ 0 → x4 = z) :
    (if j.val = 1 then x1 else if j.val = 0 then x0 else x4) = z := by
  split_ifs with a b
  · exact h1 (Fin.ext a)
  · exact h0 (Fin.ext b)
  · exact h4 a b

theorem add_off (t : Fin cfg0.N) (j : Fin 8) (h1 : j.val ≠ 1) (h0 : j.val ≠ 0) (l : Fin 128) : add E t j l = 0 := by
  unfold add share
  simp only [if_neg h0, if_neg h1, ite_self, Finset.sum_const_zero, EReal.coe_zero]

/-- A row of a block of eight. -/
theorem row_of (X : S8x128.Idx → Elt Ideal .f32) (j : Fin 8) (hj) (l : Fin 128) : (View.ld X (Rect.unit (s := S8x128) ![j.val, 0] ![1, 128] hj) : FVec Ideal S1x128 .f32) (ix2 0 l) = X (ix2 j l) := by
  pointwise

include A
theorem oA13 (t : Fin cfg0.N) (j : Fin 8) (l : Fin 128) (h0 : t.val % 65 = 0) : ((outsAt0 m c t.val t.isLt).2.2 : FVec Ideal S8x128 .f32) (ix2 j l) = 0 + add E t j l := by
  rw [outsAt0_A m c t h0]
  frame_out
  rw [skip, filled, filled]
  refine (rows_zero (ms0_13 t).view _ _ j l).trans (rowwise ?_ ?_ ?_)
  · rintro rfl; exact (add1 A t _ 0 l).trans (congrArg (· + add E t 1 l) (zero_row 1 _ l))
  · rintro rfl; exact (add0 A t _ 0 l).trans (congrArg (· + add E t 0 l) (zero_row 0 _ l))
  · intro h h'; rw [add_off t j h h', add_zero]
theorem oB13 (t : Fin cfg0.N) (j : Fin 8) (l : Fin 128) (h0 : ¬t.val % 65 = 0) : ((outsAt0 m c t.val t.isLt).2.2 : FVec Ideal S8x128 .f32) (ix2 j l)
    = ((outsAt0 m c (t.val - 1) (Nat.lt_of_le_of_lt (Nat.sub_le _ _) t.isLt)).2.2 : FVec Ideal S8x128 .f32) (ix2 j l) + add E t j l := by
  rw [outsAt0_B m c t h0]
  frame_out
  refine (rows (ms0_13 t).view _ [] _ _ j l).trans (rowwise ?_ ?_ ?_)
  · rintro rfl; exact (add1 A t _ 0 l).trans (congrArg (· + add E t 1 l) (row_of _ 1 _ l))
  · rintro rfl; exact (add0 A t _ 0 l).trans (congrArg (· + add E t 0 l) (row_of _ 0 _ l))
  · intro h h'; rw [add_off t j h h', add_zero, View.writes_nil]
    exact congrFun (Memref.IsWhole.read_unread _ _) _

omit A in
theorem pt_run (t : Fin cfg0.N) (s : Fin 65) (h : 65 * (t.val / 65) + s.val < cfg0.N) : pt ⟨65 * (t.val / 65) + s.val, h⟩ = s := by
  have := lt_of_lt_of_eq t.isLt N_0
  have := lt_of_lt_of_eq h N_0
  apply Fin.ext
  show 65 * (t.val / 65) + s.val = s.val
  omega

/-- The last result: two rows of sums over all rows, and zeros. -/
theorem final13 : (dats m 0 c).arrAt 13 (cfgs 0).N
    = (sheet .f32 8 128 (fun j l => ∑ i : Fin 65, ∑ r : Fin 256, share E (row i r).val l j) : FVec Ideal S8x128 .f32) := by
  refine (dats m 0 c).arrAt_eq_of_covers 13 _ (by decide +kernel) fun t hf y => ?_
  blk_simp
  rw [after0_13]
  idx_vars y
  have e0 : ((View.whole main_v20_2).slice (win0_13.rect t)).emb (ix2 y0 y1) = ix2 y0 y1 := by
    blk_ext [idx_val t]
  rw [e0, Pipeline.eq_sum_fin_of_reset_step_apply_of_flush (fun n h => (outsAt0 m c n h).2.2) 65 (fun _ => 0)
    (fun t j => add E t (j 0) (j 1))
    (fun t h j => by
      idx_vars j
      exact oA13 A t j0 j1 h)
    (fun t h j => by
      idx_vars j
      exact oB13 A t j0 j1 h) t ((flush0_13 t).mp hf) _, zero_add, sheet_apply, ← coe_sum]
  exact Fin.sum_fin_congr fun s => by unfold add; rw [pt_run] <;> rfl

end Cert.PreKernel

end
-- ==== Proof.PreRefConv.lean ====
/- The reference of the gradients before the recurrence: the convolution, the activated row, and the gradient of a head scaled to unit length. -/
module

public import proofs.«01_k».proof.Proof.PreKernel
public import proofs.«01_k».proof.Proof.SbRef
public import proofs.«01_k».proof.Proof.MixInRef
public import proofs.«01_k».proof.Proof.Gen.PreRefIdeal.Read

@[expose] public section

set_option maxRecDepth 16384

noncomputable section

namespace Cert.PreRef

open Cert.PreRefIdeal hiding sig
open Cert.PreRefIdeal.Gen Cert.PreRefIdeal.Read Idealize.ShloMosaic Idealize.ShloMosaic.TcCoe Idealize.SL.Sem
open Cert.PreSpec
open Cert.Rms (sg sg_coe)
open Cert.PreKernel (Ins behind)
open Cert.MixInRef (choose)
open Cert.SbRefVal (ofBits_eps ofBits_mhalf)
open Cert.SbIdeal.Sb (sheet sheet_apply cube cube_apply coe_sum line front pad_sheet zero_conv eps)

variable (e : Ins)

/-- The convolution and the activated row of a row of the arguments. -/
def cc (p : ℕ) : ℕ → ℝ := cv (behind (front e.x)) e.w (240 + p)
def ac (p : ℕ) : ℕ → ℝ := act (cc e p)

theorem v2_eq : val_main_v2 (F := Ideal) (sheet .f32 16400 768 e.x) = sheet .f32 16403 768 fun q => behind (front e.x) (q + 245) := by
  funext i; idx_vars i
  have h0 := i0.isLt
  pointwise [val_main_v2, val_main_v1, val_main_cst_0]
  simp only [sheet_apply]
  unfold behind front
  rw [if_neg (by omega : ¬i0.val + 245 < 8)]
  refine (choose (c := _ < _) (d := ¬240 ≤ i0.val + 245 - 8) (by omega) rfl (congrArg (fun p : ℕ => ((e.x p i1.val : ℝ) : EReal)) (by omega : _ = i0.val + 245 - 8 - 240))).trans ?_
  by_cases h : 240 ≤ i0.val + 245 - 8
  · rw [if_neg (not_not.2 h), if_pos h]
  · rw [if_pos h, if_neg h]

theorem v32_eq : val_main_v32 (F := Ideal) (sheet .f32 16400 768 e.x) (sheet .f32 4 768 e.w) = sheet .f32 16400 768 (cc e) := by
  funext i; idx_vars i
  pointwise [val_main_v32, val_main_v31, val_main_v24, val_main_v17, val_main_v10, val_main_v9, val_main_v8, val_main_v16, val_main_v23, val_main_v30, val_main_v0, val_main_cst, val_main_cst_1, val_main_v5, val_main_v13, val_main_v20, val_main_v27, val_main_v7, val_main_v6, val_main_v4, val_main_v3, val_main_v15, val_main_v14, val_main_v12, val_main_v11, val_main_v22, val_main_v21, val_main_v19, val_main_v18, val_main_v29, val_main_v28, val_main_v26, val_main_v25]
  rw [v2_eq]
  simp only [sheet_apply, ← EReal.coe_mul, ← EReal.coe_add]
  refine congrArg (fun t : ℝ => (t : EReal)) ?_
  unfold cc cv
  rw [show 8 + (240 + i0.val) = 3 + i0.val + 245 by omega, show 7 + (240 + i0.val) = 2 + i0.val + 245 by omega, show 6 + (240 + i0.val) = 1 + i0.val + 245 by omega,
    show 5 + (240 + i0.val) = i0.val + 245 by omega]
  show e.w 0 i1.val * _ + e.w 1 i1.val * _ + e.w 2 i1.val * _ + e.w 3 i1.val * _ = _
  ring

theorem v33_2_eq : val_main_v33_2 (F := Ideal) (sheet .f32 16400 768 e.x) (sheet .f32 4 768 e.w) = sheet .f32 16400 768 fun p l => sg (cc e p l) := by
  funext i; idx_vars i
  pointwise [val_main_v33_2, val_main_call0_v4, val_main_call0_v3, val_main_call0_v2, val_main_call0_v1, val_main_call0_v0, val_main_call0_cst, val_main_call0_cst_0]
  rw [v32_eq]
  simp only [sheet_apply]
  rw [← EReal.coe_neg, Ideal.exp_coe, ← EReal.coe_one]
  exact sg_coe _

theorem v33_1_eq : val_main_v33_1 (F := Ideal) (sheet .f32 16400 768 e.x) (sheet .f32 4 768 e.w) = sheet .f32 16400 768 fun p l => sg (cc e p l) * (1 - sg (cc e p l)) := by
  funext i; idx_vars i
  pointwise [val_main_v33_1, val_main_call0_v7, val_main_call0_v6, val_main_call0_cst_1]
  rw [v33_2_eq]
  simp only [sheet_apply]
  rw [← EReal.coe_one]
  simp only [← EReal.coe_sub, ← EReal.coe_mul]

theorem v33_0_eq : val_main_v33_0 (F := Ideal) (sheet .f32 16400 768 e.x) (sheet .f32 4 768 e.w) = sheet .f32 16400 768 (ac e) := by
  funext i; idx_vars i
  pointwise [val_main_v33_0]
  rw [v32_eq, v33_2_eq]
  simp only [sheet_apply, ← EReal.coe_mul]
  rfl

theorem heads (f : ℕ → ℕ → ℝ) : shapeCast _ (sheet .f32 16400 256 f) shapeCasts_S16400x256_S16400x4x64 = cube 16400 4 64 fun p h d => f p (64 * h + d) := by
  funext i; idx_vars i
  pointwise
  exact congrArg (fun t : ℕ => ((f i0.val t : ℝ) : EReal)) (show i1.val * 64 + i2.val = 64 * i1.val + i2.val by omega)
theorem flat (f : ℕ → ℕ → ℝ) : shapeCast _ (cube 16400 4 64 fun p h d => f p (64 * h + d)) shapeCasts_S16400x4x64_S16400x256 = sheet .f32 16400 256 f := by
  funext i; idx_vars i
  pointwise
  exact congrArg (fun t : ℕ => ((f i0.val t : ℝ) : EReal)) (Nat.div_add_mod i1.val 64)

theorem v37_eq : val_main_v37 (F := Ideal) (sheet .f32 16400 768 e.x) (sheet .f32 4 768 e.w) = cube 16400 4 64 fun p h d => ac e p (64 * h + d) := by
  unfold val_main_v37 val_main_v34
  rw [v33_0_eq]
  refine (congrArg (fun y => shapeCast _ y shapeCasts_S16400x256_S16400x4x64) ?_).trans (heads (ac e))
  funext i; idx_vars i
  pointwise
  rfl
theorem v38_eq : val_main_v38 (F := Ideal) (sheet .f32 16400 768 e.x) (sheet .f32 4 768 e.w) = cube 16400 4 64 fun p h d => ac e p (256 + (64 * h + d)) := by
  unfold val_main_v38 val_main_v35
  rw [v33_0_eq]
  refine (congrArg (fun y => shapeCast _ y shapeCasts_S16400x256_S16400x4x64) ?_).trans (heads fun p j => ac e p (256 + j))
  funext i; idx_vars i
  pointwise
  rfl

theorem hd_at (f : ℕ → ℝ) (h : ℕ) : hd f (64 * h) = ∑ k : Fin 64, f (64 * h + k.val) :=
  Finset.sum_congr rfl fun k _ => congrArg f (by omega)

/-! ### A head scaled to unit length -/

/-- The reference's head sums of squares with the small constant, its reciprocal length, and the gradient it states of a head. -/
def sums (y : FVec Ideal S16400x4x64 .f32) : FVec Ideal S16400x4x1 .f32 :=
  addf (broadcastInDim S16400x4x1 ![0, 1] bcast_S16400x4_S16400x4x1_0_1 (Host.reduceAdd (mulf y y) (constant (F := Ideal) S_ .f32 0x00000000#32) reducesTo_S16400x4x64_S16400x4_d2 h_S_))
    (broadcastInDim S16400x4x1 ![] bcast_S_S16400x4x1 (constant (F := Ideal) S_ .f32 0x358637BD#32))
def third (y d : FVec Ideal S16400x4x64 .f32) : FVec Ideal S16400x4x64 .f32 :=
  broadcastInDim S16400x4x64 ![0, 1] bcast_S16400x4_S16400x4x64_0_1 (Host.reduceAdd (mulf
    (shapeCast S16400x4x1 (Host.reduceAdd (mulf y d) (constant (F := Ideal) S_ .f32 0x00000000#32) reducesTo_S16400x4x64_S16400x4_d2 h_S_) shapeCasts_S16400x4_S16400x4x1)
    (mulf (broadcastInDim S16400x4x1 ![] bcast_S_S16400x4x1 (constant (F := Ideal) S_ .f32 0xBF000000#32)) (Host.divf (Host.rsqrt (sums y)) (sums y))))
    (constant (F := Ideal) S_ .f32 0x00000000#32) reducesTo_S16400x4x1_S16400x4_d2 h_S_)
def back (y d : FVec Ideal S16400x4x64 .f32) : FVec Ideal S16400x4x64 .f32 :=
  addf (addf (mulf d (broadcastInDim S16400x4x64 ![0, 1, 2] bcast_S16400x4x1_S16400x4x64_0_1_2 (Host.rsqrt (sums y)))) (mulf y (third y d))) (mulf (third y d) y)

variable (x : FVec Ideal S16400x768 .f32) (w : FVec Ideal S4x768 .f32) (d : FVec Ideal S16400x256 .f32)

theorem v122_back : val_main_v122 (F := Ideal) x w d = back (val_main_v37 (F := Ideal) x w) (val_main_v85 (F := Ideal) d) := rfl
theorem v110_back : val_main_v110 (F := Ideal) x w d = back (val_main_v38 (F := Ideal) x w) (val_main_v84 (F := Ideal) d) := rfl

variable (a g : ℕ → ℕ → ℝ)

theorem sums_eq : sums (cube 16400 4 64 fun p h d => a p (64 * h + d)) = cube 16400 4 1 fun p h _ => hd (fun k => a p k * a p k) (64 * h) + eps := by
  funext i; idx_vars i
  pointwise [sums]
  simp only [cube_apply, ofBits_eps, ← EReal.coe_mul, coe_sum]
  rw [← EReal.coe_add, hd_at]

theorem sq_at (p h : ℕ) : 0 < hd (fun k => a p k * a p k) (64 * h) + eps := sq_pos (a p) (64 * h)

theorem root_eq : Host.rsqrt (sums (cube 16400 4 64 fun p h d => a p (64 * h + d))) = cube 16400 4 1 fun p h _ => rn (a p) (64 * h) := by
  rw [sums_eq]
  funext i; idx_vars i
  pointwise
  simp only [cube_apply]
  rw [Ideal.rsqrt_coe, if_neg (not_lt.2 (sq_at a _ _).le), if_neg (ne_of_gt (sq_at a _ _))]
  rfl

theorem third_eq : third (cube 16400 4 64 fun p h d => a p (64 * h + d)) (cube 16400 4 64 fun p h d => g p (64 * h + d))
    = cube 16400 4 64 fun p h _ => hd (fun k => a p k * g p k) (64 * h) * (-(1 / 2) * (rn (a p) (64 * h) * (1 / (hd (fun k => a p k * a p k) (64 * h) + eps)))) := by
  unfold third
  rw [root_eq, sums_eq]
  funext i; idx_vars i
  pointwise
  simp only [cube_apply, Fin.sum_univ_one, ofBits_mhalf, Ideal.div_coe (ne_of_gt (sq_at a _ _)), ← EReal.coe_mul, coe_sum]
  rw [hd_at fun k => a i0.val k * g i0.val k]

/-- The gradient the reference states of a head is that of the head scaled to unit length. -/
theorem un_of (u v : ℕ → ℝ) (h d : ℕ) (hd64 : d < 64) :
    v (64 * h + d) * rn u (64 * h) + u (64 * h + d) * (hd (fun k => u k * v k) (64 * h) * (-(1 / 2) * (rn u (64 * h) * (1 / (hd (fun k => u k * u k) (64 * h) + eps)))))
      + hd (fun k => u k * v k) (64 * h) * (-(1 / 2) * (rn u (64 * h) * (1 / (hd (fun k => u k * u k) (64 * h) + eps)))) * u (64 * h + d) = un v u (64 * h + d) := by
  have e0 : ∀ f : ℕ → ℝ, hd f (64 * h + d) = hd f (64 * h) := fun f => Finset.sum_congr rfl fun k _ => congrArg f (by omega)
  have e1 : ∀ k, k / 64 = h → rn u k = rn u (64 * h) := fun k hk => by
    unfold rn
    rw [show hd (fun k => u k * u k) k = hd (fun k => u k * u k) (64 * h) from Finset.sum_congr rfl fun j _ => congrArg (fun k => u k * u k) (by omega)]
  have e2 : hd (fun k => v k * (u k * rn u k)) (64 * h) = rn u (64 * h) * hd (fun k => u k * v k) (64 * h) := by
    rw [hd_at, hd_at, Finset.mul_sum]
    exact Finset.sum_congr rfl fun k _ => by rw [e1 (64 * h + k.val) (by omega)]; ring
  have e3 : 1 / (hd (fun k => u k * u k) (64 * h) + eps) = rn u (64 * h) * rn u (64 * h) := by
    unfold rn
    rw [← mul_inv, Real.mul_self_sqrt (sq_pos u (64 * h)).le, one_div]
  unfold un
  rw [e0, e1 (64 * h + d) (by omega), e2, e3]
  ring

theorem back_eq : back (cube 16400 4 64 fun p h d => a p (64 * h + d)) (cube 16400 4 64 fun p h d => g p (64 * h + d)) = cube 16400 4 64 fun p h d => un (g p) (a p) (64 * h + d) := by
  unfold back
  rw [third_eq, root_eq]
  funext i; idx_vars i
  pointwise
  simp only [cube_apply, ← EReal.coe_mul, ← EReal.coe_add]
  exact congrArg (fun t : ℝ => (t : EReal)) (un_of (a i0.val) (g i0.val) i1.val i2.val i2.isLt)

end Cert.PreRef

end
-- ==== Proof.PreRef.lean ====
/- The reference of the gradients before the recurrence: its three results on arguments of reals. -/
module

public import proofs.«01_k».proof.Proof.PreRefConv

@[expose] public section

set_option maxRecDepth 16384

noncomputable section

namespace Cert.PreRef

open Cert.PreRefIdeal hiding sig
open Cert.PreRefIdeal.Gen Cert.PreRefIdeal.Read Idealize.ShloMosaic Idealize.ShloMosaic.TcCoe Idealize.SL.Sem
open Cert.PreSpec
open Cert.Rms (sg sg_coe)
open Cert.PreKernel (Ins behind gates mid dcv cts slp vlu share row)
open Cert.MixInRef (choose)
open Cert.SbRefVal (ofBits_inf exp_sub_sp sum_front front_low front_at)
open Cert.SbIdeal.Sb (sheet sheet_apply cube cube_apply coe_sum coe_max line front pad_sheet zero_conv eps sp sig max_add_log)

variable (e : Ins)

theorem un_congr {d d' a a' : ℕ → ℝ} (j : ℕ) (hd0 : ∀ k, k / 64 = j / 64 → d k = d' k) (ha : ∀ k, k / 64 = j / 64 → a k = a' k) : un d a j = un d' a' j := by
  have hr : ∀ k, k / 64 = j / 64 → rn a k = rn a' k := fun k hk => by
    unfold rn
    rw [hd_congr (g := fun k => a' k * a' k) k fun n hn => by rw [ha n (hn.trans hk)]]
  unfold un
  rw [hr j rfl, hd0 j rfl, ha j rfl, hd_congr (g := fun k => d' k * (a' k * rn a' k)) j fun k hk => by rw [hd0 k hk, ha k hk, hr k hk]]

theorem un_shift (d a : ℕ → ℝ) (o j : ℕ) (ho : o % 64 = 0) : un (fun k => d (o + k)) (fun k => a (o + k)) j = un d a (o + j) := by
  have hr : ∀ k, rn (fun k => a (o + k)) k = rn a (o + k) := fun k => by
    unfold rn
    rw [hd_shift (fun k => a k * a k) o k ho]
  unfold un
  simp only [hr]
  rw [hd_shift (fun k => d k * (a k * rn a k)) o j ho]

/-- The gradients of the activated row's three parts side by side. -/
theorem v126_eq : val_main_v126 (F := Ideal) (sheet .f32 16400 768 e.x) (sheet .f32 4 768 e.w) (sheet .f32 16400 256 e.q) (sheet .f32 16400 256 e.k) (sheet .f32 16400 256 e.v)
    = sheet .f32 16400 768 fun p => gact (beside (e.q p) (e.k p) (e.v p)) (ac e p) := by
  have h5 : val_main_v125 (F := Ideal) (sheet .f32 16400 768 e.x) (sheet .f32 4 768 e.w) (sheet .f32 16400 256 e.q) = sheet .f32 16400 256 fun p j => un (e.q p) (ac e p) j := by
    unfold val_main_v125
    rw [v122_back, v37_eq, show val_main_v85 (F := Ideal) (sheet .f32 16400 256 e.q) = _ from heads e.q, back_eq]
    exact flat fun p j => un (e.q p) (ac e p) j
  have h4 : val_main_v124 (F := Ideal) (sheet .f32 16400 768 e.x) (sheet .f32 4 768 e.w) (sheet .f32 16400 256 e.k) = sheet .f32 16400 256 fun p j => un (e.k p) (fun k => ac e p (256 + k)) j := by
    unfold val_main_v124
    rw [v110_back, v38_eq, show val_main_v84 (F := Ideal) (sheet .f32 16400 256 e.k) = _ from heads e.k, back_eq (fun p k => ac e p (256 + k))]
    exact flat fun p j => un (e.k p) (fun k => ac e p (256 + k)) j
  have h3 : val_main_v123 (F := Ideal) (sheet .f32 16400 256 e.v) = sheet .f32 16400 256 e.v := by
    unfold val_main_v123
    rw [show val_main_v83 (F := Ideal) (sheet .f32 16400 256 e.v) = _ from heads e.v]
    exact flat e.v
  unfold val_main_v126
  rw [h5, h4, h3]
  funext i; idx_vars i
  pointwise
  simp only [sheet_apply]
  have h0 := i1.isLt
  refine (choose (x' := un (e.q i0.val) (ac e i0.val) i1.val) (y' := if i1.val < 512 then un (e.k i0.val) (fun k => ac e i0.val (256 + k)) (i1.val - 256) else e.v i0.val (i1.val - 512))
    (d := i1.val < 256) (by omega) (congrArg (fun j : ℕ => ((un (e.q i0.val) (ac e i0.val) j : ℝ) : EReal)) (by omega))
    (choose (by omega) (congrArg (fun j : ℕ => ((un (e.k i0.val) (fun k => ac e i0.val (256 + k)) j : ℝ) : EReal)) (by omega)) (congrArg (fun j : ℕ => ((e.v i0.val j : ℝ) : EReal)) (by omega)))).trans
    (congrArg (fun t : ℝ => (t : EReal)) ?_)
  unfold gact
  by_cases h : i1.val < 256
  · rw [if_pos h, if_pos (by omega)]
    exact un_congr _ (fun k hk => by unfold beside; rw [if_pos (by omega)]) fun _ _ => rfl
  · rw [if_neg h]
    by_cases h' : i1.val < 512
    · rw [if_pos h', if_pos h']
      refine Eq.trans ?_ ((un_shift (beside (e.q i0.val) (e.k i0.val) (e.v i0.val)) (ac e i0.val) 256 (i1.val - 256) (by norm_num)).trans (congrArg _ (by omega)))
      exact un_congr _ (fun k hk => by unfold beside; rw [if_neg (by omega), if_pos (by omega), Nat.add_sub_cancel_left]) fun _ _ => rfl
    · rw [if_neg h', if_neg h']
      unfold beside
      rw [if_neg h, if_neg h']

theorem v127_eq : val_main_v127 (F := Ideal) (sheet .f32 16400 768 e.x) (sheet .f32 4 768 e.w) (sheet .f32 16400 256 e.q) (sheet .f32 16400 256 e.k) (sheet .f32 16400 256 e.v)
    = sheet .f32 16400 768 fun p => gconv (beside (e.q p) (e.k p) (e.v p)) (cc e p) := by
  funext i; idx_vars i
  pointwise [val_main_v127, val_main_call3_v0, val_main_call3_v1, val_main_call3_v2]
  rw [v126_eq, v32_eq, v33_2_eq, v33_1_eq]
  simp only [sheet_apply, ← EReal.coe_mul, ← EReal.coe_add]
  refine congrArg (fun t : ℝ => (t : EReal)) ?_
  unfold gconv ac
  ring

/-- The convolution's gradient. -/
theorem v134_eq : val_main_v134 (F := Ideal) (sheet .f32 16400 768 e.x) (sheet .f32 4 768 e.w) (sheet .f32 16400 256 e.q) (sheet .f32 16400 256 e.k) (sheet .f32 16400 256 e.v)
    = sheet .f32 16640 768 (dcv e) := by
  unfold val_main_v134
  rw [v127_eq]
  refine (pad_sheet 16400 768 240 16640 _ _ zero_conv h_S_ (by norm_num) _).trans (congrArg (sheet .f32 16640 768) ?_)
  funext p l
  unfold dcv
  by_cases hp : 240 ≤ p
  · unfold front cc
    simp only [hp, if_true]
    rw [show 240 + (p - 240) = p by omega]
    rfl
  · refine (if_neg hp).trans (gconv_zero (fun k => ?_) l).symm
    unfold beside
    rw [front_low _ _ _ (not_le.1 hp), front_low _ _ _ (not_le.1 hp), front_low _ _ _ (not_le.1 hp), ite_self, ite_self]

/-! ### The gates -/

theorem v70_eq : val_main_v70 (F := Ideal) (sheet .f32 16400 4 e.b) = sheet .f32 16400 4 fun p l => sg (e.b p l) * (1 - sg (e.b p l)) := by
  have h : val_main_v67 (F := Ideal) (sheet .f32 16400 4 e.b) = sheet .f32 16400 4 fun p l => sg (e.b p l) := by
    funext i; idx_vars i
    pointwise [val_main_v67, val_main_v66, val_main_v65, val_main_v64, val_main_v63, val_main_v62, val_main_cst_8, val_main_cst_9]
    simp only [sheet_apply]
    rw [← EReal.coe_neg, Ideal.exp_coe, ← EReal.coe_one]
    exact sg_coe _
  funext i; idx_vars i
  pointwise [val_main_v70, val_main_v69, val_main_v68, val_main_cst_10]
  rw [h]
  simp only [sheet_apply]
  rw [← EReal.coe_one]
  simp only [← EReal.coe_sub, ← EReal.coe_mul]

theorem v75_eq : val_main_v75 (F := Ideal) (sheet .f32 16400 4 e.a) (line 4 e.dt) = sheet .f32 16400 4 fun p l => e.a p l + e.dt l := by
  funext i; idx_vars i
  pointwise [val_main_v75, val_main_v74, val_main_v73]
  rw [sheet_apply, sheet_apply, EReal.coe_add]
  rfl

theorem v76_0_eq : val_main_v76_0 (F := Ideal) (sheet .f32 16400 4 e.a) (line 4 e.dt) = sheet .f32 16400 4 fun p l => sp (e.a p l + e.dt l) := by
  funext i; idx_vars i
  pointwise [val_main_v76_0, val_main_call1_v4, val_main_call1_v6, val_main_call1_v11, val_main_call1_v10, val_main_call1_v9, val_main_call1_v8, val_main_call1_v7, val_main_call1_v1, val_main_call1_v3, val_main_call1_v0, val_main_call1_v2, val_main_call1_v5, val_main_call1_cst]
  rw [if_neg (fun h => h rfl), v75_eq]
  simp only [sheet_apply]
  show max _ _ + Ideal.log (1 + Ideal.exp (-(max ((e.a i0.val i1.val + e.dt i1.val : ℝ) : EReal) (-((e.a i0.val i1.val + e.dt i1.val : ℝ) : EReal))))) = _
  rw [← EReal.coe_neg, coe_max, ← EReal.coe_neg, Ideal.exp_coe]
  exact max_add_log _

theorem v76_1_eq : val_main_v76_1 (F := Ideal) (sheet .f32 16400 4 e.a) (line 4 e.dt) = sheet .f32 16400 4 fun p l => sig (e.a p l + e.dt l) := by
  funext i; idx_vars i
  pointwise [val_main_v76_1, val_main_call1_v21, val_main_call1_v20, val_main_call1_v16, val_main_call1_v18, val_main_call1_v14, val_main_call1_v13, val_main_call1_v17, val_main_call1_v15, val_main_call1_v19, val_main_call1_cst_0, val_main_call1_cst_1, val_main_call1_cst_2, val_main_call1_cst_3]
  rw [v75_eq, v76_0_eq, ofBits_inf, sheet_apply, sheet_apply, if_neg (EReal.coe_ne_top _), if_neg (EReal.coe_ne_top _), ← EReal.coe_sub, Ideal.exp_coe, exp_sub_sp, sheet_apply]

theorem v92_eq : val_main_v92 (F := Ideal) (sheet .f32 16400 4 e.a) (line 4 e.al) (line 4 e.dt) (sheet .f32 16400 4 e.dg)
    = sheet .f32 16400 4 fun p l => -Real.exp (e.al l) * e.dg p l * sig (e.a p l + e.dt l) := by
  funext i; idx_vars i
  pointwise [val_main_v92, val_main_v87, val_main_v86, val_main_v77, val_main_v72, val_main_v71]
  rw [v76_1_eq, sheet_apply, sheet_apply, sheet_apply, EReal.coe_mul, EReal.coe_mul, EReal.coe_neg]
  rfl

theorem v98_eq : val_main_v98 (F := Ideal) (sheet .f32 16400 4 e.b) (sheet .f32 16400 4 e.db)
    = sheet .f32 16400 4 fun p l => e.db p l * (sg (e.b p l) * (1 - sg (e.b p l))) := by
  funext i; idx_vars i
  pointwise [val_main_v98]
  rw [v70_eq, sheet_apply, sheet_apply, sheet_apply, ← EReal.coe_mul]

/-! What the kernel's lanes hold, at the rows of the arguments and before them. -/

theorem cts_step (p l : ℕ) (h : l < 4) : cts e (240 + p) l = e.db p l := (if_pos h).trans (front_at e.db p l)
theorem cts_decay (p l : ℕ) (h : 4 ≤ l) (h' : l < 8) : cts e (240 + p) l = e.dg p (l - 4) :=
  (if_neg (not_lt.2 h)).trans ((if_pos h').trans (front_at e.dg p (l - 4)))
theorem cts_off (p l : ℕ) (h : ¬l < 8) : cts e p l = 0 := (if_neg (by omega)).trans (if_neg h)
theorem lane_step (p l : ℕ) (h : l < 4) : front (gates e) (240 + p) l = e.b p l := (front_at (gates e) p l).trans (if_pos h)
theorem lane_decay (p l : ℕ) (h : 4 ≤ l) (h' : l < 8) : front (gates e) (240 + p) l = e.a p (l - 4) :=
  (front_at (gates e) p l).trans ((if_neg (not_lt.2 h)).trans (if_pos h'))
theorem slp_step (p l : ℕ) (h : l < 4) : slp e (240 + p) l = sg (e.b p l) * (1 - sg (e.b p l)) := by
  refine (if_pos (by omega)).trans ((if_pos h).trans ?_)
  rw [lane_step e p l h]
theorem slp_decay (p l : ℕ) (h : 4 ≤ l) (h' : l < 8) : slp e (240 + p) l = -Real.exp (e.al (l - 4)) * sig (e.a p (l - 4) + e.dt (l - 4)) := by
  refine (if_pos (by omega)).trans ((if_neg (not_lt.2 h)).trans ((if_pos h').trans ?_))
  rw [lane_decay e p l h h', show mid e.al l = e.al (l - 4) from if_pos ⟨h, h'⟩, show mid e.dt l = e.dt (l - 4) from if_pos ⟨h, h'⟩]
theorem vlu_decay (p l : ℕ) (h : 4 ≤ l) (h' : l < 8) : vlu e (240 + p) l = -Real.exp (e.al (l - 4)) * sp (e.a p (l - 4) + e.dt (l - 4)) := by
  refine (if_pos (by omega)).trans ((if_neg (not_lt.2 h)).trans ((if_pos h').trans ?_))
  unfold decay
  rw [lane_decay e p l h h', show mid e.al l = e.al (l - 4) from if_pos ⟨h, h'⟩, show mid e.dt l = e.dt (l - 4) from if_pos ⟨h, h'⟩]
theorem slp_before (p l : ℕ) (h : p < 240) : slp e p l = 0 := if_neg (by omega)
theorem vlu_before (p l : ℕ) (h : p < 240) : vlu e p l = 0 := if_neg (by omega)

/-- The gates' gradient on its eight lanes. -/
theorem v129_eq : val_main_v129 (F := Ideal) (sheet .f32 16400 4 e.b) (sheet .f32 16400 4 e.a) (line 4 e.al) (line 4 e.dt) (sheet .f32 16400 4 e.db) (sheet .f32 16400 4 e.dg)
    = sheet .f32 16640 128 fun p l => cts e p l * slp e p l := by
  have z : val_main_call4_v0 (F := Ideal) (Shape.Idx.first h_S_) = 0 := by
    pointwise [val_main_call4_v0]
    exact congrFun zero_conv ix0
  have h : val_main_v128 (F := Ideal) (sheet .f32 16400 4 e.b) (sheet .f32 16400 4 e.a) (line 4 e.al) (line 4 e.dt) (sheet .f32 16400 4 e.db) (sheet .f32 16400 4 e.dg)
      = sheet .f32 16400 8 fun p l => if l < 4 then e.db p l * (sg (e.b p l) * (1 - sg (e.b p l))) else -Real.exp (e.al (l - 4)) * e.dg p (l - 4) * sig (e.a p (l - 4) + e.dt (l - 4)) := by
    unfold val_main_v128
    rw [v92_eq, v98_eq]
    funext i; idx_vars i
    have h0 := i1.isLt
    pointwise
    simp only [sheet_apply]
    exact choose (by omega) (congrArg (fun j : ℕ => ((e.db i0.val j * (sg (e.b i0.val j) * (1 - sg (e.b i0.val j))) : ℝ) : EReal)) (by omega))
      (congrArg (fun j : ℕ => ((-Real.exp (e.al j) * e.dg i0.val j * sig (e.a i0.val j + e.dt j) : ℝ) : EReal)) (by omega))
  unfold val_main_v129
  rw [h]
  funext i; idx_vars i
  pointwise
  rw [z]
  simp only [sheet_apply]
  have h0 := i0.isLt
  by_cases hp : 240 ≤ i0.val
  · obtain ⟨p, hq⟩ := Nat.exists_eq_add_of_le hp
    rw [hq]
    by_cases h8 : i1.val < 8
    · rw [dif_pos ⟨⟨by omega, by omega⟩, h8⟩, Nat.add_sub_cancel_left]
      refine congrArg (fun t : ℝ => (t : EReal)) ?_
      by_cases h4 : i1.val < 4
      · rw [if_pos h4, cts_step e p _ h4, slp_step e p _ h4]
      · rw [if_neg h4, cts_decay e p _ (not_lt.1 h4) h8, slp_decay e p _ (not_lt.1 h4) h8]
        ring
    · rw [dif_neg fun g => h8 g.2, cts_off e _ _ h8, zero_mul, EReal.coe_zero]
  · rw [dif_neg fun g => hp g.1.1, slp_before e _ _ (not_le.1 hp), mul_zero, EReal.coe_zero]

/-! ### The two vectors -/

theorem v91_at (l : Fin 4) : val_main_v91 (F := Ideal) (sheet .f32 16400 4 e.a) (line 4 e.dt) (sheet .f32 16400 4 e.dg) (ix1 l) = ((∑ p : Fin 16400, e.dg p.val l.val * sp (e.a p.val l.val + e.dt l.val) : ℝ) : EReal) := by
  pointwise [val_main_v91, val_main_v90, val_main_v89, val_main_v88, val_main_cst_11, val_main_cst_12]
  rw [v76_0_eq]
  simp only [Fin.sum_univ_one, sheet_apply, ← EReal.coe_mul, coe_sum]

theorem v95_at (l : Fin 4) : val_main_v95 (F := Ideal) (sheet .f32 16400 4 e.a) (line 4 e.al) (line 4 e.dt) (sheet .f32 16400 4 e.dg) (ix1 l)
    = ((∑ p : Fin 16400, -Real.exp (e.al l.val) * e.dg p.val l.val * sig (e.a p.val l.val + e.dt l.val) : ℝ) : EReal) := by
  pointwise [val_main_v95, val_main_v94, val_main_v93, val_main_cst_13, val_main_cst_14]
  rw [v92_eq]
  simp only [Fin.sum_univ_one, sheet_apply, coe_sum]

/-- The rows of the grid's blocks, of which the first 240 are zero, summed. -/
theorem grid_sum (f : ℕ → ℝ) (h0 : ∀ J < 240, f J = 0) : ∑ i : Fin 65, ∑ r : Fin 256, f (row i r).val = ∑ p : Fin 16400, f (240 + p.val) := by
  refine Eq.trans ?_ ((Fin.sum_mul_add_fin 65 256 (fun p : Fin 16640 => f p.val)).trans ((Fin.sum_univ_eq_sum_range f 16640).trans (sum_front f h0).symm))
  exact Finset.sum_congr rfl fun i _ => Finset.sum_congr rfl fun r _ => congrArg f (show 256 * i.val + r.val = i.val * 256 + r.val by omega)

theorem share_sum (l j : ℕ) : ∑ i : Fin 65, ∑ r : Fin 256, share e (row i r).val l j = ∑ p : Fin 16400, share e (240 + p.val) l j := by
  refine grid_sum (fun P => share e P l j) fun P hP => ?_
  unfold share
  rw [slp_before e P l hP, vlu_before e P l hP, mul_zero, ite_self, ite_self, ite_self]

/-- The two vectors' gradients on their lanes. -/
theorem v133_eq : val_main_v133 (F := Ideal) (sheet .f32 16400 4 e.a) (line 4 e.al) (line 4 e.dt) (sheet .f32 16400 4 e.dg)
    = sheet .f32 8 128 fun j l => ∑ i : Fin 65, ∑ r : Fin 256, share e (row i r).val l j := by
  funext i; idx_vars i
  pointwise [val_main_v133, val_main_v132, val_main_v130, val_main_v131, val_main_v97, val_main_v96, val_main_v71]
  have z : val_main_call5_v0 (F := Ideal) (Shape.Idx.first h_S_) = 0 := by
    pointwise [val_main_call5_v0]
    exact congrFun zero_conv ix0
  rw [z, sheet_apply, share_sum]
  by_cases hl : 4 ≤ i1.val ∧ i1.val < 8
  · have hs : ∀ p : Fin 16400, share e (240 + p.val) i1.val i0.val = _ := fun p => if_pos hl
    simp only [hs]
    by_cases h1 : i0.val = 0
    · rw [dif_pos ⟨by omega, hl.1, by omega⟩, dif_pos (by omega), v91_at]
      simp only [if_pos h1, cts_decay e _ _ hl.1 hl.2, vlu_decay e _ _ hl.1 hl.2]
      rw [← EReal.coe_neg]
      refine (EReal.coe_mul _ _).symm.trans (congrArg (fun t : ℝ => (t : EReal)) ?_)
      rw [← Finset.sum_neg_distrib, Finset.sum_mul]
      exact Finset.sum_congr rfl fun p _ => by
        show -(e.dg p.val (i1.val - 4) * _) * Real.exp (e.al (i1.val - 4)) = _
        ring
    · by_cases h2 : i0.val = 1
      · rw [dif_pos ⟨by omega, hl.1, by omega⟩, dif_neg (by omega), v95_at]
        simp only [if_neg h1, if_pos h2, cts_decay e _ _ hl.1 hl.2, slp_decay e _ _ hl.1 hl.2]
        exact congrArg (fun t : ℝ => (t : EReal)) (Finset.sum_congr rfl fun p _ => by ring)
      · rw [dif_neg fun g => by have := g.1; omega]
        simp only [if_neg h1, if_neg h2, Finset.sum_const_zero, EReal.coe_zero]
  · rw [dif_neg fun g => hl ⟨g.2.1, by have := g.2.2; omega⟩]
    have hs : ∀ p : Fin 16400, share e (240 + p.val) i1.val i0.val = 0 := fun p => if_neg hl
    simp only [hs, Finset.sum_const_zero, EReal.coe_zero]

end Cert.PreRef

end
-- ==== Proof.PreClaims.lean ====
/- The claims about the gradients before the recurrence: both programs' runs, and the equality of their three results for finite
   arguments. -/
module

public import proofs.«01_k».proof.Defs
public import proofs.«01_k».proof.Proof.PreRef
public import proofs.«01_k».proof.Proof.Finite
public import proofs.«01_k».proof.Proof.Gen.Pre.Frame
public import proofs.«01_k».proof.Proof.Gen.Pre_pre_finite

@[expose] public section

set_option maxRecDepth 16384

noncomputable section

namespace Cert.PreClaims

open Idealize.ShloMosaic Idealize.ShloMosaic.TcCoe Idealize.SL.Sem

theorem frame_kernel : Cert.quiescent_Pre := fun m ρ _ => Cert.Pre.Gen.frame m ρ
theorem frame_kernel_ideal : Cert.quiescent_PreIdeal := fun m ρ _ => Cert.PreIdeal.Gen.frame m ρ
theorem frame_ref : Cert.quiescent_PreRefIdeal := fun m ρ _ =>
  (θ_run _ _ _).mono (fun r h => ⟨fun c => (h c).2.2.2, sem_eq_zero_of_no_sems (by decide) r.2⟩) (Cert.PreRefIdeal.Value.run m ρ)

section
open Cert.PreIdeal Cert.PreIdeal.Gen Cert.PreKernel
variable (m : (ℓ : Loc nD τ sig) → Buf (Elt Ideal) ℓ) (c : Dev nD)

theorem args_of_finite (hp : Cert.Pre_PreIdeal_pre_finite m) : ∃ E : Ins, Args E m c := by
  have e := congrFun (hp c) ix0
  obtain ⟨e, e10⟩ := IntOp.andi_eq_one.1 e
  obtain ⟨e, e9⟩ := IntOp.andi_eq_one.1 e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨⟨_, _, _, _, _, _, _, _, _, _, _⟩,
    { x := Cert.Finite.sheet_reals2 _ (Cert.Finite.real_of_all _ _ _ _ _ e0)
      b := Cert.Finite.sheet_reals2 _ (Cert.Finite.real_of_all _ _ _ _ _ e1)
      a := Cert.Finite.sheet_reals2 _ (Cert.Finite.real_of_all _ _ _ _ _ e2)
      w := Cert.Finite.sheet_reals2 _ (Cert.Finite.real_of_all _ _ _ _ _ e3)
      al := Cert.Finite.line_reals1 _ (Cert.Finite.real_of_all _ _ _ _ _ e4)
      dt := Cert.Finite.line_reals1 _ (Cert.Finite.real_of_all _ _ _ _ _ e5)
      q := Cert.Finite.sheet_reals2 _ (Cert.Finite.real_of_all _ _ _ _ _ e6)
      k := Cert.Finite.sheet_reals2 _ (Cert.Finite.real_of_all _ _ _ _ _ e7)
      v := Cert.Finite.sheet_reals2 _ (Cert.Finite.real_of_all _ _ _ _ _ e8)
      db := Cert.Finite.sheet_reals2 _ (Cert.Finite.real_of_all _ _ _ _ _ e9)
      dg := Cert.Finite.sheet_reals2 _ (Cert.Finite.real_of_all _ _ _ _ _ e10) }⟩

variable {m c} {E : Ins} (A : Args E m c)
include A

theorem same134 : Cert.PreRefIdeal.Read.val_main_v134 (F := Ideal) (m ((c.tc : Thread nD τ).loc main_arg0)) (m ((c.tc : Thread nD τ).loc main_arg3))
    (m ((c.tc : Thread nD τ).loc main_arg6)) (m ((c.tc : Thread nD τ).loc main_arg7)) (m ((c.tc : Thread nD τ).loc main_arg8)) = (dats m 0 c).arrAt 11 (cfgs 0).N := by
  rw [final11 A, A.x, A.w, A.q, A.k, A.v]
  exact PreRef.v134_eq E

theorem same129 : Cert.PreRefIdeal.Read.val_main_v129 (F := Ideal) (m ((c.tc : Thread nD τ).loc main_arg1)) (m ((c.tc : Thread nD τ).loc main_arg2))
    (m ((c.tc : Thread nD τ).loc main_arg4)) (m ((c.tc : Thread nD τ).loc main_arg5)) (m ((c.tc : Thread nD τ).loc main_arg9)) (m ((c.tc : Thread nD τ).loc main_arg10))
    = (dats m 0 c).arrAt 12 (cfgs 0).N := by
  rw [final12 A, A.b, A.a, A.al, A.dt, A.db, A.dg]
  exact PreRef.v129_eq E

theorem same133 : Cert.PreRefIdeal.Read.val_main_v133 (F := Ideal) (m ((c.tc : Thread nD τ).loc main_arg2)) (m ((c.tc : Thread nD τ).loc main_arg4))
    (m ((c.tc : Thread nD τ).loc main_arg5)) (m ((c.tc : Thread nD τ).loc main_arg10)) = (dats m 0 c).arrAt 13 (cfgs 0).N := by
  rw [final13 A, A.a, A.al, A.dt, A.dg]
  exact PreRef.v133_eq E

end

theorem algebraic : Cert.algebraic_PreIdeal_PreRefIdeal_pre_pre_finite := fun m ρ m' ρ' hpre hag => by
  refine ⟨fun c => (Cert.PreIdeal.Gen.dats m 0 c).arrAt 11 Cert.PreIdeal.cfg0.N, fun c => (Cert.PreIdeal.Gen.dats m 0 c).arrAt 12 Cert.PreIdeal.cfg0.N,
    fun c => (Cert.PreIdeal.Gen.dats m 0 c).arrAt 13 Cert.PreIdeal.cfg0.N,
    Cert.PreIdeal.Value.run_blocks m ρ, (θ_run _ _ _).mono (fun _ h c => ?_) (Cert.PreRefIdeal.Value.run m' ρ')⟩
  obtain ⟨E, A⟩ := args_of_finite m c hpre
  obtain ⟨a0, a1, a2, a3, a4, a5, a6, a7, a8, a9, a10⟩ := hag c
  refine ⟨(h c).1.trans ((Cert.PreRefIdeal.Read.val_main_v134_eq _).trans (Eq.trans ?_ (same134 A))),
    (h c).2.1.trans ((Cert.PreRefIdeal.Read.val_main_v129_eq _).trans (Eq.trans ?_ (same129 A))),
    (h c).2.2.1.trans ((Cert.PreRefIdeal.Read.val_main_v133_eq _).trans (Eq.trans ?_ (same133 A))), (h c).2.2.2⟩
  · exact congr (congr (congr (congrArg₂ _ a0 a3) a6) a7) a8
  · exact congr (congr (congr (congr (congrArg₂ _ a1 a2) a4) a5) a9) a10
  · exact congr (congr (congrArg₂ _ a2 a4) a5) a10

end Cert.PreClaims

end
-- ==== Proof.FfnFwdKernel.lean ====
/- The gated layer's forward call: one row's values, the arrays the host prepares, and the four arrays the run leaves. -/
module

public import proofs.«01_k».proof.Proof.ConvKernel
public import proofs.«01_k».proof.Proof.LossSpec
public import proofs.«01_k».proof.Proof.Gen.FfnFwdIdeal.Value

@[expose] public section

set_option maxRecDepth 16384

noncomputable section

open Idealize.ShloMosaic Idealize.ShloMosaic.TcCoe Idealize.SL.Sem

namespace Cert.FfnFwdKernel

open Cert.FfnFwdIdeal Cert.FfnFwdIdeal.Gen
open Cert.ConvKernel (ent ent_of)
open Cert.SbIdeal.Sb (zero_conv)
open Cert.LossSpec (row)

/-! ## One row -/

section spec
variable (x g : ℕ → EReal) (U V D : ℕ → ℕ → EReal)

/-- The normed row, a projection of it, the logistic function, and the row with half the gated product's projection added. -/
def nrm (k : ℕ) : EReal := x k * Rms.rs (fun k => x k.val) * g k
def prj (d : ℕ) : EReal := ∑ k : Fin 1024, nrm x g k.val * U k.val d
def sgm (z : EReal) : EReal := Ideal.div 1 (1 + Ideal.exp (-z))
def gated (d : ℕ) : EReal := prj x g U d * sgm (prj x g U d) * prj x g V d
def res (k : ℕ) : EReal := x k + Ideal.ofBits .f32 0x3F000000#32 * ∑ d : Fin 2816, gated x g U V d.val * D d.val k

variable {x} (hx : ∀ k, x k = 0)
include hx
theorem nrm_zero (k : ℕ) : nrm x g k = 0 := by simp [nrm, hx]
theorem prj_zero (d : ℕ) : prj x g U d = 0 := by simp [prj, nrm_zero g hx]
theorem res_zero (k : ℕ) : res x g U V D k = 0 := by simp [res, hx, gated, prj_zero g _ hx]
end spec

/-! ## The arrays -/

/-- An array given by a function of its two coordinates. -/
def arr (e : FTy) (a b : ℕ) (f : ℕ → ℕ → EReal) : FVec Ideal ⟨2, ![a, b]⟩ e := fun i => f (i 0).val (i 1).val

theorem arr_apply {e : FTy} {a b : ℕ} (f : ℕ → ℕ → EReal) (p : Fin a) (q : Fin b) : arr e a b f (ix2 p q) = f p.val q.val := rfl

/-- The gain's entries; the rows behind two hundred and forty zero rows. -/
def gn (x : FVec Ideal S1024 .f32) (k : ℕ) : EReal := if h : k < 1024 then x (ix1 ⟨k, h⟩) else 0
def fr (x : FVec Ideal S16400x1024 .f32) (p k : ℕ) : EReal := if 240 ≤ p then ent x (p - 240) k else 0

theorem fr_off (x : FVec Ideal S16400x1024 .f32) {p : ℕ} (h : ¬240 ≤ p) (k : ℕ) : fr x p k = 0 := if_neg h

def fronted (x : FVec Ideal S16400x1024 .f32) : FVec Ideal S16640x1024 .f32 :=
  pad S16640x1024 ![240, 0] ![0, 0] ![0, 0] x (sitofp (F := Ideal) .f32 (constantI S_ 32 0#32)) pads_S16400x1024_S16640x1024_24000_000 h_S_

theorem fronted_eq (x : FVec Ideal S16400x1024 .f32) : fronted x = arr .f32 16640 1024 (fr x) := by
  funext i; idx_vars i
  pointwise [fronted]
  simp only [arr_apply]
  unfold fr ent
  have := i0.isLt
  split_ifs <;> first | rfl | omega | exact congrFun zero_conv ix0

theorem gain_eq (x : FVec Ideal S1024 .f32) : broadcastInDim S1x1024 ![1] bcast_S1024_S1x1024_1 x = arr .f32 1 1024 fun _ => gn x := by
  funext i; idx_vars i
  pointwise []
  exact Eq.symm (Eq.trans (b := gn x i1.val) rfl (dif_pos i1.isLt))

variable (m : (ℓ : Loc nD τ sig) → Buf (Elt Ideal) ℓ) (c : Dev nD)

abbrev argH : FVec Ideal S16400x1024 .f32 := m ((c.tc : Thread nD τ).loc main_arg0)
abbrev argG : FVec Ideal S1024 .f32 := m ((c.tc : Thread nD τ).loc main_arg1)
abbrev argU : FVec Ideal S1024x2816 .f32 := m ((c.tc : Thread nD τ).loc main_arg2)
abbrev argV : FVec Ideal S1024x2816 .f32 := m ((c.tc : Thread nD τ).loc main_arg3)
abbrev argD : FVec Ideal S2816x1024 .f32 := m ((c.tc : Thread nD τ).loc main_arg4)

theorem v0_eq : (V m c main_v0 : FVec Ideal S16640x1024 .f32) = arr .f32 16640 1024 (fr (argH m c)) :=
  Eq.trans (b := fronted (argH m c)) (by sl_kernel_rfl) (fronted_eq _)
theorem v1_eq : (V m c main_v1 : FVec Ideal S1x1024 .f32) = arr .f32 1 1024 fun _ => gn (argG m c) :=
  Eq.trans (b := broadcastInDim S1x1024 ![1] bcast_S1024_S1x1024_1 (argG m c)) (by sl_kernel_rfl) (gain_eq _)
theorem v2_eq : (V m c main_v2 : FVec Ideal S1024x2816 .bf16) = arr .bf16 1024 2816 (ent (argU m c)) := by
  refine Eq.trans (b := truncf .bf16 (argU m c) bitsLt_bf16_f32) (by sl_kernel_rfl) ?_
  funext i; idx_vars i
  exact (ent_of _ i0.isLt i1.isLt).symm
theorem v3_eq : (V m c main_v3 : FVec Ideal S1024x2816 .bf16) = arr .bf16 1024 2816 (ent (argV m c)) := by
  refine Eq.trans (b := truncf .bf16 (argV m c) bitsLt_bf16_f32) (by sl_kernel_rfl) ?_
  funext i; idx_vars i
  exact (ent_of _ i0.isLt i1.isLt).symm
theorem v4_eq : (V m c main_v4 : FVec Ideal S2816x1024 .bf16) = arr .bf16 2816 1024 (ent (argD m c)) := by
  refine Eq.trans (b := truncf .bf16 (argD m c) bitsLt_bf16_f32) (by sl_kernel_rfl) ?_
  funext i; idx_vars i
  exact (ent_of _ i0.isLt i1.isLt).symm

/-! ## The body on a block of rows -/

section body
variable (x : ℕ → ℕ → EReal) (g : ℕ → EReal) (U V D : ℕ → ℕ → EReal)

theorem pay3_eq : k0_pay3 (F := Ideal) (arr .f32 256 1024 x) = arr .f32 256 1024 x := by
  funext i; idx_vars i; pointwise [k0_pay3]

theorem pay4_eq : k0_pay4 (F := Ideal) (arr .f32 256 1024 x) (arr .f32 1 1024 fun _ => g) = arr .bf16 256 1024 fun r => nrm (x r) g := by
  funext i; idx_vars i
  pointwise [k0_pay4]
  rw [pay3_eq]
  rfl

theorem pay5_eq : k0_pay5 (F := Ideal) (arr .f32 256 1024 x) (arr .f32 1 1024 fun _ => g) (arr .bf16 1024 2816 U) = arr .f32 256 2816 fun r => prj (x r) g U := by
  funext i; idx_vars i
  pointwise [k0_pay5]
  rw [pay4_eq]
  rfl

theorem pay6_eq : k0_pay6 (F := Ideal) (arr .f32 256 1024 x) (arr .f32 1 1024 fun _ => g) (arr .bf16 1024 2816 U) = arr .f32 256 2816 fun r => prj (x r) g U := by
  funext i; idx_vars i
  pointwise [k0_pay6]
  rw [pay4_eq]
  rfl

theorem pay7_eq : k0_pay7 (F := Ideal) (arr .f32 256 1024 x) (arr .f32 1 1024 fun _ => g) (arr .bf16 1024 2816 U) (arr .bf16 1024 2816 V) (arr .bf16 2816 1024 D)
    = arr .f32 256 1024 fun r => res (x r) g U V D := by
  funext i; idx_vars i
  pointwise [k0_pay7]
  rw [pay3_eq, pay5_eq, pay6_eq]
  simp only [arr_apply, zero_sub]
  rfl
end body

theorem idx_val : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0] ∧ win0_7.index t = ![t.val, 0]
    ∧ win0_8.index t = ![t.val, 0] :=
  (by decide +kernel : ∀ t : Fin grid0.N, _)

/-- The point's number. -/
def pt (t : Fin cfg0.N) : Fin 65 := ⟨t.val, lt_of_lt_of_eq t.isLt N_0⟩

theorem blk0 (t : Fin cfg0.N) : (iblk m c 0 t : FVec Ideal S256x1024 .f32) = arr .f32 256 1024 fun r => fr (argH m c) (t.val * 256 + r) := by
  funext y; idx_vars y
  exact Eq.trans (b := (V m c main_v0 : FVec Ideal S16640x1024 .f32) (ix2 (row (pt t) y0) y1)) (by unfold row pt; blk_ext [iblk, idx_val t]) (congrFun (v0_eq m c) _)
theorem blk1 (t : Fin cfg0.N) : (iblk m c 1 t : FVec Ideal S1x1024 .f32) = arr .f32 1 1024 fun _ => gn (argG m c) := by
  funext y; idx_vars y
  exact Eq.trans (b := (V m c main_v1 : FVec Ideal S1x1024 .f32) (ix2 y0 y1)) (by blk_ext [iblk, idx_val t]) (congrFun (v1_eq m c) _)
theorem blk2 (t : Fin cfg0.N) : (iblk m c 2 t : FVec Ideal S1024x2816 .bf16) = arr .bf16 1024 2816 (ent (argU m c)) := by
  funext y; idx_vars y
  exact Eq.trans (b := (V m c main_v2 : FVec Ideal S1024x2816 .bf16) (ix2 y0 y1)) (by blk_ext [iblk, idx_val t]) (congrFun (v2_eq m c) _)
theorem blk3 (t : Fin cfg0.N) : (iblk m c 3 t : FVec Ideal S1024x2816 .bf16) = arr .bf16 1024 2816 (ent (argV m c)) := by
  funext y; idx_vars y
  exact Eq.trans (b := (V m c main_v3 : FVec Ideal S1024x2816 .bf16) (ix2 y0 y1)) (by blk_ext [iblk, idx_val t]) (congrFun (v3_eq m c) _)
theorem blk4 (t : Fin cfg0.N) : (iblk m c 4 t : FVec Ideal S2816x1024 .bf16) = arr .bf16 2816 1024 (ent (argD m c)) := by
  funext y; idx_vars y
  exact Eq.trans (b := (V m c main_v4 : FVec Ideal S2816x1024 .bf16) (ix2 y0 y1)) (by blk_ext [iblk, idx_val t]) (congrFun (v4_eq m c) _)

/-! ## What the run leaves -/

theorem final5 : (dats m 0 c).arrAt 5 (cfgs 0).N
    = (arr .f32 16640 1024 (fun p => res (fr (argH m c) p) (gn (argG m c)) (ent (argU m c)) (ent (argV m c)) (ent (argD m c))) : FVec Ideal S16640x1024 .f32) := by
  refine (dats m 0 c).arrAt_eq_of_covers 5 _ (by decide +kernel) fun t _ y => ?_
  blk_simp
  have e := pay7_eq (fun r => fr (argH m c) (t.val * 256 + r)) (gn (argG m c)) (ent (argU m c)) (ent (argV m c)) (ent (argD m c))
  rw [← blk0 m c t, ← blk1 m c t, ← blk2 m c t, ← blk3 m c t, ← blk4 m c t] at e
  rw [after0_5]
  idx_vars y
  have e0 : ((View.whole main_v5_0).slice (win0_5.rect t)).emb (ix2 y0 y1) = ix2 (row (pt t) y0) y1 := by
    unfold row pt
    blk_ext [idx_val t]
  rw [e0]
  refine Eq.trans ?_ (congrFun e (ix2 y0 y1))
  unfold out0_5
  frame_out

theorem final6 : (dats m 0 c).arrAt 6 (cfgs 0).N
    = (arr .bf16 16640 1024 (fun p => nrm (fr (argH m c) p) (gn (argG m c))) : FVec Ideal S16640x1024 .bf16) := by
  refine (dats m 0 c).arrAt_eq_of_covers 6 _ (by decide +kernel) fun t _ y => ?_
  blk_simp
  have e := pay4_eq (fun r => fr (argH m c) (t.val * 256 + r)) (gn (argG m c))
  rw [← blk0 m c t, ← blk1 m c t] at e
  rw [after0_6]
  idx_vars y
  have e0 : ((View.whole main_v5_1).slice (win0_6.rect t)).emb (ix2 y0 y1) = ix2 (row (pt t) y0) y1 := by
    unfold row pt
    blk_ext [idx_val t]
  rw [e0]
  refine Eq.trans ?_ (congrFun e (ix2 y0 y1))
  unfold out0_6
  frame_out

theorem final7 : (dats m 0 c).arrAt 7 (cfgs 0).N
    = (arr .bf16 16640 2816 (fun p => prj (fr (argH m c) p) (gn (argG m c)) (ent (argU m c))) : FVec Ideal S16640x2816 .bf16) := by
  refine (dats m 0 c).arrAt_eq_of_covers 7 _ (by decide +kernel) fun t _ y => ?_
  blk_simp
  have e := pay5_eq (fun r => fr (argH m c) (t.val * 256 + r)) (gn (argG m c)) (ent (argU m c))
  rw [← blk0 m c t, ← blk1 m c t, ← blk2 m c t] at e
  rw [after0_7]
  idx_vars y
  have e0 : ((View.whole main_v5_2).slice (win0_7.rect t)).emb (ix2 y0 y1) = ix2 (row (pt t) y0) y1 := by
    unfold row pt
    blk_ext [idx_val t]
  rw [e0]
  refine Eq.trans ?_ (congrFun e (ix2 y0 y1))
  unfold out0_7
  frame_out
  rfl

theorem final8 : (dats m 0 c).arrAt 8 (cfgs 0).N
    = (arr .bf16 16640 2816 (fun p => prj (fr (argH m c) p) (gn (argG m c)) (ent (argV m c))) : FVec Ideal S16640x2816 .bf16) := by
  refine (dats m 0 c).arrAt_eq_of_covers 8 _ (by decide +kernel) fun t _ y => ?_
  blk_simp
  have e := pay6_eq (fun r => fr (argH m c) (t.val * 256 + r)) (gn (argG m c)) (ent (argV m c))
  rw [← blk0 m c t, ← blk1 m c t, ← blk3 m c t] at e
  rw [after0_8]
  idx_vars y
  have e0 : ((View.whole main_v5_3).slice (win0_8.rect t)).emb (ix2 y0 y1) = ix2 (row (pt t) y0) y1 := by
    unfold row pt
    blk_ext [idx_val t]
  rw [e0]
  refine Eq.trans ?_ (congrFun e (ix2 y0 y1))
  unfold out0_8
  frame_out
  rfl

end Cert.FfnFwdKernel

end
-- ==== Proof.FfnFwdRef.lean ====
/- The reference of the gated layer's forward step: its four results, entry by entry. -/
module

public import proofs.«01_k».proof.Proof.FfnFwdKernel
public import proofs.«01_k».proof.Proof.Gen.FfnFwdRefIdeal.Read

@[expose] public section

set_option maxRecDepth 16384

noncomputable section

namespace Cert.FfnFwdRef

open Cert.FfnFwdRefIdeal Cert.FfnFwdRefIdeal.Gen Cert.FfnFwdRefIdeal.Read Idealize.ShloMosaic Idealize.ShloMosaic.TcCoe Idealize.SL.Sem
open Cert.FfnFwdKernel (arr arr_apply gn fr fr_off nrm prj sgm gated res nrm_zero prj_zero res_zero)
open Cert.ConvKernel (ent ent_of)
open Cert.SbIdeal.Sb (zero_conv)

variable (h : FVec Ideal S16400x1024 .f32) (g : FVec Ideal S1024 .f32) (u v : FVec Ideal S1024x2816 .f32) (d : FVec Ideal S2816x1024 .f32)

theorem h_at (p : Fin 16400) (k : Fin 1024) : h (ix2 p k) = ent h p.val k.val := (ent_of h p.isLt k.isLt).symm
theorem g_at (k : Fin 1024) : g (ix1 k) = gn g k.val := Eq.symm (Eq.trans (b := gn g k.val) rfl (dif_pos k.isLt))
theorem u_at (k : Fin 1024) (q : Fin 2816) : u (ix2 k q) = ent u k.val q.val := (ent_of u k.isLt q.isLt).symm
theorem d_at (q : Fin 2816) (k : Fin 1024) : d (ix2 q k) = ent d q.val k.val := (ent_of d q.isLt k.isLt).symm

theorem v7_at (p : Fin 16400) (z : Fin 1) : val_main_v7 (F := Ideal) h (ix2 p z) = Cert.Rms.rs fun k => ent h p.val k.val := by
  pointwise [val_main_v7, val_main_v6, val_main_v5, val_main_v4, val_main_v3, val_main_v2, val_main_v1, val_main_v0, val_main_cst, val_main_cst_0, val_main_cst_1]
  simp only [h_at h]
  rfl

theorem v12_at (p : Fin 16400) (k : Fin 1024) : val_main_v12 (F := Ideal) h g (ix2 p k) = nrm (ent h p.val) (gn g) k.val := by
  pointwise [val_main_v12, val_main_v11, val_main_v10, val_main_v9, val_main_v8]
  rw [v7_at, h_at h, g_at g]
  rfl

theorem v13_at (p : Fin 16400) (q : Fin 2816) : val_main_v13 (F := Ideal) h g u (ix2 p q) = prj (ent h p.val) (gn g) (ent u) q.val := by
  pointwise [val_main_v13]
  simp only [v12_at, u_at u]
  rfl

theorem v14_at (p : Fin 16400) (q : Fin 2816) : val_main_v14 (F := Ideal) h g v (ix2 p q) = prj (ent h p.val) (gn g) (ent v) q.val := by
  pointwise [val_main_v14]
  simp only [v12_at, u_at v]
  rfl

theorem v16_at (p : Fin 16400) (q : Fin 2816) : val_main_v16 (F := Ideal) h g u v (ix2 p q) = gated (ent h p.val) (gn g) (ent u) (ent v) q.val := by
  pointwise [val_main_v16, val_main_v15, val_main_call0_v5, val_main_call0_v4, val_main_call0_v3, val_main_call0_v2, val_main_call0_v1, val_main_call0_v0, val_main_call0_cst, val_main_call0_cst_0]
  rw [v13_at, v14_at]
  rfl

theorem v20_at (p : Fin 16400) (k : Fin 1024) : val_main_v20 (F := Ideal) h g u v d (ix2 p k) = res (ent h p.val) (gn g) (ent u) (ent v) (ent d) k.val := by
  pointwise [val_main_v20, val_main_v19, val_main_v18, val_main_v17, val_main_cst_2]
  simp only [v16_at, d_at d, h_at h]
  rfl

/-- Rows behind two hundred and forty zero rows: a row function that sends the zero row to zero gives a zero there. -/
theorem behind (f : (ℕ → EReal) → EReal) (hf : ∀ x : ℕ → EReal, (∀ k, x k = 0) → f x = 0) {c : Prop} [Decidable c] (p : ℕ) {y : c → EReal} {z : EReal} (hz : z = 0)
    (hc : c ↔ 240 ≤ p) (hy : ∀ e, y e = f (ent h (p - 240))) : (if e : c then y e else z) = f (fr h p) := by
  by_cases e : c
  · rw [dif_pos e, hy e]
    exact congrArg f (funext fun k => (if_pos (hc.1 e)).symm)
  · rw [dif_neg e, hz]
    exact (hf _ fun k => fr_off h (fun n => e (hc.2 n)) k).symm

theorem v21_eq : val_main_v21 (F := Ideal) h g u v d = arr .f32 16640 1024 fun p => res (fr h p) (gn g) (ent u) (ent v) (ent d) := by
  funext i; idx_vars i
  have := i0.isLt
  pointwise [val_main_v21, val_main_call1_v0, val_main_c]
  simp only [v20_at]
  exact behind h (fun x => res x (gn g) (ent u) (ent v) (ent d) i1.val) (fun x hx => res_zero _ _ _ _ hx _) i0.val (congrFun zero_conv ix0) (by omega) fun _ => rfl

theorem v23_eq : val_main_v23 (F := Ideal) h g = arr .bf16 16640 1024 fun p => nrm (fr h p) (gn g) := by
  funext i; idx_vars i
  have := i0.isLt
  pointwise [val_main_v23, val_main_v22, val_main_call2_v0, val_main_c_3]
  simp only [v12_at]
  exact behind h (fun x => nrm x (gn g) i1.val) (fun x hx => nrm_zero _ hx _) i0.val (congrFun zero_conv ix0) (by omega) fun _ => rfl

theorem v25_eq : val_main_v25 (F := Ideal) h g u = arr .bf16 16640 2816 fun p => prj (fr h p) (gn g) (ent u) := by
  funext i; idx_vars i
  have := i0.isLt
  pointwise [val_main_v25, val_main_v24, val_main_call3_v0, val_main_c_4]
  simp only [v13_at]
  exact behind h (fun x => prj x (gn g) (ent u) i1.val) (fun x hx => prj_zero _ _ hx _) i0.val (congrFun zero_conv ix0) (by omega) fun _ => rfl

theorem v27_eq : val_main_v27 (F := Ideal) h g v = arr .bf16 16640 2816 fun p => prj (fr h p) (gn g) (ent v) := by
  funext i; idx_vars i
  have := i0.isLt
  pointwise [val_main_v27, val_main_v26, val_main_call4_v0, val_main_c_5]
  simp only [v14_at]
  exact behind h (fun x => prj x (gn g) (ent v) i1.val) (fun x hx => prj_zero _ _ hx _) i0.val (congrFun zero_conv ix0) (by omega) fun _ => rfl

end Cert.FfnFwdRef

end
-- ==== Proof.FfnFwdClaims.lean ====
/- The claims about the gated layer's forward step: both programs' runs, and the equality of their four results for all
   arguments, infinities included -/
module

public import proofs.«01_k».proof.Defs
public import proofs.«01_k».proof.Proof.FfnFwdRef
public import proofs.«01_k».proof.Proof.Gen.FfnFwd.Frame

@[expose] public section

set_option maxRecDepth 16384

noncomputable section

namespace Cert.FfnFwdClaims

open Idealize.ShloMosaic Idealize.ShloMosaic.TcCoe Idealize.SL.Sem
open Cert.FfnFwdKernel (arr gn fr nrm prj res)
open Cert.ConvKernel (ent)

theorem frame_kernel : Cert.quiescent_FfnFwd := fun m ρ _ => Cert.FfnFwd.Gen.frame m ρ
theorem frame_kernel_ideal : Cert.quiescent_FfnFwdIdeal := fun m ρ _ => Cert.FfnFwdIdeal.Gen.frame m ρ
theorem frame_ref : Cert.quiescent_FfnFwdRefIdeal := fun m ρ _ =>
  (θ_run _ _ _).mono (fun r h => ⟨fun c => (h c).2.2.2.2, sem_eq_zero_of_no_sems (by decide) r.2⟩) (Cert.FfnFwdRefIdeal.Value.run m ρ)

theorem algebraic : Cert.algebraic_FfnFwdIdeal_FfnFwdRefIdeal := fun m ρ m' ρ' _ hag => by
  refine ⟨fun c => (Cert.FfnFwdIdeal.Gen.dats m 0 c).arrAt 5 Cert.FfnFwdIdeal.cfg0.N, fun c => (Cert.FfnFwdIdeal.Gen.dats m 0 c).arrAt 6 Cert.FfnFwdIdeal.cfg0.N,
    fun c => (Cert.FfnFwdIdeal.Gen.dats m 0 c).arrAt 7 Cert.FfnFwdIdeal.cfg0.N, fun c => (Cert.FfnFwdIdeal.Gen.dats m 0 c).arrAt 8 Cert.FfnFwdIdeal.cfg0.N,
    Cert.FfnFwdIdeal.Value.run_blocks m ρ,
    (θ_run _ _ _).mono (fun _ h c => ?_) (Cert.FfnFwdRefIdeal.Value.run m' ρ')⟩
  obtain ⟨a0, a1, a2, a3, a4⟩ := hag c
  refine ⟨(h c).1.trans ((Cert.FfnFwdRefIdeal.Read.val_main_v21_eq _ _ _ _ _).trans ?_),
    (h c).2.1.trans ((Cert.FfnFwdRefIdeal.Read.val_main_v23_eq _ _).trans ?_),
    (h c).2.2.1.trans ((Cert.FfnFwdRefIdeal.Read.val_main_v25_eq _ _ _).trans ?_),
    (h c).2.2.2.1.trans ((Cert.FfnFwdRefIdeal.Read.val_main_v27_eq _ _ _).trans ?_), (h c).2.2.2.2⟩
  · rw [a0, a1, a2, a3, a4]
    exact (FfnFwdRef.v21_eq _ _ _ _ _).trans (FfnFwdKernel.final5 m c).symm
  · rw [a0, a1]
    exact (FfnFwdRef.v23_eq _ _).trans (FfnFwdKernel.final6 m c).symm
  · rw [a0, a1, a2]
    exact (FfnFwdRef.v25_eq _ _ _).trans (FfnFwdKernel.final7 m c).symm
  · rw [a0, a1, a3]
    exact (FfnFwdRef.v27_eq _ _ _).trans (FfnFwdKernel.final8 m c).symm

end Cert.FfnFwdClaims

end
-- ==== Proof.MixFwdKernel.lean ====
/- The mixer's forward projection: the arrays the host prepares, and the three arrays the run leaves. -/
module

public import proofs.«01_k».proof.Proof.FfnFwdKernel
public import proofs.«01_k».proof.Proof.Gen.MixFwdIdeal.Value

@[expose] public section

set_option maxRecDepth 16384

noncomputable section

open Idealize.ShloMosaic Idealize.ShloMosaic.TcCoe Idealize.SL.Sem

namespace Cert.MixFwdKernel

open Cert.MixFwdIdeal Cert.MixFwdIdeal.Gen
open Cert.FfnFwdKernel (arr arr_apply gn fr nrm prj fronted fronted_eq)
open Cert.ConvKernel (ent ent_of)
open Cert.LossSpec (row)

/-- The projection's columns with the step sizes and decays last, and zero columns after them. -/
def order (W : ℕ → ℕ → EReal) (k l : ℕ) : EReal := if l < 1792 then W k l else if l < 2304 then W k (l + 8) else if l < 2312 then W k (l - 512) else 0

/-- A row's projection in that order. -/
theorem prj_order (x g : ℕ → EReal) (W : ℕ → ℕ → EReal) (l : ℕ) :
    prj x g (order W) l = if l < 1792 then prj x g W l else if l < 2304 then prj x g W (l + 8) else if l < 2312 then prj x g W (l - 512) else 0 := by
  unfold prj order
  split_ifs <;> first | rfl | exact Finset.sum_eq_zero fun k _ => mul_zero _

def ordered (x : FVec Ideal S1024x2312 .f32) : FVec Ideal S1024x2432 .bf16 :=
  truncf .bf16 (concatenate S1024x2432 1 [⟨S1024x1792, extractStridedSlice S1024x1792 ![0, 0] x slices_S1024x2312_S1024x1792_0_0⟩, ⟨S1024x512, extractStridedSlice S1024x512 ![0, 1800] x slices_S1024x2312_S1024x512_0_1800⟩,
    ⟨S1024x8, extractStridedSlice S1024x8 ![0, 1792] x slices_S1024x2312_S1024x8_0_1792⟩, ⟨S1024x120, broadcastInDim S1024x120 ![] bcast_S_S1024x120 (constant (F := Ideal) S_ .f32 0x00000000#32)⟩]
    concatenates_S1024x1792_S1024x512_S1024x8_S1024x120_S1024x2432_d1) bitsLt_bf16_f32

theorem ordered_eq (x : FVec Ideal S1024x2312 .f32) : ordered x = arr .bf16 1024 2432 (order (ent x)) := by
  funext i; idx_vars i
  have := i0.isLt
  have := i1.isLt
  pointwise [ordered]
  simp only [arr_apply, fun (q : ℕ) (hq : q < 2312) => (ent_of x i0.isLt hq).symm]
  unfold order
  split_ifs <;> first | rfl | omega | exact congrArg (ent x i0.val) (by omega)

variable (m : (ℓ : Loc nD τ sig) → Buf (Elt Ideal) ℓ) (c : Dev nD)

abbrev argH : FVec Ideal S16400x1024 .f32 := m ((c.tc : Thread nD τ).loc main_arg0)
abbrev argG : FVec Ideal S1024 .f32 := m ((c.tc : Thread nD τ).loc main_arg1)
abbrev argW : FVec Ideal S1024x2312 .f32 := m ((c.tc : Thread nD τ).loc main_arg2)

theorem v0_eq : (V m c main_v0 : FVec Ideal S16640x1024 .f32) = arr .f32 16640 1024 (fr (argH m c)) :=
  Eq.trans (b := fronted (argH m c)) (by sl_kernel_rfl) (fronted_eq _)
theorem v1_eq : (V m c main_v1 : FVec Ideal S1x1024 .f32) = arr .f32 1 1024 fun _ => gn (argG m c) :=
  Eq.trans (b := broadcastInDim S1x1024 ![1] bcast_S1024_S1x1024_1 (argG m c)) (by sl_kernel_rfl) (Cert.FfnFwdKernel.gain_eq _)
theorem v7_eq : (V m c main_v7 : FVec Ideal S1024x2432 .bf16) = arr .bf16 1024 2432 (order (ent (argW m c))) :=
  Eq.trans (b := ordered (argW m c)) (by sl_kernel_rfl) (ordered_eq _)

/-! ## The body on a block of rows -/

section body
variable (x : ℕ → ℕ → EReal) (g : ℕ → EReal) (U : ℕ → ℕ → EReal)

theorem pay1_eq : k0_pay1 (F := Ideal) (arr .f32 256 1024 x) (arr .f32 1 1024 fun _ => g) = arr .bf16 256 1024 fun r => nrm (x r) g :=
  Cert.FfnFwdKernel.pay4_eq x g
theorem pay2_eq : k0_pay2 (F := Ideal) (arr .f32 256 1024 x) (arr .f32 1 1024 fun _ => g) (arr .bf16 1024 768 U) = arr .bf16 256 768 fun r => prj (x r) g U := by
  funext i; idx_vars i
  pointwise [k0_pay2]
  rw [pay1_eq]
  rfl
theorem pay3_eq : k0_pay3 (F := Ideal) (arr .f32 256 1024 x) (arr .f32 1 1024 fun _ => g) (arr .bf16 1024 1664 U) = arr .f32 256 1664 fun r => prj (x r) g U := by
  funext i; idx_vars i
  pointwise [k0_pay3]
  rw [pay1_eq]
  rfl
end body

theorem idx_val : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] :=
  (by decide +kernel : ∀ t : Fin grid0.N, _)

/-- The point's number. -/
def pt (t : Fin cfg0.N) : Fin 65 := ⟨t.val, lt_of_lt_of_eq t.isLt N_0⟩

theorem blk0 (t : Fin cfg0.N) : (iblk m c 0 t : FVec Ideal S256x1024 .f32) = arr .f32 256 1024 fun r => fr (argH m c) (t.val * 256 + r) := by
  funext y; idx_vars y
  exact Eq.trans (b := (V m c main_v0 : FVec Ideal S16640x1024 .f32) (ix2 (row (pt t) y0) y1)) (by unfold row pt; blk_ext [iblk, idx_val t]) (congrFun (v0_eq m c) _)
theorem blk1 (t : Fin cfg0.N) : (iblk m c 1 t : FVec Ideal S1x1024 .f32) = arr .f32 1 1024 fun _ => gn (argG m c) := by
  funext y; idx_vars y
  exact Eq.trans (b := (V m c main_v1 : FVec Ideal S1x1024 .f32) (ix2 y0 y1)) (by blk_ext [iblk, idx_val t]) (congrFun (v1_eq m c) _)
theorem blk2 (t : Fin cfg0.N) : (iblk m c 2 t : FVec Ideal S1024x2432 .bf16) = arr .bf16 1024 2432 (order (ent (argW m c))) := by
  funext y; idx_vars y
  exact Eq.trans (b := (V m c main_v7 : FVec Ideal S1024x2432 .bf16) (ix2 y0 y1)) (by blk_ext [iblk, idx_val t]) (congrFun (v7_eq m c) _)

theorem first_columns (U : ℕ → ℕ → EReal) (inb) : (View.ld (Val := Elt Ideal) (e' := .bf16) (arr .bf16 1024 2432 U) (Rect.unit (s := S1024x2432) ![0, 0] ![1024, 768] inb) : FVec Ideal S1024x768 .bf16) = arr .bf16 1024 768 U := by
  funext y; idx_vars y; pointwise; rfl
theorem last_columns (U : ℕ → ℕ → EReal) (inb) : (View.ld (Val := Elt Ideal) (e' := .bf16) (arr .bf16 1024 2432 U) (Rect.unit (s := S1024x2432) ![0, 768] ![1024, 1664] inb) : FVec Ideal S1024x1664 .bf16)
    = arr .bf16 1024 1664 fun k l => U k (768 + l) := by
  funext y; idx_vars y; pointwise; rfl

/-! ## What the run leaves -/

theorem final3 : (dats m 0 c).arrAt 3 (cfgs 0).N = (arr .bf16 16640 1024 (fun p => nrm (fr (argH m c) p) (gn (argG m c))) : FVec Ideal S16640x1024 .bf16) := by
  refine (dats m 0 c).arrAt_eq_of_covers 3 _ (by decide +kernel) fun t _ y => ?_
  blk_simp
  have e := pay1_eq (fun r => fr (argH m c) (t.val * 256 + r)) (gn (argG m c))
  rw [← blk0 m c t, ← blk1 m c t] at e
  rw [after0_3]
  idx_vars y
  rw [show ((View.whole main_v8_0).slice (win0_3.rect t)).emb (ix2 y0 y1) = ix2 (row (pt t) y0) y1 by unfold row pt; blk_ext [idx_val t]]
  refine Eq.trans ?_ (congrFun e (ix2 y0 y1))
  unfold out0_3
  frame_out

theorem final4 : (dats m 0 c).arrAt 4 (cfgs 0).N = (arr .bf16 16640 768 (fun p => prj (fr (argH m c) p) (gn (argG m c)) (order (ent (argW m c)))) : FVec Ideal S16640x768 .bf16) := by
  refine (dats m 0 c).arrAt_eq_of_covers 4 _ (by decide +kernel) fun t _ y => ?_
  blk_simp
  have e := pay2_eq (fun r => fr (argH m c) (t.val * 256 + r)) (gn (argG m c)) (order (ent (argW m c)))
  rw [← blk0 m c t, ← blk1 m c t, ← first_columns _ inb_S1024x2432_S1024x768_0_0, ← blk2 m c t] at e
  rw [after0_4]
  idx_vars y
  rw [show ((View.whole main_v8_1).slice (win0_4.rect t)).emb (ix2 y0 y1) = ix2 (row (pt t) y0) y1 by unfold row pt; blk_ext [idx_val t]]
  refine Eq.trans ?_ (congrFun e (ix2 y0 y1))
  unfold out0_4
  frame_out

theorem final5 : (dats m 0 c).arrAt 5 (cfgs 0).N = (arr .f32 16640 1664 (fun p l => prj (fr (argH m c) p) (gn (argG m c)) (order (ent (argW m c))) (768 + l)) : FVec Ideal S16640x1664 .f32) := by
  refine (dats m 0 c).arrAt_eq_of_covers 5 _ (by decide +kernel) fun t _ y => ?_
  blk_simp
  have e := pay3_eq (fun r => fr (argH m c) (t.val * 256 + r)) (gn (argG m c)) (fun k l => order (ent (argW m c)) k (768 + l))
  rw [← blk0 m c t, ← blk1 m c t, ← last_columns _ inb_S1024x2432_S1024x1664_0_768, ← blk2 m c t] at e
  rw [after0_5]
  idx_vars y
  rw [show ((View.whole main_v8_2).slice (win0_5.rect t)).emb (ix2 y0 y1) = ix2 (row (pt t) y0) y1 by unfold row pt; blk_ext [idx_val t]]
  refine Eq.trans ?_ (congrFun e (ix2 y0 y1))
  unfold out0_5
  frame_out

end Cert.MixFwdKernel

end
-- ==== Proof.MixFwdClaims.lean ====
/- The claims about the mixer's forward projection: both programs' runs, the reference's results entry by entry, and their
   equality for all arguments, infinities included -/
module

public import proofs.«01_k».proof.Defs
public import proofs.«01_k».proof.Proof.MixFwdKernel
public import proofs.«01_k».proof.Proof.FfnFwdRef
public import proofs.«01_k».proof.Proof.Gen.MixFwd.Frame
public import proofs.«01_k».proof.Proof.Gen.MixFwdRefIdeal.Read

@[expose] public section

set_option maxRecDepth 16384

noncomputable section

namespace Cert.MixFwdClaims

open Idealize.ShloMosaic Idealize.ShloMosaic.TcCoe Idealize.SL.Sem
open Cert.FfnFwdKernel (arr arr_apply gn fr nrm prj nrm_zero prj_zero)
open Cert.FfnFwdRef (behind)
open Cert.ConvKernel (ent ent_of)
open Cert.MixFwdKernel (order prj_order)
open Cert.SbIdeal.Sb (zero_conv)

section reference
open Cert.MixFwdRefIdeal Cert.MixFwdRefIdeal.Read

variable (h : FVec Ideal S16400x1024 .f32) (g : FVec Ideal S1024 .f32) (w : FVec Ideal S1024x2312 .f32)

theorem v12_at (p : Fin 16400) (k : Fin 1024) : val_main_v12 (F := Ideal) h g (ix2 p k) = nrm (ent h p.val) (gn g) k.val :=
  Cert.FfnFwdRef.v12_at h g p k

theorem v13_at (p : Fin 16400) (q : Fin 2312) : val_main_v13 (F := Ideal) h g w (ix2 p q) = prj (ent h p.val) (gn g) (ent w) q.val := by
  pointwise [val_main_v13]
  simp only [v12_at, fun k : Fin 1024 => (ent_of w k.isLt q.isLt).symm]
  rfl

theorem v18_at (p : Fin 16400) (l : Fin 1664) : val_main_v18 (F := Ideal) h g w (ix2 p l) = prj (ent h p.val) (gn g) (order (ent w)) (768 + l.val) := by
  have := l.isLt
  rw [prj_order]
  pointwise [val_main_v18, val_main_v14, val_main_v15, val_main_v16, val_main_v17, val_main_cst_2]
  simp only [v13_at]
  split_ifs <;> first | with_reducible rfl | omega | exact congrArg (prj (ent h p.val) (gn g) (ent w)) (by omega)

theorem v20_eq : val_main_v20 (F := Ideal) h g = arr .bf16 16640 1024 fun p => nrm (fr h p) (gn g) :=
  Cert.FfnFwdRef.v23_eq h g

theorem v23_eq : val_main_v23 (F := Ideal) h g w = arr .bf16 16640 768 fun p => prj (fr h p) (gn g) (order (ent w)) := by
  funext i; idx_vars i
  have := i0.isLt
  have := i1.isLt
  pointwise [val_main_v23, val_main_v22, val_main_v21, val_main_call1_v0, val_main_c_3]
  simp only [v13_at, arr_apply]
  exact behind h (fun x => prj x (gn g) (order (ent w)) i1.val) (fun x hx => prj_zero _ _ hx _) i0.val (congrFun zero_conv ix0) (by omega)
    fun _ => ((prj_order _ _ _ _).trans (if_pos (by omega))).symm

theorem v24_eq : val_main_v24 (F := Ideal) h g w = arr .f32 16640 1664 fun p l => prj (fr h p) (gn g) (order (ent w)) (768 + l) := by
  funext i; idx_vars i
  have := i0.isLt
  pointwise [val_main_v24, val_main_call2_v0, val_main_c_4]
  simp only [v18_at, arr_apply]
  exact behind h (fun x => prj x (gn g) (order (ent w)) (768 + i1.val)) (fun x hx => prj_zero _ _ hx _) i0.val (congrFun zero_conv ix0) (by omega) fun _ => rfl
end reference

theorem frame_kernel : Cert.quiescent_MixFwd := fun m ρ _ => Cert.MixFwd.Gen.frame m ρ
theorem frame_kernel_ideal : Cert.quiescent_MixFwdIdeal := fun m ρ _ => Cert.MixFwdIdeal.Gen.frame m ρ
theorem frame_ref : Cert.quiescent_MixFwdRefIdeal := fun m ρ _ =>
  (θ_run _ _ _).mono (fun r h => ⟨fun c => (h c).2.2.2, sem_eq_zero_of_no_sems (by decide) r.2⟩) (Cert.MixFwdRefIdeal.Value.run m ρ)

theorem algebraic : Cert.algebraic_MixFwdIdeal_MixFwdRefIdeal := fun m ρ m' ρ' _ hag => by
  refine ⟨fun c => (Cert.MixFwdIdeal.Gen.dats m 0 c).arrAt 3 Cert.MixFwdIdeal.cfg0.N, fun c => (Cert.MixFwdIdeal.Gen.dats m 0 c).arrAt 4 Cert.MixFwdIdeal.cfg0.N,
    fun c => (Cert.MixFwdIdeal.Gen.dats m 0 c).arrAt 5 Cert.MixFwdIdeal.cfg0.N,
    Cert.MixFwdIdeal.Value.run_blocks m ρ,
    (θ_run _ _ _).mono (fun _ h c => ?_) (Cert.MixFwdRefIdeal.Value.run m' ρ')⟩
  obtain ⟨a0, a1, a2⟩ := hag c
  refine ⟨(h c).1.trans ((Cert.MixFwdRefIdeal.Read.val_main_v20_eq _ _).trans ?_),
    (h c).2.1.trans ((Cert.MixFwdRefIdeal.Read.val_main_v23_eq _ _ _).trans ?_),
    (h c).2.2.1.trans ((Cert.MixFwdRefIdeal.Read.val_main_v24_eq _ _ _).trans ?_), (h c).2.2.2⟩
  · rw [a0, a1]
    exact (v20_eq _ _).trans (MixFwdKernel.final3 m c).symm
  · rw [a0, a1, a2]
    exact (v23_eq _ _ _).trans (MixFwdKernel.final4 m c).symm
  · rw [a0, a1, a2]
    exact (v24_eq _ _ _).trans (MixFwdKernel.final5 m c).symm

end Cert.MixFwdClaims

end
-- ==== Proof.MixOutBwdClaims.lean ====
/- The gradients of the three groups under the output projection: the kernel's three arrays and the reference's, for all arguments, infinities included. -/
module

public import proofs.«01_k».proof.Defs
public import proofs.«01_k».proof.Proof.FfnFwdRef
public import proofs.«01_k».proof.Proof.Gen.MixOutBwd.Frame
public import proofs.«01_k».proof.Proof.Gen.MixOutBwdIdeal.Value
public import proofs.«01_k».proof.Proof.Gen.MixOutBwdRefIdeal.Read

@[expose] public section

set_option maxRecDepth 16384

noncomputable section

namespace Cert.MixOutBwdClaims

open Idealize.ShloMosaic Idealize.ShloMosaic.TcCoe Idealize.SL.Sem
open Cert.FfnFwdKernel (arr arr_apply fr fr_off fronted fronted_eq)
open Cert.FfnFwdRef (behind)
open Cert.ConvKernel (ent ent_of)
open Cert.LossSpec (row)
open Cert.SbIdeal.Sb (zero_conv)

/-- The gradient of column `d` of a row: its cotangents against the weights' row. -/
def back (W : ℕ → ℕ → EReal) (d : ℕ) (y : ℕ → EReal) : EReal := ∑ k : Fin 1024, y k.val * W d k.val
theorem back_zero (W : ℕ → ℕ → EReal) (d : ℕ) {y : ℕ → EReal} (h : ∀ k, y k = 0) : back W d y = 0 := by
  unfold back
  exact Finset.sum_eq_zero fun k _ => by rw [h, zero_mul]

section reference
open Cert.MixOutBwdRefIdeal Cert.MixOutBwdRefIdeal.Read
variable (w : FVec Ideal S1024x1024 .f32) (ct : FVec Ideal S16400x1024 .f32)

theorem v2_at (p : Fin 16400) (d : Fin 1024) : val_main_v2 (F := Ideal) w ct (ix2 p d) = back (ent w) d.val (ent ct p.val) := by
  pointwise [val_main_v2]
  simp only [fun k : Fin 1024 => (ent_of ct p.isLt k.isLt).symm, fun k : Fin 1024 => (ent_of w d.isLt k.isLt).symm]
  rfl
theorem v6_eq : val_main_v6 (F := Ideal) w ct = arr .f32 16640 256 fun p l => back (ent w) l (fr ct p) := by
  funext i; idx_vars i
  have := i0.isLt
  pointwise [val_main_v6, val_main_v3, val_main_call0_v0, val_main_c]
  simp only [v2_at, arr_apply]
  exact behind ct (back (ent w) i1.val) (fun x hx => back_zero _ _ hx) i0.val (congrFun zero_conv ix0) (by omega) fun _ => rfl
theorem v7_eq : val_main_v7 (F := Ideal) w ct = arr .f32 16640 256 fun p l => back (ent w) (256 + l) (fr ct p) := by
  funext i; idx_vars i
  have := i0.isLt
  pointwise [val_main_v7, val_main_v4, val_main_call1_v0, val_main_c_0]
  simp only [v2_at, arr_apply]
  exact behind ct (back (ent w) (256 + i1.val)) (fun x hx => back_zero _ _ hx) i0.val (congrFun zero_conv ix0) (by omega) fun _ => rfl
theorem v8_eq : val_main_v8 (F := Ideal) w ct = arr .f32 16640 512 fun p l => back (ent w) (512 + l) (fr ct p) := by
  funext i; idx_vars i
  have := i0.isLt
  pointwise [val_main_v8, val_main_v5, val_main_call2_v0, val_main_c_1]
  simp only [v2_at, arr_apply]
  exact behind ct (back (ent w) (512 + i1.val)) (fun x hx => back_zero _ _ hx) i0.val (congrFun zero_conv ix0) (by omega) fun _ => rfl
end reference

section kernel
open Cert.MixOutBwdIdeal Cert.MixOutBwdIdeal.Gen

variable (m : (ℓ : Loc nD τ sig) → Buf (Elt Ideal) ℓ) (c : Dev nD)

abbrev argW : FVec Ideal S1024x1024 .f32 := m ((c.tc : Thread nD τ).loc main_arg3)
abbrev argT : FVec Ideal S16400x1024 .f32 := m ((c.tc : Thread nD τ).loc main_arg4)

theorem v0_eq : (V m c main_v0 : FVec Ideal S16640x1024 .f32) = arr .f32 16640 1024 (fr (argT m c)) :=
  Eq.trans (b := fronted (argT m c)) (by sl_kernel_rfl) (fronted_eq _)
theorem turned (x : FVec Ideal S1024x1024 .f32) : (truncf .bf16 (transpose S1024x1024 [1, 0] x transposes_S1024x1024_S1024x1024_1_0) bitsLt_bf16_f32 : FVec Ideal S1024x1024 .bf16)
    = arr .bf16 1024 1024 fun k d => ent x d k := by
  funext i; idx_vars i
  pointwise []
  exact (ent_of x i1.isLt i0.isLt).symm
theorem v2_eq : (V m c main_v2 : FVec Ideal S1024x1024 .bf16) = arr .bf16 1024 1024 fun k d => ent (argW m c) d k :=
  Eq.trans (b := truncf .bf16 (transpose S1024x1024 [1, 0] (argW m c) transposes_S1024x1024_S1024x1024_1_0) bitsLt_bf16_f32) (by sl_kernel_rfl) (turned _)

section body
variable (y W : ℕ → ℕ → EReal)
theorem pay1_eq : k0_pay1 (F := Ideal) (arr .f32 256 1024 y) (arr .bf16 1024 1024 fun k d => W d k) = arr .f32 256 1024 fun r d => back W d (y r) := by
  funext i; idx_vars i
  pointwise [k0_pay1]
  rfl
theorem pay2_eq : k0_pay2 (F := Ideal) (arr .f32 256 1024 y) (arr .bf16 1024 1024 fun k d => W d k) = arr .f32 256 256 fun r l => back W l (y r) := by
  unfold k0_pay2
  rw [pay1_eq]
  funext i; idx_vars i
  pointwise
  rfl
theorem pay3_eq : k0_pay3 (F := Ideal) (arr .f32 256 1024 y) (arr .bf16 1024 1024 fun k d => W d k) = arr .f32 256 256 fun r l => back W (256 + l) (y r) := by
  unfold k0_pay3
  rw [pay1_eq]
  funext i; idx_vars i
  pointwise
  rfl
theorem pay4_eq : k0_pay4 (F := Ideal) (arr .f32 256 1024 y) (arr .bf16 1024 1024 fun k d => W d k) = arr .f32 256 512 fun r l => back W (512 + l) (y r) := by
  unfold k0_pay4
  rw [pay1_eq]
  funext i; idx_vars i
  pointwise
  rfl
end body

theorem idx_val : ∀ t : Fin cfg0.N, win0_0.index t = ![t.val, 0] ∧ win0_1.index t = ![0, 0] ∧ win0_2.index t = ![t.val, 0] ∧ win0_3.index t = ![t.val, 0] ∧ win0_4.index t = ![t.val, 0] :=
  (by decide +kernel : ∀ t : Fin grid0.N, _)
def pt (t : Fin cfg0.N) : Fin 65 := ⟨t.val, lt_of_lt_of_eq t.isLt N_0⟩

theorem blk0 (t : Fin cfg0.N) : (iblk m c 0 t : FVec Ideal S256x1024 .f32) = arr .f32 256 1024 fun r => fr (argT m c) (t.val * 256 + r) := by
  funext y; idx_vars y
  exact Eq.trans (b := (V m c main_v0 : FVec Ideal S16640x1024 .f32) (ix2 (row (pt t) y0) y1)) (by unfold row pt; blk_ext [iblk, idx_val t]) (congrFun (v0_eq m c) _)
theorem blk1 (t : Fin cfg0.N) : (iblk m c 1 t : FVec Ideal S1024x1024 .bf16) = arr .bf16 1024 1024 fun k d => ent (argW m c) d k := by
  funext y; idx_vars y
  exact Eq.trans (b := (V m c main_v2 : FVec Ideal S1024x1024 .bf16) (ix2 y0 y1)) (by blk_ext [iblk, idx_val t]) (congrFun (v2_eq m c) _)

theorem final2 : (dats m 0 c).arrAt 2 (cfgs 0).N = (arr .f32 16640 256 fun p l => back (ent (argW m c)) l (fr (argT m c) p) : FVec Ideal S16640x256 .f32) := by
  refine (dats m 0 c).arrAt_eq_of_covers 2 _ (by decide +kernel) fun t _ y => ?_
  blk_simp
  have e := pay2_eq (fun r => fr (argT m c) (t.val * 256 + r)) (ent (argW m c))
  rw [← blk0 m c t, ← blk1 m c t] at e
  rw [after0_2]
  idx_vars y
  rw [show ((View.whole main_v3_0).slice (win0_2.rect t)).emb (ix2 y0 y1) = ix2 (row (pt t) y0) y1 by unfold row pt; blk_ext [idx_val t]]
  refine Eq.trans ?_ (congrFun e (ix2 y0 y1))
  unfold out0_2
  frame_out

theorem final3 : (dats m 0 c).arrAt 3 (cfgs 0).N = (arr .f32 16640 256 fun p l => back (ent (argW m c)) (256 + l) (fr (argT m c) p) : FVec Ideal S16640x256 .f32) := by
  refine (dats m 0 c).arrAt_eq_of_covers 3 _ (by decide +kernel) fun t _ y => ?_
  blk_simp
  have e := pay3_eq (fun r => fr (argT m c) (t.val * 256 + r)) (ent (argW m c))
  rw [← blk0 m c t, ← blk1 m c t] at e
  rw [after0_3]
  idx_vars y
  rw [show ((View.whole main_v3_1).slice (win0_3.rect t)).emb (ix2 y0 y1) = ix2 (row (pt t) y0) y1 by unfold row pt; blk_ext [idx_val t]]
  refine Eq.trans ?_ (congrFun e (ix2 y0 y1))
  unfold out0_3
  frame_out

theorem final4 : (dats m 0 c).arrAt 4 (cfgs 0).N = (arr .f32 16640 512 fun p l => back (ent (argW m c)) (512 + l) (fr (argT m c) p) : FVec Ideal S16640x512 .f32) := by
  refine (dats m 0 c).arrAt_eq_of_covers 4 _ (by decide +kernel) fun t _ y => ?_
  blk_simp
  have e := pay4_eq (fun r => fr (argT m c) (t.val * 256 + r)) (ent (argW m c))
  rw [← blk0 m c t, ← blk1 m c t] at e
  rw [after0_4]
  idx_vars y
  rw [show ((View.whole main_v3_2).slice (win0_4.rect t)).emb (ix2 y0 y1) = ix2 (row (pt t) y0) y1 by unfold row pt; blk_ext [idx_val t]]
  refine Eq.trans ?_ (congrFun e (ix2 y0 y1))
  unfold out0_4
  frame_out
end kernel

theorem frame_kernel : Cert.quiescent_MixOutBwd := fun m ρ _ => Cert.MixOutBwd.Gen.frame m ρ
theorem frame_kernel_ideal : Cert.quiescent_MixOutBwdIdeal := fun m ρ _ => Cert.MixOutBwdIdeal.Gen.frame m ρ
theorem frame_ref : Cert.quiescent_MixOutBwdRefIdeal := fun m ρ _ =>
  (θ_run _ _ _).mono (fun r h => ⟨fun c => (h c).2.2.2, sem_eq_zero_of_no_sems (by decide) r.2⟩) (Cert.MixOutBwdRefIdeal.Value.run m ρ)

theorem algebraic : Cert.algebraic_MixOutBwdIdeal_MixOutBwdRefIdeal := fun m ρ m' ρ' _ hag => by
  refine ⟨fun c => (Cert.MixOutBwdIdeal.Gen.dats m 0 c).arrAt 2 Cert.MixOutBwdIdeal.cfg0.N,
    fun c => (Cert.MixOutBwdIdeal.Gen.dats m 0 c).arrAt 3 Cert.MixOutBwdIdeal.cfg0.N,
    fun c => (Cert.MixOutBwdIdeal.Gen.dats m 0 c).arrAt 4 Cert.MixOutBwdIdeal.cfg0.N,
    Cert.MixOutBwdIdeal.Value.run_blocks m ρ, (θ_run _ _ _).mono (fun _ h c => ?_) (Cert.MixOutBwdRefIdeal.Value.run m' ρ')⟩
  obtain ⟨a0, a1, a2, a3, a4⟩ := hag c
  refine ⟨(h c).1.trans ((Cert.MixOutBwdRefIdeal.Read.val_main_v6_eq _ _).trans ?_),
    (h c).2.1.trans ((Cert.MixOutBwdRefIdeal.Read.val_main_v7_eq _ _).trans ?_),
    (h c).2.2.1.trans ((Cert.MixOutBwdRefIdeal.Read.val_main_v8_eq _ _).trans ?_), (h c).2.2.2⟩
  · rw [a3, a4]
    exact (v6_eq _ _).trans (final2 m c).symm
  · rw [a3, a4]
    exact (v7_eq _ _).trans (final3 m c).symm
  · rw [a3, a4]
    exact (v8_eq _ _).trans (final4 m c).symm

end Cert.MixOutBwdClaims

end
-- ==== Proof.AdamClaims.lean ====
/- The optimiser's step of the packed large weights: the kernel's four arrays and the reference's, for all arguments, infinities included. -/
module

public import proofs.«01_k».proof.Defs
public import proofs.«01_k».proof.Proof.FfnFwdKernel
public import proofs.«01_k».proof.Proof.Gen.Adam.Frame
public import proofs.«01_k».proof.Proof.Gen.AdamIdeal.Value
public import proofs.«01_k».proof.Proof.Gen.AdamRefIdeal.Read

@[expose] public section

set_option maxRecDepth 16384

noncomputable section

namespace Cert.AdamClaims

open Idealize.ShloMosaic Idealize.ShloMosaic.TcCoe Idealize.SL.Sem
open Cert.FfnFwdKernel (arr arr_apply)
open Cert.ConvKernel (ent ent_of)

/-- The first moment, the second, and the step of one weight from its gradient and old moments. -/
def fst (g m : EReal) : EReal := Ideal.ofBits .f32 0x3F666666#32 * m + Ideal.ofBits .f32 0x3DCCCCCD#32 * g
def snd (g v : EReal) : EReal := Ideal.ofBits .f32 0x3F7FBE77#32 * v + Ideal.ofBits .f32 0x3A83126F#32 * (g * g)
def stp (w g m v : EReal) : EReal := Ideal.ofBits .f32 0xBA83126F#32 *
  (Ideal.div (Ideal.div (fst g m) (Ideal.ofBits .f32 0x3F26BD02#32)) (Ideal.sqrt (Ideal.div (snd g v) (Ideal.ofBits .f32 0x3C231ACC#32)) + Ideal.ofBits .f32 0x322BCC77#32)
    + Ideal.ofBits .f32 0x3C23D70A#32 * w)

section reference
open Cert.AdamRefIdeal Cert.AdamRefIdeal.Read
variable (w g m v : FVec Ideal S10272x1024 .f32)

theorem x_eq : w = arr .f32 10272 1024 (ent w) := by
  funext i; idx_vars i
  exact (ent_of w i0.isLt i1.isLt).symm
theorem v4_eq : val_main_v4 (F := Ideal) g m = arr .f32 10272 1024 fun p l => fst (ent g p l) (ent m p l) := by
  conv_lhs => rw [x_eq g, x_eq m]
  rfl
theorem v10_eq : val_main_v10 (F := Ideal) g v = arr .f32 10272 1024 fun p l => snd (ent g p l) (ent v p l) := by
  conv_lhs => rw [x_eq g, x_eq v]
  rfl
theorem v23_eq : val_main_v23 (F := Ideal) w g m v = arr .f32 10272 1024 fun p l => stp (ent w p l) (ent g p l) (ent m p l) (ent v p l) := by
  conv_lhs => rw [x_eq w, x_eq g, x_eq m, x_eq v]
  rfl
end reference

section kernel
open Cert.AdamIdeal Cert.AdamIdeal.Gen

/-- A block of the gradient with its one part in front. -/
def slab (g : ℕ → ℕ → EReal) : FVec Ideal S1x96x1024 .f32 := fun i => g (i 1).val (i 2).val

theorem pay1_eq (g : ℕ → ℕ → EReal) : k0_pay1 (F := Ideal) (slab g) = arr .f32 96 1024 g := by
  funext i; idx_vars i
  pointwise [k0_pay1]
  rfl

variable (m : (ℓ : Loc nD τ sig) → Buf (Elt Ideal) ℓ) (c : Dev nD)

abbrev argW : FVec Ideal S10272x1024 .f32 := m ((c.tc : Thread nD τ).loc main_arg0)
abbrev argG : FVec Ideal S10272x1024 .f32 := m ((c.tc : Thread nD τ).loc main_arg1)
abbrev argM : FVec Ideal S10272x1024 .f32 := m ((c.tc : Thread nD τ).loc main_arg2)
abbrev argV : FVec Ideal S10272x1024 .f32 := m ((c.tc : Thread nD τ).loc main_arg3)

/-- Row `r` of block `i`. -/
def row (i : Fin 107) (r : Fin 96) : Fin 10272 := ⟨i.val * 96 + r.val, by omega⟩
def pt (t : Fin cfg0.N) : Fin 107 := ⟨t.val, lt_of_lt_of_eq t.isLt N_0⟩

theorem idx_val : ∀ t : Fin cfg0.N, win0_0.index t = ![t.val, 0] ∧ win0_1.index t = ![0, t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

theorem v0_eq : (V m c main_v0 : FVec Ideal S1x10272x1024 .f32) = broadcastInDim S1x10272x1024 ![1, 2] bcast_S10272x1024_S1x10272x1024_1_2 (argG m c) := by sl_kernel_rfl

/-- A block of an array of rows. -/
abbrev rows (t : Fin cfg0.N) (x : FVec Ideal S10272x1024 .f32) : ℕ → ℕ → EReal := fun r => ent x (t.val * 96 + r)

theorem blk0 (t : Fin cfg0.N) : (iblk m c 0 t : FVec Ideal S96x1024 .f32) = arr .f32 96 1024 (rows t (argW m c)) := by
  funext y; idx_vars y
  exact Eq.trans (b := (argW m c) (ix2 (row (pt t) y0) y1)) (by unfold row pt; blk_ext [iblk, idx_val t]) (congrFun (x_eq _) _)
theorem blk2 (t : Fin cfg0.N) : (iblk m c 2 t : FVec Ideal S96x1024 .f32) = arr .f32 96 1024 (rows t (argM m c)) := by
  funext y; idx_vars y
  exact Eq.trans (b := (argM m c) (ix2 (row (pt t) y0) y1)) (by unfold row pt; blk_ext [iblk, idx_val t]) (congrFun (x_eq _) _)
theorem blk3 (t : Fin cfg0.N) : (iblk m c 3 t : FVec Ideal S96x1024 .f32) = arr .f32 96 1024 (rows t (argV m c)) := by
  funext y; idx_vars y
  exact Eq.trans (b := (argV m c) (ix2 (row (pt t) y0) y1)) (by unfold row pt; blk_ext [iblk, idx_val t]) (congrFun (x_eq _) _)
theorem blk1 (t : Fin cfg0.N) : (iblk m c 1 t : FVec Ideal S1x96x1024 .f32) = slab (rows t (argG m c)) := by
  funext y; idx_vars y
  refine Eq.trans (b := (V m c main_v0 : FVec Ideal S1x10272x1024 .f32) (ix3 0 (row (pt t) y1) y2)) (by unfold row pt; blk_ext [iblk, idx_val t]) ?_
  rw [v0_eq]
  pointwise []
  exact congrFun (x_eq (argG m c)) (ix2 (row (pt t) y1) y2)

theorem pay2_eq (g a : ℕ → ℕ → EReal) : k0_pay2 (F := Ideal) (slab g) (arr .f32 96 1024 a) = arr .f32 96 1024 fun r l => fst (g r l) (a r l) := by
  unfold k0_pay2
  rw [pay1_eq]
  rfl
theorem pay3_eq (g b : ℕ → ℕ → EReal) : k0_pay3 (F := Ideal) (slab g) (arr .f32 96 1024 b) = arr .f32 96 1024 fun r l => snd (g r l) (b r l) := by
  unfold k0_pay3
  rw [pay1_eq]
  rfl
theorem pay4_eq (w g a b : ℕ → ℕ → EReal) : k0_pay4 (F := Ideal) (slab g) (arr .f32 96 1024 w) (arr .f32 96 1024 a) (arr .f32 96 1024 b)
    = arr .f32 96 1024 fun r l => stp (w r l) (g r l) (a r l) (b r l) := by
  unfold k0_pay4
  rw [pay2_eq, pay3_eq]
  rfl

theorem final4 : (dats m 0 c).arrAt 4 (cfgs 0).N = (arr .f32 10272 1024 (ent (argG m c)) : FVec Ideal S10272x1024 .f32) := by
  refine (dats m 0 c).arrAt_eq_of_covers 4 _ (by decide +kernel) fun t _ y => ?_
  blk_simp
  have e := pay1_eq (rows t (argG m c))
  rw [← blk1 m c t] at e
  rw [after0_4]
  idx_vars y
  rw [show ((View.whole main_v1_0).slice (win0_4.rect t)).emb (ix2 y0 y1) = ix2 (row (pt t) y0) y1 by unfold row pt; blk_ext [idx_val t]]
  refine Eq.trans ?_ (congrFun e (ix2 y0 y1))
  unfold out0_4
  frame_out

theorem final5 : (dats m 0 c).arrAt 5 (cfgs 0).N = (arr .f32 10272 1024 fun p l => stp (ent (argW m c) p l) (ent (argG m c) p l) (ent (argM m c) p l) (ent (argV m c) p l) : FVec Ideal S10272x1024 .f32) := by
  refine (dats m 0 c).arrAt_eq_of_covers 5 _ (by decide +kernel) fun t _ y => ?_
  blk_simp
  have e := pay4_eq (rows t (argW m c)) (rows t (argG m c)) (rows t (argM m c)) (rows t (argV m c))
  rw [← blk1 m c t, ← blk0 m c t, ← blk2 m c t, ← blk3 m c t] at e
  rw [after0_5]
  idx_vars y
  rw [show ((View.whole main_v1_1).slice (win0_5.rect t)).emb (ix2 y0 y1) = ix2 (row (pt t) y0) y1 by unfold row pt; blk_ext [idx_val t]]
  refine Eq.trans ?_ (congrFun e (ix2 y0 y1))
  unfold out0_5
  frame_out

theorem final6 : (dats m 0 c).arrAt 6 (cfgs 0).N = (arr .f32 10272 1024 fun p l => fst (ent (argG m c) p l) (ent (argM m c) p l) : FVec Ideal S10272x1024 .f32) := by
  refine (dats m 0 c).arrAt_eq_of_covers 6 _ (by decide +kernel) fun t _ y => ?_
  blk_simp
  have e := pay2_eq (rows t (argG m c)) (rows t (argM m c))
  rw [← blk1 m c t, ← blk2 m c t] at e
  rw [after0_6]
  idx_vars y
  rw [show ((View.whole main_v1_2).slice (win0_6.rect t)).emb (ix2 y0 y1) = ix2 (row (pt t) y0) y1 by unfold row pt; blk_ext [idx_val t]]
  refine Eq.trans ?_ (congrFun e (ix2 y0 y1))
  unfold out0_6
  frame_out

theorem final7 : (dats m 0 c).arrAt 7 (cfgs 0).N = (arr .f32 10272 1024 fun p l => snd (ent (argG m c) p l) (ent (argV m c) p l) : FVec Ideal S10272x1024 .f32) := by
  refine (dats m 0 c).arrAt_eq_of_covers 7 _ (by decide +kernel) fun t _ y => ?_
  blk_simp
  have e := pay3_eq (rows t (argG m c)) (rows t (argV m c))
  rw [← blk1 m c t, ← blk3 m c t] at e
  rw [after0_7]
  idx_vars y
  rw [show ((View.whole main_v1_3).slice (win0_7.rect t)).emb (ix2 y0 y1) = ix2 (row (pt t) y0) y1 by unfold row pt; blk_ext [idx_val t]]
  refine Eq.trans ?_ (congrFun e (ix2 y0 y1))
  unfold out0_7
  frame_out
end kernel

theorem frame_kernel : Cert.quiescent_Adam := fun m ρ _ => Cert.Adam.Gen.frame m ρ
theorem frame_kernel_ideal : Cert.quiescent_AdamIdeal := fun m ρ _ => Cert.AdamIdeal.Gen.frame m ρ
theorem frame_ref : Cert.quiescent_AdamRefIdeal := fun m ρ _ =>
  (θ_run _ _ _).mono (fun r h => ⟨fun c => (h c).2.2.2.2, sem_eq_zero_of_no_sems (by decide) r.2⟩) (Cert.AdamRefIdeal.Value.run m ρ)

theorem algebraic : Cert.algebraic_AdamIdeal_AdamRefIdeal := fun m ρ m' ρ' _ hag => by
  refine ⟨fun c => (Cert.AdamIdeal.Gen.dats m 0 c).arrAt 4 Cert.AdamIdeal.cfg0.N,
    fun c => (Cert.AdamIdeal.Gen.dats m 0 c).arrAt 5 Cert.AdamIdeal.cfg0.N,
    fun c => (Cert.AdamIdeal.Gen.dats m 0 c).arrAt 6 Cert.AdamIdeal.cfg0.N,
    fun c => (Cert.AdamIdeal.Gen.dats m 0 c).arrAt 7 Cert.AdamIdeal.cfg0.N,
    Cert.AdamIdeal.Value.run_blocks m ρ, (θ_run _ _ _).mono (fun _ h c => ?_) (Cert.AdamRefIdeal.Value.run m' ρ')⟩
  obtain ⟨a0, a1, a2, a3⟩ := hag c
  refine ⟨(h c).1.trans ?_,
    (h c).2.1.trans ((Cert.AdamRefIdeal.Read.val_main_v23_eq _ _ _ _).trans ?_),
    (h c).2.2.1.trans ((Cert.AdamRefIdeal.Read.val_main_v4_eq _ _).trans ?_),
    (h c).2.2.2.1.trans ((Cert.AdamRefIdeal.Read.val_main_v10_eq _ _).trans ?_), (h c).2.2.2.2⟩
  · rw [a1]
    exact (x_eq _).trans (final4 m c).symm
  · rw [a0, a1, a2, a3]
    exact (v23_eq _ _ _ _).trans (final5 m c).symm
  · rw [a1, a2]
    exact (v4_eq _ _).trans (final6 m c).symm
  · rw [a1, a3]
    exact (v10_eq _ _).trans (final7 m c).symm

end Cert.AdamClaims

end
-- ==== Proof.lean ====
module

public import proofs.«01_k».proof.Defs
public import proofs.«01_k».proof.Proof.Gen.Sb
public import proofs.«01_k».proof.Proof.Gen.Sb.Frame
public import proofs.«01_k».proof.Proof.Gen.SbIdeal
public import proofs.«01_k».proof.Proof.Gen.SbIdeal.Frame
public import proofs.«01_k».proof.Proof.Gen.Sb.Skeleton
public import proofs.«01_k».proof.Proof.Gen.Sb.Loops
public import proofs.«01_k».proof.Proof.Gen.Sb.Launch
public import proofs.«01_k».proof.Proof.Gen.Sb.Points
public import proofs.«01_k».proof.Proof.Gen.SbIdeal.Skeleton
public import proofs.«01_k».proof.Proof.Gen.SbIdeal.Loops
public import proofs.«01_k».proof.Proof.Gen.SbIdeal.Launch
public import proofs.«01_k».proof.Proof.Gen.SbIdeal.Points
public import proofs.«01_k».proof.Proof.SbFrame
public import proofs.«01_k».proof.Proof.Gen.SbRefIdeal
public import proofs.«01_k».proof.Proof.Gen.SbRefIdeal.Run
public import proofs.«01_k».proof.Proof.Gen.SbRefIdeal.Read
public import proofs.«01_k».proof.Proof.Gen.Pre_sb_finite
public import proofs.«01_k».proof.Proof.SbClaims
public import proofs.«01_k».proof.Proof.Gen.Loss
public import proofs.«01_k».proof.Proof.Gen.Loss.Frame
public import proofs.«01_k».proof.Proof.Gen.LossIdeal
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Run
public import proofs.«01_k».proof.Proof.Gen.LossRefIdeal.Read
public import proofs.«01_k».proof.Proof.Gen.Pre_loss_finite
public import proofs.«01_k».proof.Proof.LossClaims
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.Pre_ffn_finite
public import proofs.«01_k».proof.Proof.FfnClaims
public import proofs.«01_k».proof.Proof.Gen.MixIn
public import proofs.«01_k».proof.Proof.Gen.MixIn.Frame
public import proofs.«01_k».proof.Proof.Gen.MixInIdeal
public import proofs.«01_k».proof.Proof.Gen.MixInIdeal.Frame
public import proofs.«01_k».proof.Proof.Gen.MixInIdeal.Value
public import proofs.«01_k».proof.Proof.Gen.MixInRefIdeal
public import proofs.«01_k».proof.Proof.Gen.MixInRefIdeal.Run
public import proofs.«01_k».proof.Proof.Gen.MixInRefIdeal.Read
public import proofs.«01_k».proof.Proof.Gen.Pre_mixin_finite
public import proofs.«01_k».proof.Proof.MixInClaims
public import proofs.«01_k».proof.Proof.Gen.Conv
public import proofs.«01_k».proof.Proof.Gen.Conv.Frame
public import proofs.«01_k».proof.Proof.Gen.ConvIdeal
public import proofs.«01_k».proof.Proof.Gen.ConvIdeal.Frame
public import proofs.«01_k».proof.Proof.Gen.ConvIdeal.Value
public import proofs.«01_k».proof.Proof.Gen.ConvRefIdeal
public import proofs.«01_k».proof.Proof.Gen.ConvRefIdeal.Run
public import proofs.«01_k».proof.Proof.Gen.ConvRefIdeal.Read
public import proofs.«01_k».proof.Proof.ConvClaims
public import proofs.«01_k».proof.Proof.Gen.SbFwd
public import proofs.«01_k».proof.Proof.Gen.SbFwd.Frame
public import proofs.«01_k».proof.Proof.Gen.SbFwdIdeal
public import proofs.«01_k».proof.Proof.Gen.SbFwdIdeal.Frame
public import proofs.«01_k».proof.Proof.Gen.SbFwdIdeal.Value
public import proofs.«01_k».proof.Proof.Gen.SbFwdRefIdeal
public import proofs.«01_k».proof.Proof.Gen.SbFwdRefIdeal.Run
public import proofs.«01_k».proof.Proof.Gen.SbFwdRefIdeal.Read
public import proofs.«01_k».proof.Proof.Gen.Pre_sbf_finite
public import proofs.«01_k».proof.Proof.SbFwdClaims
public import proofs.«01_k».proof.Proof.Gen.Pre
public import proofs.«01_k».proof.Proof.Gen.Pre.Frame
public import proofs.«01_k».proof.Proof.Gen.PreIdeal
public import proofs.«01_k».proof.Proof.Gen.PreIdeal.Frame
public import proofs.«01_k».proof.Proof.Gen.PreIdeal.Value
public import proofs.«01_k».proof.Proof.Gen.PreRefIdeal
public import proofs.«01_k».proof.Proof.Gen.PreRefIdeal.Run
public import proofs.«01_k».proof.Proof.Gen.PreRefIdeal.Read
public import proofs.«01_k».proof.Proof.Gen.Pre_pre_finite
public import proofs.«01_k».proof.Proof.PreClaims
public import proofs.«01_k».proof.Proof.Gen.FfnFwd
public import proofs.«01_k».proof.Proof.Gen.FfnFwd.Frame
public import proofs.«01_k».proof.Proof.Gen.FfnFwdIdeal
public import proofs.«01_k».proof.Proof.Gen.FfnFwdIdeal.Frame
public import proofs.«01_k».proof.Proof.Gen.FfnFwdIdeal.Value
public import proofs.«01_k».proof.Proof.Gen.FfnFwdRefIdeal
public import proofs.«01_k».proof.Proof.Gen.FfnFwdRefIdeal.Run
public import proofs.«01_k».proof.Proof.Gen.FfnFwdRefIdeal.Read
public import proofs.«01_k».proof.Proof.FfnFwdClaims
public import proofs.«01_k».proof.Proof.Gen.MixFwd
public import proofs.«01_k».proof.Proof.Gen.MixFwd.Frame
public import proofs.«01_k».proof.Proof.Gen.MixFwdIdeal
public import proofs.«01_k».proof.Proof.Gen.MixFwdIdeal.Frame
public import proofs.«01_k».proof.Proof.Gen.MixFwdIdeal.Value
public import proofs.«01_k».proof.Proof.Gen.MixFwdRefIdeal
public import proofs.«01_k».proof.Proof.Gen.MixFwdRefIdeal.Run
public import proofs.«01_k».proof.Proof.Gen.MixFwdRefIdeal.Read
public import proofs.«01_k».proof.Proof.MixFwdClaims
public import proofs.«01_k».proof.Proof.Gen.MixOutBwd
public import proofs.«01_k».proof.Proof.Gen.MixOutBwd.Frame
public import proofs.«01_k».proof.Proof.Gen.MixOutBwdIdeal
public import proofs.«01_k».proof.Proof.Gen.MixOutBwdIdeal.Frame
public import proofs.«01_k».proof.Proof.Gen.MixOutBwdIdeal.Value
public import proofs.«01_k».proof.Proof.Gen.MixOutBwdRefIdeal
public import proofs.«01_k».proof.Proof.Gen.MixOutBwdRefIdeal.Run
public import proofs.«01_k».proof.Proof.Gen.MixOutBwdRefIdeal.Read
public import proofs.«01_k».proof.Proof.MixOutBwdClaims
public import proofs.«01_k».proof.Proof.Gen.Adam
public import proofs.«01_k».proof.Proof.Gen.Adam.Frame
public import proofs.«01_k».proof.Proof.Gen.AdamIdeal
public import proofs.«01_k».proof.Proof.Gen.AdamIdeal.Frame
public import proofs.«01_k».proof.Proof.Gen.AdamIdeal.Value
public import proofs.«01_k».proof.Proof.Gen.AdamRefIdeal
public import proofs.«01_k».proof.Proof.Gen.AdamRefIdeal.Run
public import proofs.«01_k».proof.Proof.Gen.AdamRefIdeal.Read
public import proofs.«01_k».proof.Proof.AdamClaims
public import Idealize.ShloMosaic.Adequacy
public import Idealize.ShloMosaic.Init

@[expose] public section

noncomputable section

namespace Cert.Proof

open Idealize.ShloMosaic Idealize.SL.Sem

theorem claim : Cert.Claim :=
  ⟨Cert.Sb.Gen.facts, Cert.SbIdeal.Gen.facts, Cert.SbRefIdeal.Gen.facts,
    Cert.Loss.Gen.facts, Cert.LossIdeal.Gen.facts, Cert.LossRefIdeal.Gen.facts,
    Cert.Ffn.Gen.facts, Cert.FfnIdeal.Gen.facts, Cert.FfnRefIdeal.Gen.facts,
    Cert.MixIn.Gen.facts, Cert.MixInIdeal.Gen.facts, Cert.MixInRefIdeal.Gen.facts,
    Cert.Conv.Gen.facts, Cert.ConvIdeal.Gen.facts, Cert.ConvRefIdeal.Gen.facts,
    Cert.SbFwd.Gen.facts, Cert.SbFwdIdeal.Gen.facts, Cert.SbFwdRefIdeal.Gen.facts,
    Cert.Pre.Gen.facts, Cert.PreIdeal.Gen.facts, Cert.PreRefIdeal.Gen.facts,
    Cert.FfnFwd.Gen.facts, Cert.FfnFwdIdeal.Gen.facts, Cert.FfnFwdRefIdeal.Gen.facts,
    Cert.MixFwd.Gen.facts, Cert.MixFwdIdeal.Gen.facts, Cert.MixFwdRefIdeal.Gen.facts,
    Cert.MixOutBwd.Gen.facts, Cert.MixOutBwdIdeal.Gen.facts, Cert.MixOutBwdRefIdeal.Gen.facts,
    Cert.Adam.Gen.facts, Cert.AdamIdeal.Gen.facts, Cert.AdamRefIdeal.Gen.facts,
    Cert.Pre_sb_finite.Gen.facts, Cert.Pre_loss_finite.Gen.facts, Cert.Pre_ffn_finite.Gen.facts, Cert.Pre_mixin_finite.Gen.facts, Cert.Pre_sbf_finite.Gen.facts, Cert.Pre_pre_finite.Gen.facts,
    Cert.SbClaims.frame_kernel, Cert.SbClaims.frame_kernel_ideal, fun m ρ _ => Cert.SbClaims.frame_kernel_ideal m ρ trivial,
    Cert.SbClaims.frame_ref, fun m ρ _ => Cert.SbClaims.frame_ref m ρ trivial,
    Cert.LossClaims.frame_kernel, Cert.LossClaims.frame_kernel_ideal, fun m ρ _ => Cert.LossClaims.frame_kernel_ideal m ρ trivial,
    Cert.LossClaims.frame_ref, fun m ρ _ => Cert.LossClaims.frame_ref m ρ trivial,
    Cert.FfnClaims.frame_kernel, Cert.FfnClaims.frame_kernel_ideal, fun m ρ _ => Cert.FfnClaims.frame_kernel_ideal m ρ trivial,
    Cert.FfnClaims.frame_ref, fun m ρ _ => Cert.FfnClaims.frame_ref m ρ trivial,
    Cert.MixInClaims.frame_kernel, Cert.MixInClaims.frame_kernel_ideal, fun m ρ _ => Cert.MixInClaims.frame_kernel_ideal m ρ trivial,
    Cert.MixInClaims.frame_ref, fun m ρ _ => Cert.MixInClaims.frame_ref m ρ trivial,
    Cert.ConvClaims.frame_kernel, Cert.ConvClaims.frame_kernel_ideal, Cert.ConvClaims.frame_ref,
    Cert.SbFwdClaims.frame_kernel, Cert.SbFwdClaims.frame_kernel_ideal, fun m ρ _ => Cert.SbFwdClaims.frame_kernel_ideal m ρ trivial,
    Cert.SbFwdClaims.frame_ref, fun m ρ _ => Cert.SbFwdClaims.frame_ref m ρ trivial,
    Cert.PreClaims.frame_kernel, Cert.PreClaims.frame_kernel_ideal, fun m ρ _ => Cert.PreClaims.frame_kernel_ideal m ρ trivial,
    Cert.PreClaims.frame_ref, fun m ρ _ => Cert.PreClaims.frame_ref m ρ trivial,
    Cert.FfnFwdClaims.frame_kernel, Cert.FfnFwdClaims.frame_kernel_ideal, Cert.FfnFwdClaims.frame_ref,
    Cert.MixFwdClaims.frame_kernel, Cert.MixFwdClaims.frame_kernel_ideal, Cert.MixFwdClaims.frame_ref,
    Cert.MixOutBwdClaims.frame_kernel, Cert.MixOutBwdClaims.frame_kernel_ideal, Cert.MixOutBwdClaims.frame_ref,
    Cert.AdamClaims.frame_kernel, Cert.AdamClaims.frame_kernel_ideal, Cert.AdamClaims.frame_ref,
    trivial, Cert.SbClaims.algebraic, trivial, Cert.LossClaims.algebraic, trivial, Cert.FfnClaims.algebraic, trivial, Cert.MixInClaims.algebraic, trivial, Cert.ConvClaims.algebraic, trivial, Cert.SbFwdClaims.algebraic, trivial, Cert.PreClaims.algebraic, trivial, Cert.FfnFwdClaims.algebraic, trivial, Cert.MixFwdClaims.algebraic, trivial, Cert.MixOutBwdClaims.algebraic, trivial, Cert.AdamClaims.algebraic⟩

end Cert.Proof

end
